-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangedIdeal (m : (ℓ : Loc Cert.ExchangedIdeal.nD Cert.ExchangedIdeal.τ Cert.ExchangedIdeal.sig) → Buf (Elt Ideal) ℓ) : Prop :=
  True

def Pre_Exchanged (m : (ℓ : Loc Cert.Exchanged.nD Cert.Exchanged.τ Cert.Exchanged.sig) → Buf (Elt Bits) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdatedInIdeal (m : (ℓ : Loc Cert.UpdatedInIdeal.nD Cert.UpdatedInIdeal.τ Cert.UpdatedInIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdatedOutIdeal (m : (ℓ : Loc Cert.UpdatedOutIdeal.nD Cert.UpdatedOutIdeal.τ Cert.UpdatedOutIdeal.sig) → Buf (Elt Ideal) ℓ) : Prop :=
  True

def Pre_UpdateSmall (m : (ℓ : Loc Cert.UpdateSmall.nD Cert.UpdateSmall.τ Cert.UpdateSmall.sig) → Buf (Elt Bits) ℓ) : Prop :=
  True

def Pre_UpdateSmallIdeal (m : (ℓ : Loc Cert.UpdateSmallIdeal.nD Cert.UpdateSmallIdeal.τ Cert.UpdateSmallIdeal.sig) → Buf (Elt Ideal) ℓ) : Prop :=
  True

def Pre_UpdatedSmallIdeal (m : (ℓ : Loc Cert.UpdatedSmallIdeal.nD Cert.UpdatedSmallIdeal.τ Cert.UpdatedSmallIdeal.sig) → Buf (Elt Ideal) ℓ) : Prop :=
  True

def Pre_UpdateConv (m : (ℓ : Loc Cert.UpdateConv.nD Cert.UpdateConv.τ Cert.UpdateConv.sig) → Buf (Elt Bits) ℓ) : Prop :=
  True

def Pre_UpdateConvIdeal (m : (ℓ : Loc Cert.UpdateConvIdeal.nD Cert.UpdateConvIdeal.τ Cert.UpdateConvIdeal.sig) → Buf (Elt Ideal) ℓ) : Prop :=
  True

def Pre_UpdatedConvIdeal (m : (ℓ : Loc Cert.UpdatedConvIdeal.nD Cert.UpdatedConvIdeal.τ Cert.UpdatedConvIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradedXIdeal (m : (ℓ : Loc Cert.GradedXIdeal.nD Cert.GradedXIdeal.τ Cert.GradedXIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectedIdeal (m : (ℓ : Loc Cert.ProjectedIdeal.nD Cert.ProjectedIdeal.τ Cert.ProjectedIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradedWIdeal (m : (ℓ : Loc Cert.GradedWIdeal.nD Cert.GradedWIdeal.τ Cert.GradedWIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadedIdeal (m : (ℓ : Loc Cert.HeadedIdeal.nD Cert.HeadedIdeal.τ Cert.HeadedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1)
      ∧ r.2.mem ((c.tc : Thread Cert.Exchange.nD Cert.Exchange.τ).loc Cert.Exchange.main_arg2) = m ((c.tc : Thread Cert.Exchange.nD Cert.Exchange.τ).loc Cert.Exchange.main_arg2))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
      ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2))
      ∧ r.2.sem = fun _ => 0)

def quiescent_ExchangedIdeal [hExchangedIdeal : Cert.ExchangedIdeal.Facts] : Prop :=
  ∀ (m : (ℓ : Loc Cert.ExchangedIdeal.nD Cert.ExchangedIdeal.τ Cert.ExchangedIdeal.sig) → Buf (Elt Ideal) ℓ) (g : Dev Cert.ExchangedIdeal.nD → PrngReg), Pre_ExchangedIdeal m →
    θ_run (Cert.ExchangedIdeal.defs (F := Ideal)) (onTc (τ := Cert.ExchangedIdeal.τ) (Cert.ExchangedIdeal.main (F := Ideal))) ⟨m, fun _ => 0, g⟩ (fun r => (∀ c : Dev Cert.ExchangedIdeal.nD,
      r.2.mem ((c.tc : Thread Cert.ExchangedIdeal.nD Cert.ExchangedIdeal.τ).loc Cert.ExchangedIdeal.main_arg0) = m ((c.tc : Thread Cert.ExchangedIdeal.nD Cert.ExchangedIdeal.τ).loc Cert.ExchangedIdeal.main_arg0)
      ∧ r.2.mem ((c.tc : Thread Cert.ExchangedIdeal.nD Cert.ExchangedIdeal.τ).loc Cert.ExchangedIdeal.main_arg1) = m ((c.tc : Thread Cert.ExchangedIdeal.nD Cert.ExchangedIdeal.τ).loc Cert.ExchangedIdeal.main_arg1)
      ∧ r.2.mem ((c.tc : Thread Cert.ExchangedIdeal.nD Cert.ExchangedIdeal.τ).loc Cert.ExchangedIdeal.main_arg2) = m ((c.tc : Thread Cert.ExchangedIdeal.nD Cert.ExchangedIdeal.τ).loc Cert.ExchangedIdeal.main_arg2))
      ∧ r.2.sem = fun _ => 0)

def quiescent_Exchanged [hExchanged : Cert.Exchanged.Facts] : Prop :=
  ∀ (m : (ℓ : Loc Cert.Exchanged.nD Cert.Exchanged.τ Cert.Exchanged.sig) → Buf (Elt Bits) ℓ) (g : Dev Cert.Exchanged.nD → PrngReg), Pre_Exchanged m →
    θ_run (Cert.Exchanged.defs (F := Bits)) (onTc (τ := Cert.Exchanged.τ) (Cert.Exchanged.main (F := Bits))) ⟨m, fun _ => 0, g⟩ (fun r => (∀ c : Dev Cert.Exchanged.nD,
      r.2.mem ((c.tc : Thread Cert.Exchanged.nD Cert.Exchanged.τ).loc Cert.Exchanged.main_arg0) = m ((c.tc : Thread Cert.Exchanged.nD Cert.Exchanged.τ).loc Cert.Exchanged.main_arg0)
      ∧ r.2.mem ((c.tc : Thread Cert.Exchanged.nD Cert.Exchanged.τ).loc Cert.Exchanged.main_arg1) = m ((c.tc : Thread Cert.Exchanged.nD Cert.Exchanged.τ).loc Cert.Exchanged.main_arg1)
      ∧ r.2.mem ((c.tc : Thread Cert.Exchanged.nD Cert.Exchanged.τ).loc Cert.Exchanged.main_arg2) = m ((c.tc : Thread Cert.Exchanged.nD Cert.Exchanged.τ).loc Cert.Exchanged.main_arg2))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3)
      ∧ r.2.mem ((c.tc : Thread Cert.UpdateIn.nD Cert.UpdateIn.τ).loc Cert.UpdateIn.main_arg4) = m ((c.tc : Thread Cert.UpdateIn.nD Cert.UpdateIn.τ).loc Cert.UpdateIn.main_arg4))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3)
      ∧ r.2.mem ((c.tc : Thread Cert.UpdateInIdeal.nD Cert.UpdateInIdeal.τ).loc Cert.UpdateInIdeal.main_arg4) = m ((c.tc : Thread Cert.UpdateInIdeal.nD Cert.UpdateInIdeal.τ).loc Cert.UpdateInIdeal.main_arg4))
      ∧ r.2.sem = fun _ => 0)

def quiescent_UpdatedInIdeal [hUpdatedInIdeal : Cert.UpdatedInIdeal.Facts] : Prop :=
  ∀ (m : (ℓ : Loc Cert.UpdatedInIdeal.nD Cert.UpdatedInIdeal.τ Cert.UpdatedInIdeal.sig) → Buf (Elt Ideal) ℓ) (g : Dev Cert.UpdatedInIdeal.nD → PrngReg), Pre_UpdatedInIdeal m →
    θ_run (Cert.UpdatedInIdeal.defs (F := Ideal)) (onTc (τ := Cert.UpdatedInIdeal.τ) (Cert.UpdatedInIdeal.main (F := Ideal))) ⟨m, fun _ => 0, g⟩ (fun r => (∀ c : Dev Cert.UpdatedInIdeal.nD,
      r.2.mem ((c.tc : Thread Cert.UpdatedInIdeal.nD Cert.UpdatedInIdeal.τ).loc Cert.UpdatedInIdeal.main_arg0) = m ((c.tc : Thread Cert.UpdatedInIdeal.nD Cert.UpdatedInIdeal.τ).loc Cert.UpdatedInIdeal.main_arg0)
      ∧ r.2.mem ((c.tc : Thread Cert.UpdatedInIdeal.nD Cert.UpdatedInIdeal.τ).loc Cert.UpdatedInIdeal.main_arg1) = m ((c.tc : Thread Cert.UpdatedInIdeal.nD Cert.UpdatedInIdeal.τ).loc Cert.UpdatedInIdeal.main_arg1)
      ∧ r.2.mem ((c.tc : Thread Cert.UpdatedInIdeal.nD Cert.UpdatedInIdeal.τ).loc Cert.UpdatedInIdeal.main_arg2) = m ((c.tc : Thread Cert.UpdatedInIdeal.nD Cert.UpdatedInIdeal.τ).loc Cert.UpdatedInIdeal.main_arg2)
      ∧ r.2.mem ((c.tc : Thread Cert.UpdatedInIdeal.nD Cert.UpdatedInIdeal.τ).loc Cert.UpdatedInIdeal.main_arg3) = m ((c.tc : Thread Cert.UpdatedInIdeal.nD Cert.UpdatedInIdeal.τ).loc Cert.UpdatedInIdeal.main_arg3)
      ∧ r.2.mem ((c.tc : Thread Cert.UpdatedInIdeal.nD Cert.UpdatedInIdeal.τ).loc Cert.UpdatedInIdeal.main_arg4) = m ((c.tc : Thread Cert.UpdatedInIdeal.nD Cert.UpdatedInIdeal.τ).loc Cert.UpdatedInIdeal.main_arg4))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3)
      ∧ r.2.mem ((c.tc : Thread Cert.UpdateOut.nD Cert.UpdateOut.τ).loc Cert.UpdateOut.main_arg4) = m ((c.tc : Thread Cert.UpdateOut.nD Cert.UpdateOut.τ).loc Cert.UpdateOut.main_arg4))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3)
      ∧ r.2.mem ((c.tc : Thread Cert.UpdateOutIdeal.nD Cert.UpdateOutIdeal.τ).loc Cert.UpdateOutIdeal.main_arg4) = m ((c.tc : Thread Cert.UpdateOutIdeal.nD Cert.UpdateOutIdeal.τ).loc Cert.UpdateOutIdeal.main_arg4))
      ∧ r.2.sem = fun _ => 0)

def quiescent_UpdatedOutIdeal [hUpdatedOutIdeal : Cert.UpdatedOutIdeal.Facts] : Prop :=
  ∀ (m : (ℓ : Loc Cert.UpdatedOutIdeal.nD Cert.UpdatedOutIdeal.τ Cert.UpdatedOutIdeal.sig) → Buf (Elt Ideal) ℓ) (g : Dev Cert.UpdatedOutIdeal.nD → PrngReg), Pre_UpdatedOutIdeal m →
    θ_run (Cert.UpdatedOutIdeal.defs (F := Ideal)) (onTc (τ := Cert.UpdatedOutIdeal.τ) (Cert.UpdatedOutIdeal.main (F := Ideal))) ⟨m, fun _ => 0, g⟩ (fun r => (∀ c : Dev Cert.UpdatedOutIdeal.nD,
      r.2.mem ((c.tc : Thread Cert.UpdatedOutIdeal.nD Cert.UpdatedOutIdeal.τ).loc Cert.UpdatedOutIdeal.main_arg0) = m ((c.tc : Thread Cert.UpdatedOutIdeal.nD Cert.UpdatedOutIdeal.τ).loc Cert.UpdatedOutIdeal.main_arg0)
      ∧ r.2.mem ((c.tc : Thread Cert.UpdatedOutIdeal.nD Cert.UpdatedOutIdeal.τ).loc Cert.UpdatedOutIdeal.main_arg1) = m ((c.tc : Thread Cert.UpdatedOutIdeal.nD Cert.UpdatedOutIdeal.τ).loc Cert.UpdatedOutIdeal.main_arg1)
      ∧ r.2.mem ((c.tc : Thread Cert.UpdatedOutIdeal.nD Cert.UpdatedOutIdeal.τ).loc Cert.UpdatedOutIdeal.main_arg2) = m ((c.tc : Thread Cert.UpdatedOutIdeal.nD Cert.UpdatedOutIdeal.τ).loc Cert.UpdatedOutIdeal.main_arg2)
      ∧ r.2.mem ((c.tc : Thread Cert.UpdatedOutIdeal.nD Cert.UpdatedOutIdeal.τ).loc Cert.UpdatedOutIdeal.main_arg3) = m ((c.tc : Thread Cert.UpdatedOutIdeal.nD Cert.UpdatedOutIdeal.τ).loc Cert.UpdatedOutIdeal.main_arg3)
      ∧ r.2.mem ((c.tc : Thread Cert.UpdatedOutIdeal.nD Cert.UpdatedOutIdeal.τ).loc Cert.UpdatedOutIdeal.main_arg4) = m ((c.tc : Thread Cert.UpdatedOutIdeal.nD Cert.UpdatedOutIdeal.τ).loc Cert.UpdatedOutIdeal.main_arg4))
      ∧ r.2.sem = fun _ => 0)

def quiescent_UpdateSmall [hUpdateSmall : Cert.UpdateSmall.Facts] : Prop :=
  ∀ (m : (ℓ : Loc Cert.UpdateSmall.nD Cert.UpdateSmall.τ Cert.UpdateSmall.sig) → Buf (Elt Bits) ℓ) (g : Dev Cert.UpdateSmall.nD → PrngReg), Pre_UpdateSmall m →
    θ_run (Cert.UpdateSmall.defs (F := Bits)) (onTc (τ := Cert.UpdateSmall.τ) (Cert.UpdateSmall.main (F := Bits))) ⟨m, fun _ => 0, g⟩ (fun r => (∀ c : Dev Cert.UpdateSmall.nD,
      r.2.mem ((c.tc : Thread Cert.UpdateSmall.nD Cert.UpdateSmall.τ).loc Cert.UpdateSmall.main_arg0) = m ((c.tc : Thread Cert.UpdateSmall.nD Cert.UpdateSmall.τ).loc Cert.UpdateSmall.main_arg0)
      ∧ r.2.mem ((c.tc : Thread Cert.UpdateSmall.nD Cert.UpdateSmall.τ).loc Cert.UpdateSmall.main_arg1) = m ((c.tc : Thread Cert.UpdateSmall.nD Cert.UpdateSmall.τ).loc Cert.UpdateSmall.main_arg1)
      ∧ r.2.mem ((c.tc : Thread Cert.UpdateSmall.nD Cert.UpdateSmall.τ).loc Cert.UpdateSmall.main_arg2) = m ((c.tc : Thread Cert.UpdateSmall.nD Cert.UpdateSmall.τ).loc Cert.UpdateSmall.main_arg2)
      ∧ r.2.mem ((c.tc : Thread Cert.UpdateSmall.nD Cert.UpdateSmall.τ).loc Cert.UpdateSmall.main_arg3) = m ((c.tc : Thread Cert.UpdateSmall.nD Cert.UpdateSmall.τ).loc Cert.UpdateSmall.main_arg3)
      ∧ r.2.mem ((c.tc : Thread Cert.UpdateSmall.nD Cert.UpdateSmall.τ).loc Cert.UpdateSmall.main_arg4) = m ((c.tc : Thread Cert.UpdateSmall.nD Cert.UpdateSmall.τ).loc Cert.UpdateSmall.main_arg4)
      ∧ r.2.mem ((c.tc : Thread Cert.UpdateSmall.nD Cert.UpdateSmall.τ).loc Cert.UpdateSmall.main_arg5) = m ((c.tc : Thread Cert.UpdateSmall.nD Cert.UpdateSmall.τ).loc Cert.UpdateSmall.main_arg5)
      ∧ r.2.mem ((c.tc : Thread Cert.UpdateSmall.nD Cert.UpdateSmall.τ).loc Cert.UpdateSmall.main_arg6) = m ((c.tc : Thread Cert.UpdateSmall.nD Cert.UpdateSmall.τ).loc Cert.UpdateSmall.main_arg6)
      ∧ r.2.mem ((c.tc : Thread Cert.UpdateSmall.nD Cert.UpdateSmall.τ).loc Cert.UpdateSmall.main_arg7) = m ((c.tc : Thread Cert.UpdateSmall.nD Cert.UpdateSmall.τ).loc Cert.UpdateSmall.main_arg7)
      ∧ r.2.mem ((c.tc : Thread Cert.UpdateSmall.nD Cert.UpdateSmall.τ).loc Cert.UpdateSmall.main_arg8) = m ((c.tc : Thread Cert.UpdateSmall.nD Cert.UpdateSmall.τ).loc Cert.UpdateSmall.main_arg8)
      ∧ r.2.mem ((c.tc : Thread Cert.UpdateSmall.nD Cert.UpdateSmall.τ).loc Cert.UpdateSmall.main_arg9) = m ((c.tc : Thread Cert.UpdateSmall.nD Cert.UpdateSmall.τ).loc Cert.UpdateSmall.main_arg9)
      ∧ r.2.mem ((c.tc : Thread Cert.UpdateSmall.nD Cert.UpdateSmall.τ).loc Cert.UpdateSmall.main_arg10) = m ((c.tc : Thread Cert.UpdateSmall.nD Cert.UpdateSmall.τ).loc Cert.UpdateSmall.main_arg10)
      ∧ r.2.mem ((c.tc : Thread Cert.UpdateSmall.nD Cert.UpdateSmall.τ).loc Cert.UpdateSmall.main_arg11) = m ((c.tc : Thread Cert.UpdateSmall.nD Cert.UpdateSmall.τ).loc Cert.UpdateSmall.main_arg11)
      ∧ r.2.mem ((c.tc : Thread Cert.UpdateSmall.nD Cert.UpdateSmall.τ).loc Cert.UpdateSmall.main_arg12) = m ((c.tc : Thread Cert.UpdateSmall.nD Cert.UpdateSmall.τ).loc Cert.UpdateSmall.main_arg12)
      ∧ r.2.mem ((c.tc : Thread Cert.UpdateSmall.nD Cert.UpdateSmall.τ).loc Cert.UpdateSmall.main_arg13) = m ((c.tc : Thread Cert.UpdateSmall.nD Cert.UpdateSmall.τ).loc Cert.UpdateSmall.main_arg13)
      ∧ r.2.mem ((c.tc : Thread Cert.UpdateSmall.nD Cert.UpdateSmall.τ).loc Cert.UpdateSmall.main_arg14) = m ((c.tc : Thread Cert.UpdateSmall.nD Cert.UpdateSmall.τ).loc Cert.UpdateSmall.main_arg14)
      ∧ r.2.mem ((c.tc : Thread Cert.UpdateSmall.nD Cert.UpdateSmall.τ).loc Cert.UpdateSmall.main_arg15) = m ((c.tc : Thread Cert.UpdateSmall.nD Cert.UpdateSmall.τ).loc Cert.UpdateSmall.main_arg15)
      ∧ r.2.mem ((c.tc : Thread Cert.UpdateSmall.nD Cert.UpdateSmall.τ).loc Cert.UpdateSmall.main_arg16) = m ((c.tc : Thread Cert.UpdateSmall.nD Cert.UpdateSmall.τ).loc Cert.UpdateSmall.main_arg16)
      ∧ r.2.mem ((c.tc : Thread Cert.UpdateSmall.nD Cert.UpdateSmall.τ).loc Cert.UpdateSmall.main_arg17) = m ((c.tc : Thread Cert.UpdateSmall.nD Cert.UpdateSmall.τ).loc Cert.UpdateSmall.main_arg17)
      ∧ r.2.mem ((c.tc : Thread Cert.UpdateSmall.nD Cert.UpdateSmall.τ).loc Cert.UpdateSmall.main_arg18) = m ((c.tc : Thread Cert.UpdateSmall.nD Cert.UpdateSmall.τ).loc Cert.UpdateSmall.main_arg18)
      ∧ r.2.mem ((c.tc : Thread Cert.UpdateSmall.nD Cert.UpdateSmall.τ).loc Cert.UpdateSmall.main_arg19) = m ((c.tc : Thread Cert.UpdateSmall.nD Cert.UpdateSmall.τ).loc Cert.UpdateSmall.main_arg19)
      ∧ r.2.mem ((c.tc : Thread Cert.UpdateSmall.nD Cert.UpdateSmall.τ).loc Cert.UpdateSmall.main_arg20) = m ((c.tc : Thread Cert.UpdateSmall.nD Cert.UpdateSmall.τ).loc Cert.UpdateSmall.main_arg20)
      ∧ r.2.mem ((c.tc : Thread Cert.UpdateSmall.nD Cert.UpdateSmall.τ).loc Cert.UpdateSmall.main_arg21) = m ((c.tc : Thread Cert.UpdateSmall.nD Cert.UpdateSmall.τ).loc Cert.UpdateSmall.main_arg21)
      ∧ r.2.mem ((c.tc : Thread Cert.UpdateSmall.nD Cert.UpdateSmall.τ).loc Cert.UpdateSmall.main_arg22) = m ((c.tc : Thread Cert.UpdateSmall.nD Cert.UpdateSmall.τ).loc Cert.UpdateSmall.main_arg22)
      ∧ r.2.mem ((c.tc : Thread Cert.UpdateSmall.nD Cert.UpdateSmall.τ).loc Cert.UpdateSmall.main_arg23) = m ((c.tc : Thread Cert.UpdateSmall.nD Cert.UpdateSmall.τ).loc Cert.UpdateSmall.main_arg23)
      ∧ r.2.mem ((c.tc : Thread Cert.UpdateSmall.nD Cert.UpdateSmall.τ).loc Cert.UpdateSmall.main_arg24) = m ((c.tc : Thread Cert.UpdateSmall.nD Cert.UpdateSmall.τ).loc Cert.UpdateSmall.main_arg24))
      ∧ r.2.sem = fun _ => 0)

def quiescent_UpdateSmallIdeal [hUpdateSmallIdeal : Cert.UpdateSmallIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg), Pre_UpdateSmallIdeal m →
    θ_run (Cert.UpdateSmallIdeal.defs (F := Ideal)) (onTc (τ := Cert.UpdateSmallIdeal.τ) (Cert.UpdateSmallIdeal.main (F := Ideal))) ⟨m, fun _ => 0, g⟩ (fun r => (∀ c : Dev Cert.UpdateSmallIdeal.nD,
      r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
      ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
      ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
      ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3)
      ∧ r.2.mem ((c.tc : Thread Cert.UpdateSmallIdeal.nD Cert.UpdateSmallIdeal.τ).loc Cert.UpdateSmallIdeal.main_arg4) = m ((c.tc : Thread Cert.UpdateSmallIdeal.nD Cert.UpdateSmallIdeal.τ).loc Cert.UpdateSmallIdeal.main_arg4)
      ∧ r.2.mem ((c.tc : Thread Cert.UpdateSmallIdeal.nD Cert.UpdateSmallIdeal.τ).loc Cert.UpdateSmallIdeal.main_arg5) = m ((c.tc : Thread Cert.UpdateSmallIdeal.nD Cert.UpdateSmallIdeal.τ).loc Cert.UpdateSmallIdeal.main_arg5)
      ∧ r.2.mem ((c.tc : Thread Cert.UpdateSmallIdeal.nD Cert.UpdateSmallIdeal.τ).loc Cert.UpdateSmallIdeal.main_arg6) = m ((c.tc : Thread Cert.UpdateSmallIdeal.nD Cert.UpdateSmallIdeal.τ).loc Cert.UpdateSmallIdeal.main_arg6)
      ∧ r.2.mem ((c.tc : Thread Cert.UpdateSmallIdeal.nD Cert.UpdateSmallIdeal.τ).loc Cert.UpdateSmallIdeal.main_arg7) = m ((c.tc : Thread Cert.UpdateSmallIdeal.nD Cert.UpdateSmallIdeal.τ).loc Cert.UpdateSmallIdeal.main_arg7)
      ∧ r.2.mem ((c.tc : Thread Cert.UpdateSmallIdeal.nD Cert.UpdateSmallIdeal.τ).loc Cert.UpdateSmallIdeal.main_arg8) = m ((c.tc : Thread Cert.UpdateSmallIdeal.nD Cert.UpdateSmallIdeal.τ).loc Cert.UpdateSmallIdeal.main_arg8)
      ∧ r.2.mem ((c.tc : Thread Cert.UpdateSmallIdeal.nD Cert.UpdateSmallIdeal.τ).loc Cert.UpdateSmallIdeal.main_arg9) = m ((c.tc : Thread Cert.UpdateSmallIdeal.nD Cert.UpdateSmallIdeal.τ).loc Cert.UpdateSmallIdeal.main_arg9)
      ∧ r.2.mem ((c.tc : Thread Cert.UpdateSmallIdeal.nD Cert.UpdateSmallIdeal.τ).loc Cert.UpdateSmallIdeal.main_arg10) = m ((c.tc : Thread Cert.UpdateSmallIdeal.nD Cert.UpdateSmallIdeal.τ).loc Cert.UpdateSmallIdeal.main_arg10)
      ∧ r.2.mem ((c.tc : Thread Cert.UpdateSmallIdeal.nD Cert.UpdateSmallIdeal.τ).loc Cert.UpdateSmallIdeal.main_arg11) = m ((c.tc : Thread Cert.UpdateSmallIdeal.nD Cert.UpdateSmallIdeal.τ).loc Cert.UpdateSmallIdeal.main_arg11)
      ∧ r.2.mem ((c.tc : Thread Cert.UpdateSmallIdeal.nD Cert.UpdateSmallIdeal.τ).loc Cert.UpdateSmallIdeal.main_arg12) = m ((c.tc : Thread Cert.UpdateSmallIdeal.nD Cert.UpdateSmallIdeal.τ).loc Cert.UpdateSmallIdeal.main_arg12)
      ∧ r.2.mem ((c.tc : Thread Cert.UpdateSmallIdeal.nD Cert.UpdateSmallIdeal.τ).loc Cert.UpdateSmallIdeal.main_arg13) = m ((c.tc : Thread Cert.UpdateSmallIdeal.nD Cert.UpdateSmallIdeal.τ).loc Cert.UpdateSmallIdeal.main_arg13)
      ∧ r.2.mem ((c.tc : Thread Cert.UpdateSmallIdeal.nD Cert.UpdateSmallIdeal.τ).loc Cert.UpdateSmallIdeal.main_arg14) = m ((c.tc : Thread Cert.UpdateSmallIdeal.nD Cert.UpdateSmallIdeal.τ).loc Cert.UpdateSmallIdeal.main_arg14)
      ∧ r.2.mem ((c.tc : Thread Cert.UpdateSmallIdeal.nD Cert.UpdateSmallIdeal.τ).loc Cert.UpdateSmallIdeal.main_arg15) = m ((c.tc : Thread Cert.UpdateSmallIdeal.nD Cert.UpdateSmallIdeal.τ).loc Cert.UpdateSmallIdeal.main_arg15)
      ∧ r.2.mem ((c.tc : Thread Cert.UpdateSmallIdeal.nD Cert.UpdateSmallIdeal.τ).loc Cert.UpdateSmallIdeal.main_arg16) = m ((c.tc : Thread Cert.UpdateSmallIdeal.nD Cert.UpdateSmallIdeal.τ).loc Cert.UpdateSmallIdeal.main_arg16)
      ∧ r.2.mem ((c.tc : Thread Cert.UpdateSmallIdeal.nD Cert.UpdateSmallIdeal.τ).loc Cert.UpdateSmallIdeal.main_arg17) = m ((c.tc : Thread Cert.UpdateSmallIdeal.nD Cert.UpdateSmallIdeal.τ).loc Cert.UpdateSmallIdeal.main_arg17)
      ∧ r.2.mem ((c.tc : Thread Cert.UpdateSmallIdeal.nD Cert.UpdateSmallIdeal.τ).loc Cert.UpdateSmallIdeal.main_arg18) = m ((c.tc : Thread Cert.UpdateSmallIdeal.nD Cert.UpdateSmallIdeal.τ).loc Cert.UpdateSmallIdeal.main_arg18)
      ∧ r.2.mem ((c.tc : Thread Cert.UpdateSmallIdeal.nD Cert.UpdateSmallIdeal.τ).loc Cert.UpdateSmallIdeal.main_arg19) = m ((c.tc : Thread Cert.UpdateSmallIdeal.nD Cert.UpdateSmallIdeal.τ).loc Cert.UpdateSmallIdeal.main_arg19)
      ∧ r.2.mem ((c.tc : Thread Cert.UpdateSmallIdeal.nD Cert.UpdateSmallIdeal.τ).loc Cert.UpdateSmallIdeal.main_arg20) = m ((c.tc : Thread Cert.UpdateSmallIdeal.nD Cert.UpdateSmallIdeal.τ).loc Cert.UpdateSmallIdeal.main_arg20)
      ∧ r.2.mem ((c.tc : Thread Cert.UpdateSmallIdeal.nD Cert.UpdateSmallIdeal.τ).loc Cert.UpdateSmallIdeal.main_arg21) = m ((c.tc : Thread Cert.UpdateSmallIdeal.nD Cert.UpdateSmallIdeal.τ).loc Cert.UpdateSmallIdeal.main_arg21)
      ∧ r.2.mem ((c.tc : Thread Cert.UpdateSmallIdeal.nD Cert.UpdateSmallIdeal.τ).loc Cert.UpdateSmallIdeal.main_arg22) = m ((c.tc : Thread Cert.UpdateSmallIdeal.nD Cert.UpdateSmallIdeal.τ).loc Cert.UpdateSmallIdeal.main_arg22)
      ∧ r.2.mem ((c.tc : Thread Cert.UpdateSmallIdeal.nD Cert.UpdateSmallIdeal.τ).loc Cert.UpdateSmallIdeal.main_arg23) = m ((c.tc : Thread Cert.UpdateSmallIdeal.nD Cert.UpdateSmallIdeal.τ).loc Cert.UpdateSmallIdeal.main_arg23)
      ∧ r.2.mem ((c.tc : Thread Cert.UpdateSmallIdeal.nD Cert.UpdateSmallIdeal.τ).loc Cert.UpdateSmallIdeal.main_arg24) = m ((c.tc : Thread Cert.UpdateSmallIdeal.nD Cert.UpdateSmallIdeal.τ).loc Cert.UpdateSmallIdeal.main_arg24))
      ∧ r.2.sem = fun _ => 0)

def quiescent_UpdatedSmallIdeal [hUpdatedSmallIdeal : Cert.UpdatedSmallIdeal.Facts] : Prop :=
  ∀ (m : (ℓ : Loc Cert.UpdatedSmallIdeal.nD Cert.UpdatedSmallIdeal.τ Cert.UpdatedSmallIdeal.sig) → Buf (Elt Ideal) ℓ) (g : Dev Cert.UpdatedSmallIdeal.nD → PrngReg), Pre_UpdatedSmallIdeal m →
    θ_run (Cert.UpdatedSmallIdeal.defs (F := Ideal)) (onTc (τ := Cert.UpdatedSmallIdeal.τ) (Cert.UpdatedSmallIdeal.main (F := Ideal))) ⟨m, fun _ => 0, g⟩ (fun r => (∀ c : Dev Cert.UpdatedSmallIdeal.nD,
      r.2.mem ((c.tc : Thread Cert.UpdatedSmallIdeal.nD Cert.UpdatedSmallIdeal.τ).loc Cert.UpdatedSmallIdeal.main_arg0) = m ((c.tc : Thread Cert.UpdatedSmallIdeal.nD Cert.UpdatedSmallIdeal.τ).loc Cert.UpdatedSmallIdeal.main_arg0)
      ∧ r.2.mem ((c.tc : Thread Cert.UpdatedSmallIdeal.nD Cert.UpdatedSmallIdeal.τ).loc Cert.UpdatedSmallIdeal.main_arg1) = m ((c.tc : Thread Cert.UpdatedSmallIdeal.nD Cert.UpdatedSmallIdeal.τ).loc Cert.UpdatedSmallIdeal.main_arg1)
      ∧ r.2.mem ((c.tc : Thread Cert.UpdatedSmallIdeal.nD Cert.UpdatedSmallIdeal.τ).loc Cert.UpdatedSmallIdeal.main_arg2) = m ((c.tc : Thread Cert.UpdatedSmallIdeal.nD Cert.UpdatedSmallIdeal.τ).loc Cert.UpdatedSmallIdeal.main_arg2)
      ∧ r.2.mem ((c.tc : Thread Cert.UpdatedSmallIdeal.nD Cert.UpdatedSmallIdeal.τ).loc Cert.UpdatedSmallIdeal.main_arg3) = m ((c.tc : Thread Cert.UpdatedSmallIdeal.nD Cert.UpdatedSmallIdeal.τ).loc Cert.UpdatedSmallIdeal.main_arg3)
      ∧ r.2.mem ((c.tc : Thread Cert.UpdatedSmallIdeal.nD Cert.UpdatedSmallIdeal.τ).loc Cert.UpdatedSmallIdeal.main_arg4) = m ((c.tc : Thread Cert.UpdatedSmallIdeal.nD Cert.UpdatedSmallIdeal.τ).loc Cert.UpdatedSmallIdeal.main_arg4)
      ∧ r.2.mem ((c.tc : Thread Cert.UpdatedSmallIdeal.nD Cert.UpdatedSmallIdeal.τ).loc Cert.UpdatedSmallIdeal.main_arg5) = m ((c.tc : Thread Cert.UpdatedSmallIdeal.nD Cert.UpdatedSmallIdeal.τ).loc Cert.UpdatedSmallIdeal.main_arg5)
      ∧ r.2.mem ((c.tc : Thread Cert.UpdatedSmallIdeal.nD Cert.UpdatedSmallIdeal.τ).loc Cert.UpdatedSmallIdeal.main_arg6) = m ((c.tc : Thread Cert.UpdatedSmallIdeal.nD Cert.UpdatedSmallIdeal.τ).loc Cert.UpdatedSmallIdeal.main_arg6)
      ∧ r.2.mem ((c.tc : Thread Cert.UpdatedSmallIdeal.nD Cert.UpdatedSmallIdeal.τ).loc Cert.UpdatedSmallIdeal.main_arg7) = m ((c.tc : Thread Cert.UpdatedSmallIdeal.nD Cert.UpdatedSmallIdeal.τ).loc Cert.UpdatedSmallIdeal.main_arg7)
      ∧ r.2.mem ((c.tc : Thread Cert.UpdatedSmallIdeal.nD Cert.UpdatedSmallIdeal.τ).loc Cert.UpdatedSmallIdeal.main_arg8) = m ((c.tc : Thread Cert.UpdatedSmallIdeal.nD Cert.UpdatedSmallIdeal.τ).loc Cert.UpdatedSmallIdeal.main_arg8)
      ∧ r.2.mem ((c.tc : Thread Cert.UpdatedSmallIdeal.nD Cert.UpdatedSmallIdeal.τ).loc Cert.UpdatedSmallIdeal.main_arg9) = m ((c.tc : Thread Cert.UpdatedSmallIdeal.nD Cert.UpdatedSmallIdeal.τ).loc Cert.UpdatedSmallIdeal.main_arg9)
      ∧ r.2.mem ((c.tc : Thread Cert.UpdatedSmallIdeal.nD Cert.UpdatedSmallIdeal.τ).loc Cert.UpdatedSmallIdeal.main_arg10) = m ((c.tc : Thread Cert.UpdatedSmallIdeal.nD Cert.UpdatedSmallIdeal.τ).loc Cert.UpdatedSmallIdeal.main_arg10)
      ∧ r.2.mem ((c.tc : Thread Cert.UpdatedSmallIdeal.nD Cert.UpdatedSmallIdeal.τ).loc Cert.UpdatedSmallIdeal.main_arg11) = m ((c.tc : Thread Cert.UpdatedSmallIdeal.nD Cert.UpdatedSmallIdeal.τ).loc Cert.UpdatedSmallIdeal.main_arg11)
      ∧ r.2.mem ((c.tc : Thread Cert.UpdatedSmallIdeal.nD Cert.UpdatedSmallIdeal.τ).loc Cert.UpdatedSmallIdeal.main_arg12) = m ((c.tc : Thread Cert.UpdatedSmallIdeal.nD Cert.UpdatedSmallIdeal.τ).loc Cert.UpdatedSmallIdeal.main_arg12)
      ∧ r.2.mem ((c.tc : Thread Cert.UpdatedSmallIdeal.nD Cert.UpdatedSmallIdeal.τ).loc Cert.UpdatedSmallIdeal.main_arg13) = m ((c.tc : Thread Cert.UpdatedSmallIdeal.nD Cert.UpdatedSmallIdeal.τ).loc Cert.UpdatedSmallIdeal.main_arg13)
      ∧ r.2.mem ((c.tc : Thread Cert.UpdatedSmallIdeal.nD Cert.UpdatedSmallIdeal.τ).loc Cert.UpdatedSmallIdeal.main_arg14) = m ((c.tc : Thread Cert.UpdatedSmallIdeal.nD Cert.UpdatedSmallIdeal.τ).loc Cert.UpdatedSmallIdeal.main_arg14)
      ∧ r.2.mem ((c.tc : Thread Cert.UpdatedSmallIdeal.nD Cert.UpdatedSmallIdeal.τ).loc Cert.UpdatedSmallIdeal.main_arg15) = m ((c.tc : Thread Cert.UpdatedSmallIdeal.nD Cert.UpdatedSmallIdeal.τ).loc Cert.UpdatedSmallIdeal.main_arg15)
      ∧ r.2.mem ((c.tc : Thread Cert.UpdatedSmallIdeal.nD Cert.UpdatedSmallIdeal.τ).loc Cert.UpdatedSmallIdeal.main_arg16) = m ((c.tc : Thread Cert.UpdatedSmallIdeal.nD Cert.UpdatedSmallIdeal.τ).loc Cert.UpdatedSmallIdeal.main_arg16)
      ∧ r.2.mem ((c.tc : Thread Cert.UpdatedSmallIdeal.nD Cert.UpdatedSmallIdeal.τ).loc Cert.UpdatedSmallIdeal.main_arg17) = m ((c.tc : Thread Cert.UpdatedSmallIdeal.nD Cert.UpdatedSmallIdeal.τ).loc Cert.UpdatedSmallIdeal.main_arg17)
      ∧ r.2.mem ((c.tc : Thread Cert.UpdatedSmallIdeal.nD Cert.UpdatedSmallIdeal.τ).loc Cert.UpdatedSmallIdeal.main_arg18) = m ((c.tc : Thread Cert.UpdatedSmallIdeal.nD Cert.UpdatedSmallIdeal.τ).loc Cert.UpdatedSmallIdeal.main_arg18)
      ∧ r.2.mem ((c.tc : Thread Cert.UpdatedSmallIdeal.nD Cert.UpdatedSmallIdeal.τ).loc Cert.UpdatedSmallIdeal.main_arg19) = m ((c.tc : Thread Cert.UpdatedSmallIdeal.nD Cert.UpdatedSmallIdeal.τ).loc Cert.UpdatedSmallIdeal.main_arg19)
      ∧ r.2.mem ((c.tc : Thread Cert.UpdatedSmallIdeal.nD Cert.UpdatedSmallIdeal.τ).loc Cert.UpdatedSmallIdeal.main_arg20) = m ((c.tc : Thread Cert.UpdatedSmallIdeal.nD Cert.UpdatedSmallIdeal.τ).loc Cert.UpdatedSmallIdeal.main_arg20)
      ∧ r.2.mem ((c.tc : Thread Cert.UpdatedSmallIdeal.nD Cert.UpdatedSmallIdeal.τ).loc Cert.UpdatedSmallIdeal.main_arg21) = m ((c.tc : Thread Cert.UpdatedSmallIdeal.nD Cert.UpdatedSmallIdeal.τ).loc Cert.UpdatedSmallIdeal.main_arg21)
      ∧ r.2.mem ((c.tc : Thread Cert.UpdatedSmallIdeal.nD Cert.UpdatedSmallIdeal.τ).loc Cert.UpdatedSmallIdeal.main_arg22) = m ((c.tc : Thread Cert.UpdatedSmallIdeal.nD Cert.UpdatedSmallIdeal.τ).loc Cert.UpdatedSmallIdeal.main_arg22)
      ∧ r.2.mem ((c.tc : Thread Cert.UpdatedSmallIdeal.nD Cert.UpdatedSmallIdeal.τ).loc Cert.UpdatedSmallIdeal.main_arg23) = m ((c.tc : Thread Cert.UpdatedSmallIdeal.nD Cert.UpdatedSmallIdeal.τ).loc Cert.UpdatedSmallIdeal.main_arg23)
      ∧ r.2.mem ((c.tc : Thread Cert.UpdatedSmallIdeal.nD Cert.UpdatedSmallIdeal.τ).loc Cert.UpdatedSmallIdeal.main_arg24) = m ((c.tc : Thread Cert.UpdatedSmallIdeal.nD Cert.UpdatedSmallIdeal.τ).loc Cert.UpdatedSmallIdeal.main_arg24))
      ∧ r.2.sem = fun _ => 0)

def quiescent_UpdateConv [hUpdateConv : Cert.UpdateConv.Facts] : Prop :=
  ∀ (m : (ℓ : Loc Cert.UpdateConv.nD Cert.UpdateConv.τ Cert.UpdateConv.sig) → Buf (Elt Bits) ℓ) (g : Dev Cert.UpdateConv.nD → PrngReg), Pre_UpdateConv m →
    θ_run (Cert.UpdateConv.defs (F := Bits)) (onTc (τ := Cert.UpdateConv.τ) (Cert.UpdateConv.main (F := Bits))) ⟨m, fun _ => 0, g⟩ (fun r => (∀ c : Dev Cert.UpdateConv.nD,
      r.2.mem ((c.tc : Thread Cert.UpdateConv.nD Cert.UpdateConv.τ).loc Cert.UpdateConv.main_arg0) = m ((c.tc : Thread Cert.UpdateConv.nD Cert.UpdateConv.τ).loc Cert.UpdateConv.main_arg0)
      ∧ r.2.mem ((c.tc : Thread Cert.UpdateConv.nD Cert.UpdateConv.τ).loc Cert.UpdateConv.main_arg1) = m ((c.tc : Thread Cert.UpdateConv.nD Cert.UpdateConv.τ).loc Cert.UpdateConv.main_arg1)
      ∧ r.2.mem ((c.tc : Thread Cert.UpdateConv.nD Cert.UpdateConv.τ).loc Cert.UpdateConv.main_arg2) = m ((c.tc : Thread Cert.UpdateConv.nD Cert.UpdateConv.τ).loc Cert.UpdateConv.main_arg2)
      ∧ r.2.mem ((c.tc : Thread Cert.UpdateConv.nD Cert.UpdateConv.τ).loc Cert.UpdateConv.main_arg3) = m ((c.tc : Thread Cert.UpdateConv.nD Cert.UpdateConv.τ).loc Cert.UpdateConv.main_arg3))
      ∧ r.2.sem = fun _ => 0)

def quiescent_UpdateConvIdeal [hUpdateConvIdeal : Cert.UpdateConvIdeal.Facts] : Prop :=
  ∀ (m : (ℓ : Loc Cert.UpdateConvIdeal.nD Cert.UpdateConvIdeal.τ Cert.UpdateConvIdeal.sig) → Buf (Elt Ideal) ℓ) (g : Dev Cert.UpdateConvIdeal.nD → PrngReg), Pre_UpdateConvIdeal m →
    θ_run (Cert.UpdateConvIdeal.defs (F := Ideal)) (onTc (τ := Cert.UpdateConvIdeal.τ) (Cert.UpdateConvIdeal.main (F := Ideal))) ⟨m, fun _ => 0, g⟩ (fun r => (∀ c : Dev Cert.UpdateConvIdeal.nD,
      r.2.mem ((c.tc : Thread Cert.UpdateConvIdeal.nD Cert.UpdateConvIdeal.τ).loc Cert.UpdateConvIdeal.main_arg0) = m ((c.tc : Thread Cert.UpdateConvIdeal.nD Cert.UpdateConvIdeal.τ).loc Cert.UpdateConvIdeal.main_arg0)
      ∧ r.2.mem ((c.tc : Thread Cert.UpdateConvIdeal.nD Cert.UpdateConvIdeal.τ).loc Cert.UpdateConvIdeal.main_arg1) = m ((c.tc : Thread Cert.UpdateConvIdeal.nD Cert.UpdateConvIdeal.τ).loc Cert.UpdateConvIdeal.main_arg1)
      ∧ r.2.mem ((c.tc : Thread Cert.UpdateConvIdeal.nD Cert.UpdateConvIdeal.τ).loc Cert.UpdateConvIdeal.main_arg2) = m ((c.tc : Thread Cert.UpdateConvIdeal.nD Cert.UpdateConvIdeal.τ).loc Cert.UpdateConvIdeal.main_arg2)
      ∧ r.2.mem ((c.tc : Thread Cert.UpdateConvIdeal.nD Cert.UpdateConvIdeal.τ).loc Cert.UpdateConvIdeal.main_arg3) = m ((c.tc : Thread Cert.UpdateConvIdeal.nD Cert.UpdateConvIdeal.τ).loc Cert.UpdateConvIdeal.main_arg3))
      ∧ r.2.sem = fun _ => 0)

def quiescent_UpdatedConvIdeal [hUpdatedConvIdeal : Cert.UpdatedConvIdeal.Facts] : Prop :=
  ∀ (m : (ℓ : Loc Cert.UpdatedConvIdeal.nD Cert.UpdatedConvIdeal.τ Cert.UpdatedConvIdeal.sig) → Buf (Elt Ideal) ℓ) (g : Dev Cert.UpdatedConvIdeal.nD → PrngReg), Pre_UpdatedConvIdeal m →
    θ_run (Cert.UpdatedConvIdeal.defs (F := Ideal)) (onTc (τ := Cert.UpdatedConvIdeal.τ) (Cert.UpdatedConvIdeal.main (F := Ideal))) ⟨m, fun _ => 0, g⟩ (fun r => (∀ c : Dev Cert.UpdatedConvIdeal.nD,
      r.2.mem ((c.tc : Thread Cert.UpdatedConvIdeal.nD Cert.UpdatedConvIdeal.τ).loc Cert.UpdatedConvIdeal.main_arg0) = m ((c.tc : Thread Cert.UpdatedConvIdeal.nD Cert.UpdatedConvIdeal.τ).loc Cert.UpdatedConvIdeal.main_arg0)
      ∧ r.2.mem ((c.tc : Thread Cert.UpdatedConvIdeal.nD Cert.UpdatedConvIdeal.τ).loc Cert.UpdatedConvIdeal.main_arg1) = m ((c.tc : Thread Cert.UpdatedConvIdeal.nD Cert.UpdatedConvIdeal.τ).loc Cert.UpdatedConvIdeal.main_arg1)
      ∧ r.2.mem ((c.tc : Thread Cert.UpdatedConvIdeal.nD Cert.UpdatedConvIdeal.τ).loc Cert.UpdatedConvIdeal.main_arg2) = m ((c.tc : Thread Cert.UpdatedConvIdeal.nD Cert.UpdatedConvIdeal.τ).loc Cert.UpdatedConvIdeal.main_arg2)
      ∧ r.2.mem ((c.tc : Thread Cert.UpdatedConvIdeal.nD Cert.UpdatedConvIdeal.τ).loc Cert.UpdatedConvIdeal.main_arg3) = m ((c.tc : Thread Cert.UpdatedConvIdeal.nD Cert.UpdatedConvIdeal.τ).loc Cert.UpdatedConvIdeal.main_arg3))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ r.2.sem = fun _ => 0)

def quiescent_GradedXIdeal [hGradedXIdeal : Cert.GradedXIdeal.Facts] : Prop :=
  ∀ (m : (ℓ : Loc Cert.GradedXIdeal.nD Cert.GradedXIdeal.τ Cert.GradedXIdeal.sig) → Buf (Elt Ideal) ℓ) (g : Dev Cert.GradedXIdeal.nD → PrngReg), Pre_GradedXIdeal m →
    θ_run (Cert.GradedXIdeal.defs (F := Ideal)) (onTc (τ := Cert.GradedXIdeal.τ) (Cert.GradedXIdeal.main (F := Ideal))) ⟨m, fun _ => 0, g⟩ (fun r => (∀ c : Dev Cert.GradedXIdeal.nD,
      r.2.mem ((c.tc : Thread Cert.GradedXIdeal.nD Cert.GradedXIdeal.τ).loc Cert.GradedXIdeal.main_arg0) = m ((c.tc : Thread Cert.GradedXIdeal.nD Cert.GradedXIdeal.τ).loc Cert.GradedXIdeal.main_arg0)
      ∧ r.2.mem ((c.tc : Thread Cert.GradedXIdeal.nD Cert.GradedXIdeal.τ).loc Cert.GradedXIdeal.main_arg1) = m ((c.tc : Thread Cert.GradedXIdeal.nD Cert.GradedXIdeal.τ).loc Cert.GradedXIdeal.main_arg1)
      ∧ r.2.mem ((c.tc : Thread Cert.GradedXIdeal.nD Cert.GradedXIdeal.τ).loc Cert.GradedXIdeal.main_arg2) = m ((c.tc : Thread Cert.GradedXIdeal.nD Cert.GradedXIdeal.τ).loc Cert.GradedXIdeal.main_arg2)
      ∧ r.2.mem ((c.tc : Thread Cert.GradedXIdeal.nD Cert.GradedXIdeal.τ).loc Cert.GradedXIdeal.main_arg3) = m ((c.tc : Thread Cert.GradedXIdeal.nD Cert.GradedXIdeal.τ).loc Cert.GradedXIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectedIdeal [hProjectedIdeal : Cert.ProjectedIdeal.Facts] : Prop :=
  ∀ (m : (ℓ : Loc Cert.ProjectedIdeal.nD Cert.ProjectedIdeal.τ Cert.ProjectedIdeal.sig) → Buf (Elt Ideal) ℓ) (g : Dev Cert.ProjectedIdeal.nD → PrngReg), Pre_ProjectedIdeal m →
    θ_run (Cert.ProjectedIdeal.defs (F := Ideal)) (onTc (τ := Cert.ProjectedIdeal.τ) (Cert.ProjectedIdeal.main (F := Ideal))) ⟨m, fun _ => 0, g⟩ (fun r => (∀ c : Dev Cert.ProjectedIdeal.nD,
      r.2.mem ((c.tc : Thread Cert.ProjectedIdeal.nD Cert.ProjectedIdeal.τ).loc Cert.ProjectedIdeal.main_arg0) = m ((c.tc : Thread Cert.ProjectedIdeal.nD Cert.ProjectedIdeal.τ).loc Cert.ProjectedIdeal.main_arg0)
      ∧ r.2.mem ((c.tc : Thread Cert.ProjectedIdeal.nD Cert.ProjectedIdeal.τ).loc Cert.ProjectedIdeal.main_arg1) = m ((c.tc : Thread Cert.ProjectedIdeal.nD Cert.ProjectedIdeal.τ).loc Cert.ProjectedIdeal.main_arg1))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1)
      ∧ r.2.mem ((c.tc : Thread Cert.GradW.nD Cert.GradW.τ).loc Cert.GradW.main_arg2) = m ((c.tc : Thread Cert.GradW.nD Cert.GradW.τ).loc Cert.GradW.main_arg2)
      ∧ r.2.mem ((c.tc : Thread Cert.GradW.nD Cert.GradW.τ).loc Cert.GradW.main_arg3) = m ((c.tc : Thread Cert.GradW.nD Cert.GradW.τ).loc Cert.GradW.main_arg3)
      ∧ r.2.mem ((c.tc : Thread Cert.GradW.nD Cert.GradW.τ).loc Cert.GradW.main_arg4) = m ((c.tc : Thread Cert.GradW.nD Cert.GradW.τ).loc Cert.GradW.main_arg4)
      ∧ r.2.mem ((c.tc : Thread Cert.GradW.nD Cert.GradW.τ).loc Cert.GradW.main_arg5) = m ((c.tc : Thread Cert.GradW.nD Cert.GradW.τ).loc Cert.GradW.main_arg5))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1)
      ∧ r.2.mem ((c.tc : Thread Cert.GradWIdeal.nD Cert.GradWIdeal.τ).loc Cert.GradWIdeal.main_arg2) = m ((c.tc : Thread Cert.GradWIdeal.nD Cert.GradWIdeal.τ).loc Cert.GradWIdeal.main_arg2)
      ∧ r.2.mem ((c.tc : Thread Cert.GradWIdeal.nD Cert.GradWIdeal.τ).loc Cert.GradWIdeal.main_arg3) = m ((c.tc : Thread Cert.GradWIdeal.nD Cert.GradWIdeal.τ).loc Cert.GradWIdeal.main_arg3)
      ∧ r.2.mem ((c.tc : Thread Cert.GradWIdeal.nD Cert.GradWIdeal.τ).loc Cert.GradWIdeal.main_arg4) = m ((c.tc : Thread Cert.GradWIdeal.nD Cert.GradWIdeal.τ).loc Cert.GradWIdeal.main_arg4)
      ∧ r.2.mem ((c.tc : Thread Cert.GradWIdeal.nD Cert.GradWIdeal.τ).loc Cert.GradWIdeal.main_arg5) = m ((c.tc : Thread Cert.GradWIdeal.nD Cert.GradWIdeal.τ).loc Cert.GradWIdeal.main_arg5))
      ∧ r.2.sem = fun _ => 0)

def quiescent_GradedWIdeal [hGradedWIdeal : Cert.GradedWIdeal.Facts] : Prop :=
  ∀ (m : (ℓ : Loc Cert.GradedWIdeal.nD Cert.GradedWIdeal.τ Cert.GradedWIdeal.sig) → Buf (Elt Ideal) ℓ) (g : Dev Cert.GradedWIdeal.nD → PrngReg), Pre_GradedWIdeal m →
    θ_run (Cert.GradedWIdeal.defs (F := Ideal)) (onTc (τ := Cert.GradedWIdeal.τ) (Cert.GradedWIdeal.main (F := Ideal))) ⟨m, fun _ => 0, g⟩ (fun r => (∀ c : Dev Cert.GradedWIdeal.nD,
      r.2.mem ((c.tc : Thread Cert.GradedWIdeal.nD Cert.GradedWIdeal.τ).loc Cert.GradedWIdeal.main_arg0) = m ((c.tc : Thread Cert.GradedWIdeal.nD Cert.GradedWIdeal.τ).loc Cert.GradedWIdeal.main_arg0)
      ∧ r.2.mem ((c.tc : Thread Cert.GradedWIdeal.nD Cert.GradedWIdeal.τ).loc Cert.GradedWIdeal.main_arg1) = m ((c.tc : Thread Cert.GradedWIdeal.nD Cert.GradedWIdeal.τ).loc Cert.GradedWIdeal.main_arg1)
      ∧ r.2.mem ((c.tc : Thread Cert.GradedWIdeal.nD Cert.GradedWIdeal.τ).loc Cert.GradedWIdeal.main_arg2) = m ((c.tc : Thread Cert.GradedWIdeal.nD Cert.GradedWIdeal.τ).loc Cert.GradedWIdeal.main_arg2)
      ∧ r.2.mem ((c.tc : Thread Cert.GradedWIdeal.nD Cert.GradedWIdeal.τ).loc Cert.GradedWIdeal.main_arg3) = m ((c.tc : Thread Cert.GradedWIdeal.nD Cert.GradedWIdeal.τ).loc Cert.GradedWIdeal.main_arg3)
      ∧ r.2.mem ((c.tc : Thread Cert.GradedWIdeal.nD Cert.GradedWIdeal.τ).loc Cert.GradedWIdeal.main_arg4) = m ((c.tc : Thread Cert.GradedWIdeal.nD Cert.GradedWIdeal.τ).loc Cert.GradedWIdeal.main_arg4)
      ∧ r.2.mem ((c.tc : Thread Cert.GradedWIdeal.nD Cert.GradedWIdeal.τ).loc Cert.GradedWIdeal.main_arg5) = m ((c.tc : Thread Cert.GradedWIdeal.nD Cert.GradedWIdeal.τ).loc Cert.GradedWIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadedIdeal [hHeadedIdeal : Cert.HeadedIdeal.Facts] : Prop :=
  ∀ (m : (ℓ : Loc Cert.HeadedIdeal.nD Cert.HeadedIdeal.τ Cert.HeadedIdeal.sig) → Buf (Elt Ideal) ℓ) (g : Dev Cert.HeadedIdeal.nD → PrngReg), Pre_HeadedIdeal m →
    θ_run (Cert.HeadedIdeal.defs (F := Ideal)) (onTc (τ := Cert.HeadedIdeal.τ) (Cert.HeadedIdeal.main (F := Ideal))) ⟨m, fun _ => 0, g⟩ (fun r => (∀ c : Dev Cert.HeadedIdeal.nD,
      r.2.mem ((c.tc : Thread Cert.HeadedIdeal.nD Cert.HeadedIdeal.τ).loc Cert.HeadedIdeal.main_arg0) = m ((c.tc : Thread Cert.HeadedIdeal.nD Cert.HeadedIdeal.τ).loc Cert.HeadedIdeal.main_arg0)
      ∧ r.2.mem ((c.tc : Thread Cert.HeadedIdeal.nD Cert.HeadedIdeal.τ).loc Cert.HeadedIdeal.main_arg1) = m ((c.tc : Thread Cert.HeadedIdeal.nD Cert.HeadedIdeal.τ).loc Cert.HeadedIdeal.main_arg1)
      ∧ r.2.mem ((c.tc : Thread Cert.HeadedIdeal.nD Cert.HeadedIdeal.τ).loc Cert.HeadedIdeal.main_arg2) = m ((c.tc : Thread Cert.HeadedIdeal.nD Cert.HeadedIdeal.τ).loc Cert.HeadedIdeal.main_arg2)
      ∧ r.2.mem ((c.tc : Thread Cert.HeadedIdeal.nD Cert.HeadedIdeal.τ).loc Cert.HeadedIdeal.main_arg3) = m ((c.tc : Thread Cert.HeadedIdeal.nD Cert.HeadedIdeal.τ).loc Cert.HeadedIdeal.main_arg3)
      ∧ r.2.mem ((c.tc : Thread Cert.HeadedIdeal.nD Cert.HeadedIdeal.τ).loc Cert.HeadedIdeal.main_arg4) = m ((c.tc : Thread Cert.HeadedIdeal.nD Cert.HeadedIdeal.τ).loc Cert.HeadedIdeal.main_arg4)
      ∧ r.2.mem ((c.tc : Thread Cert.HeadedIdeal.nD Cert.HeadedIdeal.τ).loc Cert.HeadedIdeal.main_arg5) = m ((c.tc : Thread Cert.HeadedIdeal.nD Cert.HeadedIdeal.τ).loc Cert.HeadedIdeal.main_arg5)
      ∧ r.2.mem ((c.tc : Thread Cert.HeadedIdeal.nD Cert.HeadedIdeal.τ).loc Cert.HeadedIdeal.main_arg6) = m ((c.tc : Thread Cert.HeadedIdeal.nD Cert.HeadedIdeal.τ).loc Cert.HeadedIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 642]⟩ ⟨2, ![1024, 5136]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![2048, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4, 192]⟩ ⟨2, ![4, 1536]⟩ 1 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)) (v1 : Buf (Elt Ideal) (((0 : Dev Cert.ReferenceIdeal.nD).tc : Thread Cert.ReferenceIdeal.nD Cert.ReferenceIdeal.τ).loc Cert.ReferenceIdeal.main_v33)) (v2 : Buf (Elt Ideal) (((0 : Dev Cert.ReferenceIdeal.nD).tc : Thread Cert.ReferenceIdeal.nD Cert.ReferenceIdeal.τ).loc Cert.ReferenceIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_v1_2) = v2
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_v33) = v1
          ∧ r.2.mem (((0 : Dev Cert.ReferenceIdeal.nD).tc : Thread Cert.ReferenceIdeal.nD Cert.ReferenceIdeal.τ).loc Cert.ReferenceIdeal.main_v50) = v2
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![1024, 642]⟩ ⟨2, ![1024, 5136]⟩ 1 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨2, ![256, 1024]⟩ ⟨2, ![2048, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨2, ![4, 192]⟩ ⟨2, ![4, 1536]⟩ 1 8 c (m' (((0 : Dev Cert.Reference.nD).tc : Thread Cert.Reference.nD Cert.Reference.τ).loc Cert.Reference.main_arg2))) →
    ∃ (v0 : Buf (Elt Bits) (((0 : Dev Cert.Reference.nD).tc : Thread Cert.Reference.nD Cert.Reference.τ).loc Cert.Reference.main_v16)) (v1 : Buf (Elt Bits) (((0 : Dev Cert.Reference.nD).tc : Thread Cert.Reference.nD Cert.Reference.τ).loc Cert.Reference.main_v33)) (v2 : Buf (Elt Bits) (((0 : Dev Cert.Reference.nD).tc : Thread Cert.Reference.nD Cert.Reference.τ).loc Cert.Reference.main_v50)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0
          ∧ r.2.mem ((c.tc : Thread Cert.Kernel.nD Cert.Kernel.τ).loc Cert.Kernel.main_v1_1) = v1
          ∧ r.2.mem ((c.tc : Thread Cert.Kernel.nD Cert.Kernel.τ).loc Cert.Kernel.main_v1_2) = v2
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v16) = v0
          ∧ r.2.mem (((0 : Dev Cert.Reference.nD).tc : Thread Cert.Reference.nD Cert.Reference.τ).loc Cert.Reference.main_v33) = v1
          ∧ r.2.mem (((0 : Dev Cert.Reference.nD).tc : Thread Cert.Reference.nD Cert.Reference.τ).loc Cert.Reference.main_v50) = v2
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2))

def preserves_Exchange_ExchangeIdeal : Prop :=
  True

def algebraic_ExchangeIdeal_ExchangedIdeal [hExchangeIdeal : Cert.ExchangeIdeal.Facts] [hExchangedIdeal : Cert.ExchangedIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangedIdeal.nD Cert.ExchangedIdeal.τ Cert.ExchangedIdeal.sig) → Buf (Elt Ideal) ℓ) (g' : Dev Cert.ExchangedIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨3, ![8, 1024, 642]⟩ ⟨3, ![64, 1024, 642]⟩ 0 8 c (m' (((0 : Dev Cert.ExchangedIdeal.nD).tc : Thread Cert.ExchangedIdeal.nD Cert.ExchangedIdeal.τ).loc Cert.ExchangedIdeal.main_arg0))
      ∧ m ((c.tc : Thread Cert.ExchangeIdeal.nD Cert.ExchangeIdeal.τ).loc Cert.ExchangeIdeal.main_arg1) = Layout.block ⟨3, ![8, 256, 1024]⟩ ⟨3, ![64, 256, 1024]⟩ 0 8 c (m' (((0 : Dev Cert.ExchangedIdeal.nD).tc : Thread Cert.ExchangedIdeal.nD Cert.ExchangedIdeal.τ).loc Cert.ExchangedIdeal.main_arg1))
      ∧ m ((c.tc : Thread Cert.ExchangeIdeal.nD Cert.ExchangeIdeal.τ).loc Cert.ExchangeIdeal.main_arg2) = Layout.block ⟨2, ![96, 128]⟩ ⟨2, ![768, 128]⟩ 0 8 c (m' (((0 : Dev Cert.ExchangedIdeal.nD).tc : Thread Cert.ExchangedIdeal.nD Cert.ExchangedIdeal.τ).loc Cert.ExchangedIdeal.main_arg2))) →
    ∃ (v0 : Buf (Elt Ideal) (((0 : Dev Cert.ExchangedIdeal.nD).tc : Thread Cert.ExchangedIdeal.nD Cert.ExchangedIdeal.τ).loc Cert.ExchangedIdeal.main_v172)) (v1 : Buf (Elt Ideal) (((0 : Dev Cert.ExchangedIdeal.nD).tc : Thread Cert.ExchangedIdeal.nD Cert.ExchangedIdeal.τ).loc Cert.ExchangedIdeal.main_v345)) (v2 : Buf (Elt Ideal) (((0 : Dev Cert.ExchangedIdeal.nD).tc : Thread Cert.ExchangedIdeal.nD Cert.ExchangedIdeal.τ).loc Cert.ExchangedIdeal.main_v346)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.block ⟨3, ![7, 1024, 642]⟩ ⟨3, ![56, 1024, 642]⟩ 0 8 c v0
          ∧ r.2.mem ((c.tc : Thread Cert.ExchangeIdeal.nD Cert.ExchangeIdeal.τ).loc Cert.ExchangeIdeal.main_v1_1) = Layout.block ⟨3, ![7, 256, 1024]⟩ ⟨3, ![56, 256, 1024]⟩ 0 8 c v1
          ∧ r.2.mem ((c.tc : Thread Cert.ExchangeIdeal.nD Cert.ExchangeIdeal.τ).loc Cert.ExchangeIdeal.main_v1_2) = v2
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
          ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2))
      ∧ θ_run (Cert.ExchangedIdeal.defs (F := Ideal)) (onTc (τ := Cert.ExchangedIdeal.τ) (Cert.ExchangedIdeal.main (F := Ideal))) ⟨m', fun _ => 0, g'⟩ (fun r =>
          r.2.mem (((0 : Dev Cert.ExchangedIdeal.nD).tc : Thread Cert.ExchangedIdeal.nD Cert.ExchangedIdeal.τ).loc Cert.ExchangedIdeal.main_v172) = v0
          ∧ r.2.mem (((0 : Dev Cert.ExchangedIdeal.nD).tc : Thread Cert.ExchangedIdeal.nD Cert.ExchangedIdeal.τ).loc Cert.ExchangedIdeal.main_v345) = v1
          ∧ r.2.mem (((0 : Dev Cert.ExchangedIdeal.nD).tc : Thread Cert.ExchangedIdeal.nD Cert.ExchangedIdeal.τ).loc Cert.ExchangedIdeal.main_v346) = v2
          ∧ r.2.mem (((0 : Dev Cert.ExchangedIdeal.nD).tc : Thread Cert.ExchangedIdeal.nD Cert.ExchangedIdeal.τ).loc Cert.ExchangedIdeal.main_arg0) = m' (((0 : Dev Cert.ExchangedIdeal.nD).tc : Thread Cert.ExchangedIdeal.nD Cert.ExchangedIdeal.τ).loc Cert.ExchangedIdeal.main_arg0)
          ∧ r.2.mem (((0 : Dev Cert.ExchangedIdeal.nD).tc : Thread Cert.ExchangedIdeal.nD Cert.ExchangedIdeal.τ).loc Cert.ExchangedIdeal.main_arg1) = m' (((0 : Dev Cert.ExchangedIdeal.nD).tc : Thread Cert.ExchangedIdeal.nD Cert.ExchangedIdeal.τ).loc Cert.ExchangedIdeal.main_arg1)
          ∧ r.2.mem (((0 : Dev Cert.ExchangedIdeal.nD).tc : Thread Cert.ExchangedIdeal.nD Cert.ExchangedIdeal.τ).loc Cert.ExchangedIdeal.main_arg2) = m' (((0 : Dev Cert.ExchangedIdeal.nD).tc : Thread Cert.ExchangedIdeal.nD Cert.ExchangedIdeal.τ).loc Cert.ExchangedIdeal.main_arg2))

def bitexact_Exchange_Exchanged [hExchange : Cert.Exchange.Facts] [hExchanged : Cert.Exchanged.Facts] : Prop :=
  ∀ (m : (ℓ : Loc Cert.Exchange.nD Cert.Exchange.τ Cert.Exchange.sig) → Buf (Elt Bits) ℓ) (g : Dev Cert.Exchange.nD → PrngReg)
    (m' : (ℓ : Loc Cert.Exchanged.nD Cert.Exchanged.τ Cert.Exchanged.sig) → Buf (Elt Bits) ℓ) (g' : Dev Cert.Exchanged.nD → PrngReg), Pre_Exchange m →
    (∀ c : Dev Cert.Exchange.nD,
      m ((c.tc : Thread Cert.Exchange.nD Cert.Exchange.τ).loc Cert.Exchange.main_arg0) = Layout.block ⟨3, ![8, 1024, 642]⟩ ⟨3, ![64, 1024, 642]⟩ 0 8 c (m' (((0 : Dev Cert.Exchanged.nD).tc : Thread Cert.Exchanged.nD Cert.Exchanged.τ).loc Cert.Exchanged.main_arg0))
      ∧ m ((c.tc : Thread Cert.Exchange.nD Cert.Exchange.τ).loc Cert.Exchange.main_arg1) = Layout.block ⟨3, ![8, 256, 1024]⟩ ⟨3, ![64, 256, 1024]⟩ 0 8 c (m' (((0 : Dev Cert.Exchanged.nD).tc : Thread Cert.Exchanged.nD Cert.Exchanged.τ).loc Cert.Exchanged.main_arg1))
      ∧ m ((c.tc : Thread Cert.Exchange.nD Cert.Exchange.τ).loc Cert.Exchange.main_arg2) = Layout.block ⟨2, ![96, 128]⟩ ⟨2, ![768, 128]⟩ 0 8 c (m' (((0 : Dev Cert.Exchanged.nD).tc : Thread Cert.Exchanged.nD Cert.Exchanged.τ).loc Cert.Exchanged.main_arg2))) →
    ∃ (v0 : Buf (Elt Bits) (((0 : Dev Cert.Exchanged.nD).tc : Thread Cert.Exchanged.nD Cert.Exchanged.τ).loc Cert.Exchanged.main_v172)) (v1 : Buf (Elt Bits) (((0 : Dev Cert.Exchanged.nD).tc : Thread Cert.Exchanged.nD Cert.Exchanged.τ).loc Cert.Exchanged.main_v345)) (v2 : Buf (Elt Bits) (((0 : Dev Cert.Exchanged.nD).tc : Thread Cert.Exchanged.nD Cert.Exchanged.τ).loc Cert.Exchanged.main_v346)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1_0) = Layout.block ⟨3, ![7, 1024, 642]⟩ ⟨3, ![56, 1024, 642]⟩ 0 8 c v0
          ∧ r.2.mem ((c.tc : Thread Cert.Exchange.nD Cert.Exchange.τ).loc Cert.Exchange.main_v1_1) = Layout.block ⟨3, ![7, 256, 1024]⟩ ⟨3, ![56, 256, 1024]⟩ 0 8 c v1
          ∧ r.2.mem ((c.tc : Thread Cert.Exchange.nD Cert.Exchange.τ).loc Cert.Exchange.main_v1_2) = v2
          ∧ r.2.mem ((c.tc : Thread Cert.Exchange.nD Cert.Exchange.τ).loc Cert.Exchange.main_arg0) = m ((c.tc : Thread Cert.Exchange.nD Cert.Exchange.τ).loc Cert.Exchange.main_arg0)
          ∧ r.2.mem ((c.tc : Thread Cert.Exchange.nD Cert.Exchange.τ).loc Cert.Exchange.main_arg1) = m ((c.tc : Thread Cert.Exchange.nD Cert.Exchange.τ).loc Cert.Exchange.main_arg1)
          ∧ r.2.mem ((c.tc : Thread Cert.Exchange.nD Cert.Exchange.τ).loc Cert.Exchange.main_arg2) = m ((c.tc : Thread Cert.Exchange.nD Cert.Exchange.τ).loc Cert.Exchange.main_arg2))
      ∧ θ_run (Cert.Exchanged.defs (F := Bits)) (onTc (τ := Cert.Exchanged.τ) (Cert.Exchanged.main (F := Bits))) ⟨m', fun _ => 0, g'⟩ (fun r =>
          r.2.mem (((0 : Dev Cert.Exchanged.nD).tc : Thread Cert.Exchanged.nD Cert.Exchanged.τ).loc Cert.Exchanged.main_v172) = v0
          ∧ r.2.mem (((0 : Dev Cert.Exchanged.nD).tc : Thread Cert.Exchanged.nD Cert.Exchanged.τ).loc Cert.Exchanged.main_v345) = v1
          ∧ r.2.mem (((0 : Dev Cert.Exchanged.nD).tc : Thread Cert.Exchanged.nD Cert.Exchanged.τ).loc Cert.Exchanged.main_v346) = v2
          ∧ r.2.mem (((0 : Dev Cert.Exchanged.nD).tc : Thread Cert.Exchanged.nD Cert.Exchanged.τ).loc Cert.Exchanged.main_arg0) = m' (((0 : Dev Cert.Exchanged.nD).tc : Thread Cert.Exchanged.nD Cert.Exchanged.τ).loc Cert.Exchanged.main_arg0)
          ∧ r.2.mem (((0 : Dev Cert.Exchanged.nD).tc : Thread Cert.Exchanged.nD Cert.Exchanged.τ).loc Cert.Exchanged.main_arg1) = m' (((0 : Dev Cert.Exchanged.nD).tc : Thread Cert.Exchanged.nD Cert.Exchanged.τ).loc Cert.Exchanged.main_arg1)
          ∧ r.2.mem (((0 : Dev Cert.Exchanged.nD).tc : Thread Cert.Exchanged.nD Cert.Exchanged.τ).loc Cert.Exchanged.main_arg2) = m' (((0 : Dev Cert.Exchanged.nD).tc : Thread Cert.Exchanged.nD Cert.Exchanged.τ).loc Cert.Exchanged.main_arg2))

def preserves_UpdateIn_UpdateInIdeal : Prop :=
  True

def algebraic_UpdateInIdeal_UpdatedInIdeal [hUpdateInIdeal : Cert.UpdateInIdeal.Facts] [hUpdatedInIdeal : Cert.UpdatedInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdatedInIdeal.nD Cert.UpdatedInIdeal.τ Cert.UpdatedInIdeal.sig) → Buf (Elt Ideal) ℓ) (g' : Dev Cert.UpdatedInIdeal.nD → PrngReg), Pre_UpdateInIdeal m →
    (∀ c : Dev Cert.UpdateInIdeal.nD,
      m ((c.tc : Thread Cert.UpdateInIdeal.nD Cert.UpdateInIdeal.τ).loc Cert.UpdateInIdeal.main_arg0) = Layout.block ⟨2, ![1024, 642]⟩ ⟨2, ![1024, 5136]⟩ 1 8 c (m' (((0 : Dev Cert.UpdatedInIdeal.nD).tc : Thread Cert.UpdatedInIdeal.nD Cert.UpdatedInIdeal.τ).loc Cert.UpdatedInIdeal.main_arg0))
      ∧ m ((c.tc : Thread Cert.UpdateInIdeal.nD Cert.UpdateInIdeal.τ).loc Cert.UpdateInIdeal.main_arg1) = Layout.block ⟨3, ![7, 1024, 642]⟩ ⟨3, ![56, 1024, 642]⟩ 0 8 c (m' (((0 : Dev Cert.UpdatedInIdeal.nD).tc : Thread Cert.UpdatedInIdeal.nD Cert.UpdatedInIdeal.τ).loc Cert.UpdatedInIdeal.main_arg1))
      ∧ m ((c.tc : Thread Cert.UpdateInIdeal.nD Cert.UpdateInIdeal.τ).loc Cert.UpdateInIdeal.main_arg2) = Layout.block ⟨2, ![1024, 642]⟩ ⟨2, ![1024, 5136]⟩ 1 8 c (m' (((0 : Dev Cert.UpdatedInIdeal.nD).tc : Thread Cert.UpdatedInIdeal.nD Cert.UpdatedInIdeal.τ).loc Cert.UpdatedInIdeal.main_arg2))
      ∧ m ((c.tc : Thread Cert.UpdateInIdeal.nD Cert.UpdateInIdeal.τ).loc Cert.UpdateInIdeal.main_arg3) = Layout.block ⟨2, ![1024, 642]⟩ ⟨2, ![1024, 5136]⟩ 1 8 c (m' (((0 : Dev Cert.UpdatedInIdeal.nD).tc : Thread Cert.UpdatedInIdeal.nD Cert.UpdatedInIdeal.τ).loc Cert.UpdatedInIdeal.main_arg3))
      ∧ m ((c.tc : Thread Cert.UpdateInIdeal.nD Cert.UpdateInIdeal.τ).loc Cert.UpdateInIdeal.main_arg4) = Layout.block ⟨2, ![1024, 642]⟩ ⟨2, ![1024, 5136]⟩ 1 8 c (m' (((0 : Dev Cert.UpdatedInIdeal.nD).tc : Thread Cert.UpdatedInIdeal.nD Cert.UpdatedInIdeal.τ).loc Cert.UpdatedInIdeal.main_arg4))) →
    ∃ (v0 : Buf (Elt Ideal) (((0 : Dev Cert.UpdatedInIdeal.nD).tc : Thread Cert.UpdatedInIdeal.nD Cert.UpdatedInIdeal.τ).loc Cert.UpdatedInIdeal.main_v5)) (v1 : Buf (Elt Ideal) (((0 : Dev Cert.UpdatedInIdeal.nD).tc : Thread Cert.UpdatedInIdeal.nD Cert.UpdatedInIdeal.τ).loc Cert.UpdatedInIdeal.main_v29)) (v2 : Buf (Elt Ideal) (((0 : Dev Cert.UpdatedInIdeal.nD).tc : Thread Cert.UpdatedInIdeal.nD Cert.UpdatedInIdeal.τ).loc Cert.UpdatedInIdeal.main_v10)) (v3 : Buf (Elt Ideal) (((0 : Dev Cert.UpdatedInIdeal.nD).tc : Thread Cert.UpdatedInIdeal.nD Cert.UpdatedInIdeal.τ).loc Cert.UpdatedInIdeal.main_v16)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v1_0) = Layout.block ⟨2, ![1024, 642]⟩ ⟨2, ![1024, 5136]⟩ 1 8 c v0
          ∧ r.2.mem ((c.tc : Thread Cert.UpdateInIdeal.nD Cert.UpdateInIdeal.τ).loc Cert.UpdateInIdeal.main_v1_1) = Layout.block ⟨2, ![1024, 642]⟩ ⟨2, ![1024, 5136]⟩ 1 8 c v1
          ∧ r.2.mem ((c.tc : Thread Cert.UpdateInIdeal.nD Cert.UpdateInIdeal.τ).loc Cert.UpdateInIdeal.main_v1_2) = Layout.block ⟨2, ![1024, 642]⟩ ⟨2, ![1024, 5136]⟩ 1 8 c v2
          ∧ r.2.mem ((c.tc : Thread Cert.UpdateInIdeal.nD Cert.UpdateInIdeal.τ).loc Cert.UpdateInIdeal.main_v1_3) = Layout.block ⟨2, ![1024, 642]⟩ ⟨2, ![1024, 5136]⟩ 1 8 c v3
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3)
          ∧ r.2.mem ((c.tc : Thread Cert.UpdateInIdeal.nD Cert.UpdateInIdeal.τ).loc Cert.UpdateInIdeal.main_arg4) = m ((c.tc : Thread Cert.UpdateInIdeal.nD Cert.UpdateInIdeal.τ).loc Cert.UpdateInIdeal.main_arg4))
      ∧ θ_run (Cert.UpdatedInIdeal.defs (F := Ideal)) (onTc (τ := Cert.UpdatedInIdeal.τ) (Cert.UpdatedInIdeal.main (F := Ideal))) ⟨m', fun _ => 0, g'⟩ (fun r =>
          r.2.mem (((0 : Dev Cert.UpdatedInIdeal.nD).tc : Thread Cert.UpdatedInIdeal.nD Cert.UpdatedInIdeal.τ).loc Cert.UpdatedInIdeal.main_v5) = v0
          ∧ r.2.mem (((0 : Dev Cert.UpdatedInIdeal.nD).tc : Thread Cert.UpdatedInIdeal.nD Cert.UpdatedInIdeal.τ).loc Cert.UpdatedInIdeal.main_v29) = v1
          ∧ r.2.mem (((0 : Dev Cert.UpdatedInIdeal.nD).tc : Thread Cert.UpdatedInIdeal.nD Cert.UpdatedInIdeal.τ).loc Cert.UpdatedInIdeal.main_v10) = v2
          ∧ r.2.mem (((0 : Dev Cert.UpdatedInIdeal.nD).tc : Thread Cert.UpdatedInIdeal.nD Cert.UpdatedInIdeal.τ).loc Cert.UpdatedInIdeal.main_v16) = v3
          ∧ r.2.mem (((0 : Dev Cert.UpdatedInIdeal.nD).tc : Thread Cert.UpdatedInIdeal.nD Cert.UpdatedInIdeal.τ).loc Cert.UpdatedInIdeal.main_arg0) = m' (((0 : Dev Cert.UpdatedInIdeal.nD).tc : Thread Cert.UpdatedInIdeal.nD Cert.UpdatedInIdeal.τ).loc Cert.UpdatedInIdeal.main_arg0)
          ∧ r.2.mem (((0 : Dev Cert.UpdatedInIdeal.nD).tc : Thread Cert.UpdatedInIdeal.nD Cert.UpdatedInIdeal.τ).loc Cert.UpdatedInIdeal.main_arg1) = m' (((0 : Dev Cert.UpdatedInIdeal.nD).tc : Thread Cert.UpdatedInIdeal.nD Cert.UpdatedInIdeal.τ).loc Cert.UpdatedInIdeal.main_arg1)
          ∧ r.2.mem (((0 : Dev Cert.UpdatedInIdeal.nD).tc : Thread Cert.UpdatedInIdeal.nD Cert.UpdatedInIdeal.τ).loc Cert.UpdatedInIdeal.main_arg2) = m' (((0 : Dev Cert.UpdatedInIdeal.nD).tc : Thread Cert.UpdatedInIdeal.nD Cert.UpdatedInIdeal.τ).loc Cert.UpdatedInIdeal.main_arg2)
          ∧ r.2.mem (((0 : Dev Cert.UpdatedInIdeal.nD).tc : Thread Cert.UpdatedInIdeal.nD Cert.UpdatedInIdeal.τ).loc Cert.UpdatedInIdeal.main_arg3) = m' (((0 : Dev Cert.UpdatedInIdeal.nD).tc : Thread Cert.UpdatedInIdeal.nD Cert.UpdatedInIdeal.τ).loc Cert.UpdatedInIdeal.main_arg3)
          ∧ r.2.mem (((0 : Dev Cert.UpdatedInIdeal.nD).tc : Thread Cert.UpdatedInIdeal.nD Cert.UpdatedInIdeal.τ).loc Cert.UpdatedInIdeal.main_arg4) = m' (((0 : Dev Cert.UpdatedInIdeal.nD).tc : Thread Cert.UpdatedInIdeal.nD Cert.UpdatedInIdeal.τ).loc Cert.UpdatedInIdeal.main_arg4))

def preserves_UpdateOut_UpdateOutIdeal : Prop :=
  True

def algebraic_UpdateOutIdeal_UpdatedOutIdeal [hUpdateOutIdeal : Cert.UpdateOutIdeal.Facts] [hUpdatedOutIdeal : Cert.UpdatedOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdatedOutIdeal.nD Cert.UpdatedOutIdeal.τ Cert.UpdatedOutIdeal.sig) → Buf (Elt Ideal) ℓ) (g' : Dev Cert.UpdatedOutIdeal.nD → PrngReg), Pre_UpdateOutIdeal m →
    (∀ c : Dev Cert.UpdateOutIdeal.nD,
      m ((c.tc : Thread Cert.UpdateOutIdeal.nD Cert.UpdateOutIdeal.τ).loc Cert.UpdateOutIdeal.main_arg0) = Layout.block ⟨2, ![256, 1024]⟩ ⟨2, ![2048, 1024]⟩ 0 8 c (m' (((0 : Dev Cert.UpdatedOutIdeal.nD).tc : Thread Cert.UpdatedOutIdeal.nD Cert.UpdatedOutIdeal.τ).loc Cert.UpdatedOutIdeal.main_arg0))
      ∧ m ((c.tc : Thread Cert.UpdateOutIdeal.nD Cert.UpdateOutIdeal.τ).loc Cert.UpdateOutIdeal.main_arg1) = Layout.block ⟨3, ![7, 256, 1024]⟩ ⟨3, ![56, 256, 1024]⟩ 0 8 c (m' (((0 : Dev Cert.UpdatedOutIdeal.nD).tc : Thread Cert.UpdatedOutIdeal.nD Cert.UpdatedOutIdeal.τ).loc Cert.UpdatedOutIdeal.main_arg1))
      ∧ m ((c.tc : Thread Cert.UpdateOutIdeal.nD Cert.UpdateOutIdeal.τ).loc Cert.UpdateOutIdeal.main_arg2) = Layout.block ⟨2, ![256, 1024]⟩ ⟨2, ![2048, 1024]⟩ 0 8 c (m' (((0 : Dev Cert.UpdatedOutIdeal.nD).tc : Thread Cert.UpdatedOutIdeal.nD Cert.UpdatedOutIdeal.τ).loc Cert.UpdatedOutIdeal.main_arg2))
      ∧ m ((c.tc : Thread Cert.UpdateOutIdeal.nD Cert.UpdateOutIdeal.τ).loc Cert.UpdateOutIdeal.main_arg3) = Layout.block ⟨2, ![256, 1024]⟩ ⟨2, ![2048, 1024]⟩ 0 8 c (m' (((0 : Dev Cert.UpdatedOutIdeal.nD).tc : Thread Cert.UpdatedOutIdeal.nD Cert.UpdatedOutIdeal.τ).loc Cert.UpdatedOutIdeal.main_arg3))
      ∧ m ((c.tc : Thread Cert.UpdateOutIdeal.nD Cert.UpdateOutIdeal.τ).loc Cert.UpdateOutIdeal.main_arg4) = Layout.block ⟨2, ![256, 1024]⟩ ⟨2, ![2048, 1024]⟩ 0 8 c (m' (((0 : Dev Cert.UpdatedOutIdeal.nD).tc : Thread Cert.UpdatedOutIdeal.nD Cert.UpdatedOutIdeal.τ).loc Cert.UpdatedOutIdeal.main_arg4))) →
    ∃ (v0 : Buf (Elt Ideal) (((0 : Dev Cert.UpdatedOutIdeal.nD).tc : Thread Cert.UpdatedOutIdeal.nD Cert.UpdatedOutIdeal.τ).loc Cert.UpdatedOutIdeal.main_v4)) (v1 : Buf (Elt Ideal) (((0 : Dev Cert.UpdatedOutIdeal.nD).tc : Thread Cert.UpdatedOutIdeal.nD Cert.UpdatedOutIdeal.τ).loc Cert.UpdatedOutIdeal.main_v28)) (v2 : Buf (Elt Ideal) (((0 : Dev Cert.UpdatedOutIdeal.nD).tc : Thread Cert.UpdatedOutIdeal.nD Cert.UpdatedOutIdeal.τ).loc Cert.UpdatedOutIdeal.main_v9)) (v3 : Buf (Elt Ideal) (((0 : Dev Cert.UpdatedOutIdeal.nD).tc : Thread Cert.UpdatedOutIdeal.nD Cert.UpdatedOutIdeal.τ).loc Cert.UpdatedOutIdeal.main_v15)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v1_0) = Layout.block ⟨2, ![256, 1024]⟩ ⟨2, ![2048, 1024]⟩ 0 8 c v0
          ∧ r.2.mem ((c.tc : Thread Cert.UpdateOutIdeal.nD Cert.UpdateOutIdeal.τ).loc Cert.UpdateOutIdeal.main_v1_1) = Layout.block ⟨2, ![256, 1024]⟩ ⟨2, ![2048, 1024]⟩ 0 8 c v1
          ∧ r.2.mem ((c.tc : Thread Cert.UpdateOutIdeal.nD Cert.UpdateOutIdeal.τ).loc Cert.UpdateOutIdeal.main_v1_2) = Layout.block ⟨2, ![256, 1024]⟩ ⟨2, ![2048, 1024]⟩ 0 8 c v2
          ∧ r.2.mem ((c.tc : Thread Cert.UpdateOutIdeal.nD Cert.UpdateOutIdeal.τ).loc Cert.UpdateOutIdeal.main_v1_3) = Layout.block ⟨2, ![256, 1024]⟩ ⟨2, ![2048, 1024]⟩ 0 8 c v3
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3)
          ∧ r.2.mem ((c.tc : Thread Cert.UpdateOutIdeal.nD Cert.UpdateOutIdeal.τ).loc Cert.UpdateOutIdeal.main_arg4) = m ((c.tc : Thread Cert.UpdateOutIdeal.nD Cert.UpdateOutIdeal.τ).loc Cert.UpdateOutIdeal.main_arg4))
      ∧ θ_run (Cert.UpdatedOutIdeal.defs (F := Ideal)) (onTc (τ := Cert.UpdatedOutIdeal.τ) (Cert.UpdatedOutIdeal.main (F := Ideal))) ⟨m', fun _ => 0, g'⟩ (fun r =>
          r.2.mem (((0 : Dev Cert.UpdatedOutIdeal.nD).tc : Thread Cert.UpdatedOutIdeal.nD Cert.UpdatedOutIdeal.τ).loc Cert.UpdatedOutIdeal.main_v4) = v0
          ∧ r.2.mem (((0 : Dev Cert.UpdatedOutIdeal.nD).tc : Thread Cert.UpdatedOutIdeal.nD Cert.UpdatedOutIdeal.τ).loc Cert.UpdatedOutIdeal.main_v28) = v1
          ∧ r.2.mem (((0 : Dev Cert.UpdatedOutIdeal.nD).tc : Thread Cert.UpdatedOutIdeal.nD Cert.UpdatedOutIdeal.τ).loc Cert.UpdatedOutIdeal.main_v9) = v2
          ∧ r.2.mem (((0 : Dev Cert.UpdatedOutIdeal.nD).tc : Thread Cert.UpdatedOutIdeal.nD Cert.UpdatedOutIdeal.τ).loc Cert.UpdatedOutIdeal.main_v15) = v3
          ∧ r.2.mem (((0 : Dev Cert.UpdatedOutIdeal.nD).tc : Thread Cert.UpdatedOutIdeal.nD Cert.UpdatedOutIdeal.τ).loc Cert.UpdatedOutIdeal.main_arg0) = m' (((0 : Dev Cert.UpdatedOutIdeal.nD).tc : Thread Cert.UpdatedOutIdeal.nD Cert.UpdatedOutIdeal.τ).loc Cert.UpdatedOutIdeal.main_arg0)
          ∧ r.2.mem (((0 : Dev Cert.UpdatedOutIdeal.nD).tc : Thread Cert.UpdatedOutIdeal.nD Cert.UpdatedOutIdeal.τ).loc Cert.UpdatedOutIdeal.main_arg1) = m' (((0 : Dev Cert.UpdatedOutIdeal.nD).tc : Thread Cert.UpdatedOutIdeal.nD Cert.UpdatedOutIdeal.τ).loc Cert.UpdatedOutIdeal.main_arg1)
          ∧ r.2.mem (((0 : Dev Cert.UpdatedOutIdeal.nD).tc : Thread Cert.UpdatedOutIdeal.nD Cert.UpdatedOutIdeal.τ).loc Cert.UpdatedOutIdeal.main_arg2) = m' (((0 : Dev Cert.UpdatedOutIdeal.nD).tc : Thread Cert.UpdatedOutIdeal.nD Cert.UpdatedOutIdeal.τ).loc Cert.UpdatedOutIdeal.main_arg2)
          ∧ r.2.mem (((0 : Dev Cert.UpdatedOutIdeal.nD).tc : Thread Cert.UpdatedOutIdeal.nD Cert.UpdatedOutIdeal.τ).loc Cert.UpdatedOutIdeal.main_arg3) = m' (((0 : Dev Cert.UpdatedOutIdeal.nD).tc : Thread Cert.UpdatedOutIdeal.nD Cert.UpdatedOutIdeal.τ).loc Cert.UpdatedOutIdeal.main_arg3)
          ∧ r.2.mem (((0 : Dev Cert.UpdatedOutIdeal.nD).tc : Thread Cert.UpdatedOutIdeal.nD Cert.UpdatedOutIdeal.τ).loc Cert.UpdatedOutIdeal.main_arg4) = m' (((0 : Dev Cert.UpdatedOutIdeal.nD).tc : Thread Cert.UpdatedOutIdeal.nD Cert.UpdatedOutIdeal.τ).loc Cert.UpdatedOutIdeal.main_arg4))

def preserves_UpdateSmall_UpdateSmallIdeal : Prop :=
  True

def algebraic_UpdateSmallIdeal_UpdatedSmallIdeal [hUpdateSmallIdeal : Cert.UpdateSmallIdeal.Facts] [hUpdatedSmallIdeal : Cert.UpdatedSmallIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg)
    (m' : (ℓ : Loc Cert.UpdatedSmallIdeal.nD Cert.UpdatedSmallIdeal.τ Cert.UpdatedSmallIdeal.sig) → Buf (Elt Ideal) ℓ) (g' : Dev Cert.UpdatedSmallIdeal.nD → PrngReg), Pre_UpdateSmallIdeal m →
    (∀ c : Dev Cert.UpdateSmallIdeal.nD,
      m ((c.tc : Thread Cert.UpdateSmallIdeal.nD Cert.UpdateSmallIdeal.τ).loc Cert.UpdateSmallIdeal.main_arg0) = m' (((0 : Dev Cert.UpdatedSmallIdeal.nD).tc : Thread Cert.UpdatedSmallIdeal.nD Cert.UpdatedSmallIdeal.τ).loc Cert.UpdatedSmallIdeal.main_arg0)
      ∧ m ((c.tc : Thread Cert.UpdateSmallIdeal.nD Cert.UpdateSmallIdeal.τ).loc Cert.UpdateSmallIdeal.main_arg1) = m' (((0 : Dev Cert.UpdatedSmallIdeal.nD).tc : Thread Cert.UpdatedSmallIdeal.nD Cert.UpdatedSmallIdeal.τ).loc Cert.UpdatedSmallIdeal.main_arg1)
      ∧ m ((c.tc : Thread Cert.UpdateSmallIdeal.nD Cert.UpdateSmallIdeal.τ).loc Cert.UpdateSmallIdeal.main_arg2) = m' (((0 : Dev Cert.UpdatedSmallIdeal.nD).tc : Thread Cert.UpdatedSmallIdeal.nD Cert.UpdatedSmallIdeal.τ).loc Cert.UpdatedSmallIdeal.main_arg2)
      ∧ m ((c.tc : Thread Cert.UpdateSmallIdeal.nD Cert.UpdateSmallIdeal.τ).loc Cert.UpdateSmallIdeal.main_arg3) = m' (((0 : Dev Cert.UpdatedSmallIdeal.nD).tc : Thread Cert.UpdatedSmallIdeal.nD Cert.UpdatedSmallIdeal.τ).loc Cert.UpdatedSmallIdeal.main_arg3)
      ∧ m ((c.tc : Thread Cert.UpdateSmallIdeal.nD Cert.UpdateSmallIdeal.τ).loc Cert.UpdateSmallIdeal.main_arg4) = m' (((0 : Dev Cert.UpdatedSmallIdeal.nD).tc : Thread Cert.UpdatedSmallIdeal.nD Cert.UpdatedSmallIdeal.τ).loc Cert.UpdatedSmallIdeal.main_arg4)
      ∧ m ((c.tc : Thread Cert.UpdateSmallIdeal.nD Cert.UpdateSmallIdeal.τ).loc Cert.UpdateSmallIdeal.main_arg5) = m' (((0 : Dev Cert.UpdatedSmallIdeal.nD).tc : Thread Cert.UpdatedSmallIdeal.nD Cert.UpdatedSmallIdeal.τ).loc Cert.UpdatedSmallIdeal.main_arg5)
      ∧ m ((c.tc : Thread Cert.UpdateSmallIdeal.nD Cert.UpdateSmallIdeal.τ).loc Cert.UpdateSmallIdeal.main_arg6) = m' (((0 : Dev Cert.UpdatedSmallIdeal.nD).tc : Thread Cert.UpdatedSmallIdeal.nD Cert.UpdatedSmallIdeal.τ).loc Cert.UpdatedSmallIdeal.main_arg6)
      ∧ m ((c.tc : Thread Cert.UpdateSmallIdeal.nD Cert.UpdateSmallIdeal.τ).loc Cert.UpdateSmallIdeal.main_arg7) = m' (((0 : Dev Cert.UpdatedSmallIdeal.nD).tc : Thread Cert.UpdatedSmallIdeal.nD Cert.UpdatedSmallIdeal.τ).loc Cert.UpdatedSmallIdeal.main_arg7)
      ∧ m ((c.tc : Thread Cert.UpdateSmallIdeal.nD Cert.UpdateSmallIdeal.τ).loc Cert.UpdateSmallIdeal.main_arg8) = m' (((0 : Dev Cert.UpdatedSmallIdeal.nD).tc : Thread Cert.UpdatedSmallIdeal.nD Cert.UpdatedSmallIdeal.τ).loc Cert.UpdatedSmallIdeal.main_arg8)
      ∧ m ((c.tc : Thread Cert.UpdateSmallIdeal.nD Cert.UpdateSmallIdeal.τ).loc Cert.UpdateSmallIdeal.main_arg9) = m' (((0 : Dev Cert.UpdatedSmallIdeal.nD).tc : Thread Cert.UpdatedSmallIdeal.nD Cert.UpdatedSmallIdeal.τ).loc Cert.UpdatedSmallIdeal.main_arg9)
      ∧ m ((c.tc : Thread Cert.UpdateSmallIdeal.nD Cert.UpdateSmallIdeal.τ).loc Cert.UpdateSmallIdeal.main_arg10) = m' (((0 : Dev Cert.UpdatedSmallIdeal.nD).tc : Thread Cert.UpdatedSmallIdeal.nD Cert.UpdatedSmallIdeal.τ).loc Cert.UpdatedSmallIdeal.main_arg10)
      ∧ m ((c.tc : Thread Cert.UpdateSmallIdeal.nD Cert.UpdateSmallIdeal.τ).loc Cert.UpdateSmallIdeal.main_arg11) = m' (((0 : Dev Cert.UpdatedSmallIdeal.nD).tc : Thread Cert.UpdatedSmallIdeal.nD Cert.UpdatedSmallIdeal.τ).loc Cert.UpdatedSmallIdeal.main_arg11)
      ∧ m ((c.tc : Thread Cert.UpdateSmallIdeal.nD Cert.UpdateSmallIdeal.τ).loc Cert.UpdateSmallIdeal.main_arg12) = m' (((0 : Dev Cert.UpdatedSmallIdeal.nD).tc : Thread Cert.UpdatedSmallIdeal.nD Cert.UpdatedSmallIdeal.τ).loc Cert.UpdatedSmallIdeal.main_arg12)
      ∧ m ((c.tc : Thread Cert.UpdateSmallIdeal.nD Cert.UpdateSmallIdeal.τ).loc Cert.UpdateSmallIdeal.main_arg13) = m' (((0 : Dev Cert.UpdatedSmallIdeal.nD).tc : Thread Cert.UpdatedSmallIdeal.nD Cert.UpdatedSmallIdeal.τ).loc Cert.UpdatedSmallIdeal.main_arg13)
      ∧ m ((c.tc : Thread Cert.UpdateSmallIdeal.nD Cert.UpdateSmallIdeal.τ).loc Cert.UpdateSmallIdeal.main_arg14) = m' (((0 : Dev Cert.UpdatedSmallIdeal.nD).tc : Thread Cert.UpdatedSmallIdeal.nD Cert.UpdatedSmallIdeal.τ).loc Cert.UpdatedSmallIdeal.main_arg14)
      ∧ m ((c.tc : Thread Cert.UpdateSmallIdeal.nD Cert.UpdateSmallIdeal.τ).loc Cert.UpdateSmallIdeal.main_arg15) = m' (((0 : Dev Cert.UpdatedSmallIdeal.nD).tc : Thread Cert.UpdatedSmallIdeal.nD Cert.UpdatedSmallIdeal.τ).loc Cert.UpdatedSmallIdeal.main_arg15)
      ∧ m ((c.tc : Thread Cert.UpdateSmallIdeal.nD Cert.UpdateSmallIdeal.τ).loc Cert.UpdateSmallIdeal.main_arg16) = m' (((0 : Dev Cert.UpdatedSmallIdeal.nD).tc : Thread Cert.UpdatedSmallIdeal.nD Cert.UpdatedSmallIdeal.τ).loc Cert.UpdatedSmallIdeal.main_arg16)
      ∧ m ((c.tc : Thread Cert.UpdateSmallIdeal.nD Cert.UpdateSmallIdeal.τ).loc Cert.UpdateSmallIdeal.main_arg17) = m' (((0 : Dev Cert.UpdatedSmallIdeal.nD).tc : Thread Cert.UpdatedSmallIdeal.nD Cert.UpdatedSmallIdeal.τ).loc Cert.UpdatedSmallIdeal.main_arg17)
      ∧ m ((c.tc : Thread Cert.UpdateSmallIdeal.nD Cert.UpdateSmallIdeal.τ).loc Cert.UpdateSmallIdeal.main_arg18) = m' (((0 : Dev Cert.UpdatedSmallIdeal.nD).tc : Thread Cert.UpdatedSmallIdeal.nD Cert.UpdatedSmallIdeal.τ).loc Cert.UpdatedSmallIdeal.main_arg18)
      ∧ m ((c.tc : Thread Cert.UpdateSmallIdeal.nD Cert.UpdateSmallIdeal.τ).loc Cert.UpdateSmallIdeal.main_arg19) = m' (((0 : Dev Cert.UpdatedSmallIdeal.nD).tc : Thread Cert.UpdatedSmallIdeal.nD Cert.UpdatedSmallIdeal.τ).loc Cert.UpdatedSmallIdeal.main_arg19)
      ∧ m ((c.tc : Thread Cert.UpdateSmallIdeal.nD Cert.UpdateSmallIdeal.τ).loc Cert.UpdateSmallIdeal.main_arg20) = m' (((0 : Dev Cert.UpdatedSmallIdeal.nD).tc : Thread Cert.UpdatedSmallIdeal.nD Cert.UpdatedSmallIdeal.τ).loc Cert.UpdatedSmallIdeal.main_arg20)
      ∧ m ((c.tc : Thread Cert.UpdateSmallIdeal.nD Cert.UpdateSmallIdeal.τ).loc Cert.UpdateSmallIdeal.main_arg21) = m' (((0 : Dev Cert.UpdatedSmallIdeal.nD).tc : Thread Cert.UpdatedSmallIdeal.nD Cert.UpdatedSmallIdeal.τ).loc Cert.UpdatedSmallIdeal.main_arg21)
      ∧ m ((c.tc : Thread Cert.UpdateSmallIdeal.nD Cert.UpdateSmallIdeal.τ).loc Cert.UpdateSmallIdeal.main_arg22) = m' (((0 : Dev Cert.UpdatedSmallIdeal.nD).tc : Thread Cert.UpdatedSmallIdeal.nD Cert.UpdatedSmallIdeal.τ).loc Cert.UpdatedSmallIdeal.main_arg22)
      ∧ m ((c.tc : Thread Cert.UpdateSmallIdeal.nD Cert.UpdateSmallIdeal.τ).loc Cert.UpdateSmallIdeal.main_arg23) = m' (((0 : Dev Cert.UpdatedSmallIdeal.nD).tc : Thread Cert.UpdatedSmallIdeal.nD Cert.UpdatedSmallIdeal.τ).loc Cert.UpdatedSmallIdeal.main_arg23)
      ∧ m ((c.tc : Thread Cert.UpdateSmallIdeal.nD Cert.UpdateSmallIdeal.τ).loc Cert.UpdateSmallIdeal.main_arg24) = m' (((0 : Dev Cert.UpdatedSmallIdeal.nD).tc : Thread Cert.UpdatedSmallIdeal.nD Cert.UpdatedSmallIdeal.τ).loc Cert.UpdatedSmallIdeal.main_arg24)) →
    ∃ (v0 : Buf (Elt Ideal) (((0 : Dev Cert.UpdatedSmallIdeal.nD).tc : Thread Cert.UpdatedSmallIdeal.nD Cert.UpdatedSmallIdeal.τ).loc Cert.UpdatedSmallIdeal.main_v211)) (v1 : Buf (Elt Ideal) (((0 : Dev Cert.UpdatedSmallIdeal.nD).tc : Thread Cert.UpdatedSmallIdeal.nD Cert.UpdatedSmallIdeal.τ).loc Cert.UpdatedSmallIdeal.main_v213)) (v2 : Buf (Elt Ideal) (((0 : Dev Cert.UpdatedSmallIdeal.nD).tc : Thread Cert.UpdatedSmallIdeal.nD Cert.UpdatedSmallIdeal.τ).loc Cert.UpdatedSmallIdeal.main_v10)) (v3 : Buf (Elt Ideal) (((0 : Dev Cert.UpdatedSmallIdeal.nD).tc : Thread Cert.UpdatedSmallIdeal.nD Cert.UpdatedSmallIdeal.τ).loc Cert.UpdatedSmallIdeal.main_v11)) (v4 : Buf (Elt Ideal) (((0 : Dev Cert.UpdatedSmallIdeal.nD).tc : Thread Cert.UpdatedSmallIdeal.nD Cert.UpdatedSmallIdeal.τ).loc Cert.UpdatedSmallIdeal.main_v12)) (v5 : Buf (Elt Ideal) (((0 : Dev Cert.UpdatedSmallIdeal.nD).tc : Thread Cert.UpdatedSmallIdeal.nD Cert.UpdatedSmallIdeal.τ).loc Cert.UpdatedSmallIdeal.main_v13)) (v6 : Buf (Elt Ideal) (((0 : Dev Cert.UpdatedSmallIdeal.nD).tc : Thread Cert.UpdatedSmallIdeal.nD Cert.UpdatedSmallIdeal.τ).loc Cert.UpdatedSmallIdeal.main_v14)) (v7 : Buf (Elt Ideal) (((0 : Dev Cert.UpdatedSmallIdeal.nD).tc : Thread Cert.UpdatedSmallIdeal.nD Cert.UpdatedSmallIdeal.τ).loc Cert.UpdatedSmallIdeal.main_v15)) (v8 : Buf (Elt Ideal) (((0 : Dev Cert.UpdatedSmallIdeal.nD).tc : Thread Cert.UpdatedSmallIdeal.nD Cert.UpdatedSmallIdeal.τ).loc Cert.UpdatedSmallIdeal.main_v16)) (v9 : Buf (Elt Ideal) (((0 : Dev Cert.UpdatedSmallIdeal.nD).tc : Thread Cert.UpdatedSmallIdeal.nD Cert.UpdatedSmallIdeal.τ).loc Cert.UpdatedSmallIdeal.main_v17)) (v10 : Buf (Elt Ideal) (((0 : Dev Cert.UpdatedSmallIdeal.nD).tc : Thread Cert.UpdatedSmallIdeal.nD Cert.UpdatedSmallIdeal.τ).loc Cert.UpdatedSmallIdeal.main_v41)) (v11 : Buf (Elt Ideal) (((0 : Dev Cert.UpdatedSmallIdeal.nD).tc : Thread Cert.UpdatedSmallIdeal.nD Cert.UpdatedSmallIdeal.τ).loc Cert.UpdatedSmallIdeal.main_v65)) (v12 : Buf (Elt Ideal) (((0 : Dev Cert.UpdatedSmallIdeal.nD).tc : Thread Cert.UpdatedSmallIdeal.nD Cert.UpdatedSmallIdeal.τ).loc Cert.UpdatedSmallIdeal.main_v89)) (v13 : Buf (Elt Ideal) (((0 : Dev Cert.UpdatedSmallIdeal.nD).tc : Thread Cert.UpdatedSmallIdeal.nD Cert.UpdatedSmallIdeal.τ).loc Cert.UpdatedSmallIdeal.main_v113)) (v14 : Buf (Elt Ideal) (((0 : Dev Cert.UpdatedSmallIdeal.nD).tc : Thread Cert.UpdatedSmallIdeal.nD Cert.UpdatedSmallIdeal.τ).loc Cert.UpdatedSmallIdeal.main_v137)) (v15 : Buf (Elt Ideal) (((0 : Dev Cert.UpdatedSmallIdeal.nD).tc : Thread Cert.UpdatedSmallIdeal.nD Cert.UpdatedSmallIdeal.τ).loc Cert.UpdatedSmallIdeal.main_v161)) (v16 : Buf (Elt Ideal) (((0 : Dev Cert.UpdatedSmallIdeal.nD).tc : Thread Cert.UpdatedSmallIdeal.nD Cert.UpdatedSmallIdeal.τ).loc Cert.UpdatedSmallIdeal.main_v185)) (v17 : Buf (Elt Ideal) (((0 : Dev Cert.UpdatedSmallIdeal.nD).tc : Thread Cert.UpdatedSmallIdeal.nD Cert.UpdatedSmallIdeal.τ).loc Cert.UpdatedSmallIdeal.main_v209)) (v18 : Buf (Elt Ideal) (((0 : Dev Cert.UpdatedSmallIdeal.nD).tc : Thread Cert.UpdatedSmallIdeal.nD Cert.UpdatedSmallIdeal.τ).loc Cert.UpdatedSmallIdeal.main_v22)) (v19 : Buf (Elt Ideal) (((0 : Dev Cert.UpdatedSmallIdeal.nD).tc : Thread Cert.UpdatedSmallIdeal.nD Cert.UpdatedSmallIdeal.τ).loc Cert.UpdatedSmallIdeal.main_v46)) (v20 : Buf (Elt Ideal) (((0 : Dev Cert.UpdatedSmallIdeal.nD).tc : Thread Cert.UpdatedSmallIdeal.nD Cert.UpdatedSmallIdeal.τ).loc Cert.UpdatedSmallIdeal.main_v70)) (v21 : Buf (Elt Ideal) (((0 : Dev Cert.UpdatedSmallIdeal.nD).tc : Thread Cert.UpdatedSmallIdeal.nD Cert.UpdatedSmallIdeal.τ).loc Cert.UpdatedSmallIdeal.main_v94)) (v22 : Buf (Elt Ideal) (((0 : Dev Cert.UpdatedSmallIdeal.nD).tc : Thread Cert.UpdatedSmallIdeal.nD Cert.UpdatedSmallIdeal.τ).loc Cert.UpdatedSmallIdeal.main_v118)) (v23 : Buf (Elt Ideal) (((0 : Dev Cert.UpdatedSmallIdeal.nD).tc : Thread Cert.UpdatedSmallIdeal.nD Cert.UpdatedSmallIdeal.τ).loc Cert.UpdatedSmallIdeal.main_v142)) (v24 : Buf (Elt Ideal) (((0 : Dev Cert.UpdatedSmallIdeal.nD).tc : Thread Cert.UpdatedSmallIdeal.nD Cert.UpdatedSmallIdeal.τ).loc Cert.UpdatedSmallIdeal.main_v166)) (v25 : Buf (Elt Ideal) (((0 : Dev Cert.UpdatedSmallIdeal.nD).tc : Thread Cert.UpdatedSmallIdeal.nD Cert.UpdatedSmallIdeal.τ).loc Cert.UpdatedSmallIdeal.main_v190)) (v26 : Buf (Elt Ideal) (((0 : Dev Cert.UpdatedSmallIdeal.nD).tc : Thread Cert.UpdatedSmallIdeal.nD Cert.UpdatedSmallIdeal.τ).loc Cert.UpdatedSmallIdeal.main_v28)) (v27 : Buf (Elt Ideal) (((0 : Dev Cert.UpdatedSmallIdeal.nD).tc : Thread Cert.UpdatedSmallIdeal.nD Cert.UpdatedSmallIdeal.τ).loc Cert.UpdatedSmallIdeal.main_v52)) (v28 : Buf (Elt Ideal) (((0 : Dev Cert.UpdatedSmallIdeal.nD).tc : Thread Cert.UpdatedSmallIdeal.nD Cert.UpdatedSmallIdeal.τ).loc Cert.UpdatedSmallIdeal.main_v76)) (v29 : Buf (Elt Ideal) (((0 : Dev Cert.UpdatedSmallIdeal.nD).tc : Thread Cert.UpdatedSmallIdeal.nD Cert.UpdatedSmallIdeal.τ).loc Cert.UpdatedSmallIdeal.main_v100)) (v30 : Buf (Elt Ideal) (((0 : Dev Cert.UpdatedSmallIdeal.nD).tc : Thread Cert.UpdatedSmallIdeal.nD Cert.UpdatedSmallIdeal.τ).loc Cert.UpdatedSmallIdeal.main_v124)) (v31 : Buf (Elt Ideal) (((0 : Dev Cert.UpdatedSmallIdeal.nD).tc : Thread Cert.UpdatedSmallIdeal.nD Cert.UpdatedSmallIdeal.τ).loc Cert.UpdatedSmallIdeal.main_v148)) (v32 : Buf (Elt Ideal) (((0 : Dev Cert.UpdatedSmallIdeal.nD).tc : Thread Cert.UpdatedSmallIdeal.nD Cert.UpdatedSmallIdeal.τ).loc Cert.UpdatedSmallIdeal.main_v172)) (v33 : Buf (Elt Ideal) (((0 : Dev Cert.UpdatedSmallIdeal.nD).tc : Thread Cert.UpdatedSmallIdeal.nD Cert.UpdatedSmallIdeal.τ).loc Cert.UpdatedSmallIdeal.main_v196)),
      θ_run (Cert.UpdateSmallIdeal.defs (F := Ideal)) (onTc (τ := Cert.UpdateSmallIdeal.τ) (Cert.UpdateSmallIdeal.main (F := Ideal))) ⟨m, fun _ => 0, g⟩ (fun r => ∀ c : Dev Cert.UpdateSmallIdeal.nD,
          r.2.mem ((c.tc : Thread Cert.UpdateSmallIdeal.nD Cert.UpdateSmallIdeal.τ).loc Cert.UpdateSmallIdeal.main_v92) = v0
          ∧ r.2.mem ((c.tc : Thread Cert.UpdateSmallIdeal.nD Cert.UpdateSmallIdeal.τ).loc Cert.UpdateSmallIdeal.main_v90) = v1
          ∧ r.2.mem ((c.tc : Thread Cert.UpdateSmallIdeal.nD Cert.UpdateSmallIdeal.τ).loc Cert.UpdateSmallIdeal.main_v74) = v2
          ∧ r.2.mem ((c.tc : Thread Cert.UpdateSmallIdeal.nD Cert.UpdateSmallIdeal.τ).loc Cert.UpdateSmallIdeal.main_v76) = v3
          ∧ r.2.mem ((c.tc : Thread Cert.UpdateSmallIdeal.nD Cert.UpdateSmallIdeal.τ).loc Cert.UpdateSmallIdeal.main_v78) = v4
          ∧ r.2.mem ((c.tc : Thread Cert.UpdateSmallIdeal.nD Cert.UpdateSmallIdeal.τ).loc Cert.UpdateSmallIdeal.main_v80) = v5
          ∧ r.2.mem ((c.tc : Thread Cert.UpdateSmallIdeal.nD Cert.UpdateSmallIdeal.τ).loc Cert.UpdateSmallIdeal.main_v84) = v6
          ∧ r.2.mem ((c.tc : Thread Cert.UpdateSmallIdeal.nD Cert.UpdateSmallIdeal.τ).loc Cert.UpdateSmallIdeal.main_v82) = v7
          ∧ r.2.mem ((c.tc : Thread Cert.UpdateSmallIdeal.nD Cert.UpdateSmallIdeal.τ).loc Cert.UpdateSmallIdeal.main_v86) = v8
          ∧ r.2.mem ((c.tc : Thread Cert.UpdateSmallIdeal.nD Cert.UpdateSmallIdeal.τ).loc Cert.UpdateSmallIdeal.main_v88) = v9
          ∧ r.2.mem ((c.tc : Thread Cert.UpdateSmallIdeal.nD Cert.UpdateSmallIdeal.τ).loc Cert.UpdateSmallIdeal.main_v95) = v10
          ∧ r.2.mem ((c.tc : Thread Cert.UpdateSmallIdeal.nD Cert.UpdateSmallIdeal.τ).loc Cert.UpdateSmallIdeal.main_v97) = v11
          ∧ r.2.mem ((c.tc : Thread Cert.UpdateSmallIdeal.nD Cert.UpdateSmallIdeal.τ).loc Cert.UpdateSmallIdeal.main_v99) = v12
          ∧ r.2.mem ((c.tc : Thread Cert.UpdateSmallIdeal.nD Cert.UpdateSmallIdeal.τ).loc Cert.UpdateSmallIdeal.main_v101) = v13
          ∧ r.2.mem ((c.tc : Thread Cert.UpdateSmallIdeal.nD Cert.UpdateSmallIdeal.τ).loc Cert.UpdateSmallIdeal.main_v105) = v14
          ∧ r.2.mem ((c.tc : Thread Cert.UpdateSmallIdeal.nD Cert.UpdateSmallIdeal.τ).loc Cert.UpdateSmallIdeal.main_v103) = v15
          ∧ r.2.mem ((c.tc : Thread Cert.UpdateSmallIdeal.nD Cert.UpdateSmallIdeal.τ).loc Cert.UpdateSmallIdeal.main_v107) = v16
          ∧ r.2.mem ((c.tc : Thread Cert.UpdateSmallIdeal.nD Cert.UpdateSmallIdeal.τ).loc Cert.UpdateSmallIdeal.main_v109) = v17
          ∧ r.2.mem ((c.tc : Thread Cert.UpdateSmallIdeal.nD Cert.UpdateSmallIdeal.τ).loc Cert.UpdateSmallIdeal.main_v116) = v18
          ∧ r.2.mem ((c.tc : Thread Cert.UpdateSmallIdeal.nD Cert.UpdateSmallIdeal.τ).loc Cert.UpdateSmallIdeal.main_v118) = v19
          ∧ r.2.mem ((c.tc : Thread Cert.UpdateSmallIdeal.nD Cert.UpdateSmallIdeal.τ).loc Cert.UpdateSmallIdeal.main_v120) = v20
          ∧ r.2.mem ((c.tc : Thread Cert.UpdateSmallIdeal.nD Cert.UpdateSmallIdeal.τ).loc Cert.UpdateSmallIdeal.main_v122) = v21
          ∧ r.2.mem ((c.tc : Thread Cert.UpdateSmallIdeal.nD Cert.UpdateSmallIdeal.τ).loc Cert.UpdateSmallIdeal.main_v126) = v22
          ∧ r.2.mem ((c.tc : Thread Cert.UpdateSmallIdeal.nD Cert.UpdateSmallIdeal.τ).loc Cert.UpdateSmallIdeal.main_v124) = v23
          ∧ r.2.mem ((c.tc : Thread Cert.UpdateSmallIdeal.nD Cert.UpdateSmallIdeal.τ).loc Cert.UpdateSmallIdeal.main_v128) = v24
          ∧ r.2.mem ((c.tc : Thread Cert.UpdateSmallIdeal.nD Cert.UpdateSmallIdeal.τ).loc Cert.UpdateSmallIdeal.main_v130) = v25
          ∧ r.2.mem ((c.tc : Thread Cert.UpdateSmallIdeal.nD Cert.UpdateSmallIdeal.τ).loc Cert.UpdateSmallIdeal.main_v137) = v26
          ∧ r.2.mem ((c.tc : Thread Cert.UpdateSmallIdeal.nD Cert.UpdateSmallIdeal.τ).loc Cert.UpdateSmallIdeal.main_v139) = v27
          ∧ r.2.mem ((c.tc : Thread Cert.UpdateSmallIdeal.nD Cert.UpdateSmallIdeal.τ).loc Cert.UpdateSmallIdeal.main_v141) = v28
          ∧ r.2.mem ((c.tc : Thread Cert.UpdateSmallIdeal.nD Cert.UpdateSmallIdeal.τ).loc Cert.UpdateSmallIdeal.main_v143) = v29
          ∧ r.2.mem ((c.tc : Thread Cert.UpdateSmallIdeal.nD Cert.UpdateSmallIdeal.τ).loc Cert.UpdateSmallIdeal.main_v147) = v30
          ∧ r.2.mem ((c.tc : Thread Cert.UpdateSmallIdeal.nD Cert.UpdateSmallIdeal.τ).loc Cert.UpdateSmallIdeal.main_v145) = v31
          ∧ r.2.mem ((c.tc : Thread Cert.UpdateSmallIdeal.nD Cert.UpdateSmallIdeal.τ).loc Cert.UpdateSmallIdeal.main_v149) = v32
          ∧ r.2.mem ((c.tc : Thread Cert.UpdateSmallIdeal.nD Cert.UpdateSmallIdeal.τ).loc Cert.UpdateSmallIdeal.main_v151) = v33
          ∧ r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
          ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
          ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
          ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3)
          ∧ r.2.mem ((c.tc : Thread Cert.UpdateSmallIdeal.nD Cert.UpdateSmallIdeal.τ).loc Cert.UpdateSmallIdeal.main_arg4) = m ((c.tc : Thread Cert.UpdateSmallIdeal.nD Cert.UpdateSmallIdeal.τ).loc Cert.UpdateSmallIdeal.main_arg4)
          ∧ r.2.mem ((c.tc : Thread Cert.UpdateSmallIdeal.nD Cert.UpdateSmallIdeal.τ).loc Cert.UpdateSmallIdeal.main_arg5) = m ((c.tc : Thread Cert.UpdateSmallIdeal.nD Cert.UpdateSmallIdeal.τ).loc Cert.UpdateSmallIdeal.main_arg5)
          ∧ r.2.mem ((c.tc : Thread Cert.UpdateSmallIdeal.nD Cert.UpdateSmallIdeal.τ).loc Cert.UpdateSmallIdeal.main_arg6) = m ((c.tc : Thread Cert.UpdateSmallIdeal.nD Cert.UpdateSmallIdeal.τ).loc Cert.UpdateSmallIdeal.main_arg6)
          ∧ r.2.mem ((c.tc : Thread Cert.UpdateSmallIdeal.nD Cert.UpdateSmallIdeal.τ).loc Cert.UpdateSmallIdeal.main_arg7) = m ((c.tc : Thread Cert.UpdateSmallIdeal.nD Cert.UpdateSmallIdeal.τ).loc Cert.UpdateSmallIdeal.main_arg7)
          ∧ r.2.mem ((c.tc : Thread Cert.UpdateSmallIdeal.nD Cert.UpdateSmallIdeal.τ).loc Cert.UpdateSmallIdeal.main_arg8) = m ((c.tc : Thread Cert.UpdateSmallIdeal.nD Cert.UpdateSmallIdeal.τ).loc Cert.UpdateSmallIdeal.main_arg8)
          ∧ r.2.mem ((c.tc : Thread Cert.UpdateSmallIdeal.nD Cert.UpdateSmallIdeal.τ).loc Cert.UpdateSmallIdeal.main_arg9) = m ((c.tc : Thread Cert.UpdateSmallIdeal.nD Cert.UpdateSmallIdeal.τ).loc Cert.UpdateSmallIdeal.main_arg9)
          ∧ r.2.mem ((c.tc : Thread Cert.UpdateSmallIdeal.nD Cert.UpdateSmallIdeal.τ).loc Cert.UpdateSmallIdeal.main_arg10) = m ((c.tc : Thread Cert.UpdateSmallIdeal.nD Cert.UpdateSmallIdeal.τ).loc Cert.UpdateSmallIdeal.main_arg10)
          ∧ r.2.mem ((c.tc : Thread Cert.UpdateSmallIdeal.nD Cert.UpdateSmallIdeal.τ).loc Cert.UpdateSmallIdeal.main_arg11) = m ((c.tc : Thread Cert.UpdateSmallIdeal.nD Cert.UpdateSmallIdeal.τ).loc Cert.UpdateSmallIdeal.main_arg11)
          ∧ r.2.mem ((c.tc : Thread Cert.UpdateSmallIdeal.nD Cert.UpdateSmallIdeal.τ).loc Cert.UpdateSmallIdeal.main_arg12) = m ((c.tc : Thread Cert.UpdateSmallIdeal.nD Cert.UpdateSmallIdeal.τ).loc Cert.UpdateSmallIdeal.main_arg12)
          ∧ r.2.mem ((c.tc : Thread Cert.UpdateSmallIdeal.nD Cert.UpdateSmallIdeal.τ).loc Cert.UpdateSmallIdeal.main_arg13) = m ((c.tc : Thread Cert.UpdateSmallIdeal.nD Cert.UpdateSmallIdeal.τ).loc Cert.UpdateSmallIdeal.main_arg13)
          ∧ r.2.mem ((c.tc : Thread Cert.UpdateSmallIdeal.nD Cert.UpdateSmallIdeal.τ).loc Cert.UpdateSmallIdeal.main_arg14) = m ((c.tc : Thread Cert.UpdateSmallIdeal.nD Cert.UpdateSmallIdeal.τ).loc Cert.UpdateSmallIdeal.main_arg14)
          ∧ r.2.mem ((c.tc : Thread Cert.UpdateSmallIdeal.nD Cert.UpdateSmallIdeal.τ).loc Cert.UpdateSmallIdeal.main_arg15) = m ((c.tc : Thread Cert.UpdateSmallIdeal.nD Cert.UpdateSmallIdeal.τ).loc Cert.UpdateSmallIdeal.main_arg15)
          ∧ r.2.mem ((c.tc : Thread Cert.UpdateSmallIdeal.nD Cert.UpdateSmallIdeal.τ).loc Cert.UpdateSmallIdeal.main_arg16) = m ((c.tc : Thread Cert.UpdateSmallIdeal.nD Cert.UpdateSmallIdeal.τ).loc Cert.UpdateSmallIdeal.main_arg16)
          ∧ r.2.mem ((c.tc : Thread Cert.UpdateSmallIdeal.nD Cert.UpdateSmallIdeal.τ).loc Cert.UpdateSmallIdeal.main_arg17) = m ((c.tc : Thread Cert.UpdateSmallIdeal.nD Cert.UpdateSmallIdeal.τ).loc Cert.UpdateSmallIdeal.main_arg17)
          ∧ r.2.mem ((c.tc : Thread Cert.UpdateSmallIdeal.nD Cert.UpdateSmallIdeal.τ).loc Cert.UpdateSmallIdeal.main_arg18) = m ((c.tc : Thread Cert.UpdateSmallIdeal.nD Cert.UpdateSmallIdeal.τ).loc Cert.UpdateSmallIdeal.main_arg18)
          ∧ r.2.mem ((c.tc : Thread Cert.UpdateSmallIdeal.nD Cert.UpdateSmallIdeal.τ).loc Cert.UpdateSmallIdeal.main_arg19) = m ((c.tc : Thread Cert.UpdateSmallIdeal.nD Cert.UpdateSmallIdeal.τ).loc Cert.UpdateSmallIdeal.main_arg19)
          ∧ r.2.mem ((c.tc : Thread Cert.UpdateSmallIdeal.nD Cert.UpdateSmallIdeal.τ).loc Cert.UpdateSmallIdeal.main_arg20) = m ((c.tc : Thread Cert.UpdateSmallIdeal.nD Cert.UpdateSmallIdeal.τ).loc Cert.UpdateSmallIdeal.main_arg20)
          ∧ r.2.mem ((c.tc : Thread Cert.UpdateSmallIdeal.nD Cert.UpdateSmallIdeal.τ).loc Cert.UpdateSmallIdeal.main_arg21) = m ((c.tc : Thread Cert.UpdateSmallIdeal.nD Cert.UpdateSmallIdeal.τ).loc Cert.UpdateSmallIdeal.main_arg21)
          ∧ r.2.mem ((c.tc : Thread Cert.UpdateSmallIdeal.nD Cert.UpdateSmallIdeal.τ).loc Cert.UpdateSmallIdeal.main_arg22) = m ((c.tc : Thread Cert.UpdateSmallIdeal.nD Cert.UpdateSmallIdeal.τ).loc Cert.UpdateSmallIdeal.main_arg22)
          ∧ r.2.mem ((c.tc : Thread Cert.UpdateSmallIdeal.nD Cert.UpdateSmallIdeal.τ).loc Cert.UpdateSmallIdeal.main_arg23) = m ((c.tc : Thread Cert.UpdateSmallIdeal.nD Cert.UpdateSmallIdeal.τ).loc Cert.UpdateSmallIdeal.main_arg23)
          ∧ r.2.mem ((c.tc : Thread Cert.UpdateSmallIdeal.nD Cert.UpdateSmallIdeal.τ).loc Cert.UpdateSmallIdeal.main_arg24) = m ((c.tc : Thread Cert.UpdateSmallIdeal.nD Cert.UpdateSmallIdeal.τ).loc Cert.UpdateSmallIdeal.main_arg24))
      ∧ θ_run (Cert.UpdatedSmallIdeal.defs (F := Ideal)) (onTc (τ := Cert.UpdatedSmallIdeal.τ) (Cert.UpdatedSmallIdeal.main (F := Ideal))) ⟨m', fun _ => 0, g'⟩ (fun r =>
          r.2.mem (((0 : Dev Cert.UpdatedSmallIdeal.nD).tc : Thread Cert.UpdatedSmallIdeal.nD Cert.UpdatedSmallIdeal.τ).loc Cert.UpdatedSmallIdeal.main_v211) = v0
          ∧ r.2.mem (((0 : Dev Cert.UpdatedSmallIdeal.nD).tc : Thread Cert.UpdatedSmallIdeal.nD Cert.UpdatedSmallIdeal.τ).loc Cert.UpdatedSmallIdeal.main_v213) = v1
          ∧ r.2.mem (((0 : Dev Cert.UpdatedSmallIdeal.nD).tc : Thread Cert.UpdatedSmallIdeal.nD Cert.UpdatedSmallIdeal.τ).loc Cert.UpdatedSmallIdeal.main_v10) = v2
          ∧ r.2.mem (((0 : Dev Cert.UpdatedSmallIdeal.nD).tc : Thread Cert.UpdatedSmallIdeal.nD Cert.UpdatedSmallIdeal.τ).loc Cert.UpdatedSmallIdeal.main_v11) = v3
          ∧ r.2.mem (((0 : Dev Cert.UpdatedSmallIdeal.nD).tc : Thread Cert.UpdatedSmallIdeal.nD Cert.UpdatedSmallIdeal.τ).loc Cert.UpdatedSmallIdeal.main_v12) = v4
          ∧ r.2.mem (((0 : Dev Cert.UpdatedSmallIdeal.nD).tc : Thread Cert.UpdatedSmallIdeal.nD Cert.UpdatedSmallIdeal.τ).loc Cert.UpdatedSmallIdeal.main_v13) = v5
          ∧ r.2.mem (((0 : Dev Cert.UpdatedSmallIdeal.nD).tc : Thread Cert.UpdatedSmallIdeal.nD Cert.UpdatedSmallIdeal.τ).loc Cert.UpdatedSmallIdeal.main_v14) = v6
          ∧ r.2.mem (((0 : Dev Cert.UpdatedSmallIdeal.nD).tc : Thread Cert.UpdatedSmallIdeal.nD Cert.UpdatedSmallIdeal.τ).loc Cert.UpdatedSmallIdeal.main_v15) = v7
          ∧ r.2.mem (((0 : Dev Cert.UpdatedSmallIdeal.nD).tc : Thread Cert.UpdatedSmallIdeal.nD Cert.UpdatedSmallIdeal.τ).loc Cert.UpdatedSmallIdeal.main_v16) = v8
          ∧ r.2.mem (((0 : Dev Cert.UpdatedSmallIdeal.nD).tc : Thread Cert.UpdatedSmallIdeal.nD Cert.UpdatedSmallIdeal.τ).loc Cert.UpdatedSmallIdeal.main_v17) = v9
          ∧ r.2.mem (((0 : Dev Cert.UpdatedSmallIdeal.nD).tc : Thread Cert.UpdatedSmallIdeal.nD Cert.UpdatedSmallIdeal.τ).loc Cert.UpdatedSmallIdeal.main_v41) = v10
          ∧ r.2.mem (((0 : Dev Cert.UpdatedSmallIdeal.nD).tc : Thread Cert.UpdatedSmallIdeal.nD Cert.UpdatedSmallIdeal.τ).loc Cert.UpdatedSmallIdeal.main_v65) = v11
          ∧ r.2.mem (((0 : Dev Cert.UpdatedSmallIdeal.nD).tc : Thread Cert.UpdatedSmallIdeal.nD Cert.UpdatedSmallIdeal.τ).loc Cert.UpdatedSmallIdeal.main_v89) = v12
          ∧ r.2.mem (((0 : Dev Cert.UpdatedSmallIdeal.nD).tc : Thread Cert.UpdatedSmallIdeal.nD Cert.UpdatedSmallIdeal.τ).loc Cert.UpdatedSmallIdeal.main_v113) = v13
          ∧ r.2.mem (((0 : Dev Cert.UpdatedSmallIdeal.nD).tc : Thread Cert.UpdatedSmallIdeal.nD Cert.UpdatedSmallIdeal.τ).loc Cert.UpdatedSmallIdeal.main_v137) = v14
          ∧ r.2.mem (((0 : Dev Cert.UpdatedSmallIdeal.nD).tc : Thread Cert.UpdatedSmallIdeal.nD Cert.UpdatedSmallIdeal.τ).loc Cert.UpdatedSmallIdeal.main_v161) = v15
          ∧ r.2.mem (((0 : Dev Cert.UpdatedSmallIdeal.nD).tc : Thread Cert.UpdatedSmallIdeal.nD Cert.UpdatedSmallIdeal.τ).loc Cert.UpdatedSmallIdeal.main_v185) = v16
          ∧ r.2.mem (((0 : Dev Cert.UpdatedSmallIdeal.nD).tc : Thread Cert.UpdatedSmallIdeal.nD Cert.UpdatedSmallIdeal.τ).loc Cert.UpdatedSmallIdeal.main_v209) = v17
          ∧ r.2.mem (((0 : Dev Cert.UpdatedSmallIdeal.nD).tc : Thread Cert.UpdatedSmallIdeal.nD Cert.UpdatedSmallIdeal.τ).loc Cert.UpdatedSmallIdeal.main_v22) = v18
          ∧ r.2.mem (((0 : Dev Cert.UpdatedSmallIdeal.nD).tc : Thread Cert.UpdatedSmallIdeal.nD Cert.UpdatedSmallIdeal.τ).loc Cert.UpdatedSmallIdeal.main_v46) = v19
          ∧ r.2.mem (((0 : Dev Cert.UpdatedSmallIdeal.nD).tc : Thread Cert.UpdatedSmallIdeal.nD Cert.UpdatedSmallIdeal.τ).loc Cert.UpdatedSmallIdeal.main_v70) = v20
          ∧ r.2.mem (((0 : Dev Cert.UpdatedSmallIdeal.nD).tc : Thread Cert.UpdatedSmallIdeal.nD Cert.UpdatedSmallIdeal.τ).loc Cert.UpdatedSmallIdeal.main_v94) = v21
          ∧ r.2.mem (((0 : Dev Cert.UpdatedSmallIdeal.nD).tc : Thread Cert.UpdatedSmallIdeal.nD Cert.UpdatedSmallIdeal.τ).loc Cert.UpdatedSmallIdeal.main_v118) = v22
          ∧ r.2.mem (((0 : Dev Cert.UpdatedSmallIdeal.nD).tc : Thread Cert.UpdatedSmallIdeal.nD Cert.UpdatedSmallIdeal.τ).loc Cert.UpdatedSmallIdeal.main_v142) = v23
          ∧ r.2.mem (((0 : Dev Cert.UpdatedSmallIdeal.nD).tc : Thread Cert.UpdatedSmallIdeal.nD Cert.UpdatedSmallIdeal.τ).loc Cert.UpdatedSmallIdeal.main_v166) = v24
          ∧ r.2.mem (((0 : Dev Cert.UpdatedSmallIdeal.nD).tc : Thread Cert.UpdatedSmallIdeal.nD Cert.UpdatedSmallIdeal.τ).loc Cert.UpdatedSmallIdeal.main_v190) = v25
          ∧ r.2.mem (((0 : Dev Cert.UpdatedSmallIdeal.nD).tc : Thread Cert.UpdatedSmallIdeal.nD Cert.UpdatedSmallIdeal.τ).loc Cert.UpdatedSmallIdeal.main_v28) = v26
          ∧ r.2.mem (((0 : Dev Cert.UpdatedSmallIdeal.nD).tc : Thread Cert.UpdatedSmallIdeal.nD Cert.UpdatedSmallIdeal.τ).loc Cert.UpdatedSmallIdeal.main_v52) = v27
          ∧ r.2.mem (((0 : Dev Cert.UpdatedSmallIdeal.nD).tc : Thread Cert.UpdatedSmallIdeal.nD Cert.UpdatedSmallIdeal.τ).loc Cert.UpdatedSmallIdeal.main_v76) = v28
          ∧ r.2.mem (((0 : Dev Cert.UpdatedSmallIdeal.nD).tc : Thread Cert.UpdatedSmallIdeal.nD Cert.UpdatedSmallIdeal.τ).loc Cert.UpdatedSmallIdeal.main_v100) = v29
          ∧ r.2.mem (((0 : Dev Cert.UpdatedSmallIdeal.nD).tc : Thread Cert.UpdatedSmallIdeal.nD Cert.UpdatedSmallIdeal.τ).loc Cert.UpdatedSmallIdeal.main_v124) = v30
          ∧ r.2.mem (((0 : Dev Cert.UpdatedSmallIdeal.nD).tc : Thread Cert.UpdatedSmallIdeal.nD Cert.UpdatedSmallIdeal.τ).loc Cert.UpdatedSmallIdeal.main_v148) = v31
          ∧ r.2.mem (((0 : Dev Cert.UpdatedSmallIdeal.nD).tc : Thread Cert.UpdatedSmallIdeal.nD Cert.UpdatedSmallIdeal.τ).loc Cert.UpdatedSmallIdeal.main_v172) = v32
          ∧ r.2.mem (((0 : Dev Cert.UpdatedSmallIdeal.nD).tc : Thread Cert.UpdatedSmallIdeal.nD Cert.UpdatedSmallIdeal.τ).loc Cert.UpdatedSmallIdeal.main_v196) = v33
          ∧ r.2.mem (((0 : Dev Cert.UpdatedSmallIdeal.nD).tc : Thread Cert.UpdatedSmallIdeal.nD Cert.UpdatedSmallIdeal.τ).loc Cert.UpdatedSmallIdeal.main_arg0) = m' (((0 : Dev Cert.UpdatedSmallIdeal.nD).tc : Thread Cert.UpdatedSmallIdeal.nD Cert.UpdatedSmallIdeal.τ).loc Cert.UpdatedSmallIdeal.main_arg0)
          ∧ r.2.mem (((0 : Dev Cert.UpdatedSmallIdeal.nD).tc : Thread Cert.UpdatedSmallIdeal.nD Cert.UpdatedSmallIdeal.τ).loc Cert.UpdatedSmallIdeal.main_arg1) = m' (((0 : Dev Cert.UpdatedSmallIdeal.nD).tc : Thread Cert.UpdatedSmallIdeal.nD Cert.UpdatedSmallIdeal.τ).loc Cert.UpdatedSmallIdeal.main_arg1)
          ∧ r.2.mem (((0 : Dev Cert.UpdatedSmallIdeal.nD).tc : Thread Cert.UpdatedSmallIdeal.nD Cert.UpdatedSmallIdeal.τ).loc Cert.UpdatedSmallIdeal.main_arg2) = m' (((0 : Dev Cert.UpdatedSmallIdeal.nD).tc : Thread Cert.UpdatedSmallIdeal.nD Cert.UpdatedSmallIdeal.τ).loc Cert.UpdatedSmallIdeal.main_arg2)
          ∧ r.2.mem (((0 : Dev Cert.UpdatedSmallIdeal.nD).tc : Thread Cert.UpdatedSmallIdeal.nD Cert.UpdatedSmallIdeal.τ).loc Cert.UpdatedSmallIdeal.main_arg3) = m' (((0 : Dev Cert.UpdatedSmallIdeal.nD).tc : Thread Cert.UpdatedSmallIdeal.nD Cert.UpdatedSmallIdeal.τ).loc Cert.UpdatedSmallIdeal.main_arg3)
          ∧ r.2.mem (((0 : Dev Cert.UpdatedSmallIdeal.nD).tc : Thread Cert.UpdatedSmallIdeal.nD Cert.UpdatedSmallIdeal.τ).loc Cert.UpdatedSmallIdeal.main_arg4) = m' (((0 : Dev Cert.UpdatedSmallIdeal.nD).tc : Thread Cert.UpdatedSmallIdeal.nD Cert.UpdatedSmallIdeal.τ).loc Cert.UpdatedSmallIdeal.main_arg4)
          ∧ r.2.mem (((0 : Dev Cert.UpdatedSmallIdeal.nD).tc : Thread Cert.UpdatedSmallIdeal.nD Cert.UpdatedSmallIdeal.τ).loc Cert.UpdatedSmallIdeal.main_arg5) = m' (((0 : Dev Cert.UpdatedSmallIdeal.nD).tc : Thread Cert.UpdatedSmallIdeal.nD Cert.UpdatedSmallIdeal.τ).loc Cert.UpdatedSmallIdeal.main_arg5)
          ∧ r.2.mem (((0 : Dev Cert.UpdatedSmallIdeal.nD).tc : Thread Cert.UpdatedSmallIdeal.nD Cert.UpdatedSmallIdeal.τ).loc Cert.UpdatedSmallIdeal.main_arg6) = m' (((0 : Dev Cert.UpdatedSmallIdeal.nD).tc : Thread Cert.UpdatedSmallIdeal.nD Cert.UpdatedSmallIdeal.τ).loc Cert.UpdatedSmallIdeal.main_arg6)
          ∧ r.2.mem (((0 : Dev Cert.UpdatedSmallIdeal.nD).tc : Thread Cert.UpdatedSmallIdeal.nD Cert.UpdatedSmallIdeal.τ).loc Cert.UpdatedSmallIdeal.main_arg7) = m' (((0 : Dev Cert.UpdatedSmallIdeal.nD).tc : Thread Cert.UpdatedSmallIdeal.nD Cert.UpdatedSmallIdeal.τ).loc Cert.UpdatedSmallIdeal.main_arg7)
          ∧ r.2.mem (((0 : Dev Cert.UpdatedSmallIdeal.nD).tc : Thread Cert.UpdatedSmallIdeal.nD Cert.UpdatedSmallIdeal.τ).loc Cert.UpdatedSmallIdeal.main_arg8) = m' (((0 : Dev Cert.UpdatedSmallIdeal.nD).tc : Thread Cert.UpdatedSmallIdeal.nD Cert.UpdatedSmallIdeal.τ).loc Cert.UpdatedSmallIdeal.main_arg8)
          ∧ r.2.mem (((0 : Dev Cert.UpdatedSmallIdeal.nD).tc : Thread Cert.UpdatedSmallIdeal.nD Cert.UpdatedSmallIdeal.τ).loc Cert.UpdatedSmallIdeal.main_arg9) = m' (((0 : Dev Cert.UpdatedSmallIdeal.nD).tc : Thread Cert.UpdatedSmallIdeal.nD Cert.UpdatedSmallIdeal.τ).loc Cert.UpdatedSmallIdeal.main_arg9)
          ∧ r.2.mem (((0 : Dev Cert.UpdatedSmallIdeal.nD).tc : Thread Cert.UpdatedSmallIdeal.nD Cert.UpdatedSmallIdeal.τ).loc Cert.UpdatedSmallIdeal.main_arg10) = m' (((0 : Dev Cert.UpdatedSmallIdeal.nD).tc : Thread Cert.UpdatedSmallIdeal.nD Cert.UpdatedSmallIdeal.τ).loc Cert.UpdatedSmallIdeal.main_arg10)
          ∧ r.2.mem (((0 : Dev Cert.UpdatedSmallIdeal.nD).tc : Thread Cert.UpdatedSmallIdeal.nD Cert.UpdatedSmallIdeal.τ).loc Cert.UpdatedSmallIdeal.main_arg11) = m' (((0 : Dev Cert.UpdatedSmallIdeal.nD).tc : Thread Cert.UpdatedSmallIdeal.nD Cert.UpdatedSmallIdeal.τ).loc Cert.UpdatedSmallIdeal.main_arg11)
          ∧ r.2.mem (((0 : Dev Cert.UpdatedSmallIdeal.nD).tc : Thread Cert.UpdatedSmallIdeal.nD Cert.UpdatedSmallIdeal.τ).loc Cert.UpdatedSmallIdeal.main_arg12) = m' (((0 : Dev Cert.UpdatedSmallIdeal.nD).tc : Thread Cert.UpdatedSmallIdeal.nD Cert.UpdatedSmallIdeal.τ).loc Cert.UpdatedSmallIdeal.main_arg12)
          ∧ r.2.mem (((0 : Dev Cert.UpdatedSmallIdeal.nD).tc : Thread Cert.UpdatedSmallIdeal.nD Cert.UpdatedSmallIdeal.τ).loc Cert.UpdatedSmallIdeal.main_arg13) = m' (((0 : Dev Cert.UpdatedSmallIdeal.nD).tc : Thread Cert.UpdatedSmallIdeal.nD Cert.UpdatedSmallIdeal.τ).loc Cert.UpdatedSmallIdeal.main_arg13)
          ∧ r.2.mem (((0 : Dev Cert.UpdatedSmallIdeal.nD).tc : Thread Cert.UpdatedSmallIdeal.nD Cert.UpdatedSmallIdeal.τ).loc Cert.UpdatedSmallIdeal.main_arg14) = m' (((0 : Dev Cert.UpdatedSmallIdeal.nD).tc : Thread Cert.UpdatedSmallIdeal.nD Cert.UpdatedSmallIdeal.τ).loc Cert.UpdatedSmallIdeal.main_arg14)
          ∧ r.2.mem (((0 : Dev Cert.UpdatedSmallIdeal.nD).tc : Thread Cert.UpdatedSmallIdeal.nD Cert.UpdatedSmallIdeal.τ).loc Cert.UpdatedSmallIdeal.main_arg15) = m' (((0 : Dev Cert.UpdatedSmallIdeal.nD).tc : Thread Cert.UpdatedSmallIdeal.nD Cert.UpdatedSmallIdeal.τ).loc Cert.UpdatedSmallIdeal.main_arg15)
          ∧ r.2.mem (((0 : Dev Cert.UpdatedSmallIdeal.nD).tc : Thread Cert.UpdatedSmallIdeal.nD Cert.UpdatedSmallIdeal.τ).loc Cert.UpdatedSmallIdeal.main_arg16) = m' (((0 : Dev Cert.UpdatedSmallIdeal.nD).tc : Thread Cert.UpdatedSmallIdeal.nD Cert.UpdatedSmallIdeal.τ).loc Cert.UpdatedSmallIdeal.main_arg16)
          ∧ r.2.mem (((0 : Dev Cert.UpdatedSmallIdeal.nD).tc : Thread Cert.UpdatedSmallIdeal.nD Cert.UpdatedSmallIdeal.τ).loc Cert.UpdatedSmallIdeal.main_arg17) = m' (((0 : Dev Cert.UpdatedSmallIdeal.nD).tc : Thread Cert.UpdatedSmallIdeal.nD Cert.UpdatedSmallIdeal.τ).loc Cert.UpdatedSmallIdeal.main_arg17)
          ∧ r.2.mem (((0 : Dev Cert.UpdatedSmallIdeal.nD).tc : Thread Cert.UpdatedSmallIdeal.nD Cert.UpdatedSmallIdeal.τ).loc Cert.UpdatedSmallIdeal.main_arg18) = m' (((0 : Dev Cert.UpdatedSmallIdeal.nD).tc : Thread Cert.UpdatedSmallIdeal.nD Cert.UpdatedSmallIdeal.τ).loc Cert.UpdatedSmallIdeal.main_arg18)
          ∧ r.2.mem (((0 : Dev Cert.UpdatedSmallIdeal.nD).tc : Thread Cert.UpdatedSmallIdeal.nD Cert.UpdatedSmallIdeal.τ).loc Cert.UpdatedSmallIdeal.main_arg19) = m' (((0 : Dev Cert.UpdatedSmallIdeal.nD).tc : Thread Cert.UpdatedSmallIdeal.nD Cert.UpdatedSmallIdeal.τ).loc Cert.UpdatedSmallIdeal.main_arg19)
          ∧ r.2.mem (((0 : Dev Cert.UpdatedSmallIdeal.nD).tc : Thread Cert.UpdatedSmallIdeal.nD Cert.UpdatedSmallIdeal.τ).loc Cert.UpdatedSmallIdeal.main_arg20) = m' (((0 : Dev Cert.UpdatedSmallIdeal.nD).tc : Thread Cert.UpdatedSmallIdeal.nD Cert.UpdatedSmallIdeal.τ).loc Cert.UpdatedSmallIdeal.main_arg20)
          ∧ r.2.mem (((0 : Dev Cert.UpdatedSmallIdeal.nD).tc : Thread Cert.UpdatedSmallIdeal.nD Cert.UpdatedSmallIdeal.τ).loc Cert.UpdatedSmallIdeal.main_arg21) = m' (((0 : Dev Cert.UpdatedSmallIdeal.nD).tc : Thread Cert.UpdatedSmallIdeal.nD Cert.UpdatedSmallIdeal.τ).loc Cert.UpdatedSmallIdeal.main_arg21)
          ∧ r.2.mem (((0 : Dev Cert.UpdatedSmallIdeal.nD).tc : Thread Cert.UpdatedSmallIdeal.nD Cert.UpdatedSmallIdeal.τ).loc Cert.UpdatedSmallIdeal.main_arg22) = m' (((0 : Dev Cert.UpdatedSmallIdeal.nD).tc : Thread Cert.UpdatedSmallIdeal.nD Cert.UpdatedSmallIdeal.τ).loc Cert.UpdatedSmallIdeal.main_arg22)
          ∧ r.2.mem (((0 : Dev Cert.UpdatedSmallIdeal.nD).tc : Thread Cert.UpdatedSmallIdeal.nD Cert.UpdatedSmallIdeal.τ).loc Cert.UpdatedSmallIdeal.main_arg23) = m' (((0 : Dev Cert.UpdatedSmallIdeal.nD).tc : Thread Cert.UpdatedSmallIdeal.nD Cert.UpdatedSmallIdeal.τ).loc Cert.UpdatedSmallIdeal.main_arg23)
          ∧ r.2.mem (((0 : Dev Cert.UpdatedSmallIdeal.nD).tc : Thread Cert.UpdatedSmallIdeal.nD Cert.UpdatedSmallIdeal.τ).loc Cert.UpdatedSmallIdeal.main_arg24) = m' (((0 : Dev Cert.UpdatedSmallIdeal.nD).tc : Thread Cert.UpdatedSmallIdeal.nD Cert.UpdatedSmallIdeal.τ).loc Cert.UpdatedSmallIdeal.main_arg24))

def preserves_UpdateConv_UpdateConvIdeal : Prop :=
  True

def algebraic_UpdateConvIdeal_UpdatedConvIdeal [hUpdateConvIdeal : Cert.UpdateConvIdeal.Facts] [hUpdatedConvIdeal : Cert.UpdatedConvIdeal.Facts] : Prop :=
  ∀ (m : (ℓ : Loc Cert.UpdateConvIdeal.nD Cert.UpdateConvIdeal.τ Cert.UpdateConvIdeal.sig) → Buf (Elt Ideal) ℓ) (g : Dev Cert.UpdateConvIdeal.nD → PrngReg)
    (m' : (ℓ : Loc Cert.UpdatedConvIdeal.nD Cert.UpdatedConvIdeal.τ Cert.UpdatedConvIdeal.sig) → Buf (Elt Ideal) ℓ) (g' : Dev Cert.UpdatedConvIdeal.nD → PrngReg), Pre_UpdateConvIdeal m →
    (∀ c : Dev Cert.UpdateConvIdeal.nD,
      m ((c.tc : Thread Cert.UpdateConvIdeal.nD Cert.UpdateConvIdeal.τ).loc Cert.UpdateConvIdeal.main_arg0) = Layout.block ⟨2, ![4, 192]⟩ ⟨2, ![4, 1536]⟩ 1 8 c (m' (((0 : Dev Cert.UpdatedConvIdeal.nD).tc : Thread Cert.UpdatedConvIdeal.nD Cert.UpdatedConvIdeal.τ).loc Cert.UpdatedConvIdeal.main_arg0))
      ∧ m ((c.tc : Thread Cert.UpdateConvIdeal.nD Cert.UpdateConvIdeal.τ).loc Cert.UpdateConvIdeal.main_arg1) = Layout.block ⟨2, ![4, 192]⟩ ⟨2, ![4, 1536]⟩ 1 8 c (m' (((0 : Dev Cert.UpdatedConvIdeal.nD).tc : Thread Cert.UpdatedConvIdeal.nD Cert.UpdatedConvIdeal.τ).loc Cert.UpdatedConvIdeal.main_arg1))
      ∧ m ((c.tc : Thread Cert.UpdateConvIdeal.nD Cert.UpdateConvIdeal.τ).loc Cert.UpdateConvIdeal.main_arg2) = Layout.block ⟨2, ![4, 192]⟩ ⟨2, ![4, 1536]⟩ 1 8 c (m' (((0 : Dev Cert.UpdatedConvIdeal.nD).tc : Thread Cert.UpdatedConvIdeal.nD Cert.UpdatedConvIdeal.τ).loc Cert.UpdatedConvIdeal.main_arg2))
      ∧ m ((c.tc : Thread Cert.UpdateConvIdeal.nD Cert.UpdateConvIdeal.τ).loc Cert.UpdateConvIdeal.main_arg3) = Layout.block ⟨2, ![4, 192]⟩ ⟨2, ![4, 1536]⟩ 1 8 c (m' (((0 : Dev Cert.UpdatedConvIdeal.nD).tc : Thread Cert.UpdatedConvIdeal.nD Cert.UpdatedConvIdeal.τ).loc Cert.UpdatedConvIdeal.main_arg3))) →
    ∃ (v0 : Buf (Elt Ideal) (((0 : Dev Cert.UpdatedConvIdeal.nD).tc : Thread Cert.UpdatedConvIdeal.nD Cert.UpdatedConvIdeal.τ).loc Cert.UpdatedConvIdeal.main_v23)) (v1 : Buf (Elt Ideal) (((0 : Dev Cert.UpdatedConvIdeal.nD).tc : Thread Cert.UpdatedConvIdeal.nD Cert.UpdatedConvIdeal.τ).loc Cert.UpdatedConvIdeal.main_v4)) (v2 : Buf (Elt Ideal) (((0 : Dev Cert.UpdatedConvIdeal.nD).tc : Thread Cert.UpdatedConvIdeal.nD Cert.UpdatedConvIdeal.τ).loc Cert.UpdatedConvIdeal.main_v10)),
      θ_run (Cert.UpdateConvIdeal.defs (F := Ideal)) (onTc (τ := Cert.UpdateConvIdeal.τ) (Cert.UpdateConvIdeal.main (F := Ideal))) ⟨m, fun _ => 0, g⟩ (fun r => ∀ c : Dev Cert.UpdateConvIdeal.nD,
          r.2.mem ((c.tc : Thread Cert.UpdateConvIdeal.nD Cert.UpdateConvIdeal.τ).loc Cert.UpdateConvIdeal.main_v1_0) = Layout.block ⟨2, ![4, 192]⟩ ⟨2, ![4, 1536]⟩ 1 8 c v0
          ∧ r.2.mem ((c.tc : Thread Cert.UpdateConvIdeal.nD Cert.UpdateConvIdeal.τ).loc Cert.UpdateConvIdeal.main_v1_1) = Layout.block ⟨2, ![4, 192]⟩ ⟨2, ![4, 1536]⟩ 1 8 c v1
          ∧ r.2.mem ((c.tc : Thread Cert.UpdateConvIdeal.nD Cert.UpdateConvIdeal.τ).loc Cert.UpdateConvIdeal.main_v1_2) = Layout.block ⟨2, ![4, 192]⟩ ⟨2, ![4, 1536]⟩ 1 8 c v2
          ∧ r.2.mem ((c.tc : Thread Cert.UpdateConvIdeal.nD Cert.UpdateConvIdeal.τ).loc Cert.UpdateConvIdeal.main_arg0) = m ((c.tc : Thread Cert.UpdateConvIdeal.nD Cert.UpdateConvIdeal.τ).loc Cert.UpdateConvIdeal.main_arg0)
          ∧ r.2.mem ((c.tc : Thread Cert.UpdateConvIdeal.nD Cert.UpdateConvIdeal.τ).loc Cert.UpdateConvIdeal.main_arg1) = m ((c.tc : Thread Cert.UpdateConvIdeal.nD Cert.UpdateConvIdeal.τ).loc Cert.UpdateConvIdeal.main_arg1)
          ∧ r.2.mem ((c.tc : Thread Cert.UpdateConvIdeal.nD Cert.UpdateConvIdeal.τ).loc Cert.UpdateConvIdeal.main_arg2) = m ((c.tc : Thread Cert.UpdateConvIdeal.nD Cert.UpdateConvIdeal.τ).loc Cert.UpdateConvIdeal.main_arg2)
          ∧ r.2.mem ((c.tc : Thread Cert.UpdateConvIdeal.nD Cert.UpdateConvIdeal.τ).loc Cert.UpdateConvIdeal.main_arg3) = m ((c.tc : Thread Cert.UpdateConvIdeal.nD Cert.UpdateConvIdeal.τ).loc Cert.UpdateConvIdeal.main_arg3))
      ∧ θ_run (Cert.UpdatedConvIdeal.defs (F := Ideal)) (onTc (τ := Cert.UpdatedConvIdeal.τ) (Cert.UpdatedConvIdeal.main (F := Ideal))) ⟨m', fun _ => 0, g'⟩ (fun r =>
          r.2.mem (((0 : Dev Cert.UpdatedConvIdeal.nD).tc : Thread Cert.UpdatedConvIdeal.nD Cert.UpdatedConvIdeal.τ).loc Cert.UpdatedConvIdeal.main_v23) = v0
          ∧ r.2.mem (((0 : Dev Cert.UpdatedConvIdeal.nD).tc : Thread Cert.UpdatedConvIdeal.nD Cert.UpdatedConvIdeal.τ).loc Cert.UpdatedConvIdeal.main_v4) = v1
          ∧ r.2.mem (((0 : Dev Cert.UpdatedConvIdeal.nD).tc : Thread Cert.UpdatedConvIdeal.nD Cert.UpdatedConvIdeal.τ).loc Cert.UpdatedConvIdeal.main_v10) = v2
          ∧ r.2.mem (((0 : Dev Cert.UpdatedConvIdeal.nD).tc : Thread Cert.UpdatedConvIdeal.nD Cert.UpdatedConvIdeal.τ).loc Cert.UpdatedConvIdeal.main_arg0) = m' (((0 : Dev Cert.UpdatedConvIdeal.nD).tc : Thread Cert.UpdatedConvIdeal.nD Cert.UpdatedConvIdeal.τ).loc Cert.UpdatedConvIdeal.main_arg0)
          ∧ r.2.mem (((0 : Dev Cert.UpdatedConvIdeal.nD).tc : Thread Cert.UpdatedConvIdeal.nD Cert.UpdatedConvIdeal.τ).loc Cert.UpdatedConvIdeal.main_arg1) = m' (((0 : Dev Cert.UpdatedConvIdeal.nD).tc : Thread Cert.UpdatedConvIdeal.nD Cert.UpdatedConvIdeal.τ).loc Cert.UpdatedConvIdeal.main_arg1)
          ∧ r.2.mem (((0 : Dev Cert.UpdatedConvIdeal.nD).tc : Thread Cert.UpdatedConvIdeal.nD Cert.UpdatedConvIdeal.τ).loc Cert.UpdatedConvIdeal.main_arg2) = m' (((0 : Dev Cert.UpdatedConvIdeal.nD).tc : Thread Cert.UpdatedConvIdeal.nD Cert.UpdatedConvIdeal.τ).loc Cert.UpdatedConvIdeal.main_arg2)
          ∧ r.2.mem (((0 : Dev Cert.UpdatedConvIdeal.nD).tc : Thread Cert.UpdatedConvIdeal.nD Cert.UpdatedConvIdeal.τ).loc Cert.UpdatedConvIdeal.main_arg3) = m' (((0 : Dev Cert.UpdatedConvIdeal.nD).tc : Thread Cert.UpdatedConvIdeal.nD Cert.UpdatedConvIdeal.τ).loc Cert.UpdatedConvIdeal.main_arg3))

def preserves_GradX_GradXIdeal : Prop :=
  True

def algebraic_GradXIdeal_GradedXIdeal [hGradXIdeal : Cert.GradXIdeal.Facts] [hGradedXIdeal : Cert.GradedXIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradedXIdeal.nD Cert.GradedXIdeal.τ Cert.GradedXIdeal.sig) → Buf (Elt Ideal) ℓ) (g' : Dev Cert.GradedXIdeal.nD → PrngReg), Pre_GradXIdeal m →
    (∀ c : Dev Cert.GradXIdeal.nD,
      m' ((c.tc : Thread Cert.GradedXIdeal.nD Cert.GradedXIdeal.τ).loc Cert.GradedXIdeal.main_arg0) = m ((c.tc : Thread Cert.GradXIdeal.nD Cert.GradXIdeal.τ).loc Cert.GradXIdeal.main_arg0)
      ∧ m' ((c.tc : Thread Cert.GradedXIdeal.nD Cert.GradedXIdeal.τ).loc Cert.GradedXIdeal.main_arg1) = m ((c.tc : Thread Cert.GradXIdeal.nD Cert.GradXIdeal.τ).loc Cert.GradXIdeal.main_arg1)
      ∧ m' ((c.tc : Thread Cert.GradedXIdeal.nD Cert.GradedXIdeal.τ).loc Cert.GradedXIdeal.main_arg2) = m ((c.tc : Thread Cert.GradXIdeal.nD Cert.GradXIdeal.τ).loc Cert.GradXIdeal.main_arg2)
      ∧ m' ((c.tc : Thread Cert.GradedXIdeal.nD Cert.GradedXIdeal.τ).loc Cert.GradedXIdeal.main_arg3) = m ((c.tc : Thread Cert.GradXIdeal.nD Cert.GradXIdeal.τ).loc Cert.GradXIdeal.main_arg3)) →
    ∃ (v0 : (c : Dev Cert.GradXIdeal.nD) → Buf (Elt Ideal) ((c.tc : Thread Cert.GradXIdeal.nD Cert.GradXIdeal.τ).loc Cert.GradXIdeal.main_v6)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v6) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ θ_run (Cert.GradedXIdeal.defs (F := Ideal)) (onTc (τ := Cert.GradedXIdeal.τ) (Cert.GradedXIdeal.main (F := Ideal))) ⟨m', fun _ => 0, g'⟩ (fun r => ∀ c : Dev Cert.GradedXIdeal.nD,
          r.2.mem ((c.tc : Thread Cert.GradedXIdeal.nD Cert.GradedXIdeal.τ).loc Cert.GradedXIdeal.main_v7) = v0 c
          ∧ r.2.mem ((c.tc : Thread Cert.GradedXIdeal.nD Cert.GradedXIdeal.τ).loc Cert.GradedXIdeal.main_arg0) = m' ((c.tc : Thread Cert.GradedXIdeal.nD Cert.GradedXIdeal.τ).loc Cert.GradedXIdeal.main_arg0)
          ∧ r.2.mem ((c.tc : Thread Cert.GradedXIdeal.nD Cert.GradedXIdeal.τ).loc Cert.GradedXIdeal.main_arg1) = m' ((c.tc : Thread Cert.GradedXIdeal.nD Cert.GradedXIdeal.τ).loc Cert.GradedXIdeal.main_arg1)
          ∧ r.2.mem ((c.tc : Thread Cert.GradedXIdeal.nD Cert.GradedXIdeal.τ).loc Cert.GradedXIdeal.main_arg2) = m' ((c.tc : Thread Cert.GradedXIdeal.nD Cert.GradedXIdeal.τ).loc Cert.GradedXIdeal.main_arg2)
          ∧ r.2.mem ((c.tc : Thread Cert.GradedXIdeal.nD Cert.GradedXIdeal.τ).loc Cert.GradedXIdeal.main_arg3) = m' ((c.tc : Thread Cert.GradedXIdeal.nD Cert.GradedXIdeal.τ).loc Cert.GradedXIdeal.main_arg3))

def preserves_Project_ProjectIdeal : Prop :=
  True

def algebraic_ProjectIdeal_ProjectedIdeal [hProjectIdeal : Cert.ProjectIdeal.Facts] [hProjectedIdeal : Cert.ProjectedIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectedIdeal.nD Cert.ProjectedIdeal.τ Cert.ProjectedIdeal.sig) → Buf (Elt Ideal) ℓ) (g' : Dev Cert.ProjectedIdeal.nD → PrngReg), Pre_ProjectIdeal m →
    (∀ c : Dev Cert.ProjectIdeal.nD,
      m' ((c.tc : Thread Cert.ProjectedIdeal.nD Cert.ProjectedIdeal.τ).loc Cert.ProjectedIdeal.main_arg0) = m ((c.tc : Thread Cert.ProjectIdeal.nD Cert.ProjectIdeal.τ).loc Cert.ProjectIdeal.main_arg0)
      ∧ m' ((c.tc : Thread Cert.ProjectedIdeal.nD Cert.ProjectedIdeal.τ).loc Cert.ProjectedIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v4)) (v1 : (c : Dev Cert.ProjectIdeal.nD) → Buf (Elt Ideal) ((c.tc : Thread Cert.ProjectIdeal.nD Cert.ProjectIdeal.τ).loc Cert.ProjectIdeal.main_v5)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v4) = v0 c
          ∧ r.2.mem ((c.tc : Thread Cert.ProjectIdeal.nD Cert.ProjectIdeal.τ).loc Cert.ProjectIdeal.main_v5) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectedIdeal.defs (F := Ideal)) (onTc (τ := Cert.ProjectedIdeal.τ) (Cert.ProjectedIdeal.main (F := Ideal))) ⟨m', fun _ => 0, g'⟩ (fun r => ∀ c : Dev Cert.ProjectedIdeal.nD,
          r.2.mem ((c.tc : Thread Cert.ProjectedIdeal.nD Cert.ProjectedIdeal.τ).loc Cert.ProjectedIdeal.main_v3) = v0 c
          ∧ r.2.mem ((c.tc : Thread Cert.ProjectedIdeal.nD Cert.ProjectedIdeal.τ).loc Cert.ProjectedIdeal.main_v4) = v1 c
          ∧ r.2.mem ((c.tc : Thread Cert.ProjectedIdeal.nD Cert.ProjectedIdeal.τ).loc Cert.ProjectedIdeal.main_arg0) = m' ((c.tc : Thread Cert.ProjectedIdeal.nD Cert.ProjectedIdeal.τ).loc Cert.ProjectedIdeal.main_arg0)
          ∧ r.2.mem ((c.tc : Thread Cert.ProjectedIdeal.nD Cert.ProjectedIdeal.τ).loc Cert.ProjectedIdeal.main_arg1) = m' ((c.tc : Thread Cert.ProjectedIdeal.nD Cert.ProjectedIdeal.τ).loc Cert.ProjectedIdeal.main_arg1))

def preserves_GradW_GradWIdeal : Prop :=
  True

def algebraic_GradWIdeal_GradedWIdeal [hGradWIdeal : Cert.GradWIdeal.Facts] [hGradedWIdeal : Cert.GradedWIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradedWIdeal.nD Cert.GradedWIdeal.τ Cert.GradedWIdeal.sig) → Buf (Elt Ideal) ℓ) (g' : Dev Cert.GradedWIdeal.nD → PrngReg), Pre_GradWIdeal m →
    (∀ c : Dev Cert.GradWIdeal.nD,
      m' ((c.tc : Thread Cert.GradedWIdeal.nD Cert.GradedWIdeal.τ).loc Cert.GradedWIdeal.main_arg0) = m ((c.tc : Thread Cert.GradWIdeal.nD Cert.GradWIdeal.τ).loc Cert.GradWIdeal.main_arg0)
      ∧ m' ((c.tc : Thread Cert.GradedWIdeal.nD Cert.GradedWIdeal.τ).loc Cert.GradedWIdeal.main_arg1) = m ((c.tc : Thread Cert.GradWIdeal.nD Cert.GradWIdeal.τ).loc Cert.GradWIdeal.main_arg1)
      ∧ m' ((c.tc : Thread Cert.GradedWIdeal.nD Cert.GradedWIdeal.τ).loc Cert.GradedWIdeal.main_arg2) = m ((c.tc : Thread Cert.GradWIdeal.nD Cert.GradWIdeal.τ).loc Cert.GradWIdeal.main_arg2)
      ∧ m' ((c.tc : Thread Cert.GradedWIdeal.nD Cert.GradedWIdeal.τ).loc Cert.GradedWIdeal.main_arg3) = m ((c.tc : Thread Cert.GradWIdeal.nD Cert.GradWIdeal.τ).loc Cert.GradWIdeal.main_arg3)
      ∧ m' ((c.tc : Thread Cert.GradedWIdeal.nD Cert.GradedWIdeal.τ).loc Cert.GradedWIdeal.main_arg4) = m ((c.tc : Thread Cert.GradWIdeal.nD Cert.GradWIdeal.τ).loc Cert.GradWIdeal.main_arg4)
      ∧ m' ((c.tc : Thread Cert.GradedWIdeal.nD Cert.GradedWIdeal.τ).loc Cert.GradedWIdeal.main_arg5) = m ((c.tc : Thread Cert.GradWIdeal.nD Cert.GradWIdeal.τ).loc Cert.GradWIdeal.main_arg5)) →
    ∃ (v0 : (c : Dev Cert.GradWIdeal.nD) → Buf (Elt Ideal) ((c.tc : Thread Cert.GradWIdeal.nD Cert.GradWIdeal.τ).loc Cert.GradWIdeal.main_v6)) (v1 : (c : Dev Cert.GradWIdeal.nD) → Buf (Elt Ideal) ((c.tc : Thread Cert.GradWIdeal.nD Cert.GradWIdeal.τ).loc Cert.GradWIdeal.main_v7)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v6) = v0 c
          ∧ r.2.mem ((c.tc : Thread Cert.GradWIdeal.nD Cert.GradWIdeal.τ).loc Cert.GradWIdeal.main_v7) = v1 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1)
          ∧ r.2.mem ((c.tc : Thread Cert.GradWIdeal.nD Cert.GradWIdeal.τ).loc Cert.GradWIdeal.main_arg2) = m ((c.tc : Thread Cert.GradWIdeal.nD Cert.GradWIdeal.τ).loc Cert.GradWIdeal.main_arg2)
          ∧ r.2.mem ((c.tc : Thread Cert.GradWIdeal.nD Cert.GradWIdeal.τ).loc Cert.GradWIdeal.main_arg3) = m ((c.tc : Thread Cert.GradWIdeal.nD Cert.GradWIdeal.τ).loc Cert.GradWIdeal.main_arg3)
          ∧ r.2.mem ((c.tc : Thread Cert.GradWIdeal.nD Cert.GradWIdeal.τ).loc Cert.GradWIdeal.main_arg4) = m ((c.tc : Thread Cert.GradWIdeal.nD Cert.GradWIdeal.τ).loc Cert.GradWIdeal.main_arg4)
          ∧ r.2.mem ((c.tc : Thread Cert.GradWIdeal.nD Cert.GradWIdeal.τ).loc Cert.GradWIdeal.main_arg5) = m ((c.tc : Thread Cert.GradWIdeal.nD Cert.GradWIdeal.τ).loc Cert.GradWIdeal.main_arg5))
      ∧ θ_run (Cert.GradedWIdeal.defs (F := Ideal)) (onTc (τ := Cert.GradedWIdeal.τ) (Cert.GradedWIdeal.main (F := Ideal))) ⟨m', fun _ => 0, g'⟩ (fun r => ∀ c : Dev Cert.GradedWIdeal.nD,
          r.2.mem ((c.tc : Thread Cert.GradedWIdeal.nD Cert.GradedWIdeal.τ).loc Cert.GradedWIdeal.main_v5) = v0 c
          ∧ r.2.mem ((c.tc : Thread Cert.GradedWIdeal.nD Cert.GradedWIdeal.τ).loc Cert.GradedWIdeal.main_v7) = v1 c
          ∧ r.2.mem ((c.tc : Thread Cert.GradedWIdeal.nD Cert.GradedWIdeal.τ).loc Cert.GradedWIdeal.main_arg0) = m' ((c.tc : Thread Cert.GradedWIdeal.nD Cert.GradedWIdeal.τ).loc Cert.GradedWIdeal.main_arg0)
          ∧ r.2.mem ((c.tc : Thread Cert.GradedWIdeal.nD Cert.GradedWIdeal.τ).loc Cert.GradedWIdeal.main_arg1) = m' ((c.tc : Thread Cert.GradedWIdeal.nD Cert.GradedWIdeal.τ).loc Cert.GradedWIdeal.main_arg1)
          ∧ r.2.mem ((c.tc : Thread Cert.GradedWIdeal.nD Cert.GradedWIdeal.τ).loc Cert.GradedWIdeal.main_arg2) = m' ((c.tc : Thread Cert.GradedWIdeal.nD Cert.GradedWIdeal.τ).loc Cert.GradedWIdeal.main_arg2)
          ∧ r.2.mem ((c.tc : Thread Cert.GradedWIdeal.nD Cert.GradedWIdeal.τ).loc Cert.GradedWIdeal.main_arg3) = m' ((c.tc : Thread Cert.GradedWIdeal.nD Cert.GradedWIdeal.τ).loc Cert.GradedWIdeal.main_arg3)
          ∧ r.2.mem ((c.tc : Thread Cert.GradedWIdeal.nD Cert.GradedWIdeal.τ).loc Cert.GradedWIdeal.main_arg4) = m' ((c.tc : Thread Cert.GradedWIdeal.nD Cert.GradedWIdeal.τ).loc Cert.GradedWIdeal.main_arg4)
          ∧ r.2.mem ((c.tc : Thread Cert.GradedWIdeal.nD Cert.GradedWIdeal.τ).loc Cert.GradedWIdeal.main_arg5) = m' ((c.tc : Thread Cert.GradedWIdeal.nD Cert.GradedWIdeal.τ).loc Cert.GradedWIdeal.main_arg5))

def preserves_Head_HeadIdeal : Prop :=
  True

def algebraic_HeadIdeal_HeadedIdeal [hHeadIdeal : Cert.HeadIdeal.Facts] [hHeadedIdeal : Cert.HeadedIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadedIdeal.nD Cert.HeadedIdeal.τ Cert.HeadedIdeal.sig) → Buf (Elt Ideal) ℓ) (g' : Dev Cert.HeadedIdeal.nD → PrngReg), Pre_HeadIdeal m →
    (∀ c : Dev Cert.HeadIdeal.nD,
      m' ((c.tc : Thread Cert.HeadedIdeal.nD Cert.HeadedIdeal.τ).loc Cert.HeadedIdeal.main_arg0) = m ((c.tc : Thread Cert.HeadIdeal.nD Cert.HeadIdeal.τ).loc Cert.HeadIdeal.main_arg0)
      ∧ m' ((c.tc : Thread Cert.HeadedIdeal.nD Cert.HeadedIdeal.τ).loc Cert.HeadedIdeal.main_arg1) = m ((c.tc : Thread Cert.HeadIdeal.nD Cert.HeadIdeal.τ).loc Cert.HeadIdeal.main_arg1)
      ∧ m' ((c.tc : Thread Cert.HeadedIdeal.nD Cert.HeadedIdeal.τ).loc Cert.HeadedIdeal.main_arg2) = m ((c.tc : Thread Cert.HeadIdeal.nD Cert.HeadIdeal.τ).loc Cert.HeadIdeal.main_arg2)
      ∧ m' ((c.tc : Thread Cert.HeadedIdeal.nD Cert.HeadedIdeal.τ).loc Cert.HeadedIdeal.main_arg3) = m ((c.tc : Thread Cert.HeadIdeal.nD Cert.HeadIdeal.τ).loc Cert.HeadIdeal.main_arg3)
      ∧ m' ((c.tc : Thread Cert.HeadedIdeal.nD Cert.HeadedIdeal.τ).loc Cert.HeadedIdeal.main_arg4) = m ((c.tc : Thread Cert.HeadIdeal.nD Cert.HeadIdeal.τ).loc Cert.HeadIdeal.main_arg4)
      ∧ m' ((c.tc : Thread Cert.HeadedIdeal.nD Cert.HeadedIdeal.τ).loc Cert.HeadedIdeal.main_arg5) = m ((c.tc : Thread Cert.HeadIdeal.nD Cert.HeadIdeal.τ).loc Cert.HeadIdeal.main_arg5)
      ∧ m' ((c.tc : Thread Cert.HeadedIdeal.nD Cert.HeadedIdeal.τ).loc Cert.HeadedIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v3_0)) (v1 : (c : Dev Cert.HeadIdeal.nD) → Buf (Elt Ideal) ((c.tc : Thread Cert.HeadIdeal.nD Cert.HeadIdeal.τ).loc Cert.HeadIdeal.main_v3_1)) (v2 : (c : Dev Cert.HeadIdeal.nD) → Buf (Elt Ideal) ((c.tc : Thread Cert.HeadIdeal.nD Cert.HeadIdeal.τ).loc Cert.HeadIdeal.main_v5)) (v3 : (c : Dev Cert.HeadIdeal.nD) → Buf (Elt Ideal) ((c.tc : Thread Cert.HeadIdeal.nD Cert.HeadIdeal.τ).loc Cert.HeadIdeal.main_v7)) (v4 : (c : Dev Cert.HeadIdeal.nD) → Buf (Elt Ideal) ((c.tc : Thread Cert.HeadIdeal.nD Cert.HeadIdeal.τ).loc Cert.HeadIdeal.main_v9)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v3_0) = v0 c
          ∧ r.2.mem ((c.tc : Thread Cert.HeadIdeal.nD Cert.HeadIdeal.τ).loc Cert.HeadIdeal.main_v3_1) = v1 c
          ∧ r.2.mem ((c.tc : Thread Cert.HeadIdeal.nD Cert.HeadIdeal.τ).loc Cert.HeadIdeal.main_v5) = v2 c
          ∧ r.2.mem ((c.tc : Thread Cert.HeadIdeal.nD Cert.HeadIdeal.τ).loc Cert.HeadIdeal.main_v7) = v3 c
          ∧ r.2.mem ((c.tc : Thread Cert.HeadIdeal.nD Cert.HeadIdeal.τ).loc Cert.HeadIdeal.main_v9) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadedIdeal.defs (F := Ideal)) (onTc (τ := Cert.HeadedIdeal.τ) (Cert.HeadedIdeal.main (F := Ideal))) ⟨m', fun _ => 0, g'⟩ (fun r => ∀ c : Dev Cert.HeadedIdeal.nD,
          r.2.mem ((c.tc : Thread Cert.HeadedIdeal.nD Cert.HeadedIdeal.τ).loc Cert.HeadedIdeal.main_v53) = v0 c
          ∧ r.2.mem ((c.tc : Thread Cert.HeadedIdeal.nD Cert.HeadedIdeal.τ).loc Cert.HeadedIdeal.main_v55) = v1 c
          ∧ r.2.mem ((c.tc : Thread Cert.HeadedIdeal.nD Cert.HeadedIdeal.τ).loc Cert.HeadedIdeal.main_v33) = v2 c
          ∧ r.2.mem ((c.tc : Thread Cert.HeadedIdeal.nD Cert.HeadedIdeal.τ).loc Cert.HeadedIdeal.main_v57) = v3 c
          ∧ r.2.mem ((c.tc : Thread Cert.HeadedIdeal.nD Cert.HeadedIdeal.τ).loc Cert.HeadedIdeal.main_v58) = v4 c
          ∧ r.2.mem ((c.tc : Thread Cert.HeadedIdeal.nD Cert.HeadedIdeal.τ).loc Cert.HeadedIdeal.main_arg0) = m' ((c.tc : Thread Cert.HeadedIdeal.nD Cert.HeadedIdeal.τ).loc Cert.HeadedIdeal.main_arg0)
          ∧ r.2.mem ((c.tc : Thread Cert.HeadedIdeal.nD Cert.HeadedIdeal.τ).loc Cert.HeadedIdeal.main_arg1) = m' ((c.tc : Thread Cert.HeadedIdeal.nD Cert.HeadedIdeal.τ).loc Cert.HeadedIdeal.main_arg1)
          ∧ r.2.mem ((c.tc : Thread Cert.HeadedIdeal.nD Cert.HeadedIdeal.τ).loc Cert.HeadedIdeal.main_arg2) = m' ((c.tc : Thread Cert.HeadedIdeal.nD Cert.HeadedIdeal.τ).loc Cert.HeadedIdeal.main_arg2)
          ∧ r.2.mem ((c.tc : Thread Cert.HeadedIdeal.nD Cert.HeadedIdeal.τ).loc Cert.HeadedIdeal.main_arg3) = m' ((c.tc : Thread Cert.HeadedIdeal.nD Cert.HeadedIdeal.τ).loc Cert.HeadedIdeal.main_arg3)
          ∧ r.2.mem ((c.tc : Thread Cert.HeadedIdeal.nD Cert.HeadedIdeal.τ).loc Cert.HeadedIdeal.main_arg4) = m' ((c.tc : Thread Cert.HeadedIdeal.nD Cert.HeadedIdeal.τ).loc Cert.HeadedIdeal.main_arg4)
          ∧ r.2.mem ((c.tc : Thread Cert.HeadedIdeal.nD Cert.HeadedIdeal.τ).loc Cert.HeadedIdeal.main_arg5) = m' ((c.tc : Thread Cert.HeadedIdeal.nD Cert.HeadedIdeal.τ).loc Cert.HeadedIdeal.main_arg5)
          ∧ r.2.mem ((c.tc : Thread Cert.HeadedIdeal.nD Cert.HeadedIdeal.τ).loc Cert.HeadedIdeal.main_arg6) = m' ((c.tc : Thread Cert.HeadedIdeal.nD Cert.HeadedIdeal.τ).loc Cert.HeadedIdeal.main_arg6))

def Claim : Prop :=
  ∃ (hKernel : Cert.Kernel.Facts) (hKernelIdeal : Cert.KernelIdeal.Facts) (hReferenceIdeal : Cert.ReferenceIdeal.Facts) (hReference : Cert.Reference.Facts) (hExchange : Cert.Exchange.Facts) (hExchangeIdeal : Cert.ExchangeIdeal.Facts) (hExchangedIdeal : Cert.ExchangedIdeal.Facts) (hExchanged : Cert.Exchanged.Facts) (hUpdateIn : Cert.UpdateIn.Facts) (hUpdateInIdeal : Cert.UpdateInIdeal.Facts) (hUpdatedInIdeal : Cert.UpdatedInIdeal.Facts) (hUpdateOut : Cert.UpdateOut.Facts) (hUpdateOutIdeal : Cert.UpdateOutIdeal.Facts) (hUpdatedOutIdeal : Cert.UpdatedOutIdeal.Facts) (hUpdateSmall : Cert.UpdateSmall.Facts) (hUpdateSmallIdeal : Cert.UpdateSmallIdeal.Facts) (hUpdatedSmallIdeal : Cert.UpdatedSmallIdeal.Facts) (hUpdateConv : Cert.UpdateConv.Facts) (hUpdateConvIdeal : Cert.UpdateConvIdeal.Facts) (hUpdatedConvIdeal : Cert.UpdatedConvIdeal.Facts) (hGradX : Cert.GradX.Facts) (hGradXIdeal : Cert.GradXIdeal.Facts) (hGradedXIdeal : Cert.GradedXIdeal.Facts) (hProject : Cert.Project.Facts) (hProjectIdeal : Cert.ProjectIdeal.Facts) (hProjectedIdeal : Cert.ProjectedIdeal.Facts) (hGradW : Cert.GradW.Facts) (hGradWIdeal : Cert.GradWIdeal.Facts) (hGradedWIdeal : Cert.GradedWIdeal.Facts) (hHead : Cert.Head.Facts) (hHeadIdeal : Cert.HeadIdeal.Facts) (hHeadedIdeal : Cert.HeadedIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Exchange (hExchange := hExchange)
    ∧ quiescent_ExchangeIdeal (hExchangeIdeal := hExchangeIdeal)
    ∧ quiescent_ExchangedIdeal (hExchangedIdeal := hExchangedIdeal)
    ∧ quiescent_Exchanged (hExchanged := hExchanged)
    ∧ quiescent_UpdateIn (hUpdateIn := hUpdateIn)
    ∧ quiescent_UpdateInIdeal (hUpdateInIdeal := hUpdateInIdeal)
    ∧ quiescent_UpdatedInIdeal (hUpdatedInIdeal := hUpdatedInIdeal)
    ∧ quiescent_UpdateOut (hUpdateOut := hUpdateOut)
    ∧ quiescent_UpdateOutIdeal (hUpdateOutIdeal := hUpdateOutIdeal)
    ∧ quiescent_UpdatedOutIdeal (hUpdatedOutIdeal := hUpdatedOutIdeal)
    ∧ quiescent_UpdateSmall (hUpdateSmall := hUpdateSmall)
    ∧ quiescent_UpdateSmallIdeal (hUpdateSmallIdeal := hUpdateSmallIdeal)
    ∧ quiescent_UpdatedSmallIdeal (hUpdatedSmallIdeal := hUpdatedSmallIdeal)
    ∧ quiescent_UpdateConv (hUpdateConv := hUpdateConv)
    ∧ quiescent_UpdateConvIdeal (hUpdateConvIdeal := hUpdateConvIdeal)
    ∧ quiescent_UpdatedConvIdeal (hUpdatedConvIdeal := hUpdatedConvIdeal)
    ∧ quiescent_GradX (hGradX := hGradX)
    ∧ quiescent_GradXIdeal (hGradXIdeal := hGradXIdeal)
    ∧ quiescent_GradedXIdeal (hGradedXIdeal := hGradedXIdeal)
    ∧ quiescent_Project (hProject := hProject)
    ∧ quiescent_ProjectIdeal (hProjectIdeal := hProjectIdeal)
    ∧ quiescent_ProjectedIdeal (hProjectedIdeal := hProjectedIdeal)
    ∧ quiescent_GradW (hGradW := hGradW)
    ∧ quiescent_GradWIdeal (hGradWIdeal := hGradWIdeal)
    ∧ quiescent_GradedWIdeal (hGradedWIdeal := hGradedWIdeal)
    ∧ quiescent_Head (hHead := hHead)
    ∧ quiescent_HeadIdeal (hHeadIdeal := hHeadIdeal)
    ∧ quiescent_HeadedIdeal (hHeadedIdeal := hHeadedIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Exchange_ExchangeIdeal
    ∧ algebraic_ExchangeIdeal_ExchangedIdeal (hExchangeIdeal := hExchangeIdeal) (hExchangedIdeal := hExchangedIdeal)
    ∧ bitexact_Exchange_Exchanged (hExchange := hExchange) (hExchanged := hExchanged)
    ∧ preserves_UpdateIn_UpdateInIdeal
    ∧ algebraic_UpdateInIdeal_UpdatedInIdeal (hUpdateInIdeal := hUpdateInIdeal) (hUpdatedInIdeal := hUpdatedInIdeal)
    ∧ preserves_UpdateOut_UpdateOutIdeal
    ∧ algebraic_UpdateOutIdeal_UpdatedOutIdeal (hUpdateOutIdeal := hUpdateOutIdeal) (hUpdatedOutIdeal := hUpdatedOutIdeal)
    ∧ preserves_UpdateSmall_UpdateSmallIdeal
    ∧ algebraic_UpdateSmallIdeal_UpdatedSmallIdeal (hUpdateSmallIdeal := hUpdateSmallIdeal) (hUpdatedSmallIdeal := hUpdatedSmallIdeal)
    ∧ preserves_UpdateConv_UpdateConvIdeal
    ∧ algebraic_UpdateConvIdeal_UpdatedConvIdeal (hUpdateConvIdeal := hUpdateConvIdeal) (hUpdatedConvIdeal := hUpdatedConvIdeal)
    ∧ preserves_GradX_GradXIdeal
    ∧ algebraic_GradXIdeal_GradedXIdeal (hGradXIdeal := hGradXIdeal) (hGradedXIdeal := hGradedXIdeal)
    ∧ preserves_Project_ProjectIdeal
    ∧ algebraic_ProjectIdeal_ProjectedIdeal (hProjectIdeal := hProjectIdeal) (hProjectedIdeal := hProjectedIdeal)
    ∧ preserves_GradW_GradWIdeal
    ∧ algebraic_GradWIdeal_GradedWIdeal (hGradWIdeal := hGradWIdeal) (hGradedWIdeal := hGradedWIdeal)
    ∧ preserves_Head_HeadIdeal
    ∧ algebraic_HeadIdeal_HeadedIdeal (hHeadIdeal := hHeadIdeal) (hHeadedIdeal := hHeadedIdeal)
-- ==== Kernel.lean ====
abbrev S1024x642 : Shape := ⟨2, ![1024, 642]⟩
abbrev S256x1024 : Shape := ⟨2, ![256, 1024]⟩
abbrev S4x192 : Shape := ⟨2, ![4, 192]⟩
abbrev S8x1024x642 : Shape := ⟨3, ![8, 1024, 642]⟩
abbrev S8x256x1024 : Shape := ⟨3, ![8, 256, 1024]⟩
abbrev S8x4x192 : Shape := ⟨3, ![8, 4, 192]⟩
abbrev S3x7 : Shape := ⟨2, ![3, 7]⟩
abbrev S3 : Shape := ⟨1, ![3]⟩
abbrev S1 : Shape := ⟨1, ![1]⟩
abbrev S_ : Shape := ⟨0, ![]⟩
abbrev S1x1024x642 : Shape := ⟨3, ![1, 1024, 642]⟩
abbrev S1x256x1024 : Shape := ⟨3, ![1, 256, 1024]⟩
abbrev S1x4x192 : Shape := ⟨3, ![1, 4, 192]⟩
abbrev S1x1 : Shape := ⟨2, ![1, 1]⟩

abbrev nBuf : Space → Nat
  | .hbm => 6
  | .vmem => 0
  | .smem => 0
  | _ => 0

abbrev bufTy : (tb : Table) → Fin (tcTables nBuf tb) → BufTy
  | .hbm, ⟨0, _⟩ => ⟨S1024x642, .bf16⟩
  | .hbm, ⟨1, _⟩ => ⟨S256x1024, .bf16⟩
  | .hbm, ⟨2, _⟩ => ⟨S4x192, .f32⟩
  | .hbm, ⟨3, _⟩ => ⟨S8x1024x642, .bf16⟩
  | .hbm, ⟨4, _⟩ => ⟨S8x256x1024, .bf16⟩
  | .hbm, ⟨5, _⟩ => ⟨S8x4x192, .f32⟩
  | _, _ => ⟨S1024x642, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_14 : BitVec 32 := 0#32
  let c0_i32_15 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_17 : BitVec 32 := 0#32
  let c0_i32_18 : BitVec 32 := 0#32
  ![v21.toNat, 0, 0]
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_20 : BitVec 32 := 0#32
  let c0_i32_21 : BitVec 32 := 0#32
  ![v25.toNat, 0, 0]
def k0_dev1 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v86 : BitVec 32 := Scalar.muli v2 c4_i32_50
  let v87 : BitVec 32 := Scalar.addi c0_i32_51 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v88 : BitVec 32 := Scalar.muli v5 c2_i32_52
  let v89 : BitVec 32 := Scalar.addi v87 v88
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_53 : BitVec 32 := 1#32
  let v90 : BitVec 32 := Scalar.muli v9 c1_i32_53
  let v91 : BitVec 32 := Scalar.addi v89 v90
  v91.toNat
def k0_dev2 (d0 : Dev nD) : Nat :=
  let c0_i32_61 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_60 : BitVec 32 := 4#32
  let v98 : BitVec 32 := Scalar.muli v10 c4_i32_60
  let v99 : BitVec 32 := Scalar.addi c0_i32_61 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v100 : BitVec 32 := Scalar.muli v5 c2_i32_62
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v102 : BitVec 32 := Scalar.muli v8 c1_i32_63
  let v103 : BitVec 32 := Scalar.addi v101 v102
  v103.toNat
def k0_dev3 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v110 : BitVec 32 := Scalar.muli v2 c4_i32_70
  let v111 : BitVec 32 := Scalar.addi c0_i32_71 v110
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_72 : BitVec 32 := 2#32
  let v112 : BitVec 32 := Scalar.muli v11 c2_i32_72
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v114 : BitVec 32 := Scalar.muli v8 c1_i32_73
  let v115 : BitVec 32 := Scalar.addi v113 v114
  v115.toNat
def k0_dev4 (d0 : Dev nD) : Nat :=
  let c0_i32_80 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_79 : BitVec 32 := 4#32
  let v122 : BitVec 32 := Scalar.muli v12 c4_i32_79
  let v123 : BitVec 32 := Scalar.addi c0_i32_80 v122
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_81 : BitVec 32 := 2#32
  let v124 : BitVec 32 := Scalar.muli v13 c2_i32_81
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v126 : BitVec 32 := Scalar.muli v8 c1_i32_82
  let v127 : BitVec 32 := Scalar.addi v125 v126
  v127.toNat
def k0_dev5 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v134 : BitVec 32 := Scalar.muli v2 c4_i32_89
  let v135 : BitVec 32 := Scalar.addi c0_i32_90 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v136 : BitVec 32 := Scalar.muli v5 c2_i32_91
  let v137 : BitVec 32 := Scalar.addi v135 v136
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_92 : BitVec 32 := 1#32
  let v138 : BitVec 32 := Scalar.muli v9 c1_i32_92
  let v139 : BitVec 32 := Scalar.addi v137 v138
  v139.toNat
def k0_dev6 (d0 : Dev nD) : Nat :=
  let c0_i32_100 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_99 : BitVec 32 := 4#32
  let v146 : BitVec 32 := Scalar.muli v10 c4_i32_99
  let v147 : BitVec 32 := Scalar.addi c0_i32_100 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v148 : BitVec 32 := Scalar.muli v5 c2_i32_101
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v150 : BitVec 32 := Scalar.muli v8 c1_i32_102
  let v151 : BitVec 32 := Scalar.addi v149 v150
  v151.toNat
def k0_dev7 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v158 : BitVec 32 := Scalar.muli v2 c4_i32_109
  let v159 : BitVec 32 := Scalar.addi c0_i32_110 v158
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_111 : BitVec 32 := 2#32
  let v160 : BitVec 32 := Scalar.muli v11 c2_i32_111
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v162 : BitVec 32 := Scalar.muli v8 c1_i32_112
  let v163 : BitVec 32 := Scalar.addi v161 v162
  v163.toNat
def k0_dev8 (d0 : Dev nD) : Nat :=
  let c0_i32_120 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_119 : BitVec 32 := 4#32
  let v170 : BitVec 32 := Scalar.muli v12 c4_i32_119
  let v171 : BitVec 32 := Scalar.addi c0_i32_120 v170
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_121 : BitVec 32 := 2#32
  let v172 : BitVec 32 := Scalar.muli v13 c2_i32_121
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v174 : BitVec 32 := Scalar.muli v8 c1_i32_122
  let v175 : BitVec 32 := Scalar.addi v173 v174
  v175.toNat
def k0_dev9 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v182 : BitVec 32 := Scalar.muli v2 c4_i32_129
  let v183 : BitVec 32 := Scalar.addi c0_i32_130 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v184 : BitVec 32 := Scalar.muli v5 c2_i32_131
  let v185 : BitVec 32 := Scalar.addi v183 v184
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_132 : BitVec 32 := 1#32
  let v186 : BitVec 32 := Scalar.muli v9 c1_i32_132
  let v187 : BitVec 32 := Scalar.addi v185 v186
  v187.toNat
def k0_dev10 (d0 : Dev nD) : Nat :=
  let c0_i32_140 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_139 : BitVec 32 := 4#32
  let v194 : BitVec 32 := Scalar.muli v10 c4_i32_139
  let v195 : BitVec 32 := Scalar.addi c0_i32_140 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v196 : BitVec 32 := Scalar.muli v5 c2_i32_141
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v198 : BitVec 32 := Scalar.muli v8 c1_i32_142
  let v199 : BitVec 32 := Scalar.addi v197 v198
  v199.toNat
def k0_dev11 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v206 : BitVec 32 := Scalar.muli v2 c4_i32_149
  let v207 : BitVec 32 := Scalar.addi c0_i32_150 v206
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_151 : BitVec 32 := 2#32
  let v208 : BitVec 32 := Scalar.muli v11 c2_i32_151
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v210 : BitVec 32 := Scalar.muli v8 c1_i32_152
  let v211 : BitVec 32 := Scalar.addi v209 v210
  v211.toNat
def k0_dev12 (d0 : Dev nD) : Nat :=
  let c0_i32_160 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_159 : BitVec 32 := 4#32
  let v218 : BitVec 32 := Scalar.muli v12 c4_i32_159
  let v219 : BitVec 32 := Scalar.addi c0_i32_160 v218
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_161 : BitVec 32 := 2#32
  let v220 : BitVec 32 := Scalar.muli v13 c2_i32_161
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v222 : BitVec 32 := Scalar.muli v8 c1_i32_162
  let v223 : BitVec 32 := Scalar.addi v221 v222
  v223.toNat
def k0_off4 (d0 : Dev nD) : Fin 3 → Nat :=
  let c4_i32_165 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v230 : BitVec 32 := Scalar.muli c4_i32_165 v10
  let c2_i32_166 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v231 : BitVec 32 := Scalar.muli c2_i32_166 v5
  let v232 : BitVec 32 := Scalar.addi v230 v231
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v233 : BitVec 32 := Scalar.addi v232 v8
  let c0_i32_175 : BitVec 32 := 0#32
  let c0_i32_176 : BitVec 32 := 0#32
  ![v233.toNat, 0, 0]
def k0_dev13 (d0 : Dev nD) : Nat :=
  let c0_i32_186 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_185 : BitVec 32 := 4#32
  let v250 : BitVec 32 := Scalar.muli v2 c4_i32_185
  let v251 : BitVec 32 := Scalar.addi c0_i32_186 v250
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_187 : BitVec 32 := 2#32
  let v252 : BitVec 32 := Scalar.muli v5 c2_i32_187
  let v253 : BitVec 32 := Scalar.addi v251 v252
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_188 : BitVec 32 := 1#32
  let v254 : BitVec 32 := Scalar.muli v9 c1_i32_188
  let v255 : BitVec 32 := Scalar.addi v253 v254
  v255.toNat
def k0_off5 (d0 : Dev nD) : Fin 3 → Nat :=
  let c4_i32_193 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v264 : BitVec 32 := Scalar.muli c4_i32_193 v10
  let c2_i32_194 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v265 : BitVec 32 := Scalar.muli c2_i32_194 v5
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v267 : BitVec 32 := Scalar.addi v266 v8
  let c0_i32_203 : BitVec 32 := 0#32
  let c0_i32_204 : BitVec 32 := 0#32
  ![v267.toNat, 0, 0]
def k0_dev14 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_213 : BitVec 32 := 4#32
  let v284 : BitVec 32 := Scalar.muli v2 c4_i32_213
  let v285 : BitVec 32 := Scalar.addi c0_i32_214 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v286 : BitVec 32 := Scalar.muli v5 c2_i32_215
  let v287 : BitVec 32 := Scalar.addi v285 v286
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_216 : BitVec 32 := 1#32
  let v288 : BitVec 32 := Scalar.muli v9 c1_i32_216
  let v289 : BitVec 32 := Scalar.addi v287 v288
  v289.toNat
def k0_off6 (d0 : Dev nD) : Fin 3 → Nat :=
  let c4_i32_221 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v298 : BitVec 32 := Scalar.muli c4_i32_221 v10
  let c2_i32_222 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v299 : BitVec 32 := Scalar.muli c2_i32_222 v5
  let v300 : BitVec 32 := Scalar.addi v298 v299
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v301 : BitVec 32 := Scalar.addi v300 v8
  let c0_i32_231 : BitVec 32 := 0#32
  let c0_i32_232 : BitVec 32 := 0#32
  ![v301.toNat, 0, 0]
def k0_dev15 (d0 : Dev nD) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_241 : BitVec 32 := 4#32
  let v318 : BitVec 32 := Scalar.muli v2 c4_i32_241
  let v319 : BitVec 32 := Scalar.addi c0_i32_242 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v320 : BitVec 32 := Scalar.muli v5 c2_i32_243
  let v321 : BitVec 32 := Scalar.addi v319 v320
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_244 : BitVec 32 := 1#32
  let v322 : BitVec 32 := Scalar.muli v9 c1_i32_244
  let v323 : BitVec 32 := Scalar.addi v321 v322
  v323.toNat
def k0_off7 (d0 : Dev nD) : Fin 3 → Nat :=
  let c4_i32_249 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v332 : BitVec 32 := Scalar.muli c4_i32_249 v2
  let c2_i32_250 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v333 : BitVec 32 := Scalar.muli c2_i32_250 v11
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v335 : BitVec 32 := Scalar.addi v334 v8
  let c0_i32_259 : BitVec 32 := 0#32
  let c0_i32_260 : BitVec 32 := 0#32
  ![v335.toNat, 0, 0]
def k0_dev16 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v352 : BitVec 32 := Scalar.muli v2 c4_i32_268
  let v353 : BitVec 32 := Scalar.addi c0_i32_269 v352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v354 : BitVec 32 := Scalar.muli v5 c2_i32_270
  let v355 : BitVec 32 := Scalar.addi v353 v354
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_271 : BitVec 32 := 1#32
  let v356 : BitVec 32 := Scalar.muli v9 c1_i32_271
  let v357 : BitVec 32 := Scalar.addi v355 v356
  v357.toNat
def k0_off8 (d0 : Dev nD) : Fin 3 → Nat :=
  let c4_i32_276 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v366 : BitVec 32 := Scalar.muli c4_i32_276 v2
  let c2_i32_277 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v367 : BitVec 32 := Scalar.muli c2_i32_277 v11
  let v368 : BitVec 32 := Scalar.addi v366 v367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v369 : BitVec 32 := Scalar.addi v368 v8
  let c0_i32_286 : BitVec 32 := 0#32
  let c0_i32_287 : BitVec 32 := 0#32
  ![v369.toNat, 0, 0]
def k0_dev17 (d0 : Dev nD) : Nat :=
  let c0_i32_297 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_296 : BitVec 32 := 4#32
  let v386 : BitVec 32 := Scalar.muli v2 c4_i32_296
  let v387 : BitVec 32 := Scalar.addi c0_i32_297 v386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_298 : BitVec 32 := 2#32
  let v388 : BitVec 32 := Scalar.muli v5 c2_i32_298
  let v389 : BitVec 32 := Scalar.addi v387 v388
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_299 : BitVec 32 := 1#32
  let v390 : BitVec 32 := Scalar.muli v9 c1_i32_299
  let v391 : BitVec 32 := Scalar.addi v389 v390
  v391.toNat
def k0_off9 (d0 : Dev nD) : Fin 3 → Nat :=
  let c4_i32_304 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v400 : BitVec 32 := Scalar.muli c4_i32_304 v2
  let c2_i32_305 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v401 : BitVec 32 := Scalar.muli c2_i32_305 v11
  let v402 : BitVec 32 := Scalar.addi v400 v401
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v403 : BitVec 32 := Scalar.addi v402 v8
  let c0_i32_314 : BitVec 32 := 0#32
  let c0_i32_315 : BitVec 32 := 0#32
  ![v403.toNat, 0, 0]
def k0_dev18 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v420 : BitVec 32 := Scalar.muli v2 c4_i32_324
  let v421 : BitVec 32 := Scalar.addi c0_i32_325 v420
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_326 : BitVec 32 := 2#32
  let v422 : BitVec 32 := Scalar.muli v5 c2_i32_326
  let v423 : BitVec 32 := Scalar.addi v421 v422
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_327 : BitVec 32 := 1#32
  let v424 : BitVec 32 := Scalar.muli v9 c1_i32_327
  let v425 : BitVec 32 := Scalar.addi v423 v424
  v425.toNat
def k0_off10 (d0 : Dev nD) : Fin 3 → Nat :=
  let c4_i32_332 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v434 : BitVec 32 := Scalar.muli c4_i32_332 v12
  let c2_i32_333 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v435 : BitVec 32 := Scalar.muli c2_i32_333 v13
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v437 : BitVec 32 := Scalar.addi v436 v8
  let c0_i32_342 : BitVec 32 := 0#32
  let c0_i32_343 : BitVec 32 := 0#32
  ![v437.toNat, 0, 0]
def k0_dev19 (d0 : Dev nD) : Nat :=
  let c0_i32_352 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_351 : BitVec 32 := 4#32
  let v454 : BitVec 32 := Scalar.muli v2 c4_i32_351
  let v455 : BitVec 32 := Scalar.addi c0_i32_352 v454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_353 : BitVec 32 := 2#32
  let v456 : BitVec 32 := Scalar.muli v5 c2_i32_353
  let v457 : BitVec 32 := Scalar.addi v455 v456
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_354 : BitVec 32 := 1#32
  let v458 : BitVec 32 := Scalar.muli v9 c1_i32_354
  let v459 : BitVec 32 := Scalar.addi v457 v458
  v459.toNat
def k0_off11 (d0 : Dev nD) : Fin 3 → Nat :=
  let c4_i32_359 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v468 : BitVec 32 := Scalar.muli c4_i32_359 v12
  let c2_i32_360 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v469 : BitVec 32 := Scalar.muli c2_i32_360 v13
  let v470 : BitVec 32 := Scalar.addi v468 v469
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v471 : BitVec 32 := Scalar.addi v470 v8
  let c0_i32_369 : BitVec 32 := 0#32
  let c0_i32_370 : BitVec 32 := 0#32
  ![v471.toNat, 0, 0]
def k0_dev20 (d0 : Dev nD) : Nat :=
  let c0_i32_380 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_379 : BitVec 32 := 4#32
  let v488 : BitVec 32 := Scalar.muli v2 c4_i32_379
  let v489 : BitVec 32 := Scalar.addi c0_i32_380 v488
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_381 : BitVec 32 := 2#32
  let v490 : BitVec 32 := Scalar.muli v5 c2_i32_381
  let v491 : BitVec 32 := Scalar.addi v489 v490
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_382 : BitVec 32 := 1#32
  let v492 : BitVec 32 := Scalar.muli v9 c1_i32_382
  let v493 : BitVec 32 := Scalar.addi v491 v492
  v493.toNat
def k0_off12 (d0 : Dev nD) : Fin 3 → Nat :=
  let c4_i32_387 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v502 : BitVec 32 := Scalar.muli c4_i32_387 v12
  let c2_i32_388 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v503 : BitVec 32 := Scalar.muli c2_i32_388 v13
  let v504 : BitVec 32 := Scalar.addi v502 v503
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v505 : BitVec 32 := Scalar.addi v504 v8
  let c0_i32_397 : BitVec 32 := 0#32
  let c0_i32_398 : BitVec 32 := 0#32
  ![v505.toNat, 0, 0]
def k0_dev21 (d0 : Dev nD) : Nat :=
  let c0_i32_408 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_407 : BitVec 32 := 4#32
  let v522 : BitVec 32 := Scalar.muli v2 c4_i32_407
  let v523 : BitVec 32 := Scalar.addi c0_i32_408 v522
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_409 : BitVec 32 := 2#32
  let v524 : BitVec 32 := Scalar.muli v5 c2_i32_409
  let v525 : BitVec 32 := Scalar.addi v523 v524
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_410 : BitVec 32 := 1#32
  let v526 : BitVec 32 := Scalar.muli v9 c1_i32_410
  let v527 : BitVec 32 := Scalar.addi v525 v526
  v527.toNat
def k0_off13 (d0 : Dev nD) : Fin 3 → Nat :=
  let c4_i32_415 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v536 : BitVec 32 := Scalar.muli c4_i32_415 v2
  let c2_i32_416 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v537 : BitVec 32 := Scalar.muli c2_i32_416 v5
  let v538 : BitVec 32 := Scalar.addi v536 v537
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v539 : BitVec 32 := Scalar.addi v538 v9
  let c0_i32_425 : BitVec 32 := 0#32
  let c0_i32_426 : BitVec 32 := 0#32
  ![v539.toNat, 0, 0]
def k0_off14 (d0 : Dev nD) : Fin 3 → Nat :=
  let c4_i32_430 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v553 : BitVec 32 := Scalar.muli c4_i32_430 v10
  let c2_i32_431 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v554 : BitVec 32 := Scalar.muli c2_i32_431 v5
  let v555 : BitVec 32 := Scalar.addi v553 v554
  let c1_i32_429 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v552 : BitVec 32 := Scalar.subi c1_i32_429 v8
  let v556 : BitVec 32 := Scalar.addi v555 v552
  let c0_i32_440 : BitVec 32 := 0#32
  let c0_i32_441 : BitVec 32 := 0#32
  ![v556.toNat, 0, 0]
def k0_off15 (d0 : Dev nD) : Fin 3 → Nat :=
  let c4_i32_445 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v570 : BitVec 32 := Scalar.muli c4_i32_445 v2
  let c2_i32_446 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v571 : BitVec 32 := Scalar.muli c2_i32_446 v11
  let v572 : BitVec 32 := Scalar.addi v570 v571
  let c1_i32_444 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v569 : BitVec 32 := Scalar.subi c1_i32_444 v8
  let v573 : BitVec 32 := Scalar.addi v572 v569
  let c0_i32_455 : BitVec 32 := 0#32
  let c0_i32_456 : BitVec 32 := 0#32
  ![v573.toNat, 0, 0]
def k0_off16 (d0 : Dev nD) : Fin 3 → Nat :=
  let c4_i32_460 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v587 : BitVec 32 := Scalar.muli c4_i32_460 v12
  let c2_i32_461 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v588 : BitVec 32 := Scalar.muli c2_i32_461 v13
  let v589 : BitVec 32 := Scalar.addi v587 v588
  let c1_i32_459 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v586 : BitVec 32 := Scalar.subi c1_i32_459 v8
  let v590 : BitVec 32 := Scalar.addi v589 v586
  let c0_i32_470 : BitVec 32 := 0#32
  let c0_i32_471 : BitVec 32 := 0#32
  ![v590.toNat, 0, 0]
def k0_off17 (d0 : Dev nD) : Fin 3 → Nat :=
  let c4_i32_474 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v603 : BitVec 32 := Scalar.muli c4_i32_474 v2
  let c2_i32_475 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v604 : BitVec 32 := Scalar.muli c2_i32_475 v5
  let v605 : BitVec 32 := Scalar.addi v603 v604
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v606 : BitVec 32 := Scalar.addi v605 v9
  let c0_i32_484 : BitVec 32 := 0#32
  let c0_i32_485 : BitVec 32 := 0#32
  ![v606.toNat, 0, 0]
def k0_off18 (d0 : Dev nD) : Fin 3 → Nat :=
  let c4_i32_489 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v620 : BitVec 32 := Scalar.muli c4_i32_489 v10
  let c2_i32_490 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v621 : BitVec 32 := Scalar.muli c2_i32_490 v5
  let v622 : BitVec 32 := Scalar.addi v620 v621
  let c1_i32_488 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v619 : BitVec 32 := Scalar.subi c1_i32_488 v8
  let v623 : BitVec 32 := Scalar.addi v622 v619
  let c0_i32_499 : BitVec 32 := 0#32
  let c0_i32_500 : BitVec 32 := 0#32
  ![v623.toNat, 0, 0]
def k0_off19 (d0 : Dev nD) : Fin 3 → Nat :=
  let c4_i32_504 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v637 : BitVec 32 := Scalar.muli c4_i32_504 v2
  let c2_i32_505 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v638 : BitVec 32 := Scalar.muli c2_i32_505 v11
  let v639 : BitVec 32 := Scalar.addi v637 v638
  let c1_i32_503 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v636 : BitVec 32 := Scalar.subi c1_i32_503 v8
  let v640 : BitVec 32 := Scalar.addi v639 v636
  let c0_i32_514 : BitVec 32 := 0#32
  let c0_i32_515 : BitVec 32 := 0#32
  ![v640.toNat, 0, 0]
def k0_off20 (d0 : Dev nD) : Fin 3 → Nat :=
  let c4_i32_519 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v654 : BitVec 32 := Scalar.muli c4_i32_519 v12
  let c2_i32_520 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v655 : BitVec 32 := Scalar.muli c2_i32_520 v13
  let v656 : BitVec 32 := Scalar.addi v654 v655
  let c1_i32_518 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v653 : BitVec 32 := Scalar.subi c1_i32_518 v8
  let v657 : BitVec 32 := Scalar.addi v656 v653
  let c0_i32_529 : BitVec 32 := 0#32
  let c0_i32_530 : BitVec 32 := 0#32
  ![v657.toNat, 0, 0]
def k0_off21 (d0 : Dev nD) : Fin 3 → Nat :=
  let c4_i32_533 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v670 : BitVec 32 := Scalar.muli c4_i32_533 v2
  let c2_i32_534 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v671 : BitVec 32 := Scalar.muli c2_i32_534 v5
  let v672 : BitVec 32 := Scalar.addi v670 v671
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v673 : BitVec 32 := Scalar.addi v672 v9
  let c0_i32_543 : BitVec 32 := 0#32
  let c0_i32_544 : BitVec 32 := 0#32
  ![v673.toNat, 0, 0]
def k0_off22 (d0 : Dev nD) : Fin 3 → Nat :=
  let c4_i32_548 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v687 : BitVec 32 := Scalar.muli c4_i32_548 v10
  let c2_i32_549 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v688 : BitVec 32 := Scalar.muli c2_i32_549 v5
  let v689 : BitVec 32 := Scalar.addi v687 v688
  let c1_i32_547 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v686 : BitVec 32 := Scalar.subi c1_i32_547 v8
  let v690 : BitVec 32 := Scalar.addi v689 v686
  let c0_i32_558 : BitVec 32 := 0#32
  let c0_i32_559 : BitVec 32 := 0#32
  ![v690.toNat, 0, 0]
def k0_off23 (d0 : Dev nD) : Fin 3 → Nat :=
  let c4_i32_563 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v704 : BitVec 32 := Scalar.muli c4_i32_563 v2
  let c2_i32_564 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v705 : BitVec 32 := Scalar.muli c2_i32_564 v11
  let v706 : BitVec 32 := Scalar.addi v704 v705
  let c1_i32_562 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v703 : BitVec 32 := Scalar.subi c1_i32_562 v8
  let v707 : BitVec 32 := Scalar.addi v706 v703
  let c0_i32_573 : BitVec 32 := 0#32
  let c0_i32_574 : BitVec 32 := 0#32
  ![v707.toNat, 0, 0]
def k0_off24 (d0 : Dev nD) : Fin 3 → Nat :=
  let c4_i32_578 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v721 : BitVec 32 := Scalar.muli c4_i32_578 v12
  let c2_i32_579 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v722 : BitVec 32 := Scalar.muli c2_i32_579 v13
  let v723 : BitVec 32 := Scalar.addi v721 v722
  let c1_i32_577 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v720 : BitVec 32 := Scalar.subi c1_i32_577 v8
  let v724 : BitVec 32 := Scalar.addi v723 v720
  let c0_i32_588 : BitVec 32 := 0#32
  let c0_i32_589 : BitVec 32 := 0#32
  ![v724.toNat, 0, 0]
-- ==== Reference.lean ====
abbrev S1024x5136 : Shape := ⟨2, ![1024, 5136]⟩
abbrev S2048x1024 : Shape := ⟨2, ![2048, 1024]⟩
abbrev S4x1536 : Shape := ⟨2, ![4, 1536]⟩
abbrev S1024x642 : Shape := ⟨2, ![1024, 642]⟩
abbrev S1x1024x642 : Shape := ⟨3, ![1, 1024, 642]⟩
abbrev S8x1024x642 : Shape := ⟨3, ![8, 1024, 642]⟩
abbrev S256x1024 : Shape := ⟨2, ![256, 1024]⟩
abbrev S1x256x1024 : Shape := ⟨3, ![1, 256, 1024]⟩
abbrev S8x256x1024 : Shape := ⟨3, ![8, 256, 1024]⟩
abbrev S4x192 : Shape := ⟨2, ![4, 192]⟩
abbrev S1x4x192 : Shape := ⟨3, ![1, 4, 192]⟩
abbrev S8x4x192 : Shape := ⟨3, ![8, 4, 192]⟩

abbrev nBuf : Space → Nat
  | .hbm => 54
  | .vmem => 0
  | .smem => 0
  | _ => 0

abbrev bufTy : (tb : Table) → Fin (tcTables nBuf tb) → BufTy
  | .hbm, ⟨0, _⟩ => ⟨S1024x5136, .bf16⟩
  | .hbm, ⟨1, _⟩ => ⟨S2048x1024, .bf16⟩
  | .hbm, ⟨2, _⟩ => ⟨S4x1536, .f32⟩
  | .hbm, ⟨3, _⟩ => ⟨S1024x642, .bf16⟩
  | .hbm, ⟨4, _⟩ => ⟨S1024x642, .bf16⟩
  | .hbm, ⟨5, _⟩ => ⟨S1024x642, .bf16⟩
  | .hbm, ⟨6, _⟩ => ⟨S1024x642, .bf16⟩
  | .hbm, ⟨7, _⟩ => ⟨S1024x642, .bf16⟩
  | .hbm, ⟨8, _⟩ => ⟨S1024x642, .bf16⟩
  | .hbm, ⟨9, _⟩ => ⟨S1024x642, .bf16⟩
  | .hbm, ⟨10, _⟩ => ⟨S1024x642, .bf16⟩
  | .hbm, ⟨11, _⟩ => ⟨S1x1024x642, .bf16⟩
  | .hbm, ⟨12, _⟩ => ⟨S1x1024x642, .bf16⟩
  | .hbm, ⟨13, _⟩ => ⟨S1x1024x642, .bf16⟩
  | .hbm, ⟨14, _⟩ => ⟨S1x1024x642, .bf16⟩
  | .hbm, ⟨15, _⟩ => ⟨S1x1024x642, .bf16⟩
  | .hbm, ⟨16, _⟩ => ⟨S1x1024x642, .bf16⟩
  | .hbm, ⟨17, _⟩ => ⟨S1x1024x642, .bf16⟩
  | .hbm, ⟨18, _⟩ => ⟨S1x1024x642, .bf16⟩
  | .hbm, ⟨19, _⟩ => ⟨S8x1024x642, .bf16⟩
  | .hbm, ⟨20, _⟩ => ⟨S256x1024, .bf16⟩
  | .hbm, ⟨21, _⟩ => ⟨S256x1024, .bf16⟩
  | .hbm, ⟨22, _⟩ => ⟨S256x1024, .bf16⟩
  | .hbm, ⟨23, _⟩ => ⟨S256x1024, .bf16⟩
  | .hbm, ⟨24, _⟩ => ⟨S256x1024, .bf16⟩
  | .hbm, ⟨25, _⟩ => ⟨S256x1024, .bf16⟩
  | .hbm, ⟨26, _⟩ => ⟨S256x1024, .bf16⟩
  | .hbm, ⟨27, _⟩ => ⟨S256x1024, .bf16⟩
  | .hbm, ⟨28, _⟩ => ⟨S1x256x1024, .bf16⟩
  | .hbm, ⟨29, _⟩ => ⟨S1x256x1024, .bf16⟩
  | .hbm, ⟨30, _⟩ => ⟨S1x256x1024, .bf16⟩
  | .hbm, ⟨31, _⟩ => ⟨S1x256x1024, .bf16⟩
  | .hbm, ⟨32, _⟩ => ⟨S1x256x1024, .bf16⟩
  | .hbm, ⟨33, _⟩ => ⟨S1x256x1024, .bf16⟩
  | .hbm, ⟨34, _⟩ => ⟨S1x256x1024, .bf16⟩
  | .hbm, ⟨35, _⟩ => ⟨S1x256x1024, .bf16⟩
  | .hbm, ⟨36, _⟩ => ⟨S8x256x1024, .bf16⟩
  | .hbm, ⟨37, _⟩ => ⟨S4x192, .f32⟩
  | .hbm, ⟨38, _⟩ => ⟨S4x192, .f32⟩
  | .hbm, ⟨39, _⟩ => ⟨S4x192, .f32⟩
  | .hbm, ⟨40, _⟩ => ⟨S4x192, .f32⟩
  | .hbm, ⟨41, _⟩ => ⟨S4x192, .f32⟩
  | .hbm, ⟨42, _⟩ => ⟨S4x192, .f32⟩
  | .hbm, ⟨43, _⟩ => ⟨S4x192, .f32⟩
  | .hbm, ⟨44, _⟩ => ⟨S4x192, .f32⟩
  | .hbm, ⟨45, _⟩ => ⟨S1x4x192, .f32⟩
  | .hbm, ⟨46, _⟩ => ⟨S1x4x192, .f32⟩
  | .hbm, ⟨47, _⟩ => ⟨S1x4x192, .f32⟩
  | .hbm, ⟨48, _⟩ => ⟨S1x4x192, .f32⟩
  | .hbm, ⟨49, _⟩ => ⟨S1x4x192, .f32⟩
  | .hbm, ⟨50, _⟩ => ⟨S1x4x192, .f32⟩
  | .hbm, ⟨51, _⟩ => ⟨S1x4x192, .f32⟩
  | .hbm, ⟨52, _⟩ => ⟨S1x4x192, .f32⟩
  | .hbm, ⟨53, _⟩ => ⟨S8x4x192, .f32⟩
  | _, _ => ⟨S1024x5136, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩

abbrev nD : Nat := 1
abbrev τ : Topo := Topo.v7x

variable {F : FTy → Type} [FloatOps F]
-- ==== Exchange.lean ====
abbrev S8x1024x642 : Shape := ⟨3, ![8, 1024, 642]⟩
abbrev S8x256x1024 : Shape := ⟨3, ![8, 256, 1024]⟩
abbrev S96x128 : Shape := ⟨2, ![96, 128]⟩
abbrev S7x1024x642 : Shape := ⟨3, ![7, 1024, 642]⟩
abbrev S7x256x1024 : Shape := ⟨3, ![7, 256, 1024]⟩
abbrev S8x96x128 : Shape := ⟨3, ![8, 96, 128]⟩
abbrev S3x7 : Shape := ⟨2, ![3, 7]⟩
abbrev S_ : Shape := ⟨0, ![]⟩
abbrev S1x96x128 : Shape := ⟨3, ![1, 96, 128]⟩
abbrev S1x1 : Shape := ⟨2, ![1, 1]⟩
abbrev S1x1024x642 : Shape := ⟨3, ![1, 1024, 642]⟩
abbrev S1024x642 : Shape := ⟨2, ![1024, 642]⟩
abbrev S1x256x1024 : Shape := ⟨3, ![1, 256, 1024]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x1024x642, .bf16⟩
  | .hbm, ⟨1, _⟩ => ⟨S8x256x1024, .bf16⟩
  | .hbm, ⟨2, _⟩ => ⟨S96x128, .f32⟩
  | .hbm, ⟨3, _⟩ => ⟨S7x1024x642, .bf16⟩
  | .hbm, ⟨4, _⟩ => ⟨S7x256x1024, .bf16⟩
  | .hbm, ⟨5, _⟩ => ⟨S8x96x128, .f32⟩
  | _, _ => ⟨S8x1024x642, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_17 : BitVec 32 := 0#32
  ![v12.toNat, 0, 0]
def k0_off2 (d0 : Dev nD) : Fin 3 → Nat :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.muli c4_i32_18 v2
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.muli c2_i32_19 v5
  let v29 : BitVec 32 := Scalar.addi v27 v28
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v30 : BitVec 32 := Scalar.addi v29 v13
  let c0_i32_33 : BitVec 32 := 0#32
  let c0_i32_34 : BitVec 32 := 0#32
  ![v30.toNat, 0, 0]
def k0_dev1 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v35 : BitVec 32 := Scalar.muli v2 c4_i32_27
  let v36 : BitVec 32 := Scalar.addi c0_i32_28 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v37 : BitVec 32 := Scalar.muli v5 c2_i32_29
  let v38 : BitVec 32 := Scalar.addi v36 v37
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_30 : BitVec 32 := 1#32
  let v39 : BitVec 32 := Scalar.muli v13 c1_i32_30
  let v40 : BitVec 32 := Scalar.addi v38 v39
  v40.toNat
def k0_off3 (d0 : Dev nD) : Fin 3 → Nat :=
  let c4_i32_20 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c4_i32_20 v2
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.muli c2_i32_21 v5
  let v33 : BitVec 32 := Scalar.addi v31 v32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v34 : BitVec 32 := Scalar.addi v33 v13
  let c0_i32_46 : BitVec 32 := 0#32
  let c0_i32_47 : BitVec 32 := 0#32
  ![v34.toNat, 0, 0]
def k0_dev2 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v49 : BitVec 32 := Scalar.muli v2 c4_i32_40
  let v50 : BitVec 32 := Scalar.addi c0_i32_41 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v51 : BitVec 32 := Scalar.muli v5 c2_i32_42
  let v52 : BitVec 32 := Scalar.addi v50 v51
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_43 : BitVec 32 := 1#32
  let v53 : BitVec 32 := Scalar.muli v13 c1_i32_43
  let v54 : BitVec 32 := Scalar.addi v52 v53
  v54.toNat
def k0_dev3 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_52 : BitVec 32 := 4#32
  let v63 : BitVec 32 := Scalar.muli v2 c4_i32_52
  let v64 : BitVec 32 := Scalar.addi c0_i32_53 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v65 : BitVec 32 := Scalar.muli v5 c2_i32_54
  let v66 : BitVec 32 := Scalar.addi v64 v65
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_55 : BitVec 32 := 1#32
  let v67 : BitVec 32 := Scalar.muli v13 c1_i32_55
  let v68 : BitVec 32 := Scalar.addi v66 v67
  v68.toNat
def k0_off4 (d0 : Dev nD) : Fin 3 → Nat :=
  let c4_i32_58 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.muli c4_i32_58 v2
  let c2_i32_59 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v76 : BitVec 32 := Scalar.muli c2_i32_59 v14
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.addi v77 v8
  let c0_i32_73 : BitVec 32 := 0#32
  let c0_i32_74 : BitVec 32 := 0#32
  ![v78.toNat, 0, 0]
def k0_dev4 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_67 : BitVec 32 := 4#32
  let v83 : BitVec 32 := Scalar.muli v2 c4_i32_67
  let v84 : BitVec 32 := Scalar.addi c0_i32_68 v83
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_69 : BitVec 32 := 2#32
  let v85 : BitVec 32 := Scalar.muli v14 c2_i32_69
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v87 : BitVec 32 := Scalar.muli v8 c1_i32_70
  let v88 : BitVec 32 := Scalar.addi v86 v87
  v88.toNat
def k0_off5 (d0 : Dev nD) : Fin 3 → Nat :=
  let c4_i32_60 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v79 : BitVec 32 := Scalar.muli c4_i32_60 v2
  let c2_i32_61 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v80 : BitVec 32 := Scalar.muli c2_i32_61 v14
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v82 : BitVec 32 := Scalar.addi v81 v8
  let c0_i32_86 : BitVec 32 := 0#32
  let c0_i32_87 : BitVec 32 := 0#32
  ![v82.toNat, 0, 0]
def k0_dev5 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v97 : BitVec 32 := Scalar.muli v2 c4_i32_80
  let v98 : BitVec 32 := Scalar.addi c0_i32_81 v97
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_82 : BitVec 32 := 2#32
  let v99 : BitVec 32 := Scalar.muli v14 c2_i32_82
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v101 : BitVec 32 := Scalar.muli v8 c1_i32_83
  let v102 : BitVec 32 := Scalar.addi v100 v101
  v102.toNat
def k0_dev6 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_92 : BitVec 32 := 4#32
  let v111 : BitVec 32 := Scalar.muli v2 c4_i32_92
  let v112 : BitVec 32 := Scalar.addi c0_i32_93 v111
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_94 : BitVec 32 := 2#32
  let v113 : BitVec 32 := Scalar.muli v14 c2_i32_94
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v115 : BitVec 32 := Scalar.muli v8 c1_i32_95
  let v116 : BitVec 32 := Scalar.addi v114 v115
  v116.toNat
def k0_off6 (d0 : Dev nD) : Fin 3 → Nat :=
  let c4_i32_98 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v123 : BitVec 32 := Scalar.muli c4_i32_98 v2
  let c2_i32_99 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v124 : BitVec 32 := Scalar.muli c2_i32_99 v15
  let v125 : BitVec 32 := Scalar.addi v123 v124
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let v126 : BitVec 32 := Scalar.addi v125 v16
  let c0_i32_113 : BitVec 32 := 0#32
  let c0_i32_114 : BitVec 32 := 0#32
  ![v126.toNat, 0, 0]
def k0_dev7 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v131 : BitVec 32 := Scalar.muli v2 c4_i32_107
  let v132 : BitVec 32 := Scalar.addi c0_i32_108 v131
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_109 : BitVec 32 := 2#32
  let v133 : BitVec 32 := Scalar.muli v15 c2_i32_109
  let v134 : BitVec 32 := Scalar.addi v132 v133
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let c1_i32_110 : BitVec 32 := 1#32
  let v135 : BitVec 32 := Scalar.muli v16 c1_i32_110
  let v136 : BitVec 32 := Scalar.addi v134 v135
  v136.toNat
def k0_off7 (d0 : Dev nD) : Fin 3 → Nat :=
  let c4_i32_100 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v127 : BitVec 32 := Scalar.muli c4_i32_100 v2
  let c2_i32_101 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v128 : BitVec 32 := Scalar.muli c2_i32_101 v15
  let v129 : BitVec 32 := Scalar.addi v127 v128
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let v130 : BitVec 32 := Scalar.addi v129 v16
  let c0_i32_126 : BitVec 32 := 0#32
  let c0_i32_127 : BitVec 32 := 0#32
  ![v130.toNat, 0, 0]
def k0_dev8 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_120 : BitVec 32 := 4#32
  let v145 : BitVec 32 := Scalar.muli v2 c4_i32_120
  let v146 : BitVec 32 := Scalar.addi c0_i32_121 v145
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_122 : BitVec 32 := 2#32
  let v147 : BitVec 32 := Scalar.muli v15 c2_i32_122
  let v148 : BitVec 32 := Scalar.addi v146 v147
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let c1_i32_123 : BitVec 32 := 1#32
  let v149 : BitVec 32 := Scalar.muli v16 c1_i32_123
  let v150 : BitVec 32 := Scalar.addi v148 v149
  v150.toNat
def k0_dev9 (d0 : Dev nD) : Nat :=
  let c0_i32_133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_132 : BitVec 32 := 4#32
  let v159 : BitVec 32 := Scalar.muli v2 c4_i32_132
  let v160 : BitVec 32 := Scalar.addi c0_i32_133 v159
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_134 : BitVec 32 := 2#32
  let v161 : BitVec 32 := Scalar.muli v15 c2_i32_134
  let v162 : BitVec 32 := Scalar.addi v160 v161
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let c1_i32_135 : BitVec 32 := 1#32
  let v163 : BitVec 32 := Scalar.muli v16 c1_i32_135
  let v164 : BitVec 32 := Scalar.addi v162 v163
  v164.toNat
def k0_off8 (d0 : Dev nD) : Fin 3 → Nat :=
  let c4_i32_138 : BitVec 32 := 4#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v171 : BitVec 32 := Scalar.muli c4_i32_138 v17
  let c2_i32_139 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v172 : BitVec 32 := Scalar.muli c2_i32_139 v5
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v174 : BitVec 32 := Scalar.addi v173 v8
  let c0_i32_152 : BitVec 32 := 0#32
  let c0_i32_153 : BitVec 32 := 0#32
  ![v174.toNat, 0, 0]
def k0_dev10 (d0 : Dev nD) : Nat :=
  let c0_i32_147 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_146 : BitVec 32 := 4#32
  let v179 : BitVec 32 := Scalar.muli v17 c4_i32_146
  let v180 : BitVec 32 := Scalar.addi c0_i32_147 v179
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v181 : BitVec 32 := Scalar.muli v5 c2_i32_148
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v183 : BitVec 32 := Scalar.muli v8 c1_i32_149
  let v184 : BitVec 32 := Scalar.addi v182 v183
  v184.toNat
def k0_off9 (d0 : Dev nD) : Fin 3 → Nat :=
  let c4_i32_140 : BitVec 32 := 4#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v175 : BitVec 32 := Scalar.muli c4_i32_140 v17
  let c2_i32_141 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v176 : BitVec 32 := Scalar.muli c2_i32_141 v5
  let v177 : BitVec 32 := Scalar.addi v175 v176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v178 : BitVec 32 := Scalar.addi v177 v8
  let c0_i32_165 : BitVec 32 := 0#32
  let c0_i32_166 : BitVec 32 := 0#32
  ![v178.toNat, 0, 0]
def k0_dev11 (d0 : Dev nD) : Nat :=
  let c0_i32_160 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_159 : BitVec 32 := 4#32
  let v193 : BitVec 32 := Scalar.muli v17 c4_i32_159
  let v194 : BitVec 32 := Scalar.addi c0_i32_160 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v195 : BitVec 32 := Scalar.muli v5 c2_i32_161
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v197 : BitVec 32 := Scalar.muli v8 c1_i32_162
  let v198 : BitVec 32 := Scalar.addi v196 v197
  v198.toNat
def k0_dev12 (d0 : Dev nD) : Nat :=
  let c0_i32_172 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_171 : BitVec 32 := 4#32
  let v207 : BitVec 32 := Scalar.muli v17 c4_i32_171
  let v208 : BitVec 32 := Scalar.addi c0_i32_172 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v209 : BitVec 32 := Scalar.muli v5 c2_i32_173
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v211 : BitVec 32 := Scalar.muli v8 c1_i32_174
  let v212 : BitVec 32 := Scalar.addi v210 v211
  v212.toNat
def k0_off10 (d0 : Dev nD) : Fin 3 → Nat :=
  let c4_i32_177 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let v219 : BitVec 32 := Scalar.muli c4_i32_177 v18
  let c2_i32_178 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v220 : BitVec 32 := Scalar.muli c2_i32_178 v5
  let v221 : BitVec 32 := Scalar.addi v219 v220
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let v222 : BitVec 32 := Scalar.addi v221 v19
  let c0_i32_192 : BitVec 32 := 0#32
  let c0_i32_193 : BitVec 32 := 0#32
  ![v222.toNat, 0, 0]
def k0_dev13 (d0 : Dev nD) : Nat :=
  let c0_i32_187 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let c4_i32_186 : BitVec 32 := 4#32
  let v227 : BitVec 32 := Scalar.muli v18 c4_i32_186
  let v228 : BitVec 32 := Scalar.addi c0_i32_187 v227
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_188 : BitVec 32 := 2#32
  let v229 : BitVec 32 := Scalar.muli v5 c2_i32_188
  let v230 : BitVec 32 := Scalar.addi v228 v229
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let c1_i32_189 : BitVec 32 := 1#32
  let v231 : BitVec 32 := Scalar.muli v19 c1_i32_189
  let v232 : BitVec 32 := Scalar.addi v230 v231
  v232.toNat
def k0_off11 (d0 : Dev nD) : Fin 3 → Nat :=
  let c4_i32_179 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let v223 : BitVec 32 := Scalar.muli c4_i32_179 v18
  let c2_i32_180 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v224 : BitVec 32 := Scalar.muli c2_i32_180 v5
  let v225 : BitVec 32 := Scalar.addi v223 v224
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let v226 : BitVec 32 := Scalar.addi v225 v19
  let c0_i32_205 : BitVec 32 := 0#32
  let c0_i32_206 : BitVec 32 := 0#32
  ![v226.toNat, 0, 0]
def k0_dev14 (d0 : Dev nD) : Nat :=
  let c0_i32_200 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let c4_i32_199 : BitVec 32 := 4#32
  let v241 : BitVec 32 := Scalar.muli v18 c4_i32_199
  let v242 : BitVec 32 := Scalar.addi c0_i32_200 v241
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_201 : BitVec 32 := 2#32
  let v243 : BitVec 32 := Scalar.muli v5 c2_i32_201
  let v244 : BitVec 32 := Scalar.addi v242 v243
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let c1_i32_202 : BitVec 32 := 1#32
  let v245 : BitVec 32 := Scalar.muli v19 c1_i32_202
  let v246 : BitVec 32 := Scalar.addi v244 v245
  v246.toNat
def k0_dev15 (d0 : Dev nD) : Nat :=
  let c0_i32_212 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let c4_i32_211 : BitVec 32 := 4#32
  let v255 : BitVec 32 := Scalar.muli v18 c4_i32_211
  let v256 : BitVec 32 := Scalar.addi c0_i32_212 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v257 : BitVec 32 := Scalar.muli v5 c2_i32_213
  let v258 : BitVec 32 := Scalar.addi v256 v257
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let c1_i32_214 : BitVec 32 := 1#32
  let v259 : BitVec 32 := Scalar.muli v19 c1_i32_214
  let v260 : BitVec 32 := Scalar.addi v258 v259
  v260.toNat
def k0_off12 (d0 : Dev nD) : Fin 3 → Nat :=
  let c4_i32_217 : BitVec 32 := 4#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let v267 : BitVec 32 := Scalar.muli c4_i32_217 v20
  let c2_i32_218 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let v268 : BitVec 32 := Scalar.muli c2_i32_218 v21
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v270 : BitVec 32 := Scalar.addi v269 v8
  let c0_i32_231 : BitVec 32 := 0#32
  let c0_i32_232 : BitVec 32 := 0#32
  ![v270.toNat, 0, 0]
def k0_dev16 (d0 : Dev nD) : Nat :=
  let c0_i32_226 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let c4_i32_225 : BitVec 32 := 4#32
  let v275 : BitVec 32 := Scalar.muli v20 c4_i32_225
  let v276 : BitVec 32 := Scalar.addi c0_i32_226 v275
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let c2_i32_227 : BitVec 32 := 2#32
  let v277 : BitVec 32 := Scalar.muli v21 c2_i32_227
  let v278 : BitVec 32 := Scalar.addi v276 v277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_228 : BitVec 32 := 1#32
  let v279 : BitVec 32 := Scalar.muli v8 c1_i32_228
  let v280 : BitVec 32 := Scalar.addi v278 v279
  v280.toNat
def k0_off13 (d0 : Dev nD) : Fin 3 → Nat :=
  let c4_i32_219 : BitVec 32 := 4#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let v271 : BitVec 32 := Scalar.muli c4_i32_219 v20
  let c2_i32_220 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let v272 : BitVec 32 := Scalar.muli c2_i32_220 v21
  let v273 : BitVec 32 := Scalar.addi v271 v272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v274 : BitVec 32 := Scalar.addi v273 v8
  let c0_i32_244 : BitVec 32 := 0#32
  let c0_i32_245 : BitVec 32 := 0#32
  ![v274.toNat, 0, 0]
def k0_dev17 (d0 : Dev nD) : Nat :=
  let c0_i32_239 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let c4_i32_238 : BitVec 32 := 4#32
  let v289 : BitVec 32 := Scalar.muli v20 c4_i32_238
  let v290 : BitVec 32 := Scalar.addi c0_i32_239 v289
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let c2_i32_240 : BitVec 32 := 2#32
  let v291 : BitVec 32 := Scalar.muli v21 c2_i32_240
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_241 : BitVec 32 := 1#32
  let v293 : BitVec 32 := Scalar.muli v8 c1_i32_241
  let v294 : BitVec 32 := Scalar.addi v292 v293
  v294.toNat
def k0_dev18 (d0 : Dev nD) : Nat :=
  let c0_i32_251 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let c4_i32_250 : BitVec 32 := 4#32
  let v303 : BitVec 32 := Scalar.muli v20 c4_i32_250
  let v304 : BitVec 32 := Scalar.addi c0_i32_251 v303
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let c2_i32_252 : BitVec 32 := 2#32
  let v305 : BitVec 32 := Scalar.muli v21 c2_i32_252
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_253 : BitVec 32 := 1#32
  let v307 : BitVec 32 := Scalar.muli v8 c1_i32_253
  let v308 : BitVec 32 := Scalar.addi v306 v307
  v308.toNat
def k0_off14 (d0 : Dev nD) : Fin 3 → Nat :=
  let c4_i32_256 : BitVec 32 := 4#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let v315 : BitVec 32 := Scalar.muli c4_i32_256 v22
  let c2_i32_257 : BitVec 32 := 2#32
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let v316 : BitVec 32 := Scalar.muli c2_i32_257 v23
  let v317 : BitVec 32 := Scalar.addi v315 v316
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let v318 : BitVec 32 := Scalar.addi v317 v24
  let c0_i32_270 : BitVec 32 := 0#32
  let c0_i32_271 : BitVec 32 := 0#32
  ![v318.toNat, 0, 0]
def k0_dev19 (d0 : Dev nD) : Nat :=
  let c0_i32_265 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let c4_i32_264 : BitVec 32 := 4#32
  let v323 : BitVec 32 := Scalar.muli v22 c4_i32_264
  let v324 : BitVec 32 := Scalar.addi c0_i32_265 v323
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let c2_i32_266 : BitVec 32 := 2#32
  let v325 : BitVec 32 := Scalar.muli v23 c2_i32_266
  let v326 : BitVec 32 := Scalar.addi v324 v325
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let c1_i32_267 : BitVec 32 := 1#32
  let v327 : BitVec 32 := Scalar.muli v24 c1_i32_267
  let v328 : BitVec 32 := Scalar.addi v326 v327
  v328.toNat
def k0_off15 (d0 : Dev nD) : Fin 3 → Nat :=
  let c4_i32_258 : BitVec 32 := 4#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let v319 : BitVec 32 := Scalar.muli c4_i32_258 v22
  let c2_i32_259 : BitVec 32 := 2#32
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let v320 : BitVec 32 := Scalar.muli c2_i32_259 v23
  let v321 : BitVec 32 := Scalar.addi v319 v320
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let v322 : BitVec 32 := Scalar.addi v321 v24
  let c0_i32_283 : BitVec 32 := 0#32
  let c0_i32_284 : BitVec 32 := 0#32
  ![v322.toNat, 0, 0]
def k0_dev20 (d0 : Dev nD) : Nat :=
  let c0_i32_278 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let c4_i32_277 : BitVec 32 := 4#32
  let v337 : BitVec 32 := Scalar.muli v22 c4_i32_277
  let v338 : BitVec 32 := Scalar.addi c0_i32_278 v337
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let c2_i32_279 : BitVec 32 := 2#32
  let v339 : BitVec 32 := Scalar.muli v23 c2_i32_279
  let v340 : BitVec 32 := Scalar.addi v338 v339
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let c1_i32_280 : BitVec 32 := 1#32
  let v341 : BitVec 32 := Scalar.muli v24 c1_i32_280
  let v342 : BitVec 32 := Scalar.addi v340 v341
  v342.toNat
def k0_dev21 (d0 : Dev nD) : Nat :=
  let c0_i32_290 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let c4_i32_289 : BitVec 32 := 4#32
  let v351 : BitVec 32 := Scalar.muli v22 c4_i32_289
  let v352 : BitVec 32 := Scalar.addi c0_i32_290 v351
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let c2_i32_291 : BitVec 32 := 2#32
  let v353 : BitVec 32 := Scalar.muli v23 c2_i32_291
  let v354 : BitVec 32 := Scalar.addi v352 v353
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let c1_i32_292 : BitVec 32 := 1#32
  let v355 : BitVec 32 := Scalar.muli v24 c1_i32_292
  let v356 : BitVec 32 := Scalar.addi v354 v355
  v356.toNat
def k0_off16 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_308 : BitVec 32 := 0#32
  let c0_i32_309 : BitVec 32 := 0#32
  ![v12.toNat, 0, 0]
def k0_off17 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_321 : BitVec 32 := 0#32
  let c0_i32_322 : BitVec 32 := 0#32
  ![v12.toNat, 0, 0]
def k0_off18 (d0 : Dev nD) : Fin 3 → Nat :=
  let c4_i32_295 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v363 : BitVec 32 := Scalar.muli c4_i32_295 v2
  let c2_i32_296 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v364 : BitVec 32 := Scalar.muli c2_i32_296 v5
  let v365 : BitVec 32 := Scalar.addi v363 v364
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v366 : BitVec 32 := Scalar.addi v365 v13
  let c0_i32_331 : BitVec 32 := 0#32
  let c0_i32_332 : BitVec 32 := 0#32
  ![v366.toNat, 0, 0]
def k0_off19 (d0 : Dev nD) : Fin 3 → Nat :=
  let c4_i32_333 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v401 : BitVec 32 := Scalar.muli c4_i32_333 v2
  let c2_i32_334 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v402 : BitVec 32 := Scalar.muli c2_i32_334 v14
  let v403 : BitVec 32 := Scalar.addi v401 v402
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v404 : BitVec 32 := Scalar.addi v403 v8
  let c0_i32_369 : BitVec 32 := 0#32
  let c0_i32_370 : BitVec 32 := 0#32
  ![v404.toNat, 0, 0]
def k0_off20 (d0 : Dev nD) : Fin 3 → Nat :=
  let c4_i32_371 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v439 : BitVec 32 := Scalar.muli c4_i32_371 v2
  let c2_i32_372 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v440 : BitVec 32 := Scalar.muli c2_i32_372 v15
  let v441 : BitVec 32 := Scalar.addi v439 v440
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let v442 : BitVec 32 := Scalar.addi v441 v16
  let c0_i32_407 : BitVec 32 := 0#32
  let c0_i32_408 : BitVec 32 := 0#32
  ![v442.toNat, 0, 0]
def k0_off21 (d0 : Dev nD) : Fin 3 → Nat :=
  let c4_i32_409 : BitVec 32 := 4#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v477 : BitVec 32 := Scalar.muli c4_i32_409 v17
  let c2_i32_410 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v478 : BitVec 32 := Scalar.muli c2_i32_410 v5
  let v479 : BitVec 32 := Scalar.addi v477 v478
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v480 : BitVec 32 := Scalar.addi v479 v8
  let c0_i32_445 : BitVec 32 := 0#32
  let c0_i32_446 : BitVec 32 := 0#32
  ![v480.toNat, 0, 0]
def k0_off22 (d0 : Dev nD) : Fin 3 → Nat :=
  let c4_i32_447 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let v515 : BitVec 32 := Scalar.muli c4_i32_447 v18
  let c2_i32_448 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v516 : BitVec 32 := Scalar.muli c2_i32_448 v5
  let v517 : BitVec 32 := Scalar.addi v515 v516
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let v518 : BitVec 32 := Scalar.addi v517 v19
  let c0_i32_483 : BitVec 32 := 0#32
  let c0_i32_484 : BitVec 32 := 0#32
  ![v518.toNat, 0, 0]
def k0_off23 (d0 : Dev nD) : Fin 3 → Nat :=
  let c4_i32_485 : BitVec 32 := 4#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let v553 : BitVec 32 := Scalar.muli c4_i32_485 v20
  let c2_i32_486 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let v554 : BitVec 32 := Scalar.muli c2_i32_486 v21
  let v555 : BitVec 32 := Scalar.addi v553 v554
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v556 : BitVec 32 := Scalar.addi v555 v8
  let c0_i32_521 : BitVec 32 := 0#32
  let c0_i32_522 : BitVec 32 := 0#32
  ![v556.toNat, 0, 0]
def k0_off24 (d0 : Dev nD) : Fin 3 → Nat :=
  let c4_i32_523 : BitVec 32 := 4#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let v591 : BitVec 32 := Scalar.muli c4_i32_523 v22
  let c2_i32_524 : BitVec 32 := 2#32
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let v592 : BitVec 32 := Scalar.muli c2_i32_524 v23
  let v593 : BitVec 32 := Scalar.addi v591 v592
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let v594 : BitVec 32 := Scalar.addi v593 v24
  let c0_i32_559 : BitVec 32 := 0#32
  let c0_i32_560 : BitVec 32 := 0#32
  ![v594.toNat, 0, 0]
-- ==== Exchanged.lean ====
abbrev S64x1024x642 : Shape := ⟨3, ![64, 1024, 642]⟩
abbrev S64x256x1024 : Shape := ⟨3, ![64, 256, 1024]⟩
abbrev S768x128 : Shape := ⟨2, ![768, 128]⟩
abbrev S1x1024x642 : Shape := ⟨3, ![1, 1024, 642]⟩
abbrev S1024x642 : Shape := ⟨2, ![1024, 642]⟩
abbrev S16x1024x642 : Shape := ⟨3, ![16, 1024, 642]⟩
abbrev S8x1024x642 : Shape := ⟨3, ![8, 1024, 642]⟩
abbrev S56x1024x642 : Shape := ⟨3, ![56, 1024, 642]⟩
abbrev S1x256x1024 : Shape := ⟨3, ![1, 256, 1024]⟩
abbrev S256x1024 : Shape := ⟨2, ![256, 1024]⟩
abbrev S16x256x1024 : Shape := ⟨3, ![16, 256, 1024]⟩
abbrev S8x256x1024 : Shape := ⟨3, ![8, 256, 1024]⟩
abbrev S56x256x1024 : Shape := ⟨3, ![56, 256, 1024]⟩
abbrev S8x96x128 : Shape := ⟨3, ![8, 96, 128]⟩

abbrev nBuf : Space → Nat
  | .hbm => 350
  | .vmem => 0
  | .smem => 0
  | _ => 0

abbrev hbmTy0_0 (i : Nat) : BufTy := match i % 128 with
  | 0 => ⟨S64x1024x642, .bf16⟩
  | 1 => ⟨S64x256x1024, .bf16⟩
  | 2 => ⟨S768x128, .f32⟩
  | 3 => ⟨S1x1024x642, .bf16⟩
  | 4 => ⟨S1024x642, .bf16⟩
  | 5 => ⟨S1x1024x642, .bf16⟩
  | 6 => ⟨S1024x642, .bf16⟩
  | 7 => ⟨S1x1024x642, .bf16⟩
  | 8 => ⟨S1024x642, .bf16⟩
  | 9 => ⟨S1x1024x642, .bf16⟩
  | 10 => ⟨S1024x642, .bf16⟩
  | 11 => ⟨S1x1024x642, .bf16⟩
  | 12 => ⟨S1024x642, .bf16⟩
  | 13 => ⟨S1x1024x642, .bf16⟩
  | 14 => ⟨S1024x642, .bf16⟩
  | 15 => ⟨S1x1024x642, .bf16⟩
  | 16 => ⟨S1024x642, .bf16⟩
  | 17 => ⟨S1x1024x642, .bf16⟩
  | 18 => ⟨S1024x642, .bf16⟩
  | 19 => ⟨S1x1024x642, .bf16⟩
  | 20 => ⟨S1024x642, .bf16⟩
  | 21 => ⟨S1x1024x642, .bf16⟩
  | 22 => ⟨S1024x642, .bf16⟩
  | 23 => ⟨S1x1024x642, .bf16⟩
  | 24 => ⟨S1024x642, .bf16⟩
  | 25 => ⟨S1x1024x642, .bf16⟩
  | 26 => ⟨S1024x642, .bf16⟩
  | 27 => ⟨S1x1024x642, .bf16⟩
  | 28 => ⟨S1024x642, .bf16⟩
  | 29 => ⟨S1x1024x642, .bf16⟩
  | 30 => ⟨S1024x642, .bf16⟩
  | 31 => ⟨S1x1024x642, .bf16⟩
  | 32 => ⟨S1024x642, .bf16⟩
  | 33 => ⟨S1x1024x642, .bf16⟩
  | 34 => ⟨S1024x642, .bf16⟩
  | 35 => ⟨S1x1024x642, .bf16⟩
  | 36 => ⟨S1024x642, .bf16⟩
  | 37 => ⟨S1x1024x642, .bf16⟩
  | 38 => ⟨S1024x642, .bf16⟩
  | 39 => ⟨S1x1024x642, .bf16⟩
  | 40 => ⟨S1024x642, .bf16⟩
  | 41 => ⟨S1x1024x642, .bf16⟩
  | 42 => ⟨S1024x642, .bf16⟩
  | 43 => ⟨S1x1024x642, .bf16⟩
  | 44 => ⟨S1024x642, .bf16⟩
  | 45 => ⟨S1x1024x642, .bf16⟩
  | 46 => ⟨S1024x642, .bf16⟩
  | 47 => ⟨S1x1024x642, .bf16⟩
  | 48 => ⟨S1024x642, .bf16⟩
  | 49 => ⟨S1x1024x642, .bf16⟩
  | 50 => ⟨S1024x642, .bf16⟩
  | 51 => ⟨S1x1024x642, .bf16⟩
  | 52 => ⟨S1024x642, .bf16⟩
  | 53 => ⟨S1x1024x642, .bf16⟩
  | 54 => ⟨S1024x642, .bf16⟩
  | 55 => ⟨S1x1024x642, .bf16⟩
  | 56 => ⟨S1024x642, .bf16⟩
  | 57 => ⟨S1x1024x642, .bf16⟩
  | 58 => ⟨S1024x642, .bf16⟩
  | 59 => ⟨S1x1024x642, .bf16⟩
  | 60 => ⟨S1024x642, .bf16⟩
  | 61 => ⟨S1x1024x642, .bf16⟩
  | 62 => ⟨S1024x642, .bf16⟩
  | 63 => ⟨S1x1024x642, .bf16⟩
  | 64 => ⟨S1024x642, .bf16⟩
  | 65 => ⟨S1x1024x642, .bf16⟩
  | 66 => ⟨S1024x642, .bf16⟩
  | 67 => ⟨S1x1024x642, .bf16⟩
  | 68 => ⟨S1024x642, .bf16⟩
  | 69 => ⟨S1x1024x642, .bf16⟩
  | 70 => ⟨S1024x642, .bf16⟩
  | 71 => ⟨S1x1024x642, .bf16⟩
  | 72 => ⟨S1024x642, .bf16⟩
  | 73 => ⟨S1x1024x642, .bf16⟩
  | 74 => ⟨S1024x642, .bf16⟩
  | 75 => ⟨S1x1024x642, .bf16⟩
  | 76 => ⟨S1024x642, .bf16⟩
  | 77 => ⟨S1x1024x642, .bf16⟩
  | 78 => ⟨S1024x642, .bf16⟩
  | 79 => ⟨S1x1024x642, .bf16⟩
  | 80 => ⟨S1024x642, .bf16⟩
  | 81 => ⟨S1x1024x642, .bf16⟩
  | 82 => ⟨S1024x642, .bf16⟩
  | 83 => ⟨S1x1024x642, .bf16⟩
  | 84 => ⟨S1024x642, .bf16⟩
  | 85 => ⟨S1x1024x642, .bf16⟩
  | 86 => ⟨S1024x642, .bf16⟩
  | 87 => ⟨S1x1024x642, .bf16⟩
  | 88 => ⟨S1024x642, .bf16⟩
  | 89 => ⟨S1x1024x642, .bf16⟩
  | 90 => ⟨S1024x642, .bf16⟩
  | 91 => ⟨S1x1024x642, .bf16⟩
  | 92 => ⟨S1024x642, .bf16⟩
  | 93 => ⟨S1x1024x642, .bf16⟩
  | 94 => ⟨S1024x642, .bf16⟩
  | 95 => ⟨S1x1024x642, .bf16⟩
  | 96 => ⟨S1024x642, .bf16⟩
  | 97 => ⟨S1x1024x642, .bf16⟩
  | 98 => ⟨S1024x642, .bf16⟩
  | 99 => ⟨S1x1024x642, .bf16⟩
  | 100 => ⟨S1024x642, .bf16⟩
  | 101 => ⟨S1x1024x642, .bf16⟩
  | 102 => ⟨S1024x642, .bf16⟩
  | 103 => ⟨S1x1024x642, .bf16⟩
  | 104 => ⟨S1024x642, .bf16⟩
  | 105 => ⟨S1x1024x642, .bf16⟩
  | 106 => ⟨S1024x642, .bf16⟩
  | 107 => ⟨S1x1024x642, .bf16⟩
  | 108 => ⟨S1024x642, .bf16⟩
  | 109 => ⟨S1x1024x642, .bf16⟩
  | 110 => ⟨S1024x642, .bf16⟩
  | 111 => ⟨S1x1024x642, .bf16⟩
  | 112 => ⟨S1024x642, .bf16⟩
  | 113 => ⟨S1x1024x642, .bf16⟩
  | 114 => ⟨S1024x642, .bf16⟩
  | 115 => ⟨S1x1024x642, .bf16⟩
  | 116 => ⟨S1x1024x642, .bf16⟩
  | 117 => ⟨S1x1024x642, .bf16⟩
  | 118 => ⟨S1x1024x642, .bf16⟩
  | 119 => ⟨S1x1024x642, .bf16⟩
  | 120 => ⟨S1x1024x642, .bf16⟩
  | 121 => ⟨S1x1024x642, .bf16⟩
  | 122 => ⟨S1x1024x642, .bf16⟩
  | 123 => ⟨S1x1024x642, .bf16⟩
  | 124 => ⟨S1x1024x642, .bf16⟩
  | 125 => ⟨S1x1024x642, .bf16⟩
  | 126 => ⟨S1x1024x642, .bf16⟩
  | 127 => ⟨S1x1024x642, .bf16⟩
  | _ => ⟨S64x1024x642, .bf16⟩

abbrev hbmTy0_1 (i : Nat) : BufTy := match i % 128 with
  | 0 => ⟨S1x1024x642, .bf16⟩
  | 1 => ⟨S1x1024x642, .bf16⟩
  | 2 => ⟨S1x1024x642, .bf16⟩
  | 3 => ⟨S1x1024x642, .bf16⟩
  | 4 => ⟨S1x1024x642, .bf16⟩
  | 5 => ⟨S1x1024x642, .bf16⟩
  | 6 => ⟨S1x1024x642, .bf16⟩
  | 7 => ⟨S1x1024x642, .bf16⟩
  | 8 => ⟨S1x1024x642, .bf16⟩
  | 9 => ⟨S1x1024x642, .bf16⟩
  | 10 => ⟨S1x1024x642, .bf16⟩
  | 11 => ⟨S1x1024x642, .bf16⟩
  | 12 => ⟨S1x1024x642, .bf16⟩
  | 13 => ⟨S1x1024x642, .bf16⟩
  | 14 => ⟨S1x1024x642, .bf16⟩
  | 15 => ⟨S1x1024x642, .bf16⟩
  | 16 => ⟨S1x1024x642, .bf16⟩
  | 17 => ⟨S1x1024x642, .bf16⟩
  | 18 => ⟨S1x1024x642, .bf16⟩
  | 19 => ⟨S1x1024x642, .bf16⟩
  | 20 => ⟨S1x1024x642, .bf16⟩
  | 21 => ⟨S1x1024x642, .bf16⟩
  | 22 => ⟨S1x1024x642, .bf16⟩
  | 23 => ⟨S1x1024x642, .bf16⟩
  | 24 => ⟨S1x1024x642, .bf16⟩
  | 25 => ⟨S1x1024x642, .bf16⟩
  | 26 => ⟨S1x1024x642, .bf16⟩
  | 27 => ⟨S1x1024x642, .bf16⟩
  | 28 => ⟨S1x1024x642, .bf16⟩
  | 29 => ⟨S1x1024x642, .bf16⟩
  | 30 => ⟨S1x1024x642, .bf16⟩
  | 31 => ⟨S1x1024x642, .bf16⟩
  | 32 => ⟨S1x1024x642, .bf16⟩
  | 33 => ⟨S1x1024x642, .bf16⟩
  | 34 => ⟨S1x1024x642, .bf16⟩
  | 35 => ⟨S1x1024x642, .bf16⟩
  | 36 => ⟨S1x1024x642, .bf16⟩
  | 37 => ⟨S1x1024x642, .bf16⟩
  | 38 => ⟨S1x1024x642, .bf16⟩
  | 39 => ⟨S1x1024x642, .bf16⟩
  | 40 => ⟨S1x1024x642, .bf16⟩
  | 41 => ⟨S1x1024x642, .bf16⟩
  | 42 => ⟨S1x1024x642, .bf16⟩
  | 43 => ⟨S16x1024x642, .bf16⟩
  | 44 => ⟨S16x1024x642, .bf16⟩
  | 45 => ⟨S16x1024x642, .bf16⟩
  | 46 => ⟨S8x1024x642, .bf16⟩
  | 47 => ⟨S56x1024x642, .bf16⟩
  | 48 => ⟨S1x256x1024, .bf16⟩
  | 49 => ⟨S256x1024, .bf16⟩
  | 50 => ⟨S1x256x1024, .bf16⟩
  | 51 => ⟨S256x1024, .bf16⟩
  | 52 => ⟨S1x256x1024, .bf16⟩
  | 53 => ⟨S256x1024, .bf16⟩
  | 54 => ⟨S1x256x1024, .bf16⟩
  | 55 => ⟨S256x1024, .bf16⟩
  | 56 => ⟨S1x256x1024, .bf16⟩
  | 57 => ⟨S256x1024, .bf16⟩
  | 58 => ⟨S1x256x1024, .bf16⟩
  | 59 => ⟨S256x1024, .bf16⟩
  | 60 => ⟨S1x256x1024, .bf16⟩
  | 61 => ⟨S256x1024, .bf16⟩
  | 62 => ⟨S1x256x1024, .bf16⟩
  | 63 => ⟨S256x1024, .bf16⟩
  | 64 => ⟨S1x256x1024, .bf16⟩
  | 65 => ⟨S256x1024, .bf16⟩
  | 66 => ⟨S1x256x1024, .bf16⟩
  | 67 => ⟨S256x1024, .bf16⟩
  | 68 => ⟨S1x256x1024, .bf16⟩
  | 69 => ⟨S256x1024, .bf16⟩
  | 70 => ⟨S1x256x1024, .bf16⟩
  | 71 => ⟨S256x1024, .bf16⟩
  | 72 => ⟨S1x256x1024, .bf16⟩
  | 73 => ⟨S256x1024, .bf16⟩
  | 74 => ⟨S1x256x1024, .bf16⟩
  | 75 => ⟨S256x1024, .bf16⟩
  | 76 => ⟨S1x256x1024, .bf16⟩
  | 77 => ⟨S256x1024, .bf16⟩
  | 78 => ⟨S1x256x1024, .bf16⟩
  | 79 => ⟨S256x1024, .bf16⟩
  | 80 => ⟨S1x256x1024, .bf16⟩
  | 81 => ⟨S256x1024, .bf16⟩
  | 82 => ⟨S1x256x1024, .bf16⟩
  | 83 => ⟨S256x1024, .bf16⟩
  | 84 => ⟨S1x256x1024, .bf16⟩
  | 85 => ⟨S256x1024, .bf16⟩
  | 86 => ⟨S1x256x1024, .bf16⟩
  | 87 => ⟨S256x1024, .bf16⟩
  | 88 => ⟨S1x256x1024, .bf16⟩
  | 89 => ⟨S256x1024, .bf16⟩
  | 90 => ⟨S1x256x1024, .bf16⟩
  | 91 => ⟨S256x1024, .bf16⟩
  | 92 => ⟨S1x256x1024, .bf16⟩
  | 93 => ⟨S256x1024, .bf16⟩
  | 94 => ⟨S1x256x1024, .bf16⟩
  | 95 => ⟨S256x1024, .bf16⟩
  | 96 => ⟨S1x256x1024, .bf16⟩
  | 97 => ⟨S256x1024, .bf16⟩
  | 98 => ⟨S1x256x1024, .bf16⟩
  | 99 => ⟨S256x1024, .bf16⟩
  | 100 => ⟨S1x256x1024, .bf16⟩
  | 101 => ⟨S256x1024, .bf16⟩
  | 102 => ⟨S1x256x1024, .bf16⟩
  | 103 => ⟨S256x1024, .bf16⟩
  | 104 => ⟨S1x256x1024, .bf16⟩
  | 105 => ⟨S256x1024, .bf16⟩
  | 106 => ⟨S1x256x1024, .bf16⟩
  | 107 => ⟨S256x1024, .bf16⟩
  | 108 => ⟨S1x256x1024, .bf16⟩
  | 109 => ⟨S256x1024, .bf16⟩
  | 110 => ⟨S1x256x1024, .bf16⟩
  | 111 => ⟨S256x1024, .bf16⟩
  | 112 => ⟨S1x256x1024, .bf16⟩
  | 113 => ⟨S256x1024, .bf16⟩
  | 114 => ⟨S1x256x1024, .bf16⟩
  | 115 => ⟨S256x1024, .bf16⟩
  | 116 => ⟨S1x256x1024, .bf16⟩
  | 117 => ⟨S256x1024, .bf16⟩
  | 118 => ⟨S1x256x1024, .bf16⟩
  | 119 => ⟨S256x1024, .bf16⟩
  | 120 => ⟨S1x256x1024, .bf16⟩
  | 121 => ⟨S256x1024, .bf16⟩
  | 122 => ⟨S1x256x1024, .bf16⟩
  | 123 => ⟨S256x1024, .bf16⟩
  | 124 => ⟨S1x256x1024, .bf16⟩
  | 125 => ⟨S256x1024, .bf16⟩
  | 126 => ⟨S1x256x1024, .bf16⟩
  | 127 => ⟨S256x1024, .bf16⟩
  | _ => ⟨S64x1024x642, .bf16⟩

abbrev hbmTy0_2 (i : Nat) : BufTy := match i % 128 with
  | 0 => ⟨S1x256x1024, .bf16⟩
  | 1 => ⟨S256x1024, .bf16⟩
  | 2 => ⟨S1x256x1024, .bf16⟩
  | 3 => ⟨S256x1024, .bf16⟩
  | 4 => ⟨S1x256x1024, .bf16⟩
  | 5 => ⟨S256x1024, .bf16⟩
  | 6 => ⟨S1x256x1024, .bf16⟩
  | 7 => ⟨S256x1024, .bf16⟩
  | 8 => ⟨S1x256x1024, .bf16⟩
  | 9 => ⟨S256x1024, .bf16⟩
  | 10 => ⟨S1x256x1024, .bf16⟩
  | 11 => ⟨S256x1024, .bf16⟩
  | 12 => ⟨S1x256x1024, .bf16⟩
  | 13 => ⟨S256x1024, .bf16⟩
  | 14 => ⟨S1x256x1024, .bf16⟩
  | 15 => ⟨S256x1024, .bf16⟩
  | 16 => ⟨S1x256x1024, .bf16⟩
  | 17 => ⟨S256x1024, .bf16⟩
  | 18 => ⟨S1x256x1024, .bf16⟩
  | 19 => ⟨S256x1024, .bf16⟩
  | 20 => ⟨S1x256x1024, .bf16⟩
  | 21 => ⟨S256x1024, .bf16⟩
  | 22 => ⟨S1x256x1024, .bf16⟩
  | 23 => ⟨S256x1024, .bf16⟩
  | 24 => ⟨S1x256x1024, .bf16⟩
  | 25 => ⟨S256x1024, .bf16⟩
  | 26 => ⟨S1x256x1024, .bf16⟩
  | 27 => ⟨S256x1024, .bf16⟩
  | 28 => ⟨S1x256x1024, .bf16⟩
  | 29 => ⟨S256x1024, .bf16⟩
  | 30 => ⟨S1x256x1024, .bf16⟩
  | 31 => ⟨S256x1024, .bf16⟩
  | 32 => ⟨S1x256x1024, .bf16⟩
  | 33 => ⟨S1x256x1024, .bf16⟩
  | 34 => ⟨S1x256x1024, .bf16⟩
  | 35 => ⟨S1x256x1024, .bf16⟩
  | 36 => ⟨S1x256x1024, .bf16⟩
  | 37 => ⟨S1x256x1024, .bf16⟩
  | 38 => ⟨S1x256x1024, .bf16⟩
  | 39 => ⟨S1x256x1024, .bf16⟩
  | 40 => ⟨S1x256x1024, .bf16⟩
  | 41 => ⟨S1x256x1024, .bf16⟩
  | 42 => ⟨S1x256x1024, .bf16⟩
  | 43 => ⟨S1x256x1024, .bf16⟩
  | 44 => ⟨S1x256x1024, .bf16⟩
  | 45 => ⟨S1x256x1024, .bf16⟩
  | 46 => ⟨S1x256x1024, .bf16⟩
  | 47 => ⟨S1x256x1024, .bf16⟩
  | 48 => ⟨S1x256x1024, .bf16⟩
  | 49 => ⟨S1x256x1024, .bf16⟩
  | 50 => ⟨S1x256x1024, .bf16⟩
  | 51 => ⟨S1x256x1024, .bf16⟩
  | 52 => ⟨S1x256x1024, .bf16⟩
  | 53 => ⟨S1x256x1024, .bf16⟩
  | 54 => ⟨S1x256x1024, .bf16⟩
  | 55 => ⟨S1x256x1024, .bf16⟩
  | 56 => ⟨S1x256x1024, .bf16⟩
  | 57 => ⟨S1x256x1024, .bf16⟩
  | 58 => ⟨S1x256x1024, .bf16⟩
  | 59 => ⟨S1x256x1024, .bf16⟩
  | 60 => ⟨S1x256x1024, .bf16⟩
  | 61 => ⟨S1x256x1024, .bf16⟩
  | 62 => ⟨S1x256x1024, .bf16⟩
  | 63 => ⟨S1x256x1024, .bf16⟩
  | 64 => ⟨S1x256x1024, .bf16⟩
  | 65 => ⟨S1x256x1024, .bf16⟩
  | 66 => ⟨S1x256x1024, .bf16⟩
  | 67 => ⟨S1x256x1024, .bf16⟩
  | 68 => ⟨S1x256x1024, .bf16⟩
  | 69 => ⟨S1x256x1024, .bf16⟩
  | 70 => ⟨S1x256x1024, .bf16⟩
  | 71 => ⟨S1x256x1024, .bf16⟩
  | 72 => ⟨S1x256x1024, .bf16⟩
  | 73 => ⟨S1x256x1024, .bf16⟩
  | 74 => ⟨S1x256x1024, .bf16⟩
  | 75 => ⟨S1x256x1024, .bf16⟩
  | 76 => ⟨S1x256x1024, .bf16⟩
  | 77 => ⟨S1x256x1024, .bf16⟩
  | 78 => ⟨S1x256x1024, .bf16⟩
  | 79 => ⟨S1x256x1024, .bf16⟩
  | 80 => ⟨S1x256x1024, .bf16⟩
  | 81 => ⟨S1x256x1024, .bf16⟩
  | 82 => ⟨S1x256x1024, .bf16⟩
  | 83 => ⟨S1x256x1024, .bf16⟩
  | 84 => ⟨S1x256x1024, .bf16⟩
  | 85 => ⟨S1x256x1024, .bf16⟩
  | 86 => ⟨S1x256x1024, .bf16⟩
  | 87 => ⟨S1x256x1024, .bf16⟩
  | 88 => ⟨S16x256x1024, .bf16⟩
  | 89 => ⟨S16x256x1024, .bf16⟩
  | 90 => ⟨S16x256x1024, .bf16⟩
  | 91 => ⟨S8x256x1024, .bf16⟩
  | 92 => ⟨S56x256x1024, .bf16⟩
  | 93 => ⟨S8x96x128, .f32⟩
  | _ => ⟨S64x1024x642, .bf16⟩

abbrev hbmTy (i : Nat) : BufTy := match i / 128 with
  | 0 => hbmTy0_0 i
  | 1 => hbmTy0_1 i
  | 2 => hbmTy0_2 i
  | _ => ⟨S64x1024x642, .bf16⟩

abbrev bufTy : (tb : Table) → Fin (tcTables nBuf tb) → BufTy
  | .hbm, ⟨i, _⟩ => hbmTy i
  | _, _ => ⟨S64x1024x642, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩
abbrev main_v176 : Ref sig .tc := ⟨.hbm, 179, rfl⟩
abbrev main_v177 : Ref sig .tc := ⟨.hbm, 180, rfl⟩
abbrev main_v178 : Ref sig .tc := ⟨.hbm, 181, rfl⟩
abbrev main_v179 : Ref sig .tc := ⟨.hbm, 182, rfl⟩
abbrev main_v180 : Ref sig .tc := ⟨.hbm, 183, rfl⟩
abbrev main_v181 : Ref sig .tc := ⟨.hbm, 184, rfl⟩
abbrev main_v182 : Ref sig .tc := ⟨.hbm, 185, rfl⟩
abbrev main_v183 : Ref sig .tc := ⟨.hbm, 186, rfl⟩
abbrev main_v184 : Ref sig .tc := ⟨.hbm, 187, rfl⟩
abbrev main_v185 : Ref sig .tc := ⟨.hbm, 188, rfl⟩
abbrev main_v186 : Ref sig .tc := ⟨.hbm, 189, rfl⟩
abbrev main_v187 : Ref sig .tc := ⟨.hbm, 190, rfl⟩
abbrev main_v188 : Ref sig .tc := ⟨.hbm, 191, rfl⟩
abbrev main_v189 : Ref sig .tc := ⟨.hbm, 192, rfl⟩
abbrev main_v190 : Ref sig .tc := ⟨.hbm, 193, rfl⟩
abbrev main_v191 : Ref sig .tc := ⟨.hbm, 194, rfl⟩
abbrev main_v192 : Ref sig .tc := ⟨.hbm, 195, rfl⟩
abbrev main_v193 : Ref sig .tc := ⟨.hbm, 196, rfl⟩
abbrev main_v194 : Ref sig .tc := ⟨.hbm, 197, rfl⟩
abbrev main_v195 : Ref sig .tc := ⟨.hbm, 198, rfl⟩
abbrev main_v196 : Ref sig .tc := ⟨.hbm, 199, rfl⟩
abbrev main_v197 : Ref sig .tc := ⟨.hbm, 200, rfl⟩
abbrev main_v198 : Ref sig .tc := ⟨.hbm, 201, rfl⟩
abbrev main_v199 : Ref sig .tc := ⟨.hbm, 202, rfl⟩
abbrev main_v200 : Ref sig .tc := ⟨.hbm, 203, rfl⟩
abbrev main_v201 : Ref sig .tc := ⟨.hbm, 204, rfl⟩
abbrev main_v202 : Ref sig .tc := ⟨.hbm, 205, rfl⟩
abbrev main_v203 : Ref sig .tc := ⟨.hbm, 206, rfl⟩
abbrev main_v204 : Ref sig .tc := ⟨.hbm, 207, rfl⟩
abbrev main_v205 : Ref sig .tc := ⟨.hbm, 208, rfl⟩
abbrev main_v206 : Ref sig .tc := ⟨.hbm, 209, rfl⟩
abbrev main_v207 : Ref sig .tc := ⟨.hbm, 210, rfl⟩
abbrev main_v208 : Ref sig .tc := ⟨.hbm, 211, rfl⟩
abbrev main_v209 : Ref sig .tc := ⟨.hbm, 212, rfl⟩
abbrev main_v210 : Ref sig .tc := ⟨.hbm, 213, rfl⟩
abbrev main_v211 : Ref sig .tc := ⟨.hbm, 214, rfl⟩
abbrev main_v212 : Ref sig .tc := ⟨.hbm, 215, rfl⟩
abbrev main_v213 : Ref sig .tc := ⟨.hbm, 216, rfl⟩
abbrev main_v214 : Ref sig .tc := ⟨.hbm, 217, rfl⟩
abbrev main_v215 : Ref sig .tc := ⟨.hbm, 218, rfl⟩
abbrev main_v216 : Ref sig .tc := ⟨.hbm, 219, rfl⟩
abbrev main_v217 : Ref sig .tc := ⟨.hbm, 220, rfl⟩
abbrev main_v218 : Ref sig .tc := ⟨.hbm, 221, rfl⟩
abbrev main_v219 : Ref sig .tc := ⟨.hbm, 222, rfl⟩
abbrev main_v220 : Ref sig .tc := ⟨.hbm, 223, rfl⟩
abbrev main_v221 : Ref sig .tc := ⟨.hbm, 224, rfl⟩
abbrev main_v222 : Ref sig .tc := ⟨.hbm, 225, rfl⟩
abbrev main_v223 : Ref sig .tc := ⟨.hbm, 226, rfl⟩
abbrev main_v224 : Ref sig .tc := ⟨.hbm, 227, rfl⟩
abbrev main_v225 : Ref sig .tc := ⟨.hbm, 228, rfl⟩
abbrev main_v226 : Ref sig .tc := ⟨.hbm, 229, rfl⟩
abbrev main_v227 : Ref sig .tc := ⟨.hbm, 230, rfl⟩
abbrev main_v228 : Ref sig .tc := ⟨.hbm, 231, rfl⟩
abbrev main_v229 : Ref sig .tc := ⟨.hbm, 232, rfl⟩
abbrev main_v230 : Ref sig .tc := ⟨.hbm, 233, rfl⟩
abbrev main_v231 : Ref sig .tc := ⟨.hbm, 234, rfl⟩
abbrev main_v232 : Ref sig .tc := ⟨.hbm, 235, rfl⟩
abbrev main_v233 : Ref sig .tc := ⟨.hbm, 236, rfl⟩
abbrev main_v234 : Ref sig .tc := ⟨.hbm, 237, rfl⟩
abbrev main_v235 : Ref sig .tc := ⟨.hbm, 238, rfl⟩
abbrev main_v236 : Ref sig .tc := ⟨.hbm, 239, rfl⟩
abbrev main_v237 : Ref sig .tc := ⟨.hbm, 240, rfl⟩
abbrev main_v238 : Ref sig .tc := ⟨.hbm, 241, rfl⟩
abbrev main_v239 : Ref sig .tc := ⟨.hbm, 242, rfl⟩
abbrev main_v240 : Ref sig .tc := ⟨.hbm, 243, rfl⟩
abbrev main_v241 : Ref sig .tc := ⟨.hbm, 244, rfl⟩
abbrev main_v242 : Ref sig .tc := ⟨.hbm, 245, rfl⟩
abbrev main_v243 : Ref sig .tc := ⟨.hbm, 246, rfl⟩
abbrev main_v244 : Ref sig .tc := ⟨.hbm, 247, rfl⟩
abbrev main_v245 : Ref sig .tc := ⟨.hbm, 248, rfl⟩
abbrev main_v246 : Ref sig .tc := ⟨.hbm, 249, rfl⟩
abbrev main_v247 : Ref sig .tc := ⟨.hbm, 250, rfl⟩
abbrev main_v248 : Ref sig .tc := ⟨.hbm, 251, rfl⟩
abbrev main_v249 : Ref sig .tc := ⟨.hbm, 252, rfl⟩
abbrev main_v250 : Ref sig .tc := ⟨.hbm, 253, rfl⟩
abbrev main_v251 : Ref sig .tc := ⟨.hbm, 254, rfl⟩
abbrev main_v252 : Ref sig .tc := ⟨.hbm, 255, rfl⟩
abbrev main_v253 : Ref sig .tc := ⟨.hbm, 256, rfl⟩
abbrev main_v254 : Ref sig .tc := ⟨.hbm, 257, rfl⟩
abbrev main_v255 : Ref sig .tc := ⟨.hbm, 258, rfl⟩
abbrev main_v256 : Ref sig .tc := ⟨.hbm, 259, rfl⟩
abbrev main_v257 : Ref sig .tc := ⟨.hbm, 260, rfl⟩
abbrev main_v258 : Ref sig .tc := ⟨.hbm, 261, rfl⟩
abbrev main_v259 : Ref sig .tc := ⟨.hbm, 262, rfl⟩
abbrev main_v260 : Ref sig .tc := ⟨.hbm, 263, rfl⟩
abbrev main_v261 : Ref sig .tc := ⟨.hbm, 264, rfl⟩
abbrev main_v262 : Ref sig .tc := ⟨.hbm, 265, rfl⟩
abbrev main_v263 : Ref sig .tc := ⟨.hbm, 266, rfl⟩
abbrev main_v264 : Ref sig .tc := ⟨.hbm, 267, rfl⟩
abbrev main_v265 : Ref sig .tc := ⟨.hbm, 268, rfl⟩
abbrev main_v266 : Ref sig .tc := ⟨.hbm, 269, rfl⟩
abbrev main_v267 : Ref sig .tc := ⟨.hbm, 270, rfl⟩
abbrev main_v268 : Ref sig .tc := ⟨.hbm, 271, rfl⟩
abbrev main_v269 : Ref sig .tc := ⟨.hbm, 272, rfl⟩
abbrev main_v270 : Ref sig .tc := ⟨.hbm, 273, rfl⟩
abbrev main_v271 : Ref sig .tc := ⟨.hbm, 274, rfl⟩
abbrev main_v272 : Ref sig .tc := ⟨.hbm, 275, rfl⟩
abbrev main_v273 : Ref sig .tc := ⟨.hbm, 276, rfl⟩
abbrev main_v274 : Ref sig .tc := ⟨.hbm, 277, rfl⟩
abbrev main_v275 : Ref sig .tc := ⟨.hbm, 278, rfl⟩
abbrev main_v276 : Ref sig .tc := ⟨.hbm, 279, rfl⟩
abbrev main_v277 : Ref sig .tc := ⟨.hbm, 280, rfl⟩
abbrev main_v278 : Ref sig .tc := ⟨.hbm, 281, rfl⟩
abbrev main_v279 : Ref sig .tc := ⟨.hbm, 282, rfl⟩
abbrev main_v280 : Ref sig .tc := ⟨.hbm, 283, rfl⟩
abbrev main_v281 : Ref sig .tc := ⟨.hbm, 284, rfl⟩
abbrev main_v282 : Ref sig .tc := ⟨.hbm, 285, rfl⟩
abbrev main_v283 : Ref sig .tc := ⟨.hbm, 286, rfl⟩
abbrev main_v284 : Ref sig .tc := ⟨.hbm, 287, rfl⟩
abbrev main_v285 : Ref sig .tc := ⟨.hbm, 288, rfl⟩
abbrev main_v286 : Ref sig .tc := ⟨.hbm, 289, rfl⟩
abbrev main_v287 : Ref sig .tc := ⟨.hbm, 290, rfl⟩
abbrev main_v288 : Ref sig .tc := ⟨.hbm, 291, rfl⟩
abbrev main_v289 : Ref sig .tc := ⟨.hbm, 292, rfl⟩
abbrev main_v290 : Ref sig .tc := ⟨.hbm, 293, rfl⟩
abbrev main_v291 : Ref sig .tc := ⟨.hbm, 294, rfl⟩
abbrev main_v292 : Ref sig .tc := ⟨.hbm, 295, rfl⟩
abbrev main_v293 : Ref sig .tc := ⟨.hbm, 296, rfl⟩
abbrev main_v294 : Ref sig .tc := ⟨.hbm, 297, rfl⟩
abbrev main_v295 : Ref sig .tc := ⟨.hbm, 298, rfl⟩
abbrev main_v296 : Ref sig .tc := ⟨.hbm, 299, rfl⟩
abbrev main_v297 : Ref sig .tc := ⟨.hbm, 300, rfl⟩
abbrev main_v298 : Ref sig .tc := ⟨.hbm, 301, rfl⟩
abbrev main_v299 : Ref sig .tc := ⟨.hbm, 302, rfl⟩
abbrev main_v300 : Ref sig .tc := ⟨.hbm, 303, rfl⟩
abbrev main_v301 : Ref sig .tc := ⟨.hbm, 304, rfl⟩
abbrev main_v302 : Ref sig .tc := ⟨.hbm, 305, rfl⟩
abbrev main_v303 : Ref sig .tc := ⟨.hbm, 306, rfl⟩
abbrev main_v304 : Ref sig .tc := ⟨.hbm, 307, rfl⟩
abbrev main_v305 : Ref sig .tc := ⟨.hbm, 308, rfl⟩
abbrev main_v306 : Ref sig .tc := ⟨.hbm, 309, rfl⟩
abbrev main_v307 : Ref sig .tc := ⟨.hbm, 310, rfl⟩
abbrev main_v308 : Ref sig .tc := ⟨.hbm, 311, rfl⟩
abbrev main_v309 : Ref sig .tc := ⟨.hbm, 312, rfl⟩
abbrev main_v310 : Ref sig .tc := ⟨.hbm, 313, rfl⟩
abbrev main_v311 : Ref sig .tc := ⟨.hbm, 314, rfl⟩
abbrev main_v312 : Ref sig .tc := ⟨.hbm, 315, rfl⟩
abbrev main_v313 : Ref sig .tc := ⟨.hbm, 316, rfl⟩
abbrev main_v314 : Ref sig .tc := ⟨.hbm, 317, rfl⟩
abbrev main_v315 : Ref sig .tc := ⟨.hbm, 318, rfl⟩
abbrev main_v316 : Ref sig .tc := ⟨.hbm, 319, rfl⟩
abbrev main_v317 : Ref sig .tc := ⟨.hbm, 320, rfl⟩
abbrev main_v318 : Ref sig .tc := ⟨.hbm, 321, rfl⟩
abbrev main_v319 : Ref sig .tc := ⟨.hbm, 322, rfl⟩
abbrev main_v320 : Ref sig .tc := ⟨.hbm, 323, rfl⟩
abbrev main_v321 : Ref sig .tc := ⟨.hbm, 324, rfl⟩
abbrev main_v322 : Ref sig .tc := ⟨.hbm, 325, rfl⟩
abbrev main_v323 : Ref sig .tc := ⟨.hbm, 326, rfl⟩
abbrev main_v324 : Ref sig .tc := ⟨.hbm, 327, rfl⟩
abbrev main_v325 : Ref sig .tc := ⟨.hbm, 328, rfl⟩
abbrev main_v326 : Ref sig .tc := ⟨.hbm, 329, rfl⟩
abbrev main_v327 : Ref sig .tc := ⟨.hbm, 330, rfl⟩
abbrev main_v328 : Ref sig .tc := ⟨.hbm, 331, rfl⟩
abbrev main_v329 : Ref sig .tc := ⟨.hbm, 332, rfl⟩
abbrev main_v330 : Ref sig .tc := ⟨.hbm, 333, rfl⟩
abbrev main_v331 : Ref sig .tc := ⟨.hbm, 334, rfl⟩
abbrev main_v332 : Ref sig .tc := ⟨.hbm, 335, rfl⟩
abbrev main_v333 : Ref sig .tc := ⟨.hbm, 336, rfl⟩
abbrev main_v334 : Ref sig .tc := ⟨.hbm, 337, rfl⟩
abbrev main_v335 : Ref sig .tc := ⟨.hbm, 338, rfl⟩
abbrev main_v336 : Ref sig .tc := ⟨.hbm, 339, rfl⟩
abbrev main_v337 : Ref sig .tc := ⟨.hbm, 340, rfl⟩
abbrev main_v338 : Ref sig .tc := ⟨.hbm, 341, rfl⟩
abbrev main_v339 : Ref sig .tc := ⟨.hbm, 342, rfl⟩
abbrev main_v340 : Ref sig .tc := ⟨.hbm, 343, rfl⟩
abbrev main_v341 : Ref sig .tc := ⟨.hbm, 344, rfl⟩
abbrev main_v342 : Ref sig .tc := ⟨.hbm, 345, rfl⟩
abbrev main_v343 : Ref sig .tc := ⟨.hbm, 346, rfl⟩
abbrev main_v344 : Ref sig .tc := ⟨.hbm, 347, rfl⟩
abbrev main_v345 : Ref sig .tc := ⟨.hbm, 348, rfl⟩
abbrev main_v346 : Ref sig .tc := ⟨.hbm, 349, rfl⟩

abbrev nD : Nat := 1
abbrev τ : Topo := Topo.v7x

variable {F : FTy → Type} [FloatOps F]
-- ==== UpdateIn.lean ====
abbrev S1024x642 : Shape := ⟨2, ![1024, 642]⟩
abbrev S7x1024x642 : Shape := ⟨3, ![7, 1024, 642]⟩
abbrev S256x642 : Shape := ⟨2, ![256, 642]⟩
abbrev S7x256x642 : Shape := ⟨3, ![7, 256, 642]⟩
abbrev S1x256x642 : Shape := ⟨3, ![1, 256, 642]⟩

abbrev nBuf : Space → Nat
  | .hbm => 9
  | .vmem => 18
  | .smem => 0
  | _ => 0

abbrev bufTy : (tb : Table) → Fin (tcTables nBuf tb) → BufTy
  | .hbm, ⟨0, _⟩ => ⟨S1024x642, .f32⟩
  | .hbm, ⟨1, _⟩ => ⟨S7x1024x642, .bf16⟩
  | .hbm, ⟨2, _⟩ => ⟨S1024x642, .f32⟩
  | .hbm, ⟨3, _⟩ => ⟨S1024x642, .f32⟩
  | .hbm, ⟨4, _⟩ => ⟨S1024x642, .f32⟩
  | .hbm, ⟨5, _⟩ => ⟨S1024x642, .f32⟩
  | .hbm, ⟨6, _⟩ => ⟨S1024x642, .f32⟩
  | .hbm, ⟨7, _⟩ => ⟨S1024x642, .f32⟩
  | .hbm, ⟨8, _⟩ => ⟨S1024x642, .f32⟩
  | .local _ .vmem, ⟨0, _⟩ => ⟨S256x642, .f32⟩
  | .local _ .vmem, ⟨1, _⟩ => ⟨S256x642, .f32⟩
  | .local _ .vmem, ⟨2, _⟩ => ⟨S7x256x642, .bf16⟩
  | .local _ .vmem, ⟨3, _⟩ => ⟨S7x256x642, .bf16⟩
  | .local _ .vmem, ⟨4, _⟩ => ⟨S256x642, .f32⟩
  | .local _ .vmem, ⟨5, _⟩ => ⟨S256x642, .f32⟩
  | .local _ .vmem, ⟨6, _⟩ => ⟨S256x642, .f32⟩
  | .local _ .vmem, ⟨7, _⟩ => ⟨S256x642, .f32⟩
  | .local _ .vmem, ⟨8, _⟩ => ⟨S256x642, .f32⟩
  | .local _ .vmem, ⟨9, _⟩ => ⟨S256x642, .f32⟩
  | .local _ .vmem, ⟨10, _⟩ => ⟨S256x642, .f32⟩
  | .local _ .vmem, ⟨11, _⟩ => ⟨S256x642, .f32⟩
  | .local _ .vmem, ⟨12, _⟩ => ⟨S256x642, .f32⟩
  | .local _ .vmem, ⟨13, _⟩ => ⟨S256x642, .f32⟩
  | .local _ .vmem, ⟨14, _⟩ => ⟨S256x642, .f32⟩
  | .local _ .vmem, ⟨15, _⟩ => ⟨S256x642, .f32⟩
  | .local _ .vmem, ⟨16, _⟩ => ⟨S256x642, .f32⟩
  | .local _ .vmem, ⟨17, _⟩ => ⟨S256x642, .f32⟩
  | _, _ => ⟨S1024x642, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 8
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x642 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x642 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x642 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x642 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x642 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x642 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x642 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x642 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x642 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdatedInIdeal.lean ====
abbrev S1024x5136 : Shape := ⟨2, ![1024, 5136]⟩
abbrev S56x1024x642 : Shape := ⟨3, ![56, 1024, 642]⟩
abbrev S8x7x1024x642 : Shape := ⟨4, ![8, 7, 1024, 642]⟩
abbrev S_ : Shape := ⟨0, ![]⟩
abbrev S8x1024x642 : Shape := ⟨3, ![8, 1024, 642]⟩
abbrev S1024x8x642 : Shape := ⟨3, ![1024, 8, 642]⟩

abbrev nBuf : Space → Nat
  | .hbm => 45
  | .vmem => 0
  | .smem => 0
  | _ => 0

abbrev bufTy : (tb : Table) → Fin (tcTables nBuf tb) → BufTy
  | .hbm, ⟨0, _⟩ => ⟨S1024x5136, .f32⟩
  | .hbm, ⟨1, _⟩ => ⟨S56x1024x642, .bf16⟩
  | .hbm, ⟨2, _⟩ => ⟨S1024x5136, .f32⟩
  | .hbm, ⟨3, _⟩ => ⟨S1024x5136, .f32⟩
  | .hbm, ⟨4, _⟩ => ⟨S1024x5136, .f32⟩
  | .hbm, ⟨5, _⟩ => ⟨S56x1024x642, .f32⟩
  | .hbm, ⟨6, _⟩ => ⟨S8x7x1024x642, .f32⟩
  | .hbm, ⟨7, _⟩ => ⟨S_, .f32⟩
  | .hbm, ⟨8, _⟩ => ⟨S8x1024x642, .f32⟩
  | .hbm, ⟨9, _⟩ => ⟨S1024x8x642, .f32⟩
  | .hbm, ⟨10, _⟩ => ⟨S1024x5136, .f32⟩
  | .hbm, ⟨11, _⟩ => ⟨S1024x5136, .f32⟩
  | .hbm, ⟨12, _⟩ => ⟨S_, .f32⟩
  | .hbm, ⟨13, _⟩ => ⟨S1024x5136, .f32⟩
  | .hbm, ⟨14, _⟩ => ⟨S1024x5136, .f32⟩
  | .hbm, ⟨15, _⟩ => ⟨S_, .f32⟩
  | .hbm, ⟨16, _⟩ => ⟨S1024x5136, .f32⟩
  | .hbm, ⟨17, _⟩ => ⟨S1024x5136, .f32⟩
  | .hbm, ⟨18, _⟩ => ⟨S1024x5136, .f32⟩
  | .hbm, ⟨19, _⟩ => ⟨S_, .f32⟩
  | .hbm, ⟨20, _⟩ => ⟨S1024x5136, .f32⟩
  | .hbm, ⟨21, _⟩ => ⟨S1024x5136, .f32⟩
  | .hbm, ⟨22, _⟩ => ⟨S1024x5136, .f32⟩
  | .hbm, ⟨23, _⟩ => ⟨S_, .f32⟩
  | .hbm, ⟨24, _⟩ => ⟨S1024x5136, .f32⟩
  | .hbm, ⟨25, _⟩ => ⟨S1024x5136, .f32⟩
  | .hbm, ⟨26, _⟩ => ⟨S1024x5136, .f32⟩
  | .hbm, ⟨27, _⟩ => ⟨S_, .f32⟩
  | .hbm, ⟨28, _⟩ => ⟨S1024x5136, .f32⟩
  | .hbm, ⟨29, _⟩ => ⟨S1024x5136, .f32⟩
  | .hbm, ⟨30, _⟩ => ⟨S_, .f32⟩
  | .hbm, ⟨31, _⟩ => ⟨S1024x5136, .f32⟩
  | .hbm, ⟨32, _⟩ => ⟨S1024x5136, .f32⟩
  | .hbm, ⟨33, _⟩ => ⟨S1024x5136, .f32⟩
  | .hbm, ⟨34, _⟩ => ⟨S_, .f32⟩
  | .hbm, ⟨35, _⟩ => ⟨S1024x5136, .f32⟩
  | .hbm, ⟨36, _⟩ => ⟨S1024x5136, .f32⟩
  | .hbm, ⟨37, _⟩ => ⟨S1024x5136, .f32⟩
  | .hbm, ⟨38, _⟩ => ⟨S_, .f32⟩
  | .hbm, ⟨39, _⟩ => ⟨S1024x5136, .f32⟩
  | .hbm, ⟨40, _⟩ => ⟨S1024x5136, .f32⟩
  | .hbm, ⟨41, _⟩ => ⟨S1024x5136, .f32⟩
  | .hbm, ⟨42, _⟩ => ⟨S_, .f32⟩
  | .hbm, ⟨43, _⟩ => ⟨S1024x5136, .f32⟩
  | .hbm, ⟨44, _⟩ => ⟨S1024x5136, .f32⟩
  | _, _ => ⟨S1024x5136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== UpdateOut.lean ====
abbrev S256x1024 : Shape := ⟨2, ![256, 1024]⟩
abbrev S7x256x1024 : Shape := ⟨3, ![7, 256, 1024]⟩
abbrev S1x256x1024 : Shape := ⟨3, ![1, 256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S7x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S7x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 8
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== UpdatedOutIdeal.lean ====
abbrev S2048x1024 : Shape := ⟨2, ![2048, 1024]⟩
abbrev S56x256x1024 : Shape := ⟨3, ![56, 256, 1024]⟩
abbrev S8x7x256x1024 : Shape := ⟨4, ![8, 7, 256, 1024]⟩
abbrev S_ : Shape := ⟨0, ![]⟩
abbrev S8x256x1024 : Shape := ⟨3, ![8, 256, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S56x256x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S56x256x1024, .f32⟩
  | .hbm, ⟨6, _⟩ => ⟨S8x7x256x1024, .f32⟩
  | .hbm, ⟨7, _⟩ => ⟨S_, .f32⟩
  | .hbm, ⟨8, _⟩ => ⟨S8x256x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== UpdateSmall.lean ====
abbrev S8x96x128 : Shape := ⟨3, ![8, 96, 128]⟩
abbrev S1x1536 : Shape := ⟨2, ![1, 1536]⟩
abbrev S1x16 : Shape := ⟨2, ![1, 16]⟩
abbrev S1x1024 : Shape := ⟨2, ![1, 1024]⟩
abbrev S_ : Shape := ⟨0, ![]⟩
abbrev S4x1536 : Shape := ⟨2, ![4, 1536]⟩
abbrev S1 : Shape := ⟨1, ![1]⟩
abbrev S128 : Shape := ⟨1, ![128]⟩
abbrev S1536 : Shape := ⟨1, ![1536]⟩
abbrev S16 : Shape := ⟨1, ![16]⟩
abbrev S1024 : Shape := ⟨1, ![1024]⟩
abbrev S6144 : Shape := ⟨1, ![6144]⟩
abbrev S896 : Shape := ⟨1, ![896]⟩
abbrev S12288 : Shape := ⟨1, ![12288]⟩
abbrev S96x128 : Shape := ⟨2, ![96, 128]⟩
abbrev S1x96x128 : Shape := ⟨3, ![1, 96, 128]⟩

abbrev nBuf : Space → Nat
  | .hbm => 250
  | .vmem => 8
  | .smem => 0
  | _ => 0

abbrev hbmTy0_0 (i : Nat) : BufTy := match i % 128 with
  | 0 => ⟨S8x96x128, .f32⟩
  | 1 => ⟨S1x1536, .f32⟩
  | 2 => ⟨S1x16, .f32⟩
  | 3 => ⟨S1x16, .f32⟩
  | 4 => ⟨S1x16, .f32⟩
  | 5 => ⟨S1x1024, .f32⟩
  | 6 => ⟨S1x16, .f32⟩
  | 7 => ⟨S1x1024, .f32⟩
  | 8 => ⟨S1x1024, .f32⟩
  | 9 => ⟨S1x1536, .f32⟩
  | 10 => ⟨S1x16, .f32⟩
  | 11 => ⟨S1x16, .f32⟩
  | 12 => ⟨S1x16, .f32⟩
  | 13 => ⟨S1x1024, .f32⟩
  | 14 => ⟨S1x16, .f32⟩
  | 15 => ⟨S1x1024, .f32⟩
  | 16 => ⟨S1x1024, .f32⟩
  | 17 => ⟨S1x1536, .f32⟩
  | 18 => ⟨S1x16, .f32⟩
  | 19 => ⟨S1x16, .f32⟩
  | 20 => ⟨S1x16, .f32⟩
  | 21 => ⟨S1x1024, .f32⟩
  | 22 => ⟨S1x16, .f32⟩
  | 23 => ⟨S1x1024, .f32⟩
  | 24 => ⟨S1x1024, .f32⟩
  | 25 => ⟨S_, .f32⟩
  | 26 => ⟨S4x1536, .f32⟩
  | 27 => ⟨S_, .f32⟩
  | 28 => ⟨S1, .f32⟩
  | 29 => ⟨S_, .i32⟩
  | 30 => ⟨S_, .f32⟩
  | 31 => ⟨S128, .f32⟩
  | 32 => ⟨S1536, .f32⟩
  | 33 => ⟨S_, .i32⟩
  | 34 => ⟨S_, .f32⟩
  | 35 => ⟨S1536, .f32⟩
  | 36 => ⟨S16, .f32⟩
  | 37 => ⟨S_, .i32⟩
  | 38 => ⟨S_, .f32⟩
  | 39 => ⟨S128, .f32⟩
  | 40 => ⟨S16, .f32⟩
  | 41 => ⟨S_, .i32⟩
  | 42 => ⟨S_, .f32⟩
  | 43 => ⟨S128, .f32⟩
  | 44 => ⟨S16, .f32⟩
  | 45 => ⟨S_, .i32⟩
  | 46 => ⟨S_, .f32⟩
  | 47 => ⟨S128, .f32⟩
  | 48 => ⟨S16, .f32⟩
  | 49 => ⟨S_, .i32⟩
  | 50 => ⟨S_, .f32⟩
  | 51 => ⟨S128, .f32⟩
  | 52 => ⟨S1024, .f32⟩
  | 53 => ⟨S_, .i32⟩
  | 54 => ⟨S_, .f32⟩
  | 55 => ⟨S1024, .f32⟩
  | 56 => ⟨S1024, .f32⟩
  | 57 => ⟨S_, .i32⟩
  | 58 => ⟨S_, .f32⟩
  | 59 => ⟨S1024, .f32⟩
  | 60 => ⟨S1024, .f32⟩
  | 61 => ⟨S_, .i32⟩
  | 62 => ⟨S_, .f32⟩
  | 63 => ⟨S1024, .f32⟩
  | 64 => ⟨S6144, .f32⟩
  | 65 => ⟨S_, .i32⟩
  | 66 => ⟨S_, .f32⟩
  | 67 => ⟨S6144, .f32⟩
  | 68 => ⟨S_, .f32⟩
  | 69 => ⟨S896, .f32⟩
  | 70 => ⟨S12288, .f32⟩
  | 71 => ⟨S96x128, .f32⟩
  | 72 => ⟨S_, .f32⟩
  | 73 => ⟨S1, .f32⟩
  | 74 => ⟨S_, .i32⟩
  | 75 => ⟨S_, .f32⟩
  | 76 => ⟨S128, .f32⟩
  | 77 => ⟨S1536, .f32⟩
  | 78 => ⟨S_, .i32⟩
  | 79 => ⟨S_, .f32⟩
  | 80 => ⟨S1536, .f32⟩
  | 81 => ⟨S16, .f32⟩
  | 82 => ⟨S_, .i32⟩
  | 83 => ⟨S_, .f32⟩
  | 84 => ⟨S128, .f32⟩
  | 85 => ⟨S16, .f32⟩
  | 86 => ⟨S_, .i32⟩
  | 87 => ⟨S_, .f32⟩
  | 88 => ⟨S128, .f32⟩
  | 89 => ⟨S16, .f32⟩
  | 90 => ⟨S_, .i32⟩
  | 91 => ⟨S_, .f32⟩
  | 92 => ⟨S128, .f32⟩
  | 93 => ⟨S16, .f32⟩
  | 94 => ⟨S_, .i32⟩
  | 95 => ⟨S_, .f32⟩
  | 96 => ⟨S128, .f32⟩
  | 97 => ⟨S1024, .f32⟩
  | 98 => ⟨S_, .i32⟩
  | 99 => ⟨S_, .f32⟩
  | 100 => ⟨S1024, .f32⟩
  | 101 => ⟨S1024, .f32⟩
  | 102 => ⟨S_, .i32⟩
  | 103 => ⟨S_, .f32⟩
  | 104 => ⟨S1024, .f32⟩
  | 105 => ⟨S1024, .f32⟩
  | 106 => ⟨S_, .i32⟩
  | 107 => ⟨S_, .f32⟩
  | 108 => ⟨S1024, .f32⟩
  | 109 => ⟨S6144, .f32⟩
  | 110 => ⟨S_, .i32⟩
  | 111 => ⟨S_, .f32⟩
  | 112 => ⟨S6144, .f32⟩
  | 113 => ⟨S_, .f32⟩
  | 114 => ⟨S896, .f32⟩
  | 115 => ⟨S12288, .f32⟩
  | 116 => ⟨S96x128, .f32⟩
  | 117 => ⟨S_, .f32⟩
  | 118 => ⟨S1, .f32⟩
  | 119 => ⟨S_, .i32⟩
  | 120 => ⟨S_, .f32⟩
  | 121 => ⟨S128, .f32⟩
  | 122 => ⟨S1536, .f32⟩
  | 123 => ⟨S_, .i32⟩
  | 124 => ⟨S_, .f32⟩
  | 125 => ⟨S1536, .f32⟩
  | 126 => ⟨S16, .f32⟩
  | 127 => ⟨S_, .i32⟩
  | _ => ⟨S8x96x128, .f32⟩

abbrev hbmTy0_1 (i : Nat) : BufTy := match i % 128 with
  | 0 => ⟨S_, .f32⟩
  | 1 => ⟨S128, .f32⟩
  | 2 => ⟨S16, .f32⟩
  | 3 => ⟨S_, .i32⟩
  | 4 => ⟨S_, .f32⟩
  | 5 => ⟨S128, .f32⟩
  | 6 => ⟨S16, .f32⟩
  | 7 => ⟨S_, .i32⟩
  | 8 => ⟨S_, .f32⟩
  | 9 => ⟨S128, .f32⟩
  | 10 => ⟨S16, .f32⟩
  | 11 => ⟨S_, .i32⟩
  | 12 => ⟨S_, .f32⟩
  | 13 => ⟨S128, .f32⟩
  | 14 => ⟨S1024, .f32⟩
  | 15 => ⟨S_, .i32⟩
  | 16 => ⟨S_, .f32⟩
  | 17 => ⟨S1024, .f32⟩
  | 18 => ⟨S1024, .f32⟩
  | 19 => ⟨S_, .i32⟩
  | 20 => ⟨S_, .f32⟩
  | 21 => ⟨S1024, .f32⟩
  | 22 => ⟨S1024, .f32⟩
  | 23 => ⟨S_, .i32⟩
  | 24 => ⟨S_, .f32⟩
  | 25 => ⟨S1024, .f32⟩
  | 26 => ⟨S6144, .f32⟩
  | 27 => ⟨S_, .i32⟩
  | 28 => ⟨S_, .f32⟩
  | 29 => ⟨S6144, .f32⟩
  | 30 => ⟨S_, .f32⟩
  | 31 => ⟨S896, .f32⟩
  | 32 => ⟨S12288, .f32⟩
  | 33 => ⟨S96x128, .f32⟩
  | 34 => ⟨S96x128, .f32⟩
  | 35 => ⟨S96x128, .f32⟩
  | 36 => ⟨S96x128, .f32⟩
  | 37 => ⟨S96x128, .f32⟩
  | 38 => ⟨S12288, .f32⟩
  | 39 => ⟨S1536, .f32⟩
  | 40 => ⟨S1x1536, .f32⟩
  | 41 => ⟨S16, .f32⟩
  | 42 => ⟨S1x16, .f32⟩
  | 43 => ⟨S16, .f32⟩
  | 44 => ⟨S1x16, .f32⟩
  | 45 => ⟨S16, .f32⟩
  | 46 => ⟨S1x16, .f32⟩
  | 47 => ⟨S16, .f32⟩
  | 48 => ⟨S1x16, .f32⟩
  | 49 => ⟨S1024, .f32⟩
  | 50 => ⟨S1x1024, .f32⟩
  | 51 => ⟨S1024, .f32⟩
  | 52 => ⟨S1x1024, .f32⟩
  | 53 => ⟨S1024, .f32⟩
  | 54 => ⟨S1x1024, .f32⟩
  | 55 => ⟨S6144, .f32⟩
  | 56 => ⟨S4x1536, .f32⟩
  | 57 => ⟨S1, .f32⟩
  | 58 => ⟨S_, .f32⟩
  | 59 => ⟨S12288, .f32⟩
  | 60 => ⟨S1536, .f32⟩
  | 61 => ⟨S1x1536, .f32⟩
  | 62 => ⟨S16, .f32⟩
  | 63 => ⟨S1x16, .f32⟩
  | 64 => ⟨S16, .f32⟩
  | 65 => ⟨S1x16, .f32⟩
  | 66 => ⟨S16, .f32⟩
  | 67 => ⟨S1x16, .f32⟩
  | 68 => ⟨S16, .f32⟩
  | 69 => ⟨S1x16, .f32⟩
  | 70 => ⟨S1024, .f32⟩
  | 71 => ⟨S1x1024, .f32⟩
  | 72 => ⟨S1024, .f32⟩
  | 73 => ⟨S1x1024, .f32⟩
  | 74 => ⟨S1024, .f32⟩
  | 75 => ⟨S1x1024, .f32⟩
  | 76 => ⟨S6144, .f32⟩
  | 77 => ⟨S4x1536, .f32⟩
  | 78 => ⟨S1, .f32⟩
  | 79 => ⟨S_, .f32⟩
  | 80 => ⟨S12288, .f32⟩
  | 81 => ⟨S1536, .f32⟩
  | 82 => ⟨S1x1536, .f32⟩
  | 83 => ⟨S16, .f32⟩
  | 84 => ⟨S1x16, .f32⟩
  | 85 => ⟨S16, .f32⟩
  | 86 => ⟨S1x16, .f32⟩
  | 87 => ⟨S16, .f32⟩
  | 88 => ⟨S1x16, .f32⟩
  | 89 => ⟨S16, .f32⟩
  | 90 => ⟨S1x16, .f32⟩
  | 91 => ⟨S1024, .f32⟩
  | 92 => ⟨S1x1024, .f32⟩
  | 93 => ⟨S1024, .f32⟩
  | 94 => ⟨S1x1024, .f32⟩
  | 95 => ⟨S1024, .f32⟩
  | 96 => ⟨S1x1024, .f32⟩
  | 97 => ⟨S6144, .f32⟩
  | 98 => ⟨S4x1536, .f32⟩
  | 99 => ⟨S1, .f32⟩
  | 100 => ⟨S_, .f32⟩
  | 101 => ⟨S12288, .f32⟩
  | 102 => ⟨S1536, .f32⟩
  | 103 => ⟨S1x1536, .f32⟩
  | 104 => ⟨S16, .f32⟩
  | 105 => ⟨S1x16, .f32⟩
  | 106 => ⟨S16, .f32⟩
  | 107 => ⟨S1x16, .f32⟩
  | 108 => ⟨S16, .f32⟩
  | 109 => ⟨S1x16, .f32⟩
  | 110 => ⟨S16, .f32⟩
  | 111 => ⟨S1x16, .f32⟩
  | 112 => ⟨S1024, .f32⟩
  | 113 => ⟨S1x1024, .f32⟩
  | 114 => ⟨S1024, .f32⟩
  | 115 => ⟨S1x1024, .f32⟩
  | 116 => ⟨S1024, .f32⟩
  | 117 => ⟨S1x1024, .f32⟩
  | 118 => ⟨S6144, .f32⟩
  | 119 => ⟨S4x1536, .f32⟩
  | 120 => ⟨S1, .f32⟩
  | 121 => ⟨S_, .f32⟩
  | _ => ⟨S8x96x128, .f32⟩

abbrev hbmTy (i : Nat) : BufTy := match i / 128 with
  | 0 => hbmTy0_0 i
  | 1 => hbmTy0_1 i
  | _ => ⟨S8x96x128, .f32⟩

abbrev bufTy : (tb : Table) → Fin (tcTables nBuf tb) → BufTy
  | .hbm, ⟨i, _⟩ => hbmTy i
  | .local _ .vmem, ⟨0, _⟩ => ⟨S8x96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | .local _ .vmem, ⟨7, _⟩ => ⟨S96x128, .f32⟩
  | _, _ => ⟨S8x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_c : Ref sig .tc := ⟨.hbm, 29, rfl⟩
abbrev main_call0_v0 : Ref sig .tc := ⟨.hbm, 30, rfl⟩
abbrev main_v3 : Ref sig .tc := ⟨.hbm, 31, rfl⟩
abbrev main_v4 : Ref sig .tc := ⟨.hbm, 32, rfl⟩
abbrev main_c_1 : Ref sig .tc := ⟨.hbm, 33, rfl⟩
abbrev main_call1_v0 : Ref sig .tc := ⟨.hbm, 34, rfl⟩
abbrev main_v5 : Ref sig .tc := ⟨.hbm, 35, rfl⟩
abbrev main_v6 : Ref sig .tc := ⟨.hbm, 36, rfl⟩
abbrev main_c_2 : Ref sig .tc := ⟨.hbm, 37, rfl⟩
abbrev main_call2_v0 : Ref sig .tc := ⟨.hbm, 38, rfl⟩
abbrev main_v7 : Ref sig .tc := ⟨.hbm, 39, rfl⟩
abbrev main_v8 : Ref sig .tc := ⟨.hbm, 40, rfl⟩
abbrev main_c_3 : Ref sig .tc := ⟨.hbm, 41, rfl⟩
abbrev main_call3_v0 : Ref sig .tc := ⟨.hbm, 42, rfl⟩
abbrev main_v9 : Ref sig .tc := ⟨.hbm, 43, rfl⟩
abbrev main_v10 : Ref sig .tc := ⟨.hbm, 44, rfl⟩
abbrev main_c_4 : Ref sig .tc := ⟨.hbm, 45, rfl⟩
abbrev main_call4_v0 : Ref sig .tc := ⟨.hbm, 46, rfl⟩
abbrev main_v11 : Ref sig .tc := ⟨.hbm, 47, rfl⟩
abbrev main_v12 : Ref sig .tc := ⟨.hbm, 48, rfl⟩
abbrev main_c_5 : Ref sig .tc := ⟨.hbm, 49, rfl⟩
abbrev main_call5_v0 : Ref sig .tc := ⟨.hbm, 50, rfl⟩
abbrev main_v13 : Ref sig .tc := ⟨.hbm, 51, rfl⟩
abbrev main_v14 : Ref sig .tc := ⟨.hbm, 52, rfl⟩
abbrev main_c_6 : Ref sig .tc := ⟨.hbm, 53, rfl⟩
abbrev main_call6_v0 : Ref sig .tc := ⟨.hbm, 54, rfl⟩
abbrev main_v15 : Ref sig .tc := ⟨.hbm, 55, rfl⟩
abbrev main_v16 : Ref sig .tc := ⟨.hbm, 56, rfl⟩
abbrev main_c_7 : Ref sig .tc := ⟨.hbm, 57, rfl⟩
abbrev main_call7_v0 : Ref sig .tc := ⟨.hbm, 58, rfl⟩
abbrev main_v17 : Ref sig .tc := ⟨.hbm, 59, rfl⟩
abbrev main_v18 : Ref sig .tc := ⟨.hbm, 60, rfl⟩
abbrev main_c_8 : Ref sig .tc := ⟨.hbm, 61, rfl⟩
abbrev main_call8_v0 : Ref sig .tc := ⟨.hbm, 62, rfl⟩
abbrev main_v19 : Ref sig .tc := ⟨.hbm, 63, rfl⟩
abbrev main_v20 : Ref sig .tc := ⟨.hbm, 64, rfl⟩
abbrev main_c_9 : Ref sig .tc := ⟨.hbm, 65, rfl⟩
abbrev main_call9_v0 : Ref sig .tc := ⟨.hbm, 66, rfl⟩
abbrev main_v21 : Ref sig .tc := ⟨.hbm, 67, rfl⟩
abbrev main_cst_10 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_cst_11 : Ref sig .tc := ⟨.hbm, 72, rfl⟩
abbrev main_v25 : Ref sig .tc := ⟨.hbm, 73, rfl⟩
abbrev main_c_12 : Ref sig .tc := ⟨.hbm, 74, rfl⟩
abbrev main_call10_v0 : Ref sig .tc := ⟨.hbm, 75, rfl⟩
abbrev main_v26 : Ref sig .tc := ⟨.hbm, 76, rfl⟩
abbrev main_v27 : Ref sig .tc := ⟨.hbm, 77, rfl⟩
abbrev main_c_13 : Ref sig .tc := ⟨.hbm, 78, rfl⟩
abbrev main_call11_v0 : Ref sig .tc := ⟨.hbm, 79, rfl⟩
abbrev main_v28 : Ref sig .tc := ⟨.hbm, 80, rfl⟩
abbrev main_v29 : Ref sig .tc := ⟨.hbm, 81, rfl⟩
abbrev main_c_14 : Ref sig .tc := ⟨.hbm, 82, rfl⟩
abbrev main_call12_v0 : Ref sig .tc := ⟨.hbm, 83, rfl⟩
abbrev main_v30 : Ref sig .tc := ⟨.hbm, 84, rfl⟩
abbrev main_v31 : Ref sig .tc := ⟨.hbm, 85, rfl⟩
abbrev main_c_15 : Ref sig .tc := ⟨.hbm, 86, rfl⟩
abbrev main_call13_v0 : Ref sig .tc := ⟨.hbm, 87, rfl⟩
abbrev main_v32 : Ref sig .tc := ⟨.hbm, 88, rfl⟩
abbrev main_v33 : Ref sig .tc := ⟨.hbm, 89, rfl⟩
abbrev main_c_16 : Ref sig .tc := ⟨.hbm, 90, rfl⟩
abbrev main_call14_v0 : Ref sig .tc := ⟨.hbm, 91, rfl⟩
abbrev main_v34 : Ref sig .tc := ⟨.hbm, 92, rfl⟩
abbrev main_v35 : Ref sig .tc := ⟨.hbm, 93, rfl⟩
abbrev main_c_17 : Ref sig .tc := ⟨.hbm, 94, rfl⟩
abbrev main_call15_v0 : Ref sig .tc := ⟨.hbm, 95, rfl⟩
abbrev main_v36 : Ref sig .tc := ⟨.hbm, 96, rfl⟩
abbrev main_v37 : Ref sig .tc := ⟨.hbm, 97, rfl⟩
abbrev main_c_18 : Ref sig .tc := ⟨.hbm, 98, rfl⟩
abbrev main_call16_v0 : Ref sig .tc := ⟨.hbm, 99, rfl⟩
abbrev main_v38 : Ref sig .tc := ⟨.hbm, 100, rfl⟩
abbrev main_v39 : Ref sig .tc := ⟨.hbm, 101, rfl⟩
abbrev main_c_19 : Ref sig .tc := ⟨.hbm, 102, rfl⟩
abbrev main_call17_v0 : Ref sig .tc := ⟨.hbm, 103, rfl⟩
abbrev main_v40 : Ref sig .tc := ⟨.hbm, 104, rfl⟩
abbrev main_v41 : Ref sig .tc := ⟨.hbm, 105, rfl⟩
abbrev main_c_20 : Ref sig .tc := ⟨.hbm, 106, rfl⟩
abbrev main_call18_v0 : Ref sig .tc := ⟨.hbm, 107, rfl⟩
abbrev main_v42 : Ref sig .tc := ⟨.hbm, 108, rfl⟩
abbrev main_v43 : Ref sig .tc := ⟨.hbm, 109, rfl⟩
abbrev main_c_21 : Ref sig .tc := ⟨.hbm, 110, rfl⟩
abbrev main_call19_v0 : Ref sig .tc := ⟨.hbm, 111, rfl⟩
abbrev main_v44 : Ref sig .tc := ⟨.hbm, 112, rfl⟩
abbrev main_cst_22 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_cst_23 : Ref sig .tc := ⟨.hbm, 117, rfl⟩
abbrev main_v48 : Ref sig .tc := ⟨.hbm, 118, rfl⟩
abbrev main_c_24 : Ref sig .tc := ⟨.hbm, 119, rfl⟩
abbrev main_call20_v0 : Ref sig .tc := ⟨.hbm, 120, rfl⟩
abbrev main_v49 : Ref sig .tc := ⟨.hbm, 121, rfl⟩
abbrev main_v50 : Ref sig .tc := ⟨.hbm, 122, rfl⟩
abbrev main_c_25 : Ref sig .tc := ⟨.hbm, 123, rfl⟩
abbrev main_call21_v0 : Ref sig .tc := ⟨.hbm, 124, rfl⟩
abbrev main_v51 : Ref sig .tc := ⟨.hbm, 125, rfl⟩
abbrev main_v52 : Ref sig .tc := ⟨.hbm, 126, rfl⟩
abbrev main_c_26 : Ref sig .tc := ⟨.hbm, 127, rfl⟩
abbrev main_call22_v0 : Ref sig .tc := ⟨.hbm, 128, rfl⟩
abbrev main_v53 : Ref sig .tc := ⟨.hbm, 129, rfl⟩
abbrev main_v54 : Ref sig .tc := ⟨.hbm, 130, rfl⟩
abbrev main_c_27 : Ref sig .tc := ⟨.hbm, 131, rfl⟩
abbrev main_call23_v0 : Ref sig .tc := ⟨.hbm, 132, rfl⟩
abbrev main_v55 : Ref sig .tc := ⟨.hbm, 133, rfl⟩
abbrev main_v56 : Ref sig .tc := ⟨.hbm, 134, rfl⟩
abbrev main_c_28 : Ref sig .tc := ⟨.hbm, 135, rfl⟩
abbrev main_call24_v0 : Ref sig .tc := ⟨.hbm, 136, rfl⟩
abbrev main_v57 : Ref sig .tc := ⟨.hbm, 137, rfl⟩
abbrev main_v58 : Ref sig .tc := ⟨.hbm, 138, rfl⟩
abbrev main_c_29 : Ref sig .tc := ⟨.hbm, 139, rfl⟩
abbrev main_call25_v0 : Ref sig .tc := ⟨.hbm, 140, rfl⟩
abbrev main_v59 : Ref sig .tc := ⟨.hbm, 141, rfl⟩
abbrev main_v60 : Ref sig .tc := ⟨.hbm, 142, rfl⟩
abbrev main_c_30 : Ref sig .tc := ⟨.hbm, 143, rfl⟩
abbrev main_call26_v0 : Ref sig .tc := ⟨.hbm, 144, rfl⟩
abbrev main_v61 : Ref sig .tc := ⟨.hbm, 145, rfl⟩
abbrev main_v62 : Ref sig .tc := ⟨.hbm, 146, rfl⟩
abbrev main_c_31 : Ref sig .tc := ⟨.hbm, 147, rfl⟩
abbrev main_call27_v0 : Ref sig .tc := ⟨.hbm, 148, rfl⟩
abbrev main_v63 : Ref sig .tc := ⟨.hbm, 149, rfl⟩
abbrev main_v64 : Ref sig .tc := ⟨.hbm, 150, rfl⟩
abbrev main_c_32 : Ref sig .tc := ⟨.hbm, 151, rfl⟩
abbrev main_call28_v0 : Ref sig .tc := ⟨.hbm, 152, rfl⟩
abbrev main_v65 : Ref sig .tc := ⟨.hbm, 153, rfl⟩
abbrev main_v66 : Ref sig .tc := ⟨.hbm, 154, rfl⟩
abbrev main_c_33 : Ref sig .tc := ⟨.hbm, 155, rfl⟩
abbrev main_call29_v0 : Ref sig .tc := ⟨.hbm, 156, rfl⟩
abbrev main_v67 : Ref sig .tc := ⟨.hbm, 157, rfl⟩
abbrev main_cst_34 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71_0 : Ref sig .tc := ⟨.hbm, 162, rfl⟩
abbrev main_v71_1 : Ref sig .tc := ⟨.hbm, 163, rfl⟩
abbrev main_v71_2 : Ref sig .tc := ⟨.hbm, 164, rfl⟩
abbrev main_v71_3 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 8
abbrev τ : Topo := Topo.v7x

variable {F : FTy → Type} [FloatOps F]

abbrev grid0 : Pipeline.Grid := .none

abbrev stage0_0 : Fin 1 → Memref sig .tc .vmem S8x96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== UpdatedSmallIdeal.lean ====
abbrev S8x96x128 : Shape := ⟨3, ![8, 96, 128]⟩
abbrev S1x1536 : Shape := ⟨2, ![1, 1536]⟩
abbrev S1x16 : Shape := ⟨2, ![1, 16]⟩
abbrev S1x1024 : Shape := ⟨2, ![1, 1024]⟩
abbrev S8x12288 : Shape := ⟨2, ![8, 12288]⟩
abbrev S_ : Shape := ⟨0, ![]⟩
abbrev S12288 : Shape := ⟨1, ![12288]⟩
abbrev S1536 : Shape := ⟨1, ![1536]⟩
abbrev S16 : Shape := ⟨1, ![16]⟩
abbrev S1024 : Shape := ⟨1, ![1024]⟩
abbrev S1 : Shape := ⟨1, ![1]⟩
abbrev S6144 : Shape := ⟨1, ![6144]⟩
abbrev S4x1536 : Shape := ⟨2, ![4, 1536]⟩

abbrev nBuf : Space → Nat
  | .hbm => 312
  | .vmem => 0
  | .smem => 0
  | _ => 0

abbrev hbmTy0_0 (i : Nat) : BufTy := match i % 128 with
  | 0 => ⟨S8x96x128, .f32⟩
  | 1 => ⟨S1x1536, .f32⟩
  | 2 => ⟨S1x16, .f32⟩
  | 3 => ⟨S1x16, .f32⟩
  | 4 => ⟨S1x16, .f32⟩
  | 5 => ⟨S1x1024, .f32⟩
  | 6 => ⟨S1x16, .f32⟩
  | 7 => ⟨S1x1024, .f32⟩
  | 8 => ⟨S1x1024, .f32⟩
  | 9 => ⟨S1x1536, .f32⟩
  | 10 => ⟨S1x16, .f32⟩
  | 11 => ⟨S1x16, .f32⟩
  | 12 => ⟨S1x16, .f32⟩
  | 13 => ⟨S1x1024, .f32⟩
  | 14 => ⟨S1x16, .f32⟩
  | 15 => ⟨S1x1024, .f32⟩
  | 16 => ⟨S1x1024, .f32⟩
  | 17 => ⟨S1x1536, .f32⟩
  | 18 => ⟨S1x16, .f32⟩
  | 19 => ⟨S1x16, .f32⟩
  | 20 => ⟨S1x16, .f32⟩
  | 21 => ⟨S1x1024, .f32⟩
  | 22 => ⟨S1x16, .f32⟩
  | 23 => ⟨S1x1024, .f32⟩
  | 24 => ⟨S1x1024, .f32⟩
  | 25 => ⟨S8x12288, .f32⟩
  | 26 => ⟨S_, .f32⟩
  | 27 => ⟨S12288, .f32⟩
  | 28 => ⟨S1536, .f32⟩
  | 29 => ⟨S16, .f32⟩
  | 30 => ⟨S16, .f32⟩
  | 31 => ⟨S16, .f32⟩
  | 32 => ⟨S1024, .f32⟩
  | 33 => ⟨S16, .f32⟩
  | 34 => ⟨S1024, .f32⟩
  | 35 => ⟨S1024, .f32⟩
  | 36 => ⟨S1x1536, .f32⟩
  | 37 => ⟨S1x16, .f32⟩
  | 38 => ⟨S1x16, .f32⟩
  | 39 => ⟨S1x16, .f32⟩
  | 40 => ⟨S1x1024, .f32⟩
  | 41 => ⟨S1x16, .f32⟩
  | 42 => ⟨S1x1024, .f32⟩
  | 43 => ⟨S1x1024, .f32⟩
  | 44 => ⟨S_, .f32⟩
  | 45 => ⟨S1x1536, .f32⟩
  | 46 => ⟨S1x1536, .f32⟩
  | 47 => ⟨S_, .f32⟩
  | 48 => ⟨S1x1536, .f32⟩
  | 49 => ⟨S1x1536, .f32⟩
  | 50 => ⟨S1x1536, .f32⟩
  | 51 => ⟨S_, .f32⟩
  | 52 => ⟨S1x1536, .f32⟩
  | 53 => ⟨S1x1536, .f32⟩
  | 54 => ⟨S1x1536, .f32⟩
  | 55 => ⟨S_, .f32⟩
  | 56 => ⟨S1x1536, .f32⟩
  | 57 => ⟨S1x1536, .f32⟩
  | 58 => ⟨S1x1536, .f32⟩
  | 59 => ⟨S_, .f32⟩
  | 60 => ⟨S1x1536, .f32⟩
  | 61 => ⟨S1x1536, .f32⟩
  | 62 => ⟨S_, .f32⟩
  | 63 => ⟨S1x1536, .f32⟩
  | 64 => ⟨S1x1536, .f32⟩
  | 65 => ⟨S1x1536, .f32⟩
  | 66 => ⟨S_, .f32⟩
  | 67 => ⟨S1x1536, .f32⟩
  | 68 => ⟨S1x1536, .f32⟩
  | 69 => ⟨S1x1536, .f32⟩
  | 70 => ⟨S_, .f32⟩
  | 71 => ⟨S1x1536, .f32⟩
  | 72 => ⟨S1x1536, .f32⟩
  | 73 => ⟨S1x1536, .f32⟩
  | 74 => ⟨S_, .f32⟩
  | 75 => ⟨S1x1536, .f32⟩
  | 76 => ⟨S1x1536, .f32⟩
  | 77 => ⟨S_, .f32⟩
  | 78 => ⟨S1x16, .f32⟩
  | 79 => ⟨S1x16, .f32⟩
  | 80 => ⟨S_, .f32⟩
  | 81 => ⟨S1x16, .f32⟩
  | 82 => ⟨S1x16, .f32⟩
  | 83 => ⟨S1x16, .f32⟩
  | 84 => ⟨S_, .f32⟩
  | 85 => ⟨S1x16, .f32⟩
  | 86 => ⟨S1x16, .f32⟩
  | 87 => ⟨S1x16, .f32⟩
  | 88 => ⟨S_, .f32⟩
  | 89 => ⟨S1x16, .f32⟩
  | 90 => ⟨S1x16, .f32⟩
  | 91 => ⟨S1x16, .f32⟩
  | 92 => ⟨S_, .f32⟩
  | 93 => ⟨S1x16, .f32⟩
  | 94 => ⟨S1x16, .f32⟩
  | 95 => ⟨S_, .f32⟩
  | 96 => ⟨S1x16, .f32⟩
  | 97 => ⟨S1x16, .f32⟩
  | 98 => ⟨S1x16, .f32⟩
  | 99 => ⟨S_, .f32⟩
  | 100 => ⟨S1x16, .f32⟩
  | 101 => ⟨S1x16, .f32⟩
  | 102 => ⟨S1x16, .f32⟩
  | 103 => ⟨S_, .f32⟩
  | 104 => ⟨S1x16, .f32⟩
  | 105 => ⟨S1x16, .f32⟩
  | 106 => ⟨S1x16, .f32⟩
  | 107 => ⟨S_, .f32⟩
  | 108 => ⟨S1x16, .f32⟩
  | 109 => ⟨S1x16, .f32⟩
  | 110 => ⟨S_, .f32⟩
  | 111 => ⟨S1x16, .f32⟩
  | 112 => ⟨S1x16, .f32⟩
  | 113 => ⟨S_, .f32⟩
  | 114 => ⟨S1x16, .f32⟩
  | 115 => ⟨S1x16, .f32⟩
  | 116 => ⟨S1x16, .f32⟩
  | 117 => ⟨S_, .f32⟩
  | 118 => ⟨S1x16, .f32⟩
  | 119 => ⟨S1x16, .f32⟩
  | 120 => ⟨S1x16, .f32⟩
  | 121 => ⟨S_, .f32⟩
  | 122 => ⟨S1x16, .f32⟩
  | 123 => ⟨S1x16, .f32⟩
  | 124 => ⟨S1x16, .f32⟩
  | 125 => ⟨S_, .f32⟩
  | 126 => ⟨S1x16, .f32⟩
  | 127 => ⟨S1x16, .f32⟩
  | _ => ⟨S8x96x128, .f32⟩

abbrev hbmTy0_1 (i : Nat) : BufTy := match i % 128 with
  | 0 => ⟨S_, .f32⟩
  | 1 => ⟨S1x16, .f32⟩
  | 2 => ⟨S1x16, .f32⟩
  | 3 => ⟨S1x16, .f32⟩
  | 4 => ⟨S_, .f32⟩
  | 5 => ⟨S1x16, .f32⟩
  | 6 => ⟨S1x16, .f32⟩
  | 7 => ⟨S1x16, .f32⟩
  | 8 => ⟨S_, .f32⟩
  | 9 => ⟨S1x16, .f32⟩
  | 10 => ⟨S1x16, .f32⟩
  | 11 => ⟨S1x16, .f32⟩
  | 12 => ⟨S_, .f32⟩
  | 13 => ⟨S1x16, .f32⟩
  | 14 => ⟨S1x16, .f32⟩
  | 15 => ⟨S_, .f32⟩
  | 16 => ⟨S1x16, .f32⟩
  | 17 => ⟨S1x16, .f32⟩
  | 18 => ⟨S_, .f32⟩
  | 19 => ⟨S1x16, .f32⟩
  | 20 => ⟨S1x16, .f32⟩
  | 21 => ⟨S1x16, .f32⟩
  | 22 => ⟨S_, .f32⟩
  | 23 => ⟨S1x16, .f32⟩
  | 24 => ⟨S1x16, .f32⟩
  | 25 => ⟨S1x16, .f32⟩
  | 26 => ⟨S_, .f32⟩
  | 27 => ⟨S1x16, .f32⟩
  | 28 => ⟨S1x16, .f32⟩
  | 29 => ⟨S1x16, .f32⟩
  | 30 => ⟨S_, .f32⟩
  | 31 => ⟨S1x16, .f32⟩
  | 32 => ⟨S1x16, .f32⟩
  | 33 => ⟨S_, .f32⟩
  | 34 => ⟨S1x16, .f32⟩
  | 35 => ⟨S1x16, .f32⟩
  | 36 => ⟨S1x16, .f32⟩
  | 37 => ⟨S_, .f32⟩
  | 38 => ⟨S1x16, .f32⟩
  | 39 => ⟨S1x16, .f32⟩
  | 40 => ⟨S1x16, .f32⟩
  | 41 => ⟨S_, .f32⟩
  | 42 => ⟨S1x16, .f32⟩
  | 43 => ⟨S1x16, .f32⟩
  | 44 => ⟨S1x16, .f32⟩
  | 45 => ⟨S_, .f32⟩
  | 46 => ⟨S1x16, .f32⟩
  | 47 => ⟨S1x16, .f32⟩
  | 48 => ⟨S_, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S_, .f32⟩
  | 82 => ⟨S1x16, .f32⟩
  | 83 => ⟨S1x16, .f32⟩
  | 84 => ⟨S_, .f32⟩
  | 85 => ⟨S1x16, .f32⟩
  | 86 => ⟨S1x16, .f32⟩
  | 87 => ⟨S1x16, .f32⟩
  | 88 => ⟨S_, .f32⟩
  | 89 => ⟨S1x16, .f32⟩
  | 90 => ⟨S1x16, .f32⟩
  | 91 => ⟨S1x16, .f32⟩
  | 92 => ⟨S_, .f32⟩
  | 93 => ⟨S1x16, .f32⟩
  | 94 => ⟨S1x16, .f32⟩
  | 95 => ⟨S1x16, .f32⟩
  | 96 => ⟨S_, .f32⟩
  | 97 => ⟨S1x16, .f32⟩
  | 98 => ⟨S1x16, .f32⟩
  | 99 => ⟨S_, .f32⟩
  | 100 => ⟨S1x16, .f32⟩
  | 101 => ⟨S1x16, .f32⟩
  | 102 => ⟨S1x16, .f32⟩
  | 103 => ⟨S_, .f32⟩
  | 104 => ⟨S1x16, .f32⟩
  | 105 => ⟨S1x16, .f32⟩
  | 106 => ⟨S1x16, .f32⟩
  | 107 => ⟨S_, .f32⟩
  | 108 => ⟨S1x16, .f32⟩
  | 109 => ⟨S1x16, .f32⟩
  | 110 => ⟨S1x16, .f32⟩
  | 111 => ⟨S_, .f32⟩
  | 112 => ⟨S1x16, .f32⟩
  | 113 => ⟨S1x16, .f32⟩
  | 114 => ⟨S_, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S8x96x128, .f32⟩

abbrev hbmTy0_2 (i : Nat) : BufTy := match i % 128 with
  | 0 => ⟨S1x1024, .f32⟩
  | 1 => ⟨S_, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1, .f32⟩
  | 53 => ⟨S_, .f32⟩
  | 54 => ⟨S6144, .f32⟩
  | 55 => ⟨S4x1536, .f32⟩
  | _ => ⟨S8x96x128, .f32⟩

abbrev hbmTy (i : Nat) : BufTy := match i / 128 with
  | 0 => hbmTy0_0 i
  | 1 => hbmTy0_1 i
  | 2 => hbmTy0_2 i
  | _ => ⟨S8x96x128, .f32⟩

abbrev bufTy : (tb : Table) → Fin (tcTables nBuf tb) → BufTy
  | .hbm, ⟨i, _⟩ => hbmTy i
  | _, _ => ⟨S8x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_0 : Ref sig .tc := ⟨.hbm, 44, rfl⟩
abbrev main_v18 : Ref sig .tc := ⟨.hbm, 45, rfl⟩
abbrev main_v19 : Ref sig .tc := ⟨.hbm, 46, rfl⟩
abbrev main_cst_1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_3 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_4 : Ref sig .tc := ⟨.hbm, 59, rfl⟩
abbrev main_v29 : Ref sig .tc := ⟨.hbm, 60, rfl⟩
abbrev main_v30 : Ref sig .tc := ⟨.hbm, 61, rfl⟩
abbrev main_cst_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_7 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_8 : Ref sig .tc := ⟨.hbm, 74, rfl⟩
abbrev main_v40 : Ref sig .tc := ⟨.hbm, 75, rfl⟩
abbrev main_v41 : Ref sig .tc := ⟨.hbm, 76, rfl⟩
abbrev main_cst_9 : Ref sig .tc := ⟨.hbm, 77, rfl⟩
abbrev main_v42 : Ref sig .tc := ⟨.hbm, 78, rfl⟩
abbrev main_v43 : Ref sig .tc := ⟨.hbm, 79, rfl⟩
abbrev main_cst_10 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_11 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_12 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_13 : Ref sig .tc := ⟨.hbm, 92, rfl⟩
abbrev main_v53 : Ref sig .tc := ⟨.hbm, 93, rfl⟩
abbrev main_v54 : Ref sig .tc := ⟨.hbm, 94, rfl⟩
abbrev main_cst_14 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_15 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_16 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_17 : Ref sig .tc := ⟨.hbm, 107, rfl⟩
abbrev main_v64 : Ref sig .tc := ⟨.hbm, 108, rfl⟩
abbrev main_v65 : Ref sig .tc := ⟨.hbm, 109, rfl⟩
abbrev main_cst_18 : Ref sig .tc := ⟨.hbm, 110, rfl⟩
abbrev main_v66 : Ref sig .tc := ⟨.hbm, 111, rfl⟩
abbrev main_v67 : Ref sig .tc := ⟨.hbm, 112, rfl⟩
abbrev main_cst_19 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_20 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_21 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_22 : Ref sig .tc := ⟨.hbm, 125, rfl⟩
abbrev main_v77 : Ref sig .tc := ⟨.hbm, 126, rfl⟩
abbrev main_v78 : Ref sig .tc := ⟨.hbm, 127, rfl⟩
abbrev main_cst_23 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_24 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_25 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_26 : Ref sig .tc := ⟨.hbm, 140, rfl⟩
abbrev main_v88 : Ref sig .tc := ⟨.hbm, 141, rfl⟩
abbrev main_v89 : Ref sig .tc := ⟨.hbm, 142, rfl⟩
abbrev main_cst_27 : Ref sig .tc := ⟨.hbm, 143, rfl⟩
abbrev main_v90 : Ref sig .tc := ⟨.hbm, 144, rfl⟩
abbrev main_v91 : Ref sig .tc := ⟨.hbm, 145, rfl⟩
abbrev main_cst_28 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_29 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_cst_30 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_cst_31 : Ref sig .tc := ⟨.hbm, 158, rfl⟩
abbrev main_v101 : Ref sig .tc := ⟨.hbm, 159, rfl⟩
abbrev main_v102 : Ref sig .tc := ⟨.hbm, 160, rfl⟩
abbrev main_cst_32 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_33 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_cst_34 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_cst_35 : Ref sig .tc := ⟨.hbm, 173, rfl⟩
abbrev main_v112 : Ref sig .tc := ⟨.hbm, 174, rfl⟩
abbrev main_v113 : Ref sig .tc := ⟨.hbm, 175, rfl⟩
abbrev main_cst_36 : Ref sig .tc := ⟨.hbm, 176, rfl⟩
abbrev main_v114 : Ref sig .tc := ⟨.hbm, 177, rfl⟩
abbrev main_v115 : Ref sig .tc := ⟨.hbm, 178, rfl⟩
abbrev main_cst_37 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_cst_38 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_cst_39 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_40 : Ref sig .tc := ⟨.hbm, 191, rfl⟩
abbrev main_v125 : Ref sig .tc := ⟨.hbm, 192, rfl⟩
abbrev main_v126 : Ref sig .tc := ⟨.hbm, 193, rfl⟩
abbrev main_cst_41 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_cst_42 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_43 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_cst_44 : Ref sig .tc := ⟨.hbm, 206, rfl⟩
abbrev main_v136 : Ref sig .tc := ⟨.hbm, 207, rfl⟩
abbrev main_v137 : Ref sig .tc := ⟨.hbm, 208, rfl⟩
abbrev main_cst_45 : Ref sig .tc := ⟨.hbm, 209, rfl⟩
abbrev main_v138 : Ref sig .tc := ⟨.hbm, 210, rfl⟩
abbrev main_v139 : Ref sig .tc := ⟨.hbm, 211, rfl⟩
abbrev main_cst_46 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_47 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_cst_48 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_cst_49 : Ref sig .tc := ⟨.hbm, 224, rfl⟩
abbrev main_v149 : Ref sig .tc := ⟨.hbm, 225, rfl⟩
abbrev main_v150 : Ref sig .tc := ⟨.hbm, 226, rfl⟩
abbrev main_cst_50 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_cst_51 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_cst_52 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_cst_53 : Ref sig .tc := ⟨.hbm, 239, rfl⟩
abbrev main_v160 : Ref sig .tc := ⟨.hbm, 240, rfl⟩
abbrev main_v161 : Ref sig .tc := ⟨.hbm, 241, rfl⟩
abbrev main_cst_54 : Ref sig .tc := ⟨.hbm, 242, rfl⟩
abbrev main_v162 : Ref sig .tc := ⟨.hbm, 243, rfl⟩
abbrev main_v163 : Ref sig .tc := ⟨.hbm, 244, rfl⟩
abbrev main_cst_55 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_cst_56 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_cst_57 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_cst_58 : Ref sig .tc := ⟨.hbm, 257, rfl⟩
abbrev main_v173 : Ref sig .tc := ⟨.hbm, 258, rfl⟩
abbrev main_v174 : Ref sig .tc := ⟨.hbm, 259, rfl⟩
abbrev main_cst_59 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_cst_60 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_cst_61 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_cst_62 : Ref sig .tc := ⟨.hbm, 272, rfl⟩
abbrev main_v184 : Ref sig .tc := ⟨.hbm, 273, rfl⟩
abbrev main_v185 : Ref sig .tc := ⟨.hbm, 274, rfl⟩
abbrev main_cst_63 : Ref sig .tc := ⟨.hbm, 275, rfl⟩
abbrev main_v186 : Ref sig .tc := ⟨.hbm, 276, rfl⟩
abbrev main_v187 : Ref sig .tc := ⟨.hbm, 277, rfl⟩
abbrev main_cst_64 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_cst_65 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_cst_66 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_cst_67 : Ref sig .tc := ⟨.hbm, 290, rfl⟩
abbrev main_v197 : Ref sig .tc := ⟨.hbm, 291, rfl⟩
abbrev main_v198 : Ref sig .tc := ⟨.hbm, 292, rfl⟩
abbrev main_cst_68 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_cst_69 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_cst_70 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_cst_71 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩

abbrev nD : Nat := 1
abbrev τ : Topo := Topo.v7x

variable {F : FTy → Type} [FloatOps F]
-- ==== UpdateConv.lean ====
abbrev S4x192 : Shape := ⟨2, ![4, 192]⟩

abbrev nBuf : Space → Nat
  | .hbm => 7
  | .vmem => 7
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .local _ .vmem, ⟨0, _⟩ => ⟨S4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | _, _ => ⟨S4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 8
abbrev τ : Topo := Topo.v7x

variable {F : FTy → Type} [FloatOps F]

abbrev grid0 : Pipeline.Grid := .none

abbrev stage0_0 : Fin 1 → Memref sig .tc .vmem S4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== UpdatedConvIdeal.lean ====
abbrev S4x1536 : Shape := ⟨2, ![4, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S_, .f32⟩
  | .hbm, ⟨5, _⟩ => ⟨S4x1536, .f32⟩
  | .hbm, ⟨6, _⟩ => ⟨S4x1536, .f32⟩
  | .hbm, ⟨7, _⟩ => ⟨S_, .f32⟩
  | .hbm, ⟨8, _⟩ => ⟨S4x1536, .f32⟩
  | .hbm, ⟨9, _⟩ => ⟨S4x1536, .f32⟩
  | .hbm, ⟨10, _⟩ => ⟨S4x1536, .f32⟩
  | .hbm, ⟨11, _⟩ => ⟨S_, .f32⟩
  | .hbm, ⟨12, _⟩ => ⟨S4x1536, .f32⟩
  | .hbm, ⟨13, _⟩ => ⟨S4x1536, .f32⟩
  | .hbm, ⟨14, _⟩ => ⟨S4x1536, .f32⟩
  | .hbm, ⟨15, _⟩ => ⟨S_, .f32⟩
  | .hbm, ⟨16, _⟩ => ⟨S4x1536, .f32⟩
  | .hbm, ⟨17, _⟩ => ⟨S4x1536, .f32⟩
  | .hbm, ⟨18, _⟩ => ⟨S4x1536, .f32⟩
  | .hbm, ⟨19, _⟩ => ⟨S_, .f32⟩
  | .hbm, ⟨20, _⟩ => ⟨S4x1536, .f32⟩
  | .hbm, ⟨21, _⟩ => ⟨S4x1536, .f32⟩
  | .hbm, ⟨22, _⟩ => ⟨S_, .f32⟩
  | .hbm, ⟨23, _⟩ => ⟨S4x1536, .f32⟩
  | .hbm, ⟨24, _⟩ => ⟨S4x1536, .f32⟩
  | .hbm, ⟨25, _⟩ => ⟨S4x1536, .f32⟩
  | .hbm, ⟨26, _⟩ => ⟨S_, .f32⟩
  | .hbm, ⟨27, _⟩ => ⟨S4x1536, .f32⟩
  | .hbm, ⟨28, _⟩ => ⟨S4x1536, .f32⟩
  | .hbm, ⟨29, _⟩ => ⟨S4x1536, .f32⟩
  | .hbm, ⟨30, _⟩ => ⟨S_, .f32⟩
  | .hbm, ⟨31, _⟩ => ⟨S4x1536, .f32⟩
  | .hbm, ⟨32, _⟩ => ⟨S4x1536, .f32⟩
  | .hbm, ⟨33, _⟩ => ⟨S4x1536, .f32⟩
  | .hbm, ⟨34, _⟩ => ⟨S_, .f32⟩
  | .hbm, ⟨35, _⟩ => ⟨S4x1536, .f32⟩
  | .hbm, ⟨36, _⟩ => ⟨S4x1536, .f32⟩
  | _, _ => ⟨S4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GradX.lean ====
abbrev S4096x2816 : Shape := ⟨2, ![4096, 2816]⟩
abbrev S4096x2560 : Shape := ⟨2, ![4096, 2560]⟩
abbrev S4096x1024 : Shape := ⟨2, ![4096, 1024]⟩
abbrev S1024x5136 : Shape := ⟨2, ![1024, 5136]⟩
abbrev S1024x2576 : Shape := ⟨2, ![1024, 2576]⟩
abbrev S_ : Shape := ⟨0, ![]⟩
abbrev S1024x2816 : Shape := ⟨2, ![1024, 2816]⟩
abbrev S1024x2560 : Shape := ⟨2, ![1024, 2560]⟩
abbrev S2816x1024 : Shape := ⟨2, ![2816, 1024]⟩
abbrev S2560x1024 : Shape := ⟨2, ![2560, 1024]⟩
abbrev S512x2816 : Shape := ⟨2, ![512, 2816]⟩
abbrev S512x1024 : Shape := ⟨2, ![512, 1024]⟩
abbrev S512x2560 : Shape := ⟨2, ![512, 2560]⟩

abbrev nBuf : Space → Nat
  | .hbm => 13
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S4096x2560, .f32⟩
  | .hbm, ⟨2, _⟩ => ⟨S4096x1024, .f32⟩
  | .hbm, ⟨3, _⟩ => ⟨S1024x5136, .bf16⟩
  | .hbm, ⟨4, _⟩ => ⟨S1024x2576, .bf16⟩
  | .hbm, ⟨5, _⟩ => ⟨S_, .i32⟩
  | .hbm, ⟨6, _⟩ => ⟨S_, .bf16⟩
  | .hbm, ⟨7, _⟩ => ⟨S1024x2816, .bf16⟩
  | .hbm, ⟨8, _⟩ => ⟨S1024x2560, .bf16⟩
  | .hbm, ⟨9, _⟩ => ⟨S2816x1024, .bf16⟩
  | .hbm, ⟨10, _⟩ => ⟨S2560x1024, .bf16⟩
  | .hbm, ⟨11, _⟩ => ⟨S4096x1024, .f32⟩
  | .hbm, ⟨12, _⟩ => ⟨S4096x1024, .f32⟩
  | .local _ .vmem, ⟨0, _⟩ => ⟨S512x2816, .f32⟩
  | .local _ .vmem, ⟨1, _⟩ => ⟨S512x2816, .f32⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x2560, .f32⟩
  | .local _ .vmem, ⟨8, _⟩ => ⟨S512x2560, .f32⟩
  | .local _ .vmem, ⟨9, _⟩ => ⟨S2560x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2560 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2560x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== GradedXIdeal.lean ====
abbrev S4096x2816 : Shape := ⟨2, ![4096, 2816]⟩
abbrev S4096x2560 : Shape := ⟨2, ![4096, 2560]⟩
abbrev S4096x1024 : Shape := ⟨2, ![4096, 1024]⟩
abbrev S1024x5136 : Shape := ⟨2, ![1024, 5136]⟩
abbrev S4096x2576 : Shape := ⟨2, ![4096, 2576]⟩
abbrev S4096x5136 : Shape := ⟨2, ![4096, 5136]⟩
abbrev S_ : Shape := ⟨0, ![]⟩
abbrev S5136x1024 : Shape := ⟨2, ![5136, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2560, .f32⟩
  | .hbm, ⟨2, _⟩ => ⟨S4096x1024, .f32⟩
  | .hbm, ⟨3, _⟩ => ⟨S1024x5136, .bf16⟩
  | .hbm, ⟨4, _⟩ => ⟨S4096x2576, .f32⟩
  | .hbm, ⟨5, _⟩ => ⟨S4096x5136, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S1024x5136, .f32⟩
  | .hbm, ⟨10, _⟩ => ⟨S5136x1024, .f32⟩
  | .hbm, ⟨11, _⟩ => ⟨S4096x1024, .f32⟩
  | .hbm, ⟨12, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Project.lean ====
abbrev S4096x1024 : Shape := ⟨2, ![4096, 1024]⟩
abbrev S1024x5136 : Shape := ⟨2, ![1024, 5136]⟩
abbrev S1024x2576 : Shape := ⟨2, ![1024, 2576]⟩
abbrev S_ : Shape := ⟨0, ![]⟩
abbrev S1024x2816 : Shape := ⟨2, ![1024, 2816]⟩
abbrev S1024x2560 : Shape := ⟨2, ![1024, 2560]⟩
abbrev S4096x2816 : Shape := ⟨2, ![4096, 2816]⟩
abbrev S1024x1024 : Shape := ⟨2, ![1024, 1024]⟩
abbrev S1024x1408 : Shape := ⟨2, ![1024, 1408]⟩
abbrev S4096x2560 : Shape := ⟨2, ![4096, 2560]⟩
abbrev S1024x1280 : Shape := ⟨2, ![1024, 1280]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x5136, .bf16⟩
  | .hbm, ⟨2, _⟩ => ⟨S1024x2576, .bf16⟩
  | .hbm, ⟨3, _⟩ => ⟨S_, .i32⟩
  | .hbm, ⟨4, _⟩ => ⟨S_, .bf16⟩
  | .hbm, ⟨5, _⟩ => ⟨S1024x2816, .bf16⟩
  | .hbm, ⟨6, _⟩ => ⟨S1024x2560, .bf16⟩
  | .hbm, ⟨7, _⟩ => ⟨S4096x1024, .bf16⟩
  | .hbm, ⟨8, _⟩ => ⟨S4096x2816, .f32⟩
  | .hbm, ⟨9, _⟩ => ⟨S4096x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1024, .bf16⟩
  | .local _ .vmem, ⟨7, _⟩ => ⟨S1024x1024, .bf16⟩
  | .local _ .vmem, ⟨8, _⟩ => ⟨S1024x1280, .bf16⟩
  | .local _ .vmem, ⟨9, _⟩ => ⟨S1024x1280, .bf16⟩
  | .local _ .vmem, ⟨10, _⟩ => ⟨S1024x1280, .f32⟩
  | .local _ .vmem, ⟨11, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ProjectedIdeal.lean ====
abbrev S4096x1024 : Shape := ⟨2, ![4096, 1024]⟩
abbrev S1024x5136 : Shape := ⟨2, ![1024, 5136]⟩
abbrev S4096x5136 : Shape := ⟨2, ![4096, 5136]⟩
abbrev S4096x2576 : Shape := ⟨2, ![4096, 2576]⟩
abbrev S_ : Shape := ⟨0, ![]⟩
abbrev S4096x2816 : Shape := ⟨2, ![4096, 2816]⟩
abbrev S4096x2560 : Shape := ⟨2, ![4096, 2560]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5136, .bf16⟩
  | .hbm, ⟨2, _⟩ => ⟨S1024x5136, .f32⟩
  | .hbm, ⟨3, _⟩ => ⟨S4096x5136, .f32⟩
  | .hbm, ⟨4, _⟩ => ⟨S4096x2576, .f32⟩
  | .hbm, ⟨5, _⟩ => ⟨S_, .i32⟩
  | .hbm, ⟨6, _⟩ => ⟨S_, .f32⟩
  | .hbm, ⟨7, _⟩ => ⟨S4096x2816, .f32⟩
  | .hbm, ⟨8, _⟩ => ⟨S4096x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GradW.lean ====
abbrev S4096x1024 : Shape := ⟨2, ![4096, 1024]⟩
abbrev S4096x2816 : Shape := ⟨2, ![4096, 2816]⟩
abbrev S4096x2560 : Shape := ⟨2, ![4096, 2560]⟩
abbrev S1024x2816 : Shape := ⟨2, ![1024, 2816]⟩
abbrev S512x1024 : Shape := ⟨2, ![512, 1024]⟩
abbrev S512x1408 : Shape := ⟨2, ![512, 1408]⟩
abbrev S1024x1408 : Shape := ⟨2, ![1024, 1408]⟩
abbrev S1024x2560 : Shape := ⟨2, ![1024, 2560]⟩
abbrev S512x1280 : Shape := ⟨2, ![512, 1280]⟩
abbrev S1024x1280 : Shape := ⟨2, ![1024, 1280]⟩
abbrev S1024x1024 : Shape := ⟨2, ![1024, 1024]⟩
abbrev S1024x2576 : Shape := ⟨2, ![1024, 2576]⟩
abbrev S1024x5136 : Shape := ⟨2, ![1024, 5136]⟩
abbrev S2048x1024 : Shape := ⟨2, ![2048, 1024]⟩

abbrev nBuf : Space → Nat
  | .hbm => 14
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x2816, .f32⟩
  | .hbm, ⟨4, _⟩ => ⟨S4096x2560, .f32⟩
  | .hbm, ⟨5, _⟩ => ⟨S4096x1024, .f32⟩
  | .hbm, ⟨6, _⟩ => ⟨S4096x1024, .bf16⟩
  | .hbm, ⟨7, _⟩ => ⟨S1024x2816, .f32⟩
  | .hbm, ⟨8, _⟩ => ⟨S1024x2560, .f32⟩
  | .hbm, ⟨9, _⟩ => ⟨S1024x1024, .f32⟩
  | .hbm, ⟨10, _⟩ => ⟨S1024x1024, .f32⟩
  | .hbm, ⟨11, _⟩ => ⟨S1024x2576, .f32⟩
  | .hbm, ⟨12, _⟩ => ⟨S1024x5136, .f32⟩
  | .hbm, ⟨13, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1408, .f32⟩
  | .local _ .vmem, ⟨3, _⟩ => ⟨S512x1408, .f32⟩
  | .local _ .vmem, ⟨4, _⟩ => ⟨S1024x1408, .f32⟩
  | .local _ .vmem, ⟨5, _⟩ => ⟨S1024x1408, .f32⟩
  | .local _ .vmem, ⟨6, _⟩ => ⟨S512x1024, .bf16⟩
  | .local _ .vmem, ⟨7, _⟩ => ⟨S512x1024, .bf16⟩
  | .local _ .vmem, ⟨8, _⟩ => ⟨S512x1280, .f32⟩
  | .local _ .vmem, ⟨9, _⟩ => ⟨S512x1280, .f32⟩
  | .local _ .vmem, ⟨10, _⟩ => ⟨S1024x1280, .f32⟩
  | .local _ .vmem, ⟨11, _⟩ => ⟨S1024x1280, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1024x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]
-- ==== GradedWIdeal.lean ====
abbrev S4096x1024 : Shape := ⟨2, ![4096, 1024]⟩
abbrev S4096x2816 : Shape := ⟨2, ![4096, 2816]⟩
abbrev S4096x2560 : Shape := ⟨2, ![4096, 2560]⟩
abbrev S4096x2576 : Shape := ⟨2, ![4096, 2576]⟩
abbrev S4096x5136 : Shape := ⟨2, ![4096, 5136]⟩
abbrev S4096x2048 : Shape := ⟨2, ![4096, 2048]⟩
abbrev S1024x4096 : Shape := ⟨2, ![1024, 4096]⟩
abbrev S1024x5136 : Shape := ⟨2, ![1024, 5136]⟩
abbrev S2048x4096 : Shape := ⟨2, ![2048, 4096]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x2816, .f32⟩
  | .hbm, ⟨4, _⟩ => ⟨S4096x2560, .f32⟩
  | .hbm, ⟨5, _⟩ => ⟨S4096x1024, .f32⟩
  | .hbm, ⟨6, _⟩ => ⟨S4096x2576, .f32⟩
  | .hbm, ⟨7, _⟩ => ⟨S4096x5136, .f32⟩
  | .hbm, ⟨8, _⟩ => ⟨S4096x2048, .bf16⟩
  | .hbm, ⟨9, _⟩ => ⟨S4096x2048, .f32⟩
  | .hbm, ⟨10, _⟩ => ⟨S1024x4096, .f32⟩
  | .hbm, ⟨11, _⟩ => ⟨S1024x5136, .f32⟩
  | .hbm, ⟨12, _⟩ => ⟨S2048x4096, .f32⟩
  | .hbm, ⟨13, _⟩ => ⟨S2048x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Head.lean ====
abbrev S4096x1024 : Shape := ⟨2, ![4096, 1024]⟩
abbrev S2048x1024 : Shape := ⟨2, ![2048, 1024]⟩
abbrev S1x1024 : Shape := ⟨2, ![1, 1024]⟩
abbrev S1024x2048 : Shape := ⟨2, ![1024, 2048]⟩
abbrev S_ : Shape := ⟨0, ![]⟩
abbrev S8x1024 : Shape := ⟨2, ![8, 1024]⟩
abbrev S4096x2048 : Shape := ⟨2, ![4096, 2048]⟩
abbrev S256x1024 : Shape := ⟨2, ![256, 1024]⟩
abbrev S256x2048 : Shape := ⟨2, ![256, 2048]⟩
abbrev S1024x1024 : Shape := ⟨2, ![1024, 1024]⟩
abbrev S256 : Shape := ⟨1, ![256]⟩
abbrev S256x1 : Shape := ⟨2, ![256, 1]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩
abbrev S1x1 : Shape := ⟨2, ![1, 1]⟩

abbrev nBuf : Space → Nat
  | .hbm => 23
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S2048x1024, .bf16⟩
  | .hbm, ⟨5, _⟩ => ⟨S1x1024, .f32⟩
  | .hbm, ⟨6, _⟩ => ⟨S1x1024, .f32⟩
  | .hbm, ⟨7, _⟩ => ⟨S1024x2048, .bf16⟩
  | .hbm, ⟨8, _⟩ => ⟨S_, .i32⟩
  | .hbm, ⟨9, _⟩ => ⟨S_, .f32⟩
  | .hbm, ⟨10, _⟩ => ⟨S8x1024, .f32⟩
  | .hbm, ⟨11, _⟩ => ⟨S_, .i32⟩
  | .hbm, ⟨12, _⟩ => ⟨S_, .f32⟩
  | .hbm, ⟨13, _⟩ => ⟨S8x1024, .f32⟩
  | .hbm, ⟨14, _⟩ => ⟨S4096x1024, .f32⟩
  | .hbm, ⟨15, _⟩ => ⟨S4096x2048, .f32⟩
  | .hbm, ⟨16, _⟩ => ⟨S8x1024, .f32⟩
  | .hbm, ⟨17, _⟩ => ⟨S1x1, .f32⟩
  | .hbm, ⟨18, _⟩ => ⟨S_, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2048x1024, .bf16⟩
  | .local _ .vmem, ⟨9, _⟩ => ⟨S1024x2048, .bf16⟩
  | .local _ .vmem, ⟨10, _⟩ => ⟨S8x1024, .f32⟩
  | .local _ .vmem, ⟨11, _⟩ => ⟨S8x1024, .f32⟩
  | .local _ .vmem, ⟨12, _⟩ => ⟨S256x1024, .f32⟩
  | .local _ .vmem, ⟨13, _⟩ => ⟨S256x1024, .f32⟩
  | .local _ .vmem, ⟨14, _⟩ => ⟨S256x2048, .f32⟩
  | .local _ .vmem, ⟨15, _⟩ => ⟨S256x2048, .f32⟩
  | .local _ .vmem, ⟨16, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== HeadedIdeal.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S2048x1024, .bf16⟩
  | .hbm, ⟨5, _⟩ => ⟨S1x1024, .f32⟩
  | .hbm, ⟨6, _⟩ => ⟨S1x1024, .f32⟩
  | .hbm, ⟨7, _⟩ => ⟨S4096x2048, .bf16⟩
  | .hbm, ⟨8, _⟩ => ⟨S4096x2048, .f32⟩
  | .hbm, ⟨9, _⟩ => ⟨S2048x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1024x2048, .f32⟩
  | .hbm, ⟨77, _⟩ => ⟨S4096x2048, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S_, .f32⟩
  | .hbm, ⟨82, _⟩ => ⟨S1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Proof.FirstCall.lean ====
/-
# A program whose first call talks to its peers

The launch of a multi-device program whose FIRST item is a kernel without windows that copies into its peers'
arrays: before any device runs, the resources of ALL devices — the kernel's own semaphores at zero, the arrays, the
credit every device is owed — lie in one place, so they can be dealt out anew: a device's landing blocks go to the
devices that will write them (`θ_run_first`, hypothesis `hinit`). Each device then runs the kernel (`wp_first`) and
whatever follows it from what the dealing gave it.
-/
module

public import Idealize.ShloMosaic.Lib.Pipeline.Launch
public import Idealize.ShloMosaic.Lib.Pipeline.Regions
public import Idealize.ShloMosaic.Lib.Pipeline.Kit
public import Idealize.ShloMosaic.Lib.Tactic

@[expose] public section

set_option Elab.async false

noncomputable section

namespace Cert.FirstCall

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} {U : Type} [URA U]
variable {Λ₀ : Labels} {P : Type} [Fintype P] [DecidableEq P]

local notation "𝕄" => MT nD τ sig Unit Val ℕ U ℕ

variable (pcs : P → PCfg sig Λ₀ Val) (a : (p : P) → (pcs p).Adm)
  (phinj : Function.Injective (Pipeline.cellOf (nD := nD) (τ := τ) (pin pcs a)))
  (EP : Emb (URounds (GSem nD τ sig) Unit) (MT nD τ sig Unit Val ℕ U ℕ))
  (defs₀ : Defs nD τ sig Val Λ₀) (𝒱₀ : Variants)
  (L : GSem nD τ sig → Finset Unit) (lv : GSem nD τ sig → Unit → ℕ)
  (p : P) {K : Type} [Fintype K] {osem : K → SemLoc sig} (hw : WinFacts₀ (pcs p).spec) (ho : OwnSemFacts (pcs p).spec osem)

local notation "𝔻" => Pipeline.defs pcs defs₀
local notation "𝕍" => Variants.lift 𝒱₀

/-- Equal assertions entail each other. -/
theorem ent {A B : sProp 𝕄} (h : A = B) : A ⊢ B := Entails.of_eq h

/-- What a device keeps of its region boundary when the first kernel's own semaphores are taken out of it. -/
def kept (c : Dev nD) : sProp 𝕄 :=
  iprop(scopedBufs (c.tc : Thread nD τ) ∗ Pipeline.cellsSems0 (pin pcs a) p c ∗ Pipeline.idleSems0 (pin pcs a) phinj p ho c ∗ opIdle (c.tc : Thread nD τ))

include hw in
/-- The boundary is what is kept and the kernel's own semaphores at zero. -/
theorem boundary_kept (c : Dev nD) :
    (boundary (c.tc : Thread nD τ) : sProp 𝕄) ⊢ iprop(kept pcs a phinj p ho c ∗ ownSems0 osem c) := by
  unfold boundary kept
  rw [Pipeline.scopedSems0_split (pin pcs a) phinj p hw ho c]
  iintro ⟨Hsc, ⟨⟨Hcells, Hos⟩, Hidle⟩, Hidl⟩
  isplitr [Hos]
  · isplitl [Hsc]; · iexact Hsc
    isplitl [Hcells]; · iexact Hcells
    isplitl [Hidle]; · iexact Hidle
    iexact Hidl
  · iexact Hos

/-- What a device starts from, once its peers' resources have been dealt: its share `X c` of the dealing, the rest
    of its boundary, its dues, the level facts and the pipelines' ghost state. -/
def start (O₀ : Dev nD → CellTallies nD τ sig Unit) (g : Dev nD → PrngReg) (X : Dev nD → sProp 𝕄) (c : Dev nD) : sProp 𝕄 :=
  iprop(X c ∗ kept pcs a phinj p ho c ∗ owes (c.tc : Thread nD τ) (O₀ c) ∅ ∗ levAts L lv ∗ prngReg c (g c)
    ∗ Pipeline.ghostOn pcs a EP Finset.univ c)

include hw in
/-- A program launched with every counter at zero, its devices owing `O₀`: if the resources of all devices together
    can be dealt as `X` (`hinit`), and each device runs `main` from its share to `fin c` and its boundary, owing
    nothing (`hrun`), every weakly fair execution ends, in a memory that satisfies what `fin` reads (`hfin`), with
    every scoped counter and every counter of another core at zero. -/
theorem θ_run_first [∀ e, Nonempty (Val e)] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (O₀ : Dev nD → CellTallies nD τ sig Unit) (hL : ∀ g : GSem nD τ sig, g.1.2 ≠ .tc → L g = ∅)
    (G : sProp 𝕄) (u₀ : U)
    (hu₀ : (ownU u₀ : sProp 𝕄) ⊢ |={Set.univ}=> iprop(BI.own (EP (initOf (Pipeline.cells (pin pcs a) phinj) (Pipeline.launchToks (pin pcs a) phinj))) ∗ G))
    (X fin : Dev nD → sProp 𝕄)
    (hinit : iprop((bigSep Finset.univ fun c : Dev nD => iprop(ownSems0 osem c ∗ unscopedBufs c (fun b => m ((c.tc : Thread nD τ).loc b)) ∗ launchCred O₀ c)) ∗ G)
      ⊢ |={Set.univ}=> bigSep Finset.univ X)
    (hrun : ∀ c, start pcs a phinj EP L lv p ho O₀ g X c
      ⊢ wp frame (wpE 𝔻 𝕍 (c.tc : Thread nD τ) none) Set.univ (main c) fun _ =>
          iprop((fin c ∗ boundary (c.tc : Thread nD τ)) ∗ ∃ W, owes (c.tc : Thread nD τ) (0 : CellTallies nD τ sig Unit) W))
    (QY : Dev nD → MemSt nD τ sig Val → Prop)
    (hfin : ∀ c (s' : Phys nD τ sig Val), iprop(fin c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀
      (fun _ => start pcs a phinj EP L lv p ho O₀ g X) (fun _ c => iprop(fin c ∗ boundary (c.tc : Thread nD τ)))
      (fun _ => iprop(emp)) Set.univ ?_ (fun _ c => ?_) fun _ => ?_))
  · have hcore (c : Dev nD) :
        coreInit (Ix := Unit) (Name := ℕ) (U := U) (Lvl := ℕ) (owing O₀) 0 (⟨m, fun _ => 0, g⟩ : MemSt nD τ sig Val) (c.tc : Thread nD τ)
          ⊢ iprop((ownSems0 osem c ∗ unscopedBufs c (fun b => m ((c.tc : Thread nD τ).loc b)) ∗ launchCred O₀ c)
              ∗ kept pcs a phinj p ho c ∗ owes (c.tc : Thread nD τ) (O₀ c) ∅ ∗ prngReg c (g c)
              ∗ levels0 (Ix := Unit) (Val := Val) (Name := ℕ) (U := U) (Lvl := ℕ) (τ := τ) (sig := sig) c) :=
      (coreInit_boundary_owing O₀ m g c).trans (by
        iintro ⟨Hb, Hub, -, HL, Hlv, Hpr, Hcr⟩
        ihave H := (boundary_kept pcs a phinj p hw ho c) $$ Hb
        icases H with ⟨Hk, Hos⟩
        isplitl [Hos Hub Hcr]
        · isplitl [Hos]; · iexact Hos
          isplitl [Hub] <;> iassumption
        isplitl [Hk]; · iexact Hk
        isplitl [HL]; · iexact HL
        isplitl [Hpr] <;> iassumption)
    have hcores : (bigSep Finset.univ fun d : Dev nD =>
          coreInit (Ix := Unit) (Name := ℕ) (U := U) (Lvl := ℕ) (owing O₀) 0 (⟨m, fun _ => 0, g⟩ : MemSt nD τ sig Val) (d.tc : Thread nD τ))
        ⊢ iprop((bigSep Finset.univ fun c : Dev nD => iprop(ownSems0 osem c ∗ unscopedBufs c (fun b => m ((c.tc : Thread nD τ).loc b)) ∗ launchCred O₀ c))
            ∗ (bigSep Finset.univ fun c : Dev nD => kept pcs a phinj p ho c)
            ∗ (bigSep Finset.univ fun c : Dev nD => owes (c.tc : Thread nD τ) (O₀ c) ∅)
            ∗ (bigSep Finset.univ fun c : Dev nD => prngReg c (g c))
            ∗ (bigSep Finset.univ fun c : Dev nD => levels0 (Ix := Unit) (Val := Val) (Name := ℕ) (U := U) (Lvl := ℕ) (τ := τ) (sig := sig) c) : sProp 𝕄) := by
      refine (show _ ⊢ _ from BI.bigSep_mono fun c _ => hcore c).trans (Entails.of_eq ?_)
      simp only [BI.bigSep_sep']
    -- the assignment of the levels
    have hlev : (bigSep Finset.univ fun c : Dev nD => levels0 (Ix := Unit) (Val := Val) (Name := ℕ) (U := U) (Lvl := ℕ) (τ := τ) (sig := sig) c)
        ⊢ (|==> levAts L lv : sProp 𝕄) := by
      have hone (c : Dev nD) : levels0 (Ix := Unit) (Val := Val) (Name := ℕ) (U := U) (Lvl := ℕ) (τ := τ) (sig := sig) c ⊢ (|==> coreLevAts (c.tc : Thread nD τ) L lv : sProp 𝕄) := by
        refine (show levels0 c ⊢ _ from lev_assign_cells (c.tc : Thread nD τ) L lv).trans (BI.bupd_mono (show _ ⊢ coreLevAts (c.tc : Thread nD τ) L lv from by iintro ⟨-, H⟩; iexact H))
      refine (show _ ⊢ _ from BI.bigSep_mono fun c _ => hone c).trans <|
        (show _ ⊢ _ from BI.bigSep_bupd _ _).trans <| BI.bupd_mono (ent ?_)
      have hsc (d : Dev nD) (q : Proc τ) (hq : q ∈ Finset.univ.erase Proc.tc) : (coreLevAts ((d, q) : Thread nD τ) L lv : sProp 𝕄) = BI.emp := by
        unfold coreLevAts
        rw [BI.bigSep_congr (Ψ := fun _ : SemLoc sig => (BI.emp : sProp 𝕄)) fun sm _ => by
          rw [hL (((d, q) : Thread nD τ), sm) (Finset.ne_of_mem_erase hq), BI.bigSep_empty], BI.bigSep_emp_const]
      rw [show (levAts L lv : sProp 𝕄) = bigSep Finset.univ fun c : Thread nD τ => coreLevAts c L lv
          from (BI.bigSep_univ_prod fun g : GSem nD τ sig => bigSep (L g) fun ι => levAt g ι (lv g ι)),
        bigSep_threads (fun c : Thread nD τ => coreLevAts c L lv),
        BI.bigSep_congr (s := (Finset.univ : Finset (Dev nD))) (Ψ := fun _ : Dev nD => (BI.emp : sProp 𝕄)) (fun d _ => (BI.bigSep_congr (hsc d)).trans (BI.bigSep_emp_const _)), BI.bigSep_emp_const]
      exact (BI.equiv_iff.mp BI.sep_emp).symm
    have hghost : iprop((bigSep Finset.univ fun c : Dev nD => bigSep Finset.univ fun p => Pipeline.cellsGhost (pin pcs a) EP p c)
          ∗ (bigSep Finset.univ fun c : Dev nD => bigSep Finset.univ fun p => (Pipeline.toksInit (pin pcs a) EP p c : sProp 𝕄)))
        ⊢ bigSep Finset.univ fun c : Dev nD => Pipeline.ghostOn pcs a EP Finset.univ c := by
      rw [← BI.bigSep_sep']
      refine BI.bigSep_mono fun c _ => ent ?_
      show _ = PerCore.ghostOn pcs (fun _ => a) EP Finset.univ c
      unfold PerCore.ghostOn
      rw [BI.bigSep_sep']
    have hstart : iprop((bigSep Finset.univ X) ∗ (bigSep Finset.univ fun c : Dev nD => kept pcs a phinj p ho c)
          ∗ (bigSep Finset.univ fun c : Dev nD => owes (c.tc : Thread nD τ) (O₀ c) ∅)
          ∗ (bigSep Finset.univ fun c : Dev nD => (levAts L lv : sProp 𝕄))
          ∗ (bigSep Finset.univ fun c : Dev nD => prngReg c (g c))
          ∗ (bigSep Finset.univ fun c : Dev nD => Pipeline.ghostOn pcs a EP Finset.univ c))
        ⊢ (bigSep Finset.univ fun c : Dev nD => start pcs a phinj EP L lv p ho O₀ g X c : sProp 𝕄) := by
      unfold start
      simp only [BI.bigSep_sep']
      exact BI.Entails.refl _
    iintro ⟨Hcores, Hu⟩
    ihave Hc := hcores $$ Hcores
    icases Hc with ⟨Hd, Hk, HL, Hpr, Hlv⟩
    imod hlev $$ Hlv with #Hla
    imod hu₀ $$ Hu with ⟨HP, HG⟩
    imod (Pipeline.fund_ghost (pin pcs a) EP phinj) $$ HP with ⟨Hg, Ht⟩
    imod hinit $$ [Hd HG] with HX
    · isplitl [Hd] <;> iassumption
    imodintro
    iexists ()
    isplitr []
    · iapply hstart
      isplitl [HX]; · iexact HX
      isplitl [Hk]; · iexact Hk
      isplitl [HL]; · iexact HL
      isplitr; · iapply (BI.bigSep_intro_persistent (S := Finset.univ) fun (c : Dev nD) _ => (BI.Entails.refl (levAts L lv : sProp 𝕄))); iexact Hla
      isplitl [Hpr]; · iexact Hpr
      iapply hghost
      isplitl [Hg] <;> iassumption
    · iempintro
  · refine (hrun c).trans (wp_mono _ _ _ fun _ => ?_)
    unfold post
    simp only [liftTc_tc]
    exact BI.Entails.refl _
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

variable (pdats : (p : P) → (c : Dev nD) → Dat τ Val Unit ℕ U ℕ (pin pcs a p) c)

include hw in
/-- One device's run of the first kernel, which has no windows, no prefetched tables and no scoped buffer: from its
    start, with the dealing's share `X c` making the kernel's first state, to its boundary, `Y c`, and the
    other pipelines' ghost state. -/
theorem wp_first [∀ e, Nonempty (Val e)] [EP.LandsIn (upEmb : UEmb _ 𝕄)]
    (hW : IsEmpty (Fin (pcs p).W)) (hW' : IsEmpty (Fin (pin pcs a p).W)) (hstage : ∀ w s, (((pcs p).spec w).stage s).IsWhole)
    (c : Dev nD) (O₀ : Dev nD → CellTallies nD τ sig Unit) (g : Dev nD → PrngReg) (X Y : Dev nD → sProp 𝕄)
    (hpf : (prefHeld (pcs p).pre c (fun _ => fullShare.right) (a p).1 : sProp 𝕄) = BI.emp)
    (hrest : (Pipeline.scopedRest (Ix := Unit) (Name := ℕ) (U := U) (Lvl := ℕ) (Val := Val) (pin pcs a p).spec c : sProp 𝕄) = BI.emp)
    (hbody : BodyObligationLoose (pdats p c) defs₀ 𝒱₀ () Set.univ)
    (howed₀ : (pdats p c).owed 0 = O₀ c) (howedN : (pdats p c).owed (Fin.last (pin pcs a p).N) = 0)
    (hin : iprop(X c ∗ levAts L lv) ⊢ (pdats p c).Φ 0)
    (hout : (pdats p c).Φ (Fin.last (pin pcs a p).N) ⊢ iprop(Y c ∗ ownSems0 osem c))
    {α : Type} {k : PUnit → Prog (TpuEff nD τ sig Val (Sig Λ₀ P fun p => (pcs p).Adm) .tc) α} {Q : α → sProp 𝕄}
    (hk : iprop(Y c ∗ boundary (c.tc : Thread nD τ) ∗ (∃ W, owes (c.tc : Thread nD τ) (0 : CellTallies nD τ sig Unit) W) ∗ levAts L lv ∗ prngReg c (g c)
        ∗ Pipeline.ghostOn pcs a EP (Finset.univ.erase p) c)
      ⊢ wp frame (wpE 𝔻 𝕍 (c.tc : Thread nD τ) none) Set.univ (k ⟨⟩) Q) :
    start pcs a phinj EP L lv p ho O₀ g X c
      ⊢ wp frame (wpE 𝔻 𝕍 (c.tc : Thread nD τ) none) Set.univ (.op (.customCall (entry p) ()) k) Q := by
  have hss := Pipeline.scopedSems0_split (pin pcs a) phinj p hw ho (Ix := Unit) (Val := Val) (Name := ℕ) (U := U) (Lvl := ℕ) c
  have hsb := Pipeline.scopedBufs_split (pin pcs a) p hw.stage_scoped hw.stage_inj hstage (τ := τ) (Ix := Unit) (Val := Val) (Name := ℕ) (U := U) (Lvl := ℕ) c
  have hgs := PerCore.ghostOn_erase pcs (fun _ : Dev nD => a) EP (Finset.mem_univ p) c
  have hwaits : (emp : sProp 𝕄) ⊢ Pipeline.cellsWaits (pin pcs a) pdats () p c := by
    refine Pipeline.cellsWaits_intro (pin pcs a) pdats () p c fun w => (hW'.false w).elim
  have hX : iprop((X c ∗ levAts L lv) ∗ prefHeld (pcs p).pre c (fun _ => fullShare.right) (a p).1 ∗ Pipeline.scopedRest (pin pcs a p).spec c) ⊢ (pdats p c).Φ 0 := by
    iintro ⟨HX, -, -⟩
    iapply hin; iexact HX
  have hout' : iprop((pdats p c).Φ (Fin.last (pin pcs a p).N) ∗ Pipeline.cellsSems0 (pin pcs a) p c ∗ Dat.staging (pin pcs a p) c ∗ Pipeline.idleSems0 (pin pcs a) phinj p ho c)
      ⊢ iprop(Y c ∗ scopedSems0 (c.tc : Thread nD τ) ∗ scopedBufs (c.tc : Thread nD τ)) := by
    rw [hss, hsb, hrest]
    iintro ⟨HΦ, Hcells, Hst, Hidle⟩
    ihave H := hout $$ HΦ
    icases H with ⟨HY, Hos⟩
    isplitl [HY]; · iexact HY
    isplitl [Hcells Hos Hidle]
    · isplitl [Hcells Hos]; · isplitl [Hcells] <;> iassumption
      iexact Hidle
    isplitl [Hst]; · iexact Hst
    iempintro
  have hpost : EntryPost (pin pcs a) pdats () p c ⊢ (pdats p c).owesAt () (Fin.last (pin pcs a p).N) := by
    unfold EntryPost PerCore.EntryPost
    iintro ⟨-, HO⟩
    iexact HO
  have harr : (emp : sProp 𝕄) ⊢ (pdats p c).arrays ((pdats p c).arrAt · 0) := by
    unfold Dat.arrays
    rw [Finset.univ_eq_empty, BI.bigSep_empty]
    exact BI.Entails.refl _
  have hpf' : (emp : sProp 𝕄) ⊢ prefHeld (pcs p).pre c (fun _ => fullShare.right) (a p).1 := Entails.of_eq hpf.symm
  unfold start kept
  iintro ⟨HX, ⟨Hsc, Hcells, Hidle, Hidl⟩, HL, #Hla, Hpr, Hg⟩
  ihave Hg1 := (Entails.of_eq hgs) $$ Hg
  icases Hg1 with ⟨⟨Hg, Ht⟩, Hgr⟩
  iapply (fupd_wp frame (wpE 𝔻 𝕍 (c.tc : Thread nD τ) none) Set.univ _ _)
  imod (Pipeline.cellsInit_alloc (pin pcs a) pdats EP phinj p c) $$ [Hcells Hg] with ⟨%κ, -, Hinit⟩
  · isplitl [Hcells] <;> iassumption
  imodintro
  iapply (Pipeline.wp_customCall_entry_frame pcs a pdats () EP κ phinj p defs₀ 𝒱₀ (fun _ => fullShare.right) c Set.univ (fun _ _ => Set.mem_univ _)
      hbody (fun w => (hW'.false w).elim) none (fun u h => nomatch h) (X := iprop(X c ∗ levAts L lv)) (Y := Y c) (R := Pipeline.scopedRest (pin pcs a p).spec c) (I := Pipeline.idleSems0 (pin pcs a) phinj p ho c)
      (Entails.of_eq hsb) hX hout' (k := k) (Q := Q)) $$ [HL Hinit Ht HX Hidle Hsc]
  · isplitl [HL Hinit Ht]
    · unfold EntryPre PerCore.EntryPre
      isplitr; · iapply harr; iempintro
      isplitl [HL]
      · unfold Dat.owesAt owesWithin
        rw [howed₀]
        iexists ∅; isplitr; · ipureintro; rw [Finset.coe_empty]; exact Set.empty_subset _
        iexact HL
      isplitr; · iapply hwaits; iempintro
      isplitl [Hinit] <;> iassumption
    isplitr; · iapply hpf'; iempintro
    isplitl [HX]
    · isplitl [HX]; · iexact HX
      iexact Hla
    isplitl [Hidle]; · iexact Hidle
    iexact Hsc
  iintro ⟨Hpost, HY, Hss2, Hsc2⟩
  ihave HO := hpost $$ Hpost
  ihave HO' := (show (pdats p c).owesAt () (Fin.last (pin pcs a p).N) ⊢ iprop(∃ W, owes (c.tc : Thread nD τ) (0 : CellTallies nD τ sig Unit) W) from by
    unfold Dat.owesAt owesWithin
    rw [howedN]
    iintro ⟨%W, -, H⟩
    iexists W; iexact H) $$ HO
  ihave Hb := (show iprop(scopedBufs (c.tc : Thread nD τ) ∗ scopedSems0 (c.tc : Thread nD τ) ∗ opIdle (c.tc : Thread nD τ))
      ⊢ boundary (c.tc : Thread nD τ) from BI.Entails.refl _) $$ [Hsc2 Hss2 Hidl]
  · isplitl [Hsc2]; · iexact Hsc2
    isplitl [Hss2]; · iexact Hss2
    iexact Hidl
  iapply hk
  isplitl [HY]; · iexact HY
  isplitl [Hb]; · iexact Hb
  isplitl [HO']; · iexact HO'
  isplitr; · iexact Hla
  isplitl [Hpr]; · iexact Hpr
  iexact Hgr

end Cert.FirstCall
-- ==== Proof.OneShot.lean ====
/-
# Semaphore cells that are used once

Both exchange kernels of this proof use every one of their DMA semaphores for exactly one transfer: one transfer
credits it, one wait drains it. This module states that discipline once, for any finite family of cells: the
schedule of the rounds library with a single duty in round 0 of each cell, the launch of all cells from their
counters at zero, and the rules for a remote copy, a local copy and a wait, in terms of memrefs OWNED at contents
(`owns`), so that what a transfer hands over is always "this block holds these values".

* `seat k` — the owner's place at cell `k`, before its wait;
* `ticket k` — the right to credit cell `k` once;
* `spent k` — the owner's place after the wait; it gives back the counter at zero (`spent_close`).
-/
module

public import Idealize.ShloMosaic.Lib.Pipeline.Launch
public import Idealize.ShloMosaic.Lib.Pipeline.Kit
public import Idealize.ShloMosaic.Lib.Tactic

@[expose] public section

noncomputable section

namespace Cert.OneShot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {U : Type} [URA U] {Λ : Labels}

local notation "𝕄" => MT nD τ sig Unit Val ℕ U ℕ

variable (ER : Emb (URounds (GSem nD τ sig) Unit) (MT nD τ sig Unit Val ℕ U ℕ))
variable {K : Type} [Fintype K] [DecidableEq K] (cell : K ↪ GSem nD τ sig) (amt : K → ℕ)
  (pay : K → sProp (MT nD τ sig Unit Val ℕ U ℕ))

/-- The amount of a cell: the family's where the cell is one of it, zero elsewhere. -/
def amtAt (g : GSem nD τ sig) : ℕ := Function.extend cell amt (fun _ => 0) g

/-- The payload of a cell: the family's where the cell is one of it, nothing elsewhere. -/
def payAt (g : GSem nD τ sig) : sProp 𝕄 := Function.extend cell pay (fun _ => iprop(emp)) g

omit [Fintype K] [DecidableEq K] in
theorem amtAt_cell (k : K) : amtAt cell amt (cell k) = amt k := cell.injective.extend_apply _ _ _
omit [Fintype K] [DecidableEq K] in
theorem payAt_cell (k : K) : payAt cell pay (cell k) = pay k := cell.injective.extend_apply _ _ _

/-- One duty in round 0 of every cell of the family, none elsewhere. -/
def sched : Schedule (GSem nD τ sig) Unit 𝕄 where
  duties g r := if r = 0 ∧ amtAt cell amt g ≠ 0 then {()} else ∅
  amount g _ _ := amtAt cell amt g
  payload g _ _ := payAt cell pay g
  amount_pos g r d h := by
    by_cases h' : r = 0 ∧ amtAt cell amt g ≠ 0
    · exact Nat.pos_of_ne_zero h'.2
    · rw [if_neg h'] at h; exact absurd h (Finset.notMem_empty _)

omit [Fintype K] [DecidableEq K] in
theorem sched_storable (hst : ∀ k, Storable (upEmb : UEmb _ 𝕄) (pay k)) (g : GSem nD τ sig) (r : ℕ) (d : Unit) :
    Storable (upEmb : UEmb _ 𝕄) ((sched cell amt pay).payload g r d) := by
  show Storable (upEmb : UEmb _ 𝕄) (payAt cell pay g)
  by_cases h : ∃ k, cell k = g
  · obtain ⟨k, rfl⟩ := h; rw [payAt_cell]; exact hst k
  · unfold payAt; rw [Function.extend_apply' _ _ _ h]; infer_instance

omit [Fintype K] [DecidableEq K] in
theorem duties_zero (hamt : ∀ k, 0 < amt k) (k : K) : (sched cell amt pay).duties (cell k) 0 = {()} :=
  if_pos ⟨rfl, by rw [amtAt_cell]; exact (hamt k).ne'⟩

omit [Fintype K] [DecidableEq K] in
theorem mem_duties (hamt : ∀ k, 0 < amt k) (k : K) : () ∈ (sched cell amt pay).duties (cell k) 0 := by
  rw [duties_zero cell amt pay hamt k]; exact Finset.mem_singleton_self _

omit [Fintype K] [DecidableEq K] in
theorem duties_later (g : GSem nD τ sig) (r : ℕ) (hr : 1 ≤ r) : (sched cell amt pay).duties g r = ∅ :=
  if_neg fun h => by omega

omit [Fintype K] [DecidableEq K] in
theorem expect_zero (hamt : ∀ k, 0 < amt k) (k : K) : (sched cell amt pay).expect (cell k) 0 = amt k := by
  unfold Schedule.expect Schedule.amountOf
  rw [duties_zero cell amt pay hamt k, Finset.sum_singleton]
  exact amtAt_cell cell amt k

/-- The owner's place at cell `k` before its wait. -/
def seat (k : K) : sProp 𝕄 :=
  iprop(∃ κ : ℕ, cellInv ER (sched cell amt pay) κ (cell k) ∗ atPos ER (cell k) 0 ∅ 0)

/-- The right to credit cell `k`, once. -/
def ticket (k : K) : sProp 𝕄 :=
  iprop(∃ κ : ℕ, cellInv ER (sched cell amt pay) κ (cell k) ∗ dutyTok ER (cell k) 0 () ∗ reached ER (cell k) 0)

/-- The owner's place at cell `k` after its wait. -/
def spent (k : K) : sProp 𝕄 :=
  iprop(∃ κ : ℕ, cellInv ER (sched cell amt pay) κ (cell k) ∗ atPos ER (cell k) 1 ∅ 0)

/-- The launch element of the family: every cell, with the token of its one duty. -/
def launchElt : URounds (GSem nD τ sig) Unit :=
  initOf (Finset.univ.map cell) (Finset.univ.map ⟨fun k => (cell k, 0, ()), fun a b h => cell.injective (congrArg (·.1) h)⟩)

/-- The launch: from all counters at zero and the launch element, every cell's owner has its place and every cell's
    right to be credited is there to be handed out. -/
theorem launch [ER.LandsIn (upEmb : UEmb _ 𝕄)] (hst : ∀ k, Storable (upEmb : UEmb _ 𝕄) (pay k)) :
    iprop((bigSep Finset.univ fun k => (semVal (cell k) 0 : sProp 𝕄)) ∗ BI.own (ER (launchElt cell)))
      ⊢ |={Set.univ}=> iprop((bigSep Finset.univ fun k => seat ER cell amt pay k) ∗ (bigSep Finset.univ fun k => ticket ER cell amt pay k)) := by
  have hst' := sched_storable cell amt pay hst
  have hone (k : K) : iprop((semVal (cell k) 0 ∗ roundState ER (sched cell amt pay) (cell k) 0) ∗ reached ER (cell k) 0
      ∗ atPos ER (cell k) 0 ∅ 0 ∗ dutyTok ER (cell k) 0 ()) ⊢ (|={Set.univ}=> iprop(seat ER cell amt pay k ∗ ticket ER cell amt pay k) : sProp 𝕄) := by
    iintro ⟨Hb, Hr, Ha, Ht⟩
    imod ((body_intro ER (sched cell amt pay) (cell k)).trans (inv_alloc (E := Set.univ))) $$ Hb with ⟨%κ, #Hi⟩
    imodintro
    unfold seat ticket
    isplitl [Ha]
    · iexists κ
      isplitr; · iexact Hi
      iexact Ha
    · iexists κ
      isplitr; · iexact Hi
      isplitl [Ht] <;> iassumption
  have hfund : (BI.own (ER (launchElt cell)) : sProp 𝕄) ⊢ |==> iprop((bigSep Finset.univ fun k => roundState ER (sched cell amt pay) (cell k) 0)
      ∗ (bigSep Finset.univ fun k => reached ER (cell k) 0) ∗ (bigSep Finset.univ fun k => atPos ER (cell k) 0 ∅ 0)
      ∗ (bigSep Finset.univ fun k => dutyTok ER (cell k) 0 ())) := by
    refine (fund ER (sched cell amt pay) _ _).trans (Entails.of_eq ?_)
    rw [BI.bigSep_map, BI.bigSep_map, BI.bigSep_map, BI.bigSep_map]
    rfl
  have hall : iprop((bigSep Finset.univ fun k => (semVal (cell k) 0 : sProp 𝕄))
      ∗ (bigSep Finset.univ fun k => roundState ER (sched cell amt pay) (cell k) 0)
      ∗ (bigSep Finset.univ fun k => reached ER (cell k) 0) ∗ (bigSep Finset.univ fun k => atPos ER (cell k) 0 ∅ 0)
      ∗ (bigSep Finset.univ fun k => dutyTok ER (cell k) 0 ()))
      ⊢ (|={Set.univ}=> iprop((bigSep Finset.univ fun k => seat ER cell amt pay k) ∗ (bigSep Finset.univ fun k => ticket ER cell amt pay k)) : sProp 𝕄) := by
    simp only [← BI.bigSep_sep']
    refine (BI.bigSep_mono fun k _ => ?_).trans (bigSep_fupd _ _)
    refine (show _ ⊢ _ from ?_).trans (hone k)
    iintro ⟨H1, H2, H3, H4, H5⟩
    isplitl [H1 H2]
    · isplitl [H1] <;> iassumption
    isplitl [H3]; · iexact H3
    isplitl [H4] <;> iassumption
  iintro ⟨Hs, Hu⟩
  imod hfund $$ Hu with ⟨Hst, Hr, Ha, Ht⟩
  iapply hall
  isplitl [Hs]; · iexact Hs
  isplitl [Hst]; · iexact Hst
  isplitl [Hr]; · iexact Hr
  isplitl [Ha] <;> iassumption

/-- After its wait the owner takes the cell's counter back, at zero. -/
theorem spent_close (k : K) : spent ER cell amt pay k ⊢ (|={Set.univ}=> semVal (cell k) 0 : sProp 𝕄) := by
  unfold spent
  iintro ⟨%κ, Hi, Ha⟩
  iapply (cell_close ER (sched cell amt pay) (Es := Set.univ) (Set.mem_univ κ) (fun h => h) (R := 1) (fun r hr => duties_later cell amt pay _ r hr))
  isplitl [Hi] <;> iassumption

section Rules

variable {defs : Defs nD τ sig Val Λ} (𝒱 : Variants)
variable {sp sp' : Space} {s : Shape} {e : EltTy} {α : Type}

/-- A remote copy: device `c` sends the memref it owns at `X` into a memref of `c'` it owns outright, crediting its
    own cell `k₁` and the peer's cell `k₂`. The source comes back from `k₁`, the destination, now holding `X`, goes
    to the owner of `k₂`. -/
theorem wp_send {c c' : Dev nD} (k₁ k₂ : K) {src : Memref sig (c.tc : Thread nD τ).2.kind sp s e} {dst : Memref sig (c'.tc : Thread nD τ).2.kind sp' s e}
    {hsc : dst.view.ref.isScScratch = false} {sS sem : SemLoc sig} {hsrc : src.view.WordExact} {hdst : dst.view.WordExact}
    {hsem : DmaTarget.Typed sp sem (.remote (c'.tc : Thread nD τ) dst sS hsc)} {k : PUnit → Prog (TpuEff nD τ sig Val Λ .tc) α} {Q : α → sProp 𝕄}
    {q : PosShare TreeShare} {X : s.Idx → Val e}
    (hamt : ∀ k, 0 < amt k) (h₁ : cell k₁ = (c.tc, sS)) (h₂ : cell k₂ = (c'.tc, sem)) (hN : dst.view.amount sem = amt k₂) (hN₁ : amt k₁ = amt k₂)
    (hp₁ : owns (c.tc) src q X ⊢ pay k₁) (hp₂ : owns (c'.tc) dst fullShare X ⊢ pay k₂) (O : CellTallies nD τ sig Unit) {W : Waits sig Unit}
    (hr : τ.routes (c.tc) (c'.tc) = true := by routes) :
    iprop(ticket ER cell amt pay k₁ ∗ ticket ER cell amt pay k₂ ∗ owns (c.tc) src q X ∗ (∃ Y, owns (c'.tc) dst fullShare Y)
        ∗ owes (c.tc) (O + tallyAt (cell k₂) () (amt k₂)) W)
      ⊢ iprop(((cred (tallyAt (cell k₁) () (amt k₁)) ∗ owes (c.tc) O W) -∗ wp frame (wpE defs 𝒱 (c.tc) none) Set.univ (k ⟨⟩) Q)
          -∗ wp frame (wpE defs 𝒱 (c.tc) none) Set.univ (.op (.enqueueDma src (.remote (c'.tc) dst sS hsc) sem hsrc hdst hsem) k) Q) := by
  unfold ticket owns
  rw [h₁, h₂, hN₁]
  iintro ⟨⟨%κ₁, Hi₁, Ht₁, Hr₁⟩, ⟨%κ₂, Hi₂, Ht₂, Hr₂⟩, ⟨%fs, %hfs, Hs⟩, ⟨%Y, %fd, -, Hd⟩, Ho⟩
  iapply (Rounds.wp_send_pointsTo 𝒱 ER (sched cell amt pay) (c.tc) none (c' := c'.tc) (κ₁ := κ₁) (κ₂ := κ₂) (q := q) (fs := fs) (fd := fd) (r₁ := 0) (r₂ := 0) (d₁ := ()) (d₂ := ())
    (h₁ ▸ mem_duties cell amt pay hamt k₁) (h₂ ▸ mem_duties cell amt pay hamt k₂) () () (amt k₂) hN
    (by rw [← h₁, ← hN₁]; exact amtAt_cell cell amt k₁) (by rw [← h₂]; exact amtAt_cell cell amt k₂) O rfl
    (by
      refine (show _ ⊢ owns (c.tc) src q X from ?_).trans (hp₁.trans (Entails.of_eq ?_))
      · unfold owns; iintro H; iexists fs; isplitr; · ipureintro; exact hfs
        iexact H
      · rw [← h₁]; exact (payAt_cell cell pay k₁).symm)
    (by
      refine (show _ ⊢ owns (c'.tc) dst fullShare X from ?_).trans (hp₂.trans (Entails.of_eq ?_))
      · unfold owns; iintro H; iexists _; isplitr; rotate_left; · iexact H
        ipureintro; rw [View.read_write_univ]; exact hfs
      · rw [← h₂]; exact (payAt_cell cell pay k₂).symm) (hr := hr)) $$ [Hi₁ Hi₂ Hs Hd Ho Ht₁ Hr₁ Ht₂ Hr₂]
  isplitl [Hi₁]; · iexact Hi₁
  isplitl [Hi₂]; · iexact Hi₂
  isplitl [Hs]; · iexact Hs
  isplitl [Hd]; · iexact Hd
  isplitl [Ho]; · iexact Ho
  isplitl [Ht₁]; · iexact Ht₁
  isplitl [Hr₁]; · iexact Hr₁
  isplitl [Ht₂] <;> iassumption

/-- A copy on the device itself, crediting its own cell `k₁`: the cell's owner gets the destination, now holding
    `X`, and the source's share back. -/
theorem wp_copy {c : Dev nD} (k₁ : K) {src : Memref sig (c.tc : Thread nD τ).2.kind sp s e} {dst : Memref sig (c.tc : Thread nD τ).2.kind sp' s e}
    {sem : SemLoc sig} {hsrc : src.view.WordExact} {hdst : dst.view.WordExact}
    {hsem : DmaTarget.Typed (nD := nD) sp sem (.here dst)} {k : PUnit → Prog (TpuEff nD τ sig Val Λ .tc) α} {Q : α → sProp 𝕄}
    {q : PosShare TreeShare} {X : s.Idx → Val e}
    (hamt : ∀ k, 0 < amt k) (h₁ : cell k₁ = (c.tc, sem)) (hN : dst.view.amount sem = amt k₁)
    (hp : iprop(owns (c.tc) dst fullShare X ∗ owns (c.tc) src q X) ⊢ pay k₁) :
    iprop(ticket ER cell amt pay k₁ ∗ owns (c.tc) src q X ∗ (∃ Y, owns (c.tc) dst fullShare Y))
      ⊢ iprop((cred (tallyAt (cell k₁) () (amt k₁)) -∗ wp frame (wpE defs 𝒱 (c.tc) none) Set.univ (k ⟨⟩) Q)
          -∗ wp frame (wpE defs 𝒱 (c.tc) none) Set.univ (.op (.enqueueDma src (.here dst) sem hsrc hdst hsem) k) Q) := by
  unfold ticket owns
  rw [h₁]
  iintro ⟨⟨%κ₁, Hi₁, Ht₁, Hr₁⟩, ⟨%fs, %hfs, Hs⟩, ⟨%Y, %fd, -, Hd⟩⟩
  iapply (Rounds.wp_copy_pointsTo 𝒱 ER (sched cell amt pay) (c.tc) none (κ := κ₁) (q := q) (fs := fs) (fd := fd) (r := 0) (d := ())
    (h₁ ▸ mem_duties cell amt pay hamt k₁) () (amt k₁) hN (by rw [← h₁]; exact amtAt_cell cell amt k₁)
    (by
      refine (show _ ⊢ iprop(owns (c.tc) dst fullShare X ∗ owns (c.tc) src q X) from ?_).trans (hp.trans (Entails.of_eq ?_))
      · unfold owns
        iintro ⟨H, H'⟩
        isplitl [H]
        · iexists _; isplitr; rotate_left; · iexact H
          ipureintro; rw [View.read_write_univ]; exact hfs
        · iexists fs; isplitr; · ipureintro; exact hfs
          iexact H'
      · rw [← h₁]; exact (payAt_cell cell pay k₁).symm)) $$ [Hi₁ Hs Hd Ht₁ Hr₁]
  isplitl [Hi₁]; · iexact Hi₁
  isplitl [Hs]; · iexact Hs
  isplitl [Hd]; · iexact Hd
  isplitl [Ht₁] <;> iassumption

/-- The wait at cell `k₁`: its owner gets the cell's payload. -/
theorem wp_wait {c : Dev nD} (k₁ : K) {sem : DmaSem sig} {sp sp' : Space} {s s' : Shape} {e e' : EltTy}
    {src : Memref sig .tc sp' s' e'} {κ' : Kind} {dst : Memref sig κ' sp s e} {hsrc : src.view.WordExact} {hdst : dst.view.WordExact}
    {k : PUnit → Prog (TpuEff nD τ sig Val Λ .tc) α} {Q : α → sProp 𝕄}
    (hamt : ∀ k, 0 < amt k) (h₁ : cell k₁ = (c.tc, .dma sem)) (hN : dst.view.dmaCredit = amt k₁) {O : CellTallies nD τ sig Unit} {W : Waits sig Unit} :
    iprop(seat ER cell amt pay k₁ ∗ cred (tallyAt (cell k₁) () (amt k₁)) ∗ owes (c.tc) O W ∗ MayWait (c.tc) (.dma sem) () O)
      ⊢ iprop(((owes (c.tc) O (insert (.dma sem, ()) W) ∗ spent ER cell amt pay k₁ ∗ pay k₁)
            -∗ wp frame (wpE defs 𝒱 (c.tc) none) Set.univ (k ⟨⟩) Q)
          -∗ wp frame (wpE defs 𝒱 (c.tc) none) Set.univ (.op (.waitDma2 sem src dst hsrc hdst) k) Q) := by
  have hpay : bigSep ((sched cell amt pay).duties (cell k₁) 0 \ ∅) (fun d => (sched cell amt pay).payload (cell k₁) 0 d) = pay k₁ := by
    rw [Finset.sdiff_empty, duties_zero cell amt pay hamt, BI.bigSep_singleton]; exact payAt_cell cell pay k₁
  unfold seat spent
  rw [← hN]
  rw [h₁] at hpay ⊢
  iintro ⟨⟨%κ, #Hi, Ha⟩, Hc, Ho, Hm⟩ Hk
  iapply (Rounds.wp_wait_rest_token 𝒱 ER (sched cell amt pay) (c.tc) none (wpE_waitDma2_eq 𝒱 (c.tc) none Set.univ) (Set.mem_univ κ) () (O := O) (W := W) (R := 0) (m := 0) (T := ∅)
    (by rw [Nat.zero_add, hN, ← h₁]; exact (expect_zero cell amt pay hamt k₁).symm)) $$ [Ha Hc Ho Hm]
  · isplitr; · iexact Hi
    isplitl [Hc]; · iexact Hc
    isplitl [Ho]; · iexact Ho
    isplitl [Hm] <;> iassumption
  iintro ⟨Ho, Ha, -, Hp⟩
  ihave Hp' := (Entails.of_eq hpay) $$ Hp
  iapply Hk
  isplitl [Ho]; · iexact Ho
  isplitl [Ha]
  · iexists κ
    isplitr; · iexact Hi
    iexact Ha
  · iexact Hp'

end Rules

end Cert.OneShot
-- ==== Proof.Script.lean ====
/-
# A device's transfers, step by step

An exchange kernel is a fixed sequence of starts and waits of transfers, the same on every device. This module states
such a sequence as a list (`Op`), says what a device holds before each step (`St`), and proves one theorem per kind of
step that takes the state before it to the state after it. A kernel's proof is then one such theorem per operation of
its body, with the memrefs and semaphores of that operation.

A semaphore of the kernel has a name `x : Cl`; cell `(d, x)` is device `d`'s semaphore `x`. Every cell is used once
(module `OneShot`).
-/
module

public import proofs.«01_k».proof.Proof.OneShot

@[expose] public section

noncomputable section

namespace Cert.Script

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- One operation of the sequence: a copy on the device itself that credits its semaphore `x`; a copy to a peer that
    credits the device's own `xs` and the peer's `xr`; a wait at the device's own `x`. -/
inductive Op (Cl : Type) where
  | copy (x : Cl)
  | send (xs xr : Cl)
  | wait (x : Cl)

/-- What a device gathers on its way: the credit for a wait still to come, the place at a semaphore it has waited at,
    the payload that wait gave it. -/
inductive Item (Cl : Type) where
  | cred (x : Cl)
  | spent (x : Cl)
  | got (x : Cl)
  deriving DecidableEq

variable {nD : Nat} {τ : Topo} {sig : RefSig} {Val : EltTy → Type} {U : Type} [URA U]

/-- The separating conjunction along a list. -/
def sepL {M : Type} [URA M] {I : Type} (Φ : I → sProp M) : List I → sProp M
  | [] => iprop(emp)
  | i :: l => iprop(Φ i ∗ sepL Φ l)

theorem sepL_perm {M : Type} [URA M] {I : Type} (Φ : I → sProp M) {l l' : List I} (h : l.Perm l') : sepL Φ l ⊢ sepL Φ l' := by
  induction h with
  | nil => exact BI.Entails.refl _
  | cons x _ ih =>
    show iprop(Φ x ∗ sepL Φ _) ⊢ iprop(Φ x ∗ sepL Φ _)
    iintro ⟨H, Hl⟩; isplitl [H]; · iexact H
    iapply ih; iexact Hl
  | swap x y l =>
    show iprop(Φ y ∗ Φ x ∗ sepL Φ l) ⊢ iprop(Φ x ∗ Φ y ∗ sepL Φ l)
    iintro ⟨Hy, Hx, Hl⟩
    isplitl [Hx]; · iexact Hx
    isplitl [Hy] <;> iassumption
  | trans _ _ ih₁ ih₂ => exact ih₁.trans ih₂

theorem sepL_append {M : Type} [URA M] {I : Type} (Φ : I → sProp M) (l l' : List I) : sepL Φ (l ++ l') ⊢ iprop(sepL Φ l ∗ sepL Φ l') := by
  induction l with
  | nil =>
    show sepL Φ l' ⊢ iprop(emp ∗ sepL Φ l')
    iintro H; isplitr; · iempintro
    iexact H
  | cons x l ih =>
    show iprop(Φ x ∗ sepL Φ (l ++ l')) ⊢ iprop((Φ x ∗ sepL Φ l) ∗ sepL Φ l')
    iintro ⟨Hx, H⟩
    ihave H' := ih $$ H
    icases H' with ⟨H1, H2⟩
    isplitr [H2]
    · isplitl [Hx] <;> iassumption
    · iexact H2

theorem sepL_erase {M : Type} [URA M] {I : Type} [DecidableEq I] (Φ : I → sProp M) {l : List I} {x : I} (h : x ∈ l) :
    sepL Φ l ⊢ iprop(Φ x ∗ sepL Φ (l.erase x)) := sepL_perm Φ (List.perm_cons_erase h)

/-- The set's separating conjunction, along a list that lists the set. -/
theorem bigSep_sepL {M : Type} [URA M] {I : Type} [DecidableEq I] (Φ : I → sProp M) (l : List I) (hl : l.Nodup) :
    bigSep l.toFinset Φ = sepL Φ l := by
  induction l with
  | nil => exact BI.bigSep_empty
  | cons x l ih =>
    rw [List.nodup_cons] at hl
    rw [List.toFinset_cons, BI.bigSep_insert (by rw [List.mem_toFinset]; exact hl.1), ih hl.2]
    rfl

/-- An exchange kernel: its semaphores, what each hands over, and its sequence of operations. `peer xs d` is the device
    a copy on `d` that credits `xs` writes to; `uses xs` names the wait whose payload that copy sends on; `fuel d x` is
    what the copy that credits `x` on device `d` needs besides (blocks to read, blocks to write); `init` lists what a
    device holds from the launch on top of that. -/
structure Proto (nD : Nat) (τ : Topo) (sig : RefSig) (Val : EltTy → Type) (U : Type) [URA U] (Cl : Type) where
  sem : Cl → DmaSem sig
  inj : Function.Injective sem
  amt : Cl → ℕ
  pos : ∀ x, 0 < amt x
  pay : Dev nD × Cl → sProp (MT nD τ sig Unit Val ℕ U ℕ)
  peer : Cl → Dev nD → Dev nD
  uses : Cl → Option Cl
  fuel : Dev nD → Cl → sProp (MT nD τ sig Unit Val ℕ U ℕ)
  lvl : SemLoc sig → ℕ
  ops : List (Op Cl)
  init : List (Item Cl)

variable {Cl : Type} [Fintype Cl] [DecidableEq Cl]

local notation "𝕄" => MT nD τ sig Unit Val ℕ U ℕ

variable (ER : Emb (URounds (GSem nD τ sig) Unit) (MT nD τ sig Unit Val ℕ U ℕ)) (P : Proto nD τ sig Val U Cl)

namespace Proto

/-- Device `d`'s semaphore `x`. -/
def cell : Dev nD × Cl ↪ GSem nD τ sig where
  toFun p := (p.1.tc, .dma (P.sem p.2))
  inj' := by
    rintro ⟨d, x⟩ ⟨d', x'⟩ h
    have h₁ : d = d' := congrArg (fun g : GSem nD τ sig => g.1.1) h
    have h₂ : SemLoc.dma (P.sem x) = SemLoc.dma (P.sem x') := congrArg Prod.snd h
    injection h₂ with h₂
    rw [h₁, P.inj h₂]

/-- The amount of a cell. -/
def amt' (p : Dev nD × Cl) : ℕ := P.amt p.2

/-- What one operation adds to and takes from what a device has gathered. -/
def upd (its : List (Item Cl)) : Op Cl → List (Item Cl)
  | .copy x => .cred x :: its
  | .send xs _ => .cred xs :: (match P.uses xs with | none => its | some x => its.erase (.got x))
  | .wait x => .spent x :: .got x :: its.erase (.cred x)

/-- What a device has gathered before step `n`. -/
def items (n : ℕ) : List (Item Cl) := (P.ops.take n).foldl P.upd P.init

/-- The device's dues for a list of operations: what its copies still have to credit at their peers. -/
def dues (c : Dev nD) : List (Op Cl) → CellTallies nD τ sig Unit
  | [] => 0
  | .send xs xr :: l => dues c l + tallyAt (P.cell (P.peer xs c, xr)) () (P.amt xr)
  | _ :: l => dues c l

/-- A wait at `x` is safe before the operations `l`: every due still open is of a higher level. -/
def safe (x : Cl) : List (Op Cl) → Bool
  | [] => true
  | .send _ xr :: l => decide (P.lvl (.dma (P.sem x)) < P.lvl (.dma (P.sem xr))) && safe x l
  | _ :: l => safe x l

/-- `items`, from the script alone. -/
def itemsOf (uses : Cl → Option Cl) (ops : List (Op Cl)) (init : List (Item Cl)) (n : ℕ) : List (Item Cl) :=
  (ops.take n).foldl (fun its op => match op with
    | .copy x => .cred x :: its
    | .send xs _ => .cred xs :: (match uses xs with | none => its | some x => its.erase (.got x))
    | .wait x => .spent x :: .got x :: its.erase (.cred x)) init

theorem items_eq (n : ℕ) : P.items n = itemsOf P.uses P.ops P.init n := by
  unfold items itemsOf
  congr 1

/-- `safe`, from the levels alone. -/
def safeOf (lv : Cl → ℕ) (x : Cl) : List (Op Cl) → Bool
  | [] => true
  | .send _ xr :: l => decide (lv x < lv xr) && safeOf lv x l
  | _ :: l => safeOf lv x l

theorem safe_eq (x : Cl) : ∀ l : List (Op Cl), P.safe x l = safeOf (fun y => P.lvl (.dma (P.sem y))) x l
  | [] => rfl
  | .send _ xr :: l => by
    show (decide _ && P.safe x l) = _
    rw [safe_eq x l]; rfl
  | .copy _ :: l => safe_eq x l
  | .wait _ :: l => safe_eq x l

/-- The indices of the cells: the TensorCores'. -/
def L (g : GSem nD τ sig) : Finset Unit := if g.1.2 = .tc then {()} else ∅
/-- The levels. -/
def lv (g : GSem nD τ sig) (_ : Unit) : ℕ := P.lvl g.2

/-- What an operation needs from the launch. -/
def need (c : Dev nD) : Op Cl → sProp 𝕄
  | .copy x => iprop(OneShot.ticket ER P.cell P.amt' P.pay (c, x) ∗ P.fuel c x)
  | .send xs xr => iprop(OneShot.ticket ER P.cell P.amt' P.pay (c, xs) ∗ OneShot.ticket ER P.cell P.amt' P.pay (P.peer xs c, xr) ∗ P.fuel c xs)
  | .wait x => OneShot.seat ER P.cell P.amt' P.pay (c, x)

/-- What a gathered item is. -/
def hold (c : Dev nD) : Item Cl → sProp 𝕄
  | .cred x => cred (tallyAt (P.cell (c, x)) () (P.amt x))
  | .spent x => OneShot.spent ER P.cell P.amt' P.pay (c, x)
  | .got x => P.pay (c, x)

/-- What device `c` holds before step `n`. -/
def St (c : Dev nD) (n : ℕ) : sProp 𝕄 :=
  iprop(sepL (P.need ER c) (P.ops.drop n) ∗ sepL (P.hold ER c) (P.items n)
    ∗ (∃ W, owes (c.tc : Thread nD τ) (P.dues c (P.ops.drop n)) W) ∗ levAts (L (nD := nD) (τ := τ) (sig := sig)) P.lv)

omit [Fintype Cl] in
theorem drop_eq {n : ℕ} {op : Op Cl} (h : P.ops[n]? = some op) : P.ops.drop n = op :: P.ops.drop (n + 1) := by
  obtain ⟨hn, rfl⟩ := List.getElem?_eq_some_iff.mp h
  exact List.drop_eq_getElem_cons hn

omit [Fintype Cl] in
theorem items_succ {n : ℕ} {op : Op Cl} (h : P.ops[n]? = some op) : P.items (n + 1) = P.upd (P.items n) op := by
  unfold items
  rw [List.take_add_one, h, Option.toList_some, List.foldl_append]
  rfl

omit [Fintype Cl] in
/-- An open due of a list is one of its sends'. -/
theorem dues_pos (c : Dev nD) {x : Cl} : ∀ (l : List (Op Cl)), P.safe x l = true → ∀ (g : GSem nD τ sig) (i : Unit), 0 < P.dues c l g i →
    i ∈ L g ∧ P.lvl (.dma (P.sem x)) < P.lv g i
  | [], _, g, i, h => absurd h (by simp [dues])
  | .send xs xr :: l, hs, g, i, h => by
    have hs' : P.lvl (.dma (P.sem x)) < P.lvl (.dma (P.sem xr)) ∧ P.safe x l = true := by simpa [safe] using hs
    rcases Pipeline.add_pos_cases h with h | h
    · exact dues_pos c l hs'.2 g i h
    · by_cases hg : g = P.cell (P.peer xs c, xr)
      · subst hg
        exact ⟨by show i ∈ (if (Proc.tc : Proc τ) = Proc.tc then ({()} : Finset Unit) else ∅); rw [if_pos rfl]; exact Finset.mem_singleton_self _, hs'.1⟩
      · rw [tallyAt_ne_cell hg] at h; exact absurd h (by simp)
  | .copy _ :: l, hs, g, i, h => dues_pos c l hs g i h
  | .wait _ :: l, hs, g, i, h => dues_pos c l hs g i h

section Steps

variable {Λ : Labels} {defs : Defs nD τ sig Val Λ} {𝒱 : Variants}
variable {sp sp' : Space} {s : Shape} {e : EltTy} {α : Type}

/-- A copy to a peer. -/
theorem step_send {c c' : Dev nD} (n : ℕ) (xs xr : Cl) {src : Memref sig .tc sp s e} {dst : Memref sig .tc sp' s e}
    {hsc : dst.view.ref.isScScratch = false} {sS sm : SemLoc sig} {hsrc : src.view.WordExact} {hdst : dst.view.WordExact}
    {hty : DmaTarget.Typed sp sm (.remote (c'.tc : Thread nD τ) dst sS hsc)} {k : PUnit → Prog (TpuEff nD τ sig Val Λ .tc) α} {Q : α → sProp 𝕄}
    (q : PosShare TreeShare) (X : s.Idx → Val e)
    (h : P.ops[n]? = some (.send xs xr)) (hu : ∀ x, P.uses xs = some x → Item.got x ∈ P.items n)
    (hpeer : c' = P.peer xs c) (hS : sS = .dma (P.sem xs)) (hR : sm = .dma (P.sem xr)) (hN : dst.view.amount sm = P.amt xr) (hN₁ : P.amt xs = P.amt xr)
    (hfuel : iprop(P.fuel c xs ∗ (match P.uses xs with | none => iprop(emp) | some x => P.pay (c, x)))
      ⊢ iprop(owns (c.tc) src q X ∗ ∃ Y, owns (c'.tc) dst fullShare Y))
    (hp₁ : owns (c.tc) src q X ⊢ P.pay (c, xs)) (hp₂ : owns (c'.tc) dst fullShare X ⊢ P.pay (P.peer xs c, xr))
    (hr : τ.routes (c.tc) (c'.tc) = true)
    (hk : P.St ER c (n + 1) ⊢ wp frame (wpE defs 𝒱 (c.tc) none) Set.univ (k ⟨⟩) Q) :
    P.St ER c n ⊢ wp frame (wpE defs 𝒱 (c.tc) none) Set.univ (.op (.enqueueDma src (.remote (c'.tc) dst sS hsc) sm hsrc hdst hty) k) Q := by
  subst hpeer hS hR
  have hit : sepL (P.hold ER c) (P.items n) ⊢ iprop((match P.uses xs with | none => iprop(emp) | some x => P.pay (c, x))
      ∗ sepL (P.hold ER c) (match P.uses xs with | none => P.items n | some x => (P.items n).erase (.got x))) := by
    cases hx : P.uses xs with
    | none => iintro H; isplitr; · iempintro
              iexact H
    | some x => exact sepL_erase (P.hold ER c) (hu x hx)
  have hnext : iprop(sepL (P.need ER c) (P.ops.drop (n + 1))
      ∗ (cred (tallyAt (P.cell (c, xs)) () (P.amt xs)) ∗ sepL (P.hold ER c) (match P.uses xs with | none => P.items n | some x => (P.items n).erase (.got x)))
      ∗ (∃ W, owes (c.tc : Thread nD τ) (P.dues c (P.ops.drop (n + 1))) W) ∗ levAts (L (nD := nD) (τ := τ) (sig := sig)) P.lv) ⊢ P.St ER c (n + 1) := by
    unfold St
    rw [P.items_succ h]
    exact BI.Entails.refl _
  have hO : P.dues c (P.ops.drop n) = P.dues c (P.ops.drop (n + 1)) + tallyAt (P.cell (P.peer xs c, xr)) () (P.amt xr) := by rw [P.drop_eq h]; rfl
  have hneed : sepL (P.need ER c) (P.ops.drop n) ⊢ iprop((OneShot.ticket ER P.cell P.amt' P.pay (c, xs) ∗ OneShot.ticket ER P.cell P.amt' P.pay (P.peer xs c, xr) ∗ P.fuel c xs)
      ∗ sepL (P.need ER c) (P.ops.drop (n + 1))) := by rw [P.drop_eq h]; exact BI.Entails.refl _
  have hw := fun W => OneShot.wp_send ER P.cell P.amt' P.pay (defs := defs) 𝒱 (c := c) (c' := P.peer xs c) (c, xs) (P.peer xs c, xr) (hsc := hsc) (hsrc := hsrc) (hdst := hdst) (hsem := hty)
    (k := k) (Q := Q) (fun p => P.pos p.2) rfl rfl hN hN₁ hp₁ hp₂ (P.dues c (P.ops.drop (n + 1))) (W := W) hr
  have hO' : iprop(∃ W, owes (c.tc : Thread nD τ) (P.dues c (P.ops.drop n)) W) ⊢ iprop(∃ W, owes (c.tc : Thread nD τ) (P.dues c (P.ops.drop (n + 1)) + tallyAt (P.cell (P.peer xs c, xr)) () (P.amt xr)) W : sProp 𝕄) := by
    rw [hO]
  unfold St
  iintro ⟨Hn, Hi, Ho, #Hla⟩
  ihave Hn' := hneed $$ Hn
  icases Hn' with ⟨⟨Ht₁, Ht₂, Hf⟩, Hn⟩
  ihave Hi' := hit $$ Hi
  icases Hi' with ⟨Hu, Hi⟩
  ihave Hf' := hfuel $$ [Hf Hu]
  · isplitl [Hf] <;> iassumption
  icases Hf' with ⟨Hs, Hd⟩
  ihave Ho' := hO' $$ Ho
  icases Ho' with ⟨%W, Ho⟩
  iapply (hw W) $$ [Ht₁ Ht₂ Hs Hd Ho]
  · isplitl [Ht₁]; · iexact Ht₁
    isplitl [Ht₂]; · iexact Ht₂
    isplitl [Hs]; · iexact Hs
    isplitl [Hd]; · iexact Hd
    iexact Ho
  iintro ⟨Hc, Ho⟩
  iapply hk
  iapply hnext
  isplitl [Hn]; · iexact Hn
  isplitl [Hc Hi]
  · isplitl [Hc]; · iexact Hc
    iexact Hi
  isplitl [Ho]; · iexists W; iexact Ho
  iexact Hla

/-- A copy on the device itself. -/
theorem step_copy {c : Dev nD} (n : ℕ) (x : Cl) {src : Memref sig (c.tc : Thread nD τ).2.kind sp s e} {dst : Memref sig (c.tc : Thread nD τ).2.kind sp' s e}
    {sm : SemLoc sig} {hsrc : src.view.WordExact} {hdst : dst.view.WordExact}
    {hty : DmaTarget.Typed (nD := nD) sp sm (.here dst)} {k : PUnit → Prog (TpuEff nD τ sig Val Λ .tc) α} {Q : α → sProp 𝕄}
    (q : PosShare TreeShare) (X : s.Idx → Val e)
    (h : P.ops[n]? = some (.copy x)) (hR : sm = .dma (P.sem x)) (hN : dst.view.amount sm = P.amt x)
    (hfuel : P.fuel c x ⊢ iprop(owns (c.tc) src q X ∗ ∃ Y, owns (c.tc) dst fullShare Y))
    (hp : iprop(owns (c.tc) dst fullShare X ∗ owns (c.tc) src q X) ⊢ P.pay (c, x))
    (hk : P.St ER c (n + 1) ⊢ wp frame (wpE defs 𝒱 (c.tc) none) Set.univ (k ⟨⟩) Q) :
    P.St ER c n ⊢ wp frame (wpE defs 𝒱 (c.tc) none) Set.univ (.op (.enqueueDma src (.here dst) sm hsrc hdst hty) k) Q := by
  subst hR
  have hnext : iprop(sepL (P.need ER c) (P.ops.drop (n + 1))
      ∗ (cred (tallyAt (P.cell (c, x)) () (P.amt x)) ∗ sepL (P.hold ER c) (P.items n))
      ∗ (∃ W, owes (c.tc : Thread nD τ) (P.dues c (P.ops.drop n)) W) ∗ levAts (L (nD := nD) (τ := τ) (sig := sig)) P.lv) ⊢ P.St ER c (n + 1) := by
    unfold St
    rw [P.items_succ h, show P.dues c (P.ops.drop n) = P.dues c (P.ops.drop (n + 1)) by rw [P.drop_eq h]; rfl]
    exact BI.Entails.refl _
  have hneed : sepL (P.need ER c) (P.ops.drop n) ⊢ iprop((OneShot.ticket ER P.cell P.amt' P.pay (c, x) ∗ P.fuel c x)
      ∗ sepL (P.need ER c) (P.ops.drop (n + 1))) := by rw [P.drop_eq h]; exact BI.Entails.refl _
  have hw := OneShot.wp_copy ER P.cell P.amt' P.pay (defs := defs) 𝒱 (c := c) (c, x) (hsrc := hsrc) (hdst := hdst) (hsem := hty)
    (k := k) (Q := Q) (fun p => P.pos p.2) rfl hN hp
  unfold St
  iintro ⟨Hn, Hi, Ho, #Hla⟩
  ihave Hn' := hneed $$ Hn
  icases Hn' with ⟨⟨Ht₁, Hf⟩, Hn⟩
  ihave Hf' := hfuel $$ Hf
  icases Hf' with ⟨Hs, Hd⟩
  iapply hw $$ [Ht₁ Hs Hd]
  · isplitl [Ht₁]; · iexact Ht₁
    isplitl [Hs] <;> iassumption
  iintro Hc
  iapply hk
  iapply hnext
  isplitl [Hn]; · iexact Hn
  isplitl [Hc Hi]
  · isplitl [Hc]; · iexact Hc
    iexact Hi
  isplitl [Ho]; · iexact Ho
  iexact Hla

/-- A wait. -/
theorem step_wait {c : Dev nD} (n : ℕ) (x : Cl) {sm : DmaSem sig} {s' : Shape} {e' : EltTy}
    {src : Memref sig .tc sp' s' e'} {κ' : Kind} {dst : Memref sig κ' sp s e} {hsrc : src.view.WordExact} {hdst : dst.view.WordExact}
    {k : PUnit → Prog (TpuEff nD τ sig Val Λ .tc) α} {Q : α → sProp 𝕄}
    (h : P.ops[n]? = some (.wait x)) (hu : Item.cred x ∈ P.items n) (hsafe : P.safe x (P.ops.drop (n + 1)) = true)
    (hR : sm = P.sem x) (hN : dst.view.dmaCredit = P.amt x)
    (hk : P.St ER c (n + 1) ⊢ wp frame (wpE defs 𝒱 (c.tc) none) Set.univ (k ⟨⟩) Q) :
    P.St ER c n ⊢ wp frame (wpE defs 𝒱 (c.tc) none) Set.univ (.op (.waitDma2 sm src dst hsrc hdst) k) Q := by
  subst hR
  have hO : P.dues c (P.ops.drop n) = P.dues c (P.ops.drop (n + 1)) := by rw [P.drop_eq h]; rfl
  have hnext : iprop(sepL (P.need ER c) (P.ops.drop (n + 1))
      ∗ (OneShot.spent ER P.cell P.amt' P.pay (c, x) ∗ P.pay (c, x) ∗ sepL (P.hold ER c) ((P.items n).erase (.cred x)))
      ∗ (∃ W, owes (c.tc : Thread nD τ) (P.dues c (P.ops.drop n)) W) ∗ levAts (L (nD := nD) (τ := τ) (sig := sig)) P.lv) ⊢ P.St ER c (n + 1) := by
    unfold St
    rw [P.items_succ h, hO]
    exact BI.Entails.refl _
  have hneed : sepL (P.need ER c) (P.ops.drop n) ⊢ iprop(OneShot.seat ER P.cell P.amt' P.pay (c, x)
      ∗ sepL (P.need ER c) (P.ops.drop (n + 1))) := by rw [P.drop_eq h]; exact BI.Entails.refl _
  have hit : sepL (P.hold ER c) (P.items n) ⊢ iprop(cred (tallyAt (P.cell (c, x)) () (P.amt x)) ∗ sepL (P.hold ER c) ((P.items n).erase (.cred x))) :=
    sepL_erase (P.hold ER c) hu
  have hmw : (levAts (L (nD := nD) (τ := τ) (sig := sig)) P.lv : sProp 𝕄) ⊢ MayWait (c.tc : Thread nD τ) (.dma (P.sem x)) () (P.dues c (P.ops.drop n)) :=
    Pipeline.mayWait_of_levAts (by unfold L; rw [if_pos rfl]; exact Finset.mem_singleton_self _)
      (by rw [hO]; exact P.dues_pos c _ hsafe)
  have hw := fun W => OneShot.wp_wait ER P.cell P.amt' P.pay (defs := defs) 𝒱 (c := c) (c, x) (src := src) (dst := dst) (hsrc := hsrc) (hdst := hdst)
    (k := k) (Q := Q) (fun p => P.pos p.2) rfl hN (O := P.dues c (P.ops.drop n)) (W := W)
  unfold St
  iintro ⟨Hn, Hi, ⟨%W, Ho⟩, #Hla⟩
  ihave Hn' := hneed $$ Hn
  icases Hn' with ⟨Hs, Hn⟩
  ihave Hi' := hit $$ Hi
  icases Hi' with ⟨Hc, Hi⟩
  iapply (hw W) $$ [Hs Hc Ho]
  · isplitl [Hs]; · iexact Hs
    isplitl [Hc]; · iexact Hc
    isplitl [Ho]; · iexact Ho
    iapply hmw; iexact Hla
  iintro ⟨Ho, Hsp, Hp⟩
  iapply hk
  iapply hnext
  isplitl [Hn]; · iexact Hn
  isplitl [Hsp Hp Hi]
  · isplitl [Hsp]; · iexact Hsp
    isplitl [Hp] <;> iassumption
  isplitl [Ho]; · iexists _; iexact Ho
  iexact Hla

end Steps

/-! ## The launch -/

/-- The sends of a list, as pairs of the sender's and the receiver's semaphores. -/
def sends : List (Op Cl) → List (Cl × Cl)
  | [] => []
  | .send xs xr :: l => (xs, xr) :: sends l
  | _ :: l => sends l

/-- The credit a device is owed at its receiving semaphores. -/
def owed (c : Dev nD) : List (Cl × Cl) → CellTallies nD τ sig Unit
  | [] => 0
  | (_, xr) :: l => owed c l + tallyAt (P.cell (c, xr)) () (P.amt xr)

omit [Fintype Cl] in
theorem sum_dues (hinv : ∀ x d, P.peer x (P.peer x d) = d) : ∀ l : List (Op Cl), (∑ d, P.dues d l) = ∑ d, P.owed d (sends l)
  | [] => rfl
  | .send xs xr :: l => by
    show (∑ d, (P.dues d l + tallyAt (P.cell (P.peer xs d, xr)) () (P.amt xr))) = ∑ d, (P.owed d (sends l) + tallyAt (P.cell (d, xr)) () (P.amt xr))
    rw [Finset.sum_add_distrib, Finset.sum_add_distrib, sum_dues hinv l]
    congr 1
    exact Fintype.sum_equiv ⟨P.peer xs, P.peer xs, hinv xs, hinv xs⟩ _ _ fun d => rfl
  | .copy _ :: l => sum_dues hinv l
  | .wait _ :: l => sum_dues hinv l

omit [Fintype Cl] in
theorem owed_dev (d : Dev nD) : ∀ (l : List (Cl × Cl)) (g : GSem nD τ sig), P.owed d l g ≠ 0 → g.1 = (d.tc : Thread nD τ)
  | [], g, h => absurd rfl h
  | (xs, xr) :: l, g, h => by
    by_contra hn
    refine h ?_
    show P.owed d l g + tallyAt (P.cell (d, xr)) () (P.amt xr) g = 0
    rw [tallyAt_ne_cell (fun e => hn (by rw [e]; rfl)), not_ne_iff.mp (fun h' => hn (owed_dev d l g h')), add_zero]

omit [Fintype Cl] in
theorem cred_owed (c : Dev nD) : ∀ l : List (Cl × Cl),
    (cred (P.owed c l) : sProp 𝕄) ⊢ sepL (P.hold ER c) (l.map fun p => .cred p.2)
  | [] => by
    show (cred 0 : sProp 𝕄) ⊢ iprop(emp)
    rw [cred_zero]
  | (xs, xr) :: l => by
    show (cred (P.owed c l + tallyAt (P.cell (c, xr)) () (P.amt xr)) : sProp 𝕄) ⊢ iprop(cred (tallyAt (P.cell (c, xr)) () (P.amt xr)) ∗ sepL (P.hold ER c) (l.map fun p => .cred p.2))
    refine (cred_add _ _).1.trans ?_
    iintro ⟨H, H'⟩
    isplitl [H']; · iexact H'
    iapply (cred_owed c l); iexact H

/-- The launch deals every device the credit of its receiving semaphores. -/
theorem launchCred_dues (hinv : ∀ x d, P.peer x (P.peer x d) = d) (c : Dev nD) :
    (Pipeline.launchCred (fun d => P.dues d P.ops) c : sProp 𝕄) ⊢ sepL (P.hold ER c) ((sends P.ops).map fun p => .cred p.2) := by
  rw [Pipeline.launchCred_of_sum _ (fun d => P.owed d (sends P.ops)) (P.sum_dues hinv P.ops) (fun d g h => P.owed_dev d _ g h) c]
  exact P.cred_owed ER c _

end Proto

end Cert.Script
-- ==== Proof.GatherDefs.lean ====
/-
# The all-gather's protocol

Eight devices; device `d` reaches device `d xor p` for a fixed `p`: its sibling (`p = 1`) and the three chips
(`p = 4, 2, 6`). Each device holds one block of each of three arrays and must end up with all eight, block `s` in slot
`s` of its result. It copies its own block into its own slot, sends it to its sibling (semaphore 0) and to its twin on
the three chips (1, 2, 3), and passes each block that came from a chip on to its sibling (4, 5, 6).

* cell `send a k` of `d`: credited by `d`'s own copy number `k` of array `a`; hands the source back.
* cell `recv a k` of `d`: credited by the copy number `k` of the device `peer k d`; hands over `d`'s slot, now holding
  the block of the device it is named after.
* cell `loc a` of `d`: credited by `d`'s copy of its own block into its own slot.
-/
module

public import proofs.«01_k».proof.Proof.Script
public import proofs.«01_k».proof.Proof.Gen.KernelIdeal
public import proofs.«01_k».proof.Proof.Gen.KernelIdeal.Launch
public import Idealize.ShloMosaic.Lib.ShareLeaves

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Script

variable {F : FTy → Type}

/-- The ghost state: the pipeline's rounds beside the exchange's. -/
abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

variable (m : (ℓ : Loc nD τ sig) → Buf (Elt F) ℓ)

/-- The device whose number differs from `d`'s in the bits of `p`. -/
def xr (p : ℕ) (d : Dev nD) : Dev nD := ⟨(d.val ^^^ p) % 8, Nat.mod_lt _ (by decide)⟩

/-- Whom copy number `k` goes to. -/
def pk : Fin 7 → ℕ | 0 => 1 | 1 => 4 | 2 => 2 | 3 => 6 | 4 => 1 | 5 => 1 | 6 => 1
/-- Whose block copy number `k` carries. -/
def org : Fin 7 → ℕ | 0 => 0 | 1 => 0 | 2 => 0 | 3 => 0 | 4 => 4 | 5 => 2 | 6 => 6
/-- Whose block arrives at semaphore `k`. -/
def inc : Fin 7 → ℕ | 0 => 1 | 1 => 4 | 2 => 2 | 3 => 6 | 4 => 5 | 5 => 3 | 6 => 7

theorem xr_xr (p : ℕ) (hp : p < 8) (d : Dev nD) : xr p (xr p d) = d := by
  revert p d; decide
theorem xr_zero (d : Dev nD) : xr 0 d = d := by revert d; decide
theorem xr_inc (k : Fin 7) (d : Dev nD) : xr (inc k) (xr (pk k) d) = xr (org k) d := by revert k d; decide

/-! ## The arrays -/

/-- The shape of a device's block of array `a`. -/
def shp : Fin 3 → Shape | 0 => S1024x642 | 1 => S256x1024 | 2 => S4x192
/-- Array `a`'s elements. -/
def elt : Fin 3 → EltTy | 0 => .bf16 | 1 => .bf16 | 2 => .f32

/-- The kernel's operand `a`: the device's own block. -/
def argM : (a : Fin 3) → Memref sig .tc .hbm (shp a) (elt a)
  | 0 => Memref.whole main_arg0
  | 1 => Memref.whole main_arg1
  | 2 => Memref.whole main_arg2

theorem inb0 (s : Dev nD) : ∀ a, (![s.val, 0, 0] : Fin 3 → ℕ) a + S1x1024x642.size a ≤ S8x1024x642.size a := by revert s; decide
theorem inb1 (s : Dev nD) : ∀ a, (![s.val, 0, 0] : Fin 3 → ℕ) a + S1x256x1024.size a ≤ S8x256x1024.size a := by revert s; decide
theorem inb2 (s : Dev nD) : ∀ a, (![s.val, 0, 0] : Fin 3 → ℕ) a + S1x4x192.size a ≤ S8x4x192.size a := by revert s; decide

/-- Slot `s` of result `a`. -/
def slot : (a : Fin 3) → Dev nD → Memref sig .tc .hbm (shp a) (elt a)
  | 0, s => ((Memref.whole main_v1_0).slice (Rect.unit (s := S8x1024x642) ![s.val, 0, 0] S1x1024x642.size (inb0 s)) (fun _ => rfl)).squeeze S1024x642 squeezes_S1x1024x642_S1024x642
  | 1, s => ((Memref.whole main_v1_1).slice (Rect.unit (s := S8x256x1024) ![s.val, 0, 0] S1x256x1024.size (inb1 s)) (fun _ => rfl)).squeeze S256x1024 squeezes_S1x256x1024_S256x1024
  | 2, s => ((Memref.whole main_v1_2).slice (Rect.unit (s := S8x4x192) ![s.val, 0, 0] S1x4x192.size (inb2 s)) (fun _ => rfl)).squeeze S4x192 squeezes_S1x4x192_S4x192

/-- Device `d`'s block of array `a`. -/
def X (d : Dev nD) (a : Fin 3) : (shp a).Idx → Elt F (elt a) := (argM a).view.read (Elt F) (m ((argM a).view.loc (d : Thread nD τ)))

/-- The amount of a copy of array `a`. -/
def amtA : Fin 3 → ℕ | 0 => (slot 0 0).view.dmaCredit | 1 => (slot 1 0).view.dmaCredit | 2 => (slot 2 0).view.dmaCredit

/-! ## The protocol -/

/-- The kernel's semaphores. -/
inductive Cl where
  | send (a : Fin 3) (k : Fin 7)
  | recv (a : Fin 3) (k : Fin 7)
  | loc (a : Fin 3)
  deriving DecidableEq

/-- The names, as a sum. -/
def clEquiv : (Fin 3 × Fin 7) ⊕ (Fin 3 × Fin 7) ⊕ Fin 3 ≃ Cl where
  toFun | .inl p => .send p.1 p.2 | .inr (.inl p) => .recv p.1 p.2 | .inr (.inr a) => .loc a
  invFun | .send a k => .inl (a, k) | .recv a k => .inr (.inl (a, k)) | .loc a => .inr (.inr a)
  left_inv x := by rcases x with x | x | x <;> rfl
  right_inv x := by cases x <;> rfl

instance : Fintype Cl := .ofEquiv _ clEquiv

/-- Which semaphore a name stands for. -/
def semOf : Cl → DmaSem sig
  | .send a k => ⟨7 * a.val + k.val, by show _ < 45; omega⟩
  | .recv a k => ⟨21 + 7 * a.val + k.val, by show _ < 45; omega⟩
  | .loc a => ⟨42 + a.val, by show _ < 45; omega⟩

theorem semOf_inj : Function.Injective semOf := by decide

/-- The array a semaphore is for. -/
def arr : Cl → Fin 3 | .send a _ => a | .recv a _ => a | .loc a => a

/-- The share of the operand that copy number `k` reads at; the local copy reads at the other half. -/
def shr (k : Fin 7) : PosShare TreeShare := ShareLeaves.leaf 2 fullShare.left ⟨k.val % 4, Nat.mod_lt _ (by decide)⟩

/-- What a cell hands over. -/
def pay : Dev nD × Cl → sProp 𝕄
  | (d, .send a k) => if k.val < 4 then owns (d : Thread nD τ) (argM a) (shr k) (X m d a)
      else owns (d : Thread nD τ) (slot a (xr (org k) d)) fullShare (X m (xr (org k) d) a)
  | (d, .recv a k) => owns (d : Thread nD τ) (slot a (xr (inc k) d)) fullShare (X m (xr (inc k) d) a)
  | (d, .loc a) => iprop(owns (d : Thread nD τ) (slot a d) fullShare (X m d a) ∗ owns (d : Thread nD τ) (argM a) fullShare.right (X m d a))

/-- What a copy needs from the launch: the operand's share it reads at, the slot it writes. -/
def fuel (d : Dev nD) : Cl → sProp 𝕄
  | .send a k => iprop((if k.val < 4 then owns (d : Thread nD τ) (argM a) (shr k) (X m d a) else iprop(emp))
      ∗ ∃ Y, owns (xr (pk k) d : Thread nD τ) (slot a (xr (org k) d)) fullShare Y)
  | .loc a => iprop(owns (d : Thread nD τ) (argM a) fullShare.right (X m d a) ∗ ∃ Y, owns (d : Thread nD τ) (slot a d) fullShare Y)
  | .recv _ _ => iprop(emp)

/-- Whom the copy that credits a semaphore goes to. -/
def peer : Cl → Dev nD → Dev nD
  | .send _ k, d => xr (pk k) d
  | _, d => d

/-- The wait whose block a copy passes on. -/
def uses : Cl → Option Cl
  | .send a 4 => some (.recv a 1)
  | .send a 5 => some (.recv a 2)
  | .send a 6 => some (.recv a 3)
  | _ => none

/-- Levels: the passed-on blocks' arrivals above all else. -/
def lvl : SemLoc sig → ℕ
  | .dma q => if 21 ≤ q.val ∧ q.val < 42 ∧ 4 ≤ (q.val - 21) % 7 then 2 else 1
  | _ => 0

/-- The body's copies and waits, in order. -/
def ops : List (Op Cl) :=
  [.copy (.loc 0), .copy (.loc 1), .copy (.loc 2),
   .send (.send 0 0) (.recv 0 0), .send (.send 0 1) (.recv 0 1), .send (.send 0 2) (.recv 0 2), .send (.send 0 3) (.recv 0 3),
   .send (.send 1 0) (.recv 1 0), .send (.send 1 1) (.recv 1 1), .send (.send 1 2) (.recv 1 2), .send (.send 1 3) (.recv 1 3),
   .send (.send 2 0) (.recv 2 0), .send (.send 2 1) (.recv 2 1), .send (.send 2 2) (.recv 2 2), .send (.send 2 3) (.recv 2 3),
   .wait (.recv 0 1), .send (.send 0 4) (.recv 0 4), .wait (.recv 1 1), .send (.send 1 4) (.recv 1 4), .wait (.recv 2 1), .send (.send 2 4) (.recv 2 4),
   .wait (.recv 0 2), .send (.send 0 5) (.recv 0 5), .wait (.recv 1 2), .send (.send 1 5) (.recv 1 5), .wait (.recv 2 2), .send (.send 2 5) (.recv 2 5),
   .wait (.recv 0 3), .send (.send 0 6) (.recv 0 6), .wait (.recv 1 3), .send (.send 1 6) (.recv 1 6), .wait (.recv 2 3), .send (.send 2 6) (.recv 2 6),
   .wait (.recv 0 0), .wait (.recv 0 4), .wait (.recv 0 5), .wait (.recv 0 6),
   .wait (.recv 1 0), .wait (.recv 1 4), .wait (.recv 1 5), .wait (.recv 1 6),
   .wait (.recv 2 0), .wait (.recv 2 4), .wait (.recv 2 5), .wait (.recv 2 6),
   .wait (.send 0 0), .wait (.send 0 1), .wait (.send 0 2), .wait (.send 0 3),
   .wait (.send 1 0), .wait (.send 1 1), .wait (.send 1 2), .wait (.send 1 3),
   .wait (.send 2 0), .wait (.send 2 1), .wait (.send 2 2), .wait (.send 2 3),
   .wait (.send 0 4), .wait (.send 1 4), .wait (.send 2 4),
   .wait (.send 0 5), .wait (.send 1 5), .wait (.send 2 5),
   .wait (.send 0 6), .wait (.send 1 6), .wait (.send 2 6),
   .wait (.loc 0), .wait (.loc 1), .wait (.loc 2)]

theorem amtA_pos : ∀ a, 0 < amtA a
  | 0 => by decide
  | 1 => by decide
  | 2 => by decide

/-- The all-gather. -/
def proto : Proto nD τ sig (Elt F) UU Cl where
  sem := semOf
  inj := semOf_inj
  amt x := amtA (arr x)
  pos x := amtA_pos _
  pay := pay m
  peer := peer
  uses := uses
  fuel := fuel m
  lvl := lvl
  ops := ops
  init := (Proto.sends ops).map fun p => .cred p.2

/-- What a device has gathered before step `n`. -/
def its (n : ℕ) : List (Item Cl) := Proto.itemsOf uses ops ((Proto.sends ops).map fun p => .cred p.2) n
/-- A wait at `x` is safe before the operations `l`. -/
def safe (x : Cl) (l : List (Op Cl)) : Bool := Proto.safeOf (fun y => lvl (.dma (semOf y))) x l

theorem its_eq (n : ℕ) : (proto m).items n = its n := (proto m).items_eq n
theorem safe_eq (x : Cl) (l : List (Op Cl)) : (proto m).safe x l = safe x l := (proto m).safe_eq x l

theorem peer_peer (x : Cl) (d : Dev nD) : peer x (peer x d) = d := by
  cases x with
  | send a k => exact xr_xr _ (by revert k; decide) d
  | recv a k => rfl
  | loc a => rfl

theorem routes_xr (p : ℕ) (c : Dev nD) : τ.routes (c.tc : Thread nD τ) ((xr p c).tc : Thread nD τ) = true := by routes

/-! ## The steps, with this kernel's memrefs -/

theorem credit_slot : ∀ (a : Fin 3) (s : Dev nD), (slot a s).view.dmaCredit = amtA a
  | 0, s => rfl
  | 1, s => rfl
  | 2, s => rfl
theorem credit_arg : ∀ (a : Fin 3), (argM a).view.dmaCredit = amtA a
  | 0 => rfl
  | 1 => rfl
  | 2 => rfl

/-- A slot by the offset it is printed at. -/
theorem slot0_eq (off : Fin 3 → ℕ) (h : ∀ a, off a + S1x1024x642.size a ≤ S8x1024x642.size a) (s : Dev nD) (e : off = ![s.val, 0, 0]) :
    (((Memref.whole main_v1_0).slice (Rect.unit (s := S8x1024x642) off S1x1024x642.size h) (fun _ => rfl)).squeeze S1024x642 squeezes_S1x1024x642_S1024x642) = slot 0 s := by
  subst e; rfl
theorem slot1_eq (off : Fin 3 → ℕ) (h : ∀ a, off a + S1x256x1024.size a ≤ S8x256x1024.size a) (s : Dev nD) (e : off = ![s.val, 0, 0]) :
    (((Memref.whole main_v1_1).slice (Rect.unit (s := S8x256x1024) off S1x256x1024.size h) (fun _ => rfl)).squeeze S256x1024 squeezes_S1x256x1024_S256x1024) = slot 1 s := by
  subst e; rfl
theorem slot2_eq (off : Fin 3 → ℕ) (h : ∀ a, off a + S1x4x192.size a ≤ S8x4x192.size a) (s : Dev nD) (e : off = ![s.val, 0, 0]) :
    (((Memref.whole main_v1_2).slice (Rect.unit (s := S8x4x192) off S1x4x192.size h) (fun _ => rfl)).squeeze S4x192 squeezes_S1x4x192_S4x192) = slot 2 s := by
  subst e; rfl

section Steps

variable [FloatOps F] {𝒱 : Variants} {α : Type}

local notation "𝔻" => (defs₀ (F := F))

/-- The state before operation `n`. -/
abbrev St (c : Dev nD) (n : ℕ) : sProp 𝕄 := (proto m).St ER c n

/-- A device's own block, to a peer. -/
theorem step_own {c c' : Dev nD} (n : ℕ) (a : Fin 3) (k : Fin 7) (hk4 : k.val < 4)
    {src : Memref sig .tc .hbm (shp a) (elt a)} {dst : Memref sig .tc .hbm (shp a) (elt a)}
    {hsc : dst.view.ref.isScScratch = false} {sS sm : SemLoc sig} {hsrc : src.view.WordExact} {hdst : dst.view.WordExact}
    {hty : DmaTarget.Typed .hbm sm (.remote (c'.tc : Thread nD τ) dst sS hsc)} {kk : PUnit → Prog (TpuEff nD τ sig (Elt F) Λ₀ .tc) α} {Q : α → sProp 𝕄}
    (h : ops[n]? = some (.send (.send a k) (.recv a k)))
    (es : src = argM a) (ed : dst = slot a c) (hpeer : c' = xr (pk k) c) (hS : sS = .dma (semOf (.send a k))) (hR : sm = .dma (semOf (.recv a k)))
    (hk : St m c (n + 1) ⊢ wp frame (wpE 𝔻 𝒱 (c.tc) none) Set.univ (kk ⟨⟩) Q) :
    St m c n ⊢ wp frame (wpE 𝔻 𝒱 (c.tc) none) Set.univ (.op (.enqueueDma src (.remote (c'.tc) dst sS hsc) sm hsrc hdst hty) kk) Q := by
  have ho : org k = 0 := by clear * - hk4; revert k; decide
  have hu : uses (.send a k) = none := by clear * - hk4; revert a k; decide
  subst es ed hpeer hS hR
  refine (proto m).step_send ER n (.send a k) (.recv a k) (shr k) (X m c a) h (fun x hx => absurd (hu.symm.trans hx) (by simp)) rfl rfl rfl (credit_slot a c) rfl
    ?_ ?_ ?_ (routes_xr _ c) hk
  · rw [show (proto m).uses (.send a k) = none from hu]
    show iprop(fuel m c (.send a k) ∗ emp) ⊢ _
    unfold fuel
    simp only [if_pos hk4, ho, xr_zero]
    iintro ⟨H, -⟩
    iexact H
  · show _ ⊢ pay m (c, .send a k)
    unfold pay
    simp only [if_pos hk4]
    exact BI.Entails.refl _
  · show _ ⊢ pay m (xr (pk k) c, .recv a k)
    unfold pay
    simp only [xr_inc, ho, xr_zero]
    exact BI.Entails.refl _

/-- A block that came from a chip, passed on to the sibling. -/
theorem step_pass {c c' : Dev nD} (n : ℕ) (a : Fin 3) (k r : Fin 7) (hk4 : ¬ k.val < 4)
    {src : Memref sig .tc .hbm (shp a) (elt a)} {dst : Memref sig .tc .hbm (shp a) (elt a)}
    {hsc : dst.view.ref.isScScratch = false} {sS sm : SemLoc sig} {hsrc : src.view.WordExact} {hdst : dst.view.WordExact}
    {hty : DmaTarget.Typed .hbm sm (.remote (c'.tc : Thread nD τ) dst sS hsc)} {kk : PUnit → Prog (TpuEff nD τ sig (Elt F) Λ₀ .tc) α} {Q : α → sProp 𝕄}
    (h : ops[n]? = some (.send (.send a k) (.recv a k))) (hu : uses (.send a k) = some (.recv a r)) (hr : inc r = org k)
    (hi : Item.got (.recv a r) ∈ its n)
    (es : src = slot a (xr (org k) c)) (ed : dst = slot a (xr (org k) c)) (hpeer : c' = xr (pk k) c) (hS : sS = .dma (semOf (.send a k))) (hR : sm = .dma (semOf (.recv a k)))
    (hk : St m c (n + 1) ⊢ wp frame (wpE 𝔻 𝒱 (c.tc) none) Set.univ (kk ⟨⟩) Q) :
    St m c n ⊢ wp frame (wpE 𝔻 𝒱 (c.tc) none) Set.univ (.op (.enqueueDma src (.remote (c'.tc) dst sS hsc) sm hsrc hdst hty) kk) Q := by
  subst es ed hpeer hS hR
  refine (proto m).step_send ER n (.send a k) (.recv a k) fullShare (X m (xr (org k) c) a) h (fun x hx => by
      rw [show (proto m).uses (.send a k) = some (.recv a r) from hu] at hx; cases hx; rw [its_eq]; exact hi) rfl rfl rfl (credit_slot a _) rfl
    ?_ ?_ ?_ (routes_xr _ c) hk
  · rw [show (proto m).uses (.send a k) = some (.recv a r) from hu]
    show iprop(fuel m c (.send a k) ∗ pay m (c, .recv a r)) ⊢ _
    unfold fuel pay
    simp only [if_neg hk4, hr]
    iintro ⟨⟨-, H⟩, H'⟩
    isplitl [H'] <;> iassumption
  · show _ ⊢ pay m (c, .send a k)
    unfold pay
    simp only [if_neg hk4]
    exact BI.Entails.refl _
  · show _ ⊢ pay m (xr (pk k) c, .recv a k)
    unfold pay
    simp only [xr_inc]
    exact BI.Entails.refl _

/-- A device's own block, into its own slot. -/
theorem step_loc {c : Dev nD} (n : ℕ) (a : Fin 3)
    {src : Memref sig (c.tc : Thread nD τ).2.kind .hbm (shp a) (elt a)} {dst : Memref sig (c.tc : Thread nD τ).2.kind .hbm (shp a) (elt a)}
    {sm : SemLoc sig} {hsrc : src.view.WordExact} {hdst : dst.view.WordExact}
    {hty : DmaTarget.Typed (nD := nD) .hbm sm (.here dst)} {kk : PUnit → Prog (TpuEff nD τ sig (Elt F) Λ₀ .tc) α} {Q : α → sProp 𝕄}
    (h : ops[n]? = some (.copy (.loc a)))
    (es : src = argM a) (ed : dst = slot a c) (hR : sm = .dma (semOf (.loc a)))
    (hk : St m c (n + 1) ⊢ wp frame (wpE 𝔻 𝒱 (c.tc) none) Set.univ (kk ⟨⟩) Q) :
    St m c n ⊢ wp frame (wpE 𝔻 𝒱 (c.tc) none) Set.univ (.op (.enqueueDma src (.here dst) sm hsrc hdst hty) kk) Q := by
  subst es ed hR
  exact (proto m).step_copy ER n (.loc a) fullShare.right (X m c a) h rfl (credit_slot a c) (BI.Entails.refl _) (BI.Entails.refl _) hk

/-- A wait. -/
theorem step_wait {c : Dev nD} (n : ℕ) (x : Cl) {sm : DmaSem sig} {s' : Shape} {e' : EltTy}
    {src : Memref sig .tc .hbm s' e'} {dst : Memref sig .tc .hbm (shp (arr x)) (elt (arr x))} {hsrc : src.view.WordExact} {hdst : dst.view.WordExact}
    {kk : PUnit → Prog (TpuEff nD τ sig (Elt F) Λ₀ .tc) α} {Q : α → sProp 𝕄}
    (h : ops[n]? = some (.wait x)) (hu : Item.cred x ∈ its n) (hsafe : safe x (ops.drop (n + 1)) = true)
    (hR : sm = semOf x) (hN : dst.view.dmaCredit = amtA (arr x))
    (hk : St m c (n + 1) ⊢ wp frame (wpE 𝔻 𝒱 (c.tc) none) Set.univ (kk ⟨⟩) Q) :
    St m c n ⊢ wp frame (wpE 𝔻 𝒱 (c.tc) none) Set.univ (.op (.waitDma2 sm src dst hsrc hdst) kk) Q :=
  (proto m).step_wait ER n x h (by rw [its_eq]; exact hu) (by rw [safe_eq]; exact hsafe) hR hN hk

end Steps

end Cert.Gather
-- ==== Proof.Deal.lean ====
/-
# Dealing out the launch

Before an exchange kernel runs, the counters and the arrays of ALL devices lie in one place. This module deals them out
along the kernel's sequence of operations: the right to credit a peer's cell goes to the device whose copy credits it
(`Proto.deal`), and at the end the cells give their counters back at zero (`Proto.spents_close`).
-/
module

public import proofs.«01_k».proof.Proof.Script

@[expose] public section

noncomputable section

namespace Cert.Script

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {U : Type} [URA U]
variable {Cl : Type} [Fintype Cl] [DecidableEq Cl]

local notation "𝕄" => MT nD τ sig Unit Val ℕ U ℕ

/-- The semaphores a sequence waits at. -/
def waits : List (Op Cl) → List Cl
  | [] => []
  | .wait x :: l => x :: waits l
  | .copy _ :: l => waits l
  | .send _ _ :: l => waits l
/-- The semaphores a sequence credits, on whatever device. -/
def pays : List (Op Cl) → List Cl
  | [] => []
  | .wait _ :: l => pays l
  | .copy x :: l => x :: pays l
  | .send xs xr :: l => xs :: xr :: pays l
/-- The copies of a sequence, by the semaphore of their own device. -/
def fuels : List (Op Cl) → List Cl
  | [] => []
  | .wait _ :: l => fuels l
  | .copy x :: l => x :: fuels l
  | .send xs _ :: l => xs :: fuels l

/-- The separating conjunction along two lists, joined. -/
theorem sepL_join {M : Type} [URA M] {I : Type} (Φ : I → sProp M) (l l' : List I) : iprop(sepL Φ l ∗ sepL Φ l') ⊢ sepL Φ (l ++ l') := by
  induction l with
  | nil =>
    show iprop(emp ∗ sepL Φ l') ⊢ sepL Φ l'
    iintro ⟨-, H⟩; iexact H
  | cons x l ih =>
    show iprop((Φ x ∗ sepL Φ l) ∗ sepL Φ l') ⊢ iprop(Φ x ∗ sepL Φ (l ++ l'))
    iintro ⟨⟨Hx, H⟩, H'⟩
    isplitl [Hx]; · iexact Hx
    iapply ih
    isplitl [H] <;> iassumption

/-- A full set's separating conjunction, along a list of all its members. -/
theorem univ_sepL {M : Type} [URA M] {I : Type} [Fintype I] [DecidableEq I] (Φ : I → sProp M) (l : List I) (hl : l.Nodup) (h : ∀ x, x ∈ l) :
    bigSep Finset.univ Φ = sepL Φ l := by
  rw [← bigSep_sepL Φ l hl]
  congr 1
  exact (Finset.eq_univ_iff_forall.mpr fun x => List.mem_toFinset.mpr (h x)).symm

/-- Updates along a list, as one. -/
theorem sepL_fupd {I : Type} (Φ Ψ : I → sProp 𝕄) (h : ∀ i, Φ i ⊢ |={Set.univ}=> Ψ i) : ∀ l : List I, sepL Φ l ⊢ |={Set.univ}=> sepL Ψ l
  | [] => by
    show iprop(emp) ⊢ iprop(|={Set.univ}=> emp)
    iintro H; imodintro; iexact H
  | i :: l => by
    show iprop(Φ i ∗ sepL Φ l) ⊢ |={Set.univ}=> iprop(Ψ i ∗ sepL Ψ l)
    iintro ⟨Hi, H⟩
    imod (h i) $$ Hi with Hi
    imod (sepL_fupd Φ Ψ h l) $$ H with H
    imodintro
    isplitl [Hi] <;> iassumption

theorem sepL_map {M : Type} [URA M] {I J : Type} (f : J → I) (Φ : I → sProp M) : ∀ l : List J, sepL Φ (l.map f) = sepL (fun j => Φ (f j)) l
  | [] => rfl
  | j :: l => by
    show iprop(Φ (f j) ∗ sepL Φ (l.map f)) = iprop(Φ (f j) ∗ sepL (fun j => Φ (f j)) l)
    rw [sepL_map f Φ l]

variable (ER : Emb (URounds (GSem nD τ sig) Unit) (MT nD τ sig Unit Val ℕ U ℕ)) (P : Proto nD τ sig Val U Cl)

namespace Proto

/-- One wait's, copy's or send's needs, dealt in front of the rest. -/
theorem deal_list (hinv : ∀ x d, P.peer x (P.peer x d) = d) : ∀ l : List (Op Cl),
    iprop((bigSep Finset.univ fun d : Dev nD => sepL (fun x => OneShot.seat ER P.cell P.amt' P.pay (d, x)) (waits l))
      ∗ (bigSep Finset.univ fun d : Dev nD => sepL (fun x => OneShot.ticket ER P.cell P.amt' P.pay (d, x)) (pays l))
      ∗ (bigSep Finset.univ fun d : Dev nD => sepL (P.fuel d) (fuels l)))
    ⊢ (bigSep Finset.univ fun d : Dev nD => sepL (P.need ER d) l : sProp 𝕄)
  | [] => by
    show iprop((bigSep Finset.univ fun d : Dev nD => iprop(emp)) ∗ (bigSep Finset.univ fun d : Dev nD => iprop(emp)) ∗ (bigSep Finset.univ fun d : Dev nD => iprop(emp)))
      ⊢ (bigSep Finset.univ fun d : Dev nD => iprop(emp) : sProp 𝕄)
    iintro ⟨H, -, -⟩; iexact H
  | .wait x :: l => by
    have ih := deal_list hinv l
    show iprop((bigSep Finset.univ fun d : Dev nD => iprop(OneShot.seat ER P.cell P.amt' P.pay (d, x) ∗ sepL (fun x => OneShot.seat ER P.cell P.amt' P.pay (d, x)) (waits l))) ∗ _ ∗ _)
      ⊢ (bigSep Finset.univ fun d : Dev nD => iprop(OneShot.seat ER P.cell P.amt' P.pay (d, x) ∗ sepL (P.need ER d) l) : sProp 𝕄)
    rw [BI.bigSep_sep', BI.bigSep_sep']
    iintro ⟨⟨Hx, Hw⟩, Hp, Hf⟩
    isplitl [Hx]; · iexact Hx
    iapply ih
    isplitl [Hw]; · iexact Hw
    isplitl [Hp]; · iexact Hp
    iexact Hf
  | .copy x :: l => by
    have ih := deal_list hinv l
    show iprop(_ ∗ (bigSep Finset.univ fun d : Dev nD => iprop(OneShot.ticket ER P.cell P.amt' P.pay (d, x) ∗ sepL (fun x => OneShot.ticket ER P.cell P.amt' P.pay (d, x)) (pays l)))
        ∗ (bigSep Finset.univ fun d : Dev nD => iprop(P.fuel d x ∗ sepL (P.fuel d) (fuels l))))
      ⊢ (bigSep Finset.univ fun d : Dev nD => iprop((OneShot.ticket ER P.cell P.amt' P.pay (d, x) ∗ P.fuel d x) ∗ sepL (P.need ER d) l) : sProp 𝕄)
    rw [BI.bigSep_sep', BI.bigSep_sep', BI.bigSep_sep', BI.bigSep_sep']
    iintro ⟨Hw, ⟨Hx, Hp⟩, ⟨Hfx, Hf⟩⟩
    isplitl [Hx Hfx]
    · isplitl [Hx]; · iexact Hx
      iexact Hfx
    iapply ih
    isplitl [Hw]; · iexact Hw
    isplitl [Hp]; · iexact Hp
    iexact Hf
  | .send xs xr :: l => by
    have ih := deal_list hinv l
    show iprop(_ ∗ (bigSep Finset.univ fun d : Dev nD => iprop(OneShot.ticket ER P.cell P.amt' P.pay (d, xs) ∗ OneShot.ticket ER P.cell P.amt' P.pay (d, xr) ∗ sepL (fun x => OneShot.ticket ER P.cell P.amt' P.pay (d, x)) (pays l)))
        ∗ (bigSep Finset.univ fun d : Dev nD => iprop(P.fuel d xs ∗ sepL (P.fuel d) (fuels l))))
      ⊢ (bigSep Finset.univ fun d : Dev nD => iprop((OneShot.ticket ER P.cell P.amt' P.pay (d, xs) ∗ OneShot.ticket ER P.cell P.amt' P.pay (P.peer xs d, xr) ∗ P.fuel d xs) ∗ sepL (P.need ER d) l) : sProp 𝕄)
    rw [BI.bigSep_sep', BI.bigSep_sep', BI.bigSep_sep', BI.bigSep_sep', BI.bigSep_sep', BI.bigSep_sep',
      bigSep_univ_equiv ⟨P.peer xs, P.peer xs, hinv xs, hinv xs⟩ (fun d : Dev nD => (OneShot.ticket ER P.cell P.amt' P.pay (d, xr) : sProp 𝕄))]
    iintro ⟨Hw, ⟨Hx, Hr, Hp⟩, ⟨Hfx, Hf⟩⟩
    isplitl [Hx Hr Hfx]
    · isplitl [Hx]; · iexact Hx
      isplitl [Hr]; · iexact Hr
      iexact Hfx
    iapply ih
    isplitl [Hw]; · iexact Hw
    isplitl [Hp]; · iexact Hp
    iexact Hf

/-- The launch: the counters of all devices at zero and what their copies need, dealt out along the sequence. -/
theorem deal [ER.LandsIn (upEmb : UEmb _ 𝕄)] (hst : ∀ k, Storable (upEmb : UEmb _ 𝕄) (P.pay k)) (hinv : ∀ x d, P.peer x (P.peer x d) = d)
    (hw : (waits P.ops).Nodup ∧ ∀ x, x ∈ waits P.ops) (hp : (pays P.ops).Nodup ∧ ∀ x, x ∈ pays P.ops) :
    iprop((bigSep Finset.univ fun d : Dev nD => bigSep Finset.univ fun x : Cl => (semVal (P.cell (d, x)) 0 : sProp 𝕄))
      ∗ BI.own (ER (OneShot.launchElt P.cell)) ∗ (bigSep Finset.univ fun d : Dev nD => sepL (P.fuel d) (fuels P.ops)))
    ⊢ |={Set.univ}=> (bigSep Finset.univ fun d : Dev nD => sepL (P.need ER d) P.ops) := by
  have hS (Φ : Dev nD × Cl → sProp 𝕄) (l : List Cl) (hl : l.Nodup ∧ ∀ x, x ∈ l) : bigSep Finset.univ Φ ⊢ bigSep Finset.univ fun d : Dev nD => sepL (fun x => Φ (d, x)) l := by
    rw [BI.bigSep_univ_prod, BI.bigSep_congr (s := Finset.univ) fun (d : Dev nD) _ => univ_sepL (fun x => Φ (d, x)) l hl.1 hl.2]
    try exact BI.Entails.refl _
  have h0 : (bigSep Finset.univ fun d : Dev nD => bigSep Finset.univ fun x : Cl => (semVal (P.cell (d, x)) 0 : sProp 𝕄)) ⊢ bigSep Finset.univ fun k => semVal (P.cell k) 0 := by
    rw [BI.bigSep_univ_prod]
    try exact BI.Entails.refl _
  have hl := OneShot.launch ER P.cell P.amt' P.pay hst
  have hd := P.deal_list ER hinv P.ops
  iintro ⟨Hv, Hu, Hf⟩
  ihave Hv := h0 $$ Hv
  imod hl $$ [Hv Hu] with ⟨Hs, Ht⟩
  · isplitl [Hv] <;> iassumption
  imodintro
  iapply hd
  isplitl [Hs]
  · iapply (hS _ _ hw); iexact Hs
  isplitl [Ht]
  · iapply (hS _ _ hp); iexact Ht
  iexact Hf

/-- Every cell waited at: the device has its counters back, at zero. -/
theorem spents_close (d : Dev nD) (l : List Cl) (hl : l.Nodup) (h : ∀ x, x ∈ l) :
    sepL (P.hold ER d) (l.map .spent) ⊢ |={Set.univ}=> (bigSep Finset.univ fun x : Cl => (semVal (P.cell (d, x)) 0 : sProp 𝕄)) := by
  rw [sepL_map, univ_sepL _ l hl h]
  exact sepL_fupd _ _ (fun x => OneShot.spent_close ER P.cell P.amt' P.pay (d, x)) l

end Proto

end Cert.Script
-- ==== Proof.Slots.lean ====
/-
# Arrays cut into slots

A rank-three array is its slots along the first axis: `rows_disj` and `rows_cover` say that the slots do not meet and fill
the array, `owns_squeeze` and `owns_squeeze_at` pass from a slice to the same slice without its unit axis, and `owns_read`
reads a memref's contents off the machine's state.
-/
module

public import Idealize.ShloMosaic.Lib.Exec.Geometry
public import Idealize.ShloMosaic.Lib.Updates.Own
public import Idealize.ShloMosaic.Lib.Pipeline.Launch
public import Idealize.ShloMosaic.Lib.Pipeline.Kit

@[expose] public section

noncomputable section

namespace Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

theorem rows_disj (n p q : ℕ) (inb : ∀ s : Fin n, ∀ a, (![s.val, 0, 0] : Fin 3 → ℕ) a + (![1, p, q] : Fin 3 → ℕ) a ≤ (![n, p, q] : Fin 3 → ℕ) a) (s s' : Fin n) (h : s ≠ s') :
    Disjoint (Rect.unit (s := ⟨3, ![n, p, q]⟩) ![s.val, 0, 0] ![1, p, q] (inb s)).set (Rect.unit (s := ⟨3, ![n, p, q]⟩) ![s'.val, 0, 0] ![1, p, q] (inb s')).set := by
  refine Rect.unit_disjoint (0 : Fin 3) ?_
  show s.val + 1 ≤ s'.val ∨ s'.val + 1 ≤ s.val
  have : s.val ≠ s'.val := fun e => h (Fin.ext e)
  omega

theorem rows_cover (n p q : ℕ) (inb : ∀ s : Fin n, ∀ a, (![s.val, 0, 0] : Fin 3 → ℕ) a + (![1, p, q] : Fin 3 → ℕ) a ≤ (![n, p, q] : Fin 3 → ℕ) a) :
    (Finset.univ : Finset (Fin n)).biUnion (fun s => (Rect.unit (s := ⟨3, ![n, p, q]⟩) ![s.val, 0, 0] ![1, p, q] (inb s)).set) = Finset.univ := by
  refine Finset.eq_univ_iff_forall.mpr fun i => Finset.mem_biUnion.mpr ⟨(⟨(i (0 : Fin 3)).val, (i (0 : Fin 3)).isLt⟩ : Fin n), Finset.mem_univ _, ?_⟩
  rw [Rect.mem_set_unit]
  intro a
  match a with
  | ⟨0, _⟩ => exact ⟨Nat.le_refl _, Nat.lt_succ_self _⟩
  | ⟨1, _⟩ => exact ⟨Nat.zero_le _, by have := (i (1 : Fin 3)).isLt; show (i (1 : Fin 3)).val < 0 + p; rw [Nat.zero_add]; exact this⟩
  | ⟨2, _⟩ => exact ⟨Nat.zero_le _, by have := (i (2 : Fin 3)).isLt; show (i (2 : Fin 3)).val < 0 + q; rw [Nat.zero_add]; exact this⟩

variable {nD : Nat} {τ : Topo} {sig : RefSig} {Val : EltTy → Type} {U : Type} [URA U]

local notation "𝕄" => MT nD τ sig Unit Val ℕ U ℕ

/-- A slice owned is its reshaping owned. -/
theorem owns_squeeze (c : Dev nD) {sp : Space} {s s' : Shape} {e : EltTy} (M : Memref sig .tc sp s e) (hq : s.Squeezes s') (q : PosShare TreeShare) (Y : s.Idx → Val e) :
    (owns (c : Thread nD τ) M q Y : sProp 𝕄) ⊢ iprop(∃ Y', owns (c : Thread nD τ) (M.squeeze s' hq) q Y') := by
  have h : (owns (c : Thread nD τ) M q Y : sProp 𝕄) ⊢ iprop(∃ f, (M.squeeze s' hq).view.loc (c : Thread nD τ) ↦[(M.squeeze s' hq).view.set]{q} f) := by
    rw [Memref.set_view_squeeze]
    unfold owns
    iintro ⟨%f, -, H⟩
    iexists f
    iexact H
  refine h.trans ?_
  iintro ⟨%f, H⟩
  iexists _
  iapply (owns_intro (c : Thread nD τ) (M.squeeze s' hq) q f)
  iexact H

/-- The same with the contents: what the slice reads of `f` becomes what its reshaping reads of `f`. -/
theorem owns_squeeze_at (c : Dev nD) {sp : Space} {s s' : Shape} {e : EltTy} (M : Memref sig .tc sp s e) (hq : s.Squeezes s') (q : PosShare TreeShare)
    (f : Buf Val (M.view.loc (c : Thread nD τ))) :
    (owns (c : Thread nD τ) M q (M.view.read Val f) : sProp 𝕄) ⊢ owns (c : Thread nD τ) (M.squeeze s' hq) q ((M.squeeze s' hq).view.read Val f) := by
  have h : (owns (c : Thread nD τ) M q (M.view.read Val f) : sProp 𝕄)
      ⊢ iprop(∃ g, ⌜(M.squeeze s' hq).view.read Val g = (M.squeeze s' hq).view.read Val f⌝ ∗ ((M.squeeze s' hq).view.loc (c : Thread nD τ) ↦[(M.squeeze s' hq).view.set]{q} g)) := by
    rw [Memref.set_view_squeeze]
    unfold owns
    iintro ⟨%g, %hg, H⟩
    iexists g
    isplitr
    · ipureintro
      exact funext fun j => congrFun hg (Shape.reshapeEquiv hq.numel_eq j)
    iexact H
  exact h

/-- A memref owned reads in the machine's state what it is owned at. -/
theorem owns_read (c : Dev nD) {sp : Space} {s : Shape} {e : EltTy} (M : Memref sig .tc sp s e) (q : PosShare TreeShare) (Y : s.Idx → Val e) (s' : Phys nD τ sig Val) :
    iprop(owns (c : Thread nD τ) M q Y ∗ SI s') ⊢ (⌜M.view.read Val (s'.mem.mem (M.view.loc (c : Thread nD τ))) = Y⌝ : sProp 𝕄) := by
  unfold owns
  iintro ⟨⟨%f, %hf, H⟩, HS⟩
  ihave %h := (SI_pointsTo_agree (ℓ := M.view.loc (c : Thread nD τ)) (I := M.view.set)) $$ [H HS]
  · isplitl [HS] <;> iassumption
  ipureintro
  exact (View.read_congr h).trans hf

end Cert.Slots
-- ==== Proof.GatherMem.lean ====
/-
# The all-gather's arrays, dealt out and collected

Before the run every device's result arrays are cut into their eight slots and its operands into shares; the slot that
a copy writes goes to the device that sends it (`deal_mem`). After the run a device has its operands whole again and
every slot at the block it is named after (`collect`).
-/
module

public import proofs.«01_k».proof.Proof.GatherDefs
public import proofs.«01_k».proof.Proof.Deal
public import proofs.«01_k».proof.Proof.Slots

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Script Cert.Slots

variable {F : FTy → Type}

local notation "𝕄" => MT nD τ sig Unit (Elt F) ℕ UU ℕ

variable (m : (ℓ : Loc nD τ sig) → Buf (Elt F) ℓ)

/-! ## Slots -/

/-- The result array `a` of device `c`, whole at contents `V`. -/
def outPt (c : Dev nD) : Fin 3 → sProp 𝕄
  | 0 => ((c : Thread nD τ).loc main_v1_0) ↦{fullShare} m ((c : Thread nD τ).loc main_v1_0)
  | 1 => ((c : Thread nD τ).loc main_v1_1) ↦{fullShare} m ((c : Thread nD τ).loc main_v1_1)
  | 2 => ((c : Thread nD τ).loc main_v1_2) ↦{fullShare} m ((c : Thread nD τ).loc main_v1_2)

/-- Slot `s` of device `d`'s result `a`, at some contents. -/
def slotAny (a : Fin 3) (d s : Dev nD) : sProp 𝕄 := iprop(∃ Y, owns (d : Thread nD τ) (slot a s) fullShare Y)

/-- A result array is its slots. -/
theorem out_slots (c : Dev nD) : ∀ a : Fin 3, outPt m c a ⊢ (bigSep Finset.univ (slotAny a c) : sProp 𝕄)
  | 0 => by
    unfold slotAny
    refine BI.Entails.trans (show outPt m c 0 ⊢ (owns (c : Thread nD τ) (Memref.whole main_v1_0) fullShare (m ((c : Thread nD τ).loc main_v1_0)) : sProp 𝕄) from
      Entails.of_eq (owns_whole (c : Thread nD τ) main_v1_0 fullShare (m ((c : Thread nD τ).loc main_v1_0))).symm) ?_
    refine BI.Entails.trans (owns_rects (c : Thread nD τ) (Memref.whole main_v1_0) fullShare (fun s : Dev nD => Rect.unit (s := S8x1024x642) ![s.val, 0, 0] S1x1024x642.size (inb0 s)) (fun _ _ => rfl)
      (fun s s' h => rows_disj 8 1024 642 inb0 s s' h) (rows_cover 8 1024 642 inb0) (m ((c : Thread nD τ).loc main_v1_0))) ?_
    exact BI.bigSep_mono fun s _ => owns_squeeze c _ squeezes_S1x1024x642_S1024x642 fullShare _
  | 1 => by
    unfold slotAny
    refine BI.Entails.trans (show outPt m c 1 ⊢ (owns (c : Thread nD τ) (Memref.whole main_v1_1) fullShare (m ((c : Thread nD τ).loc main_v1_1)) : sProp 𝕄) from
      Entails.of_eq (owns_whole (c : Thread nD τ) main_v1_1 fullShare (m ((c : Thread nD τ).loc main_v1_1))).symm) ?_
    refine BI.Entails.trans (owns_rects (c : Thread nD τ) (Memref.whole main_v1_1) fullShare (fun s : Dev nD => Rect.unit (s := S8x256x1024) ![s.val, 0, 0] S1x256x1024.size (inb1 s)) (fun _ _ => rfl)
      (fun s s' h => rows_disj 8 256 1024 inb1 s s' h) (rows_cover 8 256 1024 inb1) (m ((c : Thread nD τ).loc main_v1_1))) ?_
    exact BI.bigSep_mono fun s _ => owns_squeeze c _ squeezes_S1x256x1024_S256x1024 fullShare _
  | 2 => by
    unfold slotAny
    refine BI.Entails.trans (show outPt m c 2 ⊢ (owns (c : Thread nD τ) (Memref.whole main_v1_2) fullShare (m ((c : Thread nD τ).loc main_v1_2)) : sProp 𝕄) from
      Entails.of_eq (owns_whole (c : Thread nD τ) main_v1_2 fullShare (m ((c : Thread nD τ).loc main_v1_2))).symm) ?_
    refine BI.Entails.trans (owns_rects (c : Thread nD τ) (Memref.whole main_v1_2) fullShare (fun s : Dev nD => Rect.unit (s := S8x4x192) ![s.val, 0, 0] S1x4x192.size (inb2 s)) (fun _ _ => rfl)
      (fun s s' h => rows_disj 8 4 192 inb2 s s' h) (rows_cover 8 4 192 inb2) (m ((c : Thread nD τ).loc main_v1_2))) ?_
    exact BI.bigSep_mono fun s _ => owns_squeeze c _ squeezes_S1x4x192_S4x192 fullShare _

/-- The eight devices, as seen from `d`: itself and the seven whose blocks arrive. -/
def seen (d : Dev nD) : List (Dev nD) := [d, xr (inc 0) d, xr (inc 1) d, xr (inc 2) d, xr (inc 3) d, xr (inc 4) d, xr (inc 5) d, xr (inc 6) d]
theorem seen_all (d : Dev nD) : (seen d).Nodup ∧ ∀ x, x ∈ seen d := by revert d; decide

theorem slots_seen (d : Dev nD) (Φ : Dev nD → sProp 𝕄) : bigSep Finset.univ Φ = sepL Φ (seen d) := univ_sepL Φ (seen d) (seen_all d).1 (seen_all d).2

/-- The slots that arrive by copy number `k`, by receiver and by sender. -/
theorem slots_move (k : Fin 7) (Ψ : Dev nD → Dev nD → sProp 𝕄) :
    (bigSep Finset.univ fun d : Dev nD => Ψ d (xr (inc k) d)) = bigSep Finset.univ fun d : Dev nD => Ψ (xr (pk k) d) (xr (org k) d) := by
  have hp : pk k < 8 := by clear Ψ; revert k; decide
  rw [bigSep_univ_equiv ⟨xr (pk k), xr (pk k), xr_xr _ hp, xr_xr _ hp⟩ (fun d : Dev nD => Ψ d (xr (inc k) d))]
  refine BI.bigSep_congr fun d _ => ?_
  show Ψ (xr (pk k) d) (xr (inc k) (xr (pk k) d)) = _
  rw [xr_inc]

/-! ## Operands -/

/-- Device `c`'s operand `a`, whole. -/
def argPt (c : Dev nD) (q : PosShare TreeShare) : Fin 3 → sProp 𝕄
  | 0 => ((c : Thread nD τ).loc main_arg0) ↦{q} m ((c : Thread nD τ).loc main_arg0)
  | 1 => ((c : Thread nD τ).loc main_arg1) ↦{q} m ((c : Thread nD τ).loc main_arg1)
  | 2 => ((c : Thread nD τ).loc main_arg2) ↦{q} m ((c : Thread nD τ).loc main_arg2)

theorem owns_arg (c : Dev nD) (q : PosShare TreeShare) : ∀ a : Fin 3, (owns (c : Thread nD τ) (argM a) q (X m c a) : sProp 𝕄) = argPt m c q a
  | 0 => owns_whole (c : Thread nD τ) main_arg0 q _
  | 1 => owns_whole (c : Thread nD τ) main_arg1 q _
  | 2 => owns_whole (c : Thread nD τ) main_arg2 q _

/-- An array's points-to is half of it and four shares of the other half. -/
theorem pt_split (c : Dev nD) (b : Ref sig .tc) (f : Buf (Elt F) ((c : Thread nD τ).loc b)) :
    ((((c : Thread nD τ).loc b) ↦{fullShare} f) : sProp 𝕄)
      = iprop((((c : Thread nD τ).loc b) ↦{fullShare.right} f) ∗ (((c : Thread nD τ).loc b) ↦{shr 0} f) ∗ (((c : Thread nD τ).loc b) ↦{shr 1} f)
        ∗ (((c : Thread nD τ).loc b) ↦{shr 2} f) ∗ (((c : Thread nD τ).loc b) ↦{shr 3} f)) := by
  have h : ((((c : Thread nD τ).loc b) ↦{fullShare.left} f) : sProp 𝕄) = iprop((((c : Thread nD τ).loc b) ↦{shr 0} f) ∗ (((c : Thread nD τ).loc b) ↦{shr 1} f)
        ∗ (((c : Thread nD τ).loc b) ↦{shr 2} f) ∗ (((c : Thread nD τ).loc b) ↦{shr 3} f)) :=
    (ShareLeaves.pointsTo_leaves _ f 2 fullShare.left).trans
      (bigSep_univ_eq_bigSepL [0, 1, 2, 3] (by decide) (by decide) (fun i : Fin (2 ^ 2) => (((c : Thread nD τ).loc b) ↦{ShareLeaves.leaf 2 fullShare.left i} f : sProp 𝕄)))
  rw [← h]
  refine (BI.Entails.antisymm (pointsTo_share (PosShare.mem_left_op_right fullShare)).1 (pointsTo_share (PosShare.mem_left_op_right fullShare)).2).trans ?_
  exact BI.Entails.antisymm BI.sep_comm BI.sep_comm

theorem arg_split (c : Dev nD) : ∀ a : Fin 3, (argPt m c fullShare a : sProp 𝕄)
    = iprop(argPt m c fullShare.right a ∗ argPt m c (shr 0) a ∗ argPt m c (shr 1) a ∗ argPt m c (shr 2) a ∗ argPt m c (shr 3) a)
  | 0 => pt_split c main_arg0 _
  | 1 => pt_split c main_arg1 _
  | 2 => pt_split c main_arg2 _

/-! ## Dealing -/

/-- The copies of array `a`. -/
def copies (a : Fin 3) : List Cl := [.loc a, .send a 0, .send a 1, .send a 2, .send a 3, .send a 4, .send a 5, .send a 6]

theorem fuels_perm : (copies 0 ++ copies 1 ++ copies 2).Perm (fuels ops) := by decide +kernel

/-- One array of all devices, dealt to its copies. -/
theorem deal_array (a : Fin 3) :
    iprop((bigSep Finset.univ fun d : Dev nD => argPt m d fullShare a) ∗ (bigSep Finset.univ fun d : Dev nD => bigSep Finset.univ (slotAny a d)))
      ⊢ (bigSep Finset.univ fun d : Dev nD => sepL (fuel m d) (copies a) : sProp 𝕄) := by
  have hs : (bigSep Finset.univ fun d : Dev nD => bigSep Finset.univ (slotAny (F := F) a d))
      ⊢ iprop((bigSep Finset.univ fun d : Dev nD => slotAny a d d)
        ∗ (bigSep Finset.univ fun d : Dev nD => slotAny a (xr (pk 0) d) (xr (org 0) d)) ∗ (bigSep Finset.univ fun d : Dev nD => slotAny a (xr (pk 1) d) (xr (org 1) d))
        ∗ (bigSep Finset.univ fun d : Dev nD => slotAny a (xr (pk 2) d) (xr (org 2) d)) ∗ (bigSep Finset.univ fun d : Dev nD => slotAny a (xr (pk 3) d) (xr (org 3) d))
        ∗ (bigSep Finset.univ fun d : Dev nD => slotAny a (xr (pk 4) d) (xr (org 4) d)) ∗ (bigSep Finset.univ fun d : Dev nD => slotAny a (xr (pk 5) d) (xr (org 5) d))
        ∗ (bigSep Finset.univ fun d : Dev nD => slotAny a (xr (pk 6) d) (xr (org 6) d)) ∗ (bigSep Finset.univ fun d : Dev nD => (iprop(emp) : sProp 𝕄))) := by
    rw [BI.bigSep_congr (s := Finset.univ) (fun (d : Dev nD) _ => slots_seen d (slotAny a d)),
      ← slots_move 0, ← slots_move 1, ← slots_move 2, ← slots_move 3, ← slots_move 4, ← slots_move 5, ← slots_move 6]
    simp only [← BI.bigSep_sep']
    exact BI.Entails.refl _
  have ha : (bigSep Finset.univ fun d : Dev nD => argPt m d fullShare a)
      ⊢ iprop((bigSep Finset.univ fun d : Dev nD => argPt m d fullShare.right a) ∗ (bigSep Finset.univ fun d : Dev nD => argPt m d (shr 0) a)
        ∗ (bigSep Finset.univ fun d : Dev nD => argPt m d (shr 1) a) ∗ (bigSep Finset.univ fun d : Dev nD => argPt m d (shr 2) a)
        ∗ (bigSep Finset.univ fun d : Dev nD => argPt m d (shr 3) a) : sProp 𝕄) := by
    rw [BI.bigSep_congr (s := Finset.univ) (fun (d : Dev nD) _ => arg_split m d a)]
    simp only [← BI.bigSep_sep']
    exact BI.Entails.refl _
  have hf : iprop(((bigSep Finset.univ fun d : Dev nD => argPt m d fullShare.right a) ∗ bigSep Finset.univ fun d : Dev nD => slotAny a d d)
        ∗ ((bigSep Finset.univ fun d : Dev nD => argPt m d (shr 0) a) ∗ bigSep Finset.univ fun d : Dev nD => slotAny a (xr (pk 0) d) (xr (org 0) d))
        ∗ ((bigSep Finset.univ fun d : Dev nD => argPt m d (shr 1) a) ∗ bigSep Finset.univ fun d : Dev nD => slotAny a (xr (pk 1) d) (xr (org 1) d))
        ∗ ((bigSep Finset.univ fun d : Dev nD => argPt m d (shr 2) a) ∗ bigSep Finset.univ fun d : Dev nD => slotAny a (xr (pk 2) d) (xr (org 2) d))
        ∗ ((bigSep Finset.univ fun d : Dev nD => argPt m d (shr 3) a) ∗ bigSep Finset.univ fun d : Dev nD => slotAny a (xr (pk 3) d) (xr (org 3) d))
        ∗ (bigSep Finset.univ fun d : Dev nD => slotAny a (xr (pk 4) d) (xr (org 4) d)) ∗ (bigSep Finset.univ fun d : Dev nD => slotAny a (xr (pk 5) d) (xr (org 5) d))
        ∗ (bigSep Finset.univ fun d : Dev nD => slotAny a (xr (pk 6) d) (xr (org 6) d)) ∗ (bigSep Finset.univ fun d : Dev nD => (iprop(emp) : sProp 𝕄)))
      ⊢ (bigSep Finset.univ fun d : Dev nD => sepL (fuel m d) (copies a) : sProp 𝕄) := by
    simp only [← BI.bigSep_sep', ← owns_arg]
    refine BI.bigSep_mono fun d _ => ?_
    show _ ⊢ iprop((owns (d : Thread nD τ) (argM a) fullShare.right (X m d a) ∗ slotAny a d d) ∗ (owns (d : Thread nD τ) (argM a) (shr 0) (X m d a) ∗ slotAny a (xr (pk 0) d) (xr (org 0) d))
      ∗ (owns (d : Thread nD τ) (argM a) (shr 1) (X m d a) ∗ slotAny a (xr (pk 1) d) (xr (org 1) d))
      ∗ (owns (d : Thread nD τ) (argM a) (shr 2) (X m d a) ∗ slotAny a (xr (pk 2) d) (xr (org 2) d)) ∗ (owns (d : Thread nD τ) (argM a) (shr 3) (X m d a) ∗ slotAny a (xr (pk 3) d) (xr (org 3) d))
      ∗ (emp ∗ slotAny a (xr (pk 4) d) (xr (org 4) d)) ∗ (emp ∗ slotAny a (xr (pk 5) d) (xr (org 5) d)) ∗ (emp ∗ slotAny a (xr (pk 6) d) (xr (org 6) d)) ∗ emp)
    iintro ⟨H, H0, H1, H2, H3, H4, H5, H6, H7⟩
    isplitl [H]; · iexact H
    isplitl [H0]; · iexact H0
    isplitl [H1]; · iexact H1
    isplitl [H2]; · iexact H2
    isplitl [H3]; · iexact H3
    isplitl [H4]; · isplitr; · iempintro
                    iexact H4
    isplitl [H5]; · isplitr; · iempintro
                    iexact H5
    isplitl [H6]; · isplitr; · iempintro
                    iexact H6
    iexact H7
  iintro ⟨Ha, Hs⟩
  ihave Ha := ha $$ Ha
  ihave Hs := hs $$ Hs
  icases Ha with ⟨A, A0, A1, A2, A3⟩
  icases Hs with ⟨S, S0, S1, S2, S3, S4, S5, S6, S7⟩
  iapply hf
  isplitl [A S]; · isplitl [A] <;> iassumption
  isplitl [A0 S0]; · isplitl [A0] <;> iassumption
  isplitl [A1 S1]; · isplitl [A1] <;> iassumption
  isplitl [A2 S2]; · isplitl [A2] <;> iassumption
  isplitl [A3 S3]; · isplitl [A3] <;> iassumption
  isplitl [S4]; · iexact S4
  isplitl [S5]; · iexact S5
  isplitl [S6]; · iexact S6
  iexact S7

/-- The program's arrays. -/
theorem bufs_eq (c : Dev nD) :
    (unscopedBufs c (fun b => m ((c.tc : Thread nD τ).loc b)) : sProp 𝕄)
      = iprop(argPt m c fullShare 0 ∗ argPt m c fullShare 1 ∗ argPt m c fullShare 2 ∗ outPt m c 0 ∗ outPt m c 1 ∗ outPt m c 2) := by
  unfold unscopedBufs
  exact bigSep_eq_bigSepL_of_eq [main_arg0, main_arg1, main_arg2, main_v1_0, main_v1_1, main_v1_2] (by decide) (by decide) _

/-- The arrays of all devices, dealt to the copies. -/
theorem deal_mem :
    (bigSep Finset.univ fun c : Dev nD => unscopedBufs c (fun b => m ((c.tc : Thread nD τ).loc b)))
      ⊢ (bigSep Finset.univ fun d : Dev nD => sepL (fuel m d) (fuels ops) : sProp 𝕄) := by
  have h0 : (bigSep Finset.univ fun c : Dev nD => unscopedBufs c (fun b => m ((c.tc : Thread nD τ).loc b)))
      ⊢ iprop((bigSep Finset.univ fun c : Dev nD => argPt m c fullShare 0) ∗ (bigSep Finset.univ fun c : Dev nD => argPt m c fullShare 1) ∗ (bigSep Finset.univ fun c : Dev nD => argPt m c fullShare 2)
        ∗ (bigSep Finset.univ fun c : Dev nD => outPt m c 0) ∗ (bigSep Finset.univ fun c : Dev nD => outPt m c 1) ∗ (bigSep Finset.univ fun c : Dev nD => outPt m c 2) : sProp 𝕄) := by
    rw [BI.bigSep_congr (s := Finset.univ) (fun (c : Dev nD) _ => bufs_eq m c)]
    simp only [← BI.bigSep_sep']
    exact BI.Entails.refl _
  have h1 (a : Fin 3) : (bigSep Finset.univ fun c : Dev nD => outPt m c a) ⊢ (bigSep Finset.univ fun c : Dev nD => bigSep Finset.univ (slotAny a c) : sProp 𝕄) :=
    BI.bigSep_mono fun c _ => out_slots m c a
  have h2 : iprop((bigSep Finset.univ fun d : Dev nD => sepL (fuel m d) (copies 0)) ∗ (bigSep Finset.univ fun d : Dev nD => sepL (fuel m d) (copies 1)) ∗ (bigSep Finset.univ fun d : Dev nD => sepL (fuel m d) (copies 2)))
      ⊢ (bigSep Finset.univ fun d : Dev nD => sepL (fuel m d) (fuels ops) : sProp 𝕄) := by
    simp only [← BI.bigSep_sep']
    refine BI.bigSep_mono fun d _ => ?_
    refine BI.Entails.trans ?_ (sepL_perm (fuel m d) fuels_perm)
    refine BI.Entails.trans ?_ (sepL_join (fuel m d) (copies 0 ++ copies 1) (copies 2))
    show iprop(sepL (fuel m d) (copies 0) ∗ sepL (fuel m d) (copies 1) ∗ sepL (fuel m d) (copies 2)) ⊢ iprop(sepL (fuel m d) (copies 0 ++ copies 1) ∗ sepL (fuel m d) (copies 2))
    iintro ⟨H0, H1, H2⟩
    isplitl [H0 H1]
    · iapply (sepL_join (fuel m d) (copies 0) (copies 1))
      isplitl [H0] <;> iassumption
    · iexact H2
  iintro H
  ihave H := h0 $$ H
  icases H with ⟨A0, A1, A2, O0, O1, O2⟩
  iapply h2
  isplitl [A0 O0]
  · iapply (deal_array m 0)
    isplitl [A0]; · iexact A0
    iapply (h1 0); iexact O0
  isplitl [A1 O1]
  · iapply (deal_array m 1)
    isplitl [A1]; · iexact A1
    iapply (h1 1); iexact O1
  iapply (deal_array m 2)
  isplitl [A2]; · iexact A2
  iapply (h1 2); iexact O2

/-! ## Collecting -/

/-- What device `c` has of array `a` at the end: its operand, and every slot at its block. -/
def fin (c : Dev nD) (a : Fin 3) : sProp 𝕄 :=
  iprop(argPt m c fullShare a ∗ sepL (fun s => owns (c : Thread nD τ) (slot a s) fullShare (X m s a)) (seen c))

/-- The waits that give array `a` back. -/
def gots (a : Fin 3) : List (Item Cl) :=
  [.got (.loc a), .got (.send a 0), .got (.send a 1), .got (.send a 2), .got (.send a 3), .got (.send a 4), .got (.send a 5), .got (.send a 6),
    .got (.recv a 0), .got (.recv a 4), .got (.recv a 5), .got (.recv a 6)]

theorem items_perm : (its 69).Perm ((waits ops).map .spent ++ (gots 0 ++ gots 1 ++ gots 2)) := by decide +kernel

theorem collect_array (c : Dev nD) (a : Fin 3) : sepL ((proto m).hold ER c) (gots a) ⊢ (fin m c a : sProp 𝕄) := by
  unfold fin
  rw [arg_split]
  simp only [← owns_arg]
  show iprop((owns (c : Thread nD τ) (slot a c) fullShare (X m c a) ∗ owns (c : Thread nD τ) (argM a) fullShare.right (X m c a))
      ∗ owns (c : Thread nD τ) (argM a) (shr 0) (X m c a) ∗ owns (c : Thread nD τ) (argM a) (shr 1) (X m c a)
      ∗ owns (c : Thread nD τ) (argM a) (shr 2) (X m c a) ∗ owns (c : Thread nD τ) (argM a) (shr 3) (X m c a)
      ∗ owns (c : Thread nD τ) (slot a (xr 4 c)) fullShare (X m (xr 4 c) a) ∗ owns (c : Thread nD τ) (slot a (xr 2 c)) fullShare (X m (xr 2 c) a)
      ∗ owns (c : Thread nD τ) (slot a (xr 6 c)) fullShare (X m (xr 6 c) a)
      ∗ owns (c : Thread nD τ) (slot a (xr 1 c)) fullShare (X m (xr 1 c) a) ∗ owns (c : Thread nD τ) (slot a (xr 5 c)) fullShare (X m (xr 5 c) a)
      ∗ owns (c : Thread nD τ) (slot a (xr 3 c)) fullShare (X m (xr 3 c) a) ∗ owns (c : Thread nD τ) (slot a (xr 7 c)) fullShare (X m (xr 7 c) a) ∗ emp)
    ⊢ iprop(_ ∗ (owns (c : Thread nD τ) (slot a c) fullShare (X m c a) ∗ owns (c : Thread nD τ) (slot a (xr 1 c)) fullShare (X m (xr 1 c) a)
      ∗ owns (c : Thread nD τ) (slot a (xr 4 c)) fullShare (X m (xr 4 c) a) ∗ owns (c : Thread nD τ) (slot a (xr 2 c)) fullShare (X m (xr 2 c) a)
      ∗ owns (c : Thread nD τ) (slot a (xr 6 c)) fullShare (X m (xr 6 c) a) ∗ owns (c : Thread nD τ) (slot a (xr 5 c)) fullShare (X m (xr 5 c) a)
      ∗ owns (c : Thread nD τ) (slot a (xr 3 c)) fullShare (X m (xr 3 c) a) ∗ owns (c : Thread nD τ) (slot a (xr 7 c)) fullShare (X m (xr 7 c) a) ∗ emp))
  iintro ⟨⟨Sc, A⟩, A0, A1, A2, A3, S4, S2, S6, S1, S5, S3, S7, He⟩
  isplitl [A A0 A1 A2 A3]
  · isplitl [A]; · iexact A
    isplitl [A0]; · iexact A0
    isplitl [A1]; · iexact A1
    isplitl [A2]; · iexact A2
    iexact A3
  isplitl [Sc]; · iexact Sc
  isplitl [S1]; · iexact S1
  isplitl [S4]; · iexact S4
  isplitl [S2]; · iexact S2
  isplitl [S6]; · iexact S6
  isplitl [S5]; · iexact S5
  isplitl [S3]; · iexact S3
  isplitl [S7]; · iexact S7
  iexact He

theorem waits_all : (waits ops).Nodup ∧ ∀ x, x ∈ waits ops := by decide +kernel
theorem pays_all : (pays ops).Nodup ∧ ∀ x, x ∈ pays ops := by decide +kernel

/-- After the last operation: the operands whole, every slot at its block, the counters back at zero. -/
theorem collect (c : Dev nD) :
    sepL ((proto m).hold ER c) (its 69) ⊢ |={Set.univ}=> iprop((fin m c 0 ∗ fin m c 1 ∗ fin m c 2) ∗ bigSep Finset.univ fun x : Cl => (semVal ((proto m).cell (c, x)) 0 : sProp 𝕄)) := by
  have h0 := sepL_perm ((proto m).hold ER c) items_perm
  have h1 := sepL_append ((proto m).hold ER c) ((waits ops).map .spent) (gots 0 ++ gots 1 ++ gots 2)
  have h2 := sepL_append ((proto m).hold ER c) (gots 0 ++ gots 1) (gots 2)
  have h3 := sepL_append ((proto m).hold ER c) (gots 0) (gots 1)
  have h4 := (proto m).spents_close ER c (waits ops) waits_all.1 waits_all.2
  iintro H
  ihave H := (h0.trans h1) $$ H
  icases H with ⟨Hs, H⟩
  ihave H := h2 $$ H
  icases H with ⟨H, G2⟩
  ihave H := h3 $$ H
  icases H with ⟨G0, G1⟩
  imod h4 $$ Hs with Hs
  imodintro
  isplitr [Hs]
  · isplitl [G0]; · iapply (collect_array m c 0); iexact G0
    isplitl [G1]; · iapply (collect_array m c 1); iexact G1
    iapply (collect_array m c 2); iexact G2
  · iexact Hs

/-! ## Reading the end -/

/-- What the end state says of device `c`'s array `a`. -/
def Reads (c : Dev nD) (a : Fin 3) (s : MemSt nD τ sig (Elt F)) : Prop :=
  s.mem ((argM a).view.loc (c : Thread nD τ)) = m ((argM a).view.loc (c : Thread nD τ))
    ∧ ∀ t : Dev nD, (slot a t).view.read (Elt F) (s.mem ((slot a t).view.loc (c : Thread nD τ))) = X m t a

theorem arg_read (c : Dev nD) (s' : Phys nD τ sig (Elt F)) : ∀ a : Fin 3,
    iprop(argPt m c fullShare a ∗ SI s') ⊢ (⌜s'.mem.mem ((argM a).view.loc (c : Thread nD τ)) = m ((argM a).view.loc (c : Thread nD τ))⌝ : sProp 𝕄)
  | 0 => by
    show iprop((((c : Thread nD τ).loc main_arg0) ↦{fullShare} m ((c : Thread nD τ).loc main_arg0)) ∗ SI s') ⊢ _
    iintro ⟨H, HS⟩
    ihave %h := (SI_pointsTo_agree (I := Finset.univ)) $$ [H HS]
    · isplitl [HS] <;> iassumption
    ipureintro; exact funext fun i => h i (Finset.mem_univ i)
  | 1 => by
    show iprop((((c : Thread nD τ).loc main_arg1) ↦{fullShare} m ((c : Thread nD τ).loc main_arg1)) ∗ SI s') ⊢ _
    iintro ⟨H, HS⟩
    ihave %h := (SI_pointsTo_agree (I := Finset.univ)) $$ [H HS]
    · isplitl [HS] <;> iassumption
    ipureintro; exact funext fun i => h i (Finset.mem_univ i)
  | 2 => by
    show iprop((((c : Thread nD τ).loc main_arg2) ↦{fullShare} m ((c : Thread nD τ).loc main_arg2)) ∗ SI s') ⊢ _
    iintro ⟨H, HS⟩
    ihave %h := (SI_pointsTo_agree (I := Finset.univ)) $$ [H HS]
    · isplitl [HS] <;> iassumption
    ipureintro; exact funext fun i => h i (Finset.mem_univ i)

theorem slot_read (c : Dev nD) (s' : Phys nD τ sig (Elt F)) (a : Fin 3) (t : Dev nD) :
    iprop(owns (c : Thread nD τ) (slot a t) fullShare (X m t a) ∗ SI s')
      ⊢ (⌜(slot a t).view.read (Elt F) (s'.mem.mem ((slot a t).view.loc (c : Thread nD τ))) = X m t a⌝ : sProp 𝕄) :=
  owns_read c (slot a t) fullShare (X m t a) s'

/-- The end state, read. -/
theorem fin_read (c : Dev nD) (s' : Phys nD τ sig (Elt F)) (a : Fin 3) : iprop(fin m c a ∗ SI s') ⊢ (⌜Reads m c a s'.mem⌝ : sProp 𝕄) := by
  have hl : ∀ l : List (Dev nD), iprop(sepL (fun s => owns (c : Thread nD τ) (slot a s) fullShare (X m s a)) l ∗ SI s')
      ⊢ (⌜∀ t ∈ l, (slot a t).view.read (Elt F) (s'.mem.mem ((slot a t).view.loc (c : Thread nD τ))) = X m t a⌝ : sProp 𝕄) := by
    intro l
    induction l with
    | nil =>
      iintro -
      ipureintro
      exact fun t ht => absurd ht (by simp)
    | cons t l ih =>
      refine (show _ ⊢ iprop(⌜(slot a t).view.read (Elt F) (s'.mem.mem ((slot a t).view.loc (c : Thread nD τ))) = X m t a⌝ ∧ ⌜∀ t ∈ l, (slot a t).view.read (Elt F) (s'.mem.mem ((slot a t).view.loc (c : Thread nD τ))) = X m t a⌝) from BI.and_intro ?_ ?_).trans ?_
      · refine BI.Entails.trans ?_ (slot_read m c s' a t)
        show iprop((owns (c : Thread nD τ) (slot a t) fullShare (X m t a) ∗ sepL (fun s => owns (c : Thread nD τ) (slot a s) fullShare (X m s a)) l) ∗ SI s') ⊢ iprop(owns (c : Thread nD τ) (slot a t) fullShare (X m t a) ∗ SI s')
        iintro ⟨⟨H, -⟩, HS⟩
        isplitl [H] <;> iassumption
      · refine BI.Entails.trans ?_ ih
        show iprop((owns (c : Thread nD τ) (slot a t) fullShare (X m t a) ∗ sepL (fun s => owns (c : Thread nD τ) (slot a s) fullShare (X m s a)) l) ∗ SI s') ⊢ iprop(sepL (fun s => owns (c : Thread nD τ) (slot a s) fullShare (X m s a)) l ∗ SI s')
        iintro ⟨⟨-, H⟩, HS⟩
        isplitl [H] <;> iassumption
      · iintro ⟨%h1, %h2⟩
        ipureintro
        exact fun t' ht => (List.mem_cons.mp ht).elim (fun e => e ▸ h1) (h2 t')
  refine (show _ ⊢ iprop(⌜s'.mem.mem ((argM a).view.loc (c : Thread nD τ)) = m ((argM a).view.loc (c : Thread nD τ))⌝
      ∧ ⌜∀ t ∈ seen c, (slot a t).view.read (Elt F) (s'.mem.mem ((slot a t).view.loc (c : Thread nD τ))) = X m t a⌝) from BI.and_intro ?_ ?_).trans ?_
  · refine BI.Entails.trans ?_ (arg_read m c s' a)
    unfold fin
    show iprop((argPt m c fullShare a ∗ sepL (fun s => owns (c : Thread nD τ) (slot a s) fullShare (X m s a)) (seen c)) ∗ SI s') ⊢ iprop(argPt m c fullShare a ∗ SI s')
    iintro ⟨⟨H, -⟩, HS⟩
    isplitl [H] <;> iassumption
  · refine BI.Entails.trans ?_ (hl (seen c))
    unfold fin
    show iprop((argPt m c fullShare a ∗ sepL (fun s => owns (c : Thread nD τ) (slot a s) fullShare (X m s a)) (seen c)) ∗ SI s') ⊢ iprop(sepL (fun s => owns (c : Thread nD τ) (slot a s) fullShare (X m s a)) (seen c) ∗ SI s')
    iintro ⟨⟨-, H⟩, HS⟩
    isplitl [H] <;> iassumption
  · iintro ⟨%h1, %h2⟩
    ipureintro
    exact ⟨h1, fun t => h2 t ((seen_all c).2 t)⟩

end Cert.Gather
-- ==== Proof.GatherBodyA.lean ====
/-
# The all-gather's body: its addresses and the sends of the own blocks

Each part of the printed body takes the state before its first operation to the state after its last.
-/
module

public import proofs.«01_k».proof.Proof.GatherDefs
public import proofs.«01_k».proof.Proof.Gen.KernelIdeal.Skeleton

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Script

variable {F : FTy → Type}

local notation "𝕄" => MT nD τ sig Unit (Elt F) ℕ UU ℕ

/-! The printed offsets and devices, in closed form. -/

theorem off1 : ∀ c : Dev nD, k0_off1 c = ![c.val, 0, 0] := by decide +kernel
theorem off2 : ∀ c : Dev nD, k0_off2 c = ![c.val, 0, 0] := by decide +kernel
theorem off3 : ∀ c : Dev nD, k0_off3 c = ![c.val, 0, 0] := by decide +kernel
theorem off4 : ∀ c : Dev nD, k0_off4 c = ![(xr (org 4) c).val, 0, 0] := by decide +kernel
theorem off5 : ∀ c : Dev nD, k0_off5 c = ![(xr (org 4) c).val, 0, 0] := by decide +kernel
theorem off6 : ∀ c : Dev nD, k0_off6 c = ![(xr (org 4) c).val, 0, 0] := by decide +kernel
theorem off7 : ∀ c : Dev nD, k0_off7 c = ![(xr (org 5) c).val, 0, 0] := by decide +kernel
theorem off8 : ∀ c : Dev nD, k0_off8 c = ![(xr (org 5) c).val, 0, 0] := by decide +kernel
theorem off9 : ∀ c : Dev nD, k0_off9 c = ![(xr (org 5) c).val, 0, 0] := by decide +kernel
theorem off10 : ∀ c : Dev nD, k0_off10 c = ![(xr (org 6) c).val, 0, 0] := by decide +kernel
theorem off11 : ∀ c : Dev nD, k0_off11 c = ![(xr (org 6) c).val, 0, 0] := by decide +kernel
theorem off12 : ∀ c : Dev nD, k0_off12 c = ![(xr (org 6) c).val, 0, 0] := by decide +kernel
theorem dev1 : ∀ c : Dev nD, (⟨k0_dev1 c, k0_dev1_lt c⟩ : Dev nD) = xr (pk 0) c := by decide +kernel
theorem dev2 : ∀ c : Dev nD, (⟨k0_dev2 c, k0_dev2_lt c⟩ : Dev nD) = xr (pk 1) c := by decide +kernel
theorem dev3 : ∀ c : Dev nD, (⟨k0_dev3 c, k0_dev3_lt c⟩ : Dev nD) = xr (pk 2) c := by decide +kernel
theorem dev4 : ∀ c : Dev nD, (⟨k0_dev4 c, k0_dev4_lt c⟩ : Dev nD) = xr (pk 3) c := by decide +kernel
theorem dev5 : ∀ c : Dev nD, (⟨k0_dev5 c, k0_dev5_lt c⟩ : Dev nD) = xr (pk 0) c := by decide +kernel
theorem dev6 : ∀ c : Dev nD, (⟨k0_dev6 c, k0_dev6_lt c⟩ : Dev nD) = xr (pk 1) c := by decide +kernel
theorem dev7 : ∀ c : Dev nD, (⟨k0_dev7 c, k0_dev7_lt c⟩ : Dev nD) = xr (pk 2) c := by decide +kernel
theorem dev8 : ∀ c : Dev nD, (⟨k0_dev8 c, k0_dev8_lt c⟩ : Dev nD) = xr (pk 3) c := by decide +kernel
theorem dev9 : ∀ c : Dev nD, (⟨k0_dev9 c, k0_dev9_lt c⟩ : Dev nD) = xr (pk 0) c := by decide +kernel
theorem dev10 : ∀ c : Dev nD, (⟨k0_dev10 c, k0_dev10_lt c⟩ : Dev nD) = xr (pk 1) c := by decide +kernel
theorem dev11 : ∀ c : Dev nD, (⟨k0_dev11 c, k0_dev11_lt c⟩ : Dev nD) = xr (pk 2) c := by decide +kernel
theorem dev12 : ∀ c : Dev nD, (⟨k0_dev12 c, k0_dev12_lt c⟩ : Dev nD) = xr (pk 3) c := by decide +kernel
theorem dev13 : ∀ c : Dev nD, (⟨k0_dev13 c, k0_dev13_lt c⟩ : Dev nD) = xr (pk 4) c := by decide +kernel
theorem dev14 : ∀ c : Dev nD, (⟨k0_dev14 c, k0_dev14_lt c⟩ : Dev nD) = xr (pk 4) c := by decide +kernel
theorem dev15 : ∀ c : Dev nD, (⟨k0_dev15 c, k0_dev15_lt c⟩ : Dev nD) = xr (pk 4) c := by decide +kernel
theorem dev16 : ∀ c : Dev nD, (⟨k0_dev16 c, k0_dev16_lt c⟩ : Dev nD) = xr (pk 5) c := by decide +kernel
theorem dev17 : ∀ c : Dev nD, (⟨k0_dev17 c, k0_dev17_lt c⟩ : Dev nD) = xr (pk 5) c := by decide +kernel
theorem dev18 : ∀ c : Dev nD, (⟨k0_dev18 c, k0_dev18_lt c⟩ : Dev nD) = xr (pk 5) c := by decide +kernel
theorem dev19 : ∀ c : Dev nD, (⟨k0_dev19 c, k0_dev19_lt c⟩ : Dev nD) = xr (pk 6) c := by decide +kernel
theorem dev20 : ∀ c : Dev nD, (⟨k0_dev20 c, k0_dev20_lt c⟩ : Dev nD) = xr (pk 6) c := by decide +kernel
theorem dev21 : ∀ c : Dev nD, (⟨k0_dev21 c, k0_dev21_lt c⟩ : Dev nD) = xr (pk 6) c := by decide +kernel

/-- Part 1: operations 0 to 1. -/
theorem part1 [FloatOps F] (m : (ℓ : Loc nD τ sig) → Buf (Elt F) ℓ) (c : Dev nD) : St m c 0 ⊢ wp frame (wpE (defs₀ (F := F)) Variants.none (c.tc) none) Set.univ
    (k0_part1 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2) (fun r => iprop(⌜r.1 = c⌝ ∗ St m c 2)) := by
  rw [k0_part1_eq_skeleton]
  unfold k0_part1_skel
  simp only [Prog.lift, Prog.bind_op, Prog.bind_ret, Prog.pure_eq_ret, Prog.bind_assoc, wp_deviceId]
  refine step_loc m 0 0 rfl rfl (slot0_eq _ _ _ (off1 c)) rfl ?_
  refine step_loc m 1 1 rfl rfl (slot1_eq _ _ _ (off2 c)) rfl ?_
  rw [wp_ret]
  iintro H
  imodintro
  isplitr
  · ipureintro; rfl
  iexact H

/-- Part 2: operations 2 to 2. -/
theorem part2 [FloatOps F] (m : (ℓ : Loc nD τ sig) → Buf (Elt F) ℓ) (c : Dev nD) (v2 v5 v8 : BitVec 32) : St m c 2 ⊢ wp frame (wpE (defs₀ (F := F)) Variants.none (c.tc) none) Set.univ
    (k0_part2 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8) (fun _ => St m c 3) := by
  rw [k0_part2_eq_skeleton]
  unfold k0_part2_skel
  simp only [Prog.lift, Prog.bind_op, Prog.bind_ret, Prog.pure_eq_ret, Prog.bind_assoc]
  refine step_loc m 2 2 rfl rfl (slot2_eq _ _ _ (off3 c)) rfl ?_
  rw [wp_ret]
  iintro H
  imodintro
  iexact H

/-- Part 3: operations 3 to 3. -/
theorem part3 [FloatOps F] (m : (ℓ : Loc nD τ sig) → Buf (Elt F) ℓ) (c : Dev nD) (v2 v5 v8 v9 v10 v70 v71 : BitVec 32) : St m c 3 ⊢ wp frame (wpE (defs₀ (F := F)) Variants.none (c.tc) none) Set.univ
    (k0_part3 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v10 v70 v71) (fun _ => St m c 4) := by
  rw [k0_part3_eq_skeleton]
  unfold k0_part3_skel
  simp only [Prog.lift, Prog.bind_op, Prog.bind_ret, Prog.pure_eq_ret, Prog.bind_assoc]
  refine step_own m 3 0 0 (by decide) rfl rfl (slot0_eq _ _ _ (off1 c)) (dev1 c) rfl rfl ?_
  rw [wp_ret]
  iintro H
  imodintro
  iexact H

/-- Part 4: operations 4 to 6. -/
theorem part4 [FloatOps F] (m : (ℓ : Loc nD τ sig) → Buf (Elt F) ℓ) (c : Dev nD) (v2 v8 v11 v12 v13 : BitVec 32) : St m c 4 ⊢ wp frame (wpE (defs₀ (F := F)) Variants.none (c.tc) none) Set.univ
    (k0_part4 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v8 v11 v12 v13) (fun _ => St m c 7) := by
  rw [k0_part4_eq_skeleton]
  unfold k0_part4_skel
  simp only [Prog.lift, Prog.bind_op, Prog.bind_ret, Prog.pure_eq_ret, Prog.bind_assoc]
  refine step_own m 4 0 1 (by decide) rfl rfl (slot0_eq _ _ _ (off1 c)) (dev2 c) rfl rfl ?_
  refine step_own m 5 0 2 (by decide) rfl rfl (slot0_eq _ _ _ (off1 c)) (dev3 c) rfl rfl ?_
  refine step_own m 6 0 3 (by decide) rfl rfl (slot0_eq _ _ _ (off1 c)) (dev4 c) rfl rfl ?_
  rw [wp_ret]
  iintro H
  imodintro
  iexact H

/-- Part 5: operations 7 to 8. -/
theorem part5 [FloatOps F] (m : (ℓ : Loc nD τ sig) → Buf (Elt F) ℓ) (c : Dev nD) (v2 v5 v8 v9 v10 v11 v135 : BitVec 32) : St m c 7 ⊢ wp frame (wpE (defs₀ (F := F)) Variants.none (c.tc) none) Set.univ
    (k0_part5 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v10 v11 v135) (fun _ => St m c 9) := by
  rw [k0_part5_eq_skeleton]
  unfold k0_part5_skel
  simp only [Prog.lift, Prog.bind_op, Prog.bind_ret, Prog.pure_eq_ret, Prog.bind_assoc]
  refine step_own m 7 1 0 (by decide) rfl rfl (slot1_eq _ _ _ (off2 c)) (dev5 c) rfl rfl ?_
  refine step_own m 8 1 1 (by decide) rfl rfl (slot1_eq _ _ _ (off2 c)) (dev6 c) rfl rfl ?_
  rw [wp_ret]
  iintro H
  imodintro
  iexact H

/-- Part 6: operations 9 to 11. -/
theorem part6 [FloatOps F] (m : (ℓ : Loc nD τ sig) → Buf (Elt F) ℓ) (c : Dev nD) (v2 v5 v8 v9 v10 v12 v13 : BitVec 32) : St m c 9 ⊢ wp frame (wpE (defs₀ (F := F)) Variants.none (c.tc) none) Set.univ
    (k0_part6 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v10 v12 v13) (fun _ => St m c 12) := by
  rw [k0_part6_eq_skeleton]
  unfold k0_part6_skel
  simp only [Prog.lift, Prog.bind_op, Prog.bind_ret, Prog.pure_eq_ret, Prog.bind_assoc]
  refine step_own m 9 1 2 (by decide) rfl rfl (slot1_eq _ _ _ (off2 c)) (dev7 c) rfl rfl ?_
  refine step_own m 10 1 3 (by decide) rfl rfl (slot1_eq _ _ _ (off2 c)) (dev8 c) rfl rfl ?_
  refine step_own m 11 2 0 (by decide) rfl rfl (slot2_eq _ _ _ (off3 c)) (dev9 c) rfl rfl ?_
  rw [wp_ret]
  iintro H
  imodintro
  iexact H

/-- Part 7: operations 12 to 14. -/
theorem part7 [FloatOps F] (m : (ℓ : Loc nD τ sig) → Buf (Elt F) ℓ) (c : Dev nD) (v2 v5 v8 v10 v11 v12 v13 v197 v198 : BitVec 32) : St m c 12 ⊢ wp frame (wpE (defs₀ (F := F)) Variants.none (c.tc) none) Set.univ
    (k0_part7 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v10 v11 v12 v13 v197 v198) (fun _ => St m c 15) := by
  rw [k0_part7_eq_skeleton]
  unfold k0_part7_skel
  simp only [Prog.lift, Prog.bind_op, Prog.bind_ret, Prog.pure_eq_ret, Prog.bind_assoc]
  refine step_own m 12 2 1 (by decide) rfl rfl (slot2_eq _ _ _ (off3 c)) (dev10 c) rfl rfl ?_
  refine step_own m 13 2 2 (by decide) rfl rfl (slot2_eq _ _ _ (off3 c)) (dev11 c) rfl rfl ?_
  refine step_own m 14 2 3 (by decide) rfl rfl (slot2_eq _ _ _ (off3 c)) (dev12 c) rfl rfl ?_
  rw [wp_ret]
  iintro H
  imodintro
  iexact H

end Cert.Gather
-- ==== Proof.GatherBodyB.lean ====
/-
# The all-gather's body: the blocks passed on

Each part of the printed body takes the state before its first operation to the state after its last.
-/
module

public import proofs.«01_k».proof.Proof.GatherBodyA

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Script

variable {F : FTy → Type}

local notation "𝕄" => MT nD τ sig Unit (Elt F) ℕ UU ℕ

/-- Part 8: operations 15 to 16. -/
theorem part8 [FloatOps F] (m : (ℓ : Loc nD τ sig) → Buf (Elt F) ℓ) (c : Dev nD) (v2 v5 v8 v9 v10 v230 v231 : BitVec 32) : St m c 15 ⊢ wp frame (wpE (defs₀ (F := F)) Variants.none (c.tc) none) Set.univ
    (k0_part8 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v10 v230 v231) (fun _ => St m c 17) := by
  rw [k0_part8_eq_skeleton]
  unfold k0_part8_skel
  simp only [Prog.lift, Prog.bind_op, Prog.bind_ret, Prog.pure_eq_ret, Prog.bind_assoc]
  refine step_wait m 15 (.recv 0 1) rfl (by decide +kernel) (by decide +kernel) rfl rfl ?_
  refine step_pass m 16 0 4 1 (by decide) rfl rfl rfl (by decide +kernel) (slot0_eq _ _ _ (off4 c)) (slot0_eq _ _ _ (off4 c)) (dev13 c) rfl rfl ?_
  rw [wp_ret]
  iintro H
  imodintro
  iexact H

/-- Part 9: operations 17 to 17. -/
theorem part9 [FloatOps F] (m : (ℓ : Loc nD τ sig) → Buf (Elt F) ℓ) (c : Dev nD) (v2 v5 v8 v9 v10 : BitVec 32) : St m c 17 ⊢ wp frame (wpE (defs₀ (F := F)) Variants.none (c.tc) none) Set.univ
    (k0_part9 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v10) (fun _ => St m c 18) := by
  rw [k0_part9_eq_skeleton]
  unfold k0_part9_skel
  simp only [Prog.lift, Prog.bind_op, Prog.bind_ret, Prog.pure_eq_ret, Prog.bind_assoc]
  refine step_wait m 17 (.recv 1 1) rfl (by decide +kernel) (by decide +kernel) rfl rfl ?_
  rw [wp_ret]
  iintro H
  imodintro
  iexact H

/-- Part 10: operations 18 to 19. -/
theorem part10 [FloatOps F] (m : (ℓ : Loc nD τ sig) → Buf (Elt F) ℓ) (c : Dev nD) (v2 v5 v8 v9 v10 : BitVec 32) : St m c 18 ⊢ wp frame (wpE (defs₀ (F := F)) Variants.none (c.tc) none) Set.univ
    (k0_part10 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v10) (fun _ => St m c 20) := by
  rw [k0_part10_eq_skeleton]
  unfold k0_part10_skel
  simp only [Prog.lift, Prog.bind_op, Prog.bind_ret, Prog.pure_eq_ret, Prog.bind_assoc]
  refine step_pass m 18 1 4 1 (by decide) rfl rfl rfl (by decide +kernel) (slot1_eq _ _ _ (off5 c)) (slot1_eq _ _ _ (off5 c)) (dev14 c) rfl rfl ?_
  refine step_wait m 19 (.recv 2 1) rfl (by decide +kernel) (by decide +kernel) rfl rfl ?_
  rw [wp_ret]
  iintro H
  imodintro
  iexact H

/-- Part 11: operations 20 to 21. -/
theorem part11 [FloatOps F] (m : (ℓ : Loc nD τ sig) → Buf (Elt F) ℓ) (c : Dev nD) (v2 v5 v8 v9 v11 : BitVec 32) : St m c 20 ⊢ wp frame (wpE (defs₀ (F := F)) Variants.none (c.tc) none) Set.univ
    (k0_part11 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v11) (fun _ => St m c 22) := by
  rw [k0_part11_eq_skeleton]
  unfold k0_part11_skel
  simp only [Prog.lift, Prog.bind_op, Prog.bind_ret, Prog.pure_eq_ret, Prog.bind_assoc]
  refine step_pass m 20 2 4 1 (by decide) rfl rfl rfl (by decide +kernel) (slot2_eq _ _ _ (off6 c)) (slot2_eq _ _ _ (off6 c)) (dev15 c) rfl rfl ?_
  refine step_wait m 21 (.recv 0 2) rfl (by decide +kernel) (by decide +kernel) rfl rfl ?_
  rw [wp_ret]
  iintro H
  imodintro
  iexact H

/-- Part 12: operations 22 to 23. -/
theorem part12 [FloatOps F] (m : (ℓ : Loc nD τ sig) → Buf (Elt F) ℓ) (c : Dev nD) (v2 v5 v8 v11 : BitVec 32) : St m c 22 ⊢ wp frame (wpE (defs₀ (F := F)) Variants.none (c.tc) none) Set.univ
    (k0_part12 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v11) (fun _ => St m c 24) := by
  rw [k0_part12_eq_skeleton]
  unfold k0_part12_skel
  simp only [Prog.lift, Prog.bind_op, Prog.bind_ret, Prog.pure_eq_ret, Prog.bind_assoc]
  refine step_pass m 22 0 5 2 (by decide) rfl rfl rfl (by decide +kernel) (slot0_eq _ _ _ (off7 c)) (slot0_eq _ _ _ (off7 c)) (dev16 c) rfl rfl ?_
  refine step_wait m 23 (.recv 1 2) rfl (by decide +kernel) (by decide +kernel) rfl rfl ?_
  rw [wp_ret]
  iintro H
  imodintro
  iexact H

/-- Part 13: operations 24 to 25. -/
theorem part13 [FloatOps F] (m : (ℓ : Loc nD τ sig) → Buf (Elt F) ℓ) (c : Dev nD) (v2 v5 v8 v9 v11 v389 : BitVec 32) : St m c 24 ⊢ wp frame (wpE (defs₀ (F := F)) Variants.none (c.tc) none) Set.univ
    (k0_part13 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v11 v389) (fun _ => St m c 26) := by
  rw [k0_part13_eq_skeleton]
  unfold k0_part13_skel
  simp only [Prog.lift, Prog.bind_op, Prog.bind_ret, Prog.pure_eq_ret, Prog.bind_assoc]
  refine step_pass m 24 1 5 2 (by decide) rfl rfl rfl (by decide +kernel) (slot1_eq _ _ _ (off8 c)) (slot1_eq _ _ _ (off8 c)) (dev17 c) rfl rfl ?_
  refine step_wait m 25 (.recv 2 2) rfl (by decide +kernel) (by decide +kernel) rfl rfl ?_
  rw [wp_ret]
  iintro H
  imodintro
  iexact H

/-- Part 14: operations 26 to 27. -/
theorem part14 [FloatOps F] (m : (ℓ : Loc nD τ sig) → Buf (Elt F) ℓ) (c : Dev nD) (v2 v5 v8 v9 v12 v13 v420 c0_i32_325 : BitVec 32) : St m c 26 ⊢ wp frame (wpE (defs₀ (F := F)) Variants.none (c.tc) none) Set.univ
    (k0_part14 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v12 v13 v420 c0_i32_325) (fun _ => St m c 28) := by
  rw [k0_part14_eq_skeleton]
  unfold k0_part14_skel
  simp only [Prog.lift, Prog.bind_op, Prog.bind_ret, Prog.pure_eq_ret, Prog.bind_assoc]
  refine step_pass m 26 2 5 2 (by decide) rfl rfl rfl (by decide +kernel) (slot2_eq _ _ _ (off9 c)) (slot2_eq _ _ _ (off9 c)) (dev18 c) rfl rfl ?_
  refine step_wait m 27 (.recv 0 3) rfl (by decide +kernel) (by decide +kernel) rfl rfl ?_
  rw [wp_ret]
  iintro H
  imodintro
  iexact H

/-- Part 15: operations 28 to 29. -/
theorem part15 [FloatOps F] (m : (ℓ : Loc nD τ sig) → Buf (Elt F) ℓ) (c : Dev nD) (v2 v5 v8 v9 v12 v13 : BitVec 32) : St m c 28 ⊢ wp frame (wpE (defs₀ (F := F)) Variants.none (c.tc) none) Set.univ
    (k0_part15 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v12 v13) (fun _ => St m c 30) := by
  rw [k0_part15_eq_skeleton]
  unfold k0_part15_skel
  simp only [Prog.lift, Prog.bind_op, Prog.bind_ret, Prog.pure_eq_ret, Prog.bind_assoc]
  refine step_pass m 28 0 6 3 (by decide) rfl rfl rfl (by decide +kernel) (slot0_eq _ _ _ (off10 c)) (slot0_eq _ _ _ (off10 c)) (dev19 c) rfl rfl ?_
  refine step_wait m 29 (.recv 1 3) rfl (by decide +kernel) (by decide +kernel) rfl rfl ?_
  rw [wp_ret]
  iintro H
  imodintro
  iexact H

/-- Part 16: operations 30 to 31. -/
theorem part16 [FloatOps F] (m : (ℓ : Loc nD τ sig) → Buf (Elt F) ℓ) (c : Dev nD) (v2 v5 v8 v9 v12 v13 v486 : BitVec 32) : St m c 30 ⊢ wp frame (wpE (defs₀ (F := F)) Variants.none (c.tc) none) Set.univ
    (k0_part16 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v12 v13 v486) (fun _ => St m c 32) := by
  rw [k0_part16_eq_skeleton]
  unfold k0_part16_skel
  simp only [Prog.lift, Prog.bind_op, Prog.bind_ret, Prog.pure_eq_ret, Prog.bind_assoc]
  refine step_pass m 30 1 6 3 (by decide) rfl rfl rfl (by decide +kernel) (slot1_eq _ _ _ (off11 c)) (slot1_eq _ _ _ (off11 c)) (dev20 c) rfl rfl ?_
  refine step_wait m 31 (.recv 2 3) rfl (by decide +kernel) (by decide +kernel) rfl rfl ?_
  rw [wp_ret]
  iintro H
  imodintro
  iexact H

/-- Part 17: operations 32 to 32. -/
theorem part17 [FloatOps F] (m : (ℓ : Loc nD τ sig) → Buf (Elt F) ℓ) (c : Dev nD) (v2 v5 v8 v9 v12 v13 c4_i32_401 : BitVec 32) : St m c 32 ⊢ wp frame (wpE (defs₀ (F := F)) Variants.none (c.tc) none) Set.univ
    (k0_part17 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v12 v13 c4_i32_401) (fun _ => St m c 33) := by
  rw [k0_part17_eq_skeleton]
  unfold k0_part17_skel
  simp only [Prog.lift, Prog.bind_op, Prog.bind_ret, Prog.pure_eq_ret, Prog.bind_assoc]
  refine step_pass m 32 2 6 3 (by decide) rfl rfl rfl (by decide +kernel) (slot2_eq _ _ _ (off12 c)) (slot2_eq _ _ _ (off12 c)) (dev21 c) rfl rfl ?_
  rw [wp_ret]
  iintro H
  imodintro
  iexact H

end Cert.Gather
-- ==== Proof.GatherBodyC.lean ====
/-
# The all-gather's body: the waits

Each part of the printed body takes the state before its first operation to the state after its last.
-/
module

public import proofs.«01_k».proof.Proof.GatherBodyA

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Script

variable {F : FTy → Type}

local notation "𝕄" => MT nD τ sig Unit (Elt F) ℕ UU ℕ

/-- Part 18: operations 33 to 34. -/
theorem part18 [FloatOps F] (m : (ℓ : Loc nD τ sig) → Buf (Elt F) ℓ) (c : Dev nD) (v2 v5 v8 v10 v11 : BitVec 32) : St m c 33 ⊢ wp frame (wpE (defs₀ (F := F)) Variants.none (c.tc) none) Set.univ
    (k0_part18 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v10 v11) (fun _ => St m c 35) := by
  rw [k0_part18_eq_skeleton]
  unfold k0_part18_skel
  simp only [Prog.lift, Prog.bind_op, Prog.bind_ret, Prog.pure_eq_ret, Prog.bind_assoc]
  refine step_wait m 33 (.recv 0 0) rfl (by decide +kernel) (by decide +kernel) rfl rfl ?_
  refine step_wait m 34 (.recv 0 4) rfl (by decide +kernel) (by decide +kernel) rfl rfl ?_
  rw [wp_ret]
  iintro H
  imodintro
  iexact H

/-- Part 19: operations 35 to 36. -/
theorem part19 [FloatOps F] (m : (ℓ : Loc nD τ sig) → Buf (Elt F) ℓ) (c : Dev nD) (v2 v5 v8 v9 v12 v13 : BitVec 32) : St m c 35 ⊢ wp frame (wpE (defs₀ (F := F)) Variants.none (c.tc) none) Set.univ
    (k0_part19 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v12 v13) (fun _ => St m c 37) := by
  rw [k0_part19_eq_skeleton]
  unfold k0_part19_skel
  simp only [Prog.lift, Prog.bind_op, Prog.bind_ret, Prog.pure_eq_ret, Prog.bind_assoc]
  refine step_wait m 35 (.recv 0 5) rfl (by decide +kernel) (by decide +kernel) rfl rfl ?_
  refine step_wait m 36 (.recv 0 6) rfl (by decide +kernel) (by decide +kernel) rfl rfl ?_
  rw [wp_ret]
  iintro H
  imodintro
  iexact H

/-- Part 20: operations 37 to 38. -/
theorem part20 [FloatOps F] (m : (ℓ : Loc nD τ sig) → Buf (Elt F) ℓ) (c : Dev nD) (v2 v5 v8 v10 v11 v610 c1_i32_483 : BitVec 32) : St m c 37 ⊢ wp frame (wpE (defs₀ (F := F)) Variants.none (c.tc) none) Set.univ
    (k0_part20 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v10 v11 v610 c1_i32_483) (fun _ => St m c 39) := by
  rw [k0_part20_eq_skeleton]
  unfold k0_part20_skel
  simp only [Prog.lift, Prog.bind_op, Prog.bind_ret, Prog.pure_eq_ret, Prog.bind_assoc]
  refine step_wait m 37 (.recv 1 0) rfl (by decide +kernel) (by decide +kernel) rfl rfl ?_
  refine step_wait m 38 (.recv 1 4) rfl (by decide +kernel) (by decide +kernel) rfl rfl ?_
  rw [wp_ret]
  iintro H
  imodintro
  iexact H

/-- Part 21: operations 39 to 40. -/
theorem part21 [FloatOps F] (m : (ℓ : Loc nD τ sig) → Buf (Elt F) ℓ) (c : Dev nD) (v2 v5 v8 v9 v12 v13 v641 : BitVec 32) : St m c 39 ⊢ wp frame (wpE (defs₀ (F := F)) Variants.none (c.tc) none) Set.univ
    (k0_part21 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v9 v12 v13 v641) (fun _ => St m c 41) := by
  rw [k0_part21_eq_skeleton]
  unfold k0_part21_skel
  simp only [Prog.lift, Prog.bind_op, Prog.bind_ret, Prog.pure_eq_ret, Prog.bind_assoc]
  refine step_wait m 39 (.recv 1 5) rfl (by decide +kernel) (by decide +kernel) rfl rfl ?_
  refine step_wait m 40 (.recv 1 6) rfl (by decide +kernel) (by decide +kernel) rfl rfl ?_
  rw [wp_ret]
  iintro H
  imodintro
  iexact H

/-- Part 22: operations 41 to 42. -/
theorem part22 [FloatOps F] (m : (ℓ : Loc nD τ sig) → Buf (Elt F) ℓ) (c : Dev nD) (v2 v5 v8 v10 : BitVec 32) : St m c 41 ⊢ wp frame (wpE (defs₀ (F := F)) Variants.none (c.tc) none) Set.univ
    (k0_part22 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v10) (fun _ => St m c 43) := by
  rw [k0_part22_eq_skeleton]
  unfold k0_part22_skel
  simp only [Prog.lift, Prog.bind_op, Prog.bind_ret, Prog.pure_eq_ret, Prog.bind_assoc]
  refine step_wait m 41 (.recv 2 0) rfl (by decide +kernel) (by decide +kernel) rfl rfl ?_
  refine step_wait m 42 (.recv 2 4) rfl (by decide +kernel) (by decide +kernel) rfl rfl ?_
  rw [wp_ret]
  iintro H
  imodintro
  iexact H

/-- Part 23: operations 43 to 43. -/
theorem part23 [FloatOps F] (m : (ℓ : Loc nD τ sig) → Buf (Elt F) ℓ) (c : Dev nD) (v2 v5 v8 v11 v12 v13 v703 v704 : BitVec 32) : St m c 43 ⊢ wp frame (wpE (defs₀ (F := F)) Variants.none (c.tc) none) Set.univ
    (k0_part23 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v11 v12 v13 v703 v704) (fun _ => St m c 44) := by
  rw [k0_part23_eq_skeleton]
  unfold k0_part23_skel
  simp only [Prog.lift, Prog.bind_op, Prog.bind_ret, Prog.pure_eq_ret, Prog.bind_assoc]
  refine step_wait m 43 (.recv 2 5) rfl (by decide +kernel) (by decide +kernel) rfl rfl ?_
  rw [wp_ret]
  iintro H
  imodintro
  iexact H

/-- Part 24: operations 44 to 48. -/
theorem part24 [FloatOps F] (m : (ℓ : Loc nD τ sig) → Buf (Elt F) ℓ) (c : Dev nD) : St m c 44 ⊢ wp frame (wpE (defs₀ (F := F)) Variants.none (c.tc) none) Set.univ
    (k0_part24 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c ) (fun _ => St m c 49) := by
  rw [k0_part24_eq_skeleton]
  unfold k0_part24_skel
  simp only [Prog.lift, Prog.bind_op, Prog.bind_ret, Prog.pure_eq_ret, Prog.bind_assoc]
  refine step_wait m 44 (.recv 2 6) rfl (by decide +kernel) (by decide +kernel) rfl rfl ?_
  refine step_wait m 45 (.send 0 0) rfl (by decide +kernel) (by decide +kernel) rfl rfl ?_
  refine step_wait m 46 (.send 0 1) rfl (by decide +kernel) (by decide +kernel) rfl rfl ?_
  refine step_wait m 47 (.send 0 2) rfl (by decide +kernel) (by decide +kernel) rfl rfl ?_
  refine step_wait m 48 (.send 0 3) rfl (by decide +kernel) (by decide +kernel) rfl rfl ?_
  rw [wp_ret]
  iintro H
  imodintro
  iexact H

/-- Part 25: operations 49 to 53. -/
theorem part25 [FloatOps F] (m : (ℓ : Loc nD τ sig) → Buf (Elt F) ℓ) (c : Dev nD) : St m c 49 ⊢ wp frame (wpE (defs₀ (F := F)) Variants.none (c.tc) none) Set.univ
    (k0_part25 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c ) (fun _ => St m c 54) := by
  rw [k0_part25_eq_skeleton]
  unfold k0_part25_skel
  simp only [Prog.lift, Prog.bind_op, Prog.bind_ret, Prog.pure_eq_ret, Prog.bind_assoc]
  refine step_wait m 49 (.send 1 0) rfl (by decide +kernel) (by decide +kernel) rfl rfl ?_
  refine step_wait m 50 (.send 1 1) rfl (by decide +kernel) (by decide +kernel) rfl rfl ?_
  refine step_wait m 51 (.send 1 2) rfl (by decide +kernel) (by decide +kernel) rfl rfl ?_
  refine step_wait m 52 (.send 1 3) rfl (by decide +kernel) (by decide +kernel) rfl rfl ?_
  refine step_wait m 53 (.send 2 0) rfl (by decide +kernel) (by decide +kernel) rfl rfl ?_
  rw [wp_ret]
  iintro H
  imodintro
  iexact H

/-- Part 26: operations 54 to 58. -/
theorem part26 [FloatOps F] (m : (ℓ : Loc nD τ sig) → Buf (Elt F) ℓ) (c : Dev nD) : St m c 54 ⊢ wp frame (wpE (defs₀ (F := F)) Variants.none (c.tc) none) Set.univ
    (k0_part26 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c ) (fun _ => St m c 59) := by
  rw [k0_part26_eq_skeleton]
  unfold k0_part26_skel
  simp only [Prog.lift, Prog.bind_op, Prog.bind_ret, Prog.pure_eq_ret, Prog.bind_assoc]
  refine step_wait m 54 (.send 2 1) rfl (by decide +kernel) (by decide +kernel) rfl rfl ?_
  refine step_wait m 55 (.send 2 2) rfl (by decide +kernel) (by decide +kernel) rfl rfl ?_
  refine step_wait m 56 (.send 2 3) rfl (by decide +kernel) (by decide +kernel) rfl rfl ?_
  refine step_wait m 57 (.send 0 4) rfl (by decide +kernel) (by decide +kernel) rfl rfl ?_
  refine step_wait m 58 (.send 1 4) rfl (by decide +kernel) (by decide +kernel) rfl rfl ?_
  rw [wp_ret]
  iintro H
  imodintro
  iexact H

/-- Part 27: operations 59 to 61. -/
theorem part27 [FloatOps F] (m : (ℓ : Loc nD τ sig) → Buf (Elt F) ℓ) (c : Dev nD) : St m c 59 ⊢ wp frame (wpE (defs₀ (F := F)) Variants.none (c.tc) none) Set.univ
    (k0_part27 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c ) (fun _ => St m c 62) := by
  rw [k0_part27_eq_skeleton]
  unfold k0_part27_skel
  simp only [Prog.lift, Prog.bind_op, Prog.bind_ret, Prog.pure_eq_ret, Prog.bind_assoc]
  refine step_wait m 59 (.send 2 4) rfl (by decide +kernel) (by decide +kernel) rfl rfl ?_
  refine step_wait m 60 (.send 0 5) rfl (by decide +kernel) (by decide +kernel) rfl rfl ?_
  refine step_wait m 61 (.send 1 5) rfl (by decide +kernel) (by decide +kernel) rfl rfl ?_
  rw [wp_ret]
  iintro H
  imodintro
  iexact H

/-- Part 28: operations 62 to 66. -/
theorem part28 [FloatOps F] (m : (ℓ : Loc nD τ sig) → Buf (Elt F) ℓ) (c : Dev nD) : St m c 62 ⊢ wp frame (wpE (defs₀ (F := F)) Variants.none (c.tc) none) Set.univ
    (k0_part28 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c ) (fun _ => St m c 67) := by
  rw [k0_part28_eq_skeleton]
  unfold k0_part28_skel
  simp only [Prog.lift, Prog.bind_op, Prog.bind_ret, Prog.pure_eq_ret, Prog.bind_assoc]
  refine step_wait m 62 (.send 2 5) rfl (by decide +kernel) (by decide +kernel) rfl rfl ?_
  refine step_wait m 63 (.send 0 6) rfl (by decide +kernel) (by decide +kernel) rfl rfl ?_
  refine step_wait m 64 (.send 1 6) rfl (by decide +kernel) (by decide +kernel) rfl rfl ?_
  refine step_wait m 65 (.send 2 6) rfl (by decide +kernel) (by decide +kernel) rfl rfl ?_
  refine step_wait m 66 (.loc 0) rfl (by decide +kernel) (by decide +kernel) rfl rfl ?_
  rw [wp_ret]
  iintro H
  imodintro
  iexact H

end Cert.Gather
-- ==== Proof.GatherBody.lean ====
/-
# The all-gather's body: all of it

Each part of the printed body takes the state before its first operation to the state after its last.
-/
module

public import proofs.«01_k».proof.Proof.GatherBodyB
public import proofs.«01_k».proof.Proof.GatherBodyC

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Script

variable {F : FTy → Type}

local notation "𝕄" => MT nD τ sig Unit (Elt F) ℕ UU ℕ

/-- A pure premise of an entailment, as a hypothesis. -/
theorem of_pure {φ : Prop} {A B : sProp 𝕄} (h : φ → (A ⊢ B)) : iprop(⌜φ⌝ ∗ A) ⊢ B := by
  iintro ⟨%hφ, H⟩
  iapply (h hφ)
  iexact H

/-- The body: from the state before the first operation to the state after the last. -/
theorem body [FloatOps F] (m : (ℓ : Loc nD τ sig) → Buf (Elt F) ℓ) (c : Dev nD) : St m c 0 ⊢ wp frame (wpE (defs₀ (F := F)) Variants.none (c.tc) none) Set.univ
    (cc0_weight_all_gather (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2) (fun _ => St m c 69) := by
  rw [cc0_weight_all_gather_eq_skeleton]
  unfold cc0_weight_all_gather_skel
  rw [wp_bind]
  refine BI.Entails.trans (part1 m c) (wp_mono _ _ _ fun r => ?_)
  obtain ⟨d0, v2, v5, v8, v9, v10, v11, v12, v13⟩ := r
  refine of_pure fun hd => ?_
  have hd : d0 = c := hd
  subst hd
  rw [wp_bind]
  refine BI.Entails.trans (part2 m _ _ _ _) (wp_mono _ _ _ fun r => ?_)
  rw [wp_bind]
  refine BI.Entails.trans (part3 m _ _ _ _ _ _ _ _) (wp_mono _ _ _ fun r => ?_)
  rw [wp_bind]
  refine BI.Entails.trans (part4 m _ _ _ _ _ _) (wp_mono _ _ _ fun r => ?_)
  rw [wp_bind]
  refine BI.Entails.trans (part5 m _ _ _ _ _ _ _ _) (wp_mono _ _ _ fun r => ?_)
  rw [wp_bind]
  refine BI.Entails.trans (part6 m _ _ _ _ _ _ _ _) (wp_mono _ _ _ fun r => ?_)
  rw [wp_bind]
  refine BI.Entails.trans (part7 m _ _ _ _ _ _ _ _ _ _) (wp_mono _ _ _ fun r => ?_)
  rw [wp_bind]
  refine BI.Entails.trans (part8 m _ _ _ _ _ _ _ _) (wp_mono _ _ _ fun r => ?_)
  rw [wp_bind]
  refine BI.Entails.trans (part9 m _ _ _ _ _ _) (wp_mono _ _ _ fun r => ?_)
  rw [wp_bind]
  refine BI.Entails.trans (part10 m _ _ _ _ _ _) (wp_mono _ _ _ fun r => ?_)
  rw [wp_bind]
  refine BI.Entails.trans (part11 m _ _ _ _ _ _) (wp_mono _ _ _ fun r => ?_)
  rw [wp_bind]
  refine BI.Entails.trans (part12 m _ _ _ _ _) (wp_mono _ _ _ fun r => ?_)
  rw [wp_bind]
  refine BI.Entails.trans (part13 m _ _ _ _ _ _ _) (wp_mono _ _ _ fun r => ?_)
  rw [wp_bind]
  refine BI.Entails.trans (part14 m _ _ _ _ _ _ _ _ _) (wp_mono _ _ _ fun r => ?_)
  rw [wp_bind]
  refine BI.Entails.trans (part15 m _ _ _ _ _ _ _) (wp_mono _ _ _ fun r => ?_)
  rw [wp_bind]
  refine BI.Entails.trans (part16 m _ _ _ _ _ _ _ _) (wp_mono _ _ _ fun r => ?_)
  rw [wp_bind]
  refine BI.Entails.trans (part17 m _ _ _ _ _ _ _ _) (wp_mono _ _ _ fun r => ?_)
  rw [wp_bind]
  refine BI.Entails.trans (part18 m _ _ _ _ _ _) (wp_mono _ _ _ fun r => ?_)
  rw [wp_bind]
  refine BI.Entails.trans (part19 m _ _ _ _ _ _ _) (wp_mono _ _ _ fun r => ?_)
  rw [wp_bind]
  refine BI.Entails.trans (part20 m _ _ _ _ _ _ _ _) (wp_mono _ _ _ fun r => ?_)
  rw [wp_bind]
  refine BI.Entails.trans (part21 m _ _ _ _ _ _ _ _) (wp_mono _ _ _ fun r => ?_)
  rw [wp_bind]
  refine BI.Entails.trans (part22 m _ _ _ _ _) (wp_mono _ _ _ fun r => ?_)
  rw [wp_bind]
  refine BI.Entails.trans (part23 m _ _ _ _ _ _ _ _ _) (wp_mono _ _ _ fun r => ?_)
  rw [wp_bind]
  refine BI.Entails.trans (part24 m _) (wp_mono _ _ _ fun r => ?_)
  rw [wp_bind]
  refine BI.Entails.trans (part25 m _) (wp_mono _ _ _ fun r => ?_)
  rw [wp_bind]
  refine BI.Entails.trans (part26 m _) (wp_mono _ _ _ fun r => ?_)
  rw [wp_bind]
  refine BI.Entails.trans (part27 m _) (wp_mono _ _ _ fun r => ?_)
  rw [wp_bind]
  refine BI.Entails.trans (part28 m _) (wp_mono _ _ _ fun r => ?_)
  simp only [Prog.lift, Prog.bind_op, Prog.bind_ret, Prog.pure_eq_ret, Prog.bind_assoc]
  refine step_wait m 67 (.loc 1) rfl (by decide +kernel) (by decide +kernel) rfl rfl ?_
  refine step_wait m 68 (.loc 2) rfl (by decide +kernel) (by decide +kernel) rfl rfl ?_
  rw [wp_ret]
  iintro H
  imodintro
  iexact H

end Cert.Gather
-- ==== Proof.GatherRun.lean ====
/-
# The all-gather's run

The program — one kernel, on eight devices — from any memory with zero counters: every weakly fair execution ends, with
the operands unchanged, slot `s` of every device's results at device `s`'s blocks, and all counters at zero.
-/
module

public import proofs.«01_k».proof.Proof.FirstCall
public import proofs.«01_k».proof.Proof.GatherMem
public import proofs.«01_k».proof.Proof.GatherBody

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Script

variable {F : FTy → Type} [FloatOps F]

local notation "𝕄" => MT nD τ sig Unit (Elt F) ℕ UU ℕ

variable (m : (ℓ : Loc nD τ sig) → Buf (Elt F) ℓ)

/-- The kernel's own semaphores. -/
def osem (x : Cl) : SemLoc sig := .dma (semOf x)

theorem ownSemFacts : Pipeline.OwnSemFacts cfg0.spec osem := ⟨by decide, fun x y h => semOf_inj (by injection h), fun _ w => w.elim0⟩

/-- What a device starts from. -/
def share (c : Dev nD) : sProp 𝕄 := iprop(sepL ((proto m).need ER c) ops ∗ sepL ((proto m).hold ER c) ((Proto.sends ops).map fun p => .cred p.2))

/-- What a device ends with. -/
def final (c : Dev nD) : sProp 𝕄 := iprop(fin m c 0 ∗ fin m c 1 ∗ fin m c 2)

/-- The kernel's two states: before and after its one point. -/
def dats (_ : Fin 1) (c : Dev nD) : Dat τ (Elt F) Unit ℕ UU ℕ cfg0 c where
  A w := w.elim0
  after w _ := w.elim0
  Φ t := match t with
    | ⟨0, _⟩ => iprop(share m c ∗ levAts (Proto.L (nD := nD) (τ := τ) (sig := sig)) (proto m).lv)
    | ⟨_ + 1, _⟩ => iprop(final m c ∗ Pipeline.ownSems0 osem c)
  q _ := fullShare
  owed t := match t with
    | ⟨0, _⟩ => (proto m).dues c ops
    | ⟨_ + 1, _⟩ => 0

abbrev 𝒱₀ : Variants := Variants.none

theorem sems_eq (c : Dev nD) : (Pipeline.ownSems0 osem c : sProp 𝕄) = bigSep Finset.univ fun x : Cl => (semVal ((proto m).cell (c, x)) 0 : sProp 𝕄) := rfl

theorem st_end (c : Dev nD) : St m c 69 ⊢ |={Set.univ}=> iprop((final m c ∗ Pipeline.ownSems0 osem c) ∗ ∃ W, owes (c.tc : Thread nD τ) (0 : CellTallies nD τ sig Unit) W) := by
  have h := collect m c
  unfold St Proto.St
  rw [its_eq]
  iintro ⟨-, Hi, Ho, -⟩
  imod h $$ Hi with Hi
  imodintro
  isplitl [Hi]; · iexact Hi
  iexact Ho

/-- The state before the first operation, from the kernel's first state. -/
theorem st_start (c : Dev nD) :
    iprop((share m c ∗ levAts (Proto.L (nD := nD) (τ := τ) (sig := sig)) (proto m).lv) ∗ (dats m 0 c).owesAt () t0_0.castSucc ∗ BI.emp) ⊢ St m c 0 := by
  have ho : (dats m 0 c).owesAt () t0_0.castSucc ⊢ (iprop(∃ W, owes (c.tc : Thread nD τ) ((proto m).dues c ops) W) : sProp 𝕄) := by
    show iprop(∃ W, ⌜_⌝ ∗ owes (c.tc : Thread nD τ) ((proto m).dues c ops) W) ⊢ _
    iintro ⟨%W, -, Ho⟩
    iexists W
    iexact Ho
  unfold share St Proto.St
  rw [its_eq]
  iintro ⟨⟨⟨Hn, Hh⟩, Hl⟩, Ho, -⟩
  isplitl [Hn]; · iexact Hn
  isplitl [Hh]; · iexact Hh
  isplitl [Ho]; · iapply ho; iexact Ho
  iexact Hl

/-- The kernel's last state, from the state after the last operation. -/
theorem st_final (c : Dev nD) :
    St m c 69 ⊢ |={Set.univ}=> iprop((final m c ∗ Pipeline.ownSems0 osem c) ∗ (dats m 0 c).owesAt () t0_0.succ ∗ BI.emp) := by
  have ho : iprop(∃ W, owes (c.tc : Thread nD τ) (0 : CellTallies nD τ sig Unit) W) ⊢ ((dats m 0 c).owesAt () t0_0.succ : sProp 𝕄) := by
    show _ ⊢ iprop(∃ W, ⌜_⌝ ∗ owes (c.tc : Thread nD τ) (0 : CellTallies nD τ sig Unit) W)
    iintro ⟨%W, Ho⟩
    iexists W
    isplitr; · ipureintro; exact fun _ _ => Or.inl trivial
    iexact Ho
  have h := st_end m c
  iintro H
  imod h $$ H with ⟨H, Ho⟩
  imodintro
  isplitl [H]; · iexact H
  isplitl [Ho]; · iapply ho; iexact Ho
  iempintro

/-- A run with an update after it. -/
theorem wp_after {c : Dev nD} {P R R' : sProp 𝕄} {p : Prog (TpuEff nD τ sig (Elt F) Λ₀ .tc) PUnit}
    (h : P ⊢ wp frame (wpE (defs₀ (F := F)) Variants.none (c.tc) none) Set.univ p (fun _ => R)) (h' : R ⊢ |={Set.univ}=> R') :
    P ⊢ wp frame (wpE (defs₀ (F := F)) Variants.none (c.tc) none) Set.univ p (fun _ => R') :=
  h.trans ((wp_mono _ _ _ fun _ => h').trans (wp_fupd _ _ _ _ _))

set_option maxRecDepth 16000 in
/-- The body from the kernel's first state to its last. -/
theorem body_run (c : Dev nD) :
    iprop((share m c ∗ levAts (Proto.L (nD := nD) (τ := τ) (sig := sig)) (proto m).lv) ∗ (dats m 0 c).owesAt () t0_0.castSucc ∗ BI.emp)
    ⊢ wp frame (wpE (defs₀ (F := F)) Variants.none (c.tc) none) Set.univ
    (cc0_weight_all_gather (Memref.whole main_arg0) (Memref.isWhole_whole _) (Memref.whole main_arg1) (Memref.isWhole_whole _) (Memref.whole main_arg2) (Memref.isWhole_whole _)
      (Memref.whole main_v1_0) (Memref.isWhole_whole _) (Memref.whole main_v1_1) (Memref.isWhole_whole _) (Memref.whole main_v1_2) (Memref.isWhole_whole _) cc0_scratch0 cc0_scratch1 cc0_scratch2)
    (fun _ => iprop((final m c ∗ Pipeline.ownSems0 osem c) ∗ (dats m 0 c).owesAt () t0_0.succ ∗ BI.emp)) :=
  wp_after ((st_start m c).trans (body m c)) (st_final m c)

set_option maxRecDepth 16000 in
theorem body_obligation (c : Dev nD) : BodyObligation (dats (F := F) m 0 c) (defs₀ (F := F)) 𝒱₀ () Set.univ := fun t => by
  rw [fin_N0 t]
  rw [Finset.univ_eq_empty, BI.bigSep_empty, BI.bigSep_empty]
  exact body_run m c

theorem pay_storable (k : Dev nD × Cl) : Storable (upEmb : UEmb _ 𝕄) ((proto m).pay k) := by
  obtain ⟨d, x⟩ := k
  show Storable (upEmb : UEmb _ 𝕄) (pay m (d, x))
  unfold pay
  cases x with
  | send a k =>
    by_cases h : k.val < 4
    · simp only [if_pos h]; infer_instance
    · simp only [if_neg h]; infer_instance
  | recv a k => infer_instance
  | loc a => infer_instance

/-- The resources of all devices together, dealt out. -/
theorem init_deal :
    iprop((bigSep Finset.univ fun c : Dev nD => iprop(Pipeline.ownSems0 osem c ∗ unscopedBufs c (fun b => m ((c.tc : Thread nD τ).loc b))
        ∗ Pipeline.launchCred (fun d => (proto m).dues d ops) c)) ∗ BI.own (ER (OneShot.launchElt (proto m).cell)))
      ⊢ |={Set.univ}=> (bigSep Finset.univ (share m) : sProp 𝕄) := by
  have hd := (proto m).deal ER (pay_storable m) (fun x d => peer_peer x d) waits_all pays_all
  have hm := deal_mem m
  have hc : (bigSep Finset.univ fun c : Dev nD => Pipeline.launchCred (fun d => (proto m).dues d ops) c)
      ⊢ (bigSep Finset.univ fun c : Dev nD => sepL ((proto m).hold ER c) ((Proto.sends ops).map fun p => .cred p.2) : sProp 𝕄) :=
    BI.bigSep_mono fun c _ => (proto m).launchCred_dues ER (fun x d => peer_peer x d) c
  have hs : iprop((bigSep Finset.univ fun d : Dev nD => sepL ((proto m).need ER d) ops)
      ∗ bigSep Finset.univ fun c : Dev nD => sepL ((proto m).hold ER c) ((Proto.sends ops).map fun p => .cred p.2)) ⊢ (bigSep Finset.univ (share m) : sProp 𝕄) := by
    rw [← BI.bigSep_sep']
    exact BI.Entails.refl _
  rw [BI.bigSep_sep', BI.bigSep_sep']
  iintro ⟨⟨Hs, Hb, Hc⟩, Hu⟩
  ihave Hb := hm $$ Hb
  ihave Hc := hc $$ Hc
  imod hd $$ [Hs Hb Hu] with Hn
  · isplitl [Hs]; · iexact Hs
    isplitl [Hu]; · iexact Hu
    iexact Hb
  imodintro
  iapply hs
  isplitl [Hn]; · iexact Hn
  iexact Hc

/-- The end state: every device's operands as they were, every slot at its block, all counters at zero. -/
def Ends (s : MemSt nD τ sig (Elt F)) : Prop := (∀ (c : Dev nD) (a : Fin 3), Reads m c a s) ∧ s.sem = fun _ => 0

theorem run_main (g : Dev nD → PrngReg) : θ_run defs (onTc (τ := τ) (main (F := F))) ⟨m, fun _ => 0, g⟩ (fun r => Ends m r.2) :=
  FirstCall.θ_run_first pcfgs (fun p => (cfgs p).toPCfg_adm) cellOf_inj EP defs₀ 𝒱₀ (Proto.L (nD := nD) (τ := τ) (sig := sig)) (proto m).lv (0 : Fin 1)
    winFacts0.to₀ ownSemFacts m g main (fun d => (proto m).dues d ops) (fun g h => if_neg h)
    (BI.own (ER (OneShot.launchElt (proto m).cell)))
    (initOf (Pipeline.cells cfgs cellOf_inj) (Pipeline.launchToks cfgs cellOf_inj), OneShot.launchElt (proto m).cell)
    (by
      iintro Hu
      ihave H := (ownU_pair _ _) $$ Hu
      icases H with ⟨HP, HX⟩
      imodintro
      isplitl [HP] <;> iassumption)
    (share m) (final m) (init_deal m)
    (fun c => by
      refine FirstCall.wp_first pcfgs (fun p => (cfgs p).toPCfg_adm) cellOf_inj EP defs₀ 𝒱₀ (Proto.L (nD := nD) (τ := τ) (sig := sig)) (proto m).lv (0 : Fin 1)
        winFacts0.to₀ ownSemFacts (dats m) ⟨fun w => w.elim0⟩ ⟨fun w => w.elim0⟩ stage_whole0 c (fun d => (proto m).dues d ops) g (share m) (final m)
        ?_ (scopedRest0_eq c) (body_obligation m c).loose rfl rfl (BI.Entails.refl _) (BI.Entails.refl _) ?_
      · unfold Pipeline.prefHeld
        rw [Finset.univ_eq_empty, BI.bigSep_empty]
      · show _ ⊢ iprop(|={Set.univ}=> ((final m c ∗ boundary (c.tc : Thread nD τ)) ∗ ∃ W, owes (c.tc : Thread nD τ) (0 : CellTallies nD τ sig Unit) W))
        iintro ⟨HY, Hb, Ho, -, -, -⟩
        imodintro
        isplitl [HY Hb]
        · isplitl [HY] <;> iassumption
        iexact Ho)
    (fun c s => ∀ a : Fin 3, Reads m c a s)
    (fun c s' => by
      unfold final
      iintro ⟨⟨H0, H1, H2⟩, HSI⟩
      ihave %h0 := (fin_read m c s' 0) $$ [H0 HSI]
      · isplitl [H0] <;> iassumption
      ihave %h1 := (fin_read m c s' 1) $$ [H1 HSI]
      · isplitl [H1] <;> iassumption
      ihave %h2 := (fin_read m c s' 2) $$ [H2 HSI]
      · isplitl [H2] <;> iassumption
      imodintro
      isplitr
      · ipureintro
        exact fun a => match a with | 0 => h0 | 1 => h1 | 2 => h2
      iexact HSI)
    (fun s h hs => ⟨h, sem_eq_zero_of_scoped (by decide) hs⟩)

end Cert.Gather
-- ==== Proof.Stack.lean ====
/-
# Stacks of blocks

A rank-three array as a stack of rank-two blocks: an entry is a block's number and a place in the block (`tl`). Stacking
blocks, and cutting an array into blocks, read entry by entry.
-/
module

public import Idealize.ShloMosaic.Lib.Pipeline.Value
public import Idealize.ShloMosaic.Lib.Layout

@[expose] public section

noncomputable section

namespace Cert.Stack

open Idealize.ShloMosaic

variable {α : Type} {n p q : ℕ}

/-- The last two coordinates of an entry of a stack. -/
def tl (i : (⟨3, ![n, p, q]⟩ : Shape).Idx) : (⟨2, ![p, q]⟩ : Shape).Idx := fun a => match a with | 0 => i 1 | 1 => i 2

/-- The entry of a stack at place `j` of block `k`. -/
def at3 (k : Fin n) (j : (⟨2, ![p, q]⟩ : Shape).Idx) : (⟨3, ![n, p, q]⟩ : Shape).Idx := fun a => match a with | 0 => k | 1 => j 0 | 2 => j 1

/-- Two entries of a stack are one if their coordinates are. -/
theorem cons_tl (i k : (⟨3, ![n, p, q]⟩ : Shape).Idx) (h0 : (k 0).val = (i 0).val) (h1 : (k 1).val = (i 1).val) (h2 : (k 2).val = (i 2).val) : k = i := by
  funext a
  match a with
  | 0 => exact Fin.ext h0
  | 1 => exact Fin.ext h1
  | 2 => exact Fin.ext h2

/-- A stack of blocks, each given as the block of one row of blocks, reads block `i 0` at the last two coordinates. -/
theorem concat (f : Fin n → (⟨2, ![p, q]⟩ : Shape).Idx → α) (l : List (Σ s : Shape, s.Idx → α))
    (hb : (⟨2, ![p, q]⟩ : Shape).BroadcastsInDim ⟨3, ![1, p, q]⟩ ![1, 2])
    (hl : l = List.ofFn fun k : Fin n => ⟨(⟨3, ![1, p, q]⟩ : Shape), broadcastInDim ⟨3, ![1, p, q]⟩ ![1, 2] hb (f k)⟩) (h) (i : (⟨3, ![n, p, q]⟩ : Shape).Idx) :
    concatenate ⟨3, ![n, p, q]⟩ 0 l h i = f (i 0) (tl i) := by
  subst hl
  rw [concatenate_ofFn_unit_apply (t := ⟨3, ![n, p, q]⟩) (s₁ := ⟨3, ![1, p, q]⟩) 0 (fun k => broadcastInDim ⟨3, ![1, p, q]⟩ ![1, 2] hb (f k)) h rfl rfl i (i 0) rfl
    (fun a => match a with | 0 => ⟨0, Nat.one_pos⟩ | 1 => i 1 | 2 => i 2)
    (fun b hb => by match b with | 0 => exact absurd rfl hb | 1 => rfl | 2 => rfl)]
  unfold broadcastInDim
  refine congrArg (f (i 0)) (funext fun a => Fin.ext ?_)
  match a with
  | 0 =>
    by_cases h1 : p = 1
    · subst h1; have h0 := (i 1).isLt; simp [tl]; simp at h0; omega
    · simp [tl, h1]; rfl
  | 1 =>
    by_cases h1 : q = 1
    · subst h1; have h0 := (i 2).isLt; simp [tl]; simp at h0; omega
    · simp [tl, h1]; rfl

/-- An entry of several stacks put together, in the stack that holds it. -/
theorem piece (xs : List (Σ s : Shape, s.Idx → α)) (h : Shape.Concatenates (xs.map (·.1)) ⟨3, ![n, p, q]⟩ 0) (i : (⟨3, ![n, p, q]⟩ : Shape).Idx)
    (N k pre : ℕ) (hk : k < xs.length) (x : (⟨3, ![N, p, q]⟩ : Shape).Idx → α) (hxk : xs[k] = ⟨⟨3, ![N, p, q]⟩, x⟩)
    (hpre : (((xs.take k).map (·.1)).map fun s => if h : s.rank = 3 then s.size ((0 : Fin 3).cast h.symm) else 0).sum = pre)
    (hN : (i 0).val - pre < N) (hp : pre ≤ (i 0).val) :
    concatenate ⟨3, ![n, p, q]⟩ 0 xs h i = x (at3 ⟨(i 0).val - pre, hN⟩ (tl i)) :=
  concatenate_apply_piece (t := ⟨3, ![n, p, q]⟩) 0 xs h i k hk ⟨3, ![N, p, q]⟩ x hxk rfl pre hpre _
    (fun b hb => by match b with | 0 => exact absurd rfl hb | 1 => rfl | 2 => rfl) (by show pre + ((i 0).val - pre) = (i 0).val; omega)

/-- A stack of 56 blocks, put together from stacks of 16, 16, 16 and 8. -/
theorem concat56 (f : Fin 56 → (⟨2, ![p, q]⟩ : Shape).Idx → α) (l0 l1 l2 l3 : List (Σ s : Shape, s.Idx → α))
    (hb : (⟨2, ![p, q]⟩ : Shape).BroadcastsInDim ⟨3, ![1, p, q]⟩ ![1, 2])
    (e0 : l0 = List.ofFn fun k : Fin 16 => ⟨(⟨3, ![1, p, q]⟩ : Shape), broadcastInDim ⟨3, ![1, p, q]⟩ ![1, 2] hb (f ⟨k.val, by omega⟩)⟩)
    (e1 : l1 = List.ofFn fun k : Fin 16 => ⟨(⟨3, ![1, p, q]⟩ : Shape), broadcastInDim ⟨3, ![1, p, q]⟩ ![1, 2] hb (f ⟨16 + k.val, by omega⟩)⟩)
    (e2 : l2 = List.ofFn fun k : Fin 16 => ⟨(⟨3, ![1, p, q]⟩ : Shape), broadcastInDim ⟨3, ![1, p, q]⟩ ![1, 2] hb (f ⟨32 + k.val, by omega⟩)⟩)
    (e3 : l3 = List.ofFn fun k : Fin 8 => ⟨(⟨3, ![1, p, q]⟩ : Shape), broadcastInDim ⟨3, ![1, p, q]⟩ ![1, 2] hb (f ⟨48 + k.val, by omega⟩)⟩)
    (c0) (c1) (c2) (c3) (h) (i : (⟨3, ![56, p, q]⟩ : Shape).Idx) :
    concatenate ⟨3, ![56, p, q]⟩ 0 [⟨⟨3, ![16, p, q]⟩, concatenate ⟨3, ![16, p, q]⟩ 0 l0 c0⟩, ⟨⟨3, ![16, p, q]⟩, concatenate ⟨3, ![16, p, q]⟩ 0 l1 c1⟩,
      ⟨⟨3, ![16, p, q]⟩, concatenate ⟨3, ![16, p, q]⟩ 0 l2 c2⟩, ⟨⟨3, ![8, p, q]⟩, concatenate ⟨3, ![8, p, q]⟩ 0 l3 c3⟩] h i = f (i 0) (tl i) := by
  have hi : (i 0).val < 56 := (i 0).isLt
  have e (N : ℕ) (k : Fin N) (j) : tl (at3 (n := N) (p := p) (q := q) k j) = j := funext fun a => match a with | 0 => rfl | 1 => rfl
  by_cases h1 : (i 0).val < 16
  · refine (piece _ h i 16 0 0 (show 0 < 4 by decide) _ rfl rfl (by omega) (by omega)).trans ((concat (fun k => f ⟨k.val, by omega⟩) l0 hb e0 c0 _).trans ?_)
    rw [e]
    exact congrFun (congrArg f (Fin.ext (by show (i 0).val - 0 = _; omega))) _
  by_cases h2 : (i 0).val < 32
  · refine (piece _ h i 16 1 16 (show 1 < 4 by decide) _ rfl rfl (by omega) (by omega)).trans ((concat (fun k => f ⟨16 + k.val, by omega⟩) l1 hb e1 c1 _).trans ?_)
    rw [e]
    exact congrFun (congrArg f (Fin.ext (by show 16 + ((i 0).val - 16) = _; omega))) _
  by_cases h3 : (i 0).val < 48
  · refine (piece _ h i 16 2 32 (show 2 < 4 by decide) _ rfl rfl (by omega) (by omega)).trans ((concat (fun k => f ⟨32 + k.val, by omega⟩) l2 hb e2 c2 _).trans ?_)
    rw [e]
    exact congrFun (congrArg f (Fin.ext (by show 32 + ((i 0).val - 32) = _; omega))) _
  · refine (piece _ h i 8 3 48 (show 3 < 4 by decide) _ rfl rfl (by omega) (by omega)).trans ((concat (fun k => f ⟨48 + k.val, by omega⟩) l3 hb e3 c3 _).trans ?_)
    rw [e]
    exact congrFun (congrArg f (Fin.ext (by show 48 + ((i 0).val - 48) = _; omega))) _

/-- One row of blocks of an array, cut out and flattened, is the block. -/
theorem cut_row (A : (⟨3, ![n, p, q]⟩ : Shape).Idx → α) (k : Fin n) (off : Fin 3 → ℕ) (ho : off = ![k.val, 0, 0])
    (hs : (⟨3, ![n, p, q]⟩ : Shape).Slices off ⟨3, ![1, p, q]⟩) (hc : (⟨3, ![1, p, q]⟩ : Shape).ShapeCasts ⟨2, ![p, q]⟩) (j : (⟨2, ![p, q]⟩ : Shape).Idx) :
    shapeCast ⟨2, ![p, q]⟩ (extractStridedSlice ⟨3, ![1, p, q]⟩ off A hs) hc j = A (at3 k j) := by
  subst ho
  refine (shapeCast_dropUnit_apply ![p, q] _ _ j).trans ?_
  refine congrArg A ?_
  exact cons_tl (at3 k j) _ rfl (Nat.zero_add _) (Nat.zero_add _)

end Cert.Stack

end
-- ==== Proof.GatherRef.lean ====
/-
# The gathered arrays and the reference's stacks

The reference cuts each whole array into eight blocks along the sharded axis and stacks them. Entry `(t, i, j)` of that
stack, and entry `(t, i, j)` of a result that holds block `t` in slot `t`, are both entry `(i, j)` of block `t`.
-/
module

public import proofs.«01_k».proof.Proof.GatherRun
public import proofs.«01_k».proof.Proof.Stack
public import proofs.«01_k».proof.Proof.Gen.ReferenceIdeal.Run
public import proofs.«01_k».proof.Proof.Gen.Reference.Run

@[expose] public section

noncomputable section

namespace Cert.Gather

open Idealize.ShloMosaic Cert.Stack

/-! ## The reference's side -/

section Stack
variable {α : Type} {p q : ℕ}

/-- The columns `k·q, …, k·q + q − 1` of an array are its block `k`. -/
theorem cut_cols {P : ℕ} (A : (⟨2, ![p, P]⟩ : Shape).Idx → α) (k : Fin 8) (off : Fin 2 → ℕ) (ho : off = ![0, q * k.val])
    (hs : (⟨2, ![p, P]⟩ : Shape).Slices off ⟨2, ![p, q]⟩) (ht : Layout.Tiles ⟨2, ![p, q]⟩ ⟨2, ![p, P]⟩ 1 8) :
    extractStridedSlice ⟨2, ![p, q]⟩ off A hs = Layout.block ⟨2, ![p, q]⟩ ⟨2, ![p, P]⟩ 1 8 k A ht := by
  subst ho
  funext i
  rw [Layout.block_apply]
  refine congrArg A (funext fun a => Fin.ext ?_)
  match a with
  | 0 => rw [(Layout.idx_cols_val ht k i).1]; exact Nat.zero_add _
  | 1 => rw [(Layout.idx_cols_val ht k i).2]; exact congrArg (· + _) (Nat.mul_comm _ _)

/-- The rows `k·p, …, k·p + p − 1` of an array are its block `k`. -/
theorem cut_rows {P : ℕ} (A : (⟨2, ![P, q]⟩ : Shape).Idx → α) (k : Fin 8) (off : Fin 2 → ℕ) (ho : off = ![p * k.val, 0])
    (hs : (⟨2, ![P, q]⟩ : Shape).Slices off ⟨2, ![p, q]⟩) (ht : Layout.Tiles ⟨2, ![p, q]⟩ ⟨2, ![P, q]⟩ 0 8) :
    extractStridedSlice ⟨2, ![p, q]⟩ off A hs = Layout.block ⟨2, ![p, q]⟩ ⟨2, ![P, q]⟩ 0 8 k A ht := by
  subst ho
  funext i
  rw [Layout.block_apply]
  refine congrArg A (funext fun a => Fin.ext ?_)
  match a with
  | 0 => rw [(Layout.idx_rows_val ht k i).1]; exact congrArg (· + _) (Nat.mul_comm _ _)
  | 1 => rw [(Layout.idx_rows_val ht k i).2]; exact Nat.zero_add _

/-- What a stack of the column blocks of `A` holds. -/
def stackCols (p q P : ℕ) (ht : Layout.Tiles ⟨2, ![p, q]⟩ ⟨2, ![p, P]⟩ 1 8) (A : (⟨2, ![p, P]⟩ : Shape).Idx → α) : (⟨3, ![8, p, q]⟩ : Shape).Idx → α :=
  fun i => Layout.block ⟨2, ![p, q]⟩ ⟨2, ![p, P]⟩ 1 8 (i 0) A ht (tl i)

/-- What a stack of the row blocks of `A` holds. -/
def stackRows (p q P : ℕ) (ht : Layout.Tiles ⟨2, ![p, q]⟩ ⟨2, ![P, q]⟩ 0 8) (A : (⟨2, ![P, q]⟩ : Shape).Idx → α) : (⟨3, ![8, p, q]⟩ : Shape).Idx → α :=
  fun i => Layout.block ⟨2, ![p, q]⟩ ⟨2, ![P, q]⟩ 0 8 (i 0) A ht (tl i)

end Stack

section Ref
open Cert.ReferenceIdeal Cert.ReferenceIdeal.Gen

variable {F : FTy → Type} [FloatOps F]

/-- The three stacks. -/
abbrev A0 := stackCols (α := F .bf16) 1024 642 5136 (by decide)
abbrev A1 := stackRows (α := F .bf16) 256 1024 2048 (by decide)
abbrev A2 := stackCols (α := F .f32) 4 192 1536 (by decide)

/-- The reference's run: each result is the stack of its argument's blocks, and the arguments are unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = A0 (F := F) (m ((c.tc : Thread nD τ).loc main_arg0))
      ∧ r.2.mem ((c.tc : Thread nD τ).loc main_v33) = A1 (F := F) (m ((c.tc : Thread nD τ).loc main_arg1))
      ∧ r.2.mem ((c.tc : Thread nD τ).loc main_v50) = A2 (F := F) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.ReferenceIdeal.Value.run m ρ)
  obtain ⟨h0, h1, h2, h3⟩ := h c
  refine ⟨h0.trans (funext fun i => ?_), h1.trans (funext fun i => ?_), h2.trans (funext fun i => ?_), h3⟩
  · refine (concat (fun n : Fin 8 => extractStridedSlice S1024x642 ![0, 642 * n.val] (m ((c.tc : Thread nD τ).loc main_arg0)) (show S1024x5136.Slices ![0, 642 * n.val] S1024x642 by revert n; decide)) _ bcast_S1024x642_S1x1024x642_1_2 rfl _ i).trans ?_
    exact congrFun (cut_cols _ (i 0) _ rfl _ _) (tl i)
  · refine (concat (fun n : Fin 8 => extractStridedSlice S256x1024 ![256 * n.val, 0] (m ((c.tc : Thread nD τ).loc main_arg1)) (show S2048x1024.Slices ![256 * n.val, 0] S256x1024 by revert n; decide)) _ bcast_S256x1024_S1x256x1024_1_2 rfl _ i).trans ?_
    exact congrFun (cut_rows _ (i 0) _ rfl _ _) (tl i)
  · refine (concat (fun n : Fin 8 => extractStridedSlice S4x192 ![0, 192 * n.val] (m ((c.tc : Thread nD τ).loc main_arg2)) (show S4x1536.Slices ![0, 192 * n.val] S4x192 by revert n; decide)) _ bcast_S4x192_S1x4x192_1_2 rfl _ i).trans ?_
    exact congrFun (cut_cols _ (i 0) _ rfl _ _) (tl i)

end Ref

/-! ## The kernel's side -/

section Kernel
open Cert.KernelIdeal Cert.KernelIdeal.Gen
open Idealize.ShloMosaic.TcCoe

variable {F : FTy → Type} [FloatOps F]
variable (m : (ℓ : Loc nD τ sig) → Buf (Elt F) ℓ)

/-- A result all of whose slots are at their blocks is the stack of the blocks. -/
theorem slots0 (f : S8x1024x642.Idx → F .bf16) (h : ∀ t : Dev nD, (slot 0 t).view.read (Elt F) f = X m t 0) : f = fun i : S8x1024x642.Idx => X m (i 0) 0 (tl (n := 8) i) := by
  funext i
  rw [← h (i 0)]
  show f i = shapeCast S1024x642 ((Memref.whole main_v1_0).view.readAt (Elt F) (Rect.unit (s := S8x1024x642) ![(i 0).val, 0, 0] S1x1024x642.size (inb0 (i 0))).toLoadRect f) (show S1x1024x642.ShapeCasts S1024x642 by decide) (tl i)
  refine Eq.trans ?_ (shapeCast_dropUnit_apply ![1024, 642] _ _ (tl i)).symm
  refine congrArg f (Eq.symm ?_)
  exact cons_tl i _ rfl ((Nat.zero_add _).trans (Nat.one_mul _)) ((Nat.zero_add _).trans (Nat.one_mul _))

theorem slots1 (f : S8x256x1024.Idx → F .bf16) (h : ∀ t : Dev nD, (slot 1 t).view.read (Elt F) f = X m t 1) : f = fun i : S8x256x1024.Idx => X m (i 0) 1 (tl (n := 8) i) := by
  funext i
  rw [← h (i 0)]
  show f i = shapeCast S256x1024 ((Memref.whole main_v1_1).view.readAt (Elt F) (Rect.unit (s := S8x256x1024) ![(i 0).val, 0, 0] S1x256x1024.size (inb1 (i 0))).toLoadRect f) (show S1x256x1024.ShapeCasts S256x1024 by decide) (tl i)
  refine Eq.trans ?_ (shapeCast_dropUnit_apply ![256, 1024] _ _ (tl i)).symm
  refine congrArg f (Eq.symm ?_)
  exact cons_tl i _ rfl ((Nat.zero_add _).trans (Nat.one_mul _)) ((Nat.zero_add _).trans (Nat.one_mul _))

theorem slots2 (f : S8x4x192.Idx → F .f32) (h : ∀ t : Dev nD, (slot 2 t).view.read (Elt F) f = X m t 2) : f = fun i : S8x4x192.Idx => X m (i 0) 2 (tl (n := 8) i) := by
  funext i
  rw [← h (i 0)]
  show f i = shapeCast S4x192 ((Memref.whole main_v1_2).view.readAt (Elt F) (Rect.unit (s := S8x4x192) ![(i 0).val, 0, 0] S1x4x192.size (inb2 (i 0))).toLoadRect f) (show S1x4x192.ShapeCasts S4x192 by decide) (tl i)
  refine Eq.trans ?_ (shapeCast_dropUnit_apply ![4, 192] _ _ (tl i)).symm
  refine congrArg f (Eq.symm ?_)
  exact cons_tl i _ rfl ((Nat.zero_add _).trans (Nat.one_mul _)) ((Nat.zero_add _).trans (Nat.one_mul _))

/-- The stacks of the whole arrays' blocks are the stacks of the devices' blocks, at every device that has gathered them. -/
theorem gathered (A : (⟨2, ![1024, 5136]⟩ : Shape).Idx → F .bf16) (B : (⟨2, ![2048, 1024]⟩ : Shape).Idx → F .bf16) (C : (⟨2, ![4, 1536]⟩ : Shape).Idx → F .f32)
    (hl : ∀ c : Dev nD, m ((c.tc : Thread nD τ).loc main_arg0) = Layout.block ⟨2, ![1024, 642]⟩ ⟨2, ![1024, 5136]⟩ 1 8 c A
      ∧ m ((c.tc : Thread nD τ).loc main_arg1) = Layout.block ⟨2, ![256, 1024]⟩ ⟨2, ![2048, 1024]⟩ 0 8 c B
      ∧ m ((c.tc : Thread nD τ).loc main_arg2) = Layout.block ⟨2, ![4, 192]⟩ ⟨2, ![4, 1536]⟩ 1 8 c C)
    (s : MemSt nD τ sig (Elt F)) (hs : Ends m s) (c : Dev nD) :
    s.mem ((c.tc : Thread nD τ).loc main_v1_0) = A0 (F := F) A
      ∧ s.mem ((c.tc : Thread nD τ).loc main_v1_1) = A1 (F := F) B
      ∧ s.mem ((c.tc : Thread nD τ).loc main_v1_2) = A2 (F := F) C
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2) := by
  refine ⟨(slots0 m _ (hs.1 c 0).2).trans (funext fun i => ?_), (slots1 m _ (hs.1 c 1).2).trans (funext fun i => ?_),
    (slots2 m _ (hs.1 c 2).2).trans (funext fun i => ?_), (hs.1 c 0).1, (hs.1 c 1).1, (hs.1 c 2).1⟩
  · exact congrFun (hl (i 0)).1 (tl i)
  · exact congrFun (hl (i 0)).2.1 (tl i)
  · exact congrFun (hl (i 0)).2.2 (tl i)

end Kernel

end Cert.Gather

end
-- ==== Proof.ExchangeDefs.lean ====
/-
# The gradient exchange's protocol

Eight devices. Device `d` holds, of two arrays, eight blocks: its own gradient of every device's part; and one small
array. It sends block `d xor (k+1)` to the device `d xor (k+1)`, into place `k` there, and its small array to all devices,
into slot `d` there; it copies its small array into its own slot. Its own block stays where it is.

* cell `send a k` of `d`: credited by `d`'s copy number `k` of array `a`; hands the source back.
* cell `recv a k` of `d`: credited by the copy number `k` of the device `d xor (k+1)`; hands over the place it wrote.
* cell `loc` of `d`: credited by `d`'s copy of its small array into its own slot.
-/
module

public import proofs.«01_k».proof.Proof.Script
public import proofs.«01_k».proof.Proof.Gen.ExchangeIdeal
public import proofs.«01_k».proof.Proof.Gen.ExchangeIdeal.Launch
public import Idealize.ShloMosaic.Lib.ShareLeaves

@[expose] public section

noncomputable section

namespace Cert.Swap

open Cert.ExchangeIdeal Cert.ExchangeIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Script

variable {F : FTy → Type}

/-- The ghost state: the pipeline's rounds beside the exchange's. -/
abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

variable (m : (ℓ : Loc nD τ sig) → Buf (Elt F) ℓ)

/-- The device whose number differs from `d`'s in the bits of `p`. -/
def xr (p : ℕ) (d : Dev nD) : Dev nD := ⟨(d.val ^^^ p) % 8, Nat.mod_lt _ (by decide)⟩

theorem xr_xr (p : ℕ) (hp : p < 8) (d : Dev nD) : xr p (xr p d) = d := by
  revert p d; decide
theorem xk (k : Fin 7) : k.val + 1 < 8 := by omega

/-! ## The arrays -/

/-- The shape of a block of array `a`. -/
def shp : Fin 3 → Shape | 0 => S1024x642 | 1 => S256x1024 | 2 => S96x128
/-- Array `a`'s elements. -/
def elt : Fin 3 → EltTy | 0 => .bf16 | 1 => .bf16 | 2 => .f32

theorem inbI0 (s : Dev nD) : ∀ a, (![s.val, 0, 0] : Fin 3 → ℕ) a + S1x1024x642.size a ≤ S8x1024x642.size a := by revert s; decide
theorem inbI1 (s : Dev nD) : ∀ a, (![s.val, 0, 0] : Fin 3 → ℕ) a + S1x256x1024.size a ≤ S8x256x1024.size a := by revert s; decide
theorem inbO0 (s : Fin 7) : ∀ a, (![s.val, 0, 0] : Fin 3 → ℕ) a + S1x1024x642.size a ≤ S7x1024x642.size a := by revert s; decide
theorem inbO1 (s : Fin 7) : ∀ a, (![s.val, 0, 0] : Fin 3 → ℕ) a + S1x256x1024.size a ≤ S7x256x1024.size a := by revert s; decide
theorem inbO2 (s : Dev nD) : ∀ a, (![s.val, 0, 0] : Fin 3 → ℕ) a + S1x96x128.size a ≤ S8x96x128.size a := by revert s; decide

/-- Block `s` of operand `a`; of the small array, all of it. -/
def inM : (a : Fin 3) → Dev nD → Memref sig .tc .hbm (shp a) (elt a)
  | 0, s => ((Memref.whole main_arg0).slice (Rect.unit (s := S8x1024x642) ![s.val, 0, 0] S1x1024x642.size (inbI0 s)) (fun _ => rfl)).squeeze S1024x642 squeezes_S1x1024x642_S1024x642
  | 1, s => ((Memref.whole main_arg1).slice (Rect.unit (s := S8x256x1024) ![s.val, 0, 0] S1x256x1024.size (inbI1 s)) (fun _ => rfl)).squeeze S256x1024 squeezes_S1x256x1024_S256x1024
  | 2, _ => Memref.whole main_arg2

/-- Where copy number `k` of array `a`, from device `s`, arrives: place `k` of result `a`; of the small array, slot `s`. -/
def outM : (a : Fin 3) → Fin 7 → Dev nD → Memref sig .tc .hbm (shp a) (elt a)
  | 0, k, _ => ((Memref.whole main_v1_0).slice (Rect.unit (s := S7x1024x642) ![k.val, 0, 0] S1x1024x642.size (inbO0 k)) (fun _ => rfl)).squeeze S1024x642 squeezes_S1x1024x642_S1024x642
  | 1, k, _ => ((Memref.whole main_v1_1).slice (Rect.unit (s := S7x256x1024) ![k.val, 0, 0] S1x256x1024.size (inbO1 k)) (fun _ => rfl)).squeeze S256x1024 squeezes_S1x256x1024_S256x1024
  | 2, _, s => ((Memref.whole main_v1_2).slice (Rect.unit (s := S8x96x128) ![s.val, 0, 0] S1x96x128.size (inbO2 s)) (fun _ => rfl)).squeeze S96x128 squeezes_S1x96x128_S96x128

/-- Device `d`'s block `s` of array `a`. -/
def X (d : Dev nD) (a : Fin 3) (s : Dev nD) : (shp a).Idx → Elt F (elt a) := (inM a s).view.read (Elt F) (m ((inM a s).view.loc (d : Thread nD τ)))

/-- The amount of a copy of array `a`. -/
def amtA : Fin 3 → ℕ | 0 => (outM 0 0 0).view.dmaCredit | 1 => (outM 1 0 0).view.dmaCredit | 2 => (outM 2 0 0).view.dmaCredit

/-! ## The protocol -/

/-- The kernel's semaphores. -/
inductive Cl where
  | send (a : Fin 3) (k : Fin 7)
  | recv (a : Fin 3) (k : Fin 7)
  | loc
  deriving DecidableEq

/-- The names, as a sum. -/
def clEquiv : (Fin 3 × Fin 7) ⊕ (Fin 3 × Fin 7) ⊕ Fin 1 ≃ Cl where
  toFun | .inl p => .send p.1 p.2 | .inr (.inl p) => .recv p.1 p.2 | .inr (.inr _) => .loc
  invFun | .send a k => .inl (a, k) | .recv a k => .inr (.inl (a, k)) | .loc => .inr (.inr 0)
  left_inv x := by
    rcases x with x | x | x
    · rfl
    · rfl
    · exact congrArg (fun y => Sum.inr (Sum.inr y)) (Subsingleton.elim (0 : Fin 1) x)
  right_inv x := by cases x <;> rfl

instance : Fintype Cl := .ofEquiv _ clEquiv

/-- Which semaphore a name stands for. -/
def semOf : Cl → DmaSem sig
  | .send a k => ⟨7 * a.val + k.val, by show _ < 43; omega⟩
  | .recv a k => ⟨21 + 7 * a.val + k.val, by show _ < 43; omega⟩
  | .loc => ⟨42, by show _ < 43; omega⟩

theorem semOf_inj : Function.Injective semOf := by decide

/-- The array a semaphore is for. -/
def arr : Cl → Fin 3 | .send a _ => a | .recv a _ => a | .loc => 2

/-- An eighth of an array. -/
def eighth (i : Fin 8) : PosShare TreeShare := ShareLeaves.leaf 3 fullShare i

/-- The share that copy number `k` reads its source at: of the small array an eighth, as all copies read it at once. -/
def shr : Fin 3 → Fin 7 → PosShare TreeShare
  | 0, _ => fullShare
  | 1, _ => fullShare
  | 2, k => eighth ⟨k.val, by omega⟩

/-- What a cell hands over. -/
def pay : Dev nD × Cl → sProp 𝕄
  | (d, .send a k) => owns (d : Thread nD τ) (inM a (xr (k.val + 1) d)) (shr a k) (X m d a (xr (k.val + 1) d))
  | (d, .recv a k) => owns (d : Thread nD τ) (outM a k (xr (k.val + 1) d)) fullShare (X m (xr (k.val + 1) d) a d)
  | (d, .loc) => iprop(owns (d : Thread nD τ) (outM 2 0 d) fullShare (X m d 2 d) ∗ owns (d : Thread nD τ) (inM 2 d) (eighth 7) (X m d 2 d))

/-- What a copy needs from the launch: the source at the share it reads at, the place it writes. -/
def fuel (d : Dev nD) : Cl → sProp 𝕄
  | .send a k => iprop(owns (d : Thread nD τ) (inM a (xr (k.val + 1) d)) (shr a k) (X m d a (xr (k.val + 1) d))
      ∗ ∃ Y, owns (xr (k.val + 1) d : Thread nD τ) (outM a k d) fullShare Y)
  | .loc => iprop(owns (d : Thread nD τ) (inM 2 d) (eighth 7) (X m d 2 d) ∗ ∃ Y, owns (d : Thread nD τ) (outM 2 0 d) fullShare Y)
  | .recv _ _ => iprop(emp)

/-- Whom the copy that credits a semaphore goes to. -/
def peer : Cl → Dev nD → Dev nD
  | .send _ k, d => xr (k.val + 1) d
  | _, d => d

/-- No copy passes on what a wait gave. -/
def uses : Cl → Option Cl := fun _ => none

/-- Levels: all alike, as every copy is started before the first wait. -/
def lvl : SemLoc sig → ℕ
  | .dma _ => 1
  | _ => 0

/-- The body's copies and waits, in order. -/
def ops : List (Op Cl) :=
  [.copy .loc,
   .send (.send 0 0) (.recv 0 0), .send (.send 1 0) (.recv 1 0), .send (.send 2 0) (.recv 2 0),
   .send (.send 0 1) (.recv 0 1), .send (.send 1 1) (.recv 1 1), .send (.send 2 1) (.recv 2 1),
   .send (.send 0 2) (.recv 0 2), .send (.send 1 2) (.recv 1 2), .send (.send 2 2) (.recv 2 2),
   .send (.send 0 3) (.recv 0 3), .send (.send 1 3) (.recv 1 3), .send (.send 2 3) (.recv 2 3),
   .send (.send 0 4) (.recv 0 4), .send (.send 1 4) (.recv 1 4), .send (.send 2 4) (.recv 2 4),
   .send (.send 0 5) (.recv 0 5), .send (.send 1 5) (.recv 1 5), .send (.send 2 5) (.recv 2 5),
   .send (.send 0 6) (.recv 0 6), .send (.send 1 6) (.recv 1 6), .send (.send 2 6) (.recv 2 6),
   .wait (.recv 0 0), .wait (.recv 1 0), .wait (.recv 2 0),
   .wait (.recv 0 1), .wait (.recv 1 1), .wait (.recv 2 1),
   .wait (.recv 0 2), .wait (.recv 1 2), .wait (.recv 2 2),
   .wait (.recv 0 3), .wait (.recv 1 3), .wait (.recv 2 3),
   .wait (.recv 0 4), .wait (.recv 1 4), .wait (.recv 2 4),
   .wait (.recv 0 5), .wait (.recv 1 5), .wait (.recv 2 5),
   .wait (.recv 0 6), .wait (.recv 1 6), .wait (.recv 2 6),
   .wait (.send 0 0), .wait (.send 1 0), .wait (.send 2 0),
   .wait (.send 0 1), .wait (.send 1 1), .wait (.send 2 1),
   .wait (.send 0 2), .wait (.send 1 2), .wait (.send 2 2),
   .wait (.send 0 3), .wait (.send 1 3), .wait (.send 2 3),
   .wait (.send 0 4), .wait (.send 1 4), .wait (.send 2 4),
   .wait (.send 0 5), .wait (.send 1 5), .wait (.send 2 5),
   .wait (.send 0 6), .wait (.send 1 6), .wait (.send 2 6),
   .wait .loc]

theorem amtA_pos : ∀ a, 0 < amtA a
  | 0 => by decide
  | 1 => by decide
  | 2 => by decide

/-- The exchange. -/
def proto : Proto nD τ sig (Elt F) UU Cl where
  sem := semOf
  inj := semOf_inj
  amt x := amtA (arr x)
  pos x := amtA_pos _
  pay := pay m
  peer := peer
  uses := uses
  fuel := fuel m
  lvl := lvl
  ops := ops
  init := (Proto.sends ops).map fun p => .cred p.2

/-- What a device has gathered before step `n`. -/
def its (n : ℕ) : List (Item Cl) := Proto.itemsOf uses ops ((Proto.sends ops).map fun p => .cred p.2) n
/-- A wait at `x` is safe before the operations `l`. -/
def safe (x : Cl) (l : List (Op Cl)) : Bool := Proto.safeOf (fun y => lvl (.dma (semOf y))) x l

theorem its_eq (n : ℕ) : (proto m).items n = its n := (proto m).items_eq n
theorem safe_eq (x : Cl) (l : List (Op Cl)) : (proto m).safe x l = safe x l := (proto m).safe_eq x l

theorem peer_peer (x : Cl) (d : Dev nD) : peer x (peer x d) = d := by
  cases x with
  | send a k => exact xr_xr _ (xk k) d
  | recv a k => rfl
  | loc => rfl

theorem routes_xr (p : ℕ) (c : Dev nD) : τ.routes (c.tc : Thread nD τ) ((xr p c).tc : Thread nD τ) = true := by routes

/-! ## The steps, with this kernel's memrefs -/

theorem credit_out : ∀ (a : Fin 3) (k : Fin 7) (s : Dev nD), (outM a k s).view.dmaCredit = amtA a
  | 0, _, _ => rfl
  | 1, _, _ => rfl
  | 2, _, _ => rfl

/-- A block by the offset it is printed at. -/
theorem in0_eq (off : Fin 3 → ℕ) (h : ∀ a, off a + S1x1024x642.size a ≤ S8x1024x642.size a) (s : Dev nD) (e : off = ![s.val, 0, 0]) :
    (((Memref.whole main_arg0).slice (Rect.unit (s := S8x1024x642) off S1x1024x642.size h) (fun _ => rfl)).squeeze S1024x642 squeezes_S1x1024x642_S1024x642) = inM 0 s := by
  subst e; rfl
theorem in1_eq (off : Fin 3 → ℕ) (h : ∀ a, off a + S1x256x1024.size a ≤ S8x256x1024.size a) (s : Dev nD) (e : off = ![s.val, 0, 0]) :
    (((Memref.whole main_arg1).slice (Rect.unit (s := S8x256x1024) off S1x256x1024.size h) (fun _ => rfl)).squeeze S256x1024 squeezes_S1x256x1024_S256x1024) = inM 1 s := by
  subst e; rfl
theorem out2_eq (off : Fin 3 → ℕ) (h : ∀ a, off a + S1x96x128.size a ≤ S8x96x128.size a) (k : Fin 7) (s : Dev nD) (e : off = ![s.val, 0, 0]) :
    (((Memref.whole main_v1_2).slice (Rect.unit (s := S8x96x128) off S1x96x128.size h) (fun _ => rfl)).squeeze S96x128 squeezes_S1x96x128_S96x128) = outM 2 k s := by
  subst e; rfl

section Steps

variable [FloatOps F] {𝒱 : Variants} {α : Type}

local notation "𝔻" => (defs₀ (F := F))

/-- The state before operation `n`. -/
abbrev St (c : Dev nD) (n : ℕ) : sProp 𝕄 := (proto m).St ER c n

/-- A copy to a peer. -/
theorem step_send {c c' : Dev nD} (n : ℕ) (a : Fin 3) (k : Fin 7)
    {src : Memref sig .tc .hbm (shp a) (elt a)} {dst : Memref sig .tc .hbm (shp a) (elt a)}
    {hsc : dst.view.ref.isScScratch = false} {sS sm : SemLoc sig} {hsrc : src.view.WordExact} {hdst : dst.view.WordExact}
    {hty : DmaTarget.Typed .hbm sm (.remote (c'.tc : Thread nD τ) dst sS hsc)} {kk : PUnit → Prog (TpuEff nD τ sig (Elt F) Λ₀ .tc) α} {Q : α → sProp 𝕄}
    (h : ops[n]? = some (.send (.send a k) (.recv a k)))
    (es : src = inM a (xr (k.val + 1) c)) (ed : dst = outM a k c) (hpeer : c' = xr (k.val + 1) c) (hS : sS = .dma (semOf (.send a k))) (hR : sm = .dma (semOf (.recv a k)))
    (hk : St m c (n + 1) ⊢ wp frame (wpE 𝔻 𝒱 (c.tc) none) Set.univ (kk ⟨⟩) Q) :
    St m c n ⊢ wp frame (wpE 𝔻 𝒱 (c.tc) none) Set.univ (.op (.enqueueDma src (.remote (c'.tc) dst sS hsc) sm hsrc hdst hty) kk) Q := by
  subst es ed hpeer hS hR
  refine (proto m).step_send ER n (.send a k) (.recv a k) (shr a k) (X m c a (xr (k.val + 1) c)) h (fun x hx => absurd hx (by show ¬ (none = some x); simp)) rfl rfl rfl (credit_out a k c) rfl
    ?_ (BI.Entails.refl _) ?_ (routes_xr _ c) hk
  · show iprop(fuel m c (.send a k) ∗ emp) ⊢ _
    unfold fuel
    iintro ⟨H, -⟩
    iexact H
  · show _ ⊢ pay m (xr (k.val + 1) c, .recv a k)
    unfold pay
    simp only [xr_xr _ (xk k)]
    exact BI.Entails.refl _

/-- A device's small array, into its own slot. -/
theorem step_loc {c : Dev nD} (n : ℕ)
    {src : Memref sig (c.tc : Thread nD τ).2.kind .hbm (shp 2) (elt 2)} {dst : Memref sig (c.tc : Thread nD τ).2.kind .hbm (shp 2) (elt 2)}
    {sm : SemLoc sig} {hsrc : src.view.WordExact} {hdst : dst.view.WordExact}
    {hty : DmaTarget.Typed (nD := nD) .hbm sm (.here dst)} {kk : PUnit → Prog (TpuEff nD τ sig (Elt F) Λ₀ .tc) α} {Q : α → sProp 𝕄}
    (h : ops[n]? = some (.copy .loc))
    (es : src = inM 2 c) (ed : dst = outM 2 0 c) (hR : sm = .dma (semOf .loc))
    (hk : St m c (n + 1) ⊢ wp frame (wpE 𝔻 𝒱 (c.tc) none) Set.univ (kk ⟨⟩) Q) :
    St m c n ⊢ wp frame (wpE 𝔻 𝒱 (c.tc) none) Set.univ (.op (.enqueueDma src (.here dst) sm hsrc hdst hty) kk) Q := by
  subst es ed hR
  exact (proto m).step_copy ER n .loc (eighth 7) (X m c 2 c) h rfl (credit_out 2 0 c) (BI.Entails.refl _) (BI.Entails.refl _) hk

/-- A wait. -/
theorem step_wait {c : Dev nD} (n : ℕ) (x : Cl) {sm : DmaSem sig} {s' : Shape} {e' : EltTy}
    {src : Memref sig .tc .hbm s' e'} {dst : Memref sig .tc .hbm (shp (arr x)) (elt (arr x))} {hsrc : src.view.WordExact} {hdst : dst.view.WordExact}
    {kk : PUnit → Prog (TpuEff nD τ sig (Elt F) Λ₀ .tc) α} {Q : α → sProp 𝕄}
    (h : ops[n]? = some (.wait x)) (hu : Item.cred x ∈ its n) (hsafe : safe x (ops.drop (n + 1)) = true)
    (hR : sm = semOf x) (hN : dst.view.dmaCredit = amtA (arr x))
    (hk : St m c (n + 1) ⊢ wp frame (wpE 𝔻 𝒱 (c.tc) none) Set.univ (kk ⟨⟩) Q) :
    St m c n ⊢ wp frame (wpE 𝔻 𝒱 (c.tc) none) Set.univ (.op (.waitDma2 sm src dst hsrc hdst) kk) Q :=
  (proto m).step_wait ER n x h (by rw [its_eq]; exact hu) (by rw [safe_eq]; exact hsafe) hR hN hk

end Steps

end Cert.Swap
-- ==== Proof.ExchangeMem.lean ====
/-
# The exchange's arrays, dealt out and read

Before the run every device's operands and results are cut into blocks; the place that a copy writes goes to the device
that sends it, and the block a device keeps stays aside (`deal_mem`). After the run everything the waits handed over is
read off the machine's state (`got_read`).
-/
module

public import proofs.«01_k».proof.Proof.ExchangeDefs
public import proofs.«01_k».proof.Proof.Deal
public import proofs.«01_k».proof.Proof.Slots

@[expose] public section

noncomputable section

namespace Cert.Swap

open Cert.ExchangeIdeal Cert.ExchangeIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Script Cert.Slots

variable {F : FTy → Type}

local notation "𝕄" => MT nD τ sig Unit (Elt F) ℕ UU ℕ

variable (m : (ℓ : Loc nD τ sig) → Buf (Elt F) ℓ)

/-! ## Lists of devices and of copies -/

/-- The eight devices, as seen from `d`: itself and its seven peers. -/
def seen (d : Dev nD) : List (Dev nD) := [d, xr 1 d, xr 2 d, xr 3 d, xr 4 d, xr 5 d, xr 6 d, xr 7 d]
theorem seen_all (d : Dev nD) : (seen d).Nodup ∧ ∀ x, x ∈ seen d := by revert d; decide

theorem devs_seen (d : Dev nD) (Φ : Dev nD → sProp 𝕄) : bigSep Finset.univ Φ = sepL Φ (seen d) := univ_sepL Φ (seen d) (seen_all d).1 (seen_all d).2

/-- The seven copies of an array. -/
def ks : List (Fin 7) := [0, 1, 2, 3, 4, 5, 6]
theorem ks_seen (Φ : Fin 7 → sProp 𝕄) : bigSep Finset.univ Φ = sepL Φ ks := univ_sepL Φ ks (by decide) (by decide)

/-- What copy number `k` carries, by receiver and by sender. -/
theorem move (k : Fin 7) (Ψ : Dev nD → Dev nD → sProp 𝕄) :
    (bigSep Finset.univ fun d : Dev nD => Ψ d (xr (k.val + 1) d)) = bigSep Finset.univ fun d : Dev nD => Ψ (xr (k.val + 1) d) d := by
  rw [bigSep_univ_equiv ⟨xr (k.val + 1), xr (k.val + 1), xr_xr _ (xk k), xr_xr _ (xk k)⟩ (fun d : Dev nD => Ψ d (xr (k.val + 1) d))]
  refine BI.bigSep_congr fun d _ => ?_
  show Ψ (xr (k.val + 1) d) (xr (k.val + 1) (xr (k.val + 1) d)) = _
  rw [xr_xr _ (xk k)]

/-- A conjunction over devices of conjunctions along a list, the other way round. -/
theorem sepL_devs {I : Type} (Φ : Dev nD → I → sProp 𝕄) : ∀ l : List I,
    (bigSep Finset.univ fun d : Dev nD => sepL (Φ d) l) = iprop(sepL (fun i => bigSep Finset.univ fun d : Dev nD => Φ d i) l ∗ bigSep Finset.univ fun d : Dev nD => (iprop(emp) : sProp 𝕄))
  | [] => by
    show (bigSep Finset.univ fun d : Dev nD => (iprop(emp) : sProp 𝕄)) = iprop(emp ∗ bigSep Finset.univ fun d : Dev nD => (iprop(emp) : sProp 𝕄))
    refine BI.Entails.antisymm ?_ ?_
    · show (bigSep Finset.univ fun d : Dev nD => (iprop(emp) : sProp 𝕄)) ⊢ iprop(emp ∗ (bigSep Finset.univ fun d : Dev nD => (iprop(emp) : sProp 𝕄)))
      iintro H
      isplitr; · iempintro
      iexact H
    · show iprop(emp ∗ (bigSep Finset.univ fun d : Dev nD => (iprop(emp) : sProp 𝕄))) ⊢ (bigSep Finset.univ fun d : Dev nD => (iprop(emp) : sProp 𝕄))
      iintro ⟨-, H⟩
      iexact H
  | i :: l => by
    show (bigSep Finset.univ fun d : Dev nD => iprop(Φ d i ∗ sepL (Φ d) l))
      = iprop(((bigSep Finset.univ fun d : Dev nD => Φ d i) ∗ sepL (fun i => bigSep Finset.univ fun d : Dev nD => Φ d i) l) ∗ bigSep Finset.univ fun d : Dev nD => (iprop(emp) : sProp 𝕄))
    rw [BI.bigSep_sep', sepL_devs Φ l]
    exact BI.Entails.antisymm BI.sep_assoc' BI.sep_assoc

/-! ## Operands -/

/-- Device `c`'s operand `a`, whole. -/
def argPt (c : Dev nD) : Fin 3 → sProp 𝕄
  | 0 => ((c : Thread nD τ).loc main_arg0) ↦{fullShare} m ((c : Thread nD τ).loc main_arg0)
  | 1 => ((c : Thread nD τ).loc main_arg1) ↦{fullShare} m ((c : Thread nD τ).loc main_arg1)
  | 2 => ((c : Thread nD τ).loc main_arg2) ↦{fullShare} m ((c : Thread nD τ).loc main_arg2)

/-- What of operand `a` device `d` does not send: its own block; of the small array an eighth, for the copy into its own slot. -/
def own (d : Dev nD) (a : Fin 3) : sProp 𝕄 := owns (d : Thread nD τ) (inM a d) (match a with | 0 => fullShare | 1 => fullShare | 2 => eighth 7) (X m d a d)

/-- What copy number `k` of array `a` reads, at device `d`. -/
def src (a : Fin 3) (d : Dev nD) (k : Fin 7) : sProp 𝕄 := owns (d : Thread nD τ) (inM a (xr (k.val + 1) d)) (shr a k) (X m d a (xr (k.val + 1) d))

theorem eighths (c : Dev nD) :
    (argPt m c 2 : sProp 𝕄) = bigSep Finset.univ fun i : Fin (2 ^ 3) => (((c : Thread nD τ).loc main_arg2) ↦{ShareLeaves.leaf 3 fullShare i} m ((c : Thread nD τ).loc main_arg2)) :=
  ShareLeaves.pointsTo_leaves _ _ 3 fullShare

/-- An operand is the part that stays and the parts that are sent. -/
theorem arg_cut (d : Dev nD) : ∀ a : Fin 3, argPt m d a ⊢ (iprop(own m d a ∗ sepL (src m a d) ks) : sProp 𝕄)
  | 0 => by
    refine BI.Entails.trans (show argPt m d 0 ⊢ (owns (d : Thread nD τ) (Memref.whole main_arg0) fullShare (m ((d : Thread nD τ).loc main_arg0)) : sProp 𝕄) from
      Entails.of_eq (owns_whole (d : Thread nD τ) main_arg0 fullShare (m ((d : Thread nD τ).loc main_arg0))).symm) ?_
    refine BI.Entails.trans (owns_rects (d : Thread nD τ) (Memref.whole main_arg0) fullShare (fun s : Dev nD => Rect.unit (s := S8x1024x642) ![s.val, 0, 0] S1x1024x642.size (inbI0 s)) (fun _ _ => rfl)
      (fun s s' h => rows_disj 8 1024 642 inbI0 s s' h) (rows_cover 8 1024 642 inbI0) (m ((d : Thread nD τ).loc main_arg0))) ?_
    refine BI.Entails.trans (BI.bigSep_mono fun s _ => owns_squeeze_at d ((Memref.whole main_arg0).slice (Rect.unit (s := S8x1024x642) ![s.val, 0, 0] S1x1024x642.size (inbI0 s)) (fun _ => rfl))
      squeezes_S1x1024x642_S1024x642 fullShare (m ((d : Thread nD τ).loc main_arg0))) ?_
    exact Entails.of_eq (devs_seen d fun s => owns (d : Thread nD τ) (inM 0 s) fullShare (X m d 0 s))
  | 1 => by
    refine BI.Entails.trans (show argPt m d 1 ⊢ (owns (d : Thread nD τ) (Memref.whole main_arg1) fullShare (m ((d : Thread nD τ).loc main_arg1)) : sProp 𝕄) from
      Entails.of_eq (owns_whole (d : Thread nD τ) main_arg1 fullShare (m ((d : Thread nD τ).loc main_arg1))).symm) ?_
    refine BI.Entails.trans (owns_rects (d : Thread nD τ) (Memref.whole main_arg1) fullShare (fun s : Dev nD => Rect.unit (s := S8x256x1024) ![s.val, 0, 0] S1x256x1024.size (inbI1 s)) (fun _ _ => rfl)
      (fun s s' h => rows_disj 8 256 1024 inbI1 s s' h) (rows_cover 8 256 1024 inbI1) (m ((d : Thread nD τ).loc main_arg1))) ?_
    refine BI.Entails.trans (BI.bigSep_mono fun s _ => owns_squeeze_at d ((Memref.whole main_arg1).slice (Rect.unit (s := S8x256x1024) ![s.val, 0, 0] S1x256x1024.size (inbI1 s)) (fun _ => rfl))
      squeezes_S1x256x1024_S256x1024 fullShare (m ((d : Thread nD τ).loc main_arg1))) ?_
    exact Entails.of_eq (devs_seen d fun s => owns (d : Thread nD τ) (inM 1 s) fullShare (X m d 1 s))
  | 2 => by
    rw [eighths, univ_sepL _ [7, 0, 1, 2, 3, 4, 5, 6] (by decide) (by decide)]
    have e (q : PosShare TreeShare) : (owns (d : Thread nD τ) (inM 2 d) q (X m d 2 d) : sProp 𝕄) = (((d : Thread nD τ).loc main_arg2) ↦{q} m ((d : Thread nD τ).loc main_arg2)) :=
      owns_whole (d : Thread nD τ) main_arg2 q _
    show iprop((((d : Thread nD τ).loc main_arg2) ↦{eighth 7} m ((d : Thread nD τ).loc main_arg2)) ∗ sepL (fun i : Fin (2 ^ 3) => (((d : Thread nD τ).loc main_arg2) ↦{ShareLeaves.leaf 3 fullShare i} m ((d : Thread nD τ).loc main_arg2))) [0, 1, 2, 3, 4, 5, 6])
      ⊢ iprop(owns (d : Thread nD τ) (inM 2 d) (eighth 7) (X m d 2 d) ∗ owns (d : Thread nD τ) (inM 2 d) (eighth 0) (X m d 2 d) ∗ owns (d : Thread nD τ) (inM 2 d) (eighth 1) (X m d 2 d)
        ∗ owns (d : Thread nD τ) (inM 2 d) (eighth 2) (X m d 2 d) ∗ owns (d : Thread nD τ) (inM 2 d) (eighth 3) (X m d 2 d) ∗ owns (d : Thread nD τ) (inM 2 d) (eighth 4) (X m d 2 d)
        ∗ owns (d : Thread nD τ) (inM 2 d) (eighth 5) (X m d 2 d) ∗ owns (d : Thread nD τ) (inM 2 d) (eighth 6) (X m d 2 d) ∗ emp)
    rw [e, e, e, e, e, e, e, e]
    exact BI.Entails.refl _

/-! ## Results -/

/-- Device `c`'s result `a`, whole. -/
def outPt (c : Dev nD) : Fin 3 → sProp 𝕄
  | 0 => ((c : Thread nD τ).loc main_v1_0) ↦{fullShare} m ((c : Thread nD τ).loc main_v1_0)
  | 1 => ((c : Thread nD τ).loc main_v1_1) ↦{fullShare} m ((c : Thread nD τ).loc main_v1_1)
  | 2 => ((c : Thread nD τ).loc main_v1_2) ↦{fullShare} m ((c : Thread nD τ).loc main_v1_2)

/-- Where device `d` gets copy number `k` of array `a` from device `s`, at some contents. -/
def dst (a : Fin 3) (k : Fin 7) (d s : Dev nD) : sProp 𝕄 := iprop(∃ Y, owns (d : Thread nD τ) (outM a k s) fullShare Y)

/-- The places no peer writes: the device's own slot of the small arrays. -/
def spare (d : Dev nD) : Fin 3 → sProp 𝕄 | 0 => iprop(emp) | 1 => iprop(emp) | 2 => dst 2 0 d d

/-- A result is the places its copies write, and the device's own slot. -/
theorem out_cut (d : Dev nD) : ∀ a : Fin 3, outPt m d a ⊢ (iprop(spare d a ∗ sepL (fun k => dst a k d (xr (k.val + 1) d)) ks) : sProp 𝕄)
  | 0 => by
    refine BI.Entails.trans (show outPt m d 0 ⊢ (owns (d : Thread nD τ) (Memref.whole main_v1_0) fullShare (m ((d : Thread nD τ).loc main_v1_0)) : sProp 𝕄) from
      Entails.of_eq (owns_whole (d : Thread nD τ) main_v1_0 fullShare (m ((d : Thread nD τ).loc main_v1_0))).symm) ?_
    refine BI.Entails.trans (owns_rects (d : Thread nD τ) (Memref.whole main_v1_0) fullShare (fun k : Fin 7 => Rect.unit (s := S7x1024x642) ![k.val, 0, 0] S1x1024x642.size (inbO0 k)) (fun _ _ => rfl)
      (fun s s' h => rows_disj 7 1024 642 inbO0 s s' h) (rows_cover 7 1024 642 inbO0) (m ((d : Thread nD τ).loc main_v1_0))) ?_
    refine BI.Entails.trans (show _ ⊢ (bigSep Finset.univ fun k : Fin 7 => dst (F := F) 0 k d (xr (k.val + 1) d)) from BI.bigSep_mono fun k _ => owns_squeeze d _ squeezes_S1x1024x642_S1024x642 fullShare _) ?_
    rw [ks_seen]
    show sepL (fun k => dst (F := F) 0 k d (xr (k.val + 1) d)) ks ⊢ iprop(emp ∗ sepL (fun k => dst (F := F) 0 k d (xr (k.val + 1) d)) ks)
    iintro H
    isplitr; · iempintro
    iexact H
  | 1 => by
    refine BI.Entails.trans (show outPt m d 1 ⊢ (owns (d : Thread nD τ) (Memref.whole main_v1_1) fullShare (m ((d : Thread nD τ).loc main_v1_1)) : sProp 𝕄) from
      Entails.of_eq (owns_whole (d : Thread nD τ) main_v1_1 fullShare (m ((d : Thread nD τ).loc main_v1_1))).symm) ?_
    refine BI.Entails.trans (owns_rects (d : Thread nD τ) (Memref.whole main_v1_1) fullShare (fun k : Fin 7 => Rect.unit (s := S7x256x1024) ![k.val, 0, 0] S1x256x1024.size (inbO1 k)) (fun _ _ => rfl)
      (fun s s' h => rows_disj 7 256 1024 inbO1 s s' h) (rows_cover 7 256 1024 inbO1) (m ((d : Thread nD τ).loc main_v1_1))) ?_
    refine BI.Entails.trans (show _ ⊢ (bigSep Finset.univ fun k : Fin 7 => dst (F := F) 1 k d (xr (k.val + 1) d)) from BI.bigSep_mono fun k _ => owns_squeeze d _ squeezes_S1x256x1024_S256x1024 fullShare _) ?_
    rw [ks_seen]
    show sepL (fun k => dst (F := F) 1 k d (xr (k.val + 1) d)) ks ⊢ iprop(emp ∗ sepL (fun k => dst (F := F) 1 k d (xr (k.val + 1) d)) ks)
    iintro H
    isplitr; · iempintro
    iexact H
  | 2 => by
    refine BI.Entails.trans (show outPt m d 2 ⊢ (owns (d : Thread nD τ) (Memref.whole main_v1_2) fullShare (m ((d : Thread nD τ).loc main_v1_2)) : sProp 𝕄) from
      Entails.of_eq (owns_whole (d : Thread nD τ) main_v1_2 fullShare (m ((d : Thread nD τ).loc main_v1_2))).symm) ?_
    refine BI.Entails.trans (owns_rects (d : Thread nD τ) (Memref.whole main_v1_2) fullShare (fun s : Dev nD => Rect.unit (s := S8x96x128) ![s.val, 0, 0] S1x96x128.size (inbO2 s)) (fun _ _ => rfl)
      (fun s s' h => rows_disj 8 96 128 inbO2 s s' h) (rows_cover 8 96 128 inbO2) (m ((d : Thread nD τ).loc main_v1_2))) ?_
    refine BI.Entails.trans (show _ ⊢ (bigSep Finset.univ fun s : Dev nD => dst (F := F) 2 0 d s) from BI.bigSep_mono fun s _ => owns_squeeze d _ squeezes_S1x96x128_S96x128 fullShare _) ?_
    exact Entails.of_eq (devs_seen d fun s => dst (F := F) 2 0 d s)

/-! ## Dealing -/

/-- The copies of array `a` to peers. -/
def copies (a : Fin 3) : List Cl := [.send a 0, .send a 1, .send a 2, .send a 3, .send a 4, .send a 5, .send a 6]

theorem fuels_perm : ([Cl.loc] ++ (copies 0 ++ (copies 1 ++ copies 2))).Perm (fuels ops) := by decide +kernel

/-- One array of all devices, dealt to its copies. -/
theorem deal_array (a : Fin 3) :
    iprop((bigSep Finset.univ fun d : Dev nD => argPt m d a) ∗ (bigSep Finset.univ fun d : Dev nD => outPt m d a))
      ⊢ (iprop((bigSep Finset.univ fun d : Dev nD => own m d a) ∗ (bigSep Finset.univ fun d : Dev nD => spare d a)
        ∗ bigSep Finset.univ fun d : Dev nD => sepL (fuel m d) (copies a)) : sProp 𝕄) := by
  have ha : (bigSep Finset.univ fun d : Dev nD => argPt m d a)
      ⊢ (iprop((bigSep Finset.univ fun d : Dev nD => own m d a) ∗ bigSep Finset.univ fun d : Dev nD => sepL (src m a d) ks) : sProp 𝕄) := by
    rw [← BI.bigSep_sep']
    exact BI.bigSep_mono fun d _ => arg_cut m d a
  have ho : (bigSep Finset.univ fun d : Dev nD => outPt m d a)
      ⊢ (iprop((bigSep Finset.univ fun d : Dev nD => spare d a) ∗ bigSep Finset.univ fun d : Dev nD => sepL (fun k => dst a k d (xr (k.val + 1) d)) ks) : sProp 𝕄) := by
    rw [← BI.bigSep_sep']
    exact BI.bigSep_mono fun d _ => out_cut m d a
  have hm : (bigSep Finset.univ fun d : Dev nD => sepL (fun k => dst (F := F) a k d (xr (k.val + 1) d)) ks)
      = bigSep Finset.univ fun d : Dev nD => sepL (fun k => dst (F := F) a k (xr (k.val + 1) d) d) ks := by
    rw [sepL_devs, sepL_devs]
    congr 2
    exact funext fun k => move k (dst a k)
  have hj (d : Dev nD) : ∀ l : List (Fin 7), iprop(sepL (src m a d) l ∗ sepL (fun k => dst (F := F) a k (xr (k.val + 1) d) d) l) ⊢ (sepL (fun k => fuel m d (.send a k)) l : sProp 𝕄) := by
    intro l
    induction l with
    | nil =>
      show iprop(emp ∗ emp) ⊢ iprop(emp)
      iintro ⟨-, H⟩
      iexact H
    | cons k l ih =>
      show iprop((src m a d k ∗ sepL (src m a d) l) ∗ (dst a k (xr (k.val + 1) d) d ∗ sepL (fun k => dst (F := F) a k (xr (k.val + 1) d) d) l))
        ⊢ iprop((src m a d k ∗ dst a k (xr (k.val + 1) d) d) ∗ sepL (fun k => fuel m d (.send a k)) l)
      iintro ⟨⟨Hs, HS⟩, ⟨Hd, HD⟩⟩
      isplitl [Hs Hd]
      · isplitl [Hs] <;> iassumption
      iapply ih
      isplitl [HS] <;> iassumption
  have hf : iprop((bigSep Finset.univ fun d : Dev nD => sepL (src m a d) ks) ∗ bigSep Finset.univ fun d : Dev nD => sepL (fun k => dst (F := F) a k (xr (k.val + 1) d) d) ks)
      ⊢ (bigSep Finset.univ fun d : Dev nD => sepL (fuel m d) (copies a) : sProp 𝕄) := by
    rw [← BI.bigSep_sep']
    exact BI.bigSep_mono fun d _ => hj d ks
  rw [hm] at ho
  iintro ⟨Ha, Ho⟩
  ihave Ha := ha $$ Ha
  ihave Ho := ho $$ Ho
  icases Ha with ⟨A, As⟩
  icases Ho with ⟨O, Os⟩
  isplitl [A]; · iexact A
  isplitl [O]; · iexact O
  iapply hf
  isplitl [As] <;> iassumption

/-- The program's arrays. -/
theorem bufs_eq (c : Dev nD) :
    (unscopedBufs c (fun b => m ((c.tc : Thread nD τ).loc b)) : sProp 𝕄)
      = iprop(argPt m c 0 ∗ argPt m c 1 ∗ argPt m c 2 ∗ outPt m c 0 ∗ outPt m c 1 ∗ outPt m c 2) := by
  unfold unscopedBufs
  exact bigSep_eq_bigSepL_of_eq [main_arg0, main_arg1, main_arg2, main_v1_0, main_v1_1, main_v1_2] (by decide) (by decide) _

/-- What a device keeps aside: its own block of the first two operands. -/
def keep (c : Dev nD) : sProp 𝕄 := iprop(own m c 0 ∗ own m c 1)

/-- The arrays of all devices, dealt to the copies. -/
theorem deal_mem :
    (bigSep Finset.univ fun c : Dev nD => unscopedBufs c (fun b => m ((c.tc : Thread nD τ).loc b)))
      ⊢ (iprop((bigSep Finset.univ fun d : Dev nD => sepL (fuel m d) (fuels ops)) ∗ bigSep Finset.univ (keep m)) : sProp 𝕄) := by
  have h0 : (bigSep Finset.univ fun c : Dev nD => unscopedBufs c (fun b => m ((c.tc : Thread nD τ).loc b)))
      ⊢ iprop((bigSep Finset.univ fun c : Dev nD => argPt m c 0) ∗ (bigSep Finset.univ fun c : Dev nD => argPt m c 1) ∗ (bigSep Finset.univ fun c : Dev nD => argPt m c 2)
        ∗ (bigSep Finset.univ fun c : Dev nD => outPt m c 0) ∗ (bigSep Finset.univ fun c : Dev nD => outPt m c 1) ∗ (bigSep Finset.univ fun c : Dev nD => outPt m c 2) : sProp 𝕄) := by
    rw [BI.bigSep_congr (s := Finset.univ) (fun (c : Dev nD) _ => bufs_eq m c)]
    simp only [← BI.bigSep_sep']
    exact BI.Entails.refl _
  have h1 : iprop(((bigSep Finset.univ fun d : Dev nD => own m d 2) ∗ bigSep Finset.univ fun d : Dev nD => spare d 2)
        ∗ (bigSep Finset.univ fun d : Dev nD => sepL (fuel m d) (copies 0)) ∗ (bigSep Finset.univ fun d : Dev nD => sepL (fuel m d) (copies 1)) ∗ (bigSep Finset.univ fun d : Dev nD => sepL (fuel m d) (copies 2)))
      ⊢ (bigSep Finset.univ fun d : Dev nD => sepL (fuel m d) (fuels ops) : sProp 𝕄) := by
    simp only [← BI.bigSep_sep']
    refine BI.bigSep_mono fun d _ => ?_
    refine BI.Entails.trans ?_ (sepL_perm (fuel m d) fuels_perm)
    refine BI.Entails.trans ?_ (sepL_join (fuel m d) [.loc] (copies 0 ++ (copies 1 ++ copies 2)))
    show iprop((own m d 2 ∗ spare d 2) ∗ sepL (fuel m d) (copies 0) ∗ sepL (fuel m d) (copies 1) ∗ sepL (fuel m d) (copies 2))
      ⊢ iprop(((own m d 2 ∗ spare d 2) ∗ emp) ∗ sepL (fuel m d) (copies 0 ++ (copies 1 ++ copies 2)))
    iintro ⟨HL, H0, H1, H2⟩
    isplitl [HL]
    · isplitl [HL]; · iexact HL
      iempintro
    iapply (sepL_join (fuel m d) (copies 0) (copies 1 ++ copies 2))
    isplitl [H0]; · iexact H0
    iapply (sepL_join (fuel m d) (copies 1) (copies 2))
    isplitl [H1] <;> iassumption
  have h2 : iprop((bigSep Finset.univ fun d : Dev nD => own m d 0) ∗ bigSep Finset.univ fun d : Dev nD => own m d 1) ⊢ (bigSep Finset.univ (keep m) : sProp 𝕄) := by
    rw [← BI.bigSep_sep']
    exact BI.Entails.refl _
  have d0 := deal_array m 0
  have d1 := deal_array m 1
  have d2 := deal_array m 2
  iintro H
  ihave H := h0 $$ H
  icases H with ⟨A0, A1, A2, O0, O1, O2⟩
  ihave D0 := d0 $$ [A0 O0]
  · isplitl [A0] <;> iassumption
  ihave D1 := d1 $$ [A1 O1]
  · isplitl [A1] <;> iassumption
  ihave D2 := d2 $$ [A2 O2]
  · isplitl [A2] <;> iassumption
  icases D0 with ⟨K0, -, F0⟩
  icases D1 with ⟨K1, -, F1⟩
  icases D2 with ⟨K2, S2, F2⟩
  isplitr [K0 K1]
  · iapply h1
    isplitl [K2 S2]
    · isplitl [K2] <;> iassumption
    isplitl [F0]; · iexact F0
    isplitl [F1] <;> iassumption
  · iapply h2
    isplitl [K0] <;> iassumption

/-! ## Collecting -/

theorem waits_all : (waits ops).Nodup ∧ ∀ x, x ∈ waits ops := by decide +kernel
theorem pays_all : (pays ops).Nodup ∧ ∀ x, x ∈ pays ops := by decide +kernel
theorem items_perm : (its 65).Perm ((waits ops).map .spent ++ (waits ops).map .got) := by decide +kernel

/-- All that the waits handed over. -/
def got (c : Dev nD) : sProp 𝕄 := sepL (fun x => pay m (c, x)) (waits ops)

/-- After the last operation: what the waits handed over, and the counters back at zero. -/
theorem collect (c : Dev nD) :
    sepL ((proto m).hold ER c) (its 65) ⊢ |={Set.univ}=> iprop(got m c ∗ bigSep Finset.univ fun x : Cl => (semVal ((proto m).cell (c, x)) 0 : sProp 𝕄)) := by
  have h0 := sepL_perm ((proto m).hold ER c) items_perm
  have h1 := sepL_append ((proto m).hold ER c) ((waits ops).map .spent) ((waits ops).map .got)
  have h2 : sepL ((proto m).hold ER c) ((waits ops).map .got) ⊢ got m c := Entails.of_eq (sepL_map _ _ _)
  have h4 := (proto m).spents_close ER c (waits ops) waits_all.1 waits_all.2
  iintro H
  ihave H := (h0.trans h1) $$ H
  icases H with ⟨Hs, H⟩
  imod h4 $$ Hs with Hs
  imodintro
  isplitr [Hs]
  · iapply h2; iexact H
  · iexact Hs

/-! ## Reading the end -/

/-- Device `c`'s block `s` of operand `a` is what it was. -/
def Kept (c : Dev nD) (a : Fin 3) (s : Dev nD) (σ : MemSt nD τ sig (Elt F)) : Prop :=
  (inM a s).view.read (Elt F) (σ.mem ((inM a s).view.loc (c : Thread nD τ))) = X m c a s

/-- What the end state says of what a wait handed over. -/
def Reads (c : Dev nD) : Cl → MemSt nD τ sig (Elt F) → Prop
  | .send a k, σ => Kept m c a (xr (k.val + 1) c) σ
  | .recv a k, σ => (outM a k (xr (k.val + 1) c)).view.read (Elt F) (σ.mem ((outM a k (xr (k.val + 1) c)).view.loc (c : Thread nD τ))) = X m (xr (k.val + 1) c) a c
  | .loc, σ => (outM 2 0 c).view.read (Elt F) (σ.mem ((outM 2 0 c).view.loc (c : Thread nD τ))) = X m c 2 c

theorem pay_read (c : Dev nD) (s' : Phys nD τ sig (Elt F)) : ∀ x : Cl, iprop(pay m (c, x) ∗ SI s') ⊢ (⌜Reads m c x s'.mem⌝ : sProp 𝕄)
  | .send a k => owns_read c _ _ _ s'
  | .recv a k => owns_read c _ _ _ s'
  | .loc => by
    refine BI.Entails.trans ?_ (owns_read c (outM 2 0 c) fullShare (X m c 2 c) s')
    show iprop((owns (c : Thread nD τ) (outM 2 0 c) fullShare (X m c 2 c) ∗ owns (c : Thread nD τ) (inM 2 c) (eighth 7) (X m c 2 c)) ∗ SI s') ⊢ _
    iintro ⟨⟨H, -⟩, HS⟩
    isplitl [H] <;> iassumption

/-- The end state, read at everything that was handed over. -/
theorem got_read (c : Dev nD) (s' : Phys nD τ sig (Elt F)) : iprop(got m c ∗ SI s') ⊢ (⌜∀ x, Reads m c x s'.mem⌝ : sProp 𝕄) := by
  have hl : ∀ l : List Cl, iprop(sepL (fun x => pay m (c, x)) l ∗ SI s') ⊢ (⌜∀ x ∈ l, Reads m c x s'.mem⌝ : sProp 𝕄) := by
    intro l
    induction l with
    | nil =>
      iintro -
      ipureintro
      exact fun t ht => absurd ht (by simp)
    | cons t l ih =>
      refine (show _ ⊢ iprop(⌜Reads m c t s'.mem⌝ ∧ ⌜∀ x ∈ l, Reads m c x s'.mem⌝) from BI.and_intro ?_ ?_).trans ?_
      · refine BI.Entails.trans ?_ (pay_read m c s' t)
        show iprop((pay m (c, t) ∗ sepL (fun x => pay m (c, x)) l) ∗ SI s') ⊢ iprop(pay m (c, t) ∗ SI s')
        iintro ⟨⟨H, -⟩, HS⟩
        isplitl [H] <;> iassumption
      · refine BI.Entails.trans ?_ ih
        show iprop((pay m (c, t) ∗ sepL (fun x => pay m (c, x)) l) ∗ SI s') ⊢ iprop(sepL (fun x => pay m (c, x)) l ∗ SI s')
        iintro ⟨⟨-, H⟩, HS⟩
        isplitl [H] <;> iassumption
      · iintro ⟨%h1, %h2⟩
        ipureintro
        exact fun t' ht => (List.mem_cons.mp ht).elim (fun e => e ▸ h1) (h2 t')
  refine (hl (waits ops)).trans (show (⌜∀ x ∈ waits ops, Reads m c x s'.mem⌝ : sProp 𝕄) ⊢ ⌜∀ x, Reads m c x s'.mem⌝ from ?_)
  iintro %h
  ipureintro
  exact fun x => h x (waits_all.2 x)

theorem keep_read (c : Dev nD) (s' : Phys nD τ sig (Elt F)) : iprop(keep m c ∗ SI s') ⊢ (⌜Kept m c 0 c s'.mem ∧ Kept m c 1 c s'.mem⌝ : sProp 𝕄) := by
  have h0 : iprop(owns (c : Thread nD τ) (inM 0 c) fullShare (X m c 0 c) ∗ SI s') ⊢ (⌜Kept m c 0 c s'.mem⌝ : sProp 𝕄) := owns_read c (inM 0 c) fullShare (X m c 0 c) s'
  have h1 : iprop(owns (c : Thread nD τ) (inM 1 c) fullShare (X m c 1 c) ∗ SI s') ⊢ (⌜Kept m c 1 c s'.mem⌝ : sProp 𝕄) := owns_read c (inM 1 c) fullShare (X m c 1 c) s'
  refine (show _ ⊢ (iprop(⌜Kept m c 0 c s'.mem⌝ ∧ ⌜Kept m c 1 c s'.mem⌝) : sProp 𝕄) from BI.and_intro ?_ ?_).trans ?_
  · refine BI.Entails.trans ?_ h0
    show iprop((owns (c : Thread nD τ) (inM 0 c) fullShare (X m c 0 c) ∗ owns (c : Thread nD τ) (inM 1 c) fullShare (X m c 1 c)) ∗ SI s') ⊢ iprop(owns (c : Thread nD τ) (inM 0 c) fullShare (X m c 0 c) ∗ SI s')
    iintro ⟨⟨H, -⟩, HS⟩
    isplitl [H] <;> iassumption
  · refine BI.Entails.trans ?_ h1
    show iprop((owns (c : Thread nD τ) (inM 0 c) fullShare (X m c 0 c) ∗ owns (c : Thread nD τ) (inM 1 c) fullShare (X m c 1 c)) ∗ SI s') ⊢ iprop(owns (c : Thread nD τ) (inM 1 c) fullShare (X m c 1 c) ∗ SI s')
    iintro ⟨⟨-, H⟩, HS⟩
    isplitl [H] <;> iassumption
  · show (iprop(⌜Kept m c 0 c s'.mem⌝ ∧ ⌜Kept m c 1 c s'.mem⌝) : sProp 𝕄) ⊢ ⌜Kept m c 0 c s'.mem ∧ Kept m c 1 c s'.mem⌝
    iintro ⟨%h1, %h2⟩
    ipureintro
    exact ⟨h1, h2⟩

end Cert.Swap
-- ==== Proof.ExchangeBodyA.lean ====
/-
# The exchange's body: its addresses and the sends

Each part of the printed body takes the state before its first operation to the state after its last.
-/
module

public import proofs.«01_k».proof.Proof.ExchangeDefs
public import proofs.«01_k».proof.Proof.Gen.ExchangeIdeal.Skeleton

@[expose] public section

noncomputable section

namespace Cert.Swap

open Cert.ExchangeIdeal Cert.ExchangeIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Script

variable {F : FTy → Type}

local notation "𝕄" => MT nD τ sig Unit (Elt F) ℕ UU ℕ

/-! The printed offsets and devices, in closed form. -/

theorem off1 : ∀ c : Dev nD, k0_off1 c = ![c.val, 0, 0] := by decide +kernel
theorem off2 : ∀ c : Dev nD, k0_off2 c = ![(xr (0 + 1) c).val, 0, 0] := by decide +kernel
theorem off3 : ∀ c : Dev nD, k0_off3 c = ![(xr (0 + 1) c).val, 0, 0] := by decide +kernel
theorem off4 : ∀ c : Dev nD, k0_off4 c = ![(xr (1 + 1) c).val, 0, 0] := by decide +kernel
theorem off5 : ∀ c : Dev nD, k0_off5 c = ![(xr (1 + 1) c).val, 0, 0] := by decide +kernel
theorem off6 : ∀ c : Dev nD, k0_off6 c = ![(xr (2 + 1) c).val, 0, 0] := by decide +kernel
theorem off7 : ∀ c : Dev nD, k0_off7 c = ![(xr (2 + 1) c).val, 0, 0] := by decide +kernel
theorem off8 : ∀ c : Dev nD, k0_off8 c = ![(xr (3 + 1) c).val, 0, 0] := by decide +kernel
theorem off9 : ∀ c : Dev nD, k0_off9 c = ![(xr (3 + 1) c).val, 0, 0] := by decide +kernel
theorem off10 : ∀ c : Dev nD, k0_off10 c = ![(xr (4 + 1) c).val, 0, 0] := by decide +kernel
theorem off11 : ∀ c : Dev nD, k0_off11 c = ![(xr (4 + 1) c).val, 0, 0] := by decide +kernel
theorem off12 : ∀ c : Dev nD, k0_off12 c = ![(xr (5 + 1) c).val, 0, 0] := by decide +kernel
theorem off13 : ∀ c : Dev nD, k0_off13 c = ![(xr (5 + 1) c).val, 0, 0] := by decide +kernel
theorem off14 : ∀ c : Dev nD, k0_off14 c = ![(xr (6 + 1) c).val, 0, 0] := by decide +kernel
theorem off15 : ∀ c : Dev nD, k0_off15 c = ![(xr (6 + 1) c).val, 0, 0] := by decide +kernel
theorem dev1 : ∀ c : Dev nD, (⟨k0_dev1 c, k0_dev1_lt c⟩ : Dev nD) = xr (0 + 1) c := by decide +kernel
theorem dev2 : ∀ c : Dev nD, (⟨k0_dev2 c, k0_dev2_lt c⟩ : Dev nD) = xr (0 + 1) c := by decide +kernel
theorem dev3 : ∀ c : Dev nD, (⟨k0_dev3 c, k0_dev3_lt c⟩ : Dev nD) = xr (0 + 1) c := by decide +kernel
theorem dev4 : ∀ c : Dev nD, (⟨k0_dev4 c, k0_dev4_lt c⟩ : Dev nD) = xr (1 + 1) c := by decide +kernel
theorem dev5 : ∀ c : Dev nD, (⟨k0_dev5 c, k0_dev5_lt c⟩ : Dev nD) = xr (1 + 1) c := by decide +kernel
theorem dev6 : ∀ c : Dev nD, (⟨k0_dev6 c, k0_dev6_lt c⟩ : Dev nD) = xr (1 + 1) c := by decide +kernel
theorem dev7 : ∀ c : Dev nD, (⟨k0_dev7 c, k0_dev7_lt c⟩ : Dev nD) = xr (2 + 1) c := by decide +kernel
theorem dev8 : ∀ c : Dev nD, (⟨k0_dev8 c, k0_dev8_lt c⟩ : Dev nD) = xr (2 + 1) c := by decide +kernel
theorem dev9 : ∀ c : Dev nD, (⟨k0_dev9 c, k0_dev9_lt c⟩ : Dev nD) = xr (2 + 1) c := by decide +kernel
theorem dev10 : ∀ c : Dev nD, (⟨k0_dev10 c, k0_dev10_lt c⟩ : Dev nD) = xr (3 + 1) c := by decide +kernel
theorem dev11 : ∀ c : Dev nD, (⟨k0_dev11 c, k0_dev11_lt c⟩ : Dev nD) = xr (3 + 1) c := by decide +kernel
theorem dev12 : ∀ c : Dev nD, (⟨k0_dev12 c, k0_dev12_lt c⟩ : Dev nD) = xr (3 + 1) c := by decide +kernel
theorem dev13 : ∀ c : Dev nD, (⟨k0_dev13 c, k0_dev13_lt c⟩ : Dev nD) = xr (4 + 1) c := by decide +kernel
theorem dev14 : ∀ c : Dev nD, (⟨k0_dev14 c, k0_dev14_lt c⟩ : Dev nD) = xr (4 + 1) c := by decide +kernel
theorem dev15 : ∀ c : Dev nD, (⟨k0_dev15 c, k0_dev15_lt c⟩ : Dev nD) = xr (4 + 1) c := by decide +kernel
theorem dev16 : ∀ c : Dev nD, (⟨k0_dev16 c, k0_dev16_lt c⟩ : Dev nD) = xr (5 + 1) c := by decide +kernel
theorem dev17 : ∀ c : Dev nD, (⟨k0_dev17 c, k0_dev17_lt c⟩ : Dev nD) = xr (5 + 1) c := by decide +kernel
theorem dev18 : ∀ c : Dev nD, (⟨k0_dev18 c, k0_dev18_lt c⟩ : Dev nD) = xr (5 + 1) c := by decide +kernel
theorem dev19 : ∀ c : Dev nD, (⟨k0_dev19 c, k0_dev19_lt c⟩ : Dev nD) = xr (6 + 1) c := by decide +kernel
theorem dev20 : ∀ c : Dev nD, (⟨k0_dev20 c, k0_dev20_lt c⟩ : Dev nD) = xr (6 + 1) c := by decide +kernel
theorem dev21 : ∀ c : Dev nD, (⟨k0_dev21 c, k0_dev21_lt c⟩ : Dev nD) = xr (6 + 1) c := by decide +kernel

/-- Part 1: operations 0 to 0. -/
theorem part1 [FloatOps F] (m : (ℓ : Loc nD τ sig) → Buf (Elt F) ℓ) (c : Dev nD) : St m c 0 ⊢ wp frame (wpE (defs₀ (F := F)) Variants.none (c.tc) none) Set.univ
    (k0_part1 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2) (fun r => iprop(⌜r.1 = c⌝ ∗ St m c 1)) := by
  rw [k0_part1_eq_skeleton]
  unfold k0_part1_skel
  simp only [Prog.lift, Prog.bind_op, Prog.bind_ret, Prog.pure_eq_ret, Prog.bind_assoc, wp_deviceId]
  refine step_loc m 0 rfl rfl (out2_eq _ _ 0 _ (off1 c)) rfl ?_
  rw [wp_ret]
  iintro H
  imodintro
  isplitr
  · ipureintro; rfl
  iexact H

/-- Part 2: operations 1 to 2. -/
theorem part2 [FloatOps F] (m : (ℓ : Loc nD τ sig) → Buf (Elt F) ℓ) (c : Dev nD) (v2 v5 v13 v31 c2_i32_21 : BitVec 32) : St m c 1 ⊢ wp frame (wpE (defs₀ (F := F)) Variants.none (c.tc) none) Set.univ
    (k0_part2 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v13 v31 c2_i32_21) (fun _ => St m c 3) := by
  rw [k0_part2_eq_skeleton]
  unfold k0_part2_skel
  simp only [Prog.lift, Prog.bind_op, Prog.bind_ret, Prog.pure_eq_ret, Prog.bind_assoc]
  refine step_send m 1 0 0 rfl (in0_eq _ _ _ (off2 c)) rfl (dev1 c) rfl rfl ?_
  refine step_send m 2 1 0 rfl (in1_eq _ _ _ (off3 c)) rfl (dev2 c) rfl rfl ?_
  rw [wp_ret]
  iintro H
  imodintro
  iexact H

/-- Part 3: operations 3 to 3. -/
theorem part3 [FloatOps F] (m : (ℓ : Loc nD τ sig) → Buf (Elt F) ℓ) (c : Dev nD) (v2 v5 v8 v13 v14 : BitVec 32) : St m c 3 ⊢ wp frame (wpE (defs₀ (F := F)) Variants.none (c.tc) none) Set.univ
    (k0_part3 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v13 v14) (fun _ => St m c 4) := by
  rw [k0_part3_eq_skeleton]
  unfold k0_part3_skel
  simp only [Prog.lift, Prog.bind_op, Prog.bind_ret, Prog.pure_eq_ret, Prog.bind_assoc]
  refine step_send m 3 2 0 rfl rfl (out2_eq _ _ 0 _ (off1 c)) (dev3 c) rfl rfl ?_
  rw [wp_ret]
  iintro H
  imodintro
  iexact H

/-- Part 4: operations 4 to 6. -/
theorem part4 [FloatOps F] (m : (ℓ : Loc nD τ sig) → Buf (Elt F) ℓ) (c : Dev nD) (v2 v8 v14 v15 v16 : BitVec 32) : St m c 4 ⊢ wp frame (wpE (defs₀ (F := F)) Variants.none (c.tc) none) Set.univ
    (k0_part4 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v8 v14 v15 v16) (fun _ => St m c 7) := by
  rw [k0_part4_eq_skeleton]
  unfold k0_part4_skel
  simp only [Prog.lift, Prog.bind_op, Prog.bind_ret, Prog.pure_eq_ret, Prog.bind_assoc]
  refine step_send m 4 0 1 rfl (in0_eq _ _ _ (off4 c)) rfl (dev4 c) rfl rfl ?_
  refine step_send m 5 1 1 rfl (in1_eq _ _ _ (off5 c)) rfl (dev5 c) rfl rfl ?_
  refine step_send m 6 2 1 rfl rfl (out2_eq _ _ 1 _ (off1 c)) (dev6 c) rfl rfl ?_
  rw [wp_ret]
  iintro H
  imodintro
  iexact H

/-- Part 5: operations 7 to 7. -/
theorem part5 [FloatOps F] (m : (ℓ : Loc nD τ sig) → Buf (Elt F) ℓ) (c : Dev nD) (v2 v15 v16 c4_i32_100 : BitVec 32) : St m c 7 ⊢ wp frame (wpE (defs₀ (F := F)) Variants.none (c.tc) none) Set.univ
    (k0_part5 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v15 v16 c4_i32_100) (fun _ => St m c 8) := by
  rw [k0_part5_eq_skeleton]
  unfold k0_part5_skel
  simp only [Prog.lift, Prog.bind_op, Prog.bind_ret, Prog.pure_eq_ret, Prog.bind_assoc]
  refine step_send m 7 0 2 rfl (in0_eq _ _ _ (off6 c)) rfl (dev7 c) rfl rfl ?_
  rw [wp_ret]
  iintro H
  imodintro
  iexact H

/-- Part 6: operations 8 to 9. -/
theorem part6 [FloatOps F] (m : (ℓ : Loc nD τ sig) → Buf (Elt F) ℓ) (c : Dev nD) (v2 v5 v8 v15 v16 v17 : BitVec 32) : St m c 8 ⊢ wp frame (wpE (defs₀ (F := F)) Variants.none (c.tc) none) Set.univ
    (k0_part6 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v15 v16 v17) (fun _ => St m c 10) := by
  rw [k0_part6_eq_skeleton]
  unfold k0_part6_skel
  simp only [Prog.lift, Prog.bind_op, Prog.bind_ret, Prog.pure_eq_ret, Prog.bind_assoc]
  refine step_send m 8 1 2 rfl (in1_eq _ _ _ (off7 c)) rfl (dev8 c) rfl rfl ?_
  refine step_send m 9 2 2 rfl rfl (out2_eq _ _ 2 _ (off1 c)) (dev9 c) rfl rfl ?_
  rw [wp_ret]
  iintro H
  imodintro
  iexact H

/-- Part 7: operations 10 to 12. -/
theorem part7 [FloatOps F] (m : (ℓ : Loc nD τ sig) → Buf (Elt F) ℓ) (c : Dev nD) (v5 v8 v17 v18 : BitVec 32) : St m c 10 ⊢ wp frame (wpE (defs₀ (F := F)) Variants.none (c.tc) none) Set.univ
    (k0_part7 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v5 v8 v17 v18) (fun _ => St m c 13) := by
  rw [k0_part7_eq_skeleton]
  unfold k0_part7_skel
  simp only [Prog.lift, Prog.bind_op, Prog.bind_ret, Prog.pure_eq_ret, Prog.bind_assoc]
  refine step_send m 10 0 3 rfl (in0_eq _ _ _ (off8 c)) rfl (dev10 c) rfl rfl ?_
  refine step_send m 11 1 3 rfl (in1_eq _ _ _ (off9 c)) rfl (dev11 c) rfl rfl ?_
  refine step_send m 12 2 3 rfl rfl (out2_eq _ _ 3 _ (off1 c)) (dev12 c) rfl rfl ?_
  rw [wp_ret]
  iintro H
  imodintro
  iexact H

/-- Part 8: operations 13 to 13. -/
theorem part8 [FloatOps F] (m : (ℓ : Loc nD τ sig) → Buf (Elt F) ℓ) (c : Dev nD) (v5 v18 v19 v221 : BitVec 32) : St m c 13 ⊢ wp frame (wpE (defs₀ (F := F)) Variants.none (c.tc) none) Set.univ
    (k0_part8 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v5 v18 v19 v221) (fun _ => St m c 14) := by
  rw [k0_part8_eq_skeleton]
  unfold k0_part8_skel
  simp only [Prog.lift, Prog.bind_op, Prog.bind_ret, Prog.pure_eq_ret, Prog.bind_assoc]
  refine step_send m 13 0 4 rfl (in0_eq _ _ _ (off10 c)) rfl (dev13 c) rfl rfl ?_
  rw [wp_ret]
  iintro H
  imodintro
  iexact H

/-- Part 9: operations 14 to 15. -/
theorem part9 [FloatOps F] (m : (ℓ : Loc nD τ sig) → Buf (Elt F) ℓ) (c : Dev nD) (v5 v8 v18 v19 v20 v21 : BitVec 32) : St m c 14 ⊢ wp frame (wpE (defs₀ (F := F)) Variants.none (c.tc) none) Set.univ
    (k0_part9 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v5 v8 v18 v19 v20 v21) (fun _ => St m c 16) := by
  rw [k0_part9_eq_skeleton]
  unfold k0_part9_skel
  simp only [Prog.lift, Prog.bind_op, Prog.bind_ret, Prog.pure_eq_ret, Prog.bind_assoc]
  refine step_send m 14 1 4 rfl (in1_eq _ _ _ (off11 c)) rfl (dev14 c) rfl rfl ?_
  refine step_send m 15 2 4 rfl rfl (out2_eq _ _ 4 _ (off1 c)) (dev15 c) rfl rfl ?_
  rw [wp_ret]
  iintro H
  imodintro
  iexact H

/-- Part 10: operations 16 to 18. -/
theorem part10 [FloatOps F] (m : (ℓ : Loc nD τ sig) → Buf (Elt F) ℓ) (c : Dev nD) (v8 v20 v21 v22 : BitVec 32) : St m c 16 ⊢ wp frame (wpE (defs₀ (F := F)) Variants.none (c.tc) none) Set.univ
    (k0_part10 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v8 v20 v21 v22) (fun _ => St m c 19) := by
  rw [k0_part10_eq_skeleton]
  unfold k0_part10_skel
  simp only [Prog.lift, Prog.bind_op, Prog.bind_ret, Prog.pure_eq_ret, Prog.bind_assoc]
  refine step_send m 16 0 5 rfl (in0_eq _ _ _ (off12 c)) rfl (dev16 c) rfl rfl ?_
  refine step_send m 17 1 5 rfl (in1_eq _ _ _ (off13 c)) rfl (dev17 c) rfl rfl ?_
  refine step_send m 18 2 5 rfl rfl (out2_eq _ _ 5 _ (off1 c)) (dev18 c) rfl rfl ?_
  rw [wp_ret]
  iintro H
  imodintro
  iexact H

/-- Part 11: operations 19 to 19. -/
theorem part11 [FloatOps F] (m : (ℓ : Loc nD τ sig) → Buf (Elt F) ℓ) (c : Dev nD) (v22 v23 v24 v315 c2_i32_257 : BitVec 32) : St m c 19 ⊢ wp frame (wpE (defs₀ (F := F)) Variants.none (c.tc) none) Set.univ
    (k0_part11 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v22 v23 v24 v315 c2_i32_257) (fun _ => St m c 20) := by
  rw [k0_part11_eq_skeleton]
  unfold k0_part11_skel
  simp only [Prog.lift, Prog.bind_op, Prog.bind_ret, Prog.pure_eq_ret, Prog.bind_assoc]
  refine step_send m 19 0 6 rfl (in0_eq _ _ _ (off14 c)) rfl (dev19 c) rfl rfl ?_
  rw [wp_ret]
  iintro H
  imodintro
  iexact H

/-- Part 12: operations 20 to 22. -/
theorem part12 [FloatOps F] (m : (ℓ : Loc nD τ sig) → Buf (Elt F) ℓ) (c : Dev nD) (v2 v5 v13 v22 v23 v24 : BitVec 32) : St m c 20 ⊢ wp frame (wpE (defs₀ (F := F)) Variants.none (c.tc) none) Set.univ
    (k0_part12 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v13 v22 v23 v24) (fun _ => St m c 23) := by
  rw [k0_part12_eq_skeleton]
  unfold k0_part12_skel
  simp only [Prog.lift, Prog.bind_op, Prog.bind_ret, Prog.pure_eq_ret, Prog.bind_assoc]
  refine step_send m 20 1 6 rfl (in1_eq _ _ _ (off15 c)) rfl (dev20 c) rfl rfl ?_
  refine step_send m 21 2 6 rfl rfl (out2_eq _ _ 6 _ (off1 c)) (dev21 c) rfl rfl ?_
  refine step_wait m 22 (.recv 0 0) rfl (by decide +kernel) (by decide +kernel) rfl rfl ?_
  rw [wp_ret]
  iintro H
  imodintro
  iexact H

end Cert.Swap
-- ==== Proof.ExchangeBodyB.lean ====
/-
# The exchange's body: the waits

Each part of the printed body takes the state before its first operation to the state after its last.
-/
module

public import proofs.«01_k».proof.Proof.ExchangeBodyA

@[expose] public section

noncomputable section

namespace Cert.Swap

open Cert.ExchangeIdeal Cert.ExchangeIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Script

variable {F : FTy → Type}

local notation "𝕄" => MT nD τ sig Unit (Elt F) ℕ UU ℕ

/-- Part 13: operations 23 to 24. -/
theorem part13 [FloatOps F] (m : (ℓ : Loc nD τ sig) → Buf (Elt F) ℓ) (c : Dev nD) (v2 v5 v8 v13 v14 : BitVec 32) : St m c 23 ⊢ wp frame (wpE (defs₀ (F := F)) Variants.none (c.tc) none) Set.univ
    (k0_part13 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v13 v14) (fun _ => St m c 25) := by
  rw [k0_part13_eq_skeleton]
  unfold k0_part13_skel
  simp only [Prog.lift, Prog.bind_op, Prog.bind_ret, Prog.pure_eq_ret, Prog.bind_assoc]
  refine step_wait m 23 (.recv 1 0) rfl (by decide +kernel) (by decide +kernel) rfl rfl ?_
  refine step_wait m 24 (.recv 2 0) rfl (by decide +kernel) (by decide +kernel) rfl rfl ?_
  rw [wp_ret]
  iintro H
  imodintro
  iexact H

/-- Part 14: operations 25 to 26. -/
theorem part14 [FloatOps F] (m : (ℓ : Loc nD τ sig) → Buf (Elt F) ℓ) (c : Dev nD) (v2 v8 v14 v405 : BitVec 32) : St m c 25 ⊢ wp frame (wpE (defs₀ (F := F)) Variants.none (c.tc) none) Set.univ
    (k0_part14 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v8 v14 v405) (fun _ => St m c 27) := by
  rw [k0_part14_eq_skeleton]
  unfold k0_part14_skel
  simp only [Prog.lift, Prog.bind_op, Prog.bind_ret, Prog.pure_eq_ret, Prog.bind_assoc]
  refine step_wait m 25 (.recv 0 1) rfl (by decide +kernel) (by decide +kernel) rfl rfl ?_
  refine step_wait m 26 (.recv 1 1) rfl (by decide +kernel) (by decide +kernel) rfl rfl ?_
  rw [wp_ret]
  iintro H
  imodintro
  iexact H

/-- Part 15: operations 27 to 28. -/
theorem part15 [FloatOps F] (m : (ℓ : Loc nD τ sig) → Buf (Elt F) ℓ) (c : Dev nD) (v2 v15 v16 : BitVec 32) : St m c 27 ⊢ wp frame (wpE (defs₀ (F := F)) Variants.none (c.tc) none) Set.univ
    (k0_part15 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v15 v16) (fun _ => St m c 29) := by
  rw [k0_part15_eq_skeleton]
  unfold k0_part15_skel
  simp only [Prog.lift, Prog.bind_op, Prog.bind_ret, Prog.pure_eq_ret, Prog.bind_assoc]
  refine step_wait m 27 (.recv 2 1) rfl (by decide +kernel) (by decide +kernel) rfl rfl ?_
  refine step_wait m 28 (.recv 0 2) rfl (by decide +kernel) (by decide +kernel) rfl rfl ?_
  rw [wp_ret]
  iintro H
  imodintro
  iexact H

/-- Part 16: operations 29 to 31. -/
theorem part16 [FloatOps F] (m : (ℓ : Loc nD τ sig) → Buf (Elt F) ℓ) (c : Dev nD) (v2 v5 v8 v15 v16 v17 : BitVec 32) : St m c 29 ⊢ wp frame (wpE (defs₀ (F := F)) Variants.none (c.tc) none) Set.univ
    (k0_part16 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v2 v5 v8 v15 v16 v17) (fun _ => St m c 32) := by
  rw [k0_part16_eq_skeleton]
  unfold k0_part16_skel
  simp only [Prog.lift, Prog.bind_op, Prog.bind_ret, Prog.pure_eq_ret, Prog.bind_assoc]
  refine step_wait m 29 (.recv 1 2) rfl (by decide +kernel) (by decide +kernel) rfl rfl ?_
  refine step_wait m 30 (.recv 2 2) rfl (by decide +kernel) (by decide +kernel) rfl rfl ?_
  refine step_wait m 31 (.recv 0 3) rfl (by decide +kernel) (by decide +kernel) rfl rfl ?_
  rw [wp_ret]
  iintro H
  imodintro
  iexact H

/-- Part 17: operations 32 to 33. -/
theorem part17 [FloatOps F] (m : (ℓ : Loc nD τ sig) → Buf (Elt F) ℓ) (c : Dev nD) (v5 v8 v17 v18 v19 : BitVec 32) : St m c 32 ⊢ wp frame (wpE (defs₀ (F := F)) Variants.none (c.tc) none) Set.univ
    (k0_part17 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v5 v8 v17 v18 v19) (fun _ => St m c 34) := by
  rw [k0_part17_eq_skeleton]
  unfold k0_part17_skel
  simp only [Prog.lift, Prog.bind_op, Prog.bind_ret, Prog.pure_eq_ret, Prog.bind_assoc]
  refine step_wait m 32 (.recv 1 3) rfl (by decide +kernel) (by decide +kernel) rfl rfl ?_
  refine step_wait m 33 (.recv 2 3) rfl (by decide +kernel) (by decide +kernel) rfl rfl ?_
  rw [wp_ret]
  iintro H
  imodintro
  iexact H

/-- Part 18: operations 34 to 35. -/
theorem part18 [FloatOps F] (m : (ℓ : Loc nD τ sig) → Buf (Elt F) ℓ) (c : Dev nD) (v5 v18 v19 v520 c2_i32_456 : BitVec 32) : St m c 34 ⊢ wp frame (wpE (defs₀ (F := F)) Variants.none (c.tc) none) Set.univ
    (k0_part18 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v5 v18 v19 v520 c2_i32_456) (fun _ => St m c 36) := by
  rw [k0_part18_eq_skeleton]
  unfold k0_part18_skel
  simp only [Prog.lift, Prog.bind_op, Prog.bind_ret, Prog.pure_eq_ret, Prog.bind_assoc]
  refine step_wait m 34 (.recv 0 4) rfl (by decide +kernel) (by decide +kernel) rfl rfl ?_
  refine step_wait m 35 (.recv 1 4) rfl (by decide +kernel) (by decide +kernel) rfl rfl ?_
  rw [wp_ret]
  iintro H
  imodintro
  iexact H

/-- Part 19: operations 36 to 37. -/
theorem part19 [FloatOps F] (m : (ℓ : Loc nD τ sig) → Buf (Elt F) ℓ) (c : Dev nD) (v8 v20 v21 : BitVec 32) : St m c 36 ⊢ wp frame (wpE (defs₀ (F := F)) Variants.none (c.tc) none) Set.univ
    (k0_part19 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v8 v20 v21) (fun _ => St m c 38) := by
  rw [k0_part19_eq_skeleton]
  unfold k0_part19_skel
  simp only [Prog.lift, Prog.bind_op, Prog.bind_ret, Prog.pure_eq_ret, Prog.bind_assoc]
  refine step_wait m 36 (.recv 2 4) rfl (by decide +kernel) (by decide +kernel) rfl rfl ?_
  refine step_wait m 37 (.recv 0 5) rfl (by decide +kernel) (by decide +kernel) rfl rfl ?_
  rw [wp_ret]
  iintro H
  imodintro
  iexact H

/-- Part 20: operations 38 to 40. -/
theorem part20 [FloatOps F] (m : (ℓ : Loc nD τ sig) → Buf (Elt F) ℓ) (c : Dev nD) (v8 v20 v21 v22 v23 v24 : BitVec 32) : St m c 38 ⊢ wp frame (wpE (defs₀ (F := F)) Variants.none (c.tc) none) Set.univ
    (k0_part20 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v8 v20 v21 v22 v23 v24) (fun _ => St m c 41) := by
  rw [k0_part20_eq_skeleton]
  unfold k0_part20_skel
  simp only [Prog.lift, Prog.bind_op, Prog.bind_ret, Prog.pure_eq_ret, Prog.bind_assoc]
  refine step_wait m 38 (.recv 1 5) rfl (by decide +kernel) (by decide +kernel) rfl rfl ?_
  refine step_wait m 39 (.recv 2 5) rfl (by decide +kernel) (by decide +kernel) rfl rfl ?_
  refine step_wait m 40 (.recv 0 6) rfl (by decide +kernel) (by decide +kernel) rfl rfl ?_
  rw [wp_ret]
  iintro H
  imodintro
  iexact H

/-- Part 21: operations 41 to 43. -/
theorem part21 [FloatOps F] (m : (ℓ : Loc nD τ sig) → Buf (Elt F) ℓ) (c : Dev nD) (v22 v23 v24 c4_i32_543 : BitVec 32) : St m c 41 ⊢ wp frame (wpE (defs₀ (F := F)) Variants.none (c.tc) none) Set.univ
    (k0_part21 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c v22 v23 v24 c4_i32_543) (fun _ => St m c 44) := by
  rw [k0_part21_eq_skeleton]
  unfold k0_part21_skel
  simp only [Prog.lift, Prog.bind_op, Prog.bind_ret, Prog.pure_eq_ret, Prog.bind_assoc]
  refine step_wait m 41 (.recv 1 6) rfl (by decide +kernel) (by decide +kernel) rfl rfl ?_
  refine step_wait m 42 (.recv 2 6) rfl (by decide +kernel) (by decide +kernel) rfl rfl ?_
  refine step_wait m 43 (.send 0 0) rfl (by decide +kernel) (by decide +kernel) rfl rfl ?_
  rw [wp_ret]
  iintro H
  imodintro
  iexact H

/-- Part 22: operations 44 to 46. -/
theorem part22 [FloatOps F] (m : (ℓ : Loc nD τ sig) → Buf (Elt F) ℓ) (c : Dev nD) : St m c 44 ⊢ wp frame (wpE (defs₀ (F := F)) Variants.none (c.tc) none) Set.univ
    (k0_part22 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c ) (fun _ => St m c 47) := by
  rw [k0_part22_eq_skeleton]
  unfold k0_part22_skel
  simp only [Prog.lift, Prog.bind_op, Prog.bind_ret, Prog.pure_eq_ret, Prog.bind_assoc]
  refine step_wait m 44 (.send 1 0) rfl (by decide +kernel) (by decide +kernel) rfl rfl ?_
  refine step_wait m 45 (.send 2 0) rfl (by decide +kernel) (by decide +kernel) rfl rfl ?_
  refine step_wait m 46 (.send 0 1) rfl (by decide +kernel) (by decide +kernel) rfl rfl ?_
  rw [wp_ret]
  iintro H
  imodintro
  iexact H

/-- Part 23: operations 47 to 51. -/
theorem part23 [FloatOps F] (m : (ℓ : Loc nD τ sig) → Buf (Elt F) ℓ) (c : Dev nD) : St m c 47 ⊢ wp frame (wpE (defs₀ (F := F)) Variants.none (c.tc) none) Set.univ
    (k0_part23 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c ) (fun _ => St m c 52) := by
  rw [k0_part23_eq_skeleton]
  unfold k0_part23_skel
  simp only [Prog.lift, Prog.bind_op, Prog.bind_ret, Prog.pure_eq_ret, Prog.bind_assoc]
  refine step_wait m 47 (.send 1 1) rfl (by decide +kernel) (by decide +kernel) rfl rfl ?_
  refine step_wait m 48 (.send 2 1) rfl (by decide +kernel) (by decide +kernel) rfl rfl ?_
  refine step_wait m 49 (.send 0 2) rfl (by decide +kernel) (by decide +kernel) rfl rfl ?_
  refine step_wait m 50 (.send 1 2) rfl (by decide +kernel) (by decide +kernel) rfl rfl ?_
  refine step_wait m 51 (.send 2 2) rfl (by decide +kernel) (by decide +kernel) rfl rfl ?_
  rw [wp_ret]
  iintro H
  imodintro
  iexact H

/-- Part 24: operations 52 to 54. -/
theorem part24 [FloatOps F] (m : (ℓ : Loc nD τ sig) → Buf (Elt F) ℓ) (c : Dev nD) : St m c 52 ⊢ wp frame (wpE (defs₀ (F := F)) Variants.none (c.tc) none) Set.univ
    (k0_part24 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c ) (fun _ => St m c 55) := by
  rw [k0_part24_eq_skeleton]
  unfold k0_part24_skel
  simp only [Prog.lift, Prog.bind_op, Prog.bind_ret, Prog.pure_eq_ret, Prog.bind_assoc]
  refine step_wait m 52 (.send 0 3) rfl (by decide +kernel) (by decide +kernel) rfl rfl ?_
  refine step_wait m 53 (.send 1 3) rfl (by decide +kernel) (by decide +kernel) rfl rfl ?_
  refine step_wait m 54 (.send 2 3) rfl (by decide +kernel) (by decide +kernel) rfl rfl ?_
  rw [wp_ret]
  iintro H
  imodintro
  iexact H

/-- Part 25: operations 55 to 58. -/
theorem part25 [FloatOps F] (m : (ℓ : Loc nD τ sig) → Buf (Elt F) ℓ) (c : Dev nD) : St m c 55 ⊢ wp frame (wpE (defs₀ (F := F)) Variants.none (c.tc) none) Set.univ
    (k0_part25 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c ) (fun _ => St m c 59) := by
  rw [k0_part25_eq_skeleton]
  unfold k0_part25_skel
  simp only [Prog.lift, Prog.bind_op, Prog.bind_ret, Prog.pure_eq_ret, Prog.bind_assoc]
  refine step_wait m 55 (.send 0 4) rfl (by decide +kernel) (by decide +kernel) rfl rfl ?_
  refine step_wait m 56 (.send 1 4) rfl (by decide +kernel) (by decide +kernel) rfl rfl ?_
  refine step_wait m 57 (.send 2 4) rfl (by decide +kernel) (by decide +kernel) rfl rfl ?_
  refine step_wait m 58 (.send 0 5) rfl (by decide +kernel) (by decide +kernel) rfl rfl ?_
  rw [wp_ret]
  iintro H
  imodintro
  iexact H

/-- Part 26: operations 59 to 62. -/
theorem part26 [FloatOps F] (m : (ℓ : Loc nD τ sig) → Buf (Elt F) ℓ) (c : Dev nD) : St m c 59 ⊢ wp frame (wpE (defs₀ (F := F)) Variants.none (c.tc) none) Set.univ
    (k0_part26 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2 c ) (fun _ => St m c 63) := by
  rw [k0_part26_eq_skeleton]
  unfold k0_part26_skel
  simp only [Prog.lift, Prog.bind_op, Prog.bind_ret, Prog.pure_eq_ret, Prog.bind_assoc]
  refine step_wait m 59 (.send 1 5) rfl (by decide +kernel) (by decide +kernel) rfl rfl ?_
  refine step_wait m 60 (.send 2 5) rfl (by decide +kernel) (by decide +kernel) rfl rfl ?_
  refine step_wait m 61 (.send 0 6) rfl (by decide +kernel) (by decide +kernel) rfl rfl ?_
  refine step_wait m 62 (.send 1 6) rfl (by decide +kernel) (by decide +kernel) rfl rfl ?_
  rw [wp_ret]
  iintro H
  imodintro
  iexact H

end Cert.Swap
-- ==== Proof.ExchangeBody.lean ====
/-
# The exchange's body: all of it

Each part of the printed body takes the state before its first operation to the state after its last.
-/
module

public import proofs.«01_k».proof.Proof.ExchangeBodyB

@[expose] public section

noncomputable section

namespace Cert.Swap

open Cert.ExchangeIdeal Cert.ExchangeIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Script

variable {F : FTy → Type}

local notation "𝕄" => MT nD τ sig Unit (Elt F) ℕ UU ℕ

/-- A pure premise of an entailment, as a hypothesis. -/
theorem of_pure {φ : Prop} {A B : sProp 𝕄} (h : φ → (A ⊢ B)) : iprop(⌜φ⌝ ∗ A) ⊢ B := by
  iintro ⟨%hφ, H⟩
  iapply (h hφ)
  iexact H

/-- The body: from the state before the first operation to the state after the last. -/
theorem body [FloatOps F] (m : (ℓ : Loc nD τ sig) → Buf (Elt F) ℓ) (c : Dev nD) : St m c 0 ⊢ wp frame (wpE (defs₀ (F := F)) Variants.none (c.tc) none) Set.univ
    (cc0_grad_exchange (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) cc0_scratch0 cc0_scratch1 cc0_scratch2) (fun _ => St m c 65) := by
  rw [cc0_grad_exchange_eq_skeleton]
  unfold cc0_grad_exchange_skel
  rw [wp_bind]
  refine BI.Entails.trans (part1 m c) (wp_mono _ _ _ fun r => ?_)
  obtain ⟨d0, v2, v5, v8, v13, v14, v15, v16, v17, v18, v19, v20, v21, v22, v23, v24, v31, v_last⟩ := r
  refine of_pure fun hd => ?_
  have hd : d0 = c := hd
  subst hd
  rw [wp_bind]
  refine BI.Entails.trans (part2 m _ _ _ _ _ _) (wp_mono _ _ _ fun r => ?_)
  rw [wp_bind]
  refine BI.Entails.trans (part3 m _ _ _ _ _ _) (wp_mono _ _ _ fun r => ?_)
  rw [wp_bind]
  refine BI.Entails.trans (part4 m _ _ _ _ _ _) (wp_mono _ _ _ fun r => ?_)
  rw [wp_bind]
  refine BI.Entails.trans (part5 m _ _ _ _ _) (wp_mono _ _ _ fun r => ?_)
  rw [wp_bind]
  refine BI.Entails.trans (part6 m _ _ _ _ _ _ _) (wp_mono _ _ _ fun r => ?_)
  rw [wp_bind]
  refine BI.Entails.trans (part7 m _ _ _ _ _) (wp_mono _ _ _ fun r => ?_)
  rw [wp_bind]
  refine BI.Entails.trans (part8 m _ _ _ _ _) (wp_mono _ _ _ fun r => ?_)
  rw [wp_bind]
  refine BI.Entails.trans (part9 m _ _ _ _ _ _ _) (wp_mono _ _ _ fun r => ?_)
  rw [wp_bind]
  refine BI.Entails.trans (part10 m _ _ _ _ _) (wp_mono _ _ _ fun r => ?_)
  rw [wp_bind]
  refine BI.Entails.trans (part11 m _ _ _ _ _ _) (wp_mono _ _ _ fun r => ?_)
  rw [wp_bind]
  refine BI.Entails.trans (part12 m _ _ _ _ _ _ _) (wp_mono _ _ _ fun r => ?_)
  rw [wp_bind]
  refine BI.Entails.trans (part13 m _ _ _ _ _ _) (wp_mono _ _ _ fun r => ?_)
  rw [wp_bind]
  refine BI.Entails.trans (part14 m _ _ _ _ _) (wp_mono _ _ _ fun r => ?_)
  rw [wp_bind]
  refine BI.Entails.trans (part15 m _ _ _ _) (wp_mono _ _ _ fun r => ?_)
  rw [wp_bind]
  refine BI.Entails.trans (part16 m _ _ _ _ _ _ _) (wp_mono _ _ _ fun r => ?_)
  rw [wp_bind]
  refine BI.Entails.trans (part17 m _ _ _ _ _ _) (wp_mono _ _ _ fun r => ?_)
  rw [wp_bind]
  refine BI.Entails.trans (part18 m _ _ _ _ _ _) (wp_mono _ _ _ fun r => ?_)
  rw [wp_bind]
  refine BI.Entails.trans (part19 m _ _ _ _) (wp_mono _ _ _ fun r => ?_)
  rw [wp_bind]
  refine BI.Entails.trans (part20 m _ _ _ _ _ _ _) (wp_mono _ _ _ fun r => ?_)
  rw [wp_bind]
  refine BI.Entails.trans (part21 m _ _ _ _ _) (wp_mono _ _ _ fun r => ?_)
  rw [wp_bind]
  refine BI.Entails.trans (part22 m _) (wp_mono _ _ _ fun r => ?_)
  rw [wp_bind]
  refine BI.Entails.trans (part23 m _) (wp_mono _ _ _ fun r => ?_)
  rw [wp_bind]
  refine BI.Entails.trans (part24 m _) (wp_mono _ _ _ fun r => ?_)
  rw [wp_bind]
  refine BI.Entails.trans (part25 m _) (wp_mono _ _ _ fun r => ?_)
  rw [wp_bind]
  refine BI.Entails.trans (part26 m _) (wp_mono _ _ _ fun r => ?_)
  simp only [Prog.lift, Prog.bind_op, Prog.bind_ret, Prog.pure_eq_ret, Prog.bind_assoc]
  refine step_wait m 63 (.send 2 6) rfl (by decide +kernel) (by decide +kernel) rfl rfl ?_
  refine step_wait m 64 .loc rfl (by decide +kernel) (by decide +kernel) rfl rfl ?_
  rw [wp_ret]
  iintro H
  imodintro
  iexact H

end Cert.Swap
-- ==== Proof.ExchangeRun.lean ====
/-
# The exchange's run

The program — one kernel, on eight devices — from any memory with zero counters: every weakly fair execution ends, with
every block of the operands as it was, place `k` of every device's results at the block the device `k + 1` bits away holds
for it, slot `s` at device `s`'s small array, and all counters at zero.
-/
module

public import proofs.«01_k».proof.Proof.FirstCall
public import proofs.«01_k».proof.Proof.ExchangeMem
public import proofs.«01_k».proof.Proof.ExchangeBody

@[expose] public section

noncomputable section

namespace Cert.Swap

open Cert.ExchangeIdeal Cert.ExchangeIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Script

variable {F : FTy → Type} [FloatOps F]

local notation "𝕄" => MT nD τ sig Unit (Elt F) ℕ UU ℕ

variable (m : (ℓ : Loc nD τ sig) → Buf (Elt F) ℓ)

/-- The kernel's own semaphores. -/
def osem (x : Cl) : SemLoc sig := .dma (semOf x)

theorem ownSemFacts : Pipeline.OwnSemFacts cfg0.spec osem := ⟨by decide, fun x y h => semOf_inj (by injection h), fun _ w => w.elim0⟩

/-- What a device starts its operations from. -/
def begins (c : Dev nD) : sProp 𝕄 := iprop(sepL ((proto m).need ER c) ops ∗ sepL ((proto m).hold ER c) ((Proto.sends ops).map fun p => .cred p.2))

/-- What a device starts from: that, and what it keeps aside. -/
def share (c : Dev nD) : sProp 𝕄 := iprop(begins m c ∗ keep m c)

/-- What a device ends with. -/
def final (c : Dev nD) : sProp 𝕄 := iprop(got m c ∗ keep m c)

/-- The kernel's two states: before and after its one point. -/
def dats (_ : Fin 1) (c : Dev nD) : Dat τ (Elt F) Unit ℕ UU ℕ cfg0 c where
  A w := w.elim0
  after w _ := w.elim0
  Φ t := match t with
    | ⟨0, _⟩ => iprop(share m c ∗ levAts (Proto.L (nD := nD) (τ := τ) (sig := sig)) (proto m).lv)
    | ⟨_ + 1, _⟩ => iprop(final m c ∗ Pipeline.ownSems0 osem c)
  q _ := fullShare
  owed t := match t with
    | ⟨0, _⟩ => (proto m).dues c ops
    | ⟨_ + 1, _⟩ => 0

abbrev 𝒱₀ : Variants := Variants.none

theorem sems_eq (c : Dev nD) : (Pipeline.ownSems0 osem c : sProp 𝕄) = bigSep Finset.univ fun x : Cl => (semVal ((proto m).cell (c, x)) 0 : sProp 𝕄) := rfl

theorem st_end (c : Dev nD) : St m c 65 ⊢ |={Set.univ}=> iprop((got m c ∗ Pipeline.ownSems0 osem c) ∗ ∃ W, owes (c.tc : Thread nD τ) (0 : CellTallies nD τ sig Unit) W) := by
  have h := collect m c
  unfold St Proto.St
  rw [its_eq]
  iintro ⟨-, Hi, Ho, -⟩
  imod h $$ Hi with Hi
  imodintro
  isplitl [Hi]; · iexact Hi
  iexact Ho

/-- The state before the first operation, from the kernel's first state. -/
theorem st_start (c : Dev nD) :
    iprop((share m c ∗ levAts (Proto.L (nD := nD) (τ := τ) (sig := sig)) (proto m).lv) ∗ (dats m 0 c).owesAt () t0_0.castSucc ∗ BI.emp) ⊢ iprop(St m c 0 ∗ keep m c) := by
  have ho : (dats m 0 c).owesAt () t0_0.castSucc ⊢ (iprop(∃ W, owes (c.tc : Thread nD τ) ((proto m).dues c ops) W) : sProp 𝕄) := by
    show iprop(∃ W, ⌜_⌝ ∗ owes (c.tc : Thread nD τ) ((proto m).dues c ops) W) ⊢ _
    iintro ⟨%W, -, Ho⟩
    iexists W
    iexact Ho
  unfold share begins St Proto.St
  rw [its_eq]
  iintro ⟨⟨⟨⟨Hn, Hh⟩, Hk⟩, Hl⟩, Ho, -⟩
  isplitr [Hk]
  · isplitl [Hn]; · iexact Hn
    isplitl [Hh]; · iexact Hh
    isplitl [Ho]; · iapply ho; iexact Ho
    iexact Hl
  iexact Hk

/-- The kernel's last state, from the state after the last operation. -/
theorem st_final (c : Dev nD) :
    iprop(St m c 65 ∗ keep m c) ⊢ |={Set.univ}=> iprop((final m c ∗ Pipeline.ownSems0 osem c) ∗ (dats m 0 c).owesAt () t0_0.succ ∗ BI.emp) := by
  have ho : iprop(∃ W, owes (c.tc : Thread nD τ) (0 : CellTallies nD τ sig Unit) W) ⊢ ((dats m 0 c).owesAt () t0_0.succ : sProp 𝕄) := by
    show _ ⊢ iprop(∃ W, ⌜_⌝ ∗ owes (c.tc : Thread nD τ) (0 : CellTallies nD τ sig Unit) W)
    iintro ⟨%W, Ho⟩
    iexists W
    isplitr; · ipureintro; exact fun _ _ => Or.inl trivial
    iexact Ho
  have h := st_end m c
  unfold final
  iintro ⟨H, Hk⟩
  imod h $$ H with ⟨⟨H, Hs⟩, Ho⟩
  imodintro
  isplitl [H Hk Hs]
  · isplitr [Hs]
    · isplitl [H] <;> iassumption
    iexact Hs
  isplitl [Ho]; · iapply ho; iexact Ho
  iempintro

/-- A run with an update after it. -/
theorem wp_after {c : Dev nD} {P R R' : sProp 𝕄} {p : Prog (TpuEff nD τ sig (Elt F) Λ₀ .tc) PUnit}
    (h : P ⊢ wp frame (wpE (defs₀ (F := F)) Variants.none (c.tc) none) Set.univ p (fun _ => R)) (h' : R ⊢ |={Set.univ}=> R') :
    P ⊢ wp frame (wpE (defs₀ (F := F)) Variants.none (c.tc) none) Set.univ p (fun _ => R') :=
  h.trans ((wp_mono _ _ _ fun _ => h').trans (wp_fupd _ _ _ _ _))

/-- A run beside something it does not touch. -/
theorem wp_beside {c : Dev nD} {P R K : sProp 𝕄} {p : Prog (TpuEff nD τ sig (Elt F) Λ₀ .tc) PUnit}
    (h : P ⊢ wp frame (wpE (defs₀ (F := F)) Variants.none (c.tc) none) Set.univ p (fun _ => R)) :
    iprop(P ∗ K) ⊢ wp frame (wpE (defs₀ (F := F)) Variants.none (c.tc) none) Set.univ p (fun _ => iprop(R ∗ K)) :=
  (BI.sep_mono h (BI.Entails.refl _)).trans (wp_frame_r _ _ _)

set_option maxRecDepth 16000 in
/-- The body from the kernel's first state to its last. -/
theorem body_run (c : Dev nD) :
    iprop((share m c ∗ levAts (Proto.L (nD := nD) (τ := τ) (sig := sig)) (proto m).lv) ∗ (dats m 0 c).owesAt () t0_0.castSucc ∗ BI.emp)
    ⊢ wp frame (wpE (defs₀ (F := F)) Variants.none (c.tc) none) Set.univ
    (cc0_grad_exchange (Memref.whole main_arg0) (Memref.isWhole_whole _) (Memref.whole main_arg1) (Memref.isWhole_whole _) (Memref.whole main_arg2) (Memref.isWhole_whole _)
      (Memref.whole main_v1_0) (Memref.isWhole_whole _) (Memref.whole main_v1_1) (Memref.isWhole_whole _) (Memref.whole main_v1_2) (Memref.isWhole_whole _) cc0_scratch0 cc0_scratch1 cc0_scratch2)
    (fun _ => iprop((final m c ∗ Pipeline.ownSems0 osem c) ∗ (dats m 0 c).owesAt () t0_0.succ ∗ BI.emp)) :=
  wp_after ((st_start m c).trans (wp_beside (body m c))) (st_final m c)

set_option maxRecDepth 16000 in
theorem body_obligation (c : Dev nD) : BodyObligation (dats (F := F) m 0 c) (defs₀ (F := F)) 𝒱₀ () Set.univ := fun t => by
  rw [fin_N0 t]
  rw [Finset.univ_eq_empty, BI.bigSep_empty, BI.bigSep_empty]
  exact body_run m c

theorem pay_storable (k : Dev nD × Cl) : Storable (upEmb : UEmb _ 𝕄) ((proto m).pay k) := by
  obtain ⟨d, x⟩ := k
  show Storable (upEmb : UEmb _ 𝕄) (pay m (d, x))
  unfold pay
  cases x with
  | send a k => infer_instance
  | recv a k => infer_instance
  | loc => infer_instance

/-- The resources of all devices together, dealt out. -/
theorem init_deal :
    iprop((bigSep Finset.univ fun c : Dev nD => iprop(Pipeline.ownSems0 osem c ∗ unscopedBufs c (fun b => m ((c.tc : Thread nD τ).loc b))
        ∗ Pipeline.launchCred (fun d => (proto m).dues d ops) c)) ∗ BI.own (ER (OneShot.launchElt (proto m).cell)))
      ⊢ |={Set.univ}=> (bigSep Finset.univ (share m) : sProp 𝕄) := by
  have hd := (proto m).deal ER (pay_storable m) (fun x d => peer_peer x d) waits_all pays_all
  have hm := deal_mem m
  have hc : (bigSep Finset.univ fun c : Dev nD => Pipeline.launchCred (fun d => (proto m).dues d ops) c)
      ⊢ (bigSep Finset.univ fun c : Dev nD => sepL ((proto m).hold ER c) ((Proto.sends ops).map fun p => .cred p.2) : sProp 𝕄) :=
    BI.bigSep_mono fun c _ => (proto m).launchCred_dues ER (fun x d => peer_peer x d) c
  have hs : iprop(((bigSep Finset.univ fun d : Dev nD => sepL ((proto m).need ER d) ops)
      ∗ bigSep Finset.univ fun c : Dev nD => sepL ((proto m).hold ER c) ((Proto.sends ops).map fun p => .cred p.2)) ∗ bigSep Finset.univ (keep m)) ⊢ (bigSep Finset.univ (share m) : sProp 𝕄) := by
    simp only [← BI.bigSep_sep']
    exact BI.Entails.refl _
  rw [BI.bigSep_sep', BI.bigSep_sep']
  iintro ⟨⟨Hs, Hb, Hc⟩, Hu⟩
  ihave Hb := hm $$ Hb
  icases Hb with ⟨Hb, Hk⟩
  ihave Hc := hc $$ Hc
  imod hd $$ [Hs Hb Hu] with Hn
  · isplitl [Hs]; · iexact Hs
    isplitl [Hu]; · iexact Hu
    iexact Hb
  imodintro
  iapply hs
  isplitr [Hk]
  · isplitl [Hn]; · iexact Hn
    iexact Hc
  iexact Hk

/-- The end state: on every device all that the waits handed over and all that was kept aside, and all counters at zero. -/
def Ends (s : MemSt nD τ sig (Elt F)) : Prop := (∀ c : Dev nD, (∀ x, Reads m c x s) ∧ Kept m c 0 c s ∧ Kept m c 1 c s) ∧ s.sem = fun _ => 0

theorem run_main (g : Dev nD → PrngReg) : θ_run defs (onTc (τ := τ) (main (F := F))) ⟨m, fun _ => 0, g⟩ (fun r => Ends m r.2) :=
  FirstCall.θ_run_first pcfgs (fun p => (cfgs p).toPCfg_adm) cellOf_inj EP defs₀ 𝒱₀ (Proto.L (nD := nD) (τ := τ) (sig := sig)) (proto m).lv (0 : Fin 1)
    winFacts0.to₀ ownSemFacts m g main (fun d => (proto m).dues d ops) (fun g h => if_neg h)
    (BI.own (ER (OneShot.launchElt (proto m).cell)))
    (initOf (Pipeline.cells cfgs cellOf_inj) (Pipeline.launchToks cfgs cellOf_inj), OneShot.launchElt (proto m).cell)
    (by
      iintro Hu
      ihave H := (ownU_pair _ _) $$ Hu
      icases H with ⟨HP, HX⟩
      imodintro
      isplitl [HP] <;> iassumption)
    (share m) (final m) (init_deal m)
    (fun c => by
      refine FirstCall.wp_first pcfgs (fun p => (cfgs p).toPCfg_adm) cellOf_inj EP defs₀ 𝒱₀ (Proto.L (nD := nD) (τ := τ) (sig := sig)) (proto m).lv (0 : Fin 1)
        winFacts0.to₀ ownSemFacts (dats m) ⟨fun w => w.elim0⟩ ⟨fun w => w.elim0⟩ stage_whole0 c (fun d => (proto m).dues d ops) g (share m) (final m)
        ?_ (scopedRest0_eq c) (body_obligation m c).loose rfl rfl (BI.Entails.refl _) (BI.Entails.refl _) ?_
      · unfold Pipeline.prefHeld
        rw [Finset.univ_eq_empty, BI.bigSep_empty]
      · show _ ⊢ iprop(|={Set.univ}=> ((final m c ∗ boundary (c.tc : Thread nD τ)) ∗ ∃ W, owes (c.tc : Thread nD τ) (0 : CellTallies nD τ sig Unit) W))
        iintro ⟨HY, Hb, Ho, -, -, -⟩
        imodintro
        isplitl [HY Hb]
        · isplitl [HY] <;> iassumption
        iexact Ho)
    (fun c s => (∀ x, Reads m c x s) ∧ Kept m c 0 c s ∧ Kept m c 1 c s)
    (fun c s' => by
      unfold final
      iintro ⟨⟨H0, H1⟩, HSI⟩
      ihave %h0 := (got_read m c s') $$ [H0 HSI]
      · isplitl [H0] <;> iassumption
      ihave %h1 := (keep_read m c s') $$ [H1 HSI]
      · isplitl [H1] <;> iassumption
      imodintro
      isplitr
      · ipureintro
        exact ⟨h0, h1⟩
      iexact HSI)
    (fun s h hs => ⟨h, sem_eq_zero_of_scoped (by decide) hs⟩)

end Cert.Swap
-- ==== Proof.ExchangeRef.lean ====
/-
# The exchanged arrays and the reference's

Of two arrays of 64 blocks, eight from each device, the reference puts block `8 (d xor (k+1)) + d` at place `7 d + k` of a
stack of 56; of the third it only names the devices' parts. What device `d` has at place `k` of its results is the block
that device `d xor (k+1)` holds as its block `d`, which is block `8 (d xor (k+1)) + d` of all.
-/
module

public import proofs.«01_k».proof.Proof.ExchangeRun
public import proofs.«01_k».proof.Proof.Stack
public import proofs.«01_k».proof.Proof.Gen.ExchangedIdeal.Run
public import proofs.«01_k».proof.Proof.Gen.Exchanged

@[expose] public section

noncomputable section

namespace Cert.Swap

open Idealize.ShloMosaic Cert.Stack

/-! ## The reference's side -/

/-- The block that place `t` of the reference's stacks holds. -/
def from64 (t : Fin 56) : Fin 64 := ⟨8 * ((t.val / 7) ^^^ (t.val % 7 + 1)) + t.val / 7, by revert t; decide⟩

section Stack
variable {α : Type}

/-- What the stack of 56 blocks of `A` holds. -/
def swapped (p q : ℕ) (A : (⟨3, ![64, p, q]⟩ : Shape).Idx → α) : (⟨3, ![56, p, q]⟩ : Shape).Idx → α := fun i => A (at3 (from64 (i 0)) (tl (n := 56) i))

/-- What an array of eight parts, one below the other, holds. -/
def parts (A : (⟨2, ![768, 128]⟩ : Shape).Idx → α) : (⟨3, ![8, 96, 128]⟩ : Shape).Idx → α :=
  fun i => Layout.block ⟨2, ![96, 128]⟩ ⟨2, ![768, 128]⟩ 0 8 (i 0) A (by decide) (tl (n := 8) i)

/-- Naming the parts: an array reshaped. -/
theorem parts_eq (A : (⟨2, ![768, 128]⟩ : Shape).Idx → α) (h : (⟨2, ![768, 128]⟩ : Shape).ShapeCasts ⟨3, ![8, 96, 128]⟩) : shapeCast ⟨3, ![8, 96, 128]⟩ A h = parts A := by
  funext i
  refine shapeCast_apply A h i _ ?_
  rw [Shape.rowMajor_val_two, Shape.rowMajor_val_three]
  show ((i 0).val * 96 + (i 1).val) * 128 + (i 2).val = _
  rfl

end Stack

section Ref
open Cert.ExchangedIdeal Cert.ExchangedIdeal.Gen

variable {F : FTy → Type} [FloatOps F]

theorem cuts0 (t : Fin 56) : S64x1024x642.Slices ![8 * ((t.val / 7) ^^^ (t.val % 7 + 1)) + t.val / 7, 0, 0] S1x1024x642 := by revert t; decide
theorem cuts1 (t : Fin 56) : S64x256x1024.Slices ![8 * ((t.val / 7) ^^^ (t.val % 7 + 1)) + t.val / 7, 0, 0] S1x256x1024 := by revert t; decide

/-- Block `t` of the reference's first stack, as it is cut out. -/
def cut0 (A : S64x1024x642.Idx → F .bf16) (t : Fin 56) : S1024x642.Idx → F .bf16 :=
  shapeCast _ (extractStridedSlice S1x1024x642 ![8 * ((t.val / 7) ^^^ (t.val % 7 + 1)) + t.val / 7, 0, 0] A (cuts0 t)) shapeCasts_S1x1024x642_S1024x642
/-- Block `t` of its second. -/
def cut1 (A : S64x256x1024.Idx → F .bf16) (t : Fin 56) : S256x1024.Idx → F .bf16 :=
  shapeCast _ (extractStridedSlice S1x256x1024 ![8 * ((t.val / 7) ^^^ (t.val % 7 + 1)) + t.val / 7, 0, 0] A (cuts1 t)) shapeCasts_S1x256x1024_S256x1024

set_option maxRecDepth 8192 in
/-- The reference's run: the two stacks, the third argument's parts, and the arguments unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v172) = swapped (α := F .bf16) 1024 642 (m ((c.tc : Thread nD τ).loc main_arg0))
      ∧ r.2.mem ((c.tc : Thread nD τ).loc main_v345) = swapped (α := F .bf16) 256 1024 (m ((c.tc : Thread nD τ).loc main_arg1))
      ∧ r.2.mem ((c.tc : Thread nD τ).loc main_v346) = parts (α := F .f32) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.ExchangedIdeal.Value.run m ρ)
  obtain ⟨h0, h1, h2, h3⟩ := h c
  refine ⟨h0.trans (funext fun i => ?_), h1.trans (funext fun i => ?_), h2.trans (parts_eq _ _), h3⟩
  · refine (concat56 (cut0 (m ((c.tc : Thread nD τ).loc main_arg0))) _ _ _ _ bcast_S1024x642_S1x1024x642_1_2 rfl rfl rfl rfl _ _ _ _ _ i).trans ?_
    exact cut_row _ (from64 (i 0)) _ rfl _ _ (tl (n := 56) i)
  · refine (concat56 (cut1 (m ((c.tc : Thread nD τ).loc main_arg1))) _ _ _ _ bcast_S256x1024_S1x256x1024_1_2 rfl rfl rfl rfl _ _ _ _ _ i).trans ?_
    exact cut_row _ (from64 (i 0)) _ rfl _ _ (tl (n := 56) i)

end Ref

/-! ## The kernel's side -/

section Kernel
open Cert.ExchangeIdeal Cert.ExchangeIdeal.Gen
open Idealize.ShloMosaic.TcCoe

variable {F : FTy → Type} [FloatOps F]
variable (m : (ℓ : Loc nD τ sig) → Buf (Elt F) ℓ)

/-! A block, read at a place in it, is the array at that place of that block. -/

theorem in0_read (f : S8x1024x642.Idx → F .bf16) (i : S8x1024x642.Idx) : (inM 0 (i 0)).view.read (Elt F) f (tl (n := 8) i) = f i := by
  show shapeCast S1024x642 ((Memref.whole main_arg0).view.readAt (Elt F) (Rect.unit (s := S8x1024x642) ![(i 0).val, 0, 0] S1x1024x642.size (inbI0 (i 0))).toLoadRect f) (show S1x1024x642.ShapeCasts S1024x642 by decide) (tl (n := 8) i) = f i
  refine (shapeCast_dropUnit_apply ![1024, 642] _ _ (tl (n := 8) i)).trans (congrArg f ?_)
  exact cons_tl i _ rfl ((Nat.zero_add _).trans (Nat.one_mul _)) ((Nat.zero_add _).trans (Nat.one_mul _))
theorem in1_read (f : S8x256x1024.Idx → F .bf16) (i : S8x256x1024.Idx) : (inM 1 (i 0)).view.read (Elt F) f (tl (n := 8) i) = f i := by
  show shapeCast S256x1024 ((Memref.whole main_arg1).view.readAt (Elt F) (Rect.unit (s := S8x256x1024) ![(i 0).val, 0, 0] S1x256x1024.size (inbI1 (i 0))).toLoadRect f) (show S1x256x1024.ShapeCasts S256x1024 by decide) (tl (n := 8) i) = f i
  refine (shapeCast_dropUnit_apply ![256, 1024] _ _ (tl (n := 8) i)).trans (congrArg f ?_)
  exact cons_tl i _ rfl ((Nat.zero_add _).trans (Nat.one_mul _)) ((Nat.zero_add _).trans (Nat.one_mul _))
theorem out0_read (f : S7x1024x642.Idx → F .bf16) (s : Dev nD) (i : S7x1024x642.Idx) : (outM 0 (i 0) s).view.read (Elt F) f (tl (n := 7) i) = f i := by
  show shapeCast S1024x642 ((Memref.whole main_v1_0).view.readAt (Elt F) (Rect.unit (s := S7x1024x642) ![(i 0).val, 0, 0] S1x1024x642.size (inbO0 (i 0))).toLoadRect f) (show S1x1024x642.ShapeCasts S1024x642 by decide) (tl (n := 7) i) = f i
  refine (shapeCast_dropUnit_apply ![1024, 642] _ _ (tl (n := 7) i)).trans (congrArg f ?_)
  exact cons_tl i _ rfl ((Nat.zero_add _).trans (Nat.one_mul _)) ((Nat.zero_add _).trans (Nat.one_mul _))
theorem out1_read (f : S7x256x1024.Idx → F .bf16) (s : Dev nD) (i : S7x256x1024.Idx) : (outM 1 (i 0) s).view.read (Elt F) f (tl (n := 7) i) = f i := by
  show shapeCast S256x1024 ((Memref.whole main_v1_1).view.readAt (Elt F) (Rect.unit (s := S7x256x1024) ![(i 0).val, 0, 0] S1x256x1024.size (inbO1 (i 0))).toLoadRect f) (show S1x256x1024.ShapeCasts S256x1024 by decide) (tl (n := 7) i) = f i
  refine (shapeCast_dropUnit_apply ![256, 1024] _ _ (tl (n := 7) i)).trans (congrArg f ?_)
  exact cons_tl i _ rfl ((Nat.zero_add _).trans (Nat.one_mul _)) ((Nat.zero_add _).trans (Nat.one_mul _))
theorem out2_read (f : S8x96x128.Idx → F .f32) (k : Fin 7) (i : S8x96x128.Idx) : (outM 2 k (i 0)).view.read (Elt F) f (tl (n := 8) i) = f i := by
  show shapeCast S96x128 ((Memref.whole main_v1_2).view.readAt (Elt F) (Rect.unit (s := S8x96x128) ![(i 0).val, 0, 0] S1x96x128.size (inbO2 (i 0))).toLoadRect f) (show S1x96x128.ShapeCasts S96x128 by decide) (tl (n := 8) i) = f i
  refine (shapeCast_dropUnit_apply ![96, 128] _ _ (tl (n := 8) i)).trans (congrArg f ?_)
  exact cons_tl i _ rfl ((Nat.zero_add _).trans (Nat.one_mul _)) ((Nat.zero_add _).trans (Nat.one_mul _))

/-- Every device is itself or one of the seven peers. -/
theorem peers (c s : Dev nD) : s = c ∨ ∃ k : Fin 7, s = xr (k.val + 1) c := by revert c s; decide

/-- The number of the block that device `c` gets at place `k`. -/
theorem from64_eq (c : Fin 8) (k : Fin 7) : (xr (k.val + 1) c).val * 8 + c.val = 8 * (((c.val * 7 + k.val) / 7) ^^^ ((c.val * 7 + k.val) % 7 + 1)) + (c.val * 7 + k.val) / 7 := by
  revert c k; decide

variable {m} {s : MemSt nD τ sig (Elt F)} (hs : Ends m s)
include hs

/-- At the end every block of an operand is what it was. -/
theorem kept (c : Dev nD) (a : Fin 2) (t : Dev nD) : Kept m c ⟨a.val, by omega⟩ t s := by
  rcases peers c t with rfl | ⟨k, rfl⟩
  · match a with
    | 0 => exact (hs.1 t).2.1
    | 1 => exact (hs.1 t).2.2
  · exact (hs.1 c).1 (.send ⟨a.val, by omega⟩ k)

/-- The operands are unchanged. -/
theorem args_kept (c : Dev nD) : s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2) :=
  ⟨funext fun i => (in0_read _ i).symm.trans ((congrFun (kept hs c 0 (i (0 : Fin 3))) (tl (n := 8) i)).trans (in0_read _ i)),
    funext fun i => (in1_read _ i).symm.trans ((congrFun (kept hs c 1 (i (0 : Fin 3))) (tl (n := 8) i)).trans (in1_read _ i)),
    (hs.1 c).1 (.send 2 0)⟩

/-- Slot `t` of the third result is device `t`'s small array. -/
theorem small_slots (c t : Dev nD) : (outM 2 0 t).view.read (Elt F) (s.mem ((c.tc : Thread nD τ).loc main_v1_2)) = X m t 2 t := by
  rcases peers c t with rfl | ⟨k, rfl⟩
  · exact (hs.1 t).1 .loc
  · exact (hs.1 c).1 (.recv 2 k)

/-- The results are the reference's of the whole arrays. -/
theorem exchanged (A : (⟨3, ![64, 1024, 642]⟩ : Shape).Idx → F .bf16) (B : (⟨3, ![64, 256, 1024]⟩ : Shape).Idx → F .bf16) (C : (⟨2, ![768, 128]⟩ : Shape).Idx → F .f32)
    (hl : ∀ c : Dev nD, m ((c.tc : Thread nD τ).loc main_arg0) = Layout.block ⟨3, ![8, 1024, 642]⟩ ⟨3, ![64, 1024, 642]⟩ 0 8 c A
      ∧ m ((c.tc : Thread nD τ).loc main_arg1) = Layout.block ⟨3, ![8, 256, 1024]⟩ ⟨3, ![64, 256, 1024]⟩ 0 8 c B
      ∧ m ((c.tc : Thread nD τ).loc main_arg2) = Layout.block ⟨2, ![96, 128]⟩ ⟨2, ![768, 128]⟩ 0 8 c C) (c : Dev nD) :
    s.mem ((c.tc : Thread nD τ).loc main_v1_0) = Layout.block ⟨3, ![7, 1024, 642]⟩ ⟨3, ![56, 1024, 642]⟩ 0 8 c (swapped (α := F .bf16) 1024 642 A)
      ∧ s.mem ((c.tc : Thread nD τ).loc main_v1_1) = Layout.block ⟨3, ![7, 256, 1024]⟩ ⟨3, ![56, 256, 1024]⟩ 0 8 c (swapped (α := F .bf16) 256 1024 B)
      ∧ s.mem ((c.tc : Thread nD τ).loc main_v1_2) = parts (α := F .f32) C
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2) := by
  refine ⟨funext fun i => ?_, funext fun i => ?_, funext fun i => ?_, args_kept hs c⟩
  · have e := congrFun ((hs.1 c).1 (.recv 0 (i (0 : Fin 3)))) (tl (n := 7) i)
    have ht := (hl (xr ((i (0 : Fin 3)).val + 1) c)).1
    refine (out0_read _ _ i).symm.trans (e.trans ?_)
    refine (in0_read (m ((xr ((i (0 : Fin 3)).val + 1) c : Thread nD τ).loc main_arg0)) (at3 c (tl (n := 7) i))).trans ?_
    rw [ht]
    refine congrArg A (cons_tl _ _ (from64_eq c (i (0 : Fin 3))) rfl rfl)
  · have e := congrFun ((hs.1 c).1 (.recv 1 (i (0 : Fin 3)))) (tl (n := 7) i)
    have ht := (hl (xr ((i (0 : Fin 3)).val + 1) c)).2.1
    refine (out1_read _ _ i).symm.trans (e.trans ?_)
    refine (in1_read (m ((xr ((i (0 : Fin 3)).val + 1) c : Thread nD τ).loc main_arg1)) (at3 c (tl (n := 7) i))).trans ?_
    rw [ht]
    refine congrArg B (cons_tl _ _ (from64_eq c (i (0 : Fin 3))) rfl rfl)
  · refine (out2_read _ 0 i).symm.trans ((congrFun (small_slots hs c (i (0 : Fin 3))) (tl (n := 8) i)).trans ?_)
    exact congrFun (hl (i (0 : Fin 3))).2.2 (tl (n := 8) i)

end Kernel

end Cert.Swap

end
-- ==== Proof.Adam.lean ====
/-
# The AdamW step of one number

Over the extended reals: the new moments and the change of a weight, from the weight, its gradient and its two moments. The
constants are the rationals that their words are.
-/
module

public import Idealize.ShloMosaic.Lib.Pointwise
public import Idealize.ShloMosaic.Lib.IdealHost

@[expose] public section

noncomputable section

namespace Cert.Adam

open Idealize.ShloMosaic

/-- The new first moment. -/
def first (m g : Ideal .f32) : Ideal .f32 := Ideal.ofBits .f32 0x3F666666#32 * m + Ideal.ofBits .f32 0x3DCCCCCD#32 * g
/-- The new second moment. -/
def second (v g : Ideal .f32) : Ideal .f32 := Ideal.ofBits .f32 0x3F7FBE77#32 * v + Ideal.ofBits .f32 0x3A83126F#32 * (g * g)
/-- The change of the weight, from the weight and the new moments. -/
def change (w m v : Ideal .f32) : Ideal .f32 :=
  Ideal.ofBits .f32 0xBA83126F#32 *
    (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

variable {s : Shape}

/-- The new first moments of a whole array. -/
abbrev firsts (g a : FVec Ideal s .f32) : FVec Ideal s .f32 := fun i => first (a i) (g i)
/-- The new second moments of a whole array. -/
abbrev seconds (g b : FVec Ideal s .f32) : FVec Ideal s .f32 := fun i => second (b i) (g i)
/-- The changes of a whole array of weights. -/
abbrev changes (g w a b : FVec Ideal s .f32) : FVec Ideal s .f32 := fun i => change (w i) (firsts g a i) (seconds g b i)

/-! The same functions in the host's operations. -/

/-- The shape of a scalar. -/
abbrev One : Shape := ⟨0, ![]⟩

variable (h : One.BroadcastsInDim s ![])

/-- The host's new first moments, of a gradient `g` that is `g'`. -/
theorem host_firsts {g g' : FVec Ideal s .f32} (e : g = g') (a : FVec Ideal s .f32) :
    addf (mulf (broadcastInDim s ![] h (constant One .f32 0x3F666666#32)) a) (mulf (broadcastInDim s ![] h (constant One .f32 0x3DCCCCCD#32)) g)
      = firsts g' a :=
  e ▸ funext fun i => by pointwise [firsts, first]

/-- The host's new second moments, of a gradient `g` that is `g'`. -/
theorem host_seconds {g g' : FVec Ideal s .f32} (e : g = g') (b : FVec Ideal s .f32) :
    addf (mulf (broadcastInDim s ![] h (constant One .f32 0x3F7FBE77#32)) b)
        (mulf (broadcastInDim s ![] h (constant One .f32 0x3A83126F#32)) (mulf g g))
      = seconds g' b :=
  e ▸ funext fun i => by pointwise [seconds, second]

/-- The host's changes, of a gradient `g` that is `g'`. -/
theorem host_changes {g g' : FVec Ideal s .f32} (e : g = g') (w a b : FVec Ideal s .f32) :
    mulf (broadcastInDim s ![] h (constant One .f32 0xBA83126F#32))
        (addf (Host.divf (Host.divf
              (addf (mulf (broadcastInDim s ![] h (constant One .f32 0x3F666666#32)) a)
                (mulf (broadcastInDim s ![] h (constant One .f32 0x3DCCCCCD#32)) g))
              (broadcastInDim s ![] h (constant One .f32 0x3F26BD02#32)))
            (addf (Host.sqrt (Host.divf
                (addf (mulf (broadcastInDim s ![] h (constant One .f32 0x3F7FBE77#32)) b)
                  (mulf (broadcastInDim s ![] h (constant One .f32 0x3A83126F#32)) (mulf g g)))
                (broadcastInDim s ![] h (constant One .f32 0x3C231ACC#32))))
              (broadcastInDim s ![] h (constant One .f32 0x322BCC77#32))))
          (mulf (broadcastInDim s ![] h (constant One .f32 0x3C23D70A#32)) w))
      = changes g' w a b :=
  e ▸ funext fun i => by pointwise [changes, firsts, seconds, first, second, change]

end Cert.Adam

end
-- ==== Proof.UpdateInVal.lean ====
/-
# AdamW of the input projection: values

What the call leaves of its five arguments, index by index: its grid has four points, each of 256 rows; each point writes the
sums of the device's own gradients and of the seven received ones on its rows, and AdamW with them. And that it is the device's
block of what the reference's operations leave of the whole arrays.
-/
module

public import proofs.«01_k».proof.Proof.Adam
public import proofs.«01_k».proof.Proof.Gen.UpdateInIdeal.Value
public import proofs.«01_k».proof.Proof.Gen.UpdatedInIdeal.Run

@[expose] public section

noncomputable section

namespace Cert.In

open Idealize.ShloMosaic Idealize.ShloMosaic.TcCoe Idealize.SL.Sem Cert.Adam
open Idealize.ShloMosaic.Pipeline (Dat)

section Kernel
open Cert.UpdateInIdeal Cert.UpdateInIdeal.Gen Cert.UpdateInIdeal.Value

section Block

variable (g w a b : Vec Ideal S256x642 .f32) (r : Vec Ideal S7x256x642 .bf16) (i : S256x642.Idx)

theorem zeros : (![0, 0] : Fin 2 → Nat) = fun _ => 0 := funext fun a => by fin_cases a <;> rfl

/-- The sum of the eight gradients of one point's rows. -/
abbrev pointSum : Ideal .f32 := g i + ∑ k : Fin 7, r (ix3 k (i 0) (i 1))

/-- The body computes it. -/
theorem pay_sum : k0_pay6 (F := Ideal) g r w a b i = pointSum g r i := by
  unfold pointSum
  rw [Fin.sum_univ_seven]
  unfold k0_pay6
  pointwise [k0_pay4]
  simp only [add_assoc]
/-- A point writes the sums of its rows. -/
theorem block_sum : out0_5 (F := Ideal) g r w a b i = pointSum g r i := by
  unfold out0_5
  rw [View.canon_unit_zero zeros, pay_sum]
/-- A point writes the changes of its rows of the weight. -/
theorem block_change : out0_6 (F := Ideal) g r w a b i
    = change (w i) (first (a i) (pointSum g r i)) (second (b i) (pointSum g r i)) := by
  unfold out0_6
  rw [View.canon_unit_zero zeros, View.ld_unit_zero zeros, View.ld_unit_zero zeros, View.ld_unit_zero zeros, ← pay_sum g w a b r i]
  generalize k0_pay6 g r w a b = s
  pointwise [k0_pay3, k0_pay5, k0_pay1, k0_pay2, first, second, change]
/-- A point writes the new first moments of its rows. -/
theorem block_first : out0_7 (F := Ideal) g r w a b i = first (a i) (pointSum g r i) := by
  unfold out0_7
  rw [View.canon_unit_zero zeros, View.ld_unit_zero zeros, ← pay_sum g w a b r i]
  generalize k0_pay6 g r w a b = s
  pointwise [k0_pay1, first]
/-- A point writes the new second moments of its rows. -/
theorem block_second : out0_8 (F := Ideal) g r w a b i = second (b i) (pointSum g r i) := by
  unfold out0_8
  rw [View.canon_unit_zero zeros, View.ld_unit_zero zeros, ← pay_sum g w a b r i]
  generalize k0_pay6 g r w a b = s
  pointwise [k0_pay2, second]

end Block

/-- The sums of the gradients of one device. -/
abbrev ownSums (g : Vec Ideal S1024x642 .f32) (r : Vec Ideal S7x1024x642 .bf16) : FVec Ideal S1024x642 .f32 := fun i =>
  g i + ∑ k : Fin 7, r (ix3 k (i 0) (i 1))

variable (m : (ℓ : Loc nD τ sig) → Buf (Elt Ideal) ℓ)

/-- The index of the array that a point's block has at `j`. -/
abbrev at_ (t : Fin cfg0.N) (j : S256x642.Idx) : S1024x642.Idx := ((cfg0.win 5).blk t).view.emb j

/-- The block of received gradients is of the same rows, seven arrays of them. -/
theorem at_received (t : Fin cfg0.N) (k : Fin 7) (j : S256x642.Idx) :
    ((cfg0.win 1).blk t).view.emb (ix3 k (j 0) (j 1)) = ix3 k (at_ t j 0) (at_ t j 1) := by
  funext d
  match d with
  | ⟨0, _⟩ => exact Fin.ext (by show 0 * 7 + 1 * k.val = k.val; omega)
  | ⟨1, _⟩ => rfl
  | ⟨2, _⟩ => rfl

/-- Where row `j` of a point's block lies. -/
theorem at_row (t : Fin cfg0.N) (j : S256x642.Idx) : (at_ t j 0).val = t.val * 256 + (j 0).val := by
  have e : win0_5.index t 0 = t.val := (by decide +kernel : ∀ t : Fin grid0.N, win0_5.index t 0 = t.val) t
  show win0_5.index t 0 * 256 + 1 * (j 0).val = _
  rw [e]; omega

/-- Where column `j` of a point's block lies. -/
theorem at_col (t : Fin cfg0.N) (j : S256x642.Idx) : (at_ t j 1).val = (j 1).val := by
  show 0 * 642 + 1 * (j 1).val = _
  omega

/-- Every index of the array lies in some point's block. -/
theorem at_cover (i : S1024x642.Idx) : ∃ (t : Fin cfg0.N) (j : S256x642.Idx), at_ t j = i := by
  have h0 : (i 0).val < 1024 := (i 0).isLt
  have hN : cfg0.N = 4 := N_0
  refine ⟨⟨(i 0).val / 256, by omega⟩, ix2 ⟨(i 0).val % 256, Nat.mod_lt _ (by decide)⟩ (i 1), funext fun d => ?_⟩
  match d with
  | ⟨0, _⟩ => exact Fin.ext ((at_row _ _).trans (by show (i 0).val / 256 * 256 + (i 0).val % 256 = (i 0).val; omega))
  | ⟨1, _⟩ => exact Fin.ext ((at_col _ _).trans rfl)

/-- If a point's blocks are the arrays' at the point's indices, so is their sum. -/
theorem pointSum_at (g : Vec Ideal S256x642 .f32) (r : Vec Ideal S7x256x642 .bf16) (g' : Vec Ideal S1024x642 .f32)
    (r' : Vec Ideal S7x1024x642 .bf16) (t : Fin cfg0.N) (j : S256x642.Idx) (hg : g j = g' (at_ t j))
    (hr : ∀ k, r (ix3 k (j 0) (j 1)) = r' (ix3 k (at_ t j 0) (at_ t j 1))) : pointSum g r j = ownSums g' r' (at_ t j) := by
  unfold pointSum ownSums
  rw [hg, Finset.sum_congr rfl fun k _ => hr k]

/-- A point's blocks of the arguments, summed, are the point's rows of the sums. -/
theorem iblk_sum (c : Dev nD) (t : Fin cfg0.N) (j : S256x642.Idx) :
    pointSum (iblk m c 0 t) (iblk m c 1 t) j = ownSums (V m c main_arg0) (V m c main_arg1) (at_ t j) :=
  pointSum_at _ _ _ _ t j rfl fun k => congrArg (V m c main_arg1) (at_received t k j)

/-- The array of the sums after the run. -/
theorem final_sum (c : Dev nD) : (dats m 0 c).arrAt 5 cfg0.N = ownSums (m ((c : Thread nD τ).loc main_arg0)) (m ((c : Thread nD τ).loc main_arg1)) := by
  rw [← V_main_arg0 m c, ← V_main_arg1 m c]
  refine (dats m 0 c).arrAt_eq_of_cover 5 _ (fun t _ => funext fun j => ?_) fun i => ?_
  · rw [flushed5]
    refine (block_sum _ _ _ _ _ j).trans ?_
    rw [iblk_sum]; rfl
  · obtain ⟨t, j, e⟩ := at_cover i
    exact ⟨t, flush0_5 t, e ▸ ((cfg0.win 5).blk t).view.emb_mem_set j⟩

/-- The array of the changes of the weight after the run. -/
theorem final_change (c : Dev nD) : (dats m 0 c).arrAt 6 cfg0.N = changes (ownSums (m ((c : Thread nD τ).loc main_arg0)) (m ((c : Thread nD τ).loc main_arg1))) (m ((c : Thread nD τ).loc main_arg2)) (m ((c : Thread nD τ).loc main_arg3)) (m ((c : Thread nD τ).loc main_arg4)) := by
  rw [← V_main_arg0 m c, ← V_main_arg1 m c, ← V_main_arg2 m c, ← V_main_arg3 m c, ← V_main_arg4 m c]
  refine (dats m 0 c).arrAt_eq_of_cover 6 _ (fun t _ => funext fun j => ?_) fun i => ?_
  · rw [flushed6]
    refine (block_change _ _ _ _ _ j).trans ?_
    rw [iblk_sum]; rfl
  · obtain ⟨t, j, e⟩ := at_cover i
    exact ⟨t, flush0_6 t, e ▸ ((cfg0.win 6).blk t).view.emb_mem_set j⟩

/-- The array of the new first moments after the run. -/
theorem final_first (c : Dev nD) : (dats m 0 c).arrAt 7 cfg0.N = firsts (ownSums (m ((c : Thread nD τ).loc main_arg0)) (m ((c : Thread nD τ).loc main_arg1))) (m ((c : Thread nD τ).loc main_arg3)) := by
  rw [← V_main_arg0 m c, ← V_main_arg1 m c, ← V_main_arg3 m c]
  refine (dats m 0 c).arrAt_eq_of_cover 7 _ (fun t _ => funext fun j => ?_) fun i => ?_
  · rw [flushed7]
    refine (block_first _ _ _ _ _ j).trans ?_
    rw [iblk_sum]; rfl
  · obtain ⟨t, j, e⟩ := at_cover i
    exact ⟨t, flush0_7 t, e ▸ ((cfg0.win 7).blk t).view.emb_mem_set j⟩

/-- The array of the new second moments after the run. -/
theorem final_second (c : Dev nD) : (dats m 0 c).arrAt 8 cfg0.N = seconds (ownSums (m ((c : Thread nD τ).loc main_arg0)) (m ((c : Thread nD τ).loc main_arg1))) (m ((c : Thread nD τ).loc main_arg4)) := by
  rw [← V_main_arg0 m c, ← V_main_arg1 m c, ← V_main_arg4 m c]
  refine (dats m 0 c).arrAt_eq_of_cover 8 _ (fun t _ => funext fun j => ?_) fun i => ?_
  · rw [flushed8]
    refine (block_second _ _ _ _ _ j).trans ?_
    rw [iblk_sum]; rfl
  · obtain ⟨t, j, e⟩ := at_cover i
    exact ⟨t, flush0_8 t, e ▸ ((cfg0.win 8).blk t).view.emb_mem_set j⟩

/-- The call leaves the sums, the changes and the new moments, and its arguments as they were. -/
theorem run_kernel (ρ : Dev nD → PrngReg) : θ_run defs (onTc (τ := τ) (main (F := Ideal))) ⟨m, fun _ => 0, ρ⟩ fun r => ∀ c : Dev nD,
      r.2.mem ((c : Thread nD τ).loc main_v1_0) = ownSums (m ((c : Thread nD τ).loc main_arg0)) (m ((c : Thread nD τ).loc main_arg1))
      ∧ r.2.mem ((c : Thread nD τ).loc main_v1_1) = changes (ownSums (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v1_2) = firsts (ownSums (m ((c : Thread nD τ).loc main_arg0)) (m ((c : Thread nD τ).loc main_arg1))) (m ((c : Thread nD τ).loc main_arg3))
      ∧ r.2.mem ((c : Thread nD τ).loc main_v1_3) = seconds (ownSums (m ((c : Thread nD τ).loc main_arg0)) (m ((c : Thread nD τ).loc main_arg1))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_sum m c), (h c).2.1.trans (final_change m c),
      (h c).2.2.1.trans (final_first m c), (h c).2.2.2.1.trans (final_second m c), (h c).2.2.2.2⟩) (run_blocks m ρ)

end Kernel

section Reference
open Cert.UpdatedInIdeal Cert.UpdatedInIdeal.Gen

/-- The sums of the gradients: device `l / 642` of column `l` has received seven arrays, the whole's rows at `7 · (l / 642) + k`. -/
abbrev sums (g : Vec Ideal S1024x5136 .f32) (r : Vec Ideal S56x1024x642 .bf16) : FVec Ideal S1024x5136 .f32 := fun i =>
  g i + ∑ k : Fin 7, r (ix3 ⟨(i 1).val / 642 * 7 + k.val, by have : (i 1).val < 5136 := (i 1).isLt; have := k.isLt; omega⟩
    (i 0) ⟨(i 1).val % 642, Nat.mod_lt _ (by decide)⟩)

/-- The host's sums of the gradients. -/
theorem host_sums (g : Vec Ideal S1024x5136 .f32) (r : Vec Ideal S56x1024x642 .bf16) :
    (addf g (shapeCast S1024x5136 (transpose S1024x8x642 [1, 0, 2] (Host.reduceAdd (shapeCast S8x7x1024x642 (extf .f32 r bitsLt_bf16_f32)
        shapeCasts_S56x1024x642_S8x7x1024x642) (constant S_ .f32 0x00000000#32) reducesTo_S8x7x1024x642_S8x1024x642_d1 h_S_)
        transposes_S8x1024x642_S1024x8x642_1_0_2) shapeCasts_S1024x8x642_S1024x5136) : FVec Ideal _ .f32)
      = sums g r :=
  funext fun i => by pointwise [sums]

/-- The reference leaves the sums, the changes and the new moments, and its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = sums (m ((c.tc : Thread nD τ).loc main_arg0)) (m ((c.tc : Thread nD τ).loc main_arg1))
      ∧ r.2.mem ((c.tc : Thread nD τ).loc main_v29) = changes (sums (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4))
      ∧ r.2.mem ((c.tc : Thread nD τ).loc main_v10) = firsts (sums (m ((c.tc : Thread nD τ).loc main_arg0)) (m ((c.tc : Thread nD τ).loc main_arg1)))
          (m ((c.tc : Thread nD τ).loc main_arg3))
      ∧ r.2.mem ((c.tc : Thread nD τ).loc main_v16) = seconds (sums (m ((c.tc : Thread nD τ).loc main_arg0)) (m ((c.tc : Thread nD τ).loc main_arg1)))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (host_sums _ _), (h c).2.1.trans (host_changes _ (host_sums _ _) _ _ _),
      (h c).2.2.1.trans (host_firsts _ (host_sums _ _) _), (h c).2.2.2.1.trans (host_seconds _ (host_sums _ _) _), (h c).2.2.2.2⟩)
    (Cert.UpdatedInIdeal.Value.run m ρ)

end Reference

/-- A device's block of an array of gradients or weights: 642 columns. -/
abbrev cols (c : Fin 8) (v : Vec Ideal ⟨2, ![1024, 5136]⟩ .f32) : Vec Ideal ⟨2, ![1024, 642]⟩ .f32 :=
  Layout.block ⟨2, ![1024, 642]⟩ ⟨2, ![1024, 5136]⟩ 1 8 c v
/-- A device's block of the received gradients: seven arrays. -/
abbrev received (c : Fin 8) (v : Vec Ideal ⟨3, ![56, 1024, 642]⟩ .bf16) : Vec Ideal ⟨3, ![7, 1024, 642]⟩ .bf16 :=
  Layout.block ⟨3, ![7, 1024, 642]⟩ ⟨3, ![56, 1024, 642]⟩ 0 8 c v

/-- The sums over a device's blocks are the device's block of the sums. -/
theorem sum_cols (c : Fin 8) (g : Vec Ideal ⟨2, ![1024, 5136]⟩ .f32) (r : Vec Ideal ⟨3, ![56, 1024, 642]⟩ .bf16) :
    ownSums (cols c g) (received c r) = cols c (sums g r) := by
  funext i
  refine congrArg (_ + ·) (Finset.sum_congr rfl fun k _ => congrArg r ?_)
  have h1 : (i 1).val < 642 := (i 1).isLt
  funext d
  match d with
  | ⟨0, _⟩ => exact Fin.ext (by show c.val * 7 + k.val = (c.val * 642 + (i 1).val) / 642 * 7 + k.val; omega)
  | ⟨1, _⟩ => rfl
  | ⟨2, _⟩ => exact Fin.ext (by show (i 1).val = (c.val * 642 + (i 1).val) % 642; omega)

/-- From the blocks of the arguments the call leaves the blocks of the reference's results. -/
theorem blocks {c : Fin 8} {g w a b : Vec Ideal ⟨2, ![1024, 642]⟩ .f32} {r : Vec Ideal ⟨3, ![7, 1024, 642]⟩ .bf16}
    {g' w' a' b' : Vec Ideal ⟨2, ![1024, 5136]⟩ .f32} {r' : Vec Ideal ⟨3, ![56, 1024, 642]⟩ .bf16}
    (h : g = cols c g' ∧ r = received c r' ∧ w = cols c w' ∧ a = cols c a' ∧ b = cols c b') :
    ownSums g r = cols c (sums g' r') ∧ changes (ownSums g r) w a b = cols c (changes (sums g' r') w' a' b')
    ∧ firsts (ownSums g r) a = cols c (firsts (sums g' r') a') ∧ seconds (ownSums g r) b = cols c (seconds (sums g' r') b') := by
  obtain ⟨rfl, rfl, rfl, rfl, rfl⟩ := h
  rw [sum_cols]
  exact ⟨rfl, rfl, rfl, rfl⟩

end Cert.In

end
-- ==== Proof.UpdateOutVal.lean ====
/-
# AdamW of the output projection: values

What the call leaves of its five arguments, index by index: the sum of the device's own gradients and of the seven received
ones, and AdamW with it. And that it is the device's block of what the reference's operations leave of the whole arrays.
-/
module

public import proofs.«01_k».proof.Proof.Adam
public import proofs.«01_k».proof.Proof.Gen.UpdateOutIdeal.Value
public import proofs.«01_k».proof.Proof.Gen.UpdatedOutIdeal.Run

@[expose] public section

noncomputable section

namespace Cert.Out

open Idealize.ShloMosaic Idealize.SL.Sem Cert.Adam

section Kernel
open Cert.UpdateOutIdeal Cert.UpdateOutIdeal.Gen Cert.UpdateOutIdeal.Value

variable (g w a b : Vec Ideal S256x1024 .f32) (r : Vec Ideal S7x256x1024 .bf16) (i : S256x1024.Idx)

/-- The first result is the sum of the eight gradients. -/
theorem kernel_sum : G5 (F := Ideal) g r w a b i = g i + ∑ k : Fin 7, r (ix3 k (i 0) (i 1)) := by
  rw [Fin.sum_univ_seven]
  unfold G5 k0_pay6
  pointwise [k0_pay4]
  simp only [add_assoc]
/-- The third result is the new first moment. -/
theorem kernel_first : G7 (F := Ideal) g r w a b i = first (a i) (G5 (F := Ideal) g r w a b i) := by
  unfold G7 G5
  generalize k0_pay6 g r w a b = s
  pointwise [k0_pay1, first]
/-- The fourth result is the new second moment. -/
theorem kernel_second : G8 (F := Ideal) g r w a b i = second (b i) (G5 (F := Ideal) g r w a b i) := by
  unfold G8 G5
  generalize k0_pay6 g r w a b = s
  pointwise [k0_pay2, second]
/-- The second result is the change of the weight. -/
theorem kernel_change : G6 (F := Ideal) g r w a b i
    = change (w i) (first (a i) (G5 (F := Ideal) g r w a b i)) (second (b i) (G5 (F := Ideal) g r w a b i)) := by
  unfold G6 G5
  generalize k0_pay6 g r w a b = s
  pointwise [k0_pay3, k0_pay5, k0_pay1, k0_pay2, first, second, change]

end Kernel

section Reference
open Cert.UpdatedOutIdeal Cert.UpdatedOutIdeal.Gen

/-- The sums of the gradients: device `i / 256` of row `i` has received seven arrays, the whole's rows at `7 · (i / 256) + k`. -/
abbrev sums (g : Vec Ideal S2048x1024 .f32) (r : Vec Ideal S56x256x1024 .bf16) : FVec Ideal S2048x1024 .f32 := fun i =>
  g i + ∑ k : Fin 7, r (ix3 ⟨(i 0).val / 256 * 7 + k.val, by have : (i 0).val < 2048 := (i 0).isLt; have := k.isLt; omega⟩
    ⟨(i 0).val % 256, Nat.mod_lt _ (by decide)⟩ (i 1))

/-- The host's sums of the gradients. -/
theorem host_sums (g : Vec Ideal S2048x1024 .f32) (r : Vec Ideal S56x256x1024 .bf16) :
    (addf g (shapeCast S2048x1024 (Host.reduceAdd (shapeCast S8x7x256x1024 (extf .f32 r bitsLt_bf16_f32) shapeCasts_S56x256x1024_S8x7x256x1024)
        (constant S_ .f32 0x00000000#32) reducesTo_S8x7x256x1024_S8x256x1024_d1 h_S_) shapeCasts_S8x256x1024_S2048x1024) : FVec Ideal _ .f32)
      = sums g r :=
  funext fun i => by pointwise [sums]

/-- The reference leaves the sums, the changes and the new moments, and its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = sums (m ((c.tc : Thread nD τ).loc main_arg0)) (m ((c.tc : Thread nD τ).loc main_arg1))
      ∧ r.2.mem ((c.tc : Thread nD τ).loc main_v28) = changes (sums (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4))
      ∧ r.2.mem ((c.tc : Thread nD τ).loc main_v9) = firsts (sums (m ((c.tc : Thread nD τ).loc main_arg0)) (m ((c.tc : Thread nD τ).loc main_arg1)))
          (m ((c.tc : Thread nD τ).loc main_arg3))
      ∧ r.2.mem ((c.tc : Thread nD τ).loc main_v15) = seconds (sums (m ((c.tc : Thread nD τ).loc main_arg0)) (m ((c.tc : Thread nD τ).loc main_arg1)))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (host_sums _ _), (h c).2.1.trans (host_changes _ (host_sums _ _) _ _ _),
      (h c).2.2.1.trans (host_firsts _ (host_sums _ _) _), (h c).2.2.2.1.trans (host_seconds _ (host_sums _ _) _), (h c).2.2.2.2⟩)
    (Cert.UpdatedOutIdeal.Value.run m ρ)

end Reference

/-- A device's block of an array of gradients or weights: 256 rows. -/
abbrev rows (c : Fin 8) (v : Vec Ideal ⟨2, ![2048, 1024]⟩ .f32) : Vec Ideal ⟨2, ![256, 1024]⟩ .f32 :=
  Layout.block ⟨2, ![256, 1024]⟩ ⟨2, ![2048, 1024]⟩ 0 8 c v
/-- A device's block of the received gradients: seven arrays. -/
abbrev received (c : Fin 8) (v : Vec Ideal ⟨3, ![56, 256, 1024]⟩ .bf16) : Vec Ideal ⟨3, ![7, 256, 1024]⟩ .bf16 :=
  Layout.block ⟨3, ![7, 256, 1024]⟩ ⟨3, ![56, 256, 1024]⟩ 0 8 c v

/-- The sum over a device's blocks is the device's block of the sums. -/
theorem sum_rows (c : Fin 8) (g : Vec Ideal ⟨2, ![2048, 1024]⟩ .f32) (r : Vec Ideal ⟨3, ![56, 256, 1024]⟩ .bf16)
    (i : (⟨2, ![256, 1024]⟩ : Shape).Idx) :
    rows c g i + ∑ k : Fin 7, received c r (ix3 k (i 0) (i 1)) = rows c (sums g r) i := by
  refine congrArg (_ + ·) (Finset.sum_congr rfl fun k _ => congrArg r ?_)
  have h0 : (i 0).val < 256 := (i 0).isLt
  funext d
  match d with
  | ⟨0, _⟩ => exact Fin.ext (by show c.val * 7 + k.val = (c.val * 256 + (i 0).val) / 256 * 7 + k.val; omega)
  | ⟨1, _⟩ => exact Fin.ext (by show (i 0).val = (c.val * 256 + (i 0).val) % 256; omega)
  | ⟨2, _⟩ => rfl

/-- From the blocks of the arguments the call leaves the blocks of the reference's results. -/
theorem blocks {c : Fin 8} {g w a b : Vec Ideal ⟨2, ![256, 1024]⟩ .f32} {r : Vec Ideal ⟨3, ![7, 256, 1024]⟩ .bf16}
    {g' w' a' b' : Vec Ideal ⟨2, ![2048, 1024]⟩ .f32} {r' : Vec Ideal ⟨3, ![56, 256, 1024]⟩ .bf16}
    (h : g = rows c g' ∧ r = received c r' ∧ w = rows c w' ∧ a = rows c a' ∧ b = rows c b') :
    Cert.UpdateOutIdeal.Value.G5 (F := Ideal) g r w a b = rows c (sums g' r')
    ∧ Cert.UpdateOutIdeal.Value.G6 (F := Ideal) g r w a b = rows c (changes (sums g' r') w' a' b')
    ∧ Cert.UpdateOutIdeal.Value.G7 (F := Ideal) g r w a b = rows c (firsts (sums g' r') a')
    ∧ Cert.UpdateOutIdeal.Value.G8 (F := Ideal) g r w a b = rows c (seconds (sums g' r') b') := by
  have e (i) : Cert.UpdateOutIdeal.Value.G5 (F := Ideal) g r w a b i = rows c (sums g' r') i := by
    rw [kernel_sum, h.1, h.2.1]; exact sum_rows c g' r' i
  refine ⟨funext e, funext fun i => ?_, funext fun i => ?_, funext fun i => ?_⟩
  · rw [kernel_change, e, h.2.2.1, h.2.2.2.1, h.2.2.2.2]; rfl
  · rw [kernel_first, e, h.2.2.2.1]; rfl
  · rw [kernel_second, e, h.2.2.2.2]; rfl

end Cert.Out

end
-- ==== Proof.UpdateSmallPack.lean ====
/-
# AdamW of the small weights: packing

The call's host code lays eight leaves and zeros end to end in one array of 96 × 128 numbers. What that array holds when the call
starts, and that cutting a leaf's place out of it gives the leaf again.
-/
module

public import proofs.«01_k».proof.Proof.Adam
public import proofs.«01_k».proof.Proof.Gen.UpdateSmallIdeal.Frame
public import Idealize.ShloMosaic.Lib.StableHlo.RunRead

@[expose] public section

noncomputable section

namespace Cert.Small

open Idealize.ShloMosaic Idealize.ShloMosaic.TcCoe Idealize.SL.Sem Cert.Adam
open Cert.UpdateSmallIdeal Cert.UpdateSmallIdeal.Gen

/-- The number that fills the leaves up. -/
abbrev fill : FVec Ideal S_ .f32 := sitofp .f32 (constantI S_ 32 0#32)

/-- The leaves end to end, each filled up to its place, with zeros for the loss and for `conv_w`. -/
def ends (b : Vec Ideal S1x1536 .f32) (d a s : Vec Ideal S1x16 .f32) (n : Vec Ideal S1x1024 .f32) (k : Vec Ideal S1x16 .f32) (g l : Vec Ideal S1x1024 .f32) : FVec Ideal S12288 .f32 :=
  concatenate S12288 0
    [⟨S128, pad S128 ![0] ![127] ![0] (shapeCast S1 (constant (F := Ideal) S_ .f32 0x00000000#32) shapeCasts_S_S1) fill pads_S1_S128_01270 h_S_⟩,
     ⟨S1536, pad S1536 ![0] ![0] ![0] (shapeCast S1536 b shapeCasts_S1x1536_S1536) fill pads_S1536_S1536_000 h_S_⟩,
     ⟨S128, pad S128 ![0] ![112] ![0] (shapeCast S16 d shapeCasts_S1x16_S16) fill pads_S16_S128_01120 h_S_⟩,
     ⟨S128, pad S128 ![0] ![112] ![0] (shapeCast S16 a shapeCasts_S1x16_S16) fill pads_S16_S128_01120 h_S_⟩,
     ⟨S128, pad S128 ![0] ![112] ![0] (shapeCast S16 s shapeCasts_S1x16_S16) fill pads_S16_S128_01120 h_S_⟩,
     ⟨S128, pad S128 ![0] ![112] ![0] (shapeCast S16 k shapeCasts_S1x16_S16) fill pads_S16_S128_01120 h_S_⟩,
     ⟨S1024, pad S1024 ![0] ![0] ![0] (shapeCast S1024 n shapeCasts_S1x1024_S1024) fill pads_S1024_S1024_000 h_S_⟩,
     ⟨S1024, pad S1024 ![0] ![0] ![0] (shapeCast S1024 g shapeCasts_S1x1024_S1024) fill pads_S1024_S1024_000 h_S_⟩,
     ⟨S1024, pad S1024 ![0] ![0] ![0] (shapeCast S1024 l shapeCasts_S1x1024_S1024) fill pads_S1024_S1024_000 h_S_⟩,
     ⟨S6144, pad S6144 ![0] ![0] ![0] (shapeCast S6144 (broadcastInDim S4x1536 ![] bcast_S_S4x1536 (constant (F := Ideal) S_ .f32 0x00000000#32)) shapeCasts_S4x1536_S6144) fill pads_S6144_S6144_000 h_S_⟩,
     ⟨S896, broadcastInDim S896 ![] bcast_S_S896 (constant (F := Ideal) S_ .f32 0x00000000#32)⟩]
    concatenates_S128_S1536_S128_S128_S128_S128_S1024_S1024_S1024_S6144_S896_S12288_d0

/-- The packed array of eight leaves. -/
abbrev packed (b : Vec Ideal S1x1536 .f32) (d a s : Vec Ideal S1x16 .f32) (n : Vec Ideal S1x1024 .f32) (k : Vec Ideal S1x16 .f32) (g l : Vec Ideal S1x1024 .f32) : FVec Ideal S96x128 .f32 :=
  shapeCast S96x128 (ends b d a s n k g l) shapeCasts_S12288_S96x128

/-- A packed array end to end. -/
abbrev flat (y : FVec Ideal S96x128 .f32) : FVec Ideal S12288 .f32 := shapeCast S12288 y shapeCasts_S96x128_S12288

/-! Each leaf's place in an array end to end. -/

/-- The place of `conv_b`. -/
abbrev cut_b (y : FVec Ideal S12288 .f32) : FVec Ideal S1x1536 .f32 :=
  shapeCast S1x1536 (extractStridedSlice S1536 ![128] y slices_S12288_S1536_128) shapeCasts_S1536_S1x1536
/-- The place of `dt_bias`. -/
abbrev cut_d (y : FVec Ideal S12288 .f32) : FVec Ideal S1x16 .f32 :=
  shapeCast S1x16 (extractStridedSlice S16 ![1664] y slices_S12288_S16_1664) shapeCasts_S16_S1x16
/-- The place of `a_log`. -/
abbrev cut_a (y : FVec Ideal S12288 .f32) : FVec Ideal S1x16 .f32 :=
  shapeCast S1x16 (extractStridedSlice S16 ![1792] y slices_S12288_S16_1792) shapeCasts_S16_S1x16
/-- The place of `d_skip`. -/
abbrev cut_s (y : FVec Ideal S12288 .f32) : FVec Ideal S1x16 .f32 :=
  shapeCast S1x16 (extractStridedSlice S16 ![1920] y slices_S12288_S16_1920) shapeCasts_S16_S1x16
/-- The place of `ssd_norm_w`. -/
abbrev cut_n (y : FVec Ideal S12288 .f32) : FVec Ideal S1x1024 .f32 :=
  shapeCast S1x1024 (extractStridedSlice S1024 ![2176] y slices_S12288_S1024_2176) shapeCasts_S1024_S1x1024
/-- The place of `attn_sinks`. -/
abbrev cut_k (y : FVec Ideal S12288 .f32) : FVec Ideal S1x16 .f32 :=
  shapeCast S1x16 (extractStridedSlice S16 ![2048] y slices_S12288_S16_2048) shapeCasts_S16_S1x16
/-- The place of `ln_g`. -/
abbrev cut_g (y : FVec Ideal S12288 .f32) : FVec Ideal S1x1024 .f32 :=
  shapeCast S1x1024 (extractStridedSlice S1024 ![3200] y slices_S12288_S1024_3200) shapeCasts_S1024_S1x1024
/-- The place of `ln_b`. -/
abbrev cut_l (y : FVec Ideal S12288 .f32) : FVec Ideal S1x1024 .f32 :=
  shapeCast S1x1024 (extractStridedSlice S1024 ![4224] y slices_S12288_S1024_4224) shapeCasts_S1024_S1x1024
/-- The place of `conv_w`. -/
abbrev cut_w (y : FVec Ideal S12288 .f32) : FVec Ideal S4x1536 .f32 :=
  shapeCast S4x1536 (extractStridedSlice S6144 ![5248] y slices_S12288_S6144_5248) shapeCasts_S6144_S4x1536
/-- The place of the loss. -/
abbrev cut_loss (y : FVec Ideal S12288 .f32) : FVec Ideal S_ .f32 :=
  shapeCast S_ (extractStridedSlice S1 ![0] y slices_S12288_S1_0) shapeCasts_S1_S_

/-- A row of one line read at its only line. -/
theorem pick {n q : ℕ} (v : (⟨2, ![1, n]⟩ : Shape).Idx → Ideal .f32) (i : (⟨2, ![1, n]⟩ : Shape).Idx) {hq : q < n} (e : q = (i 1).val) :
    v (ix2 0 ⟨q, hq⟩) = v i := by
  refine congrArg v (funext fun a => ?_)
  match a with
  | ⟨0, _⟩ => exact Fin.ext (by have : (i 0).val < 1 := (i 0).isLt; show 0 = (i 0).val; omega)
  | ⟨1, _⟩ => exact Fin.ext e

section Cut

variable (b : Vec Ideal S1x1536 .f32) (d a s : Vec Ideal S1x16 .f32) (n : Vec Ideal S1x1024 .f32) (k : Vec Ideal S1x16 .f32) (g l : Vec Ideal S1x1024 .f32)

/-- The place of `conv_b` in the packed array holds it. -/
theorem cut_packed_b : cut_b (flat (packed b d a s n k g l)) = b :=
  funext fun i => by pointwise [ends]
set_option maxRecDepth 65536 in
/-- The place of `dt_bias` in the packed array holds it. -/
theorem cut_packed_d : cut_d (flat (packed b d a s n k g l)) = d :=
  funext fun i => by
    have h : (i 1).val < 16 := (i 1).isLt
    pointwise [ends]
    refine (dif_neg (by omega)).trans <| (dif_neg (by omega)).trans <| (dif_pos (by omega)).trans <| (dif_pos (by omega)).trans <| pick d i (by omega)
set_option maxRecDepth 65536 in
/-- The place of `a_log` in the packed array holds it. -/
theorem cut_packed_a : cut_a (flat (packed b d a s n k g l)) = a :=
  funext fun i => by
    have h : (i 1).val < 16 := (i 1).isLt
    pointwise [ends]
    refine (dif_neg (by omega)).trans <| (dif_neg (by omega)).trans <| (dif_neg (by omega)).trans <| (dif_pos (by omega)).trans <| (dif_pos (by omega)).trans <| pick a i (by omega)
set_option maxRecDepth 65536 in
/-- The place of `d_skip` in the packed array holds it. -/
theorem cut_packed_s : cut_s (flat (packed b d a s n k g l)) = s :=
  funext fun i => by
    have h : (i 1).val < 16 := (i 1).isLt
    pointwise [ends]
    refine (dif_neg (by omega)).trans <| (dif_neg (by omega)).trans <| (dif_neg (by omega)).trans <| (dif_neg (by omega)).trans <| (dif_pos (by omega)).trans <| (dif_pos (by omega)).trans <| pick s i (by omega)
set_option maxRecDepth 65536 in
/-- The place of `ssd_norm_w` in the packed array holds it. -/
theorem cut_packed_n : cut_n (flat (packed b d a s n k g l)) = n :=
  funext fun i => by
    have h : (i 1).val < 1024 := (i 1).isLt
    pointwise [ends]
    refine (dif_neg (by omega)).trans <| (dif_neg (by omega)).trans <| (dif_neg (by omega)).trans <| (dif_neg (by omega)).trans <| (dif_neg (by omega)).trans <| (dif_neg (by omega)).trans <| (dif_pos (by omega)).trans <| (dif_pos (by omega)).trans <| pick n i (by omega)
set_option maxRecDepth 65536 in
/-- The place of `attn_sinks` in the packed array holds it. -/
theorem cut_packed_k : cut_k (flat (packed b d a s n k g l)) = k :=
  funext fun i => by
    have h : (i 1).val < 16 := (i 1).isLt
    pointwise [ends]
    refine (dif_neg (by omega)).trans <| (dif_neg (by omega)).trans <| (dif_neg (by omega)).trans <| (dif_neg (by omega)).trans <| (dif_neg (by omega)).trans <| (dif_pos (by omega)).trans <| (dif_pos (by omega)).trans <| pick k i (by omega)
set_option maxRecDepth 65536 in
/-- The place of `ln_g` in the packed array holds it. -/
theorem cut_packed_g : cut_g (flat (packed b d a s n k g l)) = g :=
  funext fun i => by
    have h : (i 1).val < 1024 := (i 1).isLt
    pointwise [ends]
    refine (dif_neg (by omega)).trans <| (dif_neg (by omega)).trans <| (dif_neg (by omega)).trans <| (dif_neg (by omega)).trans <| (dif_neg (by omega)).trans <| (dif_neg (by omega)).trans <| (dif_neg (by omega)).trans <| (dif_pos (by omega)).trans <| (dif_pos (by omega)).trans <| pick g i (by omega)
set_option maxRecDepth 65536 in
/-- The place of `ln_b` in the packed array holds it. -/
theorem cut_packed_l : cut_l (flat (packed b d a s n k g l)) = l :=
  funext fun i => by
    have h : (i 1).val < 1024 := (i 1).isLt
    pointwise [ends]
    refine (dif_neg (by omega)).trans <| (dif_neg (by omega)).trans <| (dif_neg (by omega)).trans <| (dif_neg (by omega)).trans <| (dif_neg (by omega)).trans <| (dif_neg (by omega)).trans <| (dif_neg (by omega)).trans <| (dif_neg (by omega)).trans <| (dif_pos (by omega)).trans <| (dif_pos (by omega)).trans <| pick l i (by omega)

end Cut

/-- Two rows of pieces end to end are the same if the pieces are. -/
theorem ends_congr {u0 v0 : FVec Ideal S128 .f32} {u1 v1 : FVec Ideal S1536 .f32} {u2 v2 : FVec Ideal S128 .f32} {u3 v3 : FVec Ideal S128 .f32} {u4 v4 : FVec Ideal S128 .f32} {u5 v5 : FVec Ideal S128 .f32} {u6 v6 : FVec Ideal S1024 .f32} {u7 v7 : FVec Ideal S1024 .f32} {u8 v8 : FVec Ideal S1024 .f32} {u9 v9 : FVec Ideal S6144 .f32} {u10 v10 : FVec Ideal S896 .f32}
    (h0 : u0 = v0) (h1 : u1 = v1) (h2 : u2 = v2) (h3 : u3 = v3) (h4 : u4 = v4) (h5 : u5 = v5) (h6 : u6 = v6) (h7 : u7 = v7) (h8 : u8 = v8) (h9 : u9 = v9) (h10 : u10 = v10) :
    concatenate S12288 0 [⟨S128, u0⟩, ⟨S1536, u1⟩, ⟨S128, u2⟩, ⟨S128, u3⟩, ⟨S128, u4⟩, ⟨S128, u5⟩, ⟨S1024, u6⟩, ⟨S1024, u7⟩, ⟨S1024, u8⟩, ⟨S6144, u9⟩, ⟨S896, u10⟩]
        concatenates_S128_S1536_S128_S128_S128_S128_S1024_S1024_S1024_S6144_S896_S12288_d0
      = concatenate S12288 0 [⟨S128, v0⟩, ⟨S1536, v1⟩, ⟨S128, v2⟩, ⟨S128, v3⟩, ⟨S128, v4⟩, ⟨S128, v5⟩, ⟨S1024, v6⟩, ⟨S1024, v7⟩, ⟨S1024, v8⟩, ⟨S6144, v9⟩, ⟨S896, v10⟩]
        concatenates_S128_S1536_S128_S128_S128_S128_S1024_S1024_S1024_S6144_S896_S12288_d0 := by
  subst h0 h1 h2 h3 h4 h5 h6 h7 h8 h9 h10; rfl

section Head

variable (m : (ℓ : Loc nD τ sig) → Buf (Elt Ideal) ℓ) (c : Dev nD)

/-- The call starts with the weights packed. -/
theorem head_w : V m c main_v24 = packed (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold V V0
  after_reads_simp
  refine congrArg (fun x => shapeCast S96x128 x shapeCasts_S12288_S96x128) ?_
  refine ends_congr ?_ ?_ ?_ ?_ ?_ ?_ ?_ ?_ ?_ ?_ ?_
  all_goals dsimp only [Matrix.cons_val_zero, Matrix.cons_val_succ, Matrix.cons_val]
  all_goals after_reads_simp
  all_goals rfl
/-- The call starts with the first moments packed. -/
theorem head_m : V m c main_v47 = packed (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold V V0
  after_reads_simp
  refine congrArg (fun x => shapeCast S96x128 x shapeCasts_S12288_S96x128) ?_
  refine ends_congr ?_ ?_ ?_ ?_ ?_ ?_ ?_ ?_ ?_ ?_ ?_
  all_goals dsimp only [Matrix.cons_val_zero, Matrix.cons_val_succ, Matrix.cons_val]
  all_goals after_reads_simp
  all_goals rfl
/-- The call starts with the second moments packed. -/
theorem head_v : V m c main_v70 = packed (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  unfold V V0
  after_reads_simp
  refine congrArg (fun x => shapeCast S96x128 x shapeCasts_S12288_S96x128) ?_
  refine ends_congr ?_ ?_ ?_ ?_ ?_ ?_ ?_ ?_ ?_ ?_ ?_
  all_goals dsimp only [Matrix.cons_val_zero, Matrix.cons_val_succ, Matrix.cons_val]
  all_goals after_reads_simp
  all_goals rfl

end Head

end Cert.Small

end
-- ==== Proof.UpdateSmallVal.lean ====
/-
# AdamW of the small weights: values

The call sums the eight devices' packed gradients and takes one AdamW step on the packed weights; its grid is one point. Its host
code cuts the leaves out again. What it leaves is, leaf by leaf, what the reference's operations leave.
-/
module

public import proofs.«01_k».proof.Proof.UpdateSmallPack
public import proofs.«01_k».proof.Proof.Gen.UpdatedSmallIdeal.Run

@[expose] public section

noncomputable section

namespace Cert.Small

open Idealize.ShloMosaic Idealize.ShloMosaic.TcCoe Idealize.SL.Sem Cert.Adam
open Idealize.ShloMosaic.Pipeline (Dat)

section Kernel
open Cert.UpdateSmallIdeal Cert.UpdateSmallIdeal.Gen

/-- The sums of the eight gradients. -/
abbrev sums (x : Vec Ideal S8x96x128 .f32) : FVec Ideal S96x128 .f32 := fun i => ∑ k : Fin 8, x (ix3 k (i 0) (i 1))

section Block

variable (x : Vec Ideal S8x96x128 .f32) (w a b : Vec Ideal S96x128 .f32) (i : S96x128.Idx)

theorem zeros : (![0, 0] : Fin 2 → Nat) = fun _ => 0 := funext fun a => by fin_cases a <;> rfl

/-- The body computes the sums. -/
theorem pay_sum : k0_pay8 (F := Ideal) x w a b i = sums x i := by
  unfold k0_pay8
  pointwise [k0_pay4, sums, Fin.sum_univ_eight]
/-- It reads the whole of the first moments. -/
theorem pay_first : k0_pay9 (F := Ideal) x w a b = a := by
  unfold k0_pay9; rw [View.ld_unit_zero zeros]; exact funext fun i => by pointwise [k0_pay6]
/-- It reads the whole of the second moments. -/
theorem pay_second : k0_pay10 (F := Ideal) x w a b = b := by
  unfold k0_pay10; rw [View.ld_unit_zero zeros]; exact funext fun i => by pointwise [k0_pay7]
/-- The body writes the sums. -/
theorem block_sum : out0_4 (F := Ideal) x w a b i = sums x i := by
  unfold out0_4
  rw [View.canon_unit_zero zeros, pay_sum]
/-- The body writes the changes. -/
theorem block_change : out0_5 (F := Ideal) x w a b i = changes (sums x) w a b i := by
  unfold out0_5
  rw [View.canon_unit_zero zeros, View.ld_unit_zero zeros, pay_first, pay_second]
  unfold changes firsts seconds
  rw [← pay_sum x w a b i]
  generalize k0_pay8 x w a b = s
  pointwise [k0_pay3, k0_pay5, k0_pay1, k0_pay2, first, second, change]
/-- The body writes the new first moments. -/
theorem block_first : out0_6 (F := Ideal) x w a b i = firsts (sums x) a i := by
  unfold out0_6
  rw [View.canon_unit_zero zeros, pay_first]
  unfold firsts
  rw [← pay_sum x w a b i]
  generalize k0_pay8 x w a b = s
  pointwise [k0_pay1, first]
/-- The body writes the new second moments. -/
theorem block_second : out0_7 (F := Ideal) x w a b i = seconds (sums x) b i := by
  unfold out0_7
  rw [View.canon_unit_zero zeros, pay_second]
  unfold seconds
  rw [← pay_sum x w a b i]
  generalize k0_pay8 x w a b = s
  pointwise [k0_pay2, second]

end Block

section Final

variable (m : (ℓ : Loc nD τ sig) → Buf (Elt Ideal) ℓ) (c : Dev nD)

/-- The one point's block of the gradients is the whole array. -/
theorem whole_in (i : S8x96x128.Idx) : ((cfg0.win 0).blk t0_0).view.emb i = i := by
  funext d
  match d with
  | ⟨0, _⟩ => exact Fin.ext (by show 0 * 8 + 1 * (i 0).val = (i 0).val; omega)
  | ⟨1, _⟩ => exact Fin.ext (by show 0 * 96 + 1 * (i 1).val = (i 1).val; omega)
  | ⟨2, _⟩ => exact Fin.ext (by show 0 * 128 + 1 * (i 2).val = (i 2).val; omega)
/-- So is its block of every other array. -/
theorem whole (i : S96x128.Idx) : ((cfg0.win 4).blk t0_0).view.emb i = i := by
  funext d
  match d with
  | ⟨0, _⟩ => exact Fin.ext (by show 0 * 96 + 1 * (i 0).val = (i 0).val; omega)
  | ⟨1, _⟩ => exact Fin.ext (by show 0 * 128 + 1 * (i 1).val = (i 1).val; omega)
/-- The body reads the gradients. -/
theorem iblk_x : iblk m c 0 t0_0 = V m c main_arg0 := funext fun i => congrArg (V m c main_arg0) (whole_in i)
/-- The body reads the packed weights. -/
theorem iblk_w : iblk m c 1 t0_0 = V m c main_v24 := funext fun i => congrArg (V m c main_v24) (whole i)
/-- The body reads the packed first moments. -/
theorem iblk_a : iblk m c 2 t0_0 = V m c main_v47 := funext fun i => congrArg (V m c main_v47) (whole i)
/-- The body reads the packed second moments. -/
theorem iblk_b : iblk m c 3 t0_0 = V m c main_v70 := funext fun i => congrArg (V m c main_v70) (whole i)

/-- The array of the sums after the run. -/
theorem final_sum : (dats m 0 c).arrAt 4 cfg0.N
    = sums (m ((c : Thread nD τ).loc main_arg0)) := by
  rw [← V_main_arg0 m c]
  refine (dats m 0 c).arrAt_eq_of_cover 4 _ (fun t _ => funext fun j => ?_) fun i => ⟨t0_0, flush0_4 _, whole i ▸ ((cfg0.win 4).blk t0_0).view.emb_mem_set i⟩
  show (cfg0.win 4).cut (grid0.coords t) ((dats m 0 c).after 4 t) j = _
  rw [after0_4]
  refine (block_sum _ _ _ _ j).trans ?_
  obtain rfl : t = t0_0 := fin_N0 t
  rw [iblk_x]
  exact congrArg (sums (V m c main_arg0)) (whole j).symm

/-- The array of the changes after the run. -/
theorem final_change : (dats m 0 c).arrAt 5 cfg0.N
    = changes (sums (m ((c : Thread nD τ).loc main_arg0))) (packed (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (packed (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (packed (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) := by
  rw [← V_main_arg0 m c, ← head_w m c, ← head_m m c, ← head_v m c]
  refine (dats m 0 c).arrAt_eq_of_cover 5 _ (fun t _ => funext fun j => ?_) fun i => ⟨t0_0, flush0_5 _, whole i ▸ ((cfg0.win 5).blk t0_0).view.emb_mem_set i⟩
  show (cfg0.win 5).cut (grid0.coords t) ((dats m 0 c).after 5 t) j = _
  rw [after0_5]
  refine (block_change _ _ _ _ j).trans ?_
  obtain rfl : t = t0_0 := fin_N0 t
  rw [iblk_x, iblk_w, iblk_a, iblk_b]
  exact congrArg (changes (sums (V m c main_arg0)) (V m c main_v24) (V m c main_v47) (V m c main_v70)) (whole j).symm

/-- The array of the new first moments after the run. -/
theorem final_first : (dats m 0 c).arrAt 6 cfg0.N
    = firsts (sums (m ((c : Thread nD τ).loc main_arg0))) (packed (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  rw [← V_main_arg0 m c, ← head_m m c]
  refine (dats m 0 c).arrAt_eq_of_cover 6 _ (fun t _ => funext fun j => ?_) fun i => ⟨t0_0, flush0_6 _, whole i ▸ ((cfg0.win 6).blk t0_0).view.emb_mem_set i⟩
  show (cfg0.win 6).cut (grid0.coords t) ((dats m 0 c).after 6 t) j = _
  rw [after0_6]
  refine (block_first _ _ _ _ j).trans ?_
  obtain rfl : t = t0_0 := fin_N0 t
  rw [iblk_x, iblk_a]
  exact congrArg (firsts (sums (V m c main_arg0)) (V m c main_v47)) (whole j).symm

/-- The array of the new second moments after the run. -/
theorem final_second : (dats m 0 c).arrAt 7 cfg0.N
    = seconds (sums (m ((c : Thread nD τ).loc main_arg0))) (packed (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) := by
  rw [← V_main_arg0 m c, ← head_v m c]
  refine (dats m 0 c).arrAt_eq_of_cover 7 _ (fun t _ => funext fun j => ?_) fun i => ⟨t0_0, flush0_7 _, whole i ▸ ((cfg0.win 7).blk t0_0).view.emb_mem_set i⟩
  show (cfg0.win 7).cut (grid0.coords t) ((dats m 0 c).after 7 t) j = _
  rw [after0_7]
  refine (block_second _ _ _ _ j).trans ?_
  obtain rfl : t = t0_0 := fin_N0 t
  rw [iblk_x, iblk_b]
  exact congrArg (seconds (sums (V m c main_arg0)) (V m c main_v70)) (whole j).symm

/-- What the host code after the call finds in the call's results. -/
abbrev left : Valuation τ sig (Elt Ideal) := Pipeline.withArrays spec0 c (V0 m c) fun w => (dats m 0 c).arrAt w cfg0.N

/-- The call's results are arrays of their own. -/
theorem apart : Function.Injective (Pipeline.arrRef spec0) := by decide

/-- What a buffer that is no result of the call holds in the end. -/
theorem tail_eq (b : Ref sig .tc) :
    Pipeline.afterTail₀ cfgs (dats m) 0 (V0 m) [hostOps1] c b = StableHlo.after hostOps1 (left m c) (Proc.devRef .tc b) := by
  unfold Pipeline.afterTail₀
  rw [List.flatten_cons, List.flatten_nil, List.append_nil]

end Final

section Tail

variable (W : Valuation τ sig (Elt Ideal))

set_option maxRecDepth 16384 in
/-- What the host code leaves in buffer 92. -/
theorem tail_92 : StableHlo.after hostOps1 W (Proc.devRef .tc main_v92) = cut_loss (flat (W (Proc.devRef .tc main_v71_0))) := by
  after_reads_simp; rfl
set_option maxRecDepth 16384 in
/-- What the host code leaves in buffer 90. -/
theorem tail_90 : StableHlo.after hostOps1 W (Proc.devRef .tc main_v90) = cut_w (flat (W (Proc.devRef .tc main_v71_0))) := by
  after_reads_simp; rfl
set_option maxRecDepth 16384 in
/-- What the host code leaves in buffer 74. -/
theorem tail_74 : StableHlo.after hostOps1 W (Proc.devRef .tc main_v74) = cut_b (flat (W (Proc.devRef .tc main_v71_0))) := by
  after_reads_simp; rfl
set_option maxRecDepth 16384 in
/-- What the host code leaves in buffer 76. -/
theorem tail_76 : StableHlo.after hostOps1 W (Proc.devRef .tc main_v76) = cut_d (flat (W (Proc.devRef .tc main_v71_0))) := by
  after_reads_simp; rfl
set_option maxRecDepth 16384 in
/-- What the host code leaves in buffer 78. -/
theorem tail_78 : StableHlo.after hostOps1 W (Proc.devRef .tc main_v78) = cut_a (flat (W (Proc.devRef .tc main_v71_0))) := by
  after_reads_simp; rfl
set_option maxRecDepth 16384 in
/-- What the host code leaves in buffer 80. -/
theorem tail_80 : StableHlo.after hostOps1 W (Proc.devRef .tc main_v80) = cut_s (flat (W (Proc.devRef .tc main_v71_0))) := by
  after_reads_simp; rfl
set_option maxRecDepth 16384 in
/-- What the host code leaves in buffer 84. -/
theorem tail_84 : StableHlo.after hostOps1 W (Proc.devRef .tc main_v84) = cut_n (flat (W (Proc.devRef .tc main_v71_0))) := by
  after_reads_simp; rfl
set_option maxRecDepth 16384 in
/-- What the host code leaves in buffer 82. -/
theorem tail_82 : StableHlo.after hostOps1 W (Proc.devRef .tc main_v82) = cut_k (flat (W (Proc.devRef .tc main_v71_0))) := by
  after_reads_simp; rfl
set_option maxRecDepth 16384 in
/-- What the host code leaves in buffer 86. -/
theorem tail_86 : StableHlo.after hostOps1 W (Proc.devRef .tc main_v86) = cut_g (flat (W (Proc.devRef .tc main_v71_0))) := by
  after_reads_simp; rfl
set_option maxRecDepth 16384 in
/-- What the host code leaves in buffer 88. -/
theorem tail_88 : StableHlo.after hostOps1 W (Proc.devRef .tc main_v88) = cut_l (flat (W (Proc.devRef .tc main_v71_0))) := by
  after_reads_simp; rfl
set_option maxRecDepth 16384 in
/-- What the host code leaves in buffer 95. -/
theorem tail_95 : StableHlo.after hostOps1 W (Proc.devRef .tc main_v95) = cut_b (flat (W (Proc.devRef .tc main_v71_1))) := by
  after_reads_simp; rfl
set_option maxRecDepth 16384 in
/-- What the host code leaves in buffer 97. -/
theorem tail_97 : StableHlo.after hostOps1 W (Proc.devRef .tc main_v97) = cut_d (flat (W (Proc.devRef .tc main_v71_1))) := by
  after_reads_simp; rfl
set_option maxRecDepth 16384 in
/-- What the host code leaves in buffer 99. -/
theorem tail_99 : StableHlo.after hostOps1 W (Proc.devRef .tc main_v99) = cut_a (flat (W (Proc.devRef .tc main_v71_1))) := by
  after_reads_simp; rfl
set_option maxRecDepth 16384 in
/-- What the host code leaves in buffer 101. -/
theorem tail_101 : StableHlo.after hostOps1 W (Proc.devRef .tc main_v101) = cut_s (flat (W (Proc.devRef .tc main_v71_1))) := by
  after_reads_simp; rfl
set_option maxRecDepth 16384 in
/-- What the host code leaves in buffer 105. -/
theorem tail_105 : StableHlo.after hostOps1 W (Proc.devRef .tc main_v105) = cut_n (flat (W (Proc.devRef .tc main_v71_1))) := by
  after_reads_simp; rfl
set_option maxRecDepth 16384 in
/-- What the host code leaves in buffer 103. -/
theorem tail_103 : StableHlo.after hostOps1 W (Proc.devRef .tc main_v103) = cut_k (flat (W (Proc.devRef .tc main_v71_1))) := by
  after_reads_simp; rfl
set_option maxRecDepth 16384 in
/-- What the host code leaves in buffer 107. -/
theorem tail_107 : StableHlo.after hostOps1 W (Proc.devRef .tc main_v107) = cut_g (flat (W (Proc.devRef .tc main_v71_1))) := by
  after_reads_simp; rfl
set_option maxRecDepth 16384 in
/-- What the host code leaves in buffer 109. -/
theorem tail_109 : StableHlo.after hostOps1 W (Proc.devRef .tc main_v109) = cut_l (flat (W (Proc.devRef .tc main_v71_1))) := by
  after_reads_simp; rfl
set_option maxRecDepth 16384 in
/-- What the host code leaves in buffer 116. -/
theorem tail_116 : StableHlo.after hostOps1 W (Proc.devRef .tc main_v116) = cut_b (flat (W (Proc.devRef .tc main_v71_2))) := by
  after_reads_simp; rfl
set_option maxRecDepth 16384 in
/-- What the host code leaves in buffer 118. -/
theorem tail_118 : StableHlo.after hostOps1 W (Proc.devRef .tc main_v118) = cut_d (flat (W (Proc.devRef .tc main_v71_2))) := by
  after_reads_simp; rfl
set_option maxRecDepth 16384 in
/-- What the host code leaves in buffer 120. -/
theorem tail_120 : StableHlo.after hostOps1 W (Proc.devRef .tc main_v120) = cut_a (flat (W (Proc.devRef .tc main_v71_2))) := by
  after_reads_simp; rfl
set_option maxRecDepth 16384 in
/-- What the host code leaves in buffer 122. -/
theorem tail_122 : StableHlo.after hostOps1 W (Proc.devRef .tc main_v122) = cut_s (flat (W (Proc.devRef .tc main_v71_2))) := by
  after_reads_simp; rfl
set_option maxRecDepth 16384 in
/-- What the host code leaves in buffer 126. -/
theorem tail_126 : StableHlo.after hostOps1 W (Proc.devRef .tc main_v126) = cut_n (flat (W (Proc.devRef .tc main_v71_2))) := by
  after_reads_simp; rfl
set_option maxRecDepth 16384 in
/-- What the host code leaves in buffer 124. -/
theorem tail_124 : StableHlo.after hostOps1 W (Proc.devRef .tc main_v124) = cut_k (flat (W (Proc.devRef .tc main_v71_2))) := by
  after_reads_simp; rfl
set_option maxRecDepth 16384 in
/-- What the host code leaves in buffer 128. -/
theorem tail_128 : StableHlo.after hostOps1 W (Proc.devRef .tc main_v128) = cut_g (flat (W (Proc.devRef .tc main_v71_2))) := by
  after_reads_simp; rfl
set_option maxRecDepth 16384 in
/-- What the host code leaves in buffer 130. -/
theorem tail_130 : StableHlo.after hostOps1 W (Proc.devRef .tc main_v130) = cut_l (flat (W (Proc.devRef .tc main_v71_2))) := by
  after_reads_simp; rfl
set_option maxRecDepth 16384 in
/-- What the host code leaves in buffer 137. -/
theorem tail_137 : StableHlo.after hostOps1 W (Proc.devRef .tc main_v137) = cut_b (flat (W (Proc.devRef .tc main_v71_3))) := by
  after_reads_simp; rfl
set_option maxRecDepth 16384 in
/-- What the host code leaves in buffer 139. -/
theorem tail_139 : StableHlo.after hostOps1 W (Proc.devRef .tc main_v139) = cut_d (flat (W (Proc.devRef .tc main_v71_3))) := by
  after_reads_simp; rfl
set_option maxRecDepth 16384 in
/-- What the host code leaves in buffer 141. -/
theorem tail_141 : StableHlo.after hostOps1 W (Proc.devRef .tc main_v141) = cut_a (flat (W (Proc.devRef .tc main_v71_3))) := by
  after_reads_simp; rfl
set_option maxRecDepth 16384 in
/-- What the host code leaves in buffer 143. -/
theorem tail_143 : StableHlo.after hostOps1 W (Proc.devRef .tc main_v143) = cut_s (flat (W (Proc.devRef .tc main_v71_3))) := by
  after_reads_simp; rfl
set_option maxRecDepth 16384 in
/-- What the host code leaves in buffer 147. -/
theorem tail_147 : StableHlo.after hostOps1 W (Proc.devRef .tc main_v147) = cut_n (flat (W (Proc.devRef .tc main_v71_3))) := by
  after_reads_simp; rfl
set_option maxRecDepth 16384 in
/-- What the host code leaves in buffer 145. -/
theorem tail_145 : StableHlo.after hostOps1 W (Proc.devRef .tc main_v145) = cut_k (flat (W (Proc.devRef .tc main_v71_3))) := by
  after_reads_simp; rfl
set_option maxRecDepth 16384 in
/-- What the host code leaves in buffer 149. -/
theorem tail_149 : StableHlo.after hostOps1 W (Proc.devRef .tc main_v149) = cut_g (flat (W (Proc.devRef .tc main_v71_3))) := by
  after_reads_simp; rfl
set_option maxRecDepth 16384 in
/-- What the host code leaves in buffer 151. -/
theorem tail_151 : StableHlo.after hostOps1 W (Proc.devRef .tc main_v151) = cut_l (flat (W (Proc.devRef .tc main_v71_3))) := by
  after_reads_simp; rfl

end Tail

section Leaf

variable (y : FVec Ideal S96x128 .f32) (w_b : Vec Ideal S1x1536 .f32) (w_d w_a w_s : Vec Ideal S1x16 .f32) (w_n : Vec Ideal S1x1024 .f32) (w_k : Vec Ideal S1x16 .f32) (w_g w_l : Vec Ideal S1x1024 .f32) (a_b : Vec Ideal S1x1536 .f32) (a_d a_a a_s : Vec Ideal S1x16 .f32) (a_n : Vec Ideal S1x1024 .f32) (a_k : Vec Ideal S1x16 .f32) (a_g a_l : Vec Ideal S1x1024 .f32) (b_b : Vec Ideal S1x1536 .f32) (b_d b_a b_s : Vec Ideal S1x16 .f32) (b_n : Vec Ideal S1x1024 .f32) (b_k : Vec Ideal S1x16 .f32) (b_g b_l : Vec Ideal S1x1024 .f32)

/-- The changes at the place of `conv_b`. -/
theorem cut_changes_b : cut_b (flat (changes y (packed w_b w_d w_a w_s w_n w_k w_g w_l) (packed a_b a_d a_a a_s a_n a_k a_g a_l) (packed b_b b_d b_a b_s b_n b_k b_g b_l))) = changes (cut_b (flat y)) w_b a_b b_b := by
  show changes (cut_b (flat y)) (cut_b (flat (packed w_b w_d w_a w_s w_n w_k w_g w_l))) (cut_b (flat (packed a_b a_d a_a a_s a_n a_k a_g a_l))) (cut_b (flat (packed b_b b_d b_a b_s b_n b_k b_g b_l))) = _
  rw [cut_packed_b, cut_packed_b, cut_packed_b]
/-- The new first moments at the place of `conv_b`. -/
theorem cut_firsts_b : cut_b (flat (firsts y (packed a_b a_d a_a a_s a_n a_k a_g a_l))) = firsts (cut_b (flat y)) a_b := by
  show firsts (cut_b (flat y)) (cut_b (flat (packed a_b a_d a_a a_s a_n a_k a_g a_l))) = _
  rw [cut_packed_b]
/-- The new second moments at the place of `conv_b`. -/
theorem cut_seconds_b : cut_b (flat (seconds y (packed b_b b_d b_a b_s b_n b_k b_g b_l))) = seconds (cut_b (flat y)) b_b := by
  show seconds (cut_b (flat y)) (cut_b (flat (packed b_b b_d b_a b_s b_n b_k b_g b_l))) = _
  rw [cut_packed_b]
/-- The changes at the place of `dt_bias`. -/
theorem cut_changes_d : cut_d (flat (changes y (packed w_b w_d w_a w_s w_n w_k w_g w_l) (packed a_b a_d a_a a_s a_n a_k a_g a_l) (packed b_b b_d b_a b_s b_n b_k b_g b_l))) = changes (cut_d (flat y)) w_d a_d b_d := by
  show changes (cut_d (flat y)) (cut_d (flat (packed w_b w_d w_a w_s w_n w_k w_g w_l))) (cut_d (flat (packed a_b a_d a_a a_s a_n a_k a_g a_l))) (cut_d (flat (packed b_b b_d b_a b_s b_n b_k b_g b_l))) = _
  rw [cut_packed_d, cut_packed_d, cut_packed_d]
/-- The new first moments at the place of `dt_bias`. -/
theorem cut_firsts_d : cut_d (flat (firsts y (packed a_b a_d a_a a_s a_n a_k a_g a_l))) = firsts (cut_d (flat y)) a_d := by
  show firsts (cut_d (flat y)) (cut_d (flat (packed a_b a_d a_a a_s a_n a_k a_g a_l))) = _
  rw [cut_packed_d]
/-- The new second moments at the place of `dt_bias`. -/
theorem cut_seconds_d : cut_d (flat (seconds y (packed b_b b_d b_a b_s b_n b_k b_g b_l))) = seconds (cut_d (flat y)) b_d := by
  show seconds (cut_d (flat y)) (cut_d (flat (packed b_b b_d b_a b_s b_n b_k b_g b_l))) = _
  rw [cut_packed_d]
/-- The changes at the place of `a_log`. -/
theorem cut_changes_a : cut_a (flat (changes y (packed w_b w_d w_a w_s w_n w_k w_g w_l) (packed a_b a_d a_a a_s a_n a_k a_g a_l) (packed b_b b_d b_a b_s b_n b_k b_g b_l))) = changes (cut_a (flat y)) w_a a_a b_a := by
  show changes (cut_a (flat y)) (cut_a (flat (packed w_b w_d w_a w_s w_n w_k w_g w_l))) (cut_a (flat (packed a_b a_d a_a a_s a_n a_k a_g a_l))) (cut_a (flat (packed b_b b_d b_a b_s b_n b_k b_g b_l))) = _
  rw [cut_packed_a, cut_packed_a, cut_packed_a]
/-- The new first moments at the place of `a_log`. -/
theorem cut_firsts_a : cut_a (flat (firsts y (packed a_b a_d a_a a_s a_n a_k a_g a_l))) = firsts (cut_a (flat y)) a_a := by
  show firsts (cut_a (flat y)) (cut_a (flat (packed a_b a_d a_a a_s a_n a_k a_g a_l))) = _
  rw [cut_packed_a]
/-- The new second moments at the place of `a_log`. -/
theorem cut_seconds_a : cut_a (flat (seconds y (packed b_b b_d b_a b_s b_n b_k b_g b_l))) = seconds (cut_a (flat y)) b_a := by
  show seconds (cut_a (flat y)) (cut_a (flat (packed b_b b_d b_a b_s b_n b_k b_g b_l))) = _
  rw [cut_packed_a]
/-- The changes at the place of `d_skip`. -/
theorem cut_changes_s : cut_s (flat (changes y (packed w_b w_d w_a w_s w_n w_k w_g w_l) (packed a_b a_d a_a a_s a_n a_k a_g a_l) (packed b_b b_d b_a b_s b_n b_k b_g b_l))) = changes (cut_s (flat y)) w_s a_s b_s := by
  show changes (cut_s (flat y)) (cut_s (flat (packed w_b w_d w_a w_s w_n w_k w_g w_l))) (cut_s (flat (packed a_b a_d a_a a_s a_n a_k a_g a_l))) (cut_s (flat (packed b_b b_d b_a b_s b_n b_k b_g b_l))) = _
  rw [cut_packed_s, cut_packed_s, cut_packed_s]
/-- The new first moments at the place of `d_skip`. -/
theorem cut_firsts_s : cut_s (flat (firsts y (packed a_b a_d a_a a_s a_n a_k a_g a_l))) = firsts (cut_s (flat y)) a_s := by
  show firsts (cut_s (flat y)) (cut_s (flat (packed a_b a_d a_a a_s a_n a_k a_g a_l))) = _
  rw [cut_packed_s]
/-- The new second moments at the place of `d_skip`. -/
theorem cut_seconds_s : cut_s (flat (seconds y (packed b_b b_d b_a b_s b_n b_k b_g b_l))) = seconds (cut_s (flat y)) b_s := by
  show seconds (cut_s (flat y)) (cut_s (flat (packed b_b b_d b_a b_s b_n b_k b_g b_l))) = _
  rw [cut_packed_s]
/-- The changes at the place of `ssd_norm_w`. -/
theorem cut_changes_n : cut_n (flat (changes y (packed w_b w_d w_a w_s w_n w_k w_g w_l) (packed a_b a_d a_a a_s a_n a_k a_g a_l) (packed b_b b_d b_a b_s b_n b_k b_g b_l))) = changes (cut_n (flat y)) w_n a_n b_n := by
  show changes (cut_n (flat y)) (cut_n (flat (packed w_b w_d w_a w_s w_n w_k w_g w_l))) (cut_n (flat (packed a_b a_d a_a a_s a_n a_k a_g a_l))) (cut_n (flat (packed b_b b_d b_a b_s b_n b_k b_g b_l))) = _
  rw [cut_packed_n, cut_packed_n, cut_packed_n]
/-- The new first moments at the place of `ssd_norm_w`. -/
theorem cut_firsts_n : cut_n (flat (firsts y (packed a_b a_d a_a a_s a_n a_k a_g a_l))) = firsts (cut_n (flat y)) a_n := by
  show firsts (cut_n (flat y)) (cut_n (flat (packed a_b a_d a_a a_s a_n a_k a_g a_l))) = _
  rw [cut_packed_n]
/-- The new second moments at the place of `ssd_norm_w`. -/
theorem cut_seconds_n : cut_n (flat (seconds y (packed b_b b_d b_a b_s b_n b_k b_g b_l))) = seconds (cut_n (flat y)) b_n := by
  show seconds (cut_n (flat y)) (cut_n (flat (packed b_b b_d b_a b_s b_n b_k b_g b_l))) = _
  rw [cut_packed_n]
/-- The changes at the place of `attn_sinks`. -/
theorem cut_changes_k : cut_k (flat (changes y (packed w_b w_d w_a w_s w_n w_k w_g w_l) (packed a_b a_d a_a a_s a_n a_k a_g a_l) (packed b_b b_d b_a b_s b_n b_k b_g b_l))) = changes (cut_k (flat y)) w_k a_k b_k := by
  show changes (cut_k (flat y)) (cut_k (flat (packed w_b w_d w_a w_s w_n w_k w_g w_l))) (cut_k (flat (packed a_b a_d a_a a_s a_n a_k a_g a_l))) (cut_k (flat (packed b_b b_d b_a b_s b_n b_k b_g b_l))) = _
  rw [cut_packed_k, cut_packed_k, cut_packed_k]
/-- The new first moments at the place of `attn_sinks`. -/
theorem cut_firsts_k : cut_k (flat (firsts y (packed a_b a_d a_a a_s a_n a_k a_g a_l))) = firsts (cut_k (flat y)) a_k := by
  show firsts (cut_k (flat y)) (cut_k (flat (packed a_b a_d a_a a_s a_n a_k a_g a_l))) = _
  rw [cut_packed_k]
/-- The new second moments at the place of `attn_sinks`. -/
theorem cut_seconds_k : cut_k (flat (seconds y (packed b_b b_d b_a b_s b_n b_k b_g b_l))) = seconds (cut_k (flat y)) b_k := by
  show seconds (cut_k (flat y)) (cut_k (flat (packed b_b b_d b_a b_s b_n b_k b_g b_l))) = _
  rw [cut_packed_k]
/-- The changes at the place of `ln_g`. -/
theorem cut_changes_g : cut_g (flat (changes y (packed w_b w_d w_a w_s w_n w_k w_g w_l) (packed a_b a_d a_a a_s a_n a_k a_g a_l) (packed b_b b_d b_a b_s b_n b_k b_g b_l))) = changes (cut_g (flat y)) w_g a_g b_g := by
  show changes (cut_g (flat y)) (cut_g (flat (packed w_b w_d w_a w_s w_n w_k w_g w_l))) (cut_g (flat (packed a_b a_d a_a a_s a_n a_k a_g a_l))) (cut_g (flat (packed b_b b_d b_a b_s b_n b_k b_g b_l))) = _
  rw [cut_packed_g, cut_packed_g, cut_packed_g]
/-- The new first moments at the place of `ln_g`. -/
theorem cut_firsts_g : cut_g (flat (firsts y (packed a_b a_d a_a a_s a_n a_k a_g a_l))) = firsts (cut_g (flat y)) a_g := by
  show firsts (cut_g (flat y)) (cut_g (flat (packed a_b a_d a_a a_s a_n a_k a_g a_l))) = _
  rw [cut_packed_g]
/-- The new second moments at the place of `ln_g`. -/
theorem cut_seconds_g : cut_g (flat (seconds y (packed b_b b_d b_a b_s b_n b_k b_g b_l))) = seconds (cut_g (flat y)) b_g := by
  show seconds (cut_g (flat y)) (cut_g (flat (packed b_b b_d b_a b_s b_n b_k b_g b_l))) = _
  rw [cut_packed_g]
/-- The changes at the place of `ln_b`. -/
theorem cut_changes_l : cut_l (flat (changes y (packed w_b w_d w_a w_s w_n w_k w_g w_l) (packed a_b a_d a_a a_s a_n a_k a_g a_l) (packed b_b b_d b_a b_s b_n b_k b_g b_l))) = changes (cut_l (flat y)) w_l a_l b_l := by
  show changes (cut_l (flat y)) (cut_l (flat (packed w_b w_d w_a w_s w_n w_k w_g w_l))) (cut_l (flat (packed a_b a_d a_a a_s a_n a_k a_g a_l))) (cut_l (flat (packed b_b b_d b_a b_s b_n b_k b_g b_l))) = _
  rw [cut_packed_l, cut_packed_l, cut_packed_l]
/-- The new first moments at the place of `ln_b`. -/
theorem cut_firsts_l : cut_l (flat (firsts y (packed a_b a_d a_a a_s a_n a_k a_g a_l))) = firsts (cut_l (flat y)) a_l := by
  show firsts (cut_l (flat y)) (cut_l (flat (packed a_b a_d a_a a_s a_n a_k a_g a_l))) = _
  rw [cut_packed_l]
/-- The new second moments at the place of `ln_b`. -/
theorem cut_seconds_l : cut_l (flat (seconds y (packed b_b b_d b_a b_s b_n b_k b_g b_l))) = seconds (cut_l (flat y)) b_l := by
  show seconds (cut_l (flat y)) (cut_l (flat (packed b_b b_d b_a b_s b_n b_k b_g b_l))) = _
  rw [cut_packed_l]

end Leaf

section Run

variable (m : (ℓ : Loc nD τ sig) → Buf (Elt Ideal) ℓ) (ρ : Dev nD → PrngReg)
  {x : Vec Ideal S8x96x128 .f32} {w_b : Vec Ideal S1x1536 .f32} {w_d : Vec Ideal S1x16 .f32} {w_a : Vec Ideal S1x16 .f32} {w_s : Vec Ideal S1x16 .f32} {w_n : Vec Ideal S1x1024 .f32} {w_k : Vec Ideal S1x16 .f32} {w_g : Vec Ideal S1x1024 .f32} {w_l : Vec Ideal S1x1024 .f32} {a_b : Vec Ideal S1x1536 .f32} {a_d : Vec Ideal S1x16 .f32} {a_a : Vec Ideal S1x16 .f32} {a_s : Vec Ideal S1x16 .f32} {a_n : Vec Ideal S1x1024 .f32} {a_k : Vec Ideal S1x16 .f32} {a_g : Vec Ideal S1x1024 .f32} {a_l : Vec Ideal S1x1024 .f32} {b_b : Vec Ideal S1x1536 .f32} {b_d : Vec Ideal S1x16 .f32} {b_a : Vec Ideal S1x16 .f32} {b_s : Vec Ideal S1x16 .f32} {b_n : Vec Ideal S1x1024 .f32} {b_k : Vec Ideal S1x16 .f32} {b_g : Vec Ideal S1x1024 .f32} {b_l : Vec Ideal S1x1024 .f32}

/-- What the call leaves of arguments of these values. -/
theorem left_eq {c : Dev nD} (h : m ((c : Thread nD τ).loc main_arg0) = x
      ∧ m ((c : Thread nD τ).loc main_arg1) = w_b
      ∧ m ((c : Thread nD τ).loc main_arg2) = w_d
      ∧ m ((c : Thread nD τ).loc main_arg3) = w_a
      ∧ m ((c : Thread nD τ).loc main_arg4) = w_s
      ∧ m ((c : Thread nD τ).loc main_arg5) = w_n
      ∧ m ((c : Thread nD τ).loc main_arg6) = w_k
      ∧ m ((c : Thread nD τ).loc main_arg7) = w_g
      ∧ m ((c : Thread nD τ).loc main_arg8) = w_l
      ∧ m ((c : Thread nD τ).loc main_arg9) = a_b
      ∧ m ((c : Thread nD τ).loc main_arg10) = a_d
      ∧ m ((c : Thread nD τ).loc main_arg11) = a_a
      ∧ m ((c : Thread nD τ).loc main_arg12) = a_s
      ∧ m ((c : Thread nD τ).loc main_arg13) = a_n
      ∧ m ((c : Thread nD τ).loc main_arg14) = a_k
      ∧ m ((c : Thread nD τ).loc main_arg15) = a_g
      ∧ m ((c : Thread nD τ).loc main_arg16) = a_l
      ∧ m ((c : Thread nD τ).loc main_arg17) = b_b
      ∧ m ((c : Thread nD τ).loc main_arg18) = b_d
      ∧ m ((c : Thread nD τ).loc main_arg19) = b_a
      ∧ m ((c : Thread nD τ).loc main_arg20) = b_s
      ∧ m ((c : Thread nD τ).loc main_arg21) = b_n
      ∧ m ((c : Thread nD τ).loc main_arg22) = b_k
      ∧ m ((c : Thread nD τ).loc main_arg23) = b_g
      ∧ m ((c : Thread nD τ).loc main_arg24) = b_l) :
    left m c (Proc.devRef .tc main_v71_0) = sums x
    ∧ left m c (Proc.devRef .tc main_v71_1) = changes (sums x) (packed w_b w_d w_a w_s w_n w_k w_g w_l) (packed a_b a_d a_a a_s a_n a_k a_g a_l) (packed b_b b_d b_a b_s b_n b_k b_g b_l)
    ∧ left m c (Proc.devRef .tc main_v71_2) = firsts (sums x) (packed a_b a_d a_a a_s a_n a_k a_g a_l)
    ∧ left m c (Proc.devRef .tc main_v71_3) = seconds (sums x) (packed b_b b_d b_a b_s b_n b_k b_g b_l) := by
  obtain ⟨rfl, rfl, rfl, rfl, rfl, rfl, rfl, rfl, rfl, rfl, rfl, rfl, rfl, rfl, rfl, rfl, rfl, rfl, rfl, rfl, rfl, rfl, rfl, rfl, rfl⟩ := h
  exact ⟨(Pipeline.withArrays_arr spec0 apart c _ _ 4).trans (final_sum m c), (Pipeline.withArrays_arr spec0 apart c _ _ 5).trans (final_change m c),
    (Pipeline.withArrays_arr spec0 apart c _ _ 6).trans (final_first m c), (Pipeline.withArrays_arr spec0 apart c _ _ 7).trans (final_second m c)⟩

/-- On every device the call leaves the loss, the sums of the gradients, and AdamW's changes and new moments, leaf by leaf, and its
    arguments as they were. -/
theorem run_kernel (h : ∀ c : Dev nD, m ((c.tc : Thread nD τ).loc main_arg0) = x
      ∧ m ((c.tc : Thread nD τ).loc main_arg1) = w_b
      ∧ m ((c.tc : Thread nD τ).loc main_arg2) = w_d
      ∧ m ((c.tc : Thread nD τ).loc main_arg3) = w_a
      ∧ m ((c.tc : Thread nD τ).loc main_arg4) = w_s
      ∧ m ((c.tc : Thread nD τ).loc main_arg5) = w_n
      ∧ m ((c.tc : Thread nD τ).loc main_arg6) = w_k
      ∧ m ((c.tc : Thread nD τ).loc main_arg7) = w_g
      ∧ m ((c.tc : Thread nD τ).loc main_arg8) = w_l
      ∧ m ((c.tc : Thread nD τ).loc main_arg9) = a_b
      ∧ m ((c.tc : Thread nD τ).loc main_arg10) = a_d
      ∧ m ((c.tc : Thread nD τ).loc main_arg11) = a_a
      ∧ m ((c.tc : Thread nD τ).loc main_arg12) = a_s
      ∧ m ((c.tc : Thread nD τ).loc main_arg13) = a_n
      ∧ m ((c.tc : Thread nD τ).loc main_arg14) = a_k
      ∧ m ((c.tc : Thread nD τ).loc main_arg15) = a_g
      ∧ m ((c.tc : Thread nD τ).loc main_arg16) = a_l
      ∧ m ((c.tc : Thread nD τ).loc main_arg17) = b_b
      ∧ m ((c.tc : Thread nD τ).loc main_arg18) = b_d
      ∧ m ((c.tc : Thread nD τ).loc main_arg19) = b_a
      ∧ m ((c.tc : Thread nD τ).loc main_arg20) = b_s
      ∧ m ((c.tc : Thread nD τ).loc main_arg21) = b_n
      ∧ m ((c.tc : Thread nD τ).loc main_arg22) = b_k
      ∧ m ((c.tc : Thread nD τ).loc main_arg23) = b_g
      ∧ m ((c.tc : Thread nD τ).loc main_arg24) = b_l) :
    θ_run defs (onTc (τ := τ) (main (F := Ideal))) ⟨m, fun _ => 0, ρ⟩ fun r => ∀ c : Dev nD,
      r.2.mem ((c.tc : Thread nD τ).loc main_v92) = cut_loss (flat (sums x))
      ∧ r.2.mem ((c.tc : Thread nD τ).loc main_v90) = cut_w (flat (sums x))
      ∧ r.2.mem ((c.tc : Thread nD τ).loc main_v74) = cut_b (flat (sums x))
      ∧ r.2.mem ((c.tc : Thread nD τ).loc main_v76) = cut_d (flat (sums x))
      ∧ r.2.mem ((c.tc : Thread nD τ).loc main_v78) = cut_a (flat (sums x))
      ∧ r.2.mem ((c.tc : Thread nD τ).loc main_v80) = cut_s (flat (sums x))
      ∧ r.2.mem ((c.tc : Thread nD τ).loc main_v84) = cut_n (flat (sums x))
      ∧ r.2.mem ((c.tc : Thread nD τ).loc main_v82) = cut_k (flat (sums x))
      ∧ r.2.mem ((c.tc : Thread nD τ).loc main_v86) = cut_g (flat (sums x))
      ∧ r.2.mem ((c.tc : Thread nD τ).loc main_v88) = cut_l (flat (sums x))
      ∧ r.2.mem ((c.tc : Thread nD τ).loc main_v95) = changes (cut_b (flat (sums x))) w_b a_b b_b
      ∧ r.2.mem ((c.tc : Thread nD τ).loc main_v97) = changes (cut_d (flat (sums x))) w_d a_d b_d
      ∧ r.2.mem ((c.tc : Thread nD τ).loc main_v99) = changes (cut_a (flat (sums x))) w_a a_a b_a
      ∧ r.2.mem ((c.tc : Thread nD τ).loc main_v101) = changes (cut_s (flat (sums x))) w_s a_s b_s
      ∧ r.2.mem ((c.tc : Thread nD τ).loc main_v105) = changes (cut_n (flat (sums x))) w_n a_n b_n
      ∧ r.2.mem ((c.tc : Thread nD τ).loc main_v103) = changes (cut_k (flat (sums x))) w_k a_k b_k
      ∧ r.2.mem ((c.tc : Thread nD τ).loc main_v107) = changes (cut_g (flat (sums x))) w_g a_g b_g
      ∧ r.2.mem ((c.tc : Thread nD τ).loc main_v109) = changes (cut_l (flat (sums x))) w_l a_l b_l
      ∧ r.2.mem ((c.tc : Thread nD τ).loc main_v116) = firsts (cut_b (flat (sums x))) a_b
      ∧ r.2.mem ((c.tc : Thread nD τ).loc main_v118) = firsts (cut_d (flat (sums x))) a_d
      ∧ r.2.mem ((c.tc : Thread nD τ).loc main_v120) = firsts (cut_a (flat (sums x))) a_a
      ∧ r.2.mem ((c.tc : Thread nD τ).loc main_v122) = firsts (cut_s (flat (sums x))) a_s
      ∧ r.2.mem ((c.tc : Thread nD τ).loc main_v126) = firsts (cut_n (flat (sums x))) a_n
      ∧ r.2.mem ((c.tc : Thread nD τ).loc main_v124) = firsts (cut_k (flat (sums x))) a_k
      ∧ r.2.mem ((c.tc : Thread nD τ).loc main_v128) = firsts (cut_g (flat (sums x))) a_g
      ∧ r.2.mem ((c.tc : Thread nD τ).loc main_v130) = firsts (cut_l (flat (sums x))) a_l
      ∧ r.2.mem ((c.tc : Thread nD τ).loc main_v137) = seconds (cut_b (flat (sums x))) b_b
      ∧ r.2.mem ((c.tc : Thread nD τ).loc main_v139) = seconds (cut_d (flat (sums x))) b_d
      ∧ r.2.mem ((c.tc : Thread nD τ).loc main_v141) = seconds (cut_a (flat (sums x))) b_a
      ∧ r.2.mem ((c.tc : Thread nD τ).loc main_v143) = seconds (cut_s (flat (sums x))) b_s
      ∧ r.2.mem ((c.tc : Thread nD τ).loc main_v147) = seconds (cut_n (flat (sums x))) b_n
      ∧ r.2.mem ((c.tc : Thread nD τ).loc main_v145) = seconds (cut_k (flat (sums x))) b_k
      ∧ r.2.mem ((c.tc : Thread nD τ).loc main_v149) = seconds (cut_g (flat (sums x))) b_g
      ∧ r.2.mem ((c.tc : Thread nD τ).loc main_v151) = seconds (cut_l (flat (sums x))) b_l
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun r k c => by
    have e := left_eq m (h c)
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, k.2 c⟩
    · exact ((k.1 c).2 main_v92 (Pipeline.mem_restRefs_of main_v92 (by decide) (by decide))).trans ((tail_eq m c _).trans ((tail_92 _).trans (congrArg (fun y => cut_loss (flat y)) e.1)))
    · exact ((k.1 c).2 main_v90 (Pipeline.mem_restRefs_of main_v90 (by decide) (by decide))).trans ((tail_eq m c _).trans ((tail_90 _).trans (congrArg (fun y => cut_w (flat y)) e.1)))
    · exact ((k.1 c).2 main_v74 (Pipeline.mem_restRefs_of main_v74 (by decide) (by decide))).trans ((tail_eq m c _).trans ((tail_74 _).trans (congrArg (fun y => cut_b (flat y)) e.1)))
    · exact ((k.1 c).2 main_v76 (Pipeline.mem_restRefs_of main_v76 (by decide) (by decide))).trans ((tail_eq m c _).trans ((tail_76 _).trans (congrArg (fun y => cut_d (flat y)) e.1)))
    · exact ((k.1 c).2 main_v78 (Pipeline.mem_restRefs_of main_v78 (by decide) (by decide))).trans ((tail_eq m c _).trans ((tail_78 _).trans (congrArg (fun y => cut_a (flat y)) e.1)))
    · exact ((k.1 c).2 main_v80 (Pipeline.mem_restRefs_of main_v80 (by decide) (by decide))).trans ((tail_eq m c _).trans ((tail_80 _).trans (congrArg (fun y => cut_s (flat y)) e.1)))
    · exact ((k.1 c).2 main_v84 (Pipeline.mem_restRefs_of main_v84 (by decide) (by decide))).trans ((tail_eq m c _).trans ((tail_84 _).trans (congrArg (fun y => cut_n (flat y)) e.1)))
    · exact ((k.1 c).2 main_v82 (Pipeline.mem_restRefs_of main_v82 (by decide) (by decide))).trans ((tail_eq m c _).trans ((tail_82 _).trans (congrArg (fun y => cut_k (flat y)) e.1)))
    · exact ((k.1 c).2 main_v86 (Pipeline.mem_restRefs_of main_v86 (by decide) (by decide))).trans ((tail_eq m c _).trans ((tail_86 _).trans (congrArg (fun y => cut_g (flat y)) e.1)))
    · exact ((k.1 c).2 main_v88 (Pipeline.mem_restRefs_of main_v88 (by decide) (by decide))).trans ((tail_eq m c _).trans ((tail_88 _).trans (congrArg (fun y => cut_l (flat y)) e.1)))
    · exact ((k.1 c).2 main_v95 (Pipeline.mem_restRefs_of main_v95 (by decide) (by decide))).trans ((tail_eq m c _).trans ((tail_95 _).trans ((congrArg (fun y => cut_b (flat y)) e.2.1).trans (cut_changes_b _ w_b w_d w_a w_s w_n w_k w_g w_l a_b a_d a_a a_s a_n a_k a_g a_l b_b b_d b_a b_s b_n b_k b_g b_l))))
    · exact ((k.1 c).2 main_v97 (Pipeline.mem_restRefs_of main_v97 (by decide) (by decide))).trans ((tail_eq m c _).trans ((tail_97 _).trans ((congrArg (fun y => cut_d (flat y)) e.2.1).trans (cut_changes_d _ w_b w_d w_a w_s w_n w_k w_g w_l a_b a_d a_a a_s a_n a_k a_g a_l b_b b_d b_a b_s b_n b_k b_g b_l))))
    · exact ((k.1 c).2 main_v99 (Pipeline.mem_restRefs_of main_v99 (by decide) (by decide))).trans ((tail_eq m c _).trans ((tail_99 _).trans ((congrArg (fun y => cut_a (flat y)) e.2.1).trans (cut_changes_a _ w_b w_d w_a w_s w_n w_k w_g w_l a_b a_d a_a a_s a_n a_k a_g a_l b_b b_d b_a b_s b_n b_k b_g b_l))))
    · exact ((k.1 c).2 main_v101 (Pipeline.mem_restRefs_of main_v101 (by decide) (by decide))).trans ((tail_eq m c _).trans ((tail_101 _).trans ((congrArg (fun y => cut_s (flat y)) e.2.1).trans (cut_changes_s _ w_b w_d w_a w_s w_n w_k w_g w_l a_b a_d a_a a_s a_n a_k a_g a_l b_b b_d b_a b_s b_n b_k b_g b_l))))
    · exact ((k.1 c).2 main_v105 (Pipeline.mem_restRefs_of main_v105 (by decide) (by decide))).trans ((tail_eq m c _).trans ((tail_105 _).trans ((congrArg (fun y => cut_n (flat y)) e.2.1).trans (cut_changes_n _ w_b w_d w_a w_s w_n w_k w_g w_l a_b a_d a_a a_s a_n a_k a_g a_l b_b b_d b_a b_s b_n b_k b_g b_l))))
    · exact ((k.1 c).2 main_v103 (Pipeline.mem_restRefs_of main_v103 (by decide) (by decide))).trans ((tail_eq m c _).trans ((tail_103 _).trans ((congrArg (fun y => cut_k (flat y)) e.2.1).trans (cut_changes_k _ w_b w_d w_a w_s w_n w_k w_g w_l a_b a_d a_a a_s a_n a_k a_g a_l b_b b_d b_a b_s b_n b_k b_g b_l))))
    · exact ((k.1 c).2 main_v107 (Pipeline.mem_restRefs_of main_v107 (by decide) (by decide))).trans ((tail_eq m c _).trans ((tail_107 _).trans ((congrArg (fun y => cut_g (flat y)) e.2.1).trans (cut_changes_g _ w_b w_d w_a w_s w_n w_k w_g w_l a_b a_d a_a a_s a_n a_k a_g a_l b_b b_d b_a b_s b_n b_k b_g b_l))))
    · exact ((k.1 c).2 main_v109 (Pipeline.mem_restRefs_of main_v109 (by decide) (by decide))).trans ((tail_eq m c _).trans ((tail_109 _).trans ((congrArg (fun y => cut_l (flat y)) e.2.1).trans (cut_changes_l _ w_b w_d w_a w_s w_n w_k w_g w_l a_b a_d a_a a_s a_n a_k a_g a_l b_b b_d b_a b_s b_n b_k b_g b_l))))
    · exact ((k.1 c).2 main_v116 (Pipeline.mem_restRefs_of main_v116 (by decide) (by decide))).trans ((tail_eq m c _).trans ((tail_116 _).trans ((congrArg (fun y => cut_b (flat y)) e.2.2.1).trans (cut_firsts_b _ a_b a_d a_a a_s a_n a_k a_g a_l))))
    · exact ((k.1 c).2 main_v118 (Pipeline.mem_restRefs_of main_v118 (by decide) (by decide))).trans ((tail_eq m c _).trans ((tail_118 _).trans ((congrArg (fun y => cut_d (flat y)) e.2.2.1).trans (cut_firsts_d _ a_b a_d a_a a_s a_n a_k a_g a_l))))
    · exact ((k.1 c).2 main_v120 (Pipeline.mem_restRefs_of main_v120 (by decide) (by decide))).trans ((tail_eq m c _).trans ((tail_120 _).trans ((congrArg (fun y => cut_a (flat y)) e.2.2.1).trans (cut_firsts_a _ a_b a_d a_a a_s a_n a_k a_g a_l))))
    · exact ((k.1 c).2 main_v122 (Pipeline.mem_restRefs_of main_v122 (by decide) (by decide))).trans ((tail_eq m c _).trans ((tail_122 _).trans ((congrArg (fun y => cut_s (flat y)) e.2.2.1).trans (cut_firsts_s _ a_b a_d a_a a_s a_n a_k a_g a_l))))
    · exact ((k.1 c).2 main_v126 (Pipeline.mem_restRefs_of main_v126 (by decide) (by decide))).trans ((tail_eq m c _).trans ((tail_126 _).trans ((congrArg (fun y => cut_n (flat y)) e.2.2.1).trans (cut_firsts_n _ a_b a_d a_a a_s a_n a_k a_g a_l))))
    · exact ((k.1 c).2 main_v124 (Pipeline.mem_restRefs_of main_v124 (by decide) (by decide))).trans ((tail_eq m c _).trans ((tail_124 _).trans ((congrArg (fun y => cut_k (flat y)) e.2.2.1).trans (cut_firsts_k _ a_b a_d a_a a_s a_n a_k a_g a_l))))
    · exact ((k.1 c).2 main_v128 (Pipeline.mem_restRefs_of main_v128 (by decide) (by decide))).trans ((tail_eq m c _).trans ((tail_128 _).trans ((congrArg (fun y => cut_g (flat y)) e.2.2.1).trans (cut_firsts_g _ a_b a_d a_a a_s a_n a_k a_g a_l))))
    · exact ((k.1 c).2 main_v130 (Pipeline.mem_restRefs_of main_v130 (by decide) (by decide))).trans ((tail_eq m c _).trans ((tail_130 _).trans ((congrArg (fun y => cut_l (flat y)) e.2.2.1).trans (cut_firsts_l _ a_b a_d a_a a_s a_n a_k a_g a_l))))
    · exact ((k.1 c).2 main_v137 (Pipeline.mem_restRefs_of main_v137 (by decide) (by decide))).trans ((tail_eq m c _).trans ((tail_137 _).trans ((congrArg (fun y => cut_b (flat y)) e.2.2.2).trans (cut_seconds_b _ b_b b_d b_a b_s b_n b_k b_g b_l))))
    · exact ((k.1 c).2 main_v139 (Pipeline.mem_restRefs_of main_v139 (by decide) (by decide))).trans ((tail_eq m c _).trans ((tail_139 _).trans ((congrArg (fun y => cut_d (flat y)) e.2.2.2).trans (cut_seconds_d _ b_b b_d b_a b_s b_n b_k b_g b_l))))
    · exact ((k.1 c).2 main_v141 (Pipeline.mem_restRefs_of main_v141 (by decide) (by decide))).trans ((tail_eq m c _).trans ((tail_141 _).trans ((congrArg (fun y => cut_a (flat y)) e.2.2.2).trans (cut_seconds_a _ b_b b_d b_a b_s b_n b_k b_g b_l))))
    · exact ((k.1 c).2 main_v143 (Pipeline.mem_restRefs_of main_v143 (by decide) (by decide))).trans ((tail_eq m c _).trans ((tail_143 _).trans ((congrArg (fun y => cut_s (flat y)) e.2.2.2).trans (cut_seconds_s _ b_b b_d b_a b_s b_n b_k b_g b_l))))
    · exact ((k.1 c).2 main_v147 (Pipeline.mem_restRefs_of main_v147 (by decide) (by decide))).trans ((tail_eq m c _).trans ((tail_147 _).trans ((congrArg (fun y => cut_n (flat y)) e.2.2.2).trans (cut_seconds_n _ b_b b_d b_a b_s b_n b_k b_g b_l))))
    · exact ((k.1 c).2 main_v145 (Pipeline.mem_restRefs_of main_v145 (by decide) (by decide))).trans ((tail_eq m c _).trans ((tail_145 _).trans ((congrArg (fun y => cut_k (flat y)) e.2.2.2).trans (cut_seconds_k _ b_b b_d b_a b_s b_n b_k b_g b_l))))
    · exact ((k.1 c).2 main_v149 (Pipeline.mem_restRefs_of main_v149 (by decide) (by decide))).trans ((tail_eq m c _).trans ((tail_149 _).trans ((congrArg (fun y => cut_g (flat y)) e.2.2.2).trans (cut_seconds_g _ b_b b_d b_a b_s b_n b_k b_g b_l))))
    · exact ((k.1 c).2 main_v151 (Pipeline.mem_restRefs_of main_v151 (by decide) (by decide))).trans ((tail_eq m c _).trans ((tail_151 _).trans ((congrArg (fun y => cut_l (flat y)) e.2.2.2).trans (cut_seconds_l _ b_b b_d b_a b_s b_n b_k b_g b_l)))))
    (θ_run_and (run_main m ρ) (unchanged m ρ))

end Run

end Kernel

section Reference
open Cert.UpdatedSmallIdeal Cert.UpdatedSmallIdeal.Gen

/-- The host's sums of the eight gradients, end to end. -/
theorem host_sums (x : Vec Ideal S8x96x128 .f32) :
    (Host.reduceAdd (shapeCast S8x12288 x shapeCasts_S8x96x128_S8x12288) (constant S_ .f32 0x00000000#32) reducesTo_S8x12288_S12288_d0 h_S_ : FVec Ideal S12288 .f32)
      = flat (sums x) :=
  funext fun i => by pointwise [flat, sums]

/-- The reference leaves the loss, the sums of the gradients, and AdamW's changes and new moments, leaf by leaf, and its arguments
    as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v211) = cut_loss (flat (sums (m ((c.tc : Thread nD τ).loc main_arg0))))
      ∧ r.2.mem ((c.tc : Thread nD τ).loc main_v213) = cut_w (flat (sums (m ((c.tc : Thread nD τ).loc main_arg0))))
      ∧ r.2.mem ((c.tc : Thread nD τ).loc main_v10) = cut_b (flat (sums (m ((c.tc : Thread nD τ).loc main_arg0))))
      ∧ r.2.mem ((c.tc : Thread nD τ).loc main_v11) = cut_d (flat (sums (m ((c.tc : Thread nD τ).loc main_arg0))))
      ∧ r.2.mem ((c.tc : Thread nD τ).loc main_v12) = cut_a (flat (sums (m ((c.tc : Thread nD τ).loc main_arg0))))
      ∧ r.2.mem ((c.tc : Thread nD τ).loc main_v13) = cut_s (flat (sums (m ((c.tc : Thread nD τ).loc main_arg0))))
      ∧ r.2.mem ((c.tc : Thread nD τ).loc main_v14) = cut_n (flat (sums (m ((c.tc : Thread nD τ).loc main_arg0))))
      ∧ r.2.mem ((c.tc : Thread nD τ).loc main_v15) = cut_k (flat (sums (m ((c.tc : Thread nD τ).loc main_arg0))))
      ∧ r.2.mem ((c.tc : Thread nD τ).loc main_v16) = cut_g (flat (sums (m ((c.tc : Thread nD τ).loc main_arg0))))
      ∧ r.2.mem ((c.tc : Thread nD τ).loc main_v17) = cut_l (flat (sums (m ((c.tc : Thread nD τ).loc main_arg0))))
      ∧ r.2.mem ((c.tc : Thread nD τ).loc main_v41) = changes (cut_b (flat (sums (m ((c.tc : Thread nD τ).loc main_arg0))))) (m ((c.tc : Thread nD τ).loc main_arg1)) (m ((c.tc : Thread nD τ).loc main_arg9)) (m ((c.tc : Thread nD τ).loc main_arg17))
      ∧ r.2.mem ((c.tc : Thread nD τ).loc main_v65) = changes (cut_d (flat (sums (m ((c.tc : Thread nD τ).loc main_arg0))))) (m ((c.tc : Thread nD τ).loc main_arg2)) (m ((c.tc : Thread nD τ).loc main_arg10)) (m ((c.tc : Thread nD τ).loc main_arg18))
      ∧ r.2.mem ((c.tc : Thread nD τ).loc main_v89) = changes (cut_a (flat (sums (m ((c.tc : Thread nD τ).loc main_arg0))))) (m ((c.tc : Thread nD τ).loc main_arg3)) (m ((c.tc : Thread nD τ).loc main_arg11)) (m ((c.tc : Thread nD τ).loc main_arg19))
      ∧ r.2.mem ((c.tc : Thread nD τ).loc main_v113) = changes (cut_s (flat (sums (m ((c.tc : Thread nD τ).loc main_arg0))))) (m ((c.tc : Thread nD τ).loc main_arg4)) (m ((c.tc : Thread nD τ).loc main_arg12)) (m ((c.tc : Thread nD τ).loc main_arg20))
      ∧ r.2.mem ((c.tc : Thread nD τ).loc main_v137) = changes (cut_n (flat (sums (m ((c.tc : Thread nD τ).loc main_arg0))))) (m ((c.tc : Thread nD τ).loc main_arg5)) (m ((c.tc : Thread nD τ).loc main_arg13)) (m ((c.tc : Thread nD τ).loc main_arg21))
      ∧ r.2.mem ((c.tc : Thread nD τ).loc main_v161) = changes (cut_k (flat (sums (m ((c.tc : Thread nD τ).loc main_arg0))))) (m ((c.tc : Thread nD τ).loc main_arg6)) (m ((c.tc : Thread nD τ).loc main_arg14)) (m ((c.tc : Thread nD τ).loc main_arg22))
      ∧ r.2.mem ((c.tc : Thread nD τ).loc main_v185) = changes (cut_g (flat (sums (m ((c.tc : Thread nD τ).loc main_arg0))))) (m ((c.tc : Thread nD τ).loc main_arg7)) (m ((c.tc : Thread nD τ).loc main_arg15)) (m ((c.tc : Thread nD τ).loc main_arg23))
      ∧ r.2.mem ((c.tc : Thread nD τ).loc main_v209) = changes (cut_l (flat (sums (m ((c.tc : Thread nD τ).loc main_arg0))))) (m ((c.tc : Thread nD τ).loc main_arg8)) (m ((c.tc : Thread nD τ).loc main_arg16)) (m ((c.tc : Thread nD τ).loc main_arg24))
      ∧ r.2.mem ((c.tc : Thread nD τ).loc main_v22) = firsts (cut_b (flat (sums (m ((c.tc : Thread nD τ).loc main_arg0))))) (m ((c.tc : Thread nD τ).loc main_arg9))
      ∧ r.2.mem ((c.tc : Thread nD τ).loc main_v46) = firsts (cut_d (flat (sums (m ((c.tc : Thread nD τ).loc main_arg0))))) (m ((c.tc : Thread nD τ).loc main_arg10))
      ∧ r.2.mem ((c.tc : Thread nD τ).loc main_v70) = firsts (cut_a (flat (sums (m ((c.tc : Thread nD τ).loc main_arg0))))) (m ((c.tc : Thread nD τ).loc main_arg11))
      ∧ r.2.mem ((c.tc : Thread nD τ).loc main_v94) = firsts (cut_s (flat (sums (m ((c.tc : Thread nD τ).loc main_arg0))))) (m ((c.tc : Thread nD τ).loc main_arg12))
      ∧ r.2.mem ((c.tc : Thread nD τ).loc main_v118) = firsts (cut_n (flat (sums (m ((c.tc : Thread nD τ).loc main_arg0))))) (m ((c.tc : Thread nD τ).loc main_arg13))
      ∧ r.2.mem ((c.tc : Thread nD τ).loc main_v142) = firsts (cut_k (flat (sums (m ((c.tc : Thread nD τ).loc main_arg0))))) (m ((c.tc : Thread nD τ).loc main_arg14))
      ∧ r.2.mem ((c.tc : Thread nD τ).loc main_v166) = firsts (cut_g (flat (sums (m ((c.tc : Thread nD τ).loc main_arg0))))) (m ((c.tc : Thread nD τ).loc main_arg15))
      ∧ r.2.mem ((c.tc : Thread nD τ).loc main_v190) = firsts (cut_l (flat (sums (m ((c.tc : Thread nD τ).loc main_arg0))))) (m ((c.tc : Thread nD τ).loc main_arg16))
      ∧ r.2.mem ((c.tc : Thread nD τ).loc main_v28) = seconds (cut_b (flat (sums (m ((c.tc : Thread nD τ).loc main_arg0))))) (m ((c.tc : Thread nD τ).loc main_arg17))
      ∧ r.2.mem ((c.tc : Thread nD τ).loc main_v52) = seconds (cut_d (flat (sums (m ((c.tc : Thread nD τ).loc main_arg0))))) (m ((c.tc : Thread nD τ).loc main_arg18))
      ∧ r.2.mem ((c.tc : Thread nD τ).loc main_v76) = seconds (cut_a (flat (sums (m ((c.tc : Thread nD τ).loc main_arg0))))) (m ((c.tc : Thread nD τ).loc main_arg19))
      ∧ r.2.mem ((c.tc : Thread nD τ).loc main_v100) = seconds (cut_s (flat (sums (m ((c.tc : Thread nD τ).loc main_arg0))))) (m ((c.tc : Thread nD τ).loc main_arg20))
      ∧ r.2.mem ((c.tc : Thread nD τ).loc main_v124) = seconds (cut_n (flat (sums (m ((c.tc : Thread nD τ).loc main_arg0))))) (m ((c.tc : Thread nD τ).loc main_arg21))
      ∧ r.2.mem ((c.tc : Thread nD τ).loc main_v148) = seconds (cut_k (flat (sums (m ((c.tc : Thread nD τ).loc main_arg0))))) (m ((c.tc : Thread nD τ).loc main_arg22))
      ∧ r.2.mem ((c.tc : Thread nD τ).loc main_v172) = seconds (cut_g (flat (sums (m ((c.tc : Thread nD τ).loc main_arg0))))) (m ((c.tc : Thread nD τ).loc main_arg23))
      ∧ r.2.mem ((c.tc : Thread nD τ).loc main_v196) = seconds (cut_l (flat (sums (m ((c.tc : Thread nD τ).loc main_arg0))))) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => by
    have k := h c
    refine ⟨k.1.trans (congrArg cut_loss (host_sums _)),
      k.2.1.trans (congrArg cut_w (host_sums _)),
      k.2.2.1.trans (congrArg cut_b (host_sums _)),
      k.2.2.2.1.trans (congrArg cut_d (host_sums _)),
      k.2.2.2.2.1.trans (congrArg cut_a (host_sums _)),
      k.2.2.2.2.2.1.trans (congrArg cut_s (host_sums _)),
      k.2.2.2.2.2.2.1.trans (congrArg cut_n (host_sums _)),
      k.2.2.2.2.2.2.2.1.trans (congrArg cut_k (host_sums _)),
      k.2.2.2.2.2.2.2.2.1.trans (congrArg cut_g (host_sums _)),
      k.2.2.2.2.2.2.2.2.2.1.trans (congrArg cut_l (host_sums _)),
      k.2.2.2.2.2.2.2.2.2.2.1.trans (host_changes _ (congrArg cut_b (host_sums _)) _ _ _),
      k.2.2.2.2.2.2.2.2.2.2.2.1.trans (host_changes _ (congrArg cut_d (host_sums _)) _ _ _),
      k.2.2.2.2.2.2.2.2.2.2.2.2.1.trans (host_changes _ (congrArg cut_a (host_sums _)) _ _ _),
      k.2.2.2.2.2.2.2.2.2.2.2.2.2.1.trans (host_changes _ (congrArg cut_s (host_sums _)) _ _ _),
      k.2.2.2.2.2.2.2.2.2.2.2.2.2.2.1.trans (host_changes _ (congrArg cut_n (host_sums _)) _ _ _),
      k.2.2.2.2.2.2.2.2.2.2.2.2.2.2.2.1.trans (host_changes _ (congrArg cut_k (host_sums _)) _ _ _),
      k.2.2.2.2.2.2.2.2.2.2.2.2.2.2.2.2.1.trans (host_changes _ (congrArg cut_g (host_sums _)) _ _ _),
      k.2.2.2.2.2.2.2.2.2.2.2.2.2.2.2.2.2.1.trans (host_changes _ (congrArg cut_l (host_sums _)) _ _ _),
      k.2.2.2.2.2.2.2.2.2.2.2.2.2.2.2.2.2.2.1.trans (host_firsts _ (congrArg cut_b (host_sums _)) _),
      k.2.2.2.2.2.2.2.2.2.2.2.2.2.2.2.2.2.2.2.1.trans (host_firsts _ (congrArg cut_d (host_sums _)) _),
      k.2.2.2.2.2.2.2.2.2.2.2.2.2.2.2.2.2.2.2.2.1.trans (host_firsts _ (congrArg cut_a (host_sums _)) _),
      k.2.2.2.2.2.2.2.2.2.2.2.2.2.2.2.2.2.2.2.2.2.1.trans (host_firsts _ (congrArg cut_s (host_sums _)) _),
      k.2.2.2.2.2.2.2.2.2.2.2.2.2.2.2.2.2.2.2.2.2.2.1.trans (host_firsts _ (congrArg cut_n (host_sums _)) _),
      k.2.2.2.2.2.2.2.2.2.2.2.2.2.2.2.2.2.2.2.2.2.2.2.1.trans (host_firsts _ (congrArg cut_k (host_sums _)) _),
      k.2.2.2.2.2.2.2.2.2.2.2.2.2.2.2.2.2.2.2.2.2.2.2.2.1.trans (host_firsts _ (congrArg cut_g (host_sums _)) _),
      k.2.2.2.2.2.2.2.2.2.2.2.2.2.2.2.2.2.2.2.2.2.2.2.2.2.1.trans (host_firsts _ (congrArg cut_l (host_sums _)) _),
      k.2.2.2.2.2.2.2.2.2.2.2.2.2.2.2.2.2.2.2.2.2.2.2.2.2.2.1.trans (host_seconds _ (congrArg cut_b (host_sums _)) _),
      k.2.2.2.2.2.2.2.2.2.2.2.2.2.2.2.2.2.2.2.2.2.2.2.2.2.2.2.1.trans (host_seconds _ (congrArg cut_d (host_sums _)) _),
      k.2.2.2.2.2.2.2.2.2.2.2.2.2.2.2.2.2.2.2.2.2.2.2.2.2.2.2.2.1.trans (host_seconds _ (congrArg cut_a (host_sums _)) _),
      k.2.2.2.2.2.2.2.2.2.2.2.2.2.2.2.2.2.2.2.2.2.2.2.2.2.2.2.2.2.1.trans (host_seconds _ (congrArg cut_s (host_sums _)) _),
      k.2.2.2.2.2.2.2.2.2.2.2.2.2.2.2.2.2.2.2.2.2.2.2.2.2.2.2.2.2.2.1.trans (host_seconds _ (congrArg cut_n (host_sums _)) _),
      k.2.2.2.2.2.2.2.2.2.2.2.2.2.2.2.2.2.2.2.2.2.2.2.2.2.2.2.2.2.2.2.1.trans (host_seconds _ (congrArg cut_k (host_sums _)) _),
      k.2.2.2.2.2.2.2.2.2.2.2.2.2.2.2.2.2.2.2.2.2.2.2.2.2.2.2.2.2.2.2.2.1.trans (host_seconds _ (congrArg cut_g (host_sums _)) _),
      k.2.2.2.2.2.2.2.2.2.2.2.2.2.2.2.2.2.2.2.2.2.2.2.2.2.2.2.2.2.2.2.2.2.1.trans (host_seconds _ (congrArg cut_l (host_sums _)) _),
      k.2.2.2.2.2.2.2.2.2.2.2.2.2.2.2.2.2.2.2.2.2.2.2.2.2.2.2.2.2.2.2.2.2.2⟩)
    (Cert.UpdatedSmallIdeal.Value.run m ρ)

end Reference

end Cert.Small

end
-- ==== Proof.UpdateConvVal.lean ====
/-
# AdamW of one weight without a sum: values

What the call leaves of its four arguments, index by index, and that it is the device's block of what the reference's operations
leave of the whole arrays.
-/
module

public import proofs.«01_k».proof.Proof.Adam
public import proofs.«01_k».proof.Proof.Gen.UpdateConvIdeal.Value
public import proofs.«01_k».proof.Proof.Gen.UpdatedConvIdeal.Run

@[expose] public section

noncomputable section

namespace Cert.Conv

open Idealize.ShloMosaic Idealize.SL.Sem Cert.Adam

section Kernel
open Cert.UpdateConvIdeal Cert.UpdateConvIdeal.Gen Cert.UpdateConvIdeal.Value

variable (g w a b : Vec Ideal S4x192 .f32) (i : S4x192.Idx)

/-- The second result is the new first moment. -/
theorem kernel_first : G5 (F := Ideal) g w a b i = first (a i) (g i) := by pointwise [G5, k0_pay2, k0_pay1, first]
/-- The third result is the new second moment. -/
theorem kernel_second : G6 (F := Ideal) g w a b i = second (b i) (g i) := by pointwise [G6, k0_pay1, k0_pay3, second]
/-- The first result is the change of the weight. -/
theorem kernel_change : G4 (F := Ideal) g w a b i = change (w i) (first (a i) (g i)) (second (b i) (g i)) := by
  pointwise [G4, k0_pay4, k0_pay1, k0_pay2, k0_pay3, first, second, change]

end Kernel

section Reference
open Cert.UpdatedConvIdeal Cert.UpdatedConvIdeal.Gen

/-- The reference leaves the changes and the new moments, and its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = changes (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v4) = firsts (m ((c.tc : Thread nD τ).loc main_arg0)) (m ((c.tc : Thread nD τ).loc main_arg2))
      ∧ r.2.mem ((c.tc : Thread nD τ).loc main_v10) = seconds (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (host_changes _ rfl _ _ _), (h c).2.1.trans (host_firsts _ rfl _),
      (h c).2.2.1.trans (host_seconds _ rfl _), (h c).2.2.2⟩) (Cert.UpdatedConvIdeal.Value.run m ρ)

end Reference

/-- From the blocks of the arguments the call leaves the blocks of the reference's results. -/
theorem blocks {c : Fin 8} {g w a b : Vec Ideal ⟨2, ![4, 192]⟩ .f32} {g' w' a' b' : Vec Ideal ⟨2, ![4, 1536]⟩ .f32}
    (h : g = Layout.block ⟨2, ![4, 192]⟩ ⟨2, ![4, 1536]⟩ 1 8 c g' ∧ w = Layout.block ⟨2, ![4, 192]⟩ ⟨2, ![4, 1536]⟩ 1 8 c w'
      ∧ a = Layout.block ⟨2, ![4, 192]⟩ ⟨2, ![4, 1536]⟩ 1 8 c a' ∧ b = Layout.block ⟨2, ![4, 192]⟩ ⟨2, ![4, 1536]⟩ 1 8 c b') :
    Cert.UpdateConvIdeal.Value.G4 (F := Ideal) g w a b = Layout.block ⟨2, ![4, 192]⟩ ⟨2, ![4, 1536]⟩ 1 8 c (changes g' w' a' b')
    ∧ Cert.UpdateConvIdeal.Value.G5 (F := Ideal) g w a b = Layout.block ⟨2, ![4, 192]⟩ ⟨2, ![4, 1536]⟩ 1 8 c (firsts g' a')
    ∧ Cert.UpdateConvIdeal.Value.G6 (F := Ideal) g w a b = Layout.block ⟨2, ![4, 192]⟩ ⟨2, ![4, 1536]⟩ 1 8 c (seconds g' b') := by
  obtain ⟨rfl, rfl, rfl, rfl⟩ := h
  exact ⟨funext fun i => kernel_change _ _ _ _ i, funext fun i => kernel_first _ _ _ _ i, funext fun i => kernel_second _ _ _ _ i⟩

end Cert.Conv

end
-- ==== Proof.GradXVal.lean ====
/-
# The gradient of the input: values

What the two products leave, index by index: each grid has eight points, each of 512 rows; the first product adds to the
residual's gradient what comes back through the first 2576 columns of the projection, the second what comes back through the
others. Together they are the reference's one product over all 5136 columns.
-/
module

public import proofs.«01_k».proof.Proof.Gen.GradXIdeal.Frame
public import proofs.«01_k».proof.Proof.Gen.GradedXIdeal.Run
public import Idealize.ShloMosaic.Lib.Pointwise
public import Idealize.ShloMosaic.Lib.IdealHost
public import Idealize.ShloMosaic.Lib.Pipeline.Value
public import Idealize.ShloMosaic.Lib.StableHlo.RunRead

@[expose] public section

noncomputable section

namespace Cert.GradOfX

open Idealize.ShloMosaic Idealize.ShloMosaic.TcCoe Idealize.SL Idealize.SL.Sem
open Idealize.ShloMosaic.Pipeline (Dat)

section Kernel
open Cert.GradXIdeal Cert.GradXIdeal.Gen

theorem zeros : (![0, 0] : Fin 2 → Nat) = fun _ => 0 := funext fun a => by fin_cases a <;> rfl

/-- The factor of the residual. -/
abbrev alpha : Ideal .f32 := Ideal.ofBits .f32 0x3F9837F0#32

/-- A point of the first product writes its rows' products and the scaled addend. -/
theorem block_ssd (a : Vec Ideal S512x2816 .f32) (b : Vec Ideal S2816x1024 .bf16) (r : Vec Ideal S512x1024 .f32) (j : S512x1024.Idx) :
    out0_3 (F := Ideal) a b r j = ∑ k : Fin 2816, a (ix2 (j 0) k) * b (ix2 k (j 1)) + alpha * r j := by
  unfold out0_3
  rw [View.canon_unit_zero zeros, View.ld_unit_zero zeros, View.ld_unit_zero zeros, View.ld_unit_zero zeros]
  pointwise [k0_pay1]

/-- A point of the second product writes its rows' products and the addend. -/
theorem block_att (a : Vec Ideal S512x2560 .f32) (b : Vec Ideal S2560x1024 .bf16) (r : Vec Ideal S512x1024 .f32) (j : S512x1024.Idx) :
    out1_3 (F := Ideal) a b r j = ∑ k : Fin 2560, a (ix2 (j 0) k) * b (ix2 k (j 1)) + r j := by
  unfold out1_3
  rw [View.canon_unit_zero zeros, View.ld_unit_zero zeros, View.ld_unit_zero zeros, View.ld_unit_zero zeros]
  pointwise [k1_pay1]

section Arrays

variable (V : (c : Dev nD) → (b : Ref sig .tc) → Buf (Elt Ideal) ((c : Thread nD τ).loc b))

/-- The index of the array that a point's block of the first product has at `j`. -/
abbrev at0 (t : Fin cfg0.N) (j : S512x1024.Idx) : S4096x1024.Idx := ((cfg0.win 3).blk t).view.emb j
/-- The index of the array that a point's block of the second product has at `j`. -/
abbrev at1 (t : Fin cfg1.N) (j : S512x1024.Idx) : S4096x1024.Idx := ((cfg1.win 3).blk t).view.emb j

/-- Where row `j` of a point's block of the first product lies. -/
theorem at0_row (t : Fin cfg0.N) (j : S512x1024.Idx) : (at0 t j 0).val = t.val * 512 + (j 0).val := by
  have e : win0_3.index t 0 = t.val := (by decide +kernel : ∀ t : Fin grid0.N, win0_3.index t 0 = t.val) t
  show win0_3.index t 0 * 512 + 1 * (j 0).val = _
  rw [e]; omega
/-- Where row `j` of a point's block of the second product lies. -/
theorem at1_row (t : Fin cfg1.N) (j : S512x1024.Idx) : (at1 t j 0).val = t.val * 512 + (j 0).val := by
  have e : win1_3.index t 0 = t.val := (by decide +kernel : ∀ t : Fin grid1.N, win1_3.index t 0 = t.val) t
  show win1_3.index t 0 * 512 + 1 * (j 0).val = _
  rw [e]; omega
/-- Where column `j` of a point's block of the first product lies. -/
theorem at0_col (t : Fin cfg0.N) (j : S512x1024.Idx) : (at0 t j 1).val = (j 1).val := by
  have e : win0_3.index t 1 = 0 := (by decide +kernel : ∀ t : Fin grid0.N, win0_3.index t 1 = 0) t
  show win0_3.index t 1 * 1024 + 1 * (j 1).val = _
  rw [e]; omega
/-- Where column `j` of a point's block of the second product lies. -/
theorem at1_col (t : Fin cfg1.N) (j : S512x1024.Idx) : (at1 t j 1).val = (j 1).val := by
  have e : win1_3.index t 1 = 0 := (by decide +kernel : ∀ t : Fin grid1.N, win1_3.index t 1 = 0) t
  show win1_3.index t 1 * 1024 + 1 * (j 1).val = _
  rw [e]; omega

/-- A point's block of the first product's left operand has the point's rows. -/
theorem at0_left (t : Fin cfg0.N) (j : S512x1024.Idx) (k : Fin 2816) : ((cfg0.win 0).blk t).view.emb (ix2 (j 0) k) = ix2 (at0 t j 0) k := by
  have e : win0_0.index t 1 = 0 := (by decide +kernel : ∀ t : Fin grid0.N, win0_0.index t 1 = 0) t
  funext d
  match d with
  | ⟨0, _⟩ => rfl
  | ⟨1, _⟩ => exact Fin.ext (by show win0_0.index t 1 * 2816 + 1 * k.val = k.val; rw [e]; omega)
/-- A point's block of the second product's left operand has the point's rows. -/
theorem at1_left (t : Fin cfg1.N) (j : S512x1024.Idx) (k : Fin 2560) : ((cfg1.win 0).blk t).view.emb (ix2 (j 0) k) = ix2 (at1 t j 0) k := by
  have e : win1_0.index t 1 = 0 := (by decide +kernel : ∀ t : Fin grid1.N, win1_0.index t 1 = 0) t
  funext d
  match d with
  | ⟨0, _⟩ => rfl
  | ⟨1, _⟩ => exact Fin.ext (by show win1_0.index t 1 * 2560 + 1 * k.val = k.val; rw [e]; omega)
/-- A point's block of the first product's right operand is the whole of it. -/
theorem at0_right (t : Fin cfg0.N) (j : S512x1024.Idx) (k : Fin 2816) : ((cfg0.win 1).blk t).view.emb (ix2 k (j 1)) = ix2 k (at0 t j 1) := by
  have e : win0_1.index t 0 = 0 := (by decide +kernel : ∀ t : Fin grid0.N, win0_1.index t 0 = 0) t
  funext d
  match d with
  | ⟨0, _⟩ => exact Fin.ext (by show win0_1.index t 0 * 2816 + 1 * k.val = k.val; rw [e]; omega)
  | ⟨1, _⟩ => rfl
/-- A point's block of the second product's right operand is the whole of it. -/
theorem at1_right (t : Fin cfg1.N) (j : S512x1024.Idx) (k : Fin 2560) : ((cfg1.win 1).blk t).view.emb (ix2 k (j 1)) = ix2 k (at1 t j 1) := by
  have e : win1_1.index t 0 = 0 := (by decide +kernel : ∀ t : Fin grid1.N, win1_1.index t 0 = 0) t
  funext d
  match d with
  | ⟨0, _⟩ => exact Fin.ext (by show win1_1.index t 0 * 2560 + 1 * k.val = k.val; rw [e]; omega)
  | ⟨1, _⟩ => rfl

/-- Every index of the first product lies in some point's block. -/
theorem at0_cover (i : S4096x1024.Idx) : ∃ (t : Fin cfg0.N) (j : S512x1024.Idx), at0 t j = i := by
  have h0 : (i 0).val < 4096 := (i 0).isLt
  have hN : cfg0.N = 8 := N_0
  refine ⟨⟨(i 0).val / 512, by omega⟩, ix2 ⟨(i 0).val % 512, Nat.mod_lt _ (by decide)⟩ (i 1), funext fun d => ?_⟩
  match d with
  | ⟨0, _⟩ => exact Fin.ext ((at0_row _ _).trans (by show (i 0).val / 512 * 512 + (i 0).val % 512 = (i 0).val; omega))
  | ⟨1, _⟩ => exact Fin.ext ((at0_col _ _).trans rfl)
/-- Every index of the second product lies in some point's block. -/
theorem at1_cover (i : S4096x1024.Idx) : ∃ (t : Fin cfg1.N) (j : S512x1024.Idx), at1 t j = i := by
  have h0 : (i 0).val < 4096 := (i 0).isLt
  have hN : cfg1.N = 8 := N_1
  refine ⟨⟨(i 0).val / 512, by omega⟩, ix2 ⟨(i 0).val % 512, Nat.mod_lt _ (by decide)⟩ (i 1), funext fun d => ?_⟩
  match d with
  | ⟨0, _⟩ => exact Fin.ext ((at1_row _ _).trans (by show (i 0).val / 512 * 512 + (i 0).val % 512 = (i 0).val; omega))
  | ⟨1, _⟩ => exact Fin.ext ((at1_col _ _).trans rfl)

/-- The first product and its scaled addend, of whole arrays. -/
abbrev whole_ssd (a : Vec Ideal S4096x2816 .f32) (b : Vec Ideal S2816x1024 .bf16) (r : Vec Ideal S4096x1024 .f32) : FVec Ideal S4096x1024 .f32 :=
  fun i => ∑ k : Fin 2816, a (ix2 (i 0) k) * b (ix2 k (i 1)) + alpha * r i
/-- The second product and its addend, of whole arrays. -/
abbrev whole_att (a : Vec Ideal S4096x2560 .f32) (b : Vec Ideal S2560x1024 .bf16) (r : Vec Ideal S4096x1024 .f32) : FVec Ideal S4096x1024 .f32 :=
  fun i => ∑ k : Fin 2560, a (ix2 (i 0) k) * b (ix2 k (i 1)) + r i

/-- What the first product leaves, from what its region finds. -/
theorem final_ssd (c : Dev nD) : (dat0 V c).arrAt 3 cfg0.N = whole_ssd (V c main_arg0) (V c main_v3) (V c main_arg2) := by
  refine (dat0 V c).arrAt_eq_of_cover 3 _ (fun t _ => funext fun j => ?_) fun i => ?_
  · show (cfg0.win 3).cut (grid0.coords t) ((dat0 V c).after 3 t) j = _
    rw [after0_3]
    refine (block_ssd _ _ _ j).trans ?_
    refine congrArg₂ (· + ·) (Finset.sum_congr rfl fun k _ => congrArg₂ (· * ·) ?_ ?_) rfl
    · exact congrArg (V c main_arg0) (at0_left t j k)
    · exact congrArg (V c main_v3) (at0_right t j k)
  · obtain ⟨t, j, e⟩ := at0_cover i
    exact ⟨t, flush0_3 t, e ▸ ((cfg0.win 3).blk t).view.emb_mem_set j⟩
/-- What the second product leaves, from what its region finds. -/
theorem final_att (c : Dev nD) : (dat1 V c).arrAt 3 cfg1.N = whole_att (V c main_arg1) (V c main_v4) (V c main_v5) := by
  refine (dat1 V c).arrAt_eq_of_cover 3 _ (fun t _ => funext fun j => ?_) fun i => ?_
  · show (cfg1.win 3).cut (grid1.coords t) ((dat1 V c).after 3 t) j = _
    rw [after1_3]
    refine (block_att _ _ _ j).trans ?_
    refine congrArg₂ (· + ·) (Finset.sum_congr rfl fun k _ => congrArg₂ (· * ·) ?_ ?_) rfl
    · exact congrArg (V c main_arg1) (at1_left t j k)
    · exact congrArg (V c main_v4) (at1_right t j k)
  · obtain ⟨t, j, e⟩ := at1_cover i
    exact ⟨t, flush1_3 t, e ▸ ((cfg1.win 3).blk t).view.emb_mem_set j⟩

end Arrays

section Host

variable (m : (ℓ : Loc nD τ sig) → Buf (Elt Ideal) ℓ) (ρ : Dev nD → PrngReg)

/-- The first product's right operand: the first 2576 columns of the weight and 240 columns of zeros, transposed. -/
abbrev right_ssd (w : FVec Ideal S1024x5136 .bf16) : FVec Ideal S2816x1024 .bf16 :=
  transpose S2816x1024 [1, 0] (pad S1024x2816 ![0, 0] ![0, 240] ![0, 0] (extractStridedSlice S1024x2576 ![0, 0] w
    slices_S1024x5136_S1024x2576_0_0) (sitofp .bf16 (constantI S_ 32 0#32)) pads_S1024x2576_S1024x2816_000_02400 h_S_)
    transposes_S1024x2816_S2816x1024_1_0
/-- The second product's right operand: the other 2560 columns of the weight, transposed. -/
abbrev right_att (w : FVec Ideal S1024x5136 .bf16) : FVec Ideal S2560x1024 .bf16 :=
  transpose S2560x1024 [1, 0] (extractStridedSlice S1024x2560 ![0, 2576] w slices_S1024x5136_S1024x2560_0_2576)
    transposes_S1024x2560_S2560x1024_1_0

/-- What the host leaves for the first product. -/
theorem host_ssd (c : Dev nD) : V3 m ρ c main_v3 = right_ssd (m ((c : Thread nD τ).loc main_arg3)) := by
  show StableHlo.after hostOps0_2 (StableHlo.after hostOps0_1 (StableHlo.after hostOps0 _)) _ = _
  after_reads_simp; rfl
/-- What the host leaves for the second product. -/
theorem host_att (c : Dev nD) : V3 m ρ c main_v4 = right_att (m ((c : Thread nD τ).loc main_arg3)) := by
  show StableHlo.after hostOps0_2 (StableHlo.after hostOps0_1 (StableHlo.after hostOps0 _)) _ = _
  after_reads_simp

/-- The first product's right operand at an index. -/
theorem right_ssd_at (w : FVec Ideal S1024x5136 .bf16) (k : Fin 2816) (e : Fin 1024) :
    right_ssd w (ix2 k e) = if h : k.val < 2576 then w (ix2 e ⟨k.val, by omega⟩) else 0 := by
  have zero : FloatOps.sitofp (F := Ideal) .bf16 (0#32) = 0 := by show ((((0#32 : BitVec 32).toInt : ℝ)) : EReal) = 0; simp
  pointwise []
  rw [zero]
/-- The second product's right operand at an index. -/
theorem right_att_at (w : FVec Ideal S1024x5136 .bf16) (k : Fin 2560) (e : Fin 1024) :
    right_att w (ix2 k e) = w (ix2 e ⟨2576 + k.val, by omega⟩) := by
  pointwise []

/-- The gradient that the first call leaves, from the arguments. -/
abbrev half (a : Vec Ideal S4096x2816 .f32) (r : Vec Ideal S4096x1024 .f32) (w : Vec Ideal S1024x5136 .bf16) : FVec Ideal S4096x1024 .f32 :=
  whole_ssd a (right_ssd w) r
/-- The gradient that both calls leave, from the arguments. -/
abbrev gradient (a : Vec Ideal S4096x2816 .f32) (b : Vec Ideal S4096x2560 .f32) (r : Vec Ideal S4096x1024 .f32)
    (w : Vec Ideal S1024x5136 .bf16) : FVec Ideal S4096x1024 .f32 :=
  whole_att b (right_att w) (half a r w)

/-- The first call's result, as the second finds it. -/
theorem first_call (c : Dev nD) : V4 m ρ c main_v5
    = half (m ((c : Thread nD τ).loc main_arg0)) (m ((c : Thread nD τ).loc main_arg2)) (m ((c : Thread nD τ).loc main_arg3)) := by
  refine (W4_arr m ρ c 3).trans ((final_ssd (V3 m ρ) c).trans ?_)
  rw [host_ssd, show V3 m ρ c main_arg0 = _ from W3_args m ρ c main_arg0 (by decide),
    show V3 m ρ c main_arg2 = _ from W3_args m ρ c main_arg2 (by decide)]
/-- The second call's result. -/
theorem second_call (c : Dev nD) : W5 m ρ c (Proc.devRef .tc main_v6)
    = gradient (m ((c : Thread nD τ).loc main_arg0)) (m ((c : Thread nD τ).loc main_arg1)) (m ((c : Thread nD τ).loc main_arg2))
        (m ((c : Thread nD τ).loc main_arg3)) := by
  refine (W5_arr m ρ c 3).trans ((final_att (V4 m ρ) c).trans ?_)
  rw [first_call, show V4 m ρ c main_arg1 = _ from W4_args m ρ c main_arg1 (by decide),
    show V4 m ρ c main_v4 = _ from (W4_of m ρ c main_v4 (by decide +kernel)).trans (host_att m ρ c)]

end Host

section Run
open Idealize.SL.RA Idealize.SL.BI Idealize.SL.BI.BIBase Idealize.SL.BI.Laws Idealize.SL.ProofMode
open Idealize.ShloMosaic.Rounds Idealize.ShloMosaic.Tactic
open scoped Idealize.SL.BI

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- After the two calls every buffer holds what the segments, folded from the launch memory, leave in it. -/
theorem run_segs : θ_run defs (onTc (τ := τ) (main (F := Ideal))) ⟨m, fun _ => 0, ρ⟩
    (fun r => ∀ c : Dev nD, ∀ b ∈ Pipeline.ucRefs τ sig, r.2.mem ((c : Thread nD τ).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- The two calls leave the gradient, and the arguments as they were. -/
theorem run_kernel : θ_run defs (onTc (τ := τ) (main (F := Ideal))) ⟨m, fun _ => 0, ρ⟩ fun r => ∀ c : Dev nD,
      r.2.mem ((c : Thread nD τ).loc main_v6) = gradient (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c _ (mem_uc main_v6 (by decide))).trans (second_call m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c)⟩) (run_segs m ρ)

end Run

end Kernel

section Reference
open Cert.GradedXIdeal Cert.GradedXIdeal.Gen

/-- The gradient as one product over all columns of the projection. -/
abbrev graded (a : FVec Ideal S4096x2816 .f32) (b : FVec Ideal S4096x2560 .f32) (r : FVec Ideal S4096x1024 .f32)
    (w : FVec Ideal S1024x5136 .bf16) : FVec Ideal S4096x1024 .f32 := fun i =>
  alpha * r i + ∑ k : Fin 5136, (if h : k.val < 2576 then a (ix2 (i 0) ⟨k.val, by omega⟩)
    else b (ix2 (i 0) ⟨k.val - 2576, by omega⟩)) * w (ix2 (i 1) k)

/-- The host's gradient. -/
theorem host_graded (a : FVec Ideal S4096x2816 .f32) (b : FVec Ideal S4096x2560 .f32) (r : FVec Ideal S4096x1024 .f32)
    (w : FVec Ideal S1024x5136 .bf16) :
    (addf (mulf (broadcastInDim S4096x1024 ![] bcast_S_S4096x1024 (constant S_ .f32 0x3F9837F0#32)) r)
      (Host.dotGeneral dot_S4096x5136_S5136x1024_S4096x1024_1_0_0_1_n_n none
        (concatenate S4096x5136 1 [⟨S4096x2576, (extractStridedSlice S4096x2576 ![0, 0] a slices_S4096x2816_S4096x2576_0_0)⟩, ⟨S4096x2560, b⟩]
          concatenates_S4096x2576_S4096x2560_S4096x5136_d1)
        (transpose S5136x1024 [1, 0] (extf .f32 w bitsLt_bf16_f32) transposes_S1024x5136_S5136x1024_1_0)) : FVec Ideal _ .f32)
      = graded a b r w :=
  funext fun i => by pointwise [graded]

/-- The reference leaves the gradient, and its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = graded (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (host_graded _ _ _ _), (h c).2⟩) (Cert.GradedXIdeal.Value.run m ρ)

end Reference

/-- A sum over 2576 + 2560 places, by halves. -/
theorem sum_halves (f : Fin 5136 → EReal) :
    ∑ k, f k = ∑ k : Fin 2576, f ⟨k.val, by omega⟩ + ∑ k : Fin 2560, f ⟨2576 + k.val, by omega⟩ :=
  Fin.sum_univ_add (a := 2576) (b := 2560) f

/-- A sum over 2576 + 240 places of which the last are zero. -/
theorem sum_padded (f : Fin 2816 → EReal) (h : ∀ k, 2576 ≤ k.val → f k = 0) : ∑ k, f k = ∑ k : Fin 2576, f ⟨k.val, by omega⟩ := by
  refine (Fin.sum_univ_add (a := 2576) (b := 240) f).trans ?_
  rw [Finset.sum_eq_zero (s := Finset.univ) (f := fun k : Fin 240 => f (Fin.natAdd 2576 k)) fun k _ => h _ (by simp), add_zero]
  rfl

/-- One entry of the two products is one of the product over all columns. -/
theorem entry (a : FVec Ideal ⟨2, ![4096, 2816]⟩ .f32) (b : FVec Ideal ⟨2, ![4096, 2560]⟩ .f32) (w : Vec Ideal ⟨2, ![1024, 5136]⟩ .bf16)
    (p : Fin 4096) (q : Fin 1024) (d : EReal) :
    ∑ k : Fin 2560, b (ix2 p k) * right_att w (ix2 k q) + (∑ k : Fin 2816, a (ix2 p k) * right_ssd w (ix2 k q) + d)
      = d + ∑ k : Fin 5136, (if h : k.val < 2576 then a (ix2 p ⟨k.val, by omega⟩) else b (ix2 p ⟨k.val - 2576, by omega⟩))
          * (w (ix2 q k) : EReal) := by
  rw [sum_halves, sum_padded _ fun k hk => by rw [right_ssd_at, dif_neg (by omega), mul_zero], add_comm, add_comm _ d, add_assoc]
  refine congrArg _ (congrArg₂ (· + ·) (Finset.sum_congr rfl fun k _ => ?_) (Finset.sum_congr rfl fun k _ => ?_))
  · rw [right_ssd_at, dif_pos k.isLt, dif_pos k.isLt]
  · rw [right_att_at, dif_neg (by show ¬ 2576 + k.val < 2576; omega)]
    refine congrArg (· * _) (congrArg b ?_)
    exact congrArg (ix2 p) (Fin.ext (by show k.val = 2576 + k.val - 2576; omega))

/-- The kernel's gradient is the reference's. -/
theorem gradient_eq (a : FVec Ideal ⟨2, ![4096, 2816]⟩ .f32) (b : FVec Ideal ⟨2, ![4096, 2560]⟩ .f32) (r : FVec Ideal ⟨2, ![4096, 1024]⟩ .f32)
    (w : FVec Ideal ⟨2, ![1024, 5136]⟩ .bf16) : gradient a b r w = graded a b r w :=
  funext fun i => entry a b w (i 0) (i 1) (alpha * r i)

end Cert.GradOfX

end
-- ==== Proof.ProjectVal.lean ====
/-
# The input projection: values

What the two products of the projection leave, index by index: each grid has eight points, four times two, each of 1024 rows and
half of the columns. The first product's right operand is padded with columns of zeros, so its last columns are zero, which is
how the reference pads its first part.
-/
module

public import proofs.«01_k».proof.Proof.Gen.ProjectIdeal.Frame
public import proofs.«01_k».proof.Proof.Gen.ProjectedIdeal.Run
public import Idealize.ShloMosaic.Lib.Pointwise
public import Idealize.ShloMosaic.Lib.IdealHost
public import Idealize.ShloMosaic.Lib.Pipeline.Value
public import Idealize.ShloMosaic.Lib.StableHlo.RunRead

@[expose] public section

noncomputable section

namespace Cert.Projection

open Idealize.ShloMosaic Idealize.ShloMosaic.TcCoe Idealize.SL Idealize.SL.Sem
open Idealize.ShloMosaic.Pipeline (Dat)

section Kernel
open Cert.ProjectIdeal Cert.ProjectIdeal.Gen

theorem zeros : (![0, 0] : Fin 2 → Nat) = fun _ => 0 := funext fun a => by fin_cases a <;> rfl

section Ssd

variable (V : (c : Dev nD) → (b : Ref sig .tc) → Buf (Elt Ideal) ((c : Thread nD τ).loc b))

/-- A point of the first product writes its rows' products. -/
theorem block_ssd (a : Vec Ideal S1024x1024 .bf16) (b : Vec Ideal S1024x1408 .bf16) (j : S1024x1408.Idx) :
    out0_2 (F := Ideal) a b j = ∑ k : Fin 1024, a (ix2 (j 0) k) * b (ix2 k (j 1)) := by
  unfold out0_2
  rw [View.canon_unit_zero zeros, View.ld_unit_zero zeros, View.ld_unit_zero zeros]
  pointwise [k0_pay1]

/-- The index of the array that a point's block of the first product has at `j`. -/
abbrev at0 (t : Fin cfg0.N) (j : S1024x1408.Idx) : S4096x2816.Idx := ((cfg0.win 2).blk t).view.emb j

/-- Where row `j` of a point's block of the first product lies. -/
theorem at0_row (t : Fin cfg0.N) (j : S1024x1408.Idx) : (at0 t j 0).val = t.val / 2 * 1024 + (j 0).val := by
  have e : win0_2.index t 0 = t.val / 2 := (by decide +kernel : ∀ t : Fin grid0.N, win0_2.index t 0 = t.val / 2) t
  show win0_2.index t 0 * 1024 + 1 * (j 0).val = _
  rw [e]; omega
/-- Where column `j` of a point's block of the first product lies. -/
theorem at0_col (t : Fin cfg0.N) (j : S1024x1408.Idx) : (at0 t j 1).val = t.val % 2 * 1408 + (j 1).val := by
  have e : win0_2.index t 1 = t.val % 2 := (by decide +kernel : ∀ t : Fin grid0.N, win0_2.index t 1 = t.val % 2) t
  show win0_2.index t 1 * 1408 + 1 * (j 1).val = _
  rw [e]; omega
/-- A point's block of the first product's left operand has the rows of its result. -/
theorem at0_left (t : Fin cfg0.N) (j : S1024x1408.Idx) (k : Fin 1024) : ((cfg0.win 0).blk t).view.emb (ix2 (j 0) k) = ix2 (at0 t j 0) k := by
  have e : win0_0.index t 1 = 0 := (by decide +kernel : ∀ t : Fin grid0.N, win0_0.index t 1 = 0) t
  funext d
  match d with
  | ⟨0, _⟩ => rfl
  | ⟨1, _⟩ => exact Fin.ext (by show win0_0.index t 1 * 1024 + 1 * k.val = k.val; rw [e]; omega)
/-- A point's block of the first product's right operand has the columns of its result. -/
theorem at0_right (t : Fin cfg0.N) (j : S1024x1408.Idx) (k : Fin 1024) : ((cfg0.win 1).blk t).view.emb (ix2 k (j 1)) = ix2 k (at0 t j 1) := by
  have e : win0_1.index t 0 = 0 := (by decide +kernel : ∀ t : Fin grid0.N, win0_1.index t 0 = 0) t
  funext d
  match d with
  | ⟨0, _⟩ => exact Fin.ext (by show win0_1.index t 0 * 1024 + 1 * k.val = k.val; rw [e]; omega)
  | ⟨1, _⟩ => rfl
/-- Every index of the first product lies in some point's block. -/
theorem at0_cover (i : S4096x2816.Idx) : ∃ (t : Fin cfg0.N) (j : S1024x1408.Idx), at0 t j = i := by
  have h0 : (i 0).val < 4096 := (i 0).isLt
  have h1 : (i 1).val < 2816 := (i 1).isLt
  have hN : cfg0.N = 8 := N_0
  refine ⟨⟨(i 0).val / 1024 * 2 + (i 1).val / 1408, by omega⟩, ix2 ⟨(i 0).val % 1024, Nat.mod_lt _ (by decide)⟩ ⟨(i 1).val % 1408, Nat.mod_lt _ (by decide)⟩,
    funext fun d => ?_⟩
  match d with
  | ⟨0, _⟩ => exact Fin.ext ((at0_row _ _).trans (by
      show ((i 0).val / 1024 * 2 + (i 1).val / 1408) / 2 * 1024 + (i 0).val % 1024 = (i 0).val; omega))
  | ⟨1, _⟩ => exact Fin.ext ((at0_col _ _).trans (by
      show ((i 0).val / 1024 * 2 + (i 1).val / 1408) % 2 * 1408 + (i 1).val % 1408 = (i 1).val; omega))

/-- The first product of whole arrays. -/
abbrev whole_ssd (a : Vec Ideal S4096x1024 .bf16) (b : Vec Ideal S1024x2816 .bf16) : FVec Ideal S4096x2816 .f32 :=
  fun i => ∑ k : Fin 1024, a (ix2 (i 0) k) * b (ix2 k (i 1))

/-- What the first product leaves, from what its region finds. -/
theorem final_ssd (c : Dev nD) : (dat0 V c).arrAt 2 cfg0.N = whole_ssd (V c main_v3) (V c main_v1) := by
  refine (dat0 V c).arrAt_eq_of_cover 2 _ (fun t _ => funext fun j => ?_) fun i => ?_
  · show (cfg0.win 2).cut (grid0.coords t) ((dat0 V c).after 2 t) j = _
    rw [after0_2]
    refine (block_ssd _ _ j).trans ?_
    show _ = whole_ssd (V c main_v3) (V c main_v1) (at0 t j)
    refine Finset.sum_congr rfl fun k _ => congrArg₂ (· * ·) ?_ ?_
    · exact congrArg (V c main_v3) (at0_left t j k)
    · exact congrArg (V c main_v1) (at0_right t j k)
  · obtain ⟨t, j, e⟩ := at0_cover i
    exact ⟨t, flush0_2 t, e ▸ ((cfg0.win 2).blk t).view.emb_mem_set j⟩

end Ssd

section Att

variable (V : (c : Dev nD) → (b : Ref sig .tc) → Buf (Elt Ideal) ((c : Thread nD τ).loc b))

/-- A point of the second product writes its rows' products. -/
theorem block_att (a : Vec Ideal S1024x1024 .bf16) (b : Vec Ideal S1024x1280 .bf16) (j : S1024x1280.Idx) :
    out1_2 (F := Ideal) a b j = ∑ k : Fin 1024, a (ix2 (j 0) k) * b (ix2 k (j 1)) := by
  unfold out1_2
  rw [View.canon_unit_zero zeros, View.ld_unit_zero zeros, View.ld_unit_zero zeros]
  pointwise [k1_pay1]

/-- The index of the array that a point's block of the second product has at `j`. -/
abbrev at1 (t : Fin cfg1.N) (j : S1024x1280.Idx) : S4096x2560.Idx := ((cfg1.win 2).blk t).view.emb j

/-- Where row `j` of a point's block of the second product lies. -/
theorem at1_row (t : Fin cfg1.N) (j : S1024x1280.Idx) : (at1 t j 0).val = t.val / 2 * 1024 + (j 0).val := by
  have e : win1_2.index t 0 = t.val / 2 := (by decide +kernel : ∀ t : Fin grid1.N, win1_2.index t 0 = t.val / 2) t
  show win1_2.index t 0 * 1024 + 1 * (j 0).val = _
  rw [e]; omega
/-- Where column `j` of a point's block of the second product lies. -/
theorem at1_col (t : Fin cfg1.N) (j : S1024x1280.Idx) : (at1 t j 1).val = t.val % 2 * 1280 + (j 1).val := by
  have e : win1_2.index t 1 = t.val % 2 := (by decide +kernel : ∀ t : Fin grid1.N, win1_2.index t 1 = t.val % 2) t
  show win1_2.index t 1 * 1280 + 1 * (j 1).val = _
  rw [e]; omega
/-- A point's block of the second product's left operand has the rows of its result. -/
theorem at1_left (t : Fin cfg1.N) (j : S1024x1280.Idx) (k : Fin 1024) : ((cfg1.win 0).blk t).view.emb (ix2 (j 0) k) = ix2 (at1 t j 0) k := by
  have e : win1_0.index t 1 = 0 := (by decide +kernel : ∀ t : Fin grid1.N, win1_0.index t 1 = 0) t
  funext d
  match d with
  | ⟨0, _⟩ => rfl
  | ⟨1, _⟩ => exact Fin.ext (by show win1_0.index t 1 * 1024 + 1 * k.val = k.val; rw [e]; omega)
/-- A point's block of the second product's right operand has the columns of its result. -/
theorem at1_right (t : Fin cfg1.N) (j : S1024x1280.Idx) (k : Fin 1024) : ((cfg1.win 1).blk t).view.emb (ix2 k (j 1)) = ix2 k (at1 t j 1) := by
  have e : win1_1.index t 0 = 0 := (by decide +kernel : ∀ t : Fin grid1.N, win1_1.index t 0 = 0) t
  funext d
  match d with
  | ⟨0, _⟩ => exact Fin.ext (by show win1_1.index t 0 * 1024 + 1 * k.val = k.val; rw [e]; omega)
  | ⟨1, _⟩ => rfl
/-- Every index of the second product lies in some point's block. -/
theorem at1_cover (i : S4096x2560.Idx) : ∃ (t : Fin cfg1.N) (j : S1024x1280.Idx), at1 t j = i := by
  have h0 : (i 0).val < 4096 := (i 0).isLt
  have h1 : (i 1).val < 2560 := (i 1).isLt
  have hN : cfg1.N = 8 := N_1
  refine ⟨⟨(i 0).val / 1024 * 2 + (i 1).val / 1280, by omega⟩, ix2 ⟨(i 0).val % 1024, Nat.mod_lt _ (by decide)⟩ ⟨(i 1).val % 1280, Nat.mod_lt _ (by decide)⟩,
    funext fun d => ?_⟩
  match d with
  | ⟨0, _⟩ => exact Fin.ext ((at1_row _ _).trans (by
      show ((i 0).val / 1024 * 2 + (i 1).val / 1280) / 2 * 1024 + (i 0).val % 1024 = (i 0).val; omega))
  | ⟨1, _⟩ => exact Fin.ext ((at1_col _ _).trans (by
      show ((i 0).val / 1024 * 2 + (i 1).val / 1280) % 2 * 1280 + (i 1).val % 1280 = (i 1).val; omega))

/-- The second product of whole arrays. -/
abbrev whole_att (a : Vec Ideal S4096x1024 .bf16) (b : Vec Ideal S1024x2560 .bf16) : FVec Ideal S4096x2560 .f32 :=
  fun i => ∑ k : Fin 1024, a (ix2 (i 0) k) * b (ix2 k (i 1))

/-- What the second product leaves, from what its region finds. -/
theorem final_att (c : Dev nD) : (dat1 V c).arrAt 2 cfg1.N = whole_att (V c main_v3) (V c main_v2) := by
  refine (dat1 V c).arrAt_eq_of_cover 2 _ (fun t _ => funext fun j => ?_) fun i => ?_
  · show (cfg1.win 2).cut (grid1.coords t) ((dat1 V c).after 2 t) j = _
    rw [after1_2]
    refine (block_att _ _ j).trans ?_
    show _ = whole_att (V c main_v3) (V c main_v2) (at1 t j)
    refine Finset.sum_congr rfl fun k _ => congrArg₂ (· * ·) ?_ ?_
    · exact congrArg (V c main_v3) (at1_left t j k)
    · exact congrArg (V c main_v2) (at1_right t j k)
  · obtain ⟨t, j, e⟩ := at1_cover i
    exact ⟨t, flush1_2 t, e ▸ ((cfg1.win 2).blk t).view.emb_mem_set j⟩

end Att

section Host

variable (m : (ℓ : Loc nD τ sig) → Buf (Elt Ideal) ℓ) (ρ : Dev nD → PrngReg)

/-- The first product's right operand: the first 2576 columns of the weight and 240 columns of zeros. -/
abbrev right_ssd (w : FVec Ideal S1024x5136 .bf16) : FVec Ideal S1024x2816 .bf16 :=
  pad S1024x2816 ![0, 0] ![0, 240] ![0, 0] (extractStridedSlice S1024x2576 ![0, 0] w
    slices_S1024x5136_S1024x2576_0_0) (sitofp .bf16 (constantI S_ 32 0#32)) pads_S1024x2576_S1024x2816_000_02400 h_S_
/-- The second product's right operand: the other 2560 columns of the weight. -/
abbrev right_att (w : FVec Ideal S1024x5136 .bf16) : FVec Ideal S1024x2560 .bf16 :=
  extractStridedSlice S1024x2560 ![0, 2576] w slices_S1024x5136_S1024x2560_0_2576
/-- The left operand of both. -/
abbrev left (x : FVec Ideal S4096x1024 .f32) : FVec Ideal S4096x1024 .bf16 := truncf .bf16 x bitsLt_bf16_f32

/-- What the host leaves for the first product's right. -/
theorem host_ssd (c : Dev nD) : V3 m ρ c main_v1 = right_ssd (m ((c : Thread nD τ).loc main_arg1)) := by
  show StableHlo.after hostOps0_2 (StableHlo.after hostOps0_1 (StableHlo.after hostOps0 _)) _ = _
  after_reads_simp; rfl
/-- What the host leaves for the second product's right. -/
theorem host_att (c : Dev nD) : V3 m ρ c main_v2 = right_att (m ((c : Thread nD τ).loc main_arg1)) := by
  show StableHlo.after hostOps0_2 (StableHlo.after hostOps0_1 (StableHlo.after hostOps0 _)) _ = _
  after_reads_simp
/-- What the host leaves for the left of both. -/
theorem host_left (c : Dev nD) : V3 m ρ c main_v3 = left (m ((c : Thread nD τ).loc main_arg0)) := by
  show StableHlo.after hostOps0_2 (StableHlo.after hostOps0_1 (StableHlo.after hostOps0 _)) _ = _
  after_reads_simp

/-- The first product's result. -/
theorem first_call (c : Dev nD) : W5 m ρ c (Proc.devRef .tc main_v4)
    = whole_ssd (left (m ((c : Thread nD τ).loc main_arg0))) (right_ssd (m ((c : Thread nD τ).loc main_arg1))) := by
  refine (W5_of m ρ c main_v4 (by decide +kernel)).trans ((W4_arr m ρ c 2).trans ((final_ssd (V3 m ρ) c).trans ?_))
  rw [host_ssd, host_left]
/-- The second product's result. -/
theorem second_call (c : Dev nD) : W5 m ρ c (Proc.devRef .tc main_v5)
    = whole_att (left (m ((c : Thread nD τ).loc main_arg0))) (right_att (m ((c : Thread nD τ).loc main_arg1))) := by
  refine (W5_arr m ρ c 2).trans ((final_att (V4 m ρ) c).trans ?_)
  rw [show V4 m ρ c main_v3 = _ from (W4_of m ρ c main_v3 (by decide +kernel)).trans (host_left m ρ c),
    show V4 m ρ c main_v2 = _ from (W4_of m ρ c main_v2 (by decide +kernel)).trans (host_att m ρ c)]

end Host

section Run
open Idealize.SL.RA Idealize.SL.BI Idealize.SL.BI.BIBase Idealize.SL.BI.Laws Idealize.SL.ProofMode
open Idealize.ShloMosaic.Rounds Idealize.ShloMosaic.Tactic
open scoped Idealize.SL.BI

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- After the two calls every buffer holds what the segments, folded from the launch memory, leave in it. -/
theorem run_segs : θ_run defs (onTc (τ := τ) (main (F := Ideal))) ⟨m, fun _ => 0, ρ⟩
    (fun r => ∀ c : Dev nD, ∀ b ∈ Pipeline.ucRefs τ sig, r.2.mem ((c : Thread nD τ).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- The two calls leave the two products, and the arguments as they were. -/
theorem run_kernel : θ_run defs (onTc (τ := τ) (main (F := Ideal))) ⟨m, fun _ => 0, ρ⟩ fun r => ∀ c : Dev nD,
      r.2.mem ((c : Thread nD τ).loc main_v4) = whole_ssd (left (m ((c : Thread nD τ).loc main_arg0))) (right_ssd (m ((c : Thread nD τ).loc main_arg1)))
      ∧ r.2.mem ((c : Thread nD τ).loc main_v5) = whole_att (left (m ((c : Thread nD τ).loc main_arg0))) (right_att (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c _ (mem_uc main_v4 (by decide))).trans (first_call m ρ c),
      (h c _ (mem_uc main_v5 (by decide))).trans (second_call m ρ c),
      (h c _ (mem_uc main_arg0 (by decide))).trans (W5_main_arg0 m ρ c),
      (h c _ (mem_uc main_arg1 (by decide))).trans (W5_main_arg1 m ρ c)⟩) (run_segs m ρ)

end Run

end Kernel

section Reference
open Cert.ProjectedIdeal Cert.ProjectedIdeal.Gen

/-- The projection's first part, padded. -/
abbrev first (x : FVec Ideal S4096x1024 .f32) (w : FVec Ideal S1024x5136 .bf16) : FVec Ideal S4096x2816 .f32 :=
  pad S4096x2816 ![0, 0] ![0, 240] ![0, 0] (extractStridedSlice S4096x2576 ![0, 0] (Host.dotGeneral dot_S4096x1024_S1024x5136_S4096x5136_1_0_0_1_n_n none x (extf .f32 w bitsLt_bf16_f32)) slices_S4096x5136_S4096x2576_0_0) (sitofp .f32 (constantI S_ 32 0#32)) pads_S4096x2576_S4096x2816_000_02400 h_S_
/-- The projection's second part. -/
abbrev second (x : FVec Ideal S4096x1024 .f32) (w : FVec Ideal S1024x5136 .bf16) : FVec Ideal S4096x2560 .f32 :=
  extractStridedSlice S4096x2560 ![0, 2576] (Host.dotGeneral dot_S4096x1024_S1024x5136_S4096x5136_1_0_0_1_n_n none x (extf .f32 w bitsLt_bf16_f32)) slices_S4096x5136_S4096x2560_0_2576

/-- The first part at an index. -/
theorem first_at (x : FVec Ideal S4096x1024 .f32) (w : FVec Ideal S1024x5136 .bf16) (p : Fin 4096) (q : Fin 2816) :
    first x w (ix2 p q) = if h : q.val < 2576 then ∑ k : Fin 1024, x (ix2 p k) * w (ix2 k ⟨q.val, by omega⟩) else 0 := by
  have zero : FloatOps.sitofp (F := Ideal) .f32 (0#32) = 0 := by show ((((0#32 : BitVec 32).toInt : ℝ)) : EReal) = 0; simp
  pointwise []
  rw [zero]
/-- The second part at an index. -/
theorem second_at (x : FVec Ideal S4096x1024 .f32) (w : FVec Ideal S1024x5136 .bf16) (p : Fin 4096) (q : Fin 2560) :
    second x w (ix2 p q) = ∑ k : Fin 1024, x (ix2 p k) * w (ix2 k ⟨2576 + q.val, by omega⟩) := by
  pointwise []

/-- The reference's run. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = first (m ((c.tc : Thread nD τ).loc main_arg0)) (m ((c.tc : Thread nD τ).loc main_arg1))
      ∧ r.2.mem ((c.tc : Thread nD τ).loc main_v4) = second (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ProjectedIdeal.Value.run m ρ

end Reference

section Equal
open Cert.ProjectIdeal

/-- The first product's right operand at an index. -/
theorem right_ssd_at (w : FVec Ideal S1024x5136 .bf16) (k : Fin 1024) (e : Fin 2816) :
    right_ssd w (ix2 k e) = if h : e.val < 2576 then w (ix2 k ⟨e.val, by omega⟩) else 0 := by
  have zero : FloatOps.sitofp (F := Ideal) .bf16 (0#32) = 0 := by show ((((0#32 : BitVec 32).toInt : ℝ)) : EReal) = 0; simp
  pointwise []
  rw [zero]
/-- The second product's right operand at an index. -/
theorem right_att_at (w : FVec Ideal S1024x5136 .bf16) (k : Fin 1024) (e : Fin 2560) :
    right_att w (ix2 k e) = w (ix2 k ⟨2576 + e.val, by omega⟩) := by
  pointwise []

/-- An entry of the first product is the reference's. -/
theorem entry_ssd (x : FVec Ideal S4096x1024 .f32) (w : FVec Ideal S1024x5136 .bf16) (p : Fin 4096) (q : Fin 2816) :
    ∑ k : Fin 1024, left x (ix2 p k) * right_ssd w (ix2 k q) = first x w (ix2 p q) := by
  rw [first_at]
  by_cases h : q.val < 2576
  · rw [dif_pos h]
    exact Finset.sum_congr rfl fun k _ => by rw [right_ssd_at, dif_pos h]; rfl
  · rw [dif_neg h]
    exact Finset.sum_eq_zero fun k _ => by rw [right_ssd_at, dif_neg h, mul_zero]
/-- An entry of the second product is the reference's. -/
theorem entry_att (x : FVec Ideal S4096x1024 .f32) (w : FVec Ideal S1024x5136 .bf16) (p : Fin 4096) (q : Fin 2560) :
    ∑ k : Fin 1024, left x (ix2 p k) * right_att w (ix2 k q) = second x w (ix2 p q) := by
  rw [second_at]
  exact Finset.sum_congr rfl fun k _ => by rw [right_att_at]; rfl

/-- The first product is the reference's first part. -/
theorem ssd_eq (x : FVec Ideal S4096x1024 .f32) (w : FVec Ideal S1024x5136 .bf16) : whole_ssd (left x) (right_ssd w) = first x w :=
  funext fun i => (entry_ssd x w (i 0) (i 1)).trans (congrArg (first x w) (funext fun d => by fin_cases d <;> rfl))
/-- The second product is the reference's second part. -/
theorem att_eq (x : FVec Ideal S4096x1024 .f32) (w : FVec Ideal S1024x5136 .bf16) : whole_att (left x) (right_att w) = second x w :=
  funext fun i => (entry_att x w (i 0) (i 1)).trans (congrArg (second x w) (funext fun d => by fin_cases d <;> rfl))

end Equal

end Cert.Projection

end
-- ==== Proof.GradWVal.lean ====
/-
# The gradients of the two weights: values

What the four products of the gradients of the weights leave, index by index. Each output block is written by eight points in a row:
the first sets it to zero, each adds the products of its 512 rows, and the last writes it back. The eight parts are one sum over
4096 rows, which is the reference's.
-/
module

public import proofs.«01_k».proof.Proof.Gen.GradWIdeal.Frame
public import proofs.«01_k».proof.Proof.Gen.GradedWIdeal.Run
public import Idealize.ShloMosaic.Lib.Pointwise
public import Idealize.ShloMosaic.Lib.IdealHost
public import Idealize.ShloMosaic.Lib.Pipeline.Value
public import Idealize.ShloMosaic.Lib.StableHlo.RunRead
public import Idealize.ShloMosaic.Lib.Tactic

@[expose] public section

noncomputable section

namespace Cert.GradOfW

open Idealize.ShloMosaic Idealize.ShloMosaic.TcCoe Idealize.SL Idealize.SL.Sem
open Idealize.ShloMosaic.Pipeline (Dat)

/-- The row that is row `k` of the part `l`. -/
def row (l : ℕ) (k : Fin 512) : Fin 4096 := ⟨l % 8 * 512 + k.val, by omega⟩
/-- The part `l` of a sum over the rows. -/
def part (f : Fin 4096 → EReal) (l : ℕ) : EReal := ∑ k : Fin 512, f (row l k)
/-- Which part it is depends on the place in the eight alone. -/
theorem part_mod (f : Fin 4096 → EReal) {l n : ℕ} (h : l % 8 = n % 8) : part f l = part f n := by
  refine Finset.sum_congr rfl fun k _ => congrArg f (Fin.ext ?_)
  show l % 8 * 512 + k.val = n % 8 * 512 + k.val
  rw [h]
/-- The eight parts are the sum. -/
theorem sum_parts (f : Fin 4096 → EReal) : ∑ l ∈ Finset.range 8, part f l = ∑ r, f r := by
  rw [Finset.sum_range]
  refine (Fintype.sum_prod_type' fun (l : Fin 8) (k : Fin 512) => f (row l.val k)).symm.trans ?_
  refine Fintype.sum_equiv (finProdFinEquiv : Fin 8 × Fin 512 ≃ Fin (8 * 512)) _ _ fun x => congrArg f (Fin.ext ?_)
  show x.1.val % 8 * 512 + x.2.val = x.2.val + 512 * x.1.val
  have := x.1.isLt
  omega

theorem zeros : (![0, 0] : Fin 2 → Nat) = fun _ => 0 := funext fun a => by fin_cases a <;> rfl

section Kernel
open Cert.GradWIdeal Cert.GradWIdeal.Gen

section InSsd

/-- What a point of the first product adds to a block, and that a first point starts from zero. -/
theorem add_in_ssd (a : FVec Ideal S512x1024 .bf16) (b : FVec Ideal S512x1408 .f32) (o : FVec Ideal S1024x1408 .f32) (j : S1024x1408.Idx) :
    k0_pay2 (F := Ideal) o a b j = o j + ∑ k : Fin 512, a (ix2 k (j 0)) * b (ix2 k (j 1)) := by
  pointwise [k0_pay2]
theorem zero_in_ssd (j : S1024x1408.Idx) : k0_pay1 (F := Ideal) j = 0 := by
  pointwise [k0_pay1]

/-- A first point's block of the first product. -/
theorem out_first_in_ssd (c : Dev nD) (i : grid0.Coords) (a2 : Memref sig .tc .vmem S512x1024 .bf16) (h2 : a2.IsWhole) (a3 : Memref sig .tc .vmem S512x1408 .f32)
    (h3 : a3.IsWhole) (a4 : Memref sig .tc .vmem S1024x1408 .f32) (h4 : a4.IsWhole) (hc : cond0_0 i) (a : Vec Ideal S512x1024 .bf16) (b : Vec Ideal S512x1408 .f32) :
    out0_A_2 (F := Ideal) c i a2 h2 a3 h3 a4 h4 hc a b = k0_pay2 (F := Ideal) (k0_pay1 (F := Ideal)) a b := by
  unfold out0_A_2
  rw [View.read_writes_eq_canon _ _ _ (cover0_A_2 c i a2 h2 a3 h3 a4 h4 hc a b)]
  unfold kernelRun0_A
  dsimp only
  sl_unfold_words
  rw [View.canon_cons_unit_zero (S := S1024x1408) zeros, View.readCov_unit_zero (S := S1024x1408) _ zeros]
  simp only [View.readAt_eq_ld, h2.read_unread, h3.read_unread, View.ld_unit_zero (S := S512x1024) zeros, View.ld_unit_zero (S := S512x1408) zeros]
/-- A later point's block of the first product, from the point before. -/
theorem out_next_in_ssd (c : Dev nD) (i : grid0.Coords) (a2 : Memref sig .tc .vmem S512x1024 .bf16) (h2 : a2.IsWhole) (a3 : Memref sig .tc .vmem S512x1408 .f32)
    (h3 : a3.IsWhole) (a4 : Memref sig .tc .vmem S1024x1408 .f32) (h4 : a4.IsWhole) (hc : ¬cond0_0 i) (a : Vec Ideal S512x1024 .bf16) (b : Vec Ideal S512x1408 .f32)
    (o : Vec Ideal S1024x1408 .f32) : out0_B_2 (F := Ideal) c i a2 h2 a3 h3 a4 h4 hc a b o = k0_pay2 (F := Ideal) o a b := by
  unfold out0_B_2
  rw [View.read_writes_eq_canon _ _ _ (cover0_B_2 c i a2 h2 a3 h3 a4 h4 hc a b o)]
  unfold kernelRun0_B
  dsimp only
  rw [View.canon_unit_zero zeros]
  simp only [View.readAt_eq_ld, h2.read_unread, h3.read_unread, h4.read_unread, View.ld_unit_zero (S := S512x1024) zeros, View.ld_unit_zero (S := S512x1408) zeros,
    View.ld_unit_zero (S := S1024x1408) zeros]
/-- After the first point of a block of the first product its entries are the products of that point's rows. -/
theorem start_in_ssd (c : Dev nD) (i : grid0.Coords) (a2 : Memref sig .tc .vmem S512x1024 .bf16) (h2 : a2.IsWhole) (a3 : Memref sig .tc .vmem S512x1408 .f32)
    (h3 : a3.IsWhole) (a4 : Memref sig .tc .vmem S1024x1408 .f32) (h4 : a4.IsWhole) (hc : cond0_0 i) (a : FVec Ideal S512x1024 .bf16) (b : FVec Ideal S512x1408 .f32)
    (j : S1024x1408.Idx) : out0_A_2 (F := Ideal) c i a2 h2 a3 h3 a4 h4 hc a b j = ∑ k : Fin 512, a (ix2 k (j 0)) * b (ix2 k (j 1)) :=
  (congrFun (out_first_in_ssd c i a2 h2 a3 h3 a4 h4 hc a b) j).trans ((add_in_ssd a b _ j).trans ((congrArg (· + _) (zero_in_ssd j)).trans (zero_add _)))
/-- A later point adds the products of its rows. -/
theorem step_in_ssd (c : Dev nD) (i : grid0.Coords) (a2 : Memref sig .tc .vmem S512x1024 .bf16) (h2 : a2.IsWhole) (a3 : Memref sig .tc .vmem S512x1408 .f32)
    (h3 : a3.IsWhole) (a4 : Memref sig .tc .vmem S1024x1408 .f32) (h4 : a4.IsWhole) (hc : ¬cond0_0 i) (a : FVec Ideal S512x1024 .bf16) (b : FVec Ideal S512x1408 .f32)
    (o : FVec Ideal S1024x1408 .f32) (j : S1024x1408.Idx) :
    out0_B_2 (F := Ideal) c i a2 h2 a3 h3 a4 h4 hc a b o j = o j + ∑ k : Fin 512, a (ix2 k (j 0)) * b (ix2 k (j 1)) :=
  (congrFun (out_next_in_ssd c i a2 h2 a3 h3 a4 h4 hc a b o) j).trans (add_in_ssd a b o j)

variable (V : (c : Dev nD) → (b : Ref sig .tc) → Buf (Elt Ideal) ((c : Thread nD τ).loc b))

/-- The index of the array that a point's block of the first product has at `j`. -/
abbrev at0 (t : Fin cfg0.N) (j : S1024x1408.Idx) : S1024x2816.Idx := ((cfg0.win 2).blk t).view.emb j

/-- A point's block of the first product has all rows. -/
theorem at0_row (t : Fin cfg0.N) (j : S1024x1408.Idx) : (at0 t j 0).val = (j 0).val := by
  have e : win0_2.index t 0 = 0 := (by decide +kernel : ∀ t : Fin grid0.N, win0_2.index t 0 = 0) t
  show win0_2.index t 0 * 1024 + 1 * (j 0).val = _
  rw [e]; omega
/-- Where column `j` of a point's block of the first product lies. -/
theorem at0_col (t : Fin cfg0.N) (j : S1024x1408.Idx) : (at0 t j 1).val = t.val / 8 * 1408 + (j 1).val := by
  have e : win0_2.index t 1 = t.val / 8 := (by decide +kernel : ∀ t : Fin grid0.N, win0_2.index t 1 = t.val / 8) t
  show win0_2.index t 1 * 1408 + 1 * (j 1).val = _
  rw [e]; omega
/-- Where a point's rows of the first product's left operand lie. -/
theorem at0_left (t : Fin cfg0.N) (j : S1024x1408.Idx) (k : Fin 512) : ((cfg0.win 0).blk t).view.emb (ix2 k (j 0)) = ix2 (row t.val k) (at0 t j 0) := by
  have e0 : win0_0.index t 0 = t.val % 8 := (by decide +kernel : ∀ t : Fin grid0.N, win0_0.index t 0 = t.val % 8) t
  have e1 : win0_0.index t 1 = 0 := (by decide +kernel : ∀ t : Fin grid0.N, win0_0.index t 1 = 0) t
  funext d
  match d with
  | ⟨0, _⟩ => exact Fin.ext (by show win0_0.index t 0 * 512 + 1 * k.val = t.val % 8 * 512 + k.val; rw [e0]; omega)
  | ⟨1, _⟩ => exact Fin.ext (by show win0_0.index t 1 * 1024 + 1 * (j 0).val = (at0 t j 0).val; rw [e1, at0_row]; omega)
/-- Where a point's rows of the first product's right operand lie. -/
theorem at0_right (t : Fin cfg0.N) (j : S1024x1408.Idx) (k : Fin 512) : ((cfg0.win 1).blk t).view.emb (ix2 k (j 1)) = ix2 (row t.val k) (at0 t j 1) := by
  have e0 : win0_1.index t 0 = t.val % 8 := (by decide +kernel : ∀ t : Fin grid0.N, win0_1.index t 0 = t.val % 8) t
  have e1 : win0_1.index t 1 = t.val / 8 := (by decide +kernel : ∀ t : Fin grid0.N, win0_1.index t 1 = t.val / 8) t
  funext d
  match d with
  | ⟨0, _⟩ => exact Fin.ext (by show win0_1.index t 0 * 512 + 1 * k.val = t.val % 8 * 512 + k.val; rw [e0]; omega)
  | ⟨1, _⟩ => exact Fin.ext (by show win0_1.index t 1 * 1408 + 1 * (j 1).val = (at0 t j 1).val; rw [e1, at0_col]; omega)
/-- A point that is not the first of its block of the first product has the block of the point before. -/
theorem at0_same (n : ℕ) (h : n + 1 < cfg0.N) (h0 : ¬ (n + 1) % 8 = 0) (j : S1024x1408.Idx) : at0 ⟨n, Nat.lt_of_succ_lt h⟩ j = at0 ⟨n + 1, h⟩ j := by
  funext d
  match d with
  | ⟨0, _⟩ => exact Fin.ext ((at0_row _ _).trans (at0_row _ _).symm)
  | ⟨1, _⟩ =>
    refine Fin.ext ?_
    rw [show ((at0 ⟨n, Nat.lt_of_succ_lt h⟩ j) ⟨1, by decide⟩).val = n / 8 * 1408 + (j 1).val from at0_col ⟨n, Nat.lt_of_succ_lt h⟩ j,
      show ((at0 ⟨n + 1, h⟩ j) ⟨1, by decide⟩).val = (n + 1) / 8 * 1408 + (j 1).val from at0_col ⟨n + 1, h⟩ j, show (n + 1) / 8 = n / 8 by omega]
/-- Every index of the first product lies in the block of a point that writes back. -/
theorem at0_cover (i : S1024x2816.Idx) : ∃ (t : Fin cfg0.N) (j : S1024x1408.Idx), t.val % 8 = 7 ∧ at0 t j = i := by
  have h1 : (i 1).val < 2816 := (i 1).isLt
  have hN : cfg0.N = 16 := N_0
  refine ⟨⟨(i 1).val / 1408 * 8 + 7, by omega⟩, ix2 ⟨(i 0).val, (i 0).isLt⟩ ⟨(i 1).val % 1408, Nat.mod_lt _ (by decide)⟩, by
    show ((i 1).val / 1408 * 8 + 7) % 8 = 7; omega, funext fun d => ?_⟩
  match d with
  | ⟨0, _⟩ => exact Fin.ext (at0_row _ _)
  | ⟨1, _⟩ => exact Fin.ext ((at0_col _ _).trans (by
      show ((i 1).val / 1408 * 8 + 7) / 8 * 1408 + (i 1).val % 1408 = (i 1).val; omega))

/-- What one row adds to an entry of the first product. -/
abbrev term_in_ssd (a : FVec Ideal S4096x1024 .bf16) (b : FVec Ideal S4096x2816 .f32) (i : S1024x2816.Idx) : Fin 4096 → EReal :=
  fun r => a (ix2 r (i 0)) * b (ix2 r (i 1))
/-- The first product of whole arrays. -/
abbrev whole_in_ssd (a : FVec Ideal S4096x1024 .bf16) (b : FVec Ideal S4096x2816 .f32) : FVec Ideal S1024x2816 .f32 :=
  fun i => ∑ r : Fin 4096, a (ix2 r (i 0)) * b (ix2 r (i 1))

/-- A point's products are its rows' part of the first product. -/
theorem part_in_ssd (c : Dev nD) (t : Fin cfg0.N) (a : FVec Ideal S512x1024 .bf16) (b : FVec Ideal S512x1408 .f32) (ea : iblk0 V c 0 t = a) (eb : iblk0 V c 1 t = b)
    (j : S1024x1408.Idx) : ∑ k : Fin 512, a (ix2 k (j 0)) * b (ix2 k (j 1)) = part (term_in_ssd (V c main_v0) (V c main_arg3) (at0 t j)) t.val := by
  subst ea; subst eb
  refine Finset.sum_congr rfl fun k _ => congrArg₂ (· * ·) ?_ ?_
  · exact congrArg (V c main_v0) (at0_left t j k)
  · exact congrArg (V c main_arg3) (at0_right t j k)

/-- After point `n` a block of the first product holds the parts up to `n`'s. -/
theorem outs_in_ssd (c : Dev nD) (n : ℕ) : ∀ (h : n < cfg0.N) (j : S1024x1408.Idx),
    outsAt0 V c n h j = ∑ l ∈ Finset.range (n % 8 + 1), part (term_in_ssd (V c main_v0) (V c main_arg3) (at0 ⟨n, h⟩ j)) l := by
  induction n with
  | zero =>
      intro h j
      rw [show (0 % 8 + 1) = 1 from rfl, Finset.sum_range_one]
      exact (congrFun (outsAt0_A V c ⟨0, h⟩ rfl) j).trans ((start_in_ssd c _ _ _ _ _ _ _ _ _ _ j).trans (part_in_ssd V c ⟨0, h⟩ _ _ rfl rfl j))
  | succ n ih =>
      intro h j
      by_cases h0 : (n + 1) % 8 = 0
      · rw [h0, Finset.sum_range_one]
        refine (congrFun (outsAt0_A V c ⟨n + 1, h⟩ h0) j).trans ((start_in_ssd c _ _ _ _ _ _ _ _ _ _ j).trans ((part_in_ssd V c ⟨n + 1, h⟩ _ _ rfl rfl j).trans ?_))
        exact part_mod _ (by show (n + 1) % 8 = 0 % 8; omega)
      · rw [Finset.sum_range_succ, show (n + 1) % 8 = n % 8 + 1 by omega]
        refine (congrFun (outsAt0_B V c ⟨n + 1, h⟩ h0) j).trans ((step_in_ssd c _ _ _ _ _ _ _ _ _ _ _ j).trans (congrArg₂ (· + ·) ?_ ?_))
        · refine (ih (Nat.lt_of_succ_lt h) j).trans ?_
          exact Finset.sum_congr rfl fun l _ => congrArg (fun i => part (term_in_ssd (V c main_v0) (V c main_arg3) i) l) (at0_same n h h0 j)
        · exact (part_in_ssd V c ⟨n + 1, h⟩ _ _ rfl rfl j).trans (part_mod _ (by show (n + 1) % 8 = (n % 8 + 1) % 8; omega))

/-- What the first product leaves, from what its region finds. -/
theorem final_in_ssd (c : Dev nD) : (dat0 V c).arrAt 2 cfg0.N = whole_in_ssd (V c main_v0) (V c main_arg3) := by
  refine (dat0 V c).arrAt_eq_of_cover 2 _ (fun t ht => funext fun j => ?_) fun i => ?_
  · show (cfg0.win 2).cut (grid0.coords t) ((dat0 V c).after 2 t) j = _
    rw [after0_2]
    refine (outs_in_ssd V c t.val t.isLt j).trans ?_
    rw [show t.val % 8 + 1 = 8 from by rw [(flush0_2 t).mp ht]]
    exact sum_parts _
  · obtain ⟨t, j, ht, e⟩ := at0_cover i
    exact ⟨t, (flush0_2 t).mpr ht, e ▸ ((cfg0.win 2).blk t).view.emb_mem_set j⟩

end InSsd

section InAtt

/-- What a point of the second product adds to a block, and that a first point starts from zero. -/
theorem add_in_att (a : FVec Ideal S512x1024 .bf16) (b : FVec Ideal S512x1280 .f32) (o : FVec Ideal S1024x1280 .f32) (j : S1024x1280.Idx) :
    k1_pay2 (F := Ideal) o a b j = o j + ∑ k : Fin 512, a (ix2 k (j 0)) * b (ix2 k (j 1)) := by
  pointwise [k1_pay2]
theorem zero_in_att (j : S1024x1280.Idx) : k1_pay1 (F := Ideal) j = 0 := by
  pointwise [k1_pay1]

/-- A first point's block of the second product. -/
theorem out_first_in_att (c : Dev nD) (i : grid1.Coords) (a2 : Memref sig .tc .vmem S512x1024 .bf16) (h2 : a2.IsWhole) (a3 : Memref sig .tc .vmem S512x1280 .f32)
    (h3 : a3.IsWhole) (a4 : Memref sig .tc .vmem S1024x1280 .f32) (h4 : a4.IsWhole) (hc : cond1_0 i) (a : Vec Ideal S512x1024 .bf16) (b : Vec Ideal S512x1280 .f32) :
    out1_A_2 (F := Ideal) c i a2 h2 a3 h3 a4 h4 hc a b = k1_pay2 (F := Ideal) (k1_pay1 (F := Ideal)) a b := by
  unfold out1_A_2
  rw [View.read_writes_eq_canon _ _ _ (cover1_A_2 c i a2 h2 a3 h3 a4 h4 hc a b)]
  unfold kernelRun1_A
  dsimp only
  sl_unfold_words
  rw [View.canon_cons_unit_zero (S := S1024x1280) zeros, View.readCov_unit_zero (S := S1024x1280) _ zeros]
  simp only [View.readAt_eq_ld, h2.read_unread, h3.read_unread, View.ld_unit_zero (S := S512x1024) zeros, View.ld_unit_zero (S := S512x1280) zeros]
/-- A later point's block of the second product, from the point before. -/
theorem out_next_in_att (c : Dev nD) (i : grid1.Coords) (a2 : Memref sig .tc .vmem S512x1024 .bf16) (h2 : a2.IsWhole) (a3 : Memref sig .tc .vmem S512x1280 .f32)
    (h3 : a3.IsWhole) (a4 : Memref sig .tc .vmem S1024x1280 .f32) (h4 : a4.IsWhole) (hc : ¬cond1_0 i) (a : Vec Ideal S512x1024 .bf16) (b : Vec Ideal S512x1280 .f32)
    (o : Vec Ideal S1024x1280 .f32) : out1_B_2 (F := Ideal) c i a2 h2 a3 h3 a4 h4 hc a b o = k1_pay2 (F := Ideal) o a b := by
  unfold out1_B_2
  rw [View.read_writes_eq_canon _ _ _ (cover1_B_2 c i a2 h2 a3 h3 a4 h4 hc a b o)]
  unfold kernelRun1_B
  dsimp only
  rw [View.canon_unit_zero zeros]
  simp only [View.readAt_eq_ld, h2.read_unread, h3.read_unread, h4.read_unread, View.ld_unit_zero (S := S512x1024) zeros, View.ld_unit_zero (S := S512x1280) zeros,
    View.ld_unit_zero (S := S1024x1280) zeros]
/-- After the first point of a block of the second product its entries are the products of that point's rows. -/
theorem start_in_att (c : Dev nD) (i : grid1.Coords) (a2 : Memref sig .tc .vmem S512x1024 .bf16) (h2 : a2.IsWhole) (a3 : Memref sig .tc .vmem S512x1280 .f32)
    (h3 : a3.IsWhole) (a4 : Memref sig .tc .vmem S1024x1280 .f32) (h4 : a4.IsWhole) (hc : cond1_0 i) (a : FVec Ideal S512x1024 .bf16) (b : FVec Ideal S512x1280 .f32)
    (j : S1024x1280.Idx) : out1_A_2 (F := Ideal) c i a2 h2 a3 h3 a4 h4 hc a b j = ∑ k : Fin 512, a (ix2 k (j 0)) * b (ix2 k (j 1)) :=
  (congrFun (out_first_in_att c i a2 h2 a3 h3 a4 h4 hc a b) j).trans ((add_in_att a b _ j).trans ((congrArg (· + _) (zero_in_att j)).trans (zero_add _)))
/-- A later point adds the products of its rows. -/
theorem step_in_att (c : Dev nD) (i : grid1.Coords) (a2 : Memref sig .tc .vmem S512x1024 .bf16) (h2 : a2.IsWhole) (a3 : Memref sig .tc .vmem S512x1280 .f32)
    (h3 : a3.IsWhole) (a4 : Memref sig .tc .vmem S1024x1280 .f32) (h4 : a4.IsWhole) (hc : ¬cond1_0 i) (a : FVec Ideal S512x1024 .bf16) (b : FVec Ideal S512x1280 .f32)
    (o : FVec Ideal S1024x1280 .f32) (j : S1024x1280.Idx) :
    out1_B_2 (F := Ideal) c i a2 h2 a3 h3 a4 h4 hc a b o j = o j + ∑ k : Fin 512, a (ix2 k (j 0)) * b (ix2 k (j 1)) :=
  (congrFun (out_next_in_att c i a2 h2 a3 h3 a4 h4 hc a b o) j).trans (add_in_att a b o j)

variable (V : (c : Dev nD) → (b : Ref sig .tc) → Buf (Elt Ideal) ((c : Thread nD τ).loc b))

/-- The index of the array that a point's block of the second product has at `j`. -/
abbrev at1 (t : Fin cfg1.N) (j : S1024x1280.Idx) : S1024x2560.Idx := ((cfg1.win 2).blk t).view.emb j

/-- A point's block of the second product has all rows. -/
theorem at1_row (t : Fin cfg1.N) (j : S1024x1280.Idx) : (at1 t j 0).val = (j 0).val := by
  have e : win1_2.index t 0 = 0 := (by decide +kernel : ∀ t : Fin grid1.N, win1_2.index t 0 = 0) t
  show win1_2.index t 0 * 1024 + 1 * (j 0).val = _
  rw [e]; omega
/-- Where column `j` of a point's block of the second product lies. -/
theorem at1_col (t : Fin cfg1.N) (j : S1024x1280.Idx) : (at1 t j 1).val = t.val / 8 * 1280 + (j 1).val := by
  have e : win1_2.index t 1 = t.val / 8 := (by decide +kernel : ∀ t : Fin grid1.N, win1_2.index t 1 = t.val / 8) t
  show win1_2.index t 1 * 1280 + 1 * (j 1).val = _
  rw [e]; omega
/-- Where a point's rows of the second product's left operand lie. -/
theorem at1_left (t : Fin cfg1.N) (j : S1024x1280.Idx) (k : Fin 512) : ((cfg1.win 0).blk t).view.emb (ix2 k (j 0)) = ix2 (row t.val k) (at1 t j 0) := by
  have e0 : win1_0.index t 0 = t.val % 8 := (by decide +kernel : ∀ t : Fin grid1.N, win1_0.index t 0 = t.val % 8) t
  have e1 : win1_0.index t 1 = 0 := (by decide +kernel : ∀ t : Fin grid1.N, win1_0.index t 1 = 0) t
  funext d
  match d with
  | ⟨0, _⟩ => exact Fin.ext (by show win1_0.index t 0 * 512 + 1 * k.val = t.val % 8 * 512 + k.val; rw [e0]; omega)
  | ⟨1, _⟩ => exact Fin.ext (by show win1_0.index t 1 * 1024 + 1 * (j 0).val = (at1 t j 0).val; rw [e1, at1_row]; omega)
/-- Where a point's rows of the second product's right operand lie. -/
theorem at1_right (t : Fin cfg1.N) (j : S1024x1280.Idx) (k : Fin 512) : ((cfg1.win 1).blk t).view.emb (ix2 k (j 1)) = ix2 (row t.val k) (at1 t j 1) := by
  have e0 : win1_1.index t 0 = t.val % 8 := (by decide +kernel : ∀ t : Fin grid1.N, win1_1.index t 0 = t.val % 8) t
  have e1 : win1_1.index t 1 = t.val / 8 := (by decide +kernel : ∀ t : Fin grid1.N, win1_1.index t 1 = t.val / 8) t
  funext d
  match d with
  | ⟨0, _⟩ => exact Fin.ext (by show win1_1.index t 0 * 512 + 1 * k.val = t.val % 8 * 512 + k.val; rw [e0]; omega)
  | ⟨1, _⟩ => exact Fin.ext (by show win1_1.index t 1 * 1280 + 1 * (j 1).val = (at1 t j 1).val; rw [e1, at1_col]; omega)
/-- A point that is not the first of its block of the second product has the block of the point before. -/
theorem at1_same (n : ℕ) (h : n + 1 < cfg1.N) (h0 : ¬ (n + 1) % 8 = 0) (j : S1024x1280.Idx) : at1 ⟨n, Nat.lt_of_succ_lt h⟩ j = at1 ⟨n + 1, h⟩ j := by
  funext d
  match d with
  | ⟨0, _⟩ => exact Fin.ext ((at1_row _ _).trans (at1_row _ _).symm)
  | ⟨1, _⟩ =>
    refine Fin.ext ?_
    rw [show ((at1 ⟨n, Nat.lt_of_succ_lt h⟩ j) ⟨1, by decide⟩).val = n / 8 * 1280 + (j 1).val from at1_col ⟨n, Nat.lt_of_succ_lt h⟩ j,
      show ((at1 ⟨n + 1, h⟩ j) ⟨1, by decide⟩).val = (n + 1) / 8 * 1280 + (j 1).val from at1_col ⟨n + 1, h⟩ j, show (n + 1) / 8 = n / 8 by omega]
/-- Every index of the second product lies in the block of a point that writes back. -/
theorem at1_cover (i : S1024x2560.Idx) : ∃ (t : Fin cfg1.N) (j : S1024x1280.Idx), t.val % 8 = 7 ∧ at1 t j = i := by
  have h1 : (i 1).val < 2560 := (i 1).isLt
  have hN : cfg1.N = 16 := N_1
  refine ⟨⟨(i 1).val / 1280 * 8 + 7, by omega⟩, ix2 ⟨(i 0).val, (i 0).isLt⟩ ⟨(i 1).val % 1280, Nat.mod_lt _ (by decide)⟩, by
    show ((i 1).val / 1280 * 8 + 7) % 8 = 7; omega, funext fun d => ?_⟩
  match d with
  | ⟨0, _⟩ => exact Fin.ext (at1_row _ _)
  | ⟨1, _⟩ => exact Fin.ext ((at1_col _ _).trans (by
      show ((i 1).val / 1280 * 8 + 7) / 8 * 1280 + (i 1).val % 1280 = (i 1).val; omega))

/-- What one row adds to an entry of the second product. -/
abbrev term_in_att (a : FVec Ideal S4096x1024 .bf16) (b : FVec Ideal S4096x2560 .f32) (i : S1024x2560.Idx) : Fin 4096 → EReal :=
  fun r => a (ix2 r (i 0)) * b (ix2 r (i 1))
/-- The second product of whole arrays. -/
abbrev whole_in_att (a : FVec Ideal S4096x1024 .bf16) (b : FVec Ideal S4096x2560 .f32) : FVec Ideal S1024x2560 .f32 :=
  fun i => ∑ r : Fin 4096, a (ix2 r (i 0)) * b (ix2 r (i 1))

/-- A point's products are its rows' part of the second product. -/
theorem part_in_att (c : Dev nD) (t : Fin cfg1.N) (a : FVec Ideal S512x1024 .bf16) (b : FVec Ideal S512x1280 .f32) (ea : iblk1 V c 0 t = a) (eb : iblk1 V c 1 t = b)
    (j : S1024x1280.Idx) : ∑ k : Fin 512, a (ix2 k (j 0)) * b (ix2 k (j 1)) = part (term_in_att (V c main_v0) (V c main_arg4) (at1 t j)) t.val := by
  subst ea; subst eb
  refine Finset.sum_congr rfl fun k _ => congrArg₂ (· * ·) ?_ ?_
  · exact congrArg (V c main_v0) (at1_left t j k)
  · exact congrArg (V c main_arg4) (at1_right t j k)

/-- After point `n` a block of the second product holds the parts up to `n`'s. -/
theorem outs_in_att (c : Dev nD) (n : ℕ) : ∀ (h : n < cfg1.N) (j : S1024x1280.Idx),
    outsAt1 V c n h j = ∑ l ∈ Finset.range (n % 8 + 1), part (term_in_att (V c main_v0) (V c main_arg4) (at1 ⟨n, h⟩ j)) l := by
  induction n with
  | zero =>
      intro h j
      rw [show (0 % 8 + 1) = 1 from rfl, Finset.sum_range_one]
      exact (congrFun (outsAt1_A V c ⟨0, h⟩ rfl) j).trans ((start_in_att c _ _ _ _ _ _ _ _ _ _ j).trans (part_in_att V c ⟨0, h⟩ _ _ rfl rfl j))
  | succ n ih =>
      intro h j
      by_cases h0 : (n + 1) % 8 = 0
      · rw [h0, Finset.sum_range_one]
        refine (congrFun (outsAt1_A V c ⟨n + 1, h⟩ h0) j).trans ((start_in_att c _ _ _ _ _ _ _ _ _ _ j).trans ((part_in_att V c ⟨n + 1, h⟩ _ _ rfl rfl j).trans ?_))
        exact part_mod _ (by show (n + 1) % 8 = 0 % 8; omega)
      · rw [Finset.sum_range_succ, show (n + 1) % 8 = n % 8 + 1 by omega]
        refine (congrFun (outsAt1_B V c ⟨n + 1, h⟩ h0) j).trans ((step_in_att c _ _ _ _ _ _ _ _ _ _ _ j).trans (congrArg₂ (· + ·) ?_ ?_))
        · refine (ih (Nat.lt_of_succ_lt h) j).trans ?_
          exact Finset.sum_congr rfl fun l _ => congrArg (fun i => part (term_in_att (V c main_v0) (V c main_arg4) i) l) (at1_same n h h0 j)
        · exact (part_in_att V c ⟨n + 1, h⟩ _ _ rfl rfl j).trans (part_mod _ (by show (n + 1) % 8 = (n % 8 + 1) % 8; omega))

/-- What the second product leaves, from what its region finds. -/
theorem final_in_att (c : Dev nD) : (dat1 V c).arrAt 2 cfg1.N = whole_in_att (V c main_v0) (V c main_arg4) := by
  refine (dat1 V c).arrAt_eq_of_cover 2 _ (fun t ht => funext fun j => ?_) fun i => ?_
  · show (cfg1.win 2).cut (grid1.coords t) ((dat1 V c).after 2 t) j = _
    rw [after1_2]
    refine (outs_in_att V c t.val t.isLt j).trans ?_
    rw [show t.val % 8 + 1 = 8 from by rw [(flush1_2 t).mp ht]]
    exact sum_parts _
  · obtain ⟨t, j, ht, e⟩ := at1_cover i
    exact ⟨t, (flush1_2 t).mpr ht, e ▸ ((cfg1.win 2).blk t).view.emb_mem_set j⟩

end InAtt

section OutSsd

/-- What a point of the third product adds to a block, and that a first point starts from zero. -/
theorem add_out_ssd (a : FVec Ideal S512x1024 .bf16) (b : FVec Ideal S512x1024 .f32) (o : FVec Ideal S1024x1024 .f32) (j : S1024x1024.Idx) :
    k2_pay2 (F := Ideal) o a b j = o j + ∑ k : Fin 512, a (ix2 k (j 0)) * b (ix2 k (j 1)) := by
  pointwise [k2_pay2]
theorem zero_out_ssd (j : S1024x1024.Idx) : k2_pay1 (F := Ideal) j = 0 := by
  pointwise [k2_pay1]

/-- A first point's block of the third product. -/
theorem out_first_out_ssd (c : Dev nD) (i : grid2.Coords) (a2 : Memref sig .tc .vmem S512x1024 .bf16) (h2 : a2.IsWhole) (a3 : Memref sig .tc .vmem S512x1024 .f32)
    (h3 : a3.IsWhole) (a4 : Memref sig .tc .vmem S1024x1024 .f32) (h4 : a4.IsWhole) (hc : cond2_0 i) (a : Vec Ideal S512x1024 .bf16) (b : Vec Ideal S512x1024 .f32) :
    out2_A_2 (F := Ideal) c i a2 h2 a3 h3 a4 h4 hc a b = k2_pay2 (F := Ideal) (k2_pay1 (F := Ideal)) a b := by
  unfold out2_A_2
  rw [View.read_writes_eq_canon _ _ _ (cover2_A_2 c i a2 h2 a3 h3 a4 h4 hc a b)]
  unfold kernelRun2_A
  dsimp only
  sl_unfold_words
  rw [View.canon_cons_unit_zero (S := S1024x1024) zeros, View.readCov_unit_zero (S := S1024x1024) _ zeros]
  simp only [View.readAt_eq_ld, h2.read_unread, h3.read_unread, View.ld_unit_zero (S := S512x1024) zeros]
/-- A later point's block of the third product, from the point before. -/
theorem out_next_out_ssd (c : Dev nD) (i : grid2.Coords) (a2 : Memref sig .tc .vmem S512x1024 .bf16) (h2 : a2.IsWhole) (a3 : Memref sig .tc .vmem S512x1024 .f32)
    (h3 : a3.IsWhole) (a4 : Memref sig .tc .vmem S1024x1024 .f32) (h4 : a4.IsWhole) (hc : ¬cond2_0 i) (a : Vec Ideal S512x1024 .bf16) (b : Vec Ideal S512x1024 .f32)
    (o : Vec Ideal S1024x1024 .f32) : out2_B_2 (F := Ideal) c i a2 h2 a3 h3 a4 h4 hc a b o = k2_pay2 (F := Ideal) o a b := by
  unfold out2_B_2
  rw [View.read_writes_eq_canon _ _ _ (cover2_B_2 c i a2 h2 a3 h3 a4 h4 hc a b o)]
  unfold kernelRun2_B
  dsimp only
  rw [View.canon_unit_zero zeros]
  simp only [View.readAt_eq_ld, h2.read_unread, h3.read_unread, h4.read_unread, View.ld_unit_zero (S := S512x1024) zeros,
    View.ld_unit_zero (S := S1024x1024) zeros]
/-- After the first point of a block of the third product its entries are the products of that point's rows. -/
theorem start_out_ssd (c : Dev nD) (i : grid2.Coords) (a2 : Memref sig .tc .vmem S512x1024 .bf16) (h2 : a2.IsWhole) (a3 : Memref sig .tc .vmem S512x1024 .f32)
    (h3 : a3.IsWhole) (a4 : Memref sig .tc .vmem S1024x1024 .f32) (h4 : a4.IsWhole) (hc : cond2_0 i) (a : FVec Ideal S512x1024 .bf16) (b : FVec Ideal S512x1024 .f32)
    (j : S1024x1024.Idx) : out2_A_2 (F := Ideal) c i a2 h2 a3 h3 a4 h4 hc a b j = ∑ k : Fin 512, a (ix2 k (j 0)) * b (ix2 k (j 1)) :=
  (congrFun (out_first_out_ssd c i a2 h2 a3 h3 a4 h4 hc a b) j).trans ((add_out_ssd a b _ j).trans ((congrArg (· + _) (zero_out_ssd j)).trans (zero_add _)))
/-- A later point adds the products of its rows. -/
theorem step_out_ssd (c : Dev nD) (i : grid2.Coords) (a2 : Memref sig .tc .vmem S512x1024 .bf16) (h2 : a2.IsWhole) (a3 : Memref sig .tc .vmem S512x1024 .f32)
    (h3 : a3.IsWhole) (a4 : Memref sig .tc .vmem S1024x1024 .f32) (h4 : a4.IsWhole) (hc : ¬cond2_0 i) (a : FVec Ideal S512x1024 .bf16) (b : FVec Ideal S512x1024 .f32)
    (o : FVec Ideal S1024x1024 .f32) (j : S1024x1024.Idx) :
    out2_B_2 (F := Ideal) c i a2 h2 a3 h3 a4 h4 hc a b o j = o j + ∑ k : Fin 512, a (ix2 k (j 0)) * b (ix2 k (j 1)) :=
  (congrFun (out_next_out_ssd c i a2 h2 a3 h3 a4 h4 hc a b o) j).trans (add_out_ssd a b o j)

variable (V : (c : Dev nD) → (b : Ref sig .tc) → Buf (Elt Ideal) ((c : Thread nD τ).loc b))

/-- The index of the array that a point's block of the third product has at `j`. -/
abbrev at2 (t : Fin cfg2.N) (j : S1024x1024.Idx) : S1024x1024.Idx := ((cfg2.win 2).blk t).view.emb j

/-- A point's block of the third product has all rows. -/
theorem at2_row (t : Fin cfg2.N) (j : S1024x1024.Idx) : (at2 t j 0).val = (j 0).val := by
  have e : win2_2.index t 0 = 0 := (by decide +kernel : ∀ t : Fin grid2.N, win2_2.index t 0 = 0) t
  show win2_2.index t 0 * 1024 + 1 * (j 0).val = _
  rw [e]; omega
/-- Where column `j` of a point's block of the third product lies. -/
theorem at2_col (t : Fin cfg2.N) (j : S1024x1024.Idx) : (at2 t j 1).val = t.val / 8 * 1024 + (j 1).val := by
  have e : win2_2.index t 1 = t.val / 8 := (by decide +kernel : ∀ t : Fin grid2.N, win2_2.index t 1 = t.val / 8) t
  show win2_2.index t 1 * 1024 + 1 * (j 1).val = _
  rw [e]; omega
/-- Where a point's rows of the third product's left operand lie. -/
theorem at2_left (t : Fin cfg2.N) (j : S1024x1024.Idx) (k : Fin 512) : ((cfg2.win 0).blk t).view.emb (ix2 k (j 0)) = ix2 (row t.val k) (at2 t j 0) := by
  have e0 : win2_0.index t 0 = t.val % 8 := (by decide +kernel : ∀ t : Fin grid2.N, win2_0.index t 0 = t.val % 8) t
  have e1 : win2_0.index t 1 = 0 := (by decide +kernel : ∀ t : Fin grid2.N, win2_0.index t 1 = 0) t
  funext d
  match d with
  | ⟨0, _⟩ => exact Fin.ext (by show win2_0.index t 0 * 512 + 1 * k.val = t.val % 8 * 512 + k.val; rw [e0]; omega)
  | ⟨1, _⟩ => exact Fin.ext (by show win2_0.index t 1 * 1024 + 1 * (j 0).val = (at2 t j 0).val; rw [e1, at2_row]; omega)
/-- Where a point's rows of the third product's right operand lie. -/
theorem at2_right (t : Fin cfg2.N) (j : S1024x1024.Idx) (k : Fin 512) : ((cfg2.win 1).blk t).view.emb (ix2 k (j 1)) = ix2 (row t.val k) (at2 t j 1) := by
  have e0 : win2_1.index t 0 = t.val % 8 := (by decide +kernel : ∀ t : Fin grid2.N, win2_1.index t 0 = t.val % 8) t
  have e1 : win2_1.index t 1 = t.val / 8 := (by decide +kernel : ∀ t : Fin grid2.N, win2_1.index t 1 = t.val / 8) t
  funext d
  match d with
  | ⟨0, _⟩ => exact Fin.ext (by show win2_1.index t 0 * 512 + 1 * k.val = t.val % 8 * 512 + k.val; rw [e0]; omega)
  | ⟨1, _⟩ => exact Fin.ext (by show win2_1.index t 1 * 1024 + 1 * (j 1).val = (at2 t j 1).val; rw [e1, at2_col]; omega)
/-- A point that is not the first of its block of the third product has the block of the point before. -/
theorem at2_same (n : ℕ) (h : n + 1 < cfg2.N) (h0 : ¬ (n + 1) % 8 = 0) (j : S1024x1024.Idx) : at2 ⟨n, Nat.lt_of_succ_lt h⟩ j = at2 ⟨n + 1, h⟩ j := by
  funext d
  match d with
  | ⟨0, _⟩ => exact Fin.ext ((at2_row _ _).trans (at2_row _ _).symm)
  | ⟨1, _⟩ =>
    refine Fin.ext ?_
    rw [show ((at2 ⟨n, Nat.lt_of_succ_lt h⟩ j) ⟨1, by decide⟩).val = n / 8 * 1024 + (j 1).val from at2_col ⟨n, Nat.lt_of_succ_lt h⟩ j,
      show ((at2 ⟨n + 1, h⟩ j) ⟨1, by decide⟩).val = (n + 1) / 8 * 1024 + (j 1).val from at2_col ⟨n + 1, h⟩ j, show (n + 1) / 8 = n / 8 by omega]
/-- Every index of the third product lies in the block of a point that writes back. -/
theorem at2_cover (i : S1024x1024.Idx) : ∃ (t : Fin cfg2.N) (j : S1024x1024.Idx), t.val % 8 = 7 ∧ at2 t j = i := by
  have h1 : (i 1).val < 1024 := (i 1).isLt
  have hN : cfg2.N = 8 := N_2
  refine ⟨⟨(i 1).val / 1024 * 8 + 7, by omega⟩, ix2 ⟨(i 0).val, (i 0).isLt⟩ ⟨(i 1).val % 1024, Nat.mod_lt _ (by decide)⟩, by
    show ((i 1).val / 1024 * 8 + 7) % 8 = 7; omega, funext fun d => ?_⟩
  match d with
  | ⟨0, _⟩ => exact Fin.ext (at2_row _ _)
  | ⟨1, _⟩ => exact Fin.ext ((at2_col _ _).trans (by
      show ((i 1).val / 1024 * 8 + 7) / 8 * 1024 + (i 1).val % 1024 = (i 1).val; omega))

/-- What one row adds to an entry of the third product. -/
abbrev term_out_ssd (a : FVec Ideal S4096x1024 .bf16) (b : FVec Ideal S4096x1024 .f32) (i : S1024x1024.Idx) : Fin 4096 → EReal :=
  fun r => a (ix2 r (i 0)) * b (ix2 r (i 1))
/-- The third product of whole arrays. -/
abbrev whole_out_ssd (a : FVec Ideal S4096x1024 .bf16) (b : FVec Ideal S4096x1024 .f32) : FVec Ideal S1024x1024 .f32 :=
  fun i => ∑ r : Fin 4096, a (ix2 r (i 0)) * b (ix2 r (i 1))

/-- A point's products are its rows' part of the third product. -/
theorem part_out_ssd (c : Dev nD) (t : Fin cfg2.N) (a : FVec Ideal S512x1024 .bf16) (b : FVec Ideal S512x1024 .f32) (ea : iblk2 V c 0 t = a) (eb : iblk2 V c 1 t = b)
    (j : S1024x1024.Idx) : ∑ k : Fin 512, a (ix2 k (j 0)) * b (ix2 k (j 1)) = part (term_out_ssd (V c main_arg1) (V c main_arg5) (at2 t j)) t.val := by
  subst ea; subst eb
  refine Finset.sum_congr rfl fun k _ => congrArg₂ (· * ·) ?_ ?_
  · exact congrArg (V c main_arg1) (at2_left t j k)
  · exact congrArg (V c main_arg5) (at2_right t j k)

/-- After point `n` a block of the third product holds the parts up to `n`'s. -/
theorem outs_out_ssd (c : Dev nD) (n : ℕ) : ∀ (h : n < cfg2.N) (j : S1024x1024.Idx),
    outsAt2 V c n h j = ∑ l ∈ Finset.range (n % 8 + 1), part (term_out_ssd (V c main_arg1) (V c main_arg5) (at2 ⟨n, h⟩ j)) l := by
  induction n with
  | zero =>
      intro h j
      rw [show (0 % 8 + 1) = 1 from rfl, Finset.sum_range_one]
      exact (congrFun (outsAt2_A V c ⟨0, h⟩ rfl) j).trans ((start_out_ssd c _ _ _ _ _ _ _ _ _ _ j).trans (part_out_ssd V c ⟨0, h⟩ _ _ rfl rfl j))
  | succ n ih =>
      intro h j
      by_cases h0 : (n + 1) % 8 = 0
      · rw [h0, Finset.sum_range_one]
        refine (congrFun (outsAt2_A V c ⟨n + 1, h⟩ h0) j).trans ((start_out_ssd c _ _ _ _ _ _ _ _ _ _ j).trans ((part_out_ssd V c ⟨n + 1, h⟩ _ _ rfl rfl j).trans ?_))
        exact part_mod _ (by show (n + 1) % 8 = 0 % 8; omega)
      · rw [Finset.sum_range_succ, show (n + 1) % 8 = n % 8 + 1 by omega]
        refine (congrFun (outsAt2_B V c ⟨n + 1, h⟩ h0) j).trans ((step_out_ssd c _ _ _ _ _ _ _ _ _ _ _ j).trans (congrArg₂ (· + ·) ?_ ?_))
        · refine (ih (Nat.lt_of_succ_lt h) j).trans ?_
          exact Finset.sum_congr rfl fun l _ => congrArg (fun i => part (term_out_ssd (V c main_arg1) (V c main_arg5) i) l) (at2_same n h h0 j)
        · exact (part_out_ssd V c ⟨n + 1, h⟩ _ _ rfl rfl j).trans (part_mod _ (by show (n + 1) % 8 = (n % 8 + 1) % 8; omega))

/-- What the third product leaves, from what its region finds. -/
theorem final_out_ssd (c : Dev nD) : (dat2 V c).arrAt 2 cfg2.N = whole_out_ssd (V c main_arg1) (V c main_arg5) := by
  refine (dat2 V c).arrAt_eq_of_cover 2 _ (fun t ht => funext fun j => ?_) fun i => ?_
  · show (cfg2.win 2).cut (grid2.coords t) ((dat2 V c).after 2 t) j = _
    rw [after2_2]
    refine (outs_out_ssd V c t.val t.isLt j).trans ?_
    rw [show t.val % 8 + 1 = 8 from by rw [(flush2_2 t).mp ht]]
    exact sum_parts _
  · obtain ⟨t, j, ht, e⟩ := at2_cover i
    exact ⟨t, (flush2_2 t).mpr ht, e ▸ ((cfg2.win 2).blk t).view.emb_mem_set j⟩

end OutSsd

section OutAtt

/-- What a point of the fourth product adds to a block, and that a first point starts from zero. -/
theorem add_out_att (a : FVec Ideal S512x1024 .bf16) (b : FVec Ideal S512x1024 .f32) (o : FVec Ideal S1024x1024 .f32) (j : S1024x1024.Idx) :
    k3_pay2 (F := Ideal) o a b j = o j + ∑ k : Fin 512, a (ix2 k (j 0)) * b (ix2 k (j 1)) := by
  pointwise [k3_pay2]
theorem zero_out_att (j : S1024x1024.Idx) : k3_pay1 (F := Ideal) j = 0 := by
  pointwise [k3_pay1]

/-- A first point's block of the fourth product. -/
theorem out_first_out_att (c : Dev nD) (i : grid3.Coords) (a2 : Memref sig .tc .vmem S512x1024 .bf16) (h2 : a2.IsWhole) (a3 : Memref sig .tc .vmem S512x1024 .f32)
    (h3 : a3.IsWhole) (a4 : Memref sig .tc .vmem S1024x1024 .f32) (h4 : a4.IsWhole) (hc : cond3_0 i) (a : Vec Ideal S512x1024 .bf16) (b : Vec Ideal S512x1024 .f32) :
    out3_A_2 (F := Ideal) c i a2 h2 a3 h3 a4 h4 hc a b = k3_pay2 (F := Ideal) (k3_pay1 (F := Ideal)) a b := by
  unfold out3_A_2
  rw [View.read_writes_eq_canon _ _ _ (cover3_A_2 c i a2 h2 a3 h3 a4 h4 hc a b)]
  unfold kernelRun3_A
  dsimp only
  sl_unfold_words
  rw [View.canon_cons_unit_zero (S := S1024x1024) zeros, View.readCov_unit_zero (S := S1024x1024) _ zeros]
  simp only [View.readAt_eq_ld, h2.read_unread, h3.read_unread, View.ld_unit_zero (S := S512x1024) zeros]
/-- A later point's block of the fourth product, from the point before. -/
theorem out_next_out_att (c : Dev nD) (i : grid3.Coords) (a2 : Memref sig .tc .vmem S512x1024 .bf16) (h2 : a2.IsWhole) (a3 : Memref sig .tc .vmem S512x1024 .f32)
    (h3 : a3.IsWhole) (a4 : Memref sig .tc .vmem S1024x1024 .f32) (h4 : a4.IsWhole) (hc : ¬cond3_0 i) (a : Vec Ideal S512x1024 .bf16) (b : Vec Ideal S512x1024 .f32)
    (o : Vec Ideal S1024x1024 .f32) : out3_B_2 (F := Ideal) c i a2 h2 a3 h3 a4 h4 hc a b o = k3_pay2 (F := Ideal) o a b := by
  unfold out3_B_2
  rw [View.read_writes_eq_canon _ _ _ (cover3_B_2 c i a2 h2 a3 h3 a4 h4 hc a b o)]
  unfold kernelRun3_B
  dsimp only
  rw [View.canon_unit_zero zeros]
  simp only [View.readAt_eq_ld, h2.read_unread, h3.read_unread, h4.read_unread, View.ld_unit_zero (S := S512x1024) zeros,
    View.ld_unit_zero (S := S1024x1024) zeros]
/-- After the first point of a block of the fourth product its entries are the products of that point's rows. -/
theorem start_out_att (c : Dev nD) (i : grid3.Coords) (a2 : Memref sig .tc .vmem S512x1024 .bf16) (h2 : a2.IsWhole) (a3 : Memref sig .tc .vmem S512x1024 .f32)
    (h3 : a3.IsWhole) (a4 : Memref sig .tc .vmem S1024x1024 .f32) (h4 : a4.IsWhole) (hc : cond3_0 i) (a : FVec Ideal S512x1024 .bf16) (b : FVec Ideal S512x1024 .f32)
    (j : S1024x1024.Idx) : out3_A_2 (F := Ideal) c i a2 h2 a3 h3 a4 h4 hc a b j = ∑ k : Fin 512, a (ix2 k (j 0)) * b (ix2 k (j 1)) :=
  (congrFun (out_first_out_att c i a2 h2 a3 h3 a4 h4 hc a b) j).trans ((add_out_att a b _ j).trans ((congrArg (· + _) (zero_out_att j)).trans (zero_add _)))
/-- A later point adds the products of its rows. -/
theorem step_out_att (c : Dev nD) (i : grid3.Coords) (a2 : Memref sig .tc .vmem S512x1024 .bf16) (h2 : a2.IsWhole) (a3 : Memref sig .tc .vmem S512x1024 .f32)
    (h3 : a3.IsWhole) (a4 : Memref sig .tc .vmem S1024x1024 .f32) (h4 : a4.IsWhole) (hc : ¬cond3_0 i) (a : FVec Ideal S512x1024 .bf16) (b : FVec Ideal S512x1024 .f32)
    (o : FVec Ideal S1024x1024 .f32) (j : S1024x1024.Idx) :
    out3_B_2 (F := Ideal) c i a2 h2 a3 h3 a4 h4 hc a b o j = o j + ∑ k : Fin 512, a (ix2 k (j 0)) * b (ix2 k (j 1)) :=
  (congrFun (out_next_out_att c i a2 h2 a3 h3 a4 h4 hc a b o) j).trans (add_out_att a b o j)

variable (V : (c : Dev nD) → (b : Ref sig .tc) → Buf (Elt Ideal) ((c : Thread nD τ).loc b))

/-- The index of the array that a point's block of the fourth product has at `j`. -/
abbrev at3 (t : Fin cfg3.N) (j : S1024x1024.Idx) : S1024x1024.Idx := ((cfg3.win 2).blk t).view.emb j

/-- A point's block of the fourth product has all rows. -/
theorem at3_row (t : Fin cfg3.N) (j : S1024x1024.Idx) : (at3 t j 0).val = (j 0).val := by
  have e : win3_2.index t 0 = 0 := (by decide +kernel : ∀ t : Fin grid3.N, win3_2.index t 0 = 0) t
  show win3_2.index t 0 * 1024 + 1 * (j 0).val = _
  rw [e]; omega
/-- Where column `j` of a point's block of the fourth product lies. -/
theorem at3_col (t : Fin cfg3.N) (j : S1024x1024.Idx) : (at3 t j 1).val = t.val / 8 * 1024 + (j 1).val := by
  have e : win3_2.index t 1 = t.val / 8 := (by decide +kernel : ∀ t : Fin grid3.N, win3_2.index t 1 = t.val / 8) t
  show win3_2.index t 1 * 1024 + 1 * (j 1).val = _
  rw [e]; omega
/-- Where a point's rows of the fourth product's left operand lie. -/
theorem at3_left (t : Fin cfg3.N) (j : S1024x1024.Idx) (k : Fin 512) : ((cfg3.win 0).blk t).view.emb (ix2 k (j 0)) = ix2 (row t.val k) (at3 t j 0) := by
  have e0 : win3_0.index t 0 = t.val % 8 := (by decide +kernel : ∀ t : Fin grid3.N, win3_0.index t 0 = t.val % 8) t
  have e1 : win3_0.index t 1 = 0 := (by decide +kernel : ∀ t : Fin grid3.N, win3_0.index t 1 = 0) t
  funext d
  match d with
  | ⟨0, _⟩ => exact Fin.ext (by show win3_0.index t 0 * 512 + 1 * k.val = t.val % 8 * 512 + k.val; rw [e0]; omega)
  | ⟨1, _⟩ => exact Fin.ext (by show win3_0.index t 1 * 1024 + 1 * (j 0).val = (at3 t j 0).val; rw [e1, at3_row]; omega)
/-- Where a point's rows of the fourth product's right operand lie. -/
theorem at3_right (t : Fin cfg3.N) (j : S1024x1024.Idx) (k : Fin 512) : ((cfg3.win 1).blk t).view.emb (ix2 k (j 1)) = ix2 (row t.val k) (at3 t j 1) := by
  have e0 : win3_1.index t 0 = t.val % 8 := (by decide +kernel : ∀ t : Fin grid3.N, win3_1.index t 0 = t.val % 8) t
  have e1 : win3_1.index t 1 = t.val / 8 := (by decide +kernel : ∀ t : Fin grid3.N, win3_1.index t 1 = t.val / 8) t
  funext d
  match d with
  | ⟨0, _⟩ => exact Fin.ext (by show win3_1.index t 0 * 512 + 1 * k.val = t.val % 8 * 512 + k.val; rw [e0]; omega)
  | ⟨1, _⟩ => exact Fin.ext (by show win3_1.index t 1 * 1024 + 1 * (j 1).val = (at3 t j 1).val; rw [e1, at3_col]; omega)
/-- A point that is not the first of its block of the fourth product has the block of the point before. -/
theorem at3_same (n : ℕ) (h : n + 1 < cfg3.N) (h0 : ¬ (n + 1) % 8 = 0) (j : S1024x1024.Idx) : at3 ⟨n, Nat.lt_of_succ_lt h⟩ j = at3 ⟨n + 1, h⟩ j := by
  funext d
  match d with
  | ⟨0, _⟩ => exact Fin.ext ((at3_row _ _).trans (at3_row _ _).symm)
  | ⟨1, _⟩ =>
    refine Fin.ext ?_
    rw [show ((at3 ⟨n, Nat.lt_of_succ_lt h⟩ j) ⟨1, by decide⟩).val = n / 8 * 1024 + (j 1).val from at3_col ⟨n, Nat.lt_of_succ_lt h⟩ j,
      show ((at3 ⟨n + 1, h⟩ j) ⟨1, by decide⟩).val = (n + 1) / 8 * 1024 + (j 1).val from at3_col ⟨n + 1, h⟩ j, show (n + 1) / 8 = n / 8 by omega]
/-- Every index of the fourth product lies in the block of a point that writes back. -/
theorem at3_cover (i : S1024x1024.Idx) : ∃ (t : Fin cfg3.N) (j : S1024x1024.Idx), t.val % 8 = 7 ∧ at3 t j = i := by
  have h1 : (i 1).val < 1024 := (i 1).isLt
  have hN : cfg3.N = 8 := N_3
  refine ⟨⟨(i 1).val / 1024 * 8 + 7, by omega⟩, ix2 ⟨(i 0).val, (i 0).isLt⟩ ⟨(i 1).val % 1024, Nat.mod_lt _ (by decide)⟩, by
    show ((i 1).val / 1024 * 8 + 7) % 8 = 7; omega, funext fun d => ?_⟩
  match d with
  | ⟨0, _⟩ => exact Fin.ext (at3_row _ _)
  | ⟨1, _⟩ => exact Fin.ext ((at3_col _ _).trans (by
      show ((i 1).val / 1024 * 8 + 7) / 8 * 1024 + (i 1).val % 1024 = (i 1).val; omega))

/-- What one row adds to an entry of the fourth product. -/
abbrev term_out_att (a : FVec Ideal S4096x1024 .bf16) (b : FVec Ideal S4096x1024 .f32) (i : S1024x1024.Idx) : Fin 4096 → EReal :=
  fun r => a (ix2 r (i 0)) * b (ix2 r (i 1))
/-- The fourth product of whole arrays. -/
abbrev whole_out_att (a : FVec Ideal S4096x1024 .bf16) (b : FVec Ideal S4096x1024 .f32) : FVec Ideal S1024x1024 .f32 :=
  fun i => ∑ r : Fin 4096, a (ix2 r (i 0)) * b (ix2 r (i 1))

/-- A point's products are its rows' part of the fourth product. -/
theorem part_out_att (c : Dev nD) (t : Fin cfg3.N) (a : FVec Ideal S512x1024 .bf16) (b : FVec Ideal S512x1024 .f32) (ea : iblk3 V c 0 t = a) (eb : iblk3 V c 1 t = b)
    (j : S1024x1024.Idx) : ∑ k : Fin 512, a (ix2 k (j 0)) * b (ix2 k (j 1)) = part (term_out_att (V c main_arg2) (V c main_arg5) (at3 t j)) t.val := by
  subst ea; subst eb
  refine Finset.sum_congr rfl fun k _ => congrArg₂ (· * ·) ?_ ?_
  · exact congrArg (V c main_arg2) (at3_left t j k)
  · exact congrArg (V c main_arg5) (at3_right t j k)

/-- After point `n` a block of the fourth product holds the parts up to `n`'s. -/
theorem outs_out_att (c : Dev nD) (n : ℕ) : ∀ (h : n < cfg3.N) (j : S1024x1024.Idx),
    outsAt3 V c n h j = ∑ l ∈ Finset.range (n % 8 + 1), part (term_out_att (V c main_arg2) (V c main_arg5) (at3 ⟨n, h⟩ j)) l := by
  induction n with
  | zero =>
      intro h j
      rw [show (0 % 8 + 1) = 1 from rfl, Finset.sum_range_one]
      exact (congrFun (outsAt3_A V c ⟨0, h⟩ rfl) j).trans ((start_out_att c _ _ _ _ _ _ _ _ _ _ j).trans (part_out_att V c ⟨0, h⟩ _ _ rfl rfl j))
  | succ n ih =>
      intro h j
      by_cases h0 : (n + 1) % 8 = 0
      · rw [h0, Finset.sum_range_one]
        refine (congrFun (outsAt3_A V c ⟨n + 1, h⟩ h0) j).trans ((start_out_att c _ _ _ _ _ _ _ _ _ _ j).trans ((part_out_att V c ⟨n + 1, h⟩ _ _ rfl rfl j).trans ?_))
        exact part_mod _ (by show (n + 1) % 8 = 0 % 8; omega)
      · rw [Finset.sum_range_succ, show (n + 1) % 8 = n % 8 + 1 by omega]
        refine (congrFun (outsAt3_B V c ⟨n + 1, h⟩ h0) j).trans ((step_out_att c _ _ _ _ _ _ _ _ _ _ _ j).trans (congrArg₂ (· + ·) ?_ ?_))
        · refine (ih (Nat.lt_of_succ_lt h) j).trans ?_
          exact Finset.sum_congr rfl fun l _ => congrArg (fun i => part (term_out_att (V c main_arg2) (V c main_arg5) i) l) (at3_same n h h0 j)
        · exact (part_out_att V c ⟨n + 1, h⟩ _ _ rfl rfl j).trans (part_mod _ (by show (n + 1) % 8 = (n % 8 + 1) % 8; omega))

/-- What the fourth product leaves, from what its region finds. -/
theorem final_out_att (c : Dev nD) : (dat3 V c).arrAt 2 cfg3.N = whole_out_att (V c main_arg2) (V c main_arg5) := by
  refine (dat3 V c).arrAt_eq_of_cover 2 _ (fun t ht => funext fun j => ?_) fun i => ?_
  · show (cfg3.win 2).cut (grid3.coords t) ((dat3 V c).after 2 t) j = _
    rw [after3_2]
    refine (outs_out_att V c t.val t.isLt j).trans ?_
    rw [show t.val % 8 + 1 = 8 from by rw [(flush3_2 t).mp ht]]
    exact sum_parts _
  · obtain ⟨t, j, ht, e⟩ := at3_cover i
    exact ⟨t, (flush3_2 t).mpr ht, e ▸ ((cfg3.win 2).blk t).view.emb_mem_set j⟩

end OutAtt

section Host

variable (m : (ℓ : Loc nD τ sig) → Buf (Elt Ideal) ℓ) (ρ : Dev nD → PrngReg)

/-- The left operand of the first two products. -/
abbrev left (x : FVec Ideal S4096x1024 .f32) : FVec Ideal S4096x1024 .bf16 := truncf .bf16 x bitsLt_bf16_f32
/-- The gradient of the first weight, from the products. -/
abbrev both_in (a : FVec Ideal S1024x2816 .f32) (b : FVec Ideal S1024x2560 .f32) : FVec Ideal S1024x5136 .f32 :=
  concatenate S1024x5136 1 [⟨S1024x2576, extractStridedSlice S1024x2576 ![0, 0] a slices_S1024x2816_S1024x2576_0_0⟩, ⟨S1024x2560, b⟩] concatenates_S1024x2576_S1024x2560_S1024x5136_d1
/-- The gradient of the second weight, from the products. -/
abbrev both_out (a b : FVec Ideal S1024x1024 .f32) : FVec Ideal S2048x1024 .f32 :=
  concatenate S2048x1024 0 [⟨S1024x1024, a⟩, ⟨S1024x1024, b⟩] concatenates_S1024x1024_S1024x1024_S2048x1024_d0

/-- What the host leaves for the left of the first two products. -/
theorem host_left (c : Dev nD) : V1 m ρ c main_v0 = left (m ((c : Thread nD τ).loc main_arg0)) := by
  show StableHlo.after hostOps0 _ _ = _
  after_reads_simp

/-- The first product's result. -/
theorem first_call (c : Dev nD) : W5 m ρ c (Proc.devRef .tc main_v1) = whole_in_ssd (left (m ((c : Thread nD τ).loc main_arg0))) (m ((c : Thread nD τ).loc main_arg3)) := by
  refine (W5_of m ρ c main_v1 (by decide +kernel)).trans ((W4_of m ρ c main_v1 (by decide +kernel)).trans ((W3_of m ρ c main_v1 (by decide +kernel)).trans
    ((W2_arr m ρ c 2).trans ((final_in_ssd (V1 m ρ) c).trans ?_))))
  rw [host_left, show V1 m ρ c main_arg3 = _ from W1_args m ρ c main_arg3 (by decide)]
/-- The second product's result. -/
theorem second_call (c : Dev nD) : W5 m ρ c (Proc.devRef .tc main_v2) = whole_in_att (left (m ((c : Thread nD τ).loc main_arg0))) (m ((c : Thread nD τ).loc main_arg4)) := by
  refine (W5_of m ρ c main_v2 (by decide +kernel)).trans ((W4_of m ρ c main_v2 (by decide +kernel)).trans
    ((W3_arr m ρ c 2).trans ((final_in_att (V2 m ρ) c).trans ?_)))
  rw [show V2 m ρ c main_v0 = _ from (W2_of m ρ c main_v0 (by decide +kernel)).trans (host_left m ρ c),
    show V2 m ρ c main_arg4 = _ from W2_args m ρ c main_arg4 (by decide)]
/-- The third product's result. -/
theorem third_call (c : Dev nD) : W5 m ρ c (Proc.devRef .tc main_v3) = whole_out_ssd (m ((c : Thread nD τ).loc main_arg1)) (m ((c : Thread nD τ).loc main_arg5)) := by
  refine (W5_of m ρ c main_v3 (by decide +kernel)).trans ((W4_arr m ρ c 2).trans ((final_out_ssd (V3 m ρ) c).trans ?_))
  rw [show V3 m ρ c main_arg1 = _ from W3_args m ρ c main_arg1 (by decide), show V3 m ρ c main_arg5 = _ from W3_args m ρ c main_arg5 (by decide)]
/-- The fourth product's result. -/
theorem fourth_call (c : Dev nD) : W5 m ρ c (Proc.devRef .tc main_v4) = whole_out_att (m ((c : Thread nD τ).loc main_arg2)) (m ((c : Thread nD τ).loc main_arg5)) := by
  refine (W5_arr m ρ c 2).trans ((final_out_att (V4 m ρ) c).trans ?_)
  rw [show V4 m ρ c main_arg2 = _ from W4_args m ρ c main_arg2 (by decide), show V4 m ρ c main_arg5 = _ from W4_args m ρ c main_arg5 (by decide)]

/-- What the program leaves as the gradient of the first weight. -/
theorem left_in (c : Dev nD) : W6 m ρ c (Proc.devRef .tc main_v6) = both_in (whole_in_ssd (left (m ((c : Thread nD τ).loc main_arg0))) (m ((c : Thread nD τ).loc main_arg3)))
    (whole_in_att (left (m ((c : Thread nD τ).loc main_arg0))) (m ((c : Thread nD τ).loc main_arg4))) := by
  rw [← first_call m ρ c, ← second_call m ρ c]
  show StableHlo.after hostOps4 _ _ = _
  after_reads_simp
  refine congrArg₂ (fun (a : FVec Ideal S1024x2576 .f32) (b : FVec Ideal S1024x2560 .f32) => (concatenate S1024x5136 1 [⟨S1024x2576, a⟩, ⟨S1024x2560, b⟩]
    concatenates_S1024x2576_S1024x2560_S1024x5136_d1 : FVec Ideal S1024x5136 .f32)) ?_ ?_ <;> after_reads_simp
/-- What the program leaves as the gradient of the second weight. -/
theorem left_out (c : Dev nD) : W6 m ρ c (Proc.devRef .tc main_v7) = both_out (whole_out_ssd (m ((c : Thread nD τ).loc main_arg1)) (m ((c : Thread nD τ).loc main_arg5)))
    (whole_out_att (m ((c : Thread nD τ).loc main_arg2)) (m ((c : Thread nD τ).loc main_arg5))) := by
  rw [← third_call m ρ c, ← fourth_call m ρ c]
  show StableHlo.after hostOps4 _ _ = _
  after_reads_simp
  refine congrArg₂ both_out ?_ ?_ <;> after_reads_simp

end Host

section Run
open Idealize.SL.RA Idealize.SL.BI Idealize.SL.BI.BIBase Idealize.SL.BI.Laws Idealize.SL.ProofMode
open Idealize.ShloMosaic.Rounds Idealize.ShloMosaic.Tactic
open scoped Idealize.SL.BI

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- After the four calls every buffer holds what the segments, folded from the launch memory, leave in it. -/
theorem run_segs : θ_run defs (onTc (τ := τ) (main (F := Ideal))) ⟨m, fun _ => 0, ρ⟩
    (fun r => ∀ c : Dev nD, ∀ b ∈ Pipeline.ucRefs τ sig, r.2.mem ((c : Thread nD τ).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- The four calls leave the gradients of the two weights, and the arguments as they were. -/
theorem run_kernel : θ_run defs (onTc (τ := τ) (main (F := Ideal))) ⟨m, fun _ => 0, ρ⟩ fun r => ∀ c : Dev nD,
      r.2.mem ((c : Thread nD τ).loc main_v6) = both_in (whole_in_ssd (left (m ((c : Thread nD τ).loc main_arg0))) (m ((c : Thread nD τ).loc main_arg3))) (whole_in_att (left (m ((c : Thread nD τ).loc main_arg0))) (m ((c : Thread nD τ).loc main_arg4)))
      ∧ r.2.mem ((c : Thread nD τ).loc main_v7) = both_out (whole_out_ssd (m ((c : Thread nD τ).loc main_arg1)) (m ((c : Thread nD τ).loc main_arg5))) (whole_out_att (m ((c : Thread nD τ).loc main_arg2)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c _ (mem_uc main_v6 (by decide))).trans (left_in m ρ c),
      (h c _ (mem_uc main_v7 (by decide))).trans (left_out m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c)⟩) (run_segs m ρ)

end Run

end Kernel

section Reference
open Cert.GradedWIdeal Cert.GradedWIdeal.Gen

/-- The reference's gradient of the first weight. -/
abbrev ref_in (x : FVec Ideal S4096x1024 .f32) (d : FVec Ideal S4096x2816 .f32) (e : FVec Ideal S4096x2560 .f32) : FVec Ideal S1024x5136 .f32 :=
  Host.dotGeneral dot_S1024x4096_S4096x5136_S1024x5136_1_0_0_1_n_n none (transpose S1024x4096 [1, 0] x transposes_S4096x1024_S1024x4096_1_0) (concatenate S4096x5136 1 [⟨S4096x2576, (extractStridedSlice S4096x2576 ![0, 0] d slices_S4096x2816_S4096x2576_0_0)⟩, ⟨S4096x2560, e⟩] concatenates_S4096x2576_S4096x2560_S4096x5136_d1)
/-- The reference's gradient of the second weight. -/
abbrev ref_out (y z : FVec Ideal S4096x1024 .bf16) (d : FVec Ideal S4096x1024 .f32) : FVec Ideal S2048x1024 .f32 :=
  Host.dotGeneral dot_S2048x4096_S4096x1024_S2048x1024_1_0_0_1_n_n none (transpose S2048x4096 [1, 0] (extf .f32 (concatenate S4096x2048 1 [⟨S4096x1024, y⟩, ⟨S4096x1024, z⟩] concatenates_S4096x1024_S4096x1024_S4096x2048_d1) bitsLt_bf16_f32) transposes_S4096x2048_S2048x4096_1_0) d

/-- The right operand of the gradient of the first weight, at an index. -/
theorem ref_right (d : FVec Ideal S4096x2816 .f32) (e : FVec Ideal S4096x2560 .f32) (r : Fin 4096) (q : Fin 5136) :
    (concatenate S4096x5136 1 [⟨S4096x2576, (extractStridedSlice S4096x2576 ![0, 0] d slices_S4096x2816_S4096x2576_0_0)⟩, ⟨S4096x2560, e⟩] concatenates_S4096x2576_S4096x2560_S4096x5136_d1 : FVec Ideal S4096x5136 .f32) (ix2 r q)
      = if h : q.val < 2576 then d (ix2 r ⟨q.val, by omega⟩) else e (ix2 r ⟨q.val - 2576, by omega⟩) := by
  pointwise []
/-- The left operand of the gradient of the second weight, at an index. -/
theorem ref_left (y z : FVec Ideal S4096x1024 .bf16) (r : Fin 4096) (p : Fin 2048) :
    (concatenate S4096x2048 1 [⟨S4096x1024, y⟩, ⟨S4096x1024, z⟩] concatenates_S4096x1024_S4096x1024_S4096x2048_d1 : FVec Ideal S4096x2048 .bf16) (ix2 r p)
      = if h : p.val < 1024 then y (ix2 r ⟨p.val, h⟩) else z (ix2 r ⟨p.val - 1024, by omega⟩) := by
  pointwise []

/-- The gradient of the first weight at an index. -/
theorem ref_in_at (x : FVec Ideal S4096x1024 .f32) (d : FVec Ideal S4096x2816 .f32) (e : FVec Ideal S4096x2560 .f32) (p : Fin 1024) (q : Fin 5136) :
    ref_in x d e (ix2 p q) = ∑ r : Fin 4096, x (ix2 r p) * (if h : q.val < 2576 then d (ix2 r ⟨q.val, by omega⟩) else e (ix2 r ⟨q.val - 2576, by omega⟩)) := by
  simp only [← ref_right d e]
  unfold ref_in
  generalize (concatenate S4096x5136 1 [⟨S4096x2576, (extractStridedSlice S4096x2576 ![0, 0] d slices_S4096x2816_S4096x2576_0_0)⟩, ⟨S4096x2560, e⟩] concatenates_S4096x2576_S4096x2560_S4096x5136_d1 : FVec Ideal S4096x5136 .f32) = o
  pointwise []
/-- The gradient of the second weight at an index. -/
theorem ref_out_at (y z : FVec Ideal S4096x1024 .bf16) (d : FVec Ideal S4096x1024 .f32) (p : Fin 2048) (q : Fin 1024) :
    ref_out y z d (ix2 p q) = ∑ r : Fin 4096, (if h : p.val < 1024 then y (ix2 r ⟨p.val, h⟩) else z (ix2 r ⟨p.val - 1024, by omega⟩)) * d (ix2 r q) := by
  simp only [← ref_left y z]
  unfold ref_out
  generalize (concatenate S4096x2048 1 [⟨S4096x1024, y⟩, ⟨S4096x1024, z⟩] concatenates_S4096x1024_S4096x1024_S4096x2048_d1 : FVec Ideal S4096x2048 .bf16) = o
  pointwise []

/-- The reference's run. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = ref_in (m ((c.tc : Thread nD τ).loc main_arg0)) (m ((c.tc : Thread nD τ).loc main_arg3)) (m ((c.tc : Thread nD τ).loc main_arg4))
      ∧ r.2.mem ((c.tc : Thread nD τ).loc main_v7) = ref_out (m ((c.tc : Thread nD τ).loc main_arg1)) (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.GradedWIdeal.Value.run m ρ

end Reference

section Equal
open Cert.GradWIdeal

/-- The joined gradient of the first weight at an index. -/
theorem both_in_at (a : FVec Ideal S1024x2816 .f32) (b : FVec Ideal S1024x2560 .f32) (p : Fin 1024) (q : Fin 5136) :
    both_in a b (ix2 p q) = if h : q.val < 2576 then a (ix2 p ⟨q.val, by omega⟩) else b (ix2 p ⟨q.val - 2576, by omega⟩) := by
  pointwise []
/-- The joined gradient of the second weight at an index. -/
theorem both_out_at (a b : FVec Ideal S1024x1024 .f32) (p : Fin 2048) (q : Fin 1024) :
    both_out a b (ix2 p q) = if h : p.val < 1024 then a (ix2 ⟨p.val, h⟩ q) else b (ix2 ⟨p.val - 1024, by omega⟩ q) := by
  pointwise []

/-- An entry of the gradient of the first weight is the reference's. -/
theorem entry_in (x : FVec Ideal S4096x1024 .f32) (d : FVec Ideal S4096x2816 .f32) (e : FVec Ideal S4096x2560 .f32) (p : Fin 1024) (q : Fin 5136) :
    both_in (whole_in_ssd (left x) d) (whole_in_att (left x) e) (ix2 p q) = ref_in x d e (ix2 p q) := by
  rw [both_in_at, ref_in_at]
  by_cases h : q.val < 2576
  · simp only [dif_pos h]; rfl
  · simp only [dif_neg h]; rfl
/-- An entry of the gradient of the second weight is the reference's. -/
theorem entry_out (y z : FVec Ideal S4096x1024 .bf16) (d : FVec Ideal S4096x1024 .f32) (p : Fin 2048) (q : Fin 1024) :
    both_out (whole_out_ssd y d) (whole_out_att z d) (ix2 p q) = ref_out y z d (ix2 p q) := by
  rw [both_out_at, ref_out_at]
  by_cases h : p.val < 1024
  · simp only [dif_pos h]; rfl
  · simp only [dif_neg h]; rfl

/-- The gradient of the first weight is the reference's. -/
theorem in_eq (x : FVec Ideal S4096x1024 .f32) (d : FVec Ideal S4096x2816 .f32) (e : FVec Ideal S4096x2560 .f32) :
    both_in (whole_in_ssd (left x) d) (whole_in_att (left x) e) = ref_in x d e :=
  funext fun i => by
    have h : ix2 (i 0) (i 1) = i := funext fun k => by fin_cases k <;> rfl
    exact (congrArg _ h.symm).trans ((entry_in x d e (i 0) (i 1)).trans (congrArg (ref_in x d e) h))
/-- The gradient of the second weight is the reference's. -/
theorem out_eq (y z : FVec Ideal S4096x1024 .bf16) (d : FVec Ideal S4096x1024 .f32) :
    both_out (whole_out_ssd y d) (whole_out_att z d) = ref_out y z d :=
  funext fun i => by
    have h : ix2 (i 0) (i 1) = i := funext fun k => by fin_cases k <;> rfl
    exact (congrArg _ h.symm).trans ((entry_out y z d (i 0) (i 1)).trans (congrArg (ref_out y z d) h))

end Equal

end Cert.GradOfW

end
-- ==== Proof.HeadRow.lean ====
/-
# The head of one row

The head takes a row of the residual sum through LayerNorm to the loss and back: the deviation from the mean, the scale, the
normalised row, the error, and the gradient of the residual sum, each as a function on the 1024 columns over the extended reals.
And what a point of the head's call computes from its blocks, in these words, row by row.
-/
module

public import proofs.«01_k».proof.Proof.Gen.HeadIdeal.Skeleton
public import Idealize.ShloMosaic.Lib.Pointwise
public import Idealize.ShloMosaic.Lib.IdealHost

@[expose] public section

noncomputable section

namespace Cert.HeadOf

open Idealize.ShloMosaic Idealize.ShloMosaic.TcCoe Idealize.SL.Sem

/-- A row. -/
abbrev Row := Fin 1024 → EReal
/-- The number of columns, as f32. -/
abbrev width : EReal := Ideal.ofBits .f32 0x44800000#32
/-- The mean of a row. -/
def mean (f : Row) : EReal := Ideal.div (∑ k, f k) width
/-- The deviation from the mean. -/
def dev (r : Row) : Row := fun l => r l - mean r
/-- One over the standard deviation. -/
def scale (r : Row) : EReal := Ideal.rsqrt (mean (fun k => dev r k * dev r k) + Ideal.ofBits .f32 0x3727C5AC#32)
/-- The normalised row. -/
def hat (r : Row) : Row := fun l => dev r l * scale r
/-- The error. -/
def err (r g b t : Row) : Row := fun l => hat r l * g l + b l - t l
/-- The gradient of the output. -/
def dout (r g b t : Row) : Row := fun l => Ideal.div (err r g b t l) width
/-- The gradient of the normalised row. -/
def dhat (r g b t : Row) : Row := fun l => dout r g b t l * g l
/-- The gradient of the row. -/
def dres (r g b t : Row) : Row := fun l =>
  scale r * (dhat r g b t l - mean (dhat r g b t) - hat r l * mean (fun k => dhat r g b t k * hat r k))

theorem width_eq : width = ((1024 : ℝ) : EReal) := by
  simp [width, Ideal.ofBits, Ideal.ieee, -EReal.coe_mul]; norm_num
theorem over_eq : Ideal.ofBits .f32 0x3A800000#32 = ((1 / 1024 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem halfOver_eq : Ideal.ofBits .f32 0x3A000000#32 = ((1 / 2048 : ℝ) : EReal) := by
  simp [Ideal.ofBits, Ideal.ieee, -EReal.coe_mul]; norm_num
/-- A quotient by the number of columns is a product. -/
theorem div_width (x : EReal) : Ideal.div x width = x * ((1 / 1024 : ℝ) : EReal) := by
  have h : ((1024 : ℝ) : EReal) ≠ 0 := by norm_num
  rw [width_eq, Ideal.div, if_neg h, ← EReal.coe_inv]
  norm_num
/-- A product with 1/1024 is a division by 1024. -/
theorem mul_over (x : EReal) : x * Ideal.ofBits .f32 0x3A800000#32 = Ideal.div x width := by
  rw [div_width, over_eq]

section Point
open Cert.HeadIdeal Cert.HeadIdeal.Gen

variable (ys ya : FVec Ideal S256x1024 .bf16) (wa wb : FVec Ideal S1024x1024 .bf16) (x t : FVec Ideal S256x1024 .f32) (g b : FVec Ideal S1x1024 .f32)

/-- A row of the residual sum of a block. -/
def sumOf (r : Fin 256) : Row := fun l => Ideal.ofBits .f32 0x3F9837F0#32 * x (ix2 r l)
  + (∑ k : Fin 1024, ys (ix2 r k) * wa (ix2 k l) + ∑ k : Fin 1024, ya (ix2 r k) * wb (ix2 k l))

/-- The block's deviations. -/
theorem pay_dev (r : Fin 256) (l : Fin 1024) : k0_pay4 (F := Ideal) ys wa ya wb x (ix2 r l) = dev (sumOf ys ya wa wb x r) l := by
  pointwise [k0_pay4, dev, mean, sumOf]
/-- The block's scales. -/
theorem pay_scale (r : Fin 256) : k0_pay5 (F := Ideal) ys wa ya wb x (ix2 r 0) = scale (sumOf ys ya wa wb x r) := by
  have h := pay_dev ys ya wa wb x r
  unfold k0_pay5
  generalize k0_pay4 (F := Ideal) ys wa ya wb x = d at h
  pointwise [scale, mean, ← h]
/-- The block's normalised rows. -/
theorem pay_hat (r : Fin 256) (l : Fin 1024) : k0_pay6 (F := Ideal) ys wa ya wb x (ix2 r l) = hat (sumOf ys ya wa wb x r) l := by
  have h := pay_dev ys ya wa wb x r l
  have h' := pay_scale ys ya wa wb x r
  unfold k0_pay6 hat
  rw [← h, ← h']
  generalize k0_pay4 (F := Ideal) ys wa ya wb x = d
  generalize k0_pay5 (F := Ideal) ys wa ya wb x = s
  pointwise

/-- A block's row of the targets, and the one row of the weights. -/
abbrev rowOf (r : Fin 256) : Row := fun l => t (ix2 r l)
abbrev oneOf : Row := fun l => g (ix2 0 l)

/-- The block's errors. -/
theorem pay_err (r : Fin 256) (l : Fin 1024) : k0_pay9 (F := Ideal) (k0_pay8 ys wa ya wb x g) b t (ix2 r l)
    = err (sumOf ys ya wa wb x r) (oneOf g) (oneOf b) (rowOf t r) l := by
  have h := pay_hat ys ya wa wb x r l
  unfold k0_pay9 k0_pay8
  generalize k0_pay6 (F := Ideal) ys wa ya wb x = d at h
  pointwise [k0_pay7, err, ← h]
/-- The block's gradients of the output. -/
theorem pay_dout (r : Fin 256) (l : Fin 1024) : k0_pay10 (F := Ideal) (k0_pay8 ys wa ya wb x g) b t (ix2 r l)
    = dout (sumOf ys ya wa wb x r) (oneOf g) (oneOf b) (rowOf t r) l := by
  have h := pay_err ys ya wa wb x t g b r l
  unfold k0_pay10
  generalize k0_pay9 (F := Ideal) (k0_pay8 ys wa ya wb x g) b t = d at h
  refine Eq.trans ?_ (mul_over _)
  rw [← h]
  pointwise
/-- The block's gradients of the residual sum. -/
theorem pay_dres (r : Fin 256) (l : Fin 1024) :
    k0_pay11 (F := Ideal) (k0_pay5 ys wa ya wb x) (k0_pay6 ys wa ya wb x) (k0_pay7 g) (k0_pay8 ys wa ya wb x g) b t (ix2 r l)
    = dres (sumOf ys ya wa wb x r) (oneOf g) (oneOf b) (rowOf t r) l := by
  have h := pay_dout ys ya wa wb x t g b r
  have h' := pay_hat ys ya wa wb x r
  have h'' := pay_scale ys ya wa wb x r
  unfold k0_pay11
  generalize k0_pay10 (F := Ideal) (k0_pay8 ys wa ya wb x g) b t = d at h
  generalize k0_pay6 (F := Ideal) ys wa ya wb x = e at h'
  generalize k0_pay5 (F := Ideal) ys wa ya wb x = f at h''
  pointwise [k0_pay7, dres, dhat, mean, ← h, ← h', ← h'']
/-- The block's gradients of the branches' outputs. -/
theorem pay_dy (wt : FVec Ideal S1024x2048 .bf16) (r : Fin 256) (l : Fin 2048) :
    k0_pay12 (F := Ideal) (k0_pay5 ys wa ya wb x) (k0_pay6 ys wa ya wb x) (k0_pay7 g) (k0_pay8 ys wa ya wb x g) b t wt (ix2 r l)
    = ∑ k : Fin 1024, dres (sumOf ys ya wa wb x r) (oneOf g) (oneOf b) (rowOf t r) k * wt (ix2 k l) := by
  have h := pay_dres ys ya wa wb x t g b r
  unfold k0_pay12
  generalize k0_pay11 (F := Ideal) (k0_pay5 ys wa ya wb x) (k0_pay6 ys wa ya wb x) (k0_pay7 g) (k0_pay8 ys wa ya wb x g) b t = d at h
  pointwise [← h]

/-- What a point adds to the three sums. -/
theorem pay_gain (l : Fin 1024) : k0_pay14 (F := Ideal) (k0_pay6 ys wa ya wb x) (k0_pay8 ys wa ya wb x g) b t (ix2 0 l)
    = ∑ r : Fin 256, dout (sumOf ys ya wa wb x r) (oneOf g) (oneOf b) (rowOf t r) l * hat (sumOf ys ya wa wb x r) l := by
  have h := fun r => pay_dout ys ya wa wb x t g b r l
  have h' := fun r => pay_hat ys ya wa wb x r l
  unfold k0_pay14
  generalize k0_pay10 (F := Ideal) (k0_pay8 ys wa ya wb x g) b t = d at h
  generalize k0_pay6 (F := Ideal) ys wa ya wb x = e at h'
  pointwise [← h, ← h']
theorem pay_bias (l : Fin 1024) : k0_pay15 (F := Ideal) (k0_pay8 ys wa ya wb x g) b t (ix2 0 l)
    = ∑ r : Fin 256, dout (sumOf ys ya wa wb x r) (oneOf g) (oneOf b) (rowOf t r) l := by
  have h := fun r => pay_dout ys ya wa wb x t g b r l
  unfold k0_pay15
  generalize k0_pay10 (F := Ideal) (k0_pay8 ys wa ya wb x g) b t = d at h
  pointwise [← h]
theorem pay_square (r : Fin 256) (l : Fin 1024) : k0_pay16 (F := Ideal) (k0_pay8 ys wa ya wb x g) b t (ix2 r l)
    = err (sumOf ys ya wa wb x r) (oneOf g) (oneOf b) (rowOf t r) l * err (sumOf ys ya wa wb x r) (oneOf g) (oneOf b) (rowOf t r) l := by
  have h := pay_err ys ya wa wb x t g b r l
  unfold k0_pay16
  generalize k0_pay9 (F := Ideal) (k0_pay8 ys wa ya wb x g) b t = d at h
  pointwise [← h]

variable (o : FVec Ideal S8x1024 .f32) (p q : FVec Ideal S1x1024 .f32) (e : FVec Ideal S256x1024 .f32) (l : Fin 1024)

/-- A choice by two different row numbers takes the second value. -/
theorem unpicked (m n : BitVec 32) (h : (m == n) = false) (x y : EReal) :
    Scalar.select (IntOp.cmpi CmpIPredicate.eq m n) x y = y := by
  simp [Scalar.select, IntOp.cmpi, h]

/-- The three rows of the accumulated block. -/
theorem add_gain : k0_pay1 (F := Ideal) o p q e (ix2 0 l) = o (ix2 0 l) + p (ix2 0 l) := by
  pointwise [k0_pay1]
  rw [unpicked _ _ (by decide), unpicked _ _ (by decide), add_zero, add_zero]
theorem add_bias : k0_pay1 (F := Ideal) o p q e (ix2 1 l) = o (ix2 1 l) + q (ix2 0 l) := by
  pointwise [k0_pay1]
  rw [unpicked _ _ (by decide), unpicked _ _ (by decide), add_zero, zero_add]
theorem add_loss : k0_pay1 (F := Ideal) o p q e (ix2 2 l)
    = o (ix2 2 l) + (∑ r : Fin 256, e (ix2 r l)) * Ideal.ofBits .f32 0x3A000000#32 := by
  pointwise [k0_pay1]
  rw [unpicked _ _ (by decide), unpicked _ _ (by decide), add_zero, zero_add]
theorem add_from (i : S8x1024.Idx) : k0_pay13 (F := Ideal) o i = o i := by
  pointwise [k0_pay13]
theorem zero_at (i : S8x1024.Idx) : k0_pay3 (F := Ideal) i = 0 := by
  pointwise [k0_pay3]
/-- The last point's total, and the rows it leaves. -/
theorem last_gain : k0_pay2 (F := Ideal) o (ix2 0 l) = o (ix2 0 l) := by
  pointwise [k0_pay2]
  rw [unpicked _ _ (by decide)]
theorem last_bias : k0_pay2 (F := Ideal) o (ix2 1 l) = o (ix2 1 l) := by
  pointwise [k0_pay2]
  rw [unpicked _ _ (by decide)]
theorem last_loss : k0_pay2 (F := Ideal) o (ix2 3 l) = ∑ k : Fin 1024, o (ix2 2 k) := by
  pointwise [k0_pay2]
  exact Fintype.sum_unique _

end Point

end Cert.HeadOf

end
-- ==== Proof.HeadVal.lean ====
/-
# The head: values

What the head's call leaves, index by index. Each of its sixteen points takes 256 rows through the head of `HeadRow.lean`; it writes
their gradients of the residual sum and of the branches' outputs, and adds to a block of running sums, which the last point writes
back with the loss in it.
-/
module

public import proofs.«01_k».proof.Proof.HeadRow
public import proofs.«01_k».proof.Proof.Gen.HeadIdeal.Frame
public import Idealize.ShloMosaic.Lib.Pointwise
public import Idealize.ShloMosaic.Lib.IdealHost
public import Idealize.ShloMosaic.Lib.Pipeline.Value
public import Idealize.ShloMosaic.Lib.StableHlo.RunRead
public import Idealize.ShloMosaic.Lib.Tactic

@[expose] public section

noncomputable section

namespace Cert.HeadOf

open Idealize.ShloMosaic Idealize.ShloMosaic.TcCoe Idealize.SL Idealize.SL.Sem
open Idealize.ShloMosaic.Pipeline (Dat)
open Cert.HeadIdeal Cert.HeadIdeal.Gen

theorem zeros : (![0, 0] : Fin 2 → Nat) = fun _ => 0 := funext fun a => by fin_cases a <;> rfl

section Body

variable (x0 : Vec Ideal S256x1024 .bf16) (x1 : Vec Ideal S256x1024 .bf16) (x2 : Vec Ideal S256x1024 .f32) (x3 : Vec Ideal S256x1024 .f32) (x4 : Vec Ideal S2048x1024 .bf16) (x5 : Vec Ideal S1024x2048 .bf16) (x6 : Vec Ideal S8x1024 .f32) (x7 : Vec Ideal S8x1024 .f32) (o : Vec Ideal S8x1024 .f32)

/-- The rows of the weight that the first branch's output meets, and those that the second's meets. -/
abbrev upper : FVec Ideal S1024x1024 .bf16 := View.ld x4 (Rect.unit (s := S2048x1024) ![0, 0] S1024x1024.size inb_S2048x1024_S1024x1024_0_0)
abbrev lower : FVec Ideal S1024x1024 .bf16 := View.ld x4 (Rect.unit (s := S2048x1024) ![1024, 0] S1024x1024.size inb_S2048x1024_S1024x1024_1024_0)
/-- The first of eight rows. -/
abbrev first : FVec Ideal S1x1024 .f32 := View.ld x6 (Rect.unit (s := S8x1024) ![0, 0] S1x1024.size inb_S8x1024_S1x1024_0_0)

/-- A point's block of the gradients of the residual sum. -/
abbrev blk_dr : FVec Ideal S256x1024 .f32 :=
  k0_pay11 (F := Ideal) (k0_pay5 x0 (upper x4) x1 (lower x4) x2) (k0_pay6 x0 (upper x4) x1 (lower x4) x2) (k0_pay7 (first x6)) (k0_pay8 x0 (upper x4) x1 (lower x4) x2 (first x6)) (first x7) x3
/-- A point's block of the gradients of the branches' outputs. -/
abbrev blk_dy : FVec Ideal S256x2048 .f32 :=
  k0_pay12 (F := Ideal) (k0_pay5 x0 (upper x4) x1 (lower x4) x2) (k0_pay6 x0 (upper x4) x1 (lower x4) x2) (k0_pay7 (first x6)) (k0_pay8 x0 (upper x4) x1 (lower x4) x2 (first x6)) (first x7) x3 x5
/-- The running sums after a point. -/
abbrev blk_next : FVec Ideal S8x1024 .f32 :=
  k0_pay1 (F := Ideal) (k0_pay13 o) (k0_pay14 (k0_pay6 x0 (upper x4) x1 (lower x4) x2) (k0_pay8 x0 (upper x4) x1 (lower x4) x2 (first x6)) (first x7) x3)
    (k0_pay15 (k0_pay8 x0 (upper x4) x1 (lower x4) x2 (first x6)) (first x7) x3) (k0_pay16 (k0_pay8 x0 (upper x4) x1 (lower x4) x2 (first x6)) (first x7) x3)

variable (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .f32) (h3 : a3.IsWhole) (a4 : Memref sig .tc .vmem S256x1024 .f32) (h4 : a4.IsWhole) (a5 : Memref sig .tc .vmem S2048x1024 .bf16) (h5 : a5.IsWhole) (a6 : Memref sig .tc .vmem S1024x2048 .bf16) (h6 : a6.IsWhole) (a7 : Memref sig .tc .vmem S8x1024 .f32) (h7 : a7.IsWhole) (a8 : Memref sig .tc .vmem S8x1024 .f32) (h8 : a8.IsWhole) (a9 : Memref sig .tc .vmem S256x1024 .f32) (h9 : a9.IsWhole) (a10 : Memref sig .tc .vmem S256x2048 .f32) (h10 : a10.IsWhole) (a11 : Memref sig .tc .vmem S8x1024 .f32) (h11 : a11.IsWhole)

/-- What the first point writes its gradients of the residual sum. -/
theorem out_A_8 (g0 : cond0_0 i) (g1 : ¬cond0_1 i) :
    out0_A_8 (F := Ideal) c i a1 h1 a2 h2 a3 h3 a4 h4 a5 h5 a6 h6 a7 h7 a8 h8 a9 h9 a10 h10 a11 h11 g0 g1 x0 x1 x2 x3 x4 x5 x6 x7 = blk_dr x0 x1 x2 x3 x4 x6 x7 := by
  unfold out0_A_8
  rw [View.read_writes_eq_canon _ _ _ (cover0_A_8 c i a1 h1 a2 h2 a3 h3 a4 h4 a5 h5 a6 h6 a7 h7 a8 h8 a9 h9 a10 h10 a11 h11 g0 g1 x0 x1 x2 x3 x4 x5 x6 x7)]
  unfold kernelRun0_A
  dsimp only
  sl_unfold_words
  rw [View.canon_unit_zero (S := S256x1024) zeros]
  simp only [View.readAt_eq_ld, h1.read_unread, h2.read_unread, h3.read_unread, h4.read_unread, h5.read_unread, h6.read_unread, h7.read_unread, h8.read_unread, h11.read_unread, View.ld_unit_zero (S := S256x1024) zeros, View.ld_unit_zero (S := S1024x2048) zeros, View.ld_unit_zero (S := S8x1024) zeros]
/-- What the first point writes its gradients of the branches' outputs. -/
theorem out_A_9 (g0 : cond0_0 i) (g1 : ¬cond0_1 i) :
    out0_A_9 (F := Ideal) c i a1 h1 a2 h2 a3 h3 a4 h4 a5 h5 a6 h6 a7 h7 a8 h8 a9 h9 a10 h10 a11 h11 g0 g1 x0 x1 x2 x3 x4 x5 x6 x7 = blk_dy x0 x1 x2 x3 x4 x5 x6 x7 := by
  unfold out0_A_9
  rw [View.read_writes_eq_canon _ _ _ (cover0_A_9 c i a1 h1 a2 h2 a3 h3 a4 h4 a5 h5 a6 h6 a7 h7 a8 h8 a9 h9 a10 h10 a11 h11 g0 g1 x0 x1 x2 x3 x4 x5 x6 x7)]
  unfold kernelRun0_A
  dsimp only
  sl_unfold_words
  rw [View.canon_unit_zero (S := S256x2048) zeros]
  simp only [View.readAt_eq_ld, h1.read_unread, h2.read_unread, h3.read_unread, h4.read_unread, h5.read_unread, h6.read_unread, h7.read_unread, h8.read_unread, h11.read_unread, View.ld_unit_zero (S := S256x1024) zeros, View.ld_unit_zero (S := S1024x2048) zeros, View.ld_unit_zero (S := S8x1024) zeros]
/-- What the first point leaves in the running sums. -/
theorem out_A_10 (g0 : cond0_0 i) (g1 : ¬cond0_1 i) :
    out0_A_10 (F := Ideal) c i a1 h1 a2 h2 a3 h3 a4 h4 a5 h5 a6 h6 a7 h7 a8 h8 a9 h9 a10 h10 a11 h11 g0 g1 x0 x1 x2 x3 x4 x5 x6 x7 = blk_next x0 x1 x2 x3 x4 x6 x7 (k0_pay3 (F := Ideal)) := by
  unfold out0_A_10
  rw [View.read_writes_eq_canon _ _ _ (cover0_A_10 c i a1 h1 a2 h2 a3 h3 a4 h4 a5 h5 a6 h6 a7 h7 a8 h8 a9 h9 a10 h10 a11 h11 g0 g1 x0 x1 x2 x3 x4 x5 x6 x7)]
  unfold kernelRun0_A
  dsimp only
  sl_unfold_words
  rw [View.canon_cons_unit_zero (S := S8x1024) zeros, View.readCov_unit_zero (S := S8x1024) _ zeros]
  simp only [View.readAt_eq_ld, h1.read_unread, h2.read_unread, h3.read_unread, h4.read_unread, h5.read_unread, h6.read_unread, h7.read_unread, h8.read_unread, h11.read_unread, View.ld_unit_zero (S := S256x1024) zeros, View.ld_unit_zero (S := S1024x2048) zeros, View.ld_unit_zero (S := S8x1024) zeros]
/-- What a later point writes its gradients of the residual sum. -/
theorem out_B_8 (g0 : ¬cond0_0 i) (g1 : ¬cond0_1 i) :
    out0_B_8 (F := Ideal) c i a1 h1 a2 h2 a3 h3 a4 h4 a5 h5 a6 h6 a7 h7 a8 h8 a9 h9 a10 h10 a11 h11 g0 g1 x0 x1 x2 x3 x4 x5 x6 x7 o = blk_dr x0 x1 x2 x3 x4 x6 x7 := by
  unfold out0_B_8
  rw [View.read_writes_eq_canon _ _ _ (cover0_B_8 c i a1 h1 a2 h2 a3 h3 a4 h4 a5 h5 a6 h6 a7 h7 a8 h8 a9 h9 a10 h10 a11 h11 g0 g1 x0 x1 x2 x3 x4 x5 x6 x7 o)]
  unfold kernelRun0_B
  dsimp only
  sl_unfold_words
  rw [View.canon_unit_zero (S := S256x1024) zeros]
  simp only [View.readAt_eq_ld, h1.read_unread, h2.read_unread, h3.read_unread, h4.read_unread, h5.read_unread, h6.read_unread, h7.read_unread, h8.read_unread, h11.read_unread, View.ld_unit_zero (S := S256x1024) zeros, View.ld_unit_zero (S := S1024x2048) zeros, View.ld_unit_zero (S := S8x1024) zeros]
/-- What a later point writes its gradients of the branches' outputs. -/
theorem out_B_9 (g0 : ¬cond0_0 i) (g1 : ¬cond0_1 i) :
    out0_B_9 (F := Ideal) c i a1 h1 a2 h2 a3 h3 a4 h4 a5 h5 a6 h6 a7 h7 a8 h8 a9 h9 a10 h10 a11 h11 g0 g1 x0 x1 x2 x3 x4 x5 x6 x7 o = blk_dy x0 x1 x2 x3 x4 x5 x6 x7 := by
  unfold out0_B_9
  rw [View.read_writes_eq_canon _ _ _ (cover0_B_9 c i a1 h1 a2 h2 a3 h3 a4 h4 a5 h5 a6 h6 a7 h7 a8 h8 a9 h9 a10 h10 a11 h11 g0 g1 x0 x1 x2 x3 x4 x5 x6 x7 o)]
  unfold kernelRun0_B
  dsimp only
  sl_unfold_words
  rw [View.canon_unit_zero (S := S256x2048) zeros]
  simp only [View.readAt_eq_ld, h1.read_unread, h2.read_unread, h3.read_unread, h4.read_unread, h5.read_unread, h6.read_unread, h7.read_unread, h8.read_unread, h11.read_unread, View.ld_unit_zero (S := S256x1024) zeros, View.ld_unit_zero (S := S1024x2048) zeros, View.ld_unit_zero (S := S8x1024) zeros]
/-- What a later point leaves in the running sums. -/
theorem out_B_10 (g0 : ¬cond0_0 i) (g1 : ¬cond0_1 i) :
    out0_B_10 (F := Ideal) c i a1 h1 a2 h2 a3 h3 a4 h4 a5 h5 a6 h6 a7 h7 a8 h8 a9 h9 a10 h10 a11 h11 g0 g1 x0 x1 x2 x3 x4 x5 x6 x7 o = blk_next x0 x1 x2 x3 x4 x6 x7 o := by
  unfold out0_B_10
  rw [View.read_writes_eq_canon _ _ _ (cover0_B_10 c i a1 h1 a2 h2 a3 h3 a4 h4 a5 h5 a6 h6 a7 h7 a8 h8 a9 h9 a10 h10 a11 h11 g0 g1 x0 x1 x2 x3 x4 x5 x6 x7 o)]
  unfold kernelRun0_B
  dsimp only
  sl_unfold_words
  rw [View.canon_unit_zero (S := S8x1024) zeros]
  simp only [View.readAt_eq_ld, h1.read_unread, h2.read_unread, h3.read_unread, h4.read_unread, h5.read_unread, h6.read_unread, h7.read_unread, h8.read_unread, h11.read_unread, View.ld_unit_zero (S := S256x1024) zeros, View.ld_unit_zero (S := S1024x2048) zeros, View.ld_unit_zero (S := S8x1024) zeros]
/-- What the last point writes its gradients of the residual sum. -/
theorem out_C_8 (g0 : ¬cond0_0 i) (g1 : cond0_1 i) :
    out0_C_8 (F := Ideal) c i a1 h1 a2 h2 a3 h3 a4 h4 a5 h5 a6 h6 a7 h7 a8 h8 a9 h9 a10 h10 a11 h11 g0 g1 x0 x1 x2 x3 x4 x5 x6 x7 o = blk_dr x0 x1 x2 x3 x4 x6 x7 := by
  unfold out0_C_8
  rw [View.read_writes_eq_canon _ _ _ (cover0_C_8 c i a1 h1 a2 h2 a3 h3 a4 h4 a5 h5 a6 h6 a7 h7 a8 h8 a9 h9 a10 h10 a11 h11 g0 g1 x0 x1 x2 x3 x4 x5 x6 x7 o)]
  unfold kernelRun0_C
  dsimp only
  sl_unfold_words
  rw [View.canon_unit_zero (S := S256x1024) zeros]
  simp only [View.readAt_eq_ld, h1.read_unread, h2.read_unread, h3.read_unread, h4.read_unread, h5.read_unread, h6.read_unread, h7.read_unread, h8.read_unread, h11.read_unread, View.ld_unit_zero (S := S256x1024) zeros, View.ld_unit_zero (S := S1024x2048) zeros, View.ld_unit_zero (S := S8x1024) zeros]
/-- What the last point writes its gradients of the branches' outputs. -/
theorem out_C_9 (g0 : ¬cond0_0 i) (g1 : cond0_1 i) :
    out0_C_9 (F := Ideal) c i a1 h1 a2 h2 a3 h3 a4 h4 a5 h5 a6 h6 a7 h7 a8 h8 a9 h9 a10 h10 a11 h11 g0 g1 x0 x1 x2 x3 x4 x5 x6 x7 o = blk_dy x0 x1 x2 x3 x4 x5 x6 x7 := by
  unfold out0_C_9
  rw [View.read_writes_eq_canon _ _ _ (cover0_C_9 c i a1 h1 a2 h2 a3 h3 a4 h4 a5 h5 a6 h6 a7 h7 a8 h8 a9 h9 a10 h10 a11 h11 g0 g1 x0 x1 x2 x3 x4 x5 x6 x7 o)]
  unfold kernelRun0_C
  dsimp only
  sl_unfold_words
  rw [View.canon_unit_zero (S := S256x2048) zeros]
  simp only [View.readAt_eq_ld, h1.read_unread, h2.read_unread, h3.read_unread, h4.read_unread, h5.read_unread, h6.read_unread, h7.read_unread, h8.read_unread, h11.read_unread, View.ld_unit_zero (S := S256x1024) zeros, View.ld_unit_zero (S := S1024x2048) zeros, View.ld_unit_zero (S := S8x1024) zeros]
/-- What the last point leaves in the running sums. -/
theorem out_C_10 (g0 : ¬cond0_0 i) (g1 : cond0_1 i) :
    out0_C_10 (F := Ideal) c i a1 h1 a2 h2 a3 h3 a4 h4 a5 h5 a6 h6 a7 h7 a8 h8 a9 h9 a10 h10 a11 h11 g0 g1 x0 x1 x2 x3 x4 x5 x6 x7 o = k0_pay2 (F := Ideal) (blk_next x0 x1 x2 x3 x4 x6 x7 o) := by
  unfold out0_C_10
  rw [View.read_writes_eq_canon _ _ _ (cover0_C_10 c i a1 h1 a2 h2 a3 h3 a4 h4 a5 h5 a6 h6 a7 h7 a8 h8 a9 h9 a10 h10 a11 h11 g0 g1 x0 x1 x2 x3 x4 x5 x6 x7 o)]
  unfold kernelRun0_C
  dsimp only
  sl_unfold_words
  rw [View.canon_cons_unit_zero (S := S8x1024) zeros, View.readCov_unit_zero (S := S8x1024) _ zeros]
  simp only [View.readAt_eq_ld, h1.read_unread, h2.read_unread, h3.read_unread, h4.read_unread, h5.read_unread, h6.read_unread, h7.read_unread, h8.read_unread, h11.read_unread, View.ld_unit_zero (S := S256x1024) zeros, View.ld_unit_zero (S := S1024x2048) zeros, View.ld_unit_zero (S := S8x1024) zeros]

end Body

section Whole

variable (ys ya : FVec Ideal S4096x1024 .bf16) (x t : FVec Ideal S4096x1024 .f32) (w : FVec Ideal S2048x1024 .bf16) (g b : FVec Ideal S1x1024 .f32)

/-- The row of the weight that meets column `k` of the first branch's output, and of the second's. -/
def up (k : Fin 1024) : Fin 2048 := ⟨k.val, by omega⟩
def low (k : Fin 1024) : Fin 2048 := ⟨1024 + k.val, by omega⟩
/-- A row of the residual sum. -/
def total (r : Fin 4096) : Row := fun l => Ideal.ofBits .f32 0x3F9837F0#32 * x (ix2 r l)
  + (∑ k : Fin 1024, ys (ix2 r k) * w (ix2 (up k) l) + ∑ k : Fin 1024, ya (ix2 r k) * w (ix2 (low k) l))
/-- A row of the targets. -/
abbrev aim (r : Fin 4096) : Row := fun l => t (ix2 r l)
/-- The gradients of the residual sum. -/
def whole_dr : FVec Ideal S4096x1024 .f32 := fun i => dres (total ys ya x w (i 0)) (oneOf g) (oneOf b) (aim t (i 0)) (i 1)
/-- The gradients of the branches' outputs. -/
def whole_dy : FVec Ideal S4096x2048 .f32 := fun i => ∑ k : Fin 1024, dres (total ys ya x w (i 0)) (oneOf g) (oneOf b) (aim t (i 0)) k * w (ix2 (i 1) k)
/-- What a row adds to the gradients of the gain and of the bias. -/
def gain (l : Fin 1024) (r : Fin 4096) : EReal :=
  dout (total ys ya x w r) (oneOf g) (oneOf b) (aim t r) l * hat (total ys ya x w r) l
def bias (l : Fin 1024) (r : Fin 4096) : EReal := dout (total ys ya x w r) (oneOf g) (oneOf b) (aim t r) l
/-- A squared error. -/
def square (l : Fin 1024) (r : Fin 4096) : EReal :=
  err (total ys ya x w r) (oneOf g) (oneOf b) (aim t r) l * err (total ys ya x w r) (oneOf g) (oneOf b) (aim t r) l

end Whole

/-- The row that is row `k` of the part `n`. -/
def row (n : ℕ) (k : Fin 256) : Fin 4096 := ⟨n % 16 * 256 + k.val, by omega⟩
/-- The part `n` of a sum over the rows. -/
def part (f : Fin 4096 → EReal) (n : ℕ) : EReal := ∑ k : Fin 256, f (row n k)
/-- The sixteen parts are the sum. -/
theorem sum_parts (f : Fin 4096 → EReal) : ∑ n ∈ Finset.range 16, part f n = ∑ r, f r := by
  rw [Finset.sum_range]
  refine (Fintype.sum_prod_type' fun (n : Fin 16) (k : Fin 256) => f (row n.val k)).symm.trans ?_
  refine Fintype.sum_equiv (finProdFinEquiv : Fin 16 × Fin 256 ≃ Fin (16 * 256)) _ _ fun x => congrArg f (Fin.ext ?_)
  show x.1.val % 16 * 256 + x.2.val = x.2.val + 256 * x.1.val
  have := x.1.isLt
  omega

section Points

variable (m : (ℓ : Loc nD τ sig) → Buf (Elt Ideal) ℓ) (c : Dev nD)

/-- The arguments. -/
abbrev inYs : FVec Ideal S4096x1024 .bf16 := m ((c : Thread nD τ).loc main_arg0)
abbrev inYa : FVec Ideal S4096x1024 .bf16 := m ((c : Thread nD τ).loc main_arg1)
abbrev inX : FVec Ideal S4096x1024 .f32 := m ((c : Thread nD τ).loc main_arg2)
abbrev inT : FVec Ideal S4096x1024 .f32 := m ((c : Thread nD τ).loc main_arg3)
abbrev inW : FVec Ideal S2048x1024 .bf16 := m ((c : Thread nD τ).loc main_arg4)
abbrev inG : FVec Ideal S1x1024 .f32 := m ((c : Thread nD τ).loc main_arg5)
abbrev inB : FVec Ideal S1x1024 .f32 := m ((c : Thread nD τ).loc main_arg6)

/-- The host leaves the transposed weight, and the gain and the bias in the first of eight rows. -/
theorem host_w (k : Fin 1024) (l : Fin 2048) : V m c main_v0 (ix2 k l) = inW m c (ix2 l k) := by
  refine (congrFun (show V m c main_v0 = transpose S1024x2048 [1, 0] (inW m c) transposes_S2048x1024_S1024x2048_1_0 by after_reads_simp) _).trans ?_
  pointwise
theorem host_g (l : Fin 1024) : V m c main_v1 (ix2 0 l) = inG m c (ix2 0 l) := by
  refine (congrFun (show V m c main_v1 = pad S8x1024 ![0, 0] ![7, 0] ![0, 0] (inG m c) (sitofp (F := Ideal) .f32 (constantI S_ 32 0#32)) pads_S1x1024_S8x1024_070_000 h_S_ by after_reads_simp; rfl) _).trans ?_
  pointwise
theorem host_b (l : Fin 1024) : V m c main_v2 (ix2 0 l) = inB m c (ix2 0 l) := by
  refine (congrFun (show V m c main_v2 = pad S8x1024 ![0, 0] ![7, 0] ![0, 0] (inB m c) (sitofp (F := Ideal) .f32 (constantI S_ 32 0#32)) pads_S1x1024_S8x1024_070_000 h_S_ by after_reads_simp; rfl) _).trans ?_
  pointwise

/-- Where the rows of a point's blocks lie. -/
theorem rows_ys (t : Fin cfg0.N) (r : Fin 256) (l : Fin 1024) : ((cfg0.win 0).blk t).view.emb (ix2 r l) = ix2 (row t.val r) l := by
  have e0 : win0_0.index t 0 = t.val % 16 := (by decide +kernel : ∀ t : Fin grid0.N, win0_0.index t 0 = t.val % 16) t
  have e1 : win0_0.index t 1 = 0 := (by decide +kernel : ∀ t : Fin grid0.N, win0_0.index t 1 = 0) t
  funext d
  match d with
  | ⟨0, _⟩ => exact Fin.ext (by show win0_0.index t 0 * 256 + 1 * r.val = t.val % 16 * 256 + r.val; rw [e0]; omega)
  | ⟨1, _⟩ => exact Fin.ext (by show win0_0.index t 1 * 1024 + 1 * l.val = l.val; rw [e1]; omega)
theorem rows_ya (t : Fin cfg0.N) (r : Fin 256) (l : Fin 1024) : ((cfg0.win 1).blk t).view.emb (ix2 r l) = ix2 (row t.val r) l := by
  have e0 : win0_1.index t 0 = t.val % 16 := (by decide +kernel : ∀ t : Fin grid0.N, win0_1.index t 0 = t.val % 16) t
  have e1 : win0_1.index t 1 = 0 := (by decide +kernel : ∀ t : Fin grid0.N, win0_1.index t 1 = 0) t
  funext d
  match d with
  | ⟨0, _⟩ => exact Fin.ext (by show win0_1.index t 0 * 256 + 1 * r.val = t.val % 16 * 256 + r.val; rw [e0]; omega)
  | ⟨1, _⟩ => exact Fin.ext (by show win0_1.index t 1 * 1024 + 1 * l.val = l.val; rw [e1]; omega)
theorem rows_x (t : Fin cfg0.N) (r : Fin 256) (l : Fin 1024) : ((cfg0.win 2).blk t).view.emb (ix2 r l) = ix2 (row t.val r) l := by
  have e0 : win0_2.index t 0 = t.val % 16 := (by decide +kernel : ∀ t : Fin grid0.N, win0_2.index t 0 = t.val % 16) t
  have e1 : win0_2.index t 1 = 0 := (by decide +kernel : ∀ t : Fin grid0.N, win0_2.index t 1 = 0) t
  funext d
  match d with
  | ⟨0, _⟩ => exact Fin.ext (by show win0_2.index t 0 * 256 + 1 * r.val = t.val % 16 * 256 + r.val; rw [e0]; omega)
  | ⟨1, _⟩ => exact Fin.ext (by show win0_2.index t 1 * 1024 + 1 * l.val = l.val; rw [e1]; omega)
theorem rows_t (t : Fin cfg0.N) (r : Fin 256) (l : Fin 1024) : ((cfg0.win 3).blk t).view.emb (ix2 r l) = ix2 (row t.val r) l := by
  have e0 : win0_3.index t 0 = t.val % 16 := (by decide +kernel : ∀ t : Fin grid0.N, win0_3.index t 0 = t.val % 16) t
  have e1 : win0_3.index t 1 = 0 := (by decide +kernel : ∀ t : Fin grid0.N, win0_3.index t 1 = 0) t
  funext d
  match d with
  | ⟨0, _⟩ => exact Fin.ext (by show win0_3.index t 0 * 256 + 1 * r.val = t.val % 16 * 256 + r.val; rw [e0]; omega)
  | ⟨1, _⟩ => exact Fin.ext (by show win0_3.index t 1 * 1024 + 1 * l.val = l.val; rw [e1]; omega)
theorem rows_dr (t : Fin cfg0.N) (r : Fin 256) (l : Fin 1024) : ((cfg0.win 8).blk t).view.emb (ix2 r l) = ix2 (row t.val r) l := by
  have e0 : win0_8.index t 0 = t.val % 16 := (by decide +kernel : ∀ t : Fin grid0.N, win0_8.index t 0 = t.val % 16) t
  have e1 : win0_8.index t 1 = 0 := (by decide +kernel : ∀ t : Fin grid0.N, win0_8.index t 1 = 0) t
  funext d
  match d with
  | ⟨0, _⟩ => exact Fin.ext (by show win0_8.index t 0 * 256 + 1 * r.val = t.val % 16 * 256 + r.val; rw [e0]; omega)
  | ⟨1, _⟩ => exact Fin.ext (by show win0_8.index t 1 * 1024 + 1 * l.val = l.val; rw [e1]; omega)
theorem rows_dy (t : Fin cfg0.N) (r : Fin 256) (l : Fin 2048) : ((cfg0.win 9).blk t).view.emb (ix2 r l) = ix2 (row t.val r) l := by
  have e0 : win0_9.index t 0 = t.val % 16 := (by decide +kernel : ∀ t : Fin grid0.N, win0_9.index t 0 = t.val % 16) t
  have e1 : win0_9.index t 1 = 0 := (by decide +kernel : ∀ t : Fin grid0.N, win0_9.index t 1 = 0) t
  funext d
  match d with
  | ⟨0, _⟩ => exact Fin.ext (by show win0_9.index t 0 * 256 + 1 * r.val = t.val % 16 * 256 + r.val; rw [e0]; omega)
  | ⟨1, _⟩ => exact Fin.ext (by show win0_9.index t 1 * 2048 + 1 * l.val = l.val; rw [e1]; omega)
/-- The other blocks are whole. -/
theorem all_w (t : Fin cfg0.N) (i : S2048x1024.Idx) : ((cfg0.win 4).blk t).view.emb i = i := by
  have e0 : win0_4.index t 0 = 0 := (by decide +kernel : ∀ t : Fin grid0.N, win0_4.index t 0 = 0) t
  have e1 : win0_4.index t 1 = 0 := (by decide +kernel : ∀ t : Fin grid0.N, win0_4.index t 1 = 0) t
  funext d
  match d with
  | ⟨0, _⟩ => exact Fin.ext (by show win0_4.index t 0 * 2048 + 1 * (i 0).val = (i 0).val; rw [e0]; omega)
  | ⟨1, _⟩ => exact Fin.ext (by show win0_4.index t 1 * 1024 + 1 * (i 1).val = (i 1).val; rw [e1]; omega)
theorem all_wt (t : Fin cfg0.N) (i : S1024x2048.Idx) : ((cfg0.win 5).blk t).view.emb i = i := by
  have e0 : win0_5.index t 0 = 0 := (by decide +kernel : ∀ t : Fin grid0.N, win0_5.index t 0 = 0) t
  have e1 : win0_5.index t 1 = 0 := (by decide +kernel : ∀ t : Fin grid0.N, win0_5.index t 1 = 0) t
  funext d
  match d with
  | ⟨0, _⟩ => exact Fin.ext (by show win0_5.index t 0 * 1024 + 1 * (i 0).val = (i 0).val; rw [e0]; omega)
  | ⟨1, _⟩ => exact Fin.ext (by show win0_5.index t 1 * 2048 + 1 * (i 1).val = (i 1).val; rw [e1]; omega)
theorem all_g (t : Fin cfg0.N) (i : S8x1024.Idx) : ((cfg0.win 6).blk t).view.emb i = i := by
  have e0 : win0_6.index t 0 = 0 := (by decide +kernel : ∀ t : Fin grid0.N, win0_6.index t 0 = 0) t
  have e1 : win0_6.index t 1 = 0 := (by decide +kernel : ∀ t : Fin grid0.N, win0_6.index t 1 = 0) t
  funext d
  match d with
  | ⟨0, _⟩ => exact Fin.ext (by show win0_6.index t 0 * 8 + 1 * (i 0).val = (i 0).val; rw [e0]; omega)
  | ⟨1, _⟩ => exact Fin.ext (by show win0_6.index t 1 * 1024 + 1 * (i 1).val = (i 1).val; rw [e1]; omega)
theorem all_b (t : Fin cfg0.N) (i : S8x1024.Idx) : ((cfg0.win 7).blk t).view.emb i = i := by
  have e0 : win0_7.index t 0 = 0 := (by decide +kernel : ∀ t : Fin grid0.N, win0_7.index t 0 = 0) t
  have e1 : win0_7.index t 1 = 0 := (by decide +kernel : ∀ t : Fin grid0.N, win0_7.index t 1 = 0) t
  funext d
  match d with
  | ⟨0, _⟩ => exact Fin.ext (by show win0_7.index t 0 * 8 + 1 * (i 0).val = (i 0).val; rw [e0]; omega)
  | ⟨1, _⟩ => exact Fin.ext (by show win0_7.index t 1 * 1024 + 1 * (i 1).val = (i 1).val; rw [e1]; omega)
theorem all_acc (t : Fin cfg0.N) (i : S8x1024.Idx) : ((cfg0.win 10).blk t).view.emb i = i := by
  have e0 : win0_10.index t 0 = 0 := (by decide +kernel : ∀ t : Fin grid0.N, win0_10.index t 0 = 0) t
  have e1 : win0_10.index t 1 = 0 := (by decide +kernel : ∀ t : Fin grid0.N, win0_10.index t 1 = 0) t
  funext d
  match d with
  | ⟨0, _⟩ => exact Fin.ext (by show win0_10.index t 0 * 8 + 1 * (i 0).val = (i 0).val; rw [e0]; omega)
  | ⟨1, _⟩ => exact Fin.ext (by show win0_10.index t 1 * 1024 + 1 * (i 1).val = (i 1).val; rw [e1]; omega)

/-- The rows of a point's blocks, in the whole arrays. -/
theorem sum_at (t : Fin cfg0.N) (r : Fin 256) :
    sumOf (iblk m c 0 t) (iblk m c 1 t) (upper (iblk m c 4 t)) (lower (iblk m c 4 t)) (iblk m c 2 t) r = total (inYs m c) (inYa m c) (inX m c) (inW m c) (row t.val r) := by
  have ey (k : Fin 1024) : iblk m c 0 t (ix2 r k) = inYs m c (ix2 (row t.val r) k) := (congrArg (V m c main_arg0) (rows_ys t r k)).trans (congrFun (V_main_arg0 m c) _)
  have ea (k : Fin 1024) : iblk m c 1 t (ix2 r k) = inYa m c (ix2 (row t.val r) k) := (congrArg (V m c main_arg1) (rows_ya t r k)).trans (congrFun (V_main_arg1 m c) _)
  have ex (k : Fin 1024) : iblk m c 2 t (ix2 r k) = inX m c (ix2 (row t.val r) k) := (congrArg (V m c main_arg2) (rows_x t r k)).trans (congrFun (V_main_arg2 m c) _)
  have ew (i : S2048x1024.Idx) : iblk m c 4 t i = inW m c i := (congrArg (V m c main_arg4) (all_w t i)).trans (congrFun (V_main_arg4 m c) _)
  have eu (k l : Fin 1024) : upper (iblk m c 4 t) (ix2 k l) = inW m c (ix2 (up k) l) := (ew _).trans (congrArg (inW m c) (funext fun d => by
    match d with
    | ⟨0, _⟩ => exact Fin.ext (by show 0 + 1 * k.val = k.val; omega)
    | ⟨1, _⟩ => exact Fin.ext (by show 0 + 1 * l.val = l.val; omega)))
  have el (k l : Fin 1024) : lower (iblk m c 4 t) (ix2 k l) = inW m c (ix2 (low k) l) := (ew _).trans (congrArg (inW m c) (funext fun d => by
    match d with
    | ⟨0, _⟩ => exact Fin.ext (by show 1024 + 1 * k.val = 1024 + k.val; omega)
    | ⟨1, _⟩ => exact Fin.ext (by show 0 + 1 * l.val = l.val; omega)))
  funext l
  unfold sumOf total
  exact congrArg₂ (· + ·) (congrArg (_ * ·) (ex l)) (congrArg₂ (· + ·) (Finset.sum_congr rfl fun k _ => congrArg₂ (· * ·) (ey k) (eu k l))
    (Finset.sum_congr rfl fun k _ => congrArg₂ (· * ·) (ea k) (el k l)))
theorem aim_at (t : Fin cfg0.N) (r : Fin 256) : rowOf (iblk m c 3 t) r = aim (inT m c) (row t.val r) :=
  funext fun l => (congrArg (V m c main_arg3) (rows_t t r l)).trans (congrFun (V_main_arg3 m c) _)
/-- The one row of the weights. -/
theorem gain_at (t : Fin cfg0.N) : oneOf (first (iblk m c 6 t)) = oneOf (inG m c) := funext fun l => by
  refine Eq.trans (congrArg (V m c main_v1) ((all_g t _).trans (funext fun d => ?_))) (host_g m c l)
  match d with
  | ⟨0, _⟩ => rfl
  | ⟨1, _⟩ => exact Fin.ext (by show 0 + 1 * l.val = l.val; omega)
theorem bias_at (t : Fin cfg0.N) : oneOf (first (iblk m c 7 t)) = oneOf (inB m c) := funext fun l => by
  refine Eq.trans (congrArg (V m c main_v2) ((all_b t _).trans (funext fun d => ?_))) (host_b m c l)
  match d with
  | ⟨0, _⟩ => rfl
  | ⟨1, _⟩ => exact Fin.ext (by show 0 + 1 * l.val = l.val; omega)
/-- The transposed weight. -/
theorem back_at (t : Fin cfg0.N) (k : Fin 1024) (l : Fin 2048) : iblk m c 5 t (ix2 k l) = inW m c (ix2 l k) :=
  (congrArg (V m c main_v0) (all_wt t _)).trans (host_w m c k l)

/-- Every point writes its rows' gradients. -/
theorem outs_dr (t : Fin cfg0.N) : (outsAt0 m c t.val t.isLt).1 = blk_dr (iblk m c 0 t) (iblk m c 1 t) (iblk m c 2 t) (iblk m c 3 t) (iblk m c 4 t) (iblk m c 6 t) (iblk m c 7 t) := by
  by_cases h0 : t.val % 16 = 0
  · have h1 : ¬ t.val % 16 = 15 := by omega
    rw [outsAt0_A m c t h0 h1]; dsimp only; exact out_A_8 _ _ _ _ _ _ _ _ _ _ _ _ _ _ _ _ _ _ _ _ _ _ _ _ _ _ _ _ _ _ _ _ _ _
  · by_cases h1 : t.val % 16 = 15
    · rw [outsAt0_C m c t h0 h1]; dsimp only; exact out_C_8 _ _ _ _ _ _ _ _ _ _ _ _ _ _ _ _ _ _ _ _ _ _ _ _ _ _ _ _ _ _ _ _ _ _ _
    · rw [outsAt0_B m c t h0 h1]; dsimp only; exact out_B_8 _ _ _ _ _ _ _ _ _ _ _ _ _ _ _ _ _ _ _ _ _ _ _ _ _ _ _ _ _ _ _ _ _ _ _
theorem outs_dy (t : Fin cfg0.N) : (outsAt0 m c t.val t.isLt).2.1 = blk_dy (iblk m c 0 t) (iblk m c 1 t) (iblk m c 2 t) (iblk m c 3 t) (iblk m c 4 t) (iblk m c 5 t) (iblk m c 6 t) (iblk m c 7 t) := by
  by_cases h0 : t.val % 16 = 0
  · have h1 : ¬ t.val % 16 = 15 := by omega
    rw [outsAt0_A m c t h0 h1]; dsimp only; exact out_A_9 _ _ _ _ _ _ _ _ _ _ _ _ _ _ _ _ _ _ _ _ _ _ _ _ _ _ _ _ _ _ _ _ _ _
  · by_cases h1 : t.val % 16 = 15
    · rw [outsAt0_C m c t h0 h1]; dsimp only; exact out_C_9 _ _ _ _ _ _ _ _ _ _ _ _ _ _ _ _ _ _ _ _ _ _ _ _ _ _ _ _ _ _ _ _ _ _ _
    · rw [outsAt0_B m c t h0 h1]; dsimp only; exact out_B_9 _ _ _ _ _ _ _ _ _ _ _ _ _ _ _ _ _ _ _ _ _ _ _ _ _ _ _ _ _ _ _ _ _ _ _

/-- The gradients of the residual sum, and of the branches' outputs. -/
theorem final_dr : (dats m 0 c).arrAt 8 cfg0.N = whole_dr (inYs m c) (inYa m c) (inX m c) (inT m c) (inW m c) (inG m c) (inB m c) := by
  refine (dats m 0 c).arrAt_eq_of_cover 8 _ (fun t ht => funext fun j => ?_) fun i => ?_
  · show (cfg0.win 8).cut (grid0.coords t) ((dats m 0 c).after 8 t) j = _
    rw [after0_8, outs_dr]
    obtain ⟨r, l, rfl⟩ : ∃ (r : Fin 256) (l : Fin 1024), j = ix2 r l := ⟨j 0, j 1, funext fun d => by match d with | ⟨0, _⟩ => rfl | ⟨1, _⟩ => rfl⟩
    refine (pay_dres _ _ _ _ _ _ _ _ r l).trans ?_
    rw [sum_at, gain_at, bias_at, aim_at]
    exact (congrArg (whole_dr (inYs m c) (inYa m c) (inX m c) (inT m c) (inW m c) (inG m c) (inB m c)) (rows_dr t r l)).symm
  · have h0 : (i 0).val < 4096 := (i 0).isLt
    have hN : cfg0.N = 16 := N_0
    let t : Fin cfg0.N := ⟨(i 0).val / 256, by omega⟩
    have e : ((cfg0.win 8).blk t).view.emb (ix2 (⟨(i 0).val % 256, Nat.mod_lt _ (by decide)⟩ : Fin 256) (i 1)) = i :=
      (rows_dr t _ _).trans (funext fun d => by
        match d with
        | ⟨0, _⟩ => exact Fin.ext (by show (i 0).val / 256 % 16 * 256 + (i 0).val % 256 = (i 0).val; omega)
        | ⟨1, _⟩ => rfl)
    exact ⟨t, flush0_8 t, e ▸ ((cfg0.win 8).blk t).view.emb_mem_set _⟩
theorem final_dy : (dats m 0 c).arrAt 9 cfg0.N = whole_dy (inYs m c) (inYa m c) (inX m c) (inT m c) (inW m c) (inG m c) (inB m c) := by
  refine (dats m 0 c).arrAt_eq_of_cover 9 _ (fun t ht => funext fun j => ?_) fun i => ?_
  · show (cfg0.win 9).cut (grid0.coords t) ((dats m 0 c).after 9 t) j = _
    rw [after0_9, outs_dy]
    obtain ⟨r, l, rfl⟩ : ∃ (r : Fin 256) (l : Fin 2048), j = ix2 r l := ⟨j 0, j 1, funext fun d => by match d with | ⟨0, _⟩ => rfl | ⟨1, _⟩ => rfl⟩
    refine (pay_dy _ _ _ _ _ _ _ _ _ r l).trans ?_
    rw [sum_at, gain_at, bias_at, aim_at]
    refine (Finset.sum_congr rfl fun k _ => congrArg (_ * ·) (back_at m c t k l)).trans ?_
    exact (congrArg (whole_dy (inYs m c) (inYa m c) (inX m c) (inT m c) (inW m c) (inG m c) (inB m c)) (rows_dy t r l)).symm
  · have h0 : (i 0).val < 4096 := (i 0).isLt
    have hN : cfg0.N = 16 := N_0
    let t : Fin cfg0.N := ⟨(i 0).val / 256, by omega⟩
    have e : ((cfg0.win 9).blk t).view.emb (ix2 (⟨(i 0).val % 256, Nat.mod_lt _ (by decide)⟩ : Fin 256) (i 1)) = i :=
      (rows_dy t _ _).trans (funext fun d => by
        match d with
        | ⟨0, _⟩ => exact Fin.ext (by show (i 0).val / 256 % 16 * 256 + (i 0).val % 256 = (i 0).val; omega)
        | ⟨1, _⟩ => rfl)
    exact ⟨t, flush0_9 t, e ▸ ((cfg0.win 9).blk t).view.emb_mem_set _⟩

/-- What a point adds to the running sums. -/
theorem next_gain (t : Fin cfg0.N) (o : FVec Ideal S8x1024 .f32) (l : Fin 1024) :
    blk_next (iblk m c 0 t) (iblk m c 1 t) (iblk m c 2 t) (iblk m c 3 t) (iblk m c 4 t) (iblk m c 6 t) (iblk m c 7 t) o (ix2 0 l) = o (ix2 0 l) + part (gain (inYs m c) (inYa m c) (inX m c) (inT m c) (inW m c) (inG m c) (inB m c) l) t.val := by
  refine (add_gain _ _ _ _ l).trans (congrArg₂ (· + ·) (add_from o _) ((pay_gain _ _ _ _ _ _ _ _ l).trans ?_))
  rw [gain_at, bias_at]
  exact Finset.sum_congr rfl fun r _ => by rw [sum_at, aim_at]; rfl
theorem next_bias (t : Fin cfg0.N) (o : FVec Ideal S8x1024 .f32) (l : Fin 1024) :
    blk_next (iblk m c 0 t) (iblk m c 1 t) (iblk m c 2 t) (iblk m c 3 t) (iblk m c 4 t) (iblk m c 6 t) (iblk m c 7 t) o (ix2 1 l) = o (ix2 1 l) + part (bias (inYs m c) (inYa m c) (inX m c) (inT m c) (inW m c) (inG m c) (inB m c) l) t.val := by
  refine (add_bias _ _ _ _ l).trans (congrArg₂ (· + ·) (add_from o _) ((pay_bias _ _ _ _ _ _ _ _ l).trans ?_))
  rw [gain_at, bias_at]
  exact Finset.sum_congr rfl fun r _ => by rw [sum_at, aim_at]; rfl
theorem next_loss (t : Fin cfg0.N) (o : FVec Ideal S8x1024 .f32) (l : Fin 1024) :
    blk_next (iblk m c 0 t) (iblk m c 1 t) (iblk m c 2 t) (iblk m c 3 t) (iblk m c 4 t) (iblk m c 6 t) (iblk m c 7 t) o (ix2 2 l) = o (ix2 2 l) + part (square (inYs m c) (inYa m c) (inX m c) (inT m c) (inW m c) (inG m c) (inB m c) l) t.val * Ideal.ofBits .f32 0x3A000000#32 := by
  refine (add_loss _ _ _ _ l).trans (congrArg₂ (· + ·) (add_from o _) (congrArg (· * _) ?_))
  refine Finset.sum_congr rfl fun r _ => (pay_square _ _ _ _ _ _ _ _ r l).trans ?_
  rw [sum_at, aim_at, gain_at, bias_at]
  rfl

/-- The running sums after a point, from those before it. -/
theorem sums_first (t : Fin cfg0.N) (h0 : t.val % 16 = 0) (h1 : ¬ t.val % 16 = 15) :
    (outsAt0 m c t.val t.isLt).2.2 = blk_next (iblk m c 0 t) (iblk m c 1 t) (iblk m c 2 t) (iblk m c 3 t) (iblk m c 4 t) (iblk m c 6 t) (iblk m c 7 t) (k0_pay3 (F := Ideal)) := by
  rw [outsAt0_A m c t h0 h1]
  dsimp only
  exact out_A_10 _ _ _ _ _ _ _ _ _ _ _ _ _ _ _ _ _ _ _ _ _ _ _ _ _ _ _ _ _ _ _ _ _ _
theorem sums_next (t : Fin cfg0.N) (h0 : ¬ t.val % 16 = 0) (h1 : ¬ t.val % 16 = 15) :
    (outsAt0 m c t.val t.isLt).2.2 = blk_next (iblk m c 0 t) (iblk m c 1 t) (iblk m c 2 t) (iblk m c 3 t) (iblk m c 4 t) (iblk m c 6 t) (iblk m c 7 t) (outsAt0 m c (t.val - 1) (Nat.lt_of_le_of_lt (Nat.sub_le _ _) t.isLt)).2.2 := by
  rw [outsAt0_B m c t h0 h1]
  dsimp only
  exact out_B_10 _ _ _ _ _ _ _ _ _ _ _ _ _ _ _ _ _ _ _ _ _ _ _ _ _ _ _ _ _ _ _ _ _ _ _
theorem sums_last (t : Fin cfg0.N) (h0 : ¬ t.val % 16 = 0) (h1 : t.val % 16 = 15) :
    (outsAt0 m c t.val t.isLt).2.2 = k0_pay2 (F := Ideal) (blk_next (iblk m c 0 t) (iblk m c 1 t) (iblk m c 2 t) (iblk m c 3 t) (iblk m c 4 t) (iblk m c 6 t) (iblk m c 7 t) (outsAt0 m c (t.val - 1) (Nat.lt_of_le_of_lt (Nat.sub_le _ _) t.isLt)).2.2) := by
  rw [outsAt0_C m c t h0 h1]
  dsimp only
  exact out_C_10 _ _ _ _ _ _ _ _ _ _ _ _ _ _ _ _ _ _ _ _ _ _ _ _ _ _ _ _ _ _ _ _ _ _ _

/-- The running sums after the point `n`, before the last point. -/
theorem outs_sums (n : ℕ) : ∀ (h : n < cfg0.N), n < 15 → ∀ l : Fin 1024,
    (outsAt0 m c n h).2.2 (ix2 0 l) = ∑ k ∈ Finset.range (n + 1), part (gain (inYs m c) (inYa m c) (inX m c) (inT m c) (inW m c) (inG m c) (inB m c) l) k
    ∧ (outsAt0 m c n h).2.2 (ix2 1 l) = ∑ k ∈ Finset.range (n + 1), part (bias (inYs m c) (inYa m c) (inX m c) (inT m c) (inW m c) (inG m c) (inB m c) l) k
    ∧ (outsAt0 m c n h).2.2 (ix2 2 l) = ∑ k ∈ Finset.range (n + 1), part (square (inYs m c) (inYa m c) (inX m c) (inT m c) (inW m c) (inG m c) (inB m c) l) k * Ideal.ofBits .f32 0x3A000000#32 := by
  induction n with
  | zero =>
      intro h _ l
      have e := sums_first m c ⟨0, h⟩ rfl (by show ¬ 0 % 16 = 15; decide)
      refine ⟨(congrFun e _).trans ((next_gain m c ⟨0, h⟩ _ l).trans ?_), (congrFun e _).trans ((next_bias m c ⟨0, h⟩ _ l).trans ?_),
        (congrFun e _).trans ((next_loss m c ⟨0, h⟩ _ l).trans ?_)⟩ <;>
      rw [zero_at, zero_add, Finset.sum_range_one]
  | succ n ih =>
      intro h h15 l
      have e := sums_next m c ⟨n + 1, h⟩ (by show ¬ (n + 1) % 16 = 0; omega) (by show ¬ (n + 1) % 16 = 15; omega)
      obtain ⟨i0, i1, i2⟩ := ih (Nat.lt_of_succ_lt h) (by omega) l
      refine ⟨(congrFun e _).trans ((next_gain m c ⟨n + 1, h⟩ _ l).trans ?_), (congrFun e _).trans ((next_bias m c ⟨n + 1, h⟩ _ l).trans ?_),
        (congrFun e _).trans ((next_loss m c ⟨n + 1, h⟩ _ l).trans ?_)⟩ <;>
      rw [Finset.sum_range_succ]
      · exact congrArg (· + _) i0
      · exact congrArg (· + _) i1
      · exact congrArg (· + _) i2

theorem last_lt : 15 < cfg0.N := by rw [show cfg0.N = 16 from N_0]; decide
/-- The sums that the last point writes back. -/
theorem outs_last (n : ℕ) (h : n + 1 < cfg0.N) (hn : n + 1 = 15) (l : Fin 1024) :
    (outsAt0 m c (n + 1) h).2.2 (ix2 0 l) = ∑ r, gain (inYs m c) (inYa m c) (inX m c) (inT m c) (inW m c) (inG m c) (inB m c) l r
    ∧ (outsAt0 m c (n + 1) h).2.2 (ix2 1 l) = ∑ r, bias (inYs m c) (inYa m c) (inX m c) (inT m c) (inW m c) (inG m c) (inB m c) l r
    ∧ (outsAt0 m c (n + 1) h).2.2 (ix2 3 l)
      = ∑ k : Fin 1024, ∑ p ∈ Finset.range 16, part (square (inYs m c) (inYa m c) (inX m c) (inT m c) (inW m c) (inG m c) (inB m c) k) p * Ideal.ofBits .f32 0x3A000000#32 := by
  have e := sums_last m c ⟨n + 1, h⟩ (by show ¬ (n + 1) % 16 = 0; omega) (by show (n + 1) % 16 = 15; omega)
  have i := outs_sums m c n (Nat.lt_of_succ_lt h) (by omega)
  have s (f : ℕ → EReal) : ∑ k ∈ Finset.range 16, f k = ∑ k ∈ Finset.range (n + 1), f k + f (n + 1) := by
    rw [← Finset.sum_range_succ, hn]
  refine ⟨(congrFun e _).trans ((last_gain _ l).trans ((next_gain m c ⟨n + 1, h⟩ _ l).trans ?_)),
    (congrFun e _).trans ((last_bias _ l).trans ((next_bias m c ⟨n + 1, h⟩ _ l).trans ?_)),
    (congrFun e _).trans ((last_loss _ l).trans (Finset.sum_congr rfl fun k _ => (next_loss m c ⟨n + 1, h⟩ _ k).trans ?_))⟩
  · rw [← sum_parts, s]
    exact congrArg (· + _) (i l).1
  · rw [← sum_parts, s]
    exact congrArg (· + _) (i l).2.1
  · rw [s]
    exact congrArg (· + _) (i k).2.2

/-- The array of the sums. -/
theorem final_acc : (dats m 0 c).arrAt 10 cfg0.N = (outsAt0 m c 15 last_lt).2.2 := by
  refine (dats m 0 c).arrAt_eq_of_cover 10 _ (fun t ht => funext fun j => ?_) fun i => ⟨⟨15, last_lt⟩, (flush0_10 _).mpr rfl, all_acc ⟨15, last_lt⟩ i ▸ ((cfg0.win 10).blk ⟨15, last_lt⟩).view.emb_mem_set i⟩
  show (cfg0.win 10).cut (grid0.coords t) ((dats m 0 c).after 10 t) j = _
  have hN : cfg0.N = 16 := N_0
  obtain rfl : t = ⟨15, last_lt⟩ := Fin.ext (by have := (flush0_10 t).mp ht; have := t.isLt; show t.val = 15; omega)
  rw [after0_10]
  exact congrArg (outsAt0 m c 15 last_lt).2.2 (all_acc ⟨15, last_lt⟩ j).symm

end Points

end Cert.HeadOf

end

end
-- ==== Proof.HeadRef.lean ====
/-
# The head: the reference's values

What the reference of the head leaves, array by array and index by index, in the words of `HeadRow.lean`.
-/
module

public import proofs.«01_k».proof.Proof.HeadRow
public import proofs.«01_k».proof.Proof.Gen.HeadedIdeal.Run
public import Idealize.ShloMosaic.Lib.Pointwise
public import Idealize.ShloMosaic.Lib.IdealHost

@[expose] public section

noncomputable section

namespace Cert.HeadOf

open Idealize.ShloMosaic Idealize.ShloMosaic.TcCoe Idealize.SL Idealize.SL.Sem
open Cert.HeadedIdeal Cert.HeadedIdeal.Gen

section Arrays

variable (ys ya : FVec Ideal S4096x1024 .bf16) (x t : FVec Ideal S4096x1024 .f32) (w : FVec Ideal S2048x1024 .bf16) (g b : FVec Ideal S1x1024 .f32)
  (z : FVec Ideal S4096x1024 .f32)

/-- The branches' outputs side by side. -/
def ref_joined : FVec Ideal S4096x2048 .bf16 :=
  concatenate S4096x2048 1 [⟨S4096x1024, ys⟩, ⟨S4096x1024, ya⟩] concatenates_S4096x1024_S4096x1024_S4096x2048_d1
/-- The residual sum. -/
def ref_total : FVec Ideal S4096x1024 .f32 :=
  addf (mulf (broadcastInDim S4096x1024 ![] bcast_S_S4096x1024 (constant S_ .f32 0x3F9837F0#32)) x)
    (Host.dotGeneral dot_S4096x2048_S2048x1024_S4096x1024_1_0_0_1_n_n none (extf .f32 (ref_joined ys ya) bitsLt_bf16_f32) (extf .f32 w bitsLt_bf16_f32))
/-- The means of the rows, and one number per row or per column as an array. -/
def ref_mean : FVec Ideal S4096x1 .f32 :=
  Host.divf (broadcastInDim S4096x1 ![0] bcast_S4096_S4096x1_0 (Host.reduceAdd z (constant S_ .f32 0x00000000#32) reducesTo_S4096x1024_S4096_d1 h_S_))
    (broadcastInDim S4096x1 ![] bcast_S_S4096x1 (constant S_ .f32 0x44800000#32))
def ref_wide (s : FVec Ideal S4096x1 .f32) : FVec Ideal S4096x1024 .f32 := broadcastInDim S4096x1024 ![0, 1] bcast_S4096x1_S4096x1024_0_1 s
def ref_tall (s : FVec Ideal S1x1024 .f32) : FVec Ideal S4096x1024 .f32 := broadcastInDim S4096x1024 ![0, 1] bcast_S1x1024_S4096x1024_0_1 s
/-- The deviations, the scales and the normalised rows of `z`. -/
def ref_dev : FVec Ideal S4096x1024 .f32 := subf z (ref_wide (ref_mean z))
def ref_scale : FVec Ideal S4096x1 .f32 :=
  Host.rsqrt (addf (ref_mean (mulf (ref_dev z) (ref_dev z))) (broadcastInDim S4096x1 ![] bcast_S_S4096x1 (constant S_ .f32 0x3727C5AC#32)))
def ref_hat : FVec Ideal S4096x1024 .f32 := mulf (ref_dev z) (ref_wide (ref_scale z))
/-- The errors, and the gradients of the output, of the normalised rows and of `z`. -/
def ref_err : FVec Ideal S4096x1024 .f32 := subf (addf (mulf (ref_hat z) (ref_tall g)) (ref_tall b)) t
def ref_dout : FVec Ideal S4096x1024 .f32 :=
  Host.divf (ref_err t g b z) (broadcastInDim S4096x1024 ![] bcast_S_S4096x1024 (constant S_ .f32 0x44800000#32))
def ref_dhat : FVec Ideal S4096x1024 .f32 := mulf (ref_dout t g b z) (ref_tall g)
def ref_dres : FVec Ideal S4096x1024 .f32 :=
  mulf (ref_wide (ref_scale z)) (subf (subf (ref_dhat t g b z) (ref_wide (ref_mean (ref_dhat t g b z))))
    (mulf (ref_hat z) (ref_wide (ref_mean (mulf (ref_dhat t g b z) (ref_hat z))))))
/-- The gradients of the branches' outputs. -/
def ref_dy : FVec Ideal S4096x2048 .f32 :=
  Host.dotGeneral dot_S4096x1024_S1024x2048_S4096x2048_1_0_0_1_n_n none (ref_dres t g b z)
    (transpose S1024x2048 [1, 0] (extf .f32 w bitsLt_bf16_f32) transposes_S2048x1024_S1024x2048_1_0)
/-- The loss. -/
def ref_loss : FVec Ideal S_ .f32 :=
  mulf (constant S_ .f32 0x3F000000#32) (Host.reduceAdd (Host.divf (Host.reduceAdd (mulf (ref_err t g b z) (ref_err t g b z)) (constant S_ .f32 0x00000000#32) reducesTo_S4096x1024_S4096_d1 h_S_)
    (broadcastInDim S4096 ![] bcast_S_S4096 (constant S_ .f32 0x44800000#32))) (constant S_ .f32 0x00000000#32) reducesTo_S4096_S_d0 h_S_)
/-- The gradients of the gain and of the bias. -/
def ref_gain : FVec Ideal S1024 .f32 :=
  Host.reduceAdd (mulf (ref_dout t g b z) (ref_hat z)) (constant S_ .f32 0x00000000#32) reducesTo_S4096x1024_S1024_d0 h_S_
def ref_bias : FVec Ideal S1024 .f32 :=
  Host.reduceAdd (ref_dout t g b z) (constant S_ .f32 0x00000000#32) reducesTo_S4096x1024_S1024_d0 h_S_

/-- A row of an array. -/
abbrev rowIn (r : Fin 4096) : Row := fun l => z (ix2 r l)

/-- The branches' outputs side by side, at an index. -/
theorem ref_joined_at (r : Fin 4096) (p : Fin 2048) :
    ref_joined ys ya (ix2 r p) = if h : p.val < 1024 then ys (ix2 r ⟨p.val, h⟩) else ya (ix2 r ⟨p.val - 1024, by omega⟩) := by
  pointwise [ref_joined]
/-- The residual sum at an index. -/
theorem ref_total_at (r : Fin 4096) (l : Fin 1024) :
    ref_total ys ya x w (ix2 r l) = Ideal.ofBits .f32 0x3F9837F0#32 * x (ix2 r l) + ∑ p : Fin 2048, ref_joined ys ya (ix2 r p) * w (ix2 p l) := by
  unfold ref_total
  generalize ref_joined ys ya = o
  pointwise
theorem ref_mean_at (r : Fin 4096) : ref_mean z (ix2 r 0) = mean (rowIn z r) := by
  pointwise [ref_mean, mean]
theorem ref_wide_at (s : FVec Ideal S4096x1 .f32) (r : Fin 4096) (l : Fin 1024) : ref_wide s (ix2 r l) = s (ix2 r 0) := by
  pointwise [ref_wide]
theorem ref_tall_at (s : FVec Ideal S1x1024 .f32) (r : Fin 4096) (l : Fin 1024) : ref_tall s (ix2 r l) = s (ix2 0 l) := by
  pointwise [ref_tall]
/-- The deviations, the scales and the normalised rows, at an index. -/
theorem ref_dev_at (r : Fin 4096) (l : Fin 1024) : ref_dev z (ix2 r l) = dev (rowIn z r) l := by
  show z (ix2 r l) - ref_wide (ref_mean z) (ix2 r l) = _
  rw [ref_wide_at, ref_mean_at]
  rfl
theorem ref_scale_at (r : Fin 4096) : ref_scale z (ix2 r 0) = scale (rowIn z r) := by
  show Ideal.rsqrt (ref_mean (mulf (ref_dev z) (ref_dev z)) (ix2 r 0) + Ideal.ofBits .f32 0x3727C5AC#32) = _
  rw [ref_mean_at]
  refine congrArg (fun f => Ideal.rsqrt (mean f + Ideal.ofBits .f32 0x3727C5AC#32)) (funext fun k => ?_)
  show ref_dev z (ix2 r k) * ref_dev z (ix2 r k) = _
  rw [ref_dev_at]
theorem ref_hat_at (r : Fin 4096) (l : Fin 1024) : ref_hat z (ix2 r l) = hat (rowIn z r) l := by
  show ref_dev z (ix2 r l) * ref_wide (ref_scale z) (ix2 r l) = _
  rw [ref_dev_at, ref_wide_at, ref_scale_at]
  rfl
/-- The errors and the gradients, at an index. -/
theorem ref_err_at (r : Fin 4096) (l : Fin 1024) : ref_err t g b z (ix2 r l) = err (rowIn z r) (oneOf g) (oneOf b) (rowIn t r) l := by
  show ref_hat z (ix2 r l) * ref_tall g (ix2 r l) + ref_tall b (ix2 r l) - t (ix2 r l) = _
  rw [ref_hat_at, ref_tall_at, ref_tall_at]
  rfl
theorem ref_dout_at (r : Fin 4096) (l : Fin 1024) : ref_dout t g b z (ix2 r l) = dout (rowIn z r) (oneOf g) (oneOf b) (rowIn t r) l := by
  show Ideal.div (ref_err t g b z (ix2 r l)) width = _
  rw [ref_err_at]
  rfl
theorem ref_dhat_at (r : Fin 4096) (l : Fin 1024) : ref_dhat t g b z (ix2 r l) = dhat (rowIn z r) (oneOf g) (oneOf b) (rowIn t r) l := by
  show ref_dout t g b z (ix2 r l) * ref_tall g (ix2 r l) = _
  rw [ref_dout_at, ref_tall_at]
  rfl
theorem ref_dres_at (r : Fin 4096) (l : Fin 1024) : ref_dres t g b z (ix2 r l) = dres (rowIn z r) (oneOf g) (oneOf b) (rowIn t r) l := by
  show ref_wide (ref_scale z) (ix2 r l) * (ref_dhat t g b z (ix2 r l) - ref_wide (ref_mean (ref_dhat t g b z)) (ix2 r l)
    - ref_hat z (ix2 r l) * ref_wide (ref_mean (mulf (ref_dhat t g b z) (ref_hat z))) (ix2 r l)) = _
  have e : rowIn (ref_dhat t g b z) r = dhat (rowIn z r) (oneOf g) (oneOf b) (rowIn t r) := funext fun k => ref_dhat_at t g b z r k
  have e' : rowIn (mulf (ref_dhat t g b z) (ref_hat z)) r = fun k => dhat (rowIn z r) (oneOf g) (oneOf b) (rowIn t r) k * hat (rowIn z r) k := funext fun k => by
    show ref_dhat t g b z (ix2 r k) * ref_hat z (ix2 r k) = _
    rw [ref_dhat_at, ref_hat_at]
  rw [ref_wide_at, ref_wide_at, ref_wide_at, ref_mean_at, ref_mean_at, ref_scale_at, ref_dhat_at, ref_hat_at, e, e']
  rfl
theorem ref_dy_at (r : Fin 4096) (l : Fin 2048) :
    ref_dy t w g b z (ix2 r l) = ∑ k : Fin 1024, dres (rowIn z r) (oneOf g) (oneOf b) (rowIn t r) k * w (ix2 l k) := by
  have h := ref_dres_at t g b z r
  unfold ref_dy
  generalize ref_dres t g b z = d at h
  pointwise [← h]
/-- The loss and the two sums, at an index. -/
theorem ref_loss_at (i : S_.Idx) : ref_loss t g b z i = Ideal.ofBits .f32 0x3F000000#32
    * ∑ r : Fin 4096, mean (fun k => err (rowIn z r) (oneOf g) (oneOf b) (rowIn t r) k * err (rowIn z r) (oneOf g) (oneOf b) (rowIn t r) k) := by
  have h := ref_err_at t g b z
  unfold ref_loss
  generalize ref_err t g b z = d at h
  pointwise [mean, ← h]
theorem ref_gain_at (l : Fin 1024) : ref_gain t g b z (ix1 l)
    = ∑ r : Fin 4096, dout (rowIn z r) (oneOf g) (oneOf b) (rowIn t r) l * hat (rowIn z r) l := by
  have h := fun r => ref_dout_at t g b z r l
  have h' := fun r => ref_hat_at z r l
  unfold ref_gain
  generalize ref_dout t g b z = d at h
  generalize ref_hat z = e at h'
  pointwise [← h, ← h']
theorem ref_bias_at (l : Fin 1024) : ref_bias t g b z (ix1 l) = ∑ r : Fin 4096, dout (rowIn z r) (oneOf g) (oneOf b) (rowIn t r) l := by
  have h := fun r => ref_dout_at t g b z r l
  unfold ref_bias
  generalize ref_dout t g b z = d at h
  pointwise [← h]

end Arrays

section Run

variable (m : (ℓ : Loc nD τ sig) → Buf (Elt Ideal) ℓ) (c : Dev nD)

/-- The reference's arguments. -/
abbrev refYs : FVec Ideal S4096x1024 .bf16 := m ((c.tc : Thread nD τ).loc main_arg0)
abbrev refYa : FVec Ideal S4096x1024 .bf16 := m ((c.tc : Thread nD τ).loc main_arg1)
abbrev refX : FVec Ideal S4096x1024 .f32 := m ((c.tc : Thread nD τ).loc main_arg2)
abbrev refT : FVec Ideal S4096x1024 .f32 := m ((c.tc : Thread nD τ).loc main_arg3)
abbrev refW : FVec Ideal S2048x1024 .bf16 := m ((c.tc : Thread nD τ).loc main_arg4)
abbrev refG : FVec Ideal S1x1024 .f32 := m ((c.tc : Thread nD τ).loc main_arg5)
abbrev refB : FVec Ideal S1x1024 .f32 := m ((c.tc : Thread nD τ).loc main_arg6)
/-- Its residual sum. -/
abbrev refZ : FVec Ideal S4096x1024 .f32 := ref_total (refYs m c) (refYa m c) (refX m c) (refW m c)

/-- The reference's run. -/
theorem run_ref (ρ : Dev nD → PrngReg) :
    θ_run defs (onTc (τ := τ) (main (F := Ideal))) ⟨m, fun _ => 0, ρ⟩ fun r => ∀ c : Dev nD,
      r.2.mem ((c.tc : Thread nD τ).loc main_v53) = ref_dres (refT m c) (refG m c) (refB m c) (refZ m c)
      ∧ r.2.mem ((c.tc : Thread nD τ).loc main_v55) = ref_dy (refT m c) (refW m c) (refG m c) (refB m c) (refZ m c)
      ∧ r.2.mem ((c.tc : Thread nD τ).loc main_v33) = ref_loss (refT m c) (refG m c) (refB m c) (refZ m c)
      ∧ r.2.mem ((c.tc : Thread nD τ).loc main_v57) = ref_gain (refT m c) (refG m c) (refB m c) (refZ m c)
      ∧ r.2.mem ((c.tc : Thread nD τ).loc main_v58) = ref_bias (refT m c) (refG m c) (refB m c) (refZ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.HeadedIdeal.Value.run m ρ

end Run

end Cert.HeadOf

end

end
-- ==== Proof.HeadRun.lean ====
/-
# The head: the kernel's run against the reference

The host lines after the pipeline cut the loss and the two sums out of the array of the sums; with that the kernel's run leaves the five
results at the values of `HeadVal.lean`, and these are the reference's values of `HeadRef.lean`: the two products over 1024 are one over
2048, and the halves and the widths that the kernel folds into one constant come out of the sums.
-/
module

public import proofs.«01_k».proof.Proof.HeadVal
public import proofs.«01_k».proof.Proof.HeadRef

@[expose] public section

noncomputable section

namespace Cert.HeadOf

open Idealize.ShloMosaic Idealize.ShloMosaic.TcCoe Idealize.SL Idealize.SL.Sem

section Whole
open Cert.HeadIdeal

variable (ys ya : FVec Ideal S4096x1024 .bf16) (x t : FVec Ideal S4096x1024 .f32) (w : FVec Ideal S2048x1024 .bf16) (g b : FVec Ideal S1x1024 .f32)

/-- The gradients of the gain and of the bias, and the loss, as arrays. -/
def whole_gain : FVec Ideal S1024 .f32 := fun i => ∑ r, gain ys ya x t w g b (i 0) r
def whole_bias : FVec Ideal S1024 .f32 := fun i => ∑ r, bias ys ya x t w g b (i 0) r
def whole_loss : FVec Ideal S_ .f32 := fun _ =>
  ∑ k : Fin 1024, ∑ p ∈ Finset.range 16, part (square ys ya x t w g b k) p * Ideal.ofBits .f32 0x3A000000#32

end Whole

section Kernel
open Cert.HeadIdeal Cert.HeadIdeal.Gen

/-- The loss and the two sums, cut out of an array of eight rows. -/
def cut_loss (a : FVec Ideal S8x1024 .f32) : FVec Ideal S_ .f32 :=
  shapeCast S_ (extractStridedSlice S1x1 ![3, 0] a slices_S8x1024_S1x1_3_0) shapeCasts_S1x1_S_
def cut_gain (a : FVec Ideal S8x1024 .f32) : FVec Ideal S1024 .f32 :=
  shapeCast S1024 (extractStridedSlice S1x1024 ![0, 0] a slices_S8x1024_S1x1024_0_0) shapeCasts_S1x1024_S1024
def cut_bias (a : FVec Ideal S8x1024 .f32) : FVec Ideal S1024 .f32 :=
  shapeCast S1024 (extractStridedSlice S1x1024 ![1, 0] a slices_S8x1024_S1x1024_1_0) shapeCasts_S1x1024_S1024
/-- The cuts at an index. -/
theorem cut_loss_at (a : FVec Ideal S8x1024 .f32) (i : S_.Idx) : cut_loss a i = a (ix2 3 0) := by
  pointwise [cut_loss]
theorem cut_gain_at (a : FVec Ideal S8x1024 .f32) (l : Fin 1024) : cut_gain a (ix1 l) = a (ix2 0 l) := by
  pointwise [cut_gain]
theorem cut_bias_at (a : FVec Ideal S8x1024 .f32) (l : Fin 1024) : cut_bias a (ix1 l) = a (ix2 1 l) := by
  pointwise [cut_bias]

section Tail
variable (W : Valuation τ sig (Elt Ideal))
/-- What the host lines after the pipeline leave in the loss and in the two sums. -/
theorem tail_5 : StableHlo.after hostOps1 W (Proc.devRef .tc main_v5) = cut_loss (W (Proc.devRef .tc main_v3_2)) := by
  after_reads_simp; rfl
theorem tail_7 : StableHlo.after hostOps1 W (Proc.devRef .tc main_v7) = cut_gain (W (Proc.devRef .tc main_v3_2)) := by
  after_reads_simp; rfl
theorem tail_9 : StableHlo.after hostOps1 W (Proc.devRef .tc main_v9) = cut_bias (W (Proc.devRef .tc main_v3_2)) := by
  after_reads_simp; rfl
end Tail

section Run
variable (m : (ℓ : Loc nD τ sig) → Buf (Elt Ideal) ℓ) (c : Dev nD)

/-- The memory that the host lines after the pipeline start from. -/
abbrev left : Valuation τ sig (Elt Ideal) := Pipeline.withArrays spec0 c (V0 m c) fun w => (dats m 0 c).arrAt w cfg0.N
theorem apart : Function.Injective (Pipeline.arrRef spec0) := by decide
/-- The memory after them. -/
theorem tail_eq (b : Ref sig .tc) :
    Pipeline.afterTail₀ cfgs (dats m) 0 (V0 m) [hostOps1] c b = StableHlo.after hostOps1 (left m c) (Proc.devRef .tc b) := by
  unfold Pipeline.afterTail₀
  rw [List.flatten_cons, List.flatten_nil, List.append_nil]
/-- They start from the sums of the last point. -/
theorem left_eq : left m c (Proc.devRef .tc main_v3_2) = (outsAt0 m c 15 last_lt).2.2 :=
  (Pipeline.withArrays_arr spec0 apart c _ _ 10).trans (final_acc m c)

/-- The loss and the two sums that the kernel leaves. -/
theorem loss_left : cut_loss (outsAt0 m c 15 last_lt).2.2 = whole_loss (inYs m c) (inYa m c) (inX m c) (inT m c) (inW m c) (inG m c) (inB m c) := by
  funext i
  rw [cut_loss_at]
  exact (outs_last m c 14 last_lt rfl 0).2.2
theorem gain_left : cut_gain (outsAt0 m c 15 last_lt).2.2 = whole_gain (inYs m c) (inYa m c) (inX m c) (inT m c) (inW m c) (inG m c) (inB m c) := by
  funext i
  obtain ⟨l, rfl⟩ : ∃ l : Fin 1024, i = ix1 l := ⟨i 0, funext fun d => by fin_cases d; rfl⟩
  rw [cut_gain_at]
  exact (outs_last m c 14 last_lt rfl l).1
theorem bias_left : cut_bias (outsAt0 m c 15 last_lt).2.2 = whole_bias (inYs m c) (inYa m c) (inX m c) (inT m c) (inW m c) (inG m c) (inB m c) := by
  funext i
  obtain ⟨l, rfl⟩ : ∃ l : Fin 1024, i = ix1 l := ⟨i 0, funext fun d => by fin_cases d; rfl⟩
  rw [cut_bias_at]
  exact (outs_last m c 14 last_lt rfl l).2.1

/-- The kernel's run. -/
theorem run_kernel (ρ : Dev nD → PrngReg) :
    θ_run defs (onTc (τ := τ) (main (F := Ideal))) ⟨m, fun _ => 0, ρ⟩ fun r => ∀ c : Dev nD,
      r.2.mem ((c.tc : Thread nD τ).loc main_v3_0) = whole_dr (inYs m c) (inYa m c) (inX m c) (inT m c) (inW m c) (inG m c) (inB m c)
      ∧ r.2.mem ((c.tc : Thread nD τ).loc main_v3_1) = whole_dy (inYs m c) (inYa m c) (inX m c) (inT m c) (inW m c) (inG m c) (inB m c)
      ∧ r.2.mem ((c.tc : Thread nD τ).loc main_v5) = whole_loss (inYs m c) (inYa m c) (inX m c) (inT m c) (inW m c) (inG m c) (inB m c)
      ∧ r.2.mem ((c.tc : Thread nD τ).loc main_v7) = whole_gain (inYs m c) (inYa m c) (inX m c) (inT m c) (inW m c) (inG m c) (inB m c)
      ∧ r.2.mem ((c.tc : Thread nD τ).loc main_v9) = whole_bias (inYs m c) (inYa m c) (inX m c) (inT m c) (inW m c) (inG m c) (inB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r k c => ⟨((k.1 c).1 8).trans (final_dr m c), ((k.1 c).1 9).trans (final_dy m c),
    ((k.1 c).2 main_v5 (Pipeline.mem_restRefs_of main_v5 (by decide) (by decide))).trans ((tail_eq m c _).trans ((tail_5 _).trans ((congrArg cut_loss (left_eq m c)).trans (loss_left m c)))),
    ((k.1 c).2 main_v7 (Pipeline.mem_restRefs_of main_v7 (by decide) (by decide))).trans ((tail_eq m c _).trans ((tail_7 _).trans ((congrArg cut_gain (left_eq m c)).trans (gain_left m c)))),
    ((k.1 c).2 main_v9 (Pipeline.mem_restRefs_of main_v9 (by decide) (by decide))).trans ((tail_eq m c _).trans ((tail_9 _).trans ((congrArg cut_bias (left_eq m c)).trans (bias_left m c)))),
    k.2 c⟩) (θ_run_and (run_main m ρ) (unchanged m ρ))

end Run

end Kernel

section Equal
open Cert.HeadIdeal

variable (ys ya : FVec Ideal S4096x1024 .bf16) (x t : FVec Ideal S4096x1024 .f32) (w : FVec Ideal S2048x1024 .bf16) (g b : FVec Ideal S1x1024 .f32)

/-- A row of the reference's residual sum is the kernel's: the product over 2048 is the two over 1024. -/
theorem total_eq (r : Fin 4096) : rowIn (ref_total ys ya x w) r = total ys ya x w r := by
  funext l
  show ref_total ys ya x w (ix2 r l) = Ideal.ofBits .f32 0x3F9837F0#32 * x (ix2 r l)
    + (∑ k : Fin 1024, ys (ix2 r k) * w (ix2 (up k) l) + ∑ k : Fin 1024, ya (ix2 r k) * w (ix2 (low k) l))
  rw [ref_total_at]
  refine congrArg (_ + ·) ((Fin.sum_univ_add (a := 1024) (b := 1024) fun p : Fin 2048 => ref_joined ys ya (ix2 r p) * w (ix2 p l)).trans
    (congrArg₂ (· + ·) (Finset.sum_congr rfl fun k _ => ?_) (Finset.sum_congr rfl fun k _ => ?_)))
  · refine congrArg (· * _) ((ref_joined_at ys ya r (up k)).trans (dif_pos k.isLt))
  · have e : ¬ (low k).val < 1024 := by show ¬ 1024 + k.val < 1024; omega
    refine congrArg (· * _) ((ref_joined_at ys ya r (low k)).trans ((dif_neg e).trans (congrArg (fun q => ya (ix2 r q)) (Fin.ext ?_))))
    show 1024 + k.val - 1024 = k.val
    omega

/-- The gradients of the residual sum. -/
theorem dr_eq : ref_dres t g b (ref_total ys ya x w) = whole_dr ys ya x t w g b := by
  funext i
  obtain ⟨r, l, rfl⟩ : ∃ (r : Fin 4096) (l : Fin 1024), i = ix2 r l := ⟨i 0, i 1, funext fun d => by fin_cases d <;> rfl⟩
  rw [ref_dres_at, total_eq]
  rfl
/-- The gradients of the branches' outputs. -/
theorem dy_eq : ref_dy t w g b (ref_total ys ya x w) = whole_dy ys ya x t w g b := by
  funext i
  obtain ⟨r, l, rfl⟩ : ∃ (r : Fin 4096) (l : Fin 2048), i = ix2 r l := ⟨i 0, i 1, funext fun d => by fin_cases d <;> rfl⟩
  rw [ref_dy_at, total_eq]
  rfl
/-- The gradient of the gain. -/
theorem gain_eq : ref_gain t g b (ref_total ys ya x w) = whole_gain ys ya x t w g b := by
  funext i
  obtain ⟨l, rfl⟩ : ∃ l : Fin 1024, i = ix1 l := ⟨i 0, funext fun d => by fin_cases d; rfl⟩
  rw [ref_gain_at]
  simp only [total_eq]
  rfl
/-- The gradient of the bias. -/
theorem bias_eq : ref_bias t g b (ref_total ys ya x w) = whole_bias ys ya x t w g b := by
  funext i
  obtain ⟨l, rfl⟩ : ∃ l : Fin 1024, i = ix1 l := ⟨i 0, funext fun d => by fin_cases d; rfl⟩
  rw [ref_bias_at]
  simp only [total_eq]
  rfl

/-- A nonnegative real comes out of a sum. -/
theorem sum_scaled {ι : Type} (s : Finset ι) (f : ι → EReal) (a : ℝ) (ha : 0 ≤ a) : ∑ k ∈ s, f k * (a : EReal) = (∑ k ∈ s, f k) * (a : EReal) := by
  classical
  induction s using Finset.induction_on with
  | empty => rw [Finset.sum_empty, Finset.sum_empty, zero_mul]
  | insert k s hk ih =>
      rw [Finset.sum_insert hk, Finset.sum_insert hk, ih,
        EReal.right_distrib_of_nonneg_of_ne_top (by exact_mod_cast ha) (EReal.coe_ne_top a)]

/-- The loss: the half and the width are the kernel's constant. -/
theorem loss_eq : ref_loss t g b (ref_total ys ya x w) = whole_loss ys ya x t w g b := by
  funext i
  have e (r : Fin 4096) : mean (fun k => err (rowIn (ref_total ys ya x w) r) (oneOf g) (oneOf b) (rowIn t r) k
      * err (rowIn (ref_total ys ya x w) r) (oneOf g) (oneOf b) (rowIn t r) k) = (∑ k, square ys ya x t w g b k r) * ((1 / 1024 : ℝ) : EReal) := by
    rw [total_eq]
    exact div_width _
  rw [ref_loss_at, Finset.sum_congr rfl fun r _ => e r, sum_scaled _ _ _ (by norm_num), half_eq]
  show _ = ∑ k : Fin 1024, ∑ p ∈ Finset.range 16, part (square ys ya x t w g b k) p * Ideal.ofBits .f32 0x3A000000#32
  rw [halfOver_eq]
  have s (k : Fin 1024) : ∑ p ∈ Finset.range 16, part (square ys ya x t w g b k) p * ((1 / 2048 : ℝ) : EReal)
      = (∑ r, square ys ya x t w g b k r) * ((1 / 2048 : ℝ) : EReal) := by
    rw [sum_scaled _ _ _ (by norm_num), sum_parts]
  rw [Finset.sum_congr rfl fun k _ => s k, sum_scaled _ _ _ (by norm_num), Finset.sum_comm, mul_comm, mul_assoc]
  refine congrArg (_ * ·) ?_
  rw [← EReal.coe_mul]
  norm_num

end Equal

end Cert.HeadOf

end

end
-- ==== Proof.lean ====
/-
# The claims

The all-gather of three sharded arrays over eight devices: every device ends with the stack of each array's eight blocks,
which is what the reference computes on one device from the whole arrays. And the exchange of two arrays of blocks, eight on
each device: every device ends with the blocks that its seven peers hold for it, and with all small arrays. And the four AdamW
calls that follow: the sums of the gradients that the devices have received, and one AdamW step with them. And the two products
that make the gradient of x, the two that make the projection, and the four that make the gradients of the two weights. And the
head: the output projection, the normalised residual sum, the loss and the gradients of what enters them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Exchange
public import proofs.«01_k».proof.Proof.Gen.ExchangeIdeal
public import proofs.«01_k».proof.Proof.Gen.ExchangedIdeal
public import proofs.«01_k».proof.Proof.Gen.Exchanged
public import proofs.«01_k».proof.Proof.GatherRef
public import proofs.«01_k».proof.Proof.ExchangeRef
public import proofs.«01_k».proof.Proof.Gen.GradX.Frame
public import proofs.«01_k».proof.Proof.Gen.GradXIdeal.Frame
public import proofs.«01_k».proof.Proof.Gen.GradedXIdeal.Run
public import proofs.«01_k».proof.Proof.Gen.Project.Frame
public import proofs.«01_k».proof.Proof.Gen.ProjectIdeal.Frame
public import proofs.«01_k».proof.Proof.Gen.ProjectedIdeal.Run
public import proofs.«01_k».proof.Proof.Gen.GradW.Frame
public import proofs.«01_k».proof.Proof.Gen.GradWIdeal.Frame
public import proofs.«01_k».proof.Proof.Gen.GradedWIdeal.Run
public import proofs.«01_k».proof.Proof.Gen.Head.Frame
public import proofs.«01_k».proof.Proof.Gen.HeadIdeal.Frame
public import proofs.«01_k».proof.Proof.Gen.HeadedIdeal.Run
public import proofs.«01_k».proof.Proof.Gen.UpdateIn.Frame
public import proofs.«01_k».proof.Proof.Gen.UpdateOut.Frame
public import proofs.«01_k».proof.Proof.Gen.UpdateSmall.Frame
public import proofs.«01_k».proof.Proof.Gen.UpdateConv.Frame
public import proofs.«01_k».proof.Proof.UpdateInVal
public import proofs.«01_k».proof.Proof.UpdateOutVal
public import proofs.«01_k».proof.Proof.UpdateSmallVal
public import proofs.«01_k».proof.Proof.UpdateConvVal
public import proofs.«01_k».proof.Proof.GradXVal
public import proofs.«01_k».proof.Proof.ProjectVal
public import proofs.«01_k».proof.Proof.GradWVal
public import proofs.«01_k».proof.Proof.HeadRun
public import Idealize.ShloMosaic.Lib.Quiescent

@[expose] public section

noncomputable section

namespace Cert.Proof

open Idealize.ShloMosaic Idealize.SL.Sem

/-- The kernel at the bit-exact instance runs, leaves its arguments as they were and its counters at zero. -/
theorem frame_kernel : Cert.quiescent_Kernel := fun m ρ _ =>
  (θ_run Cert.KernelIdeal.defs _ _).mono (fun _ h => ⟨fun c => ⟨(h.1 c 0).1, (h.1 c 1).1, (h.1 c 2).1⟩, h.2⟩) (Cert.Gather.run_main (F := Bits) m ρ)

/-- The same at the ideal instance. -/
theorem frame_kernelIdeal : Cert.quiescent_KernelIdeal := fun m ρ _ =>
  (θ_run Cert.KernelIdeal.defs _ _).mono (fun _ h => ⟨fun c => ⟨(h.1 c 0).1, (h.1 c 1).1, (h.1 c 2).1⟩, h.2⟩) (Cert.Gather.run_main (F := Ideal) m ρ)

/-- The reference at the ideal instance runs, leaves its arguments as they were, and has no counters. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.Gather.run_ref (F := Ideal) m ρ)

/-- The same at the bit-exact instance. -/
theorem frame_reference : Cert.quiescent_Reference := fun m ρ _ =>
  (θ_run Cert.ReferenceIdeal.defs _ _).mono (fun r h => ⟨fun c => (h c).2.2.2, sem_eq_zero_of_no_sems (by decide) r.2⟩)
    (Cert.Gather.run_ref (F := Bits) m ρ)

/-- At the ideal instance every device's results are the reference's. -/
theorem algebraic : Cert.algebraic_KernelIdeal_ReferenceIdeal := fun m g m' g' _ hl =>
  ⟨_, _, _, (θ_run Cert.KernelIdeal.defs _ _).mono (fun r h c => Cert.Gather.gathered m _ _ _ hl r.2 h c) (Cert.Gather.run_main (F := Ideal) m g),
    (θ_run Cert.ReferenceIdeal.defs _ _).mono (fun _ h => h 0) (Cert.Gather.run_ref (F := Ideal) m' g')⟩

/-- Bit for bit every device's results are the reference's. -/
theorem bitexact : Cert.bitexact_Kernel_Reference := fun m g m' g' _ hl =>
  ⟨_, _, _, (θ_run Cert.KernelIdeal.defs _ _).mono (fun r h c => Cert.Gather.gathered m _ _ _ hl r.2 h c) (Cert.Gather.run_main (F := Bits) m g),
    (θ_run Cert.ReferenceIdeal.defs _ _).mono (fun _ h => h 0) (Cert.Gather.run_ref (F := Bits) m' g')⟩

/-! ## The exchange -/

/-- The exchange at the bit-exact instance runs, leaves its arguments as they were and its counters at zero. -/
theorem frame_exchange : Cert.quiescent_Exchange := fun m ρ _ =>
  (θ_run Cert.ExchangeIdeal.defs _ _).mono (fun _ h => ⟨fun c => Cert.Swap.args_kept h c, h.2⟩) (Cert.Swap.run_main (F := Bits) m ρ)

/-- The same at the ideal instance. -/
theorem frame_exchangeIdeal : Cert.quiescent_ExchangeIdeal := fun m ρ _ =>
  (θ_run Cert.ExchangeIdeal.defs _ _).mono (fun _ h => ⟨fun c => Cert.Swap.args_kept h c, h.2⟩) (Cert.Swap.run_main (F := Ideal) m ρ)

/-- Its reference at the ideal instance runs, leaves its arguments as they were, and has no counters. -/
theorem frame_exchangedIdeal : Cert.quiescent_ExchangedIdeal := fun m ρ _ =>
  (θ_run Cert.ExchangedIdeal.defs _ _).mono (fun r h => ⟨fun c => (h c).2.2.2, sem_eq_zero_of_no_sems (by decide) r.2⟩)
    (Cert.Swap.run_ref (F := Ideal) m ρ)

/-- The same at the bit-exact instance. -/
theorem frame_exchanged : Cert.quiescent_Exchanged := fun m ρ _ =>
  (θ_run Cert.ExchangedIdeal.defs _ _).mono (fun r h => ⟨fun c => (h c).2.2.2, sem_eq_zero_of_no_sems (by decide) r.2⟩)
    (Cert.Swap.run_ref (F := Bits) m ρ)

/-- At the ideal instance every device's results are its blocks of the reference's. -/
theorem exchange_algebraic : Cert.algebraic_ExchangeIdeal_ExchangedIdeal := fun m g m' g' _ hl =>
  ⟨_, _, _, (θ_run Cert.ExchangeIdeal.defs _ _).mono (fun _ h c => Cert.Swap.exchanged h _ _ _ hl c) (Cert.Swap.run_main (F := Ideal) m g),
    (θ_run Cert.ExchangedIdeal.defs _ _).mono (fun _ h => h 0) (Cert.Swap.run_ref (F := Ideal) m' g')⟩

/-- Bit for bit every device's results are its blocks of the reference's. -/
theorem exchange_bitexact : Cert.bitexact_Exchange_Exchanged := fun m g m' g' _ hl =>
  ⟨_, _, _, (θ_run Cert.ExchangeIdeal.defs _ _).mono (fun _ h c => Cert.Swap.exchanged h _ _ _ hl c) (Cert.Swap.run_main (F := Bits) m g),
    (θ_run Cert.ExchangedIdeal.defs _ _).mono (fun _ h => h 0) (Cert.Swap.run_ref (F := Bits) m' g')⟩

/-! ## The AdamW calls -/

/-- AdamW of the input projection at the bit-exact instance runs, leaves its arguments as they were and its counters at zero. -/
theorem frame_updateIn : Cert.quiescent_UpdateIn := fun m ρ _ => Cert.UpdateIn.Gen.frame (F := Bits) m ρ

/-- The same at the ideal instance. -/
theorem frame_updateInIdeal : Cert.quiescent_UpdateInIdeal := fun m ρ _ => Cert.UpdateInIdeal.Gen.frame (F := Ideal) m ρ

/-- Its reference runs, leaves its arguments as they were, and has no counters. -/
theorem frame_updatedInIdeal : Cert.quiescent_UpdatedInIdeal := fun m ρ _ =>
  (θ_run Cert.UpdatedInIdeal.defs _ _).mono (fun r h => ⟨fun c => (h c).2.2.2.2, sem_eq_zero_of_no_sems (by decide) r.2⟩)
    (Cert.In.run_ref m ρ)

/-- Every device's results are its blocks of the reference's. -/
theorem updateIn_algebraic : Cert.algebraic_UpdateInIdeal_UpdatedInIdeal := fun m g m' g' _ hl =>
  ⟨_, _, _, _, (θ_run Cert.UpdateInIdeal.defs _ _).mono (fun _ h c =>
      ⟨(h c).1.trans (Cert.In.blocks (hl c)).1, (h c).2.1.trans (Cert.In.blocks (hl c)).2.1, (h c).2.2.1.trans (Cert.In.blocks (hl c)).2.2.1, (h c).2.2.2.1.trans (Cert.In.blocks (hl c)).2.2.2, (h c).2.2.2.2⟩) (Cert.In.run_kernel m g),
    (θ_run Cert.UpdatedInIdeal.defs _ _).mono (fun _ h => h 0) (Cert.In.run_ref m' g')⟩

/-- AdamW of the output projection at the bit-exact instance runs, leaves its arguments as they were and its counters at zero. -/
theorem frame_updateOut : Cert.quiescent_UpdateOut := fun m ρ _ => Cert.UpdateOut.Gen.frame (F := Bits) m ρ

/-- The same at the ideal instance. -/
theorem frame_updateOutIdeal : Cert.quiescent_UpdateOutIdeal := fun m ρ _ => Cert.UpdateOutIdeal.Gen.frame (F := Ideal) m ρ

/-- Its reference runs, leaves its arguments as they were, and has no counters. -/
theorem frame_updatedOutIdeal : Cert.quiescent_UpdatedOutIdeal := fun m ρ _ =>
  (θ_run Cert.UpdatedOutIdeal.defs _ _).mono (fun r h => ⟨fun c => (h c).2.2.2.2, sem_eq_zero_of_no_sems (by decide) r.2⟩)
    (Cert.Out.run_ref m ρ)

/-- Every device's results are its blocks of the reference's. -/
theorem updateOut_algebraic : Cert.algebraic_UpdateOutIdeal_UpdatedOutIdeal := fun m g m' g' _ hl =>
  ⟨_, _, _, _, (θ_run Cert.UpdateOutIdeal.defs _ _).mono (fun _ h c =>
      ⟨(h c).1.trans (Cert.Out.blocks (hl c)).1, (h c).2.1.trans (Cert.Out.blocks (hl c)).2.1, (h c).2.2.1.trans (Cert.Out.blocks (hl c)).2.2.1, (h c).2.2.2.1.trans (Cert.Out.blocks (hl c)).2.2.2, (h c).2.2.2.2⟩) (Cert.UpdateOutIdeal.Value.run m g),
    (θ_run Cert.UpdatedOutIdeal.defs _ _).mono (fun _ h => h 0) (Cert.Out.run_ref m' g')⟩

/-- AdamW of the small weights at the bit-exact instance runs, leaves its arguments as they were and its counters at zero. -/
theorem frame_updateSmall : Cert.quiescent_UpdateSmall := fun m ρ _ => Cert.UpdateSmall.Gen.frame (F := Bits) m ρ

/-- The same at the ideal instance. -/
theorem frame_updateSmallIdeal : Cert.quiescent_UpdateSmallIdeal := fun m ρ _ => Cert.UpdateSmallIdeal.Gen.frame (F := Ideal) m ρ

/-- Its reference runs, leaves its arguments as they were, and has no counters. -/
theorem frame_updatedSmallIdeal : Cert.quiescent_UpdatedSmallIdeal := fun m ρ _ =>
  (θ_run Cert.UpdatedSmallIdeal.defs _ _).mono (fun r h => ⟨fun c => (h c).2.2.2.2.2.2.2.2.2.2.2.2.2.2.2.2.2.2.2.2.2.2.2.2.2.2.2.2.2.2.2.2.2.2, sem_eq_zero_of_no_sems (by decide) r.2⟩)
    (Cert.Small.run_ref m ρ)

/-- Every device's results are the reference's. -/
theorem updateSmall_algebraic : Cert.algebraic_UpdateSmallIdeal_UpdatedSmallIdeal := fun m g m' g' _ hl =>
  ⟨_, _, _, _, _, _, _, _, _, _, _, _, _, _, _, _, _, _, _, _, _, _, _, _, _, _, _, _, _, _, _, _, _, _, Cert.Small.run_kernel m g hl,
    (θ_run Cert.UpdatedSmallIdeal.defs _ _).mono (fun _ h => h 0) (Cert.Small.run_ref m' g')⟩

/-- AdamW of the convolution's weights at the bit-exact instance runs, leaves its arguments as they were and its counters at zero. -/
theorem frame_updateConv : Cert.quiescent_UpdateConv := fun m ρ _ => Cert.UpdateConv.Gen.frame (F := Bits) m ρ

/-- The same at the ideal instance. -/
theorem frame_updateConvIdeal : Cert.quiescent_UpdateConvIdeal := fun m ρ _ => Cert.UpdateConvIdeal.Gen.frame (F := Ideal) m ρ

/-- Its reference runs, leaves its arguments as they were, and has no counters. -/
theorem frame_updatedConvIdeal : Cert.quiescent_UpdatedConvIdeal := fun m ρ _ =>
  (θ_run Cert.UpdatedConvIdeal.defs _ _).mono (fun r h => ⟨fun c => (h c).2.2.2, sem_eq_zero_of_no_sems (by decide) r.2⟩)
    (Cert.Conv.run_ref m ρ)

/-- Every device's results are its blocks of the reference's. -/
theorem updateConv_algebraic : Cert.algebraic_UpdateConvIdeal_UpdatedConvIdeal := fun m g m' g' _ hl =>
  ⟨_, _, _, (θ_run Cert.UpdateConvIdeal.defs _ _).mono (fun _ h c =>
      ⟨(h c).1.trans (Cert.Conv.blocks (hl c)).1, (h c).2.1.trans (Cert.Conv.blocks (hl c)).2.1, (h c).2.2.1.trans (Cert.Conv.blocks (hl c)).2.2, (h c).2.2.2⟩) (Cert.UpdateConvIdeal.Value.run m g),
    (θ_run Cert.UpdatedConvIdeal.defs _ _).mono (fun _ h => h 0) (Cert.Conv.run_ref m' g')⟩

/-! ## The gradient of x -/

/-- The two products at the bit-exact instance run, leave their arguments as they were and their counters at zero. -/
theorem frame_gradX : Cert.quiescent_GradX := fun m ρ _ => Cert.GradX.Gen.frame (F := Bits) m ρ

/-- The same at the ideal instance. -/
theorem frame_gradXIdeal : Cert.quiescent_GradXIdeal := fun m ρ _ => Cert.GradXIdeal.Gen.frame (F := Ideal) m ρ

/-- The reference runs, leaves its arguments as they were, and has no counters. -/
theorem frame_gradedXIdeal : Cert.quiescent_GradedXIdeal := fun m ρ _ =>
  (θ_run Cert.GradedXIdeal.defs _ _).mono (fun r h => ⟨fun c => (h c).2, sem_eq_zero_of_no_sems (by decide) r.2⟩)
    (Cert.GradOfX.run_ref m ρ)

/-- The products' gradient is the reference's. -/
theorem gradX_algebraic : Cert.algebraic_GradXIdeal_GradedXIdeal := fun m g m' g' _ hl =>
  ⟨_, Cert.GradOfX.run_kernel m g, (θ_run Cert.GradedXIdeal.defs _ _).mono (fun _ h c => ⟨by
      rw [(h c).1, (hl c).1, (hl c).2.1, (hl c).2.2.1, (hl c).2.2.2, Cert.GradOfX.gradient_eq], (h c).2⟩) (Cert.GradOfX.run_ref m' g')⟩

/-! ## The projection -/

/-- The two products at the bit-exact instance run, leave their arguments as they were and their counters at zero. -/
theorem frame_project : Cert.quiescent_Project := fun m ρ _ => Cert.Project.Gen.frame (F := Bits) m ρ

/-- The same at the ideal instance. -/
theorem frame_projectIdeal : Cert.quiescent_ProjectIdeal := fun m ρ _ => Cert.ProjectIdeal.Gen.frame (F := Ideal) m ρ

/-- The reference runs, leaves its arguments as they were, and has no counters. -/
theorem frame_projectedIdeal : Cert.quiescent_ProjectedIdeal := fun m ρ _ =>
  (θ_run Cert.ProjectedIdeal.defs _ _).mono (fun r h => ⟨fun c => (h c).2.2, sem_eq_zero_of_no_sems (by decide) r.2⟩)
    (Cert.Projection.run_ref m ρ)

/-- The products are the two parts of the reference's projection. -/
theorem project_algebraic : Cert.algebraic_ProjectIdeal_ProjectedIdeal := fun m g m' g' _ hl =>
  ⟨_, _, Cert.Projection.run_kernel m g, (θ_run Cert.ProjectedIdeal.defs _ _).mono (fun _ h c => ⟨by
      rw [(h c).1, (hl c).1, (hl c).2, Cert.Projection.ssd_eq], by
      rw [(h c).2.1, (hl c).1, (hl c).2, Cert.Projection.att_eq], (h c).2.2⟩) (Cert.Projection.run_ref m' g')⟩

/-! ## The gradients of the two weights -/

/-- The four products at the bit-exact instance run, leave their arguments as they were and their counters at zero. -/
theorem frame_gradW : Cert.quiescent_GradW := fun m ρ _ => Cert.GradW.Gen.frame (F := Bits) m ρ

/-- The same at the ideal instance. -/
theorem frame_gradWIdeal : Cert.quiescent_GradWIdeal := fun m ρ _ => Cert.GradWIdeal.Gen.frame (F := Ideal) m ρ

/-- The reference runs, leaves its arguments as they were, and has no counters. -/
theorem frame_gradedWIdeal : Cert.quiescent_GradedWIdeal := fun m ρ _ =>
  (θ_run Cert.GradedWIdeal.defs _ _).mono (fun r h => ⟨fun c => (h c).2.2, sem_eq_zero_of_no_sems (by decide) r.2⟩)
    (Cert.GradOfW.run_ref m ρ)

/-- The products' gradients are the reference's. -/
theorem gradW_algebraic : Cert.algebraic_GradWIdeal_GradedWIdeal := fun m g m' g' _ hl =>
  ⟨_, _, Cert.GradOfW.run_kernel m g, (θ_run Cert.GradedWIdeal.defs _ _).mono (fun _ h c => ⟨by
      rw [(h c).1, (hl c).1, (hl c).2.2.2.1, (hl c).2.2.2.2.1, Cert.GradOfW.in_eq], by
      rw [(h c).2.1, (hl c).2.1, (hl c).2.2.1, (hl c).2.2.2.2.2, Cert.GradOfW.out_eq], (h c).2.2⟩) (Cert.GradOfW.run_ref m' g')⟩

/-! ## The head -/

/-- The head at the bit-exact instance runs, leaves its arguments as they were and its counters at zero. -/
theorem frame_head : Cert.quiescent_Head := fun m ρ _ => Cert.Head.Gen.frame (F := Bits) m ρ

/-- The same at the ideal instance. -/
theorem frame_headIdeal : Cert.quiescent_HeadIdeal := fun m ρ _ => Cert.HeadIdeal.Gen.frame (F := Ideal) m ρ

/-- The reference runs, leaves its arguments as they were, and has no counters. -/
theorem frame_headedIdeal : Cert.quiescent_HeadedIdeal := fun m ρ _ =>
  (θ_run Cert.HeadedIdeal.defs _ _).mono (fun r h => ⟨fun c => (h c).2.2.2.2.2, sem_eq_zero_of_no_sems (by decide) r.2⟩)
    (Cert.HeadOf.run_ref m ρ)

/-- The head's gradients, its loss and its two sums are the reference's. -/
theorem head_algebraic : Cert.algebraic_HeadIdeal_HeadedIdeal := fun m g m' g' _ hl =>
  ⟨_, _, _, _, _, Cert.HeadOf.run_kernel m g, (θ_run Cert.HeadedIdeal.defs _ _).mono (fun _ h c => by
    obtain ⟨e0, e1, e2, e3, e4, e5, e6⟩ := hl c
    obtain ⟨h0, h1, h2, h3, h4, k⟩ := h c
    have z : Cert.HeadOf.refZ m' c = Cert.HeadOf.ref_total (Cert.HeadOf.inYs m c) (Cert.HeadOf.inYa m c) (Cert.HeadOf.inX m c) (Cert.HeadOf.inW m c) := by
      unfold Cert.HeadOf.refZ Cert.HeadOf.refYs Cert.HeadOf.refYa Cert.HeadOf.refX Cert.HeadOf.refW
      rw [e0, e1, e2, e4]
    have t : Cert.HeadOf.refT m' c = Cert.HeadOf.inT m c := e3
    have w : Cert.HeadOf.refW m' c = Cert.HeadOf.inW m c := e4
    have a : Cert.HeadOf.refG m' c = Cert.HeadOf.inG m c := e5
    have b : Cert.HeadOf.refB m' c = Cert.HeadOf.inB m c := e6
    rw [t, a, b, z] at h0 h2 h3 h4
    rw [t, w, a, b, z] at h1
    exact ⟨h0.trans (Cert.HeadOf.dr_eq _ _ _ _ _ _ _), h1.trans (Cert.HeadOf.dy_eq _ _ _ _ _ _ _), h2.trans (Cert.HeadOf.loss_eq _ _ _ _ _ _ _),
      h3.trans (Cert.HeadOf.gain_eq _ _ _ _ _ _ _), h4.trans (Cert.HeadOf.bias_eq _ _ _ _ _ _ _), k⟩) (Cert.HeadOf.run_ref m' g')⟩

/-- Every claim of the certificate. -/
theorem claim : Cert.Claim :=
  ⟨Cert.Kernel.Gen.facts, Cert.KernelIdeal.Gen.facts, Cert.ReferenceIdeal.Gen.facts, Cert.Reference.Gen.facts,
    Cert.Exchange.Gen.facts, Cert.ExchangeIdeal.Gen.facts, Cert.ExchangedIdeal.Gen.facts, Cert.Exchanged.Gen.facts,
    Cert.UpdateIn.Gen.facts, Cert.UpdateInIdeal.Gen.facts, Cert.UpdatedInIdeal.Gen.facts,
    Cert.UpdateOut.Gen.facts, Cert.UpdateOutIdeal.Gen.facts, Cert.UpdatedOutIdeal.Gen.facts,
    Cert.UpdateSmall.Gen.facts, Cert.UpdateSmallIdeal.Gen.facts, Cert.UpdatedSmallIdeal.Gen.facts,
    Cert.UpdateConv.Gen.facts, Cert.UpdateConvIdeal.Gen.facts, Cert.UpdatedConvIdeal.Gen.facts,
    Cert.GradX.Gen.facts, Cert.GradXIdeal.Gen.facts, Cert.GradedXIdeal.Gen.facts,
    Cert.Project.Gen.facts, Cert.ProjectIdeal.Gen.facts, Cert.ProjectedIdeal.Gen.facts,
    Cert.GradW.Gen.facts, Cert.GradWIdeal.Gen.facts, Cert.GradedWIdeal.Gen.facts,
    Cert.Head.Gen.facts, Cert.HeadIdeal.Gen.facts, Cert.HeadedIdeal.Gen.facts,
    frame_kernel, frame_kernelIdeal, frame_referenceIdeal, frame_reference,
    frame_exchange, frame_exchangeIdeal, frame_exchangedIdeal, frame_exchanged,
    frame_updateIn, frame_updateInIdeal, frame_updatedInIdeal,
    frame_updateOut, frame_updateOutIdeal, frame_updatedOutIdeal,
    frame_updateSmall, frame_updateSmallIdeal, frame_updatedSmallIdeal,
    frame_updateConv, frame_updateConvIdeal, frame_updatedConvIdeal,
    frame_gradX, frame_gradXIdeal, frame_gradedXIdeal,
    frame_project, frame_projectIdeal, frame_projectedIdeal,
    frame_gradW, frame_gradWIdeal, frame_gradedWIdeal,
    frame_head, frame_headIdeal, frame_headedIdeal,
    trivial, algebraic, bitexact, trivial, exchange_algebraic, exchange_bitexact,
    trivial, updateIn_algebraic, trivial, updateOut_algebraic, trivial, updateSmall_algebraic, trivial, updateConv_algebraic,
    trivial, gradX_algebraic, trivial, project_algebraic, trivial, gradW_algebraic, trivial, head_algebraic⟩

end Cert.Proof

end
